-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelWInProj (m : (ℓ : Loc Cert.KernelWInProj.nD Cert.KernelWInProj.τ Cert.KernelWInProj.sig) → Buf (Elt Bits) ℓ) : Prop :=
  True

def Pre_KernelWInProjIdeal (m : (ℓ : Loc Cert.KernelWInProjIdeal.nD Cert.KernelWInProjIdeal.τ Cert.KernelWInProjIdeal.sig) → Buf (Elt Ideal) ℓ) : Prop :=
  True

def Pre_ReferenceWInProjIdeal (m : (ℓ : Loc Cert.ReferenceWInProjIdeal.nD Cert.ReferenceWInProjIdeal.τ Cert.ReferenceWInProjIdeal.sig) → Buf (Elt Ideal) ℓ) : Prop :=
  True

def Pre_KernelXInProj (m : (ℓ : Loc Cert.KernelXInProj.nD Cert.KernelXInProj.τ Cert.KernelXInProj.sig) → Buf (Elt Bits) ℓ) : Prop :=
  True

def Pre_KernelXInProjIdeal (m : (ℓ : Loc Cert.KernelXInProjIdeal.nD Cert.KernelXInProjIdeal.τ Cert.KernelXInProjIdeal.sig) → Buf (Elt Ideal) ℓ) : Prop :=
  True

def Pre_ReferenceXInProjIdeal (m : (ℓ : Loc Cert.ReferenceXInProjIdeal.nD Cert.ReferenceXInProjIdeal.τ Cert.ReferenceXInProjIdeal.sig) → Buf (Elt Ideal) ℓ) : Prop :=
  True

def Pre_KernelWFfnIn (m : (ℓ : Loc Cert.KernelWFfnIn.nD Cert.KernelWFfnIn.τ Cert.KernelWFfnIn.sig) → Buf (Elt Bits) ℓ) : Prop :=
  True

def Pre_KernelWFfnInIdeal (m : (ℓ : Loc Cert.KernelWFfnInIdeal.nD Cert.KernelWFfnInIdeal.τ Cert.KernelWFfnInIdeal.sig) → Buf (Elt Ideal) ℓ) : Prop :=
  True

def Pre_ReferenceWFfnInIdeal (m : (ℓ : Loc Cert.ReferenceWFfnInIdeal.nD Cert.ReferenceWFfnInIdeal.τ Cert.ReferenceWFfnInIdeal.sig) → Buf (Elt Ideal) ℓ) : Prop :=
  True

def Pre_KernelXFfnIn (m : (ℓ : Loc Cert.KernelXFfnIn.nD Cert.KernelXFfnIn.τ Cert.KernelXFfnIn.sig) → Buf (Elt Bits) ℓ) : Prop :=
  True

def Pre_KernelXFfnInIdeal (m : (ℓ : Loc Cert.KernelXFfnInIdeal.nD Cert.KernelXFfnInIdeal.τ Cert.KernelXFfnInIdeal.sig) → Buf (Elt Ideal) ℓ) : Prop :=
  True

def Pre_ReferenceXFfnInIdeal (m : (ℓ : Loc Cert.ReferenceXFfnInIdeal.nD Cert.ReferenceXFfnInIdeal.τ Cert.ReferenceXFfnInIdeal.sig) → Buf (Elt Ideal) ℓ) : Prop :=
  True

def Pre_KernelWFfnOut (m : (ℓ : Loc Cert.KernelWFfnOut.nD Cert.KernelWFfnOut.τ Cert.KernelWFfnOut.sig) → Buf (Elt Bits) ℓ) : Prop :=
  True

def Pre_KernelWFfnOutIdeal (m : (ℓ : Loc Cert.KernelWFfnOutIdeal.nD Cert.KernelWFfnOutIdeal.τ Cert.KernelWFfnOutIdeal.sig) → Buf (Elt Ideal) ℓ) : Prop :=
  True

def Pre_ReferenceWFfnOutIdeal (m : (ℓ : Loc Cert.ReferenceWFfnOutIdeal.nD Cert.ReferenceWFfnOutIdeal.τ Cert.ReferenceWFfnOutIdeal.sig) → Buf (Elt Ideal) ℓ) : Prop :=
  True

def Pre_KernelXFfnOut (m : (ℓ : Loc Cert.KernelXFfnOut.nD Cert.KernelXFfnOut.τ Cert.KernelXFfnOut.sig) → Buf (Elt Bits) ℓ) : Prop :=
  True

def Pre_KernelXFfnOutIdeal (m : (ℓ : Loc Cert.KernelXFfnOutIdeal.nD Cert.KernelXFfnOutIdeal.τ Cert.KernelXFfnOutIdeal.sig) → Buf (Elt Ideal) ℓ) : Prop :=
  True

def Pre_ReferenceXFfnOutIdeal (m : (ℓ : Loc Cert.ReferenceXFfnOutIdeal.nD Cert.ReferenceXFfnOutIdeal.τ Cert.ReferenceXFfnOutIdeal.sig) → Buf (Elt Ideal) ℓ) : Prop :=
  True

def Pre_KernelWOut (m : (ℓ : Loc Cert.KernelWOut.nD Cert.KernelWOut.τ Cert.KernelWOut.sig) → Buf (Elt Bits) ℓ) : Prop :=
  True

def Pre_KernelWOutIdeal (m : (ℓ : Loc Cert.KernelWOutIdeal.nD Cert.KernelWOutIdeal.τ Cert.KernelWOutIdeal.sig) → Buf (Elt Ideal) ℓ) : Prop :=
  True

def Pre_ReferenceWOutIdeal (m : (ℓ : Loc Cert.ReferenceWOutIdeal.nD Cert.ReferenceWOutIdeal.τ Cert.ReferenceWOutIdeal.sig) → Buf (Elt Ideal) ℓ) : Prop :=
  True

def Pre_KernelXOut (m : (ℓ : Loc Cert.KernelXOut.nD Cert.KernelXOut.τ Cert.KernelXOut.sig) → Buf (Elt Bits) ℓ) : Prop :=
  True

def Pre_KernelXOutIdeal (m : (ℓ : Loc Cert.KernelXOutIdeal.nD Cert.KernelXOutIdeal.τ Cert.KernelXOutIdeal.sig) → Buf (Elt Ideal) ℓ) : Prop :=
  True

def Pre_ReferenceXOutIdeal (m : (ℓ : Loc Cert.ReferenceXOutIdeal.nD Cert.ReferenceXOutIdeal.τ Cert.ReferenceXOutIdeal.sig) → Buf (Elt Ideal) ℓ) : Prop :=
  True

def Pre_KernelXProj (m : (ℓ : Loc Cert.KernelXProj.nD Cert.KernelXProj.τ Cert.KernelXProj.sig) → Buf (Elt Bits) ℓ) : Prop :=
  True

def Pre_KernelXProjIdeal (m : (ℓ : Loc Cert.KernelXProjIdeal.nD Cert.KernelXProjIdeal.τ Cert.KernelXProjIdeal.sig) → Buf (Elt Ideal) ℓ) : Prop :=
  True

def Pre_ReferenceXProjIdeal (m : (ℓ : Loc Cert.ReferenceXProjIdeal.nD Cert.ReferenceXProjIdeal.τ Cert.ReferenceXProjIdeal.sig) → Buf (Elt Ideal) ℓ) : Prop :=
  True

def Pre_KernelWUq (m : (ℓ : Loc Cert.KernelWUq.nD Cert.KernelWUq.τ Cert.KernelWUq.sig) → Buf (Elt Bits) ℓ) : Prop :=
  True

def Pre_KernelWUqIdeal (m : (ℓ : Loc Cert.KernelWUqIdeal.nD Cert.KernelWUqIdeal.τ Cert.KernelWUqIdeal.sig) → Buf (Elt Ideal) ℓ) : Prop :=
  True

def Pre_ReferenceWUqIdeal (m : (ℓ : Loc Cert.ReferenceWUqIdeal.nD Cert.ReferenceWUqIdeal.τ Cert.ReferenceWUqIdeal.sig) → Buf (Elt Ideal) ℓ) : Prop :=
  True

def Pre_KernelXUq (m : (ℓ : Loc Cert.KernelXUq.nD Cert.KernelXUq.τ Cert.KernelXUq.sig) → Buf (Elt Bits) ℓ) : Prop :=
  True

def Pre_KernelXUqIdeal (m : (ℓ : Loc Cert.KernelXUqIdeal.nD Cert.KernelXUqIdeal.τ Cert.KernelXUqIdeal.sig) → Buf (Elt Ideal) ℓ) : Prop :=
  True

def Pre_ReferenceXUqIdeal (m : (ℓ : Loc Cert.ReferenceXUqIdeal.nD Cert.ReferenceXUqIdeal.τ Cert.ReferenceXUqIdeal.sig) → Buf (Elt Ideal) ℓ) : Prop :=
  True

def Pre_KernelWUkv (m : (ℓ : Loc Cert.KernelWUkv.nD Cert.KernelWUkv.τ Cert.KernelWUkv.sig) → Buf (Elt Bits) ℓ) : Prop :=
  True

def Pre_KernelWUkvIdeal (m : (ℓ : Loc Cert.KernelWUkvIdeal.nD Cert.KernelWUkvIdeal.τ Cert.KernelWUkvIdeal.sig) → Buf (Elt Ideal) ℓ) : Prop :=
  True

def Pre_ReferenceWUkvIdeal (m : (ℓ : Loc Cert.ReferenceWUkvIdeal.nD Cert.ReferenceWUkvIdeal.τ Cert.ReferenceWUkvIdeal.sig) → Buf (Elt Ideal) ℓ) : Prop :=
  True

def Pre_KernelXUkv (m : (ℓ : Loc Cert.KernelXUkv.nD Cert.KernelXUkv.τ Cert.KernelXUkv.sig) → Buf (Elt Bits) ℓ) : Prop :=
  True

def Pre_KernelXUkvIdeal (m : (ℓ : Loc Cert.KernelXUkvIdeal.nD Cert.KernelXUkvIdeal.τ Cert.KernelXUkvIdeal.sig) → Buf (Elt Ideal) ℓ) : Prop :=
  True

def Pre_ReferenceXUkvIdeal (m : (ℓ : Loc Cert.ReferenceXUkvIdeal.nD Cert.ReferenceXUkvIdeal.τ Cert.ReferenceXUkvIdeal.sig) → Buf (Elt Ideal) ℓ) : Prop :=
  True

def Pre_KernelFInProj (m : (ℓ : Loc Cert.KernelFInProj.nD Cert.KernelFInProj.τ Cert.KernelFInProj.sig) → Buf (Elt Bits) ℓ) : Prop :=
  True

def Pre_KernelFInProjIdeal (m : (ℓ : Loc Cert.KernelFInProjIdeal.nD Cert.KernelFInProjIdeal.τ Cert.KernelFInProjIdeal.sig) → Buf (Elt Ideal) ℓ) : Prop :=
  True

def Pre_ReferenceFInProjIdeal (m : (ℓ : Loc Cert.ReferenceFInProjIdeal.nD Cert.ReferenceFInProjIdeal.τ Cert.ReferenceFInProjIdeal.sig) → Buf (Elt Ideal) ℓ) : Prop :=
  True

def Pre_KernelFFfnIn (m : (ℓ : Loc Cert.KernelFFfnIn.nD Cert.KernelFFfnIn.τ Cert.KernelFFfnIn.sig) → Buf (Elt Bits) ℓ) : Prop :=
  True

def Pre_KernelFFfnInIdeal (m : (ℓ : Loc Cert.KernelFFfnInIdeal.nD Cert.KernelFFfnInIdeal.τ Cert.KernelFFfnInIdeal.sig) → Buf (Elt Ideal) ℓ) : Prop :=
  True

def Pre_ReferenceFFfnInIdeal (m : (ℓ : Loc Cert.ReferenceFFfnInIdeal.nD Cert.ReferenceFFfnInIdeal.τ Cert.ReferenceFFfnInIdeal.sig) → Buf (Elt Ideal) ℓ) : Prop :=
  True

def Pre_KernelFFfnOut (m : (ℓ : Loc Cert.KernelFFfnOut.nD Cert.KernelFFfnOut.τ Cert.KernelFFfnOut.sig) → Buf (Elt Bits) ℓ) : Prop :=
  True

def Pre_KernelFFfnOutIdeal (m : (ℓ : Loc Cert.KernelFFfnOutIdeal.nD Cert.KernelFFfnOutIdeal.τ Cert.KernelFFfnOutIdeal.sig) → Buf (Elt Ideal) ℓ) : Prop :=
  True

def Pre_ReferenceFFfnOutIdeal (m : (ℓ : Loc Cert.ReferenceFFfnOutIdeal.nD Cert.ReferenceFFfnOutIdeal.τ Cert.ReferenceFFfnOutIdeal.sig) → Buf (Elt Ideal) ℓ) : Prop :=
  True

def Pre_KernelFProj (m : (ℓ : Loc Cert.KernelFProj.nD Cert.KernelFProj.τ Cert.KernelFProj.sig) → Buf (Elt Bits) ℓ) : Prop :=
  True

def Pre_KernelFProjIdeal (m : (ℓ : Loc Cert.KernelFProjIdeal.nD Cert.KernelFProjIdeal.τ Cert.KernelFProjIdeal.sig) → Buf (Elt Ideal) ℓ) : Prop :=
  True

def Pre_ReferenceFProjIdeal (m : (ℓ : Loc Cert.ReferenceFProjIdeal.nD Cert.ReferenceFProjIdeal.τ Cert.ReferenceFProjIdeal.sig) → Buf (Elt Ideal) ℓ) : Prop :=
  True

def Pre_KernelFOut (m : (ℓ : Loc Cert.KernelFOut.nD Cert.KernelFOut.τ Cert.KernelFOut.sig) → Buf (Elt Bits) ℓ) : Prop :=
  True

def Pre_KernelFOutIdeal (m : (ℓ : Loc Cert.KernelFOutIdeal.nD Cert.KernelFOutIdeal.τ Cert.KernelFOutIdeal.sig) → Buf (Elt Ideal) ℓ) : Prop :=
  True

def Pre_ReferenceFOutIdeal (m : (ℓ : Loc Cert.ReferenceFOutIdeal.nD Cert.ReferenceFOutIdeal.τ Cert.ReferenceFOutIdeal.sig) → Buf (Elt Ideal) ℓ) : Prop :=
  True

def Pre_KernelFUq (m : (ℓ : Loc Cert.KernelFUq.nD Cert.KernelFUq.τ Cert.KernelFUq.sig) → Buf (Elt Bits) ℓ) : Prop :=
  True

def Pre_KernelFUqIdeal (m : (ℓ : Loc Cert.KernelFUqIdeal.nD Cert.KernelFUqIdeal.τ Cert.KernelFUqIdeal.sig) → Buf (Elt Ideal) ℓ) : Prop :=
  True

def Pre_ReferenceFUqIdeal (m : (ℓ : Loc Cert.ReferenceFUqIdeal.nD Cert.ReferenceFUqIdeal.τ Cert.ReferenceFUqIdeal.sig) → Buf (Elt Ideal) ℓ) : Prop :=
  True

def Pre_KernelFUkv (m : (ℓ : Loc Cert.KernelFUkv.nD Cert.KernelFUkv.τ Cert.KernelFUkv.sig) → Buf (Elt Bits) ℓ) : Prop :=
  True

def Pre_KernelFUkvIdeal (m : (ℓ : Loc Cert.KernelFUkvIdeal.nD Cert.KernelFUkvIdeal.τ Cert.KernelFUkvIdeal.sig) → Buf (Elt Ideal) ℓ) : Prop :=
  True

def Pre_ReferenceFUkvIdeal (m : (ℓ : Loc Cert.ReferenceFUkvIdeal.nD Cert.ReferenceFUkvIdeal.τ Cert.ReferenceFUkvIdeal.sig) → Buf (Elt Ideal) ℓ) : Prop :=
  True

def Pre_KernelSwigluB (m : (ℓ : Loc Cert.KernelSwigluB.nD Cert.KernelSwigluB.τ Cert.KernelSwigluB.sig) → Buf (Elt Bits) ℓ) : Prop :=
  True

def Pre_KernelSwigluBIdeal (m : (ℓ : Loc Cert.KernelSwigluBIdeal.nD Cert.KernelSwigluBIdeal.τ Cert.KernelSwigluBIdeal.sig) → Buf (Elt Ideal) ℓ) : Prop :=
  True

def Pre_ReferenceSwigluBIdeal (m : (ℓ : Loc Cert.ReferenceSwigluBIdeal.nD Cert.ReferenceSwigluBIdeal.τ Cert.ReferenceSwigluBIdeal.sig) → Buf (Elt Ideal) ℓ) : Prop :=
  True

def Pre_KernelSwigluF (m : (ℓ : Loc Cert.KernelSwigluF.nD Cert.KernelSwigluF.τ Cert.KernelSwigluF.sig) → Buf (Elt Bits) ℓ) : Prop :=
  True

def Pre_KernelSwigluFIdeal (m : (ℓ : Loc Cert.KernelSwigluFIdeal.nD Cert.KernelSwigluFIdeal.τ Cert.KernelSwigluFIdeal.sig) → Buf (Elt Ideal) ℓ) : Prop :=
  True

def Pre_ReferenceSwigluFIdeal (m : (ℓ : Loc Cert.ReferenceSwigluFIdeal.nD Cert.ReferenceSwigluFIdeal.τ Cert.ReferenceSwigluFIdeal.sig) → Buf (Elt Ideal) ℓ) : Prop :=
  True

def Pre_KernelMergeB (m : (ℓ : Loc Cert.KernelMergeB.nD Cert.KernelMergeB.τ Cert.KernelMergeB.sig) → Buf (Elt Bits) ℓ) : Prop :=
  True

def Pre_KernelMergeBIdeal (m : (ℓ : Loc Cert.KernelMergeBIdeal.nD Cert.KernelMergeBIdeal.τ Cert.KernelMergeBIdeal.sig) → Buf (Elt Ideal) ℓ) : Prop :=
  True

def Pre_ReferenceMergeBIdeal (m : (ℓ : Loc Cert.ReferenceMergeBIdeal.nD Cert.ReferenceMergeBIdeal.τ Cert.ReferenceMergeBIdeal.sig) → Buf (Elt Ideal) ℓ) : Prop :=
  True

def Pre_KernelMergeF (m : (ℓ : Loc Cert.KernelMergeF.nD Cert.KernelMergeF.τ Cert.KernelMergeF.sig) → Buf (Elt Bits) ℓ) : Prop :=
  True

def Pre_KernelMergeFIdeal (m : (ℓ : Loc Cert.KernelMergeFIdeal.nD Cert.KernelMergeFIdeal.τ Cert.KernelMergeFIdeal.sig) → Buf (Elt Ideal) ℓ) : Prop :=
  True

def Pre_ReferenceMergeFIdeal (m : (ℓ : Loc Cert.ReferenceMergeFIdeal.nD Cert.ReferenceMergeFIdeal.τ Cert.ReferenceMergeFIdeal.sig) → Buf (Elt Ideal) ℓ) : Prop :=
  True

def Pre_KernelLatNormB (m : (ℓ : Loc Cert.KernelLatNormB.nD Cert.KernelLatNormB.τ Cert.KernelLatNormB.sig) → Buf (Elt Bits) ℓ) : Prop :=
  True

def Pre_KernelLatNormBIdeal (m : (ℓ : Loc Cert.KernelLatNormBIdeal.nD Cert.KernelLatNormBIdeal.τ Cert.KernelLatNormBIdeal.sig) → Buf (Elt Ideal) ℓ) : Prop :=
  True

def Pre_ReferenceLatNormBIdeal (m : (ℓ : Loc Cert.ReferenceLatNormBIdeal.nD Cert.ReferenceLatNormBIdeal.τ Cert.ReferenceLatNormBIdeal.sig) → Buf (Elt Ideal) ℓ) : Prop :=
  True

def Pre_KernelLatNormF (m : (ℓ : Loc Cert.KernelLatNormF.nD Cert.KernelLatNormF.τ Cert.KernelLatNormF.sig) → Buf (Elt Bits) ℓ) : Prop :=
  True

def Pre_KernelLatNormFIdeal (m : (ℓ : Loc Cert.KernelLatNormFIdeal.nD Cert.KernelLatNormFIdeal.τ Cert.KernelLatNormFIdeal.sig) → Buf (Elt Ideal) ℓ) : Prop :=
  True

def Pre_ReferenceLatNormFIdeal (m : (ℓ : Loc Cert.ReferenceLatNormFIdeal.nD Cert.ReferenceLatNormFIdeal.τ Cert.ReferenceLatNormFIdeal.sig) → Buf (Elt Ideal) ℓ) : Prop :=
  True

def Pre_KernelAdamMod (m : (ℓ : Loc Cert.KernelAdamMod.nD Cert.KernelAdamMod.τ Cert.KernelAdamMod.sig) → Buf (Elt Bits) ℓ) : Prop :=
  True

def Pre_KernelAdamModIdeal (m : (ℓ : Loc Cert.KernelAdamModIdeal.nD Cert.KernelAdamModIdeal.τ Cert.KernelAdamModIdeal.sig) → Buf (Elt Ideal) ℓ) : Prop :=
  True

def Pre_ReferenceAdamModIdeal (m : (ℓ : Loc Cert.ReferenceAdamModIdeal.nD Cert.ReferenceAdamModIdeal.τ Cert.ReferenceAdamModIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamUq (m : (ℓ : Loc Cert.KernelAdamUq.nD Cert.KernelAdamUq.τ Cert.KernelAdamUq.sig) → Buf (Elt Bits) ℓ) : Prop :=
  True

def Pre_KernelAdamUqIdeal (m : (ℓ : Loc Cert.KernelAdamUqIdeal.nD Cert.KernelAdamUqIdeal.τ Cert.KernelAdamUqIdeal.sig) → Buf (Elt Ideal) ℓ) : Prop :=
  True

def Pre_ReferenceAdamUqIdeal (m : (ℓ : Loc Cert.ReferenceAdamUqIdeal.nD Cert.ReferenceAdamUqIdeal.τ Cert.ReferenceAdamUqIdeal.sig) → Buf (Elt Ideal) ℓ) : Prop :=
  True

def Pre_KernelAdamUkv (m : (ℓ : Loc Cert.KernelAdamUkv.nD Cert.KernelAdamUkv.τ Cert.KernelAdamUkv.sig) → Buf (Elt Bits) ℓ) : Prop :=
  True

def Pre_KernelAdamUkvIdeal (m : (ℓ : Loc Cert.KernelAdamUkvIdeal.nD Cert.KernelAdamUkvIdeal.τ Cert.KernelAdamUkvIdeal.sig) → Buf (Elt Ideal) ℓ) : Prop :=
  True

def Pre_ReferenceAdamUkvIdeal (m : (ℓ : Loc Cert.ReferenceAdamUkvIdeal.nD Cert.ReferenceAdamUkvIdeal.τ Cert.ReferenceAdamUkvIdeal.sig) → Buf (Elt Ideal) ℓ) : Prop :=
  True

def Pre_KernelAdamOut (m : (ℓ : Loc Cert.KernelAdamOut.nD Cert.KernelAdamOut.τ Cert.KernelAdamOut.sig) → Buf (Elt Bits) ℓ) : Prop :=
  True

def Pre_KernelAdamOutIdeal (m : (ℓ : Loc Cert.KernelAdamOutIdeal.nD Cert.KernelAdamOutIdeal.τ Cert.KernelAdamOutIdeal.sig) → Buf (Elt Ideal) ℓ) : Prop :=
  True

def Pre_ReferenceAdamOutIdeal (m : (ℓ : Loc Cert.ReferenceAdamOutIdeal.nD Cert.ReferenceAdamOutIdeal.τ Cert.ReferenceAdamOutIdeal.sig) → Buf (Elt Ideal) ℓ) : Prop :=
  True

def Pre_KernelAdamFfnIn (m : (ℓ : Loc Cert.KernelAdamFfnIn.nD Cert.KernelAdamFfnIn.τ Cert.KernelAdamFfnIn.sig) → Buf (Elt Bits) ℓ) : Prop :=
  True

def Pre_KernelAdamFfnInIdeal (m : (ℓ : Loc Cert.KernelAdamFfnInIdeal.nD Cert.KernelAdamFfnInIdeal.τ Cert.KernelAdamFfnInIdeal.sig) → Buf (Elt Ideal) ℓ) : Prop :=
  True

def Pre_ReferenceAdamFfnInIdeal (m : (ℓ : Loc Cert.ReferenceAdamFfnInIdeal.nD Cert.ReferenceAdamFfnInIdeal.τ Cert.ReferenceAdamFfnInIdeal.sig) → Buf (Elt Ideal) ℓ) : Prop :=
  True

def Pre_KernelAdamFfnOut (m : (ℓ : Loc Cert.KernelAdamFfnOut.nD Cert.KernelAdamFfnOut.τ Cert.KernelAdamFfnOut.sig) → Buf (Elt Bits) ℓ) : Prop :=
  True

def Pre_KernelAdamFfnOutIdeal (m : (ℓ : Loc Cert.KernelAdamFfnOutIdeal.nD Cert.KernelAdamFfnOutIdeal.τ Cert.KernelAdamFfnOutIdeal.sig) → Buf (Elt Ideal) ℓ) : Prop :=
  True

def Pre_ReferenceAdamFfnOutIdeal (m : (ℓ : Loc Cert.ReferenceAdamFfnOutIdeal.nD Cert.ReferenceAdamFfnOutIdeal.τ Cert.ReferenceAdamFfnOutIdeal.sig) → Buf (Elt Ideal) ℓ) : Prop :=
  True

def Pre_KernelAdamSmall (m : (ℓ : Loc Cert.KernelAdamSmall.nD Cert.KernelAdamSmall.τ Cert.KernelAdamSmall.sig) → Buf (Elt Bits) ℓ) : Prop :=
  True

def Pre_KernelAdamSmallIdeal (m : (ℓ : Loc Cert.KernelAdamSmallIdeal.nD Cert.KernelAdamSmallIdeal.τ Cert.KernelAdamSmallIdeal.sig) → Buf (Elt Ideal) ℓ) : Prop :=
  True

def Pre_ReferenceAdamSmallIdeal (m : (ℓ : Loc Cert.ReferenceAdamSmallIdeal.nD Cert.ReferenceAdamSmallIdeal.τ Cert.ReferenceAdamSmallIdeal.sig) → Buf (Elt Ideal) ℓ) : Prop :=
  True

def Pre_KernelSsdOutF (m : (ℓ : Loc Cert.KernelSsdOutF.nD Cert.KernelSsdOutF.τ Cert.KernelSsdOutF.sig) → Buf (Elt Bits) ℓ) : Prop :=
  True

def Pre_KernelSsdOutFIdeal (m : (ℓ : Loc Cert.KernelSsdOutFIdeal.nD Cert.KernelSsdOutFIdeal.τ Cert.KernelSsdOutFIdeal.sig) → Buf (Elt Ideal) ℓ) : Prop :=
  True

def Pre_ReferenceSsdOutFIdeal (m : (ℓ : Loc Cert.ReferenceSsdOutFIdeal.nD Cert.ReferenceSsdOutFIdeal.τ Cert.ReferenceSsdOutFIdeal.sig) → Buf (Elt Ideal) ℓ) : Prop :=
  True

def Pre_KernelNormF (m : (ℓ : Loc Cert.KernelNormF.nD Cert.KernelNormF.τ Cert.KernelNormF.sig) → Buf (Elt Bits) ℓ) : Prop :=
  True

def Pre_KernelNormFIdeal (m : (ℓ : Loc Cert.KernelNormFIdeal.nD Cert.KernelNormFIdeal.τ Cert.KernelNormFIdeal.sig) → Buf (Elt Ideal) ℓ) : Prop :=
  True

def Pre_ReferenceNormFIdeal (m : (ℓ : Loc Cert.ReferenceNormFIdeal.nD Cert.ReferenceNormFIdeal.τ Cert.ReferenceNormFIdeal.sig) → Buf (Elt Ideal) ℓ) : Prop :=
  True

def Pre_KernelRes1F (m : (ℓ : Loc Cert.KernelRes1F.nD Cert.KernelRes1F.τ Cert.KernelRes1F.sig) → Buf (Elt Bits) ℓ) : Prop :=
  True

def Pre_KernelRes1FIdeal (m : (ℓ : Loc Cert.KernelRes1FIdeal.nD Cert.KernelRes1FIdeal.τ Cert.KernelRes1FIdeal.sig) → Buf (Elt Ideal) ℓ) : Prop :=
  True

def Pre_ReferenceRes1FIdeal (m : (ℓ : Loc Cert.ReferenceRes1FIdeal.nD Cert.ReferenceRes1FIdeal.τ Cert.ReferenceRes1FIdeal.sig) → Buf (Elt Ideal) ℓ) : Prop :=
  True

def Pre_KernelRes2F (m : (ℓ : Loc Cert.KernelRes2F.nD Cert.KernelRes2F.τ Cert.KernelRes2F.sig) → Buf (Elt Bits) ℓ) : Prop :=
  True

def Pre_KernelRes2FIdeal (m : (ℓ : Loc Cert.KernelRes2FIdeal.nD Cert.KernelRes2FIdeal.τ Cert.KernelRes2FIdeal.sig) → Buf (Elt Ideal) ℓ) : Prop :=
  True

def Pre_ReferenceRes2FIdeal (m : (ℓ : Loc Cert.ReferenceRes2FIdeal.nD Cert.ReferenceRes2FIdeal.τ Cert.ReferenceRes2FIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelWInProj [hKernelWInProj : Cert.KernelWInProj.Facts] : Prop :=
  ∀ (m : (ℓ : Loc Cert.KernelWInProj.nD Cert.KernelWInProj.τ Cert.KernelWInProj.sig) → Buf (Elt Bits) ℓ) (g : Dev Cert.KernelWInProj.nD → PrngReg), Pre_KernelWInProj m →
    θ_run (Cert.KernelWInProj.defs (F := Bits)) (onTc (τ := Cert.KernelWInProj.τ) (Cert.KernelWInProj.main (F := Bits))) ⟨m, fun _ => 0, g⟩ (fun r => (∀ c : Dev Cert.KernelWInProj.nD,
      r.2.mem ((c.tc : Thread Cert.KernelWInProj.nD Cert.KernelWInProj.τ).loc Cert.KernelWInProj.main_arg0) = m ((c.tc : Thread Cert.KernelWInProj.nD Cert.KernelWInProj.τ).loc Cert.KernelWInProj.main_arg0)
      ∧ r.2.mem ((c.tc : Thread Cert.KernelWInProj.nD Cert.KernelWInProj.τ).loc Cert.KernelWInProj.main_arg1) = m ((c.tc : Thread Cert.KernelWInProj.nD Cert.KernelWInProj.τ).loc Cert.KernelWInProj.main_arg1))
      ∧ r.2.sem = fun _ => 0)

def quiescent_KernelWInProjIdeal [hKernelWInProjIdeal : Cert.KernelWInProjIdeal.Facts] : Prop :=
  ∀ (m : (ℓ : Loc Cert.KernelWInProjIdeal.nD Cert.KernelWInProjIdeal.τ Cert.KernelWInProjIdeal.sig) → Buf (Elt Ideal) ℓ) (g : Dev Cert.KernelWInProjIdeal.nD → PrngReg), Pre_KernelWInProjIdeal m →
    θ_run (Cert.KernelWInProjIdeal.defs (F := Ideal)) (onTc (τ := Cert.KernelWInProjIdeal.τ) (Cert.KernelWInProjIdeal.main (F := Ideal))) ⟨m, fun _ => 0, g⟩ (fun r => (∀ c : Dev Cert.KernelWInProjIdeal.nD,
      r.2.mem ((c.tc : Thread Cert.KernelWInProjIdeal.nD Cert.KernelWInProjIdeal.τ).loc Cert.KernelWInProjIdeal.main_arg0) = m ((c.tc : Thread Cert.KernelWInProjIdeal.nD Cert.KernelWInProjIdeal.τ).loc Cert.KernelWInProjIdeal.main_arg0)
      ∧ r.2.mem ((c.tc : Thread Cert.KernelWInProjIdeal.nD Cert.KernelWInProjIdeal.τ).loc Cert.KernelWInProjIdeal.main_arg1) = m ((c.tc : Thread Cert.KernelWInProjIdeal.nD Cert.KernelWInProjIdeal.τ).loc Cert.KernelWInProjIdeal.main_arg1))
      ∧ r.2.sem = fun _ => 0)

def quiescent_ReferenceWInProjIdeal [hReferenceWInProjIdeal : Cert.ReferenceWInProjIdeal.Facts] : Prop :=
  ∀ (m : (ℓ : Loc Cert.ReferenceWInProjIdeal.nD Cert.ReferenceWInProjIdeal.τ Cert.ReferenceWInProjIdeal.sig) → Buf (Elt Ideal) ℓ) (g : Dev Cert.ReferenceWInProjIdeal.nD → PrngReg), Pre_ReferenceWInProjIdeal m →
    θ_run (Cert.ReferenceWInProjIdeal.defs (F := Ideal)) (onTc (τ := Cert.ReferenceWInProjIdeal.τ) (Cert.ReferenceWInProjIdeal.main (F := Ideal))) ⟨m, fun _ => 0, g⟩ (fun r => (∀ c : Dev Cert.ReferenceWInProjIdeal.nD,
      r.2.mem ((c.tc : Thread Cert.ReferenceWInProjIdeal.nD Cert.ReferenceWInProjIdeal.τ).loc Cert.ReferenceWInProjIdeal.main_arg0) = m ((c.tc : Thread Cert.ReferenceWInProjIdeal.nD Cert.ReferenceWInProjIdeal.τ).loc Cert.ReferenceWInProjIdeal.main_arg0)
      ∧ r.2.mem ((c.tc : Thread Cert.ReferenceWInProjIdeal.nD Cert.ReferenceWInProjIdeal.τ).loc Cert.ReferenceWInProjIdeal.main_arg1) = m ((c.tc : Thread Cert.ReferenceWInProjIdeal.nD Cert.ReferenceWInProjIdeal.τ).loc Cert.ReferenceWInProjIdeal.main_arg1))
      ∧ r.2.sem = fun _ => 0)

def quiescent_KernelXInProj [hKernelXInProj : Cert.KernelXInProj.Facts] : Prop :=
  ∀ (m : (ℓ : Loc Cert.KernelXInProj.nD Cert.KernelXInProj.τ Cert.KernelXInProj.sig) → Buf (Elt Bits) ℓ) (g : Dev Cert.KernelXInProj.nD → PrngReg), Pre_KernelXInProj m →
    θ_run (Cert.KernelXInProj.defs (F := Bits)) (onTc (τ := Cert.KernelXInProj.τ) (Cert.KernelXInProj.main (F := Bits))) ⟨m, fun _ => 0, g⟩ (fun r => (∀ c : Dev Cert.KernelXInProj.nD,
      r.2.mem ((c.tc : Thread Cert.KernelXInProj.nD Cert.KernelXInProj.τ).loc Cert.KernelXInProj.main_arg0) = m ((c.tc : Thread Cert.KernelXInProj.nD Cert.KernelXInProj.τ).loc Cert.KernelXInProj.main_arg0)
      ∧ r.2.mem ((c.tc : Thread Cert.KernelXInProj.nD Cert.KernelXInProj.τ).loc Cert.KernelXInProj.main_arg1) = m ((c.tc : Thread Cert.KernelXInProj.nD Cert.KernelXInProj.τ).loc Cert.KernelXInProj.main_arg1))
      ∧ r.2.sem = fun _ => 0)

def quiescent_KernelXInProjIdeal [hKernelXInProjIdeal : Cert.KernelXInProjIdeal.Facts] : Prop :=
  ∀ (m : (ℓ : Loc Cert.KernelXInProjIdeal.nD Cert.KernelXInProjIdeal.τ Cert.KernelXInProjIdeal.sig) → Buf (Elt Ideal) ℓ) (g : Dev Cert.KernelXInProjIdeal.nD → PrngReg), Pre_KernelXInProjIdeal m →
    θ_run (Cert.KernelXInProjIdeal.defs (F := Ideal)) (onTc (τ := Cert.KernelXInProjIdeal.τ) (Cert.KernelXInProjIdeal.main (F := Ideal))) ⟨m, fun _ => 0, g⟩ (fun r => (∀ c : Dev Cert.KernelXInProjIdeal.nD,
      r.2.mem ((c.tc : Thread Cert.KernelXInProjIdeal.nD Cert.KernelXInProjIdeal.τ).loc Cert.KernelXInProjIdeal.main_arg0) = m ((c.tc : Thread Cert.KernelXInProjIdeal.nD Cert.KernelXInProjIdeal.τ).loc Cert.KernelXInProjIdeal.main_arg0)
      ∧ r.2.mem ((c.tc : Thread Cert.KernelXInProjIdeal.nD Cert.KernelXInProjIdeal.τ).loc Cert.KernelXInProjIdeal.main_arg1) = m ((c.tc : Thread Cert.KernelXInProjIdeal.nD Cert.KernelXInProjIdeal.τ).loc Cert.KernelXInProjIdeal.main_arg1))
      ∧ r.2.sem = fun _ => 0)

def quiescent_ReferenceXInProjIdeal [hReferenceXInProjIdeal : Cert.ReferenceXInProjIdeal.Facts] : Prop :=
  ∀ (m : (ℓ : Loc Cert.ReferenceXInProjIdeal.nD Cert.ReferenceXInProjIdeal.τ Cert.ReferenceXInProjIdeal.sig) → Buf (Elt Ideal) ℓ) (g : Dev Cert.ReferenceXInProjIdeal.nD → PrngReg), Pre_ReferenceXInProjIdeal m →
    θ_run (Cert.ReferenceXInProjIdeal.defs (F := Ideal)) (onTc (τ := Cert.ReferenceXInProjIdeal.τ) (Cert.ReferenceXInProjIdeal.main (F := Ideal))) ⟨m, fun _ => 0, g⟩ (fun r => (∀ c : Dev Cert.ReferenceXInProjIdeal.nD,
      r.2.mem ((c.tc : Thread Cert.ReferenceXInProjIdeal.nD Cert.ReferenceXInProjIdeal.τ).loc Cert.ReferenceXInProjIdeal.main_arg0) = m ((c.tc : Thread Cert.ReferenceXInProjIdeal.nD Cert.ReferenceXInProjIdeal.τ).loc Cert.ReferenceXInProjIdeal.main_arg0)
      ∧ r.2.mem ((c.tc : Thread Cert.ReferenceXInProjIdeal.nD Cert.ReferenceXInProjIdeal.τ).loc Cert.ReferenceXInProjIdeal.main_arg1) = m ((c.tc : Thread Cert.ReferenceXInProjIdeal.nD Cert.ReferenceXInProjIdeal.τ).loc Cert.ReferenceXInProjIdeal.main_arg1))
      ∧ r.2.sem = fun _ => 0)

def quiescent_KernelWFfnIn [hKernelWFfnIn : Cert.KernelWFfnIn.Facts] : Prop :=
  ∀ (m : (ℓ : Loc Cert.KernelWFfnIn.nD Cert.KernelWFfnIn.τ Cert.KernelWFfnIn.sig) → Buf (Elt Bits) ℓ) (g : Dev Cert.KernelWFfnIn.nD → PrngReg), Pre_KernelWFfnIn m →
    θ_run (Cert.KernelWFfnIn.defs (F := Bits)) (onTc (τ := Cert.KernelWFfnIn.τ) (Cert.KernelWFfnIn.main (F := Bits))) ⟨m, fun _ => 0, g⟩ (fun r => (∀ c : Dev Cert.KernelWFfnIn.nD,
      r.2.mem ((c.tc : Thread Cert.KernelWFfnIn.nD Cert.KernelWFfnIn.τ).loc Cert.KernelWFfnIn.main_arg0) = m ((c.tc : Thread Cert.KernelWFfnIn.nD Cert.KernelWFfnIn.τ).loc Cert.KernelWFfnIn.main_arg0)
      ∧ r.2.mem ((c.tc : Thread Cert.KernelWFfnIn.nD Cert.KernelWFfnIn.τ).loc Cert.KernelWFfnIn.main_arg1) = m ((c.tc : Thread Cert.KernelWFfnIn.nD Cert.KernelWFfnIn.τ).loc Cert.KernelWFfnIn.main_arg1))
      ∧ r.2.sem = fun _ => 0)

def quiescent_KernelWFfnInIdeal [hKernelWFfnInIdeal : Cert.KernelWFfnInIdeal.Facts] : Prop :=
  ∀ (m : (ℓ : Loc Cert.KernelWFfnInIdeal.nD Cert.KernelWFfnInIdeal.τ Cert.KernelWFfnInIdeal.sig) → Buf (Elt Ideal) ℓ) (g : Dev Cert.KernelWFfnInIdeal.nD → PrngReg), Pre_KernelWFfnInIdeal m →
    θ_run (Cert.KernelWFfnInIdeal.defs (F := Ideal)) (onTc (τ := Cert.KernelWFfnInIdeal.τ) (Cert.KernelWFfnInIdeal.main (F := Ideal))) ⟨m, fun _ => 0, g⟩ (fun r => (∀ c : Dev Cert.KernelWFfnInIdeal.nD,
      r.2.mem ((c.tc : Thread Cert.KernelWFfnInIdeal.nD Cert.KernelWFfnInIdeal.τ).loc Cert.KernelWFfnInIdeal.main_arg0) = m ((c.tc : Thread Cert.KernelWFfnInIdeal.nD Cert.KernelWFfnInIdeal.τ).loc Cert.KernelWFfnInIdeal.main_arg0)
      ∧ r.2.mem ((c.tc : Thread Cert.KernelWFfnInIdeal.nD Cert.KernelWFfnInIdeal.τ).loc Cert.KernelWFfnInIdeal.main_arg1) = m ((c.tc : Thread Cert.KernelWFfnInIdeal.nD Cert.KernelWFfnInIdeal.τ).loc Cert.KernelWFfnInIdeal.main_arg1))
      ∧ r.2.sem = fun _ => 0)

def quiescent_ReferenceWFfnInIdeal [hReferenceWFfnInIdeal : Cert.ReferenceWFfnInIdeal.Facts] : Prop :=
  ∀ (m : (ℓ : Loc Cert.ReferenceWFfnInIdeal.nD Cert.ReferenceWFfnInIdeal.τ Cert.ReferenceWFfnInIdeal.sig) → Buf (Elt Ideal) ℓ) (g : Dev Cert.ReferenceWFfnInIdeal.nD → PrngReg), Pre_ReferenceWFfnInIdeal m →
    θ_run (Cert.ReferenceWFfnInIdeal.defs (F := Ideal)) (onTc (τ := Cert.ReferenceWFfnInIdeal.τ) (Cert.ReferenceWFfnInIdeal.main (F := Ideal))) ⟨m, fun _ => 0, g⟩ (fun r => (∀ c : Dev Cert.ReferenceWFfnInIdeal.nD,
      r.2.mem ((c.tc : Thread Cert.ReferenceWFfnInIdeal.nD Cert.ReferenceWFfnInIdeal.τ).loc Cert.ReferenceWFfnInIdeal.main_arg0) = m ((c.tc : Thread Cert.ReferenceWFfnInIdeal.nD Cert.ReferenceWFfnInIdeal.τ).loc Cert.ReferenceWFfnInIdeal.main_arg0)
      ∧ r.2.mem ((c.tc : Thread Cert.ReferenceWFfnInIdeal.nD Cert.ReferenceWFfnInIdeal.τ).loc Cert.ReferenceWFfnInIdeal.main_arg1) = m ((c.tc : Thread Cert.ReferenceWFfnInIdeal.nD Cert.ReferenceWFfnInIdeal.τ).loc Cert.ReferenceWFfnInIdeal.main_arg1))
      ∧ r.2.sem = fun _ => 0)

def quiescent_KernelXFfnIn [hKernelXFfnIn : Cert.KernelXFfnIn.Facts] : Prop :=
  ∀ (m : (ℓ : Loc Cert.KernelXFfnIn.nD Cert.KernelXFfnIn.τ Cert.KernelXFfnIn.sig) → Buf (Elt Bits) ℓ) (g : Dev Cert.KernelXFfnIn.nD → PrngReg), Pre_KernelXFfnIn m →
    θ_run (Cert.KernelXFfnIn.defs (F := Bits)) (onTc (τ := Cert.KernelXFfnIn.τ) (Cert.KernelXFfnIn.main (F := Bits))) ⟨m, fun _ => 0, g⟩ (fun r => (∀ c : Dev Cert.KernelXFfnIn.nD,
      r.2.mem ((c.tc : Thread Cert.KernelXFfnIn.nD Cert.KernelXFfnIn.τ).loc Cert.KernelXFfnIn.main_arg0) = m ((c.tc : Thread Cert.KernelXFfnIn.nD Cert.KernelXFfnIn.τ).loc Cert.KernelXFfnIn.main_arg0)
      ∧ r.2.mem ((c.tc : Thread Cert.KernelXFfnIn.nD Cert.KernelXFfnIn.τ).loc Cert.KernelXFfnIn.main_arg1) = m ((c.tc : Thread Cert.KernelXFfnIn.nD Cert.KernelXFfnIn.τ).loc Cert.KernelXFfnIn.main_arg1))
      ∧ r.2.sem = fun _ => 0)

def quiescent_KernelXFfnInIdeal [hKernelXFfnInIdeal : Cert.KernelXFfnInIdeal.Facts] : Prop :=
  ∀ (m : (ℓ : Loc Cert.KernelXFfnInIdeal.nD Cert.KernelXFfnInIdeal.τ Cert.KernelXFfnInIdeal.sig) → Buf (Elt Ideal) ℓ) (g : Dev Cert.KernelXFfnInIdeal.nD → PrngReg), Pre_KernelXFfnInIdeal m →
    θ_run (Cert.KernelXFfnInIdeal.defs (F := Ideal)) (onTc (τ := Cert.KernelXFfnInIdeal.τ) (Cert.KernelXFfnInIdeal.main (F := Ideal))) ⟨m, fun _ => 0, g⟩ (fun r => (∀ c : Dev Cert.KernelXFfnInIdeal.nD,
      r.2.mem ((c.tc : Thread Cert.KernelXFfnInIdeal.nD Cert.KernelXFfnInIdeal.τ).loc Cert.KernelXFfnInIdeal.main_arg0) = m ((c.tc : Thread Cert.KernelXFfnInIdeal.nD Cert.KernelXFfnInIdeal.τ).loc Cert.KernelXFfnInIdeal.main_arg0)
      ∧ r.2.mem ((c.tc : Thread Cert.KernelXFfnInIdeal.nD Cert.KernelXFfnInIdeal.τ).loc Cert.KernelXFfnInIdeal.main_arg1) = m ((c.tc : Thread Cert.KernelXFfnInIdeal.nD Cert.KernelXFfnInIdeal.τ).loc Cert.KernelXFfnInIdeal.main_arg1))
      ∧ r.2.sem = fun _ => 0)

def quiescent_ReferenceXFfnInIdeal [hReferenceXFfnInIdeal : Cert.ReferenceXFfnInIdeal.Facts] : Prop :=
  ∀ (m : (ℓ : Loc Cert.ReferenceXFfnInIdeal.nD Cert.ReferenceXFfnInIdeal.τ Cert.ReferenceXFfnInIdeal.sig) → Buf (Elt Ideal) ℓ) (g : Dev Cert.ReferenceXFfnInIdeal.nD → PrngReg), Pre_ReferenceXFfnInIdeal m →
    θ_run (Cert.ReferenceXFfnInIdeal.defs (F := Ideal)) (onTc (τ := Cert.ReferenceXFfnInIdeal.τ) (Cert.ReferenceXFfnInIdeal.main (F := Ideal))) ⟨m, fun _ => 0, g⟩ (fun r => (∀ c : Dev Cert.ReferenceXFfnInIdeal.nD,
      r.2.mem ((c.tc : Thread Cert.ReferenceXFfnInIdeal.nD Cert.ReferenceXFfnInIdeal.τ).loc Cert.ReferenceXFfnInIdeal.main_arg0) = m ((c.tc : Thread Cert.ReferenceXFfnInIdeal.nD Cert.ReferenceXFfnInIdeal.τ).loc Cert.ReferenceXFfnInIdeal.main_arg0)
      ∧ r.2.mem ((c.tc : Thread Cert.ReferenceXFfnInIdeal.nD Cert.ReferenceXFfnInIdeal.τ).loc Cert.ReferenceXFfnInIdeal.main_arg1) = m ((c.tc : Thread Cert.ReferenceXFfnInIdeal.nD Cert.ReferenceXFfnInIdeal.τ).loc Cert.ReferenceXFfnInIdeal.main_arg1))
      ∧ r.2.sem = fun _ => 0)

def quiescent_KernelWFfnOut [hKernelWFfnOut : Cert.KernelWFfnOut.Facts] : Prop :=
  ∀ (m : (ℓ : Loc Cert.KernelWFfnOut.nD Cert.KernelWFfnOut.τ Cert.KernelWFfnOut.sig) → Buf (Elt Bits) ℓ) (g : Dev Cert.KernelWFfnOut.nD → PrngReg), Pre_KernelWFfnOut m →
    θ_run (Cert.KernelWFfnOut.defs (F := Bits)) (onTc (τ := Cert.KernelWFfnOut.τ) (Cert.KernelWFfnOut.main (F := Bits))) ⟨m, fun _ => 0, g⟩ (fun r => (∀ c : Dev Cert.KernelWFfnOut.nD,
      r.2.mem ((c.tc : Thread Cert.KernelWFfnOut.nD Cert.KernelWFfnOut.τ).loc Cert.KernelWFfnOut.main_arg0) = m ((c.tc : Thread Cert.KernelWFfnOut.nD Cert.KernelWFfnOut.τ).loc Cert.KernelWFfnOut.main_arg0)
      ∧ r.2.mem ((c.tc : Thread Cert.KernelWFfnOut.nD Cert.KernelWFfnOut.τ).loc Cert.KernelWFfnOut.main_arg1) = m ((c.tc : Thread Cert.KernelWFfnOut.nD Cert.KernelWFfnOut.τ).loc Cert.KernelWFfnOut.main_arg1))
      ∧ r.2.sem = fun _ => 0)

def quiescent_KernelWFfnOutIdeal [hKernelWFfnOutIdeal : Cert.KernelWFfnOutIdeal.Facts] : Prop :=
  ∀ (m : (ℓ : Loc Cert.KernelWFfnOutIdeal.nD Cert.KernelWFfnOutIdeal.τ Cert.KernelWFfnOutIdeal.sig) → Buf (Elt Ideal) ℓ) (g : Dev Cert.KernelWFfnOutIdeal.nD → PrngReg), Pre_KernelWFfnOutIdeal m →
    θ_run (Cert.KernelWFfnOutIdeal.defs (F := Ideal)) (onTc (τ := Cert.KernelWFfnOutIdeal.τ) (Cert.KernelWFfnOutIdeal.main (F := Ideal))) ⟨m, fun _ => 0, g⟩ (fun r => (∀ c : Dev Cert.KernelWFfnOutIdeal.nD,
      r.2.mem ((c.tc : Thread Cert.KernelWFfnOutIdeal.nD Cert.KernelWFfnOutIdeal.τ).loc Cert.KernelWFfnOutIdeal.main_arg0) = m ((c.tc : Thread Cert.KernelWFfnOutIdeal.nD Cert.KernelWFfnOutIdeal.τ).loc Cert.KernelWFfnOutIdeal.main_arg0)
      ∧ r.2.mem ((c.tc : Thread Cert.KernelWFfnOutIdeal.nD Cert.KernelWFfnOutIdeal.τ).loc Cert.KernelWFfnOutIdeal.main_arg1) = m ((c.tc : Thread Cert.KernelWFfnOutIdeal.nD Cert.KernelWFfnOutIdeal.τ).loc Cert.KernelWFfnOutIdeal.main_arg1))
      ∧ r.2.sem = fun _ => 0)

def quiescent_ReferenceWFfnOutIdeal [hReferenceWFfnOutIdeal : Cert.ReferenceWFfnOutIdeal.Facts] : Prop :=
  ∀ (m : (ℓ : Loc Cert.ReferenceWFfnOutIdeal.nD Cert.ReferenceWFfnOutIdeal.τ Cert.ReferenceWFfnOutIdeal.sig) → Buf (Elt Ideal) ℓ) (g : Dev Cert.ReferenceWFfnOutIdeal.nD → PrngReg), Pre_ReferenceWFfnOutIdeal m →
    θ_run (Cert.ReferenceWFfnOutIdeal.defs (F := Ideal)) (onTc (τ := Cert.ReferenceWFfnOutIdeal.τ) (Cert.ReferenceWFfnOutIdeal.main (F := Ideal))) ⟨m, fun _ => 0, g⟩ (fun r => (∀ c : Dev Cert.ReferenceWFfnOutIdeal.nD,
      r.2.mem ((c.tc : Thread Cert.ReferenceWFfnOutIdeal.nD Cert.ReferenceWFfnOutIdeal.τ).loc Cert.ReferenceWFfnOutIdeal.main_arg0) = m ((c.tc : Thread Cert.ReferenceWFfnOutIdeal.nD Cert.ReferenceWFfnOutIdeal.τ).loc Cert.ReferenceWFfnOutIdeal.main_arg0)
      ∧ r.2.mem ((c.tc : Thread Cert.ReferenceWFfnOutIdeal.nD Cert.ReferenceWFfnOutIdeal.τ).loc Cert.ReferenceWFfnOutIdeal.main_arg1) = m ((c.tc : Thread Cert.ReferenceWFfnOutIdeal.nD Cert.ReferenceWFfnOutIdeal.τ).loc Cert.ReferenceWFfnOutIdeal.main_arg1))
      ∧ r.2.sem = fun _ => 0)

def quiescent_KernelXFfnOut [hKernelXFfnOut : Cert.KernelXFfnOut.Facts] : Prop :=
  ∀ (m : (ℓ : Loc Cert.KernelXFfnOut.nD Cert.KernelXFfnOut.τ Cert.KernelXFfnOut.sig) → Buf (Elt Bits) ℓ) (g : Dev Cert.KernelXFfnOut.nD → PrngReg), Pre_KernelXFfnOut m →
    θ_run (Cert.KernelXFfnOut.defs (F := Bits)) (onTc (τ := Cert.KernelXFfnOut.τ) (Cert.KernelXFfnOut.main (F := Bits))) ⟨m, fun _ => 0, g⟩ (fun r => (∀ c : Dev Cert.KernelXFfnOut.nD,
      r.2.mem ((c.tc : Thread Cert.KernelXFfnOut.nD Cert.KernelXFfnOut.τ).loc Cert.KernelXFfnOut.main_arg0) = m ((c.tc : Thread Cert.KernelXFfnOut.nD Cert.KernelXFfnOut.τ).loc Cert.KernelXFfnOut.main_arg0)
      ∧ r.2.mem ((c.tc : Thread Cert.KernelXFfnOut.nD Cert.KernelXFfnOut.τ).loc Cert.KernelXFfnOut.main_arg1) = m ((c.tc : Thread Cert.KernelXFfnOut.nD Cert.KernelXFfnOut.τ).loc Cert.KernelXFfnOut.main_arg1))
      ∧ r.2.sem = fun _ => 0)

def quiescent_KernelXFfnOutIdeal [hKernelXFfnOutIdeal : Cert.KernelXFfnOutIdeal.Facts] : Prop :=
  ∀ (m : (ℓ : Loc Cert.KernelXFfnOutIdeal.nD Cert.KernelXFfnOutIdeal.τ Cert.KernelXFfnOutIdeal.sig) → Buf (Elt Ideal) ℓ) (g : Dev Cert.KernelXFfnOutIdeal.nD → PrngReg), Pre_KernelXFfnOutIdeal m →
    θ_run (Cert.KernelXFfnOutIdeal.defs (F := Ideal)) (onTc (τ := Cert.KernelXFfnOutIdeal.τ) (Cert.KernelXFfnOutIdeal.main (F := Ideal))) ⟨m, fun _ => 0, g⟩ (fun r => (∀ c : Dev Cert.KernelXFfnOutIdeal.nD,
      r.2.mem ((c.tc : Thread Cert.KernelXFfnOutIdeal.nD Cert.KernelXFfnOutIdeal.τ).loc Cert.KernelXFfnOutIdeal.main_arg0) = m ((c.tc : Thread Cert.KernelXFfnOutIdeal.nD Cert.KernelXFfnOutIdeal.τ).loc Cert.KernelXFfnOutIdeal.main_arg0)
      ∧ r.2.mem ((c.tc : Thread Cert.KernelXFfnOutIdeal.nD Cert.KernelXFfnOutIdeal.τ).loc Cert.KernelXFfnOutIdeal.main_arg1) = m ((c.tc : Thread Cert.KernelXFfnOutIdeal.nD Cert.KernelXFfnOutIdeal.τ).loc Cert.KernelXFfnOutIdeal.main_arg1))
      ∧ r.2.sem = fun _ => 0)

def quiescent_ReferenceXFfnOutIdeal [hReferenceXFfnOutIdeal : Cert.ReferenceXFfnOutIdeal.Facts] : Prop :=
  ∀ (m : (ℓ : Loc Cert.ReferenceXFfnOutIdeal.nD Cert.ReferenceXFfnOutIdeal.τ Cert.ReferenceXFfnOutIdeal.sig) → Buf (Elt Ideal) ℓ) (g : Dev Cert.ReferenceXFfnOutIdeal.nD → PrngReg), Pre_ReferenceXFfnOutIdeal m →
    θ_run (Cert.ReferenceXFfnOutIdeal.defs (F := Ideal)) (onTc (τ := Cert.ReferenceXFfnOutIdeal.τ) (Cert.ReferenceXFfnOutIdeal.main (F := Ideal))) ⟨m, fun _ => 0, g⟩ (fun r => (∀ c : Dev Cert.ReferenceXFfnOutIdeal.nD,
      r.2.mem ((c.tc : Thread Cert.ReferenceXFfnOutIdeal.nD Cert.ReferenceXFfnOutIdeal.τ).loc Cert.ReferenceXFfnOutIdeal.main_arg0) = m ((c.tc : Thread Cert.ReferenceXFfnOutIdeal.nD Cert.ReferenceXFfnOutIdeal.τ).loc Cert.ReferenceXFfnOutIdeal.main_arg0)
      ∧ r.2.mem ((c.tc : Thread Cert.ReferenceXFfnOutIdeal.nD Cert.ReferenceXFfnOutIdeal.τ).loc Cert.ReferenceXFfnOutIdeal.main_arg1) = m ((c.tc : Thread Cert.ReferenceXFfnOutIdeal.nD Cert.ReferenceXFfnOutIdeal.τ).loc Cert.ReferenceXFfnOutIdeal.main_arg1))
      ∧ r.2.sem = fun _ => 0)

def quiescent_KernelWOut [hKernelWOut : Cert.KernelWOut.Facts] : Prop :=
  ∀ (m : (ℓ : Loc Cert.KernelWOut.nD Cert.KernelWOut.τ Cert.KernelWOut.sig) → Buf (Elt Bits) ℓ) (g : Dev Cert.KernelWOut.nD → PrngReg), Pre_KernelWOut m →
    θ_run (Cert.KernelWOut.defs (F := Bits)) (onTc (τ := Cert.KernelWOut.τ) (Cert.KernelWOut.main (F := Bits))) ⟨m, fun _ => 0, g⟩ (fun r => (∀ c : Dev Cert.KernelWOut.nD,
      r.2.mem ((c.tc : Thread Cert.KernelWOut.nD Cert.KernelWOut.τ).loc Cert.KernelWOut.main_arg0) = m ((c.tc : Thread Cert.KernelWOut.nD Cert.KernelWOut.τ).loc Cert.KernelWOut.main_arg0)
      ∧ r.2.mem ((c.tc : Thread Cert.KernelWOut.nD Cert.KernelWOut.τ).loc Cert.KernelWOut.main_arg1) = m ((c.tc : Thread Cert.KernelWOut.nD Cert.KernelWOut.τ).loc Cert.KernelWOut.main_arg1))
      ∧ r.2.sem = fun _ => 0)

def quiescent_KernelWOutIdeal [hKernelWOutIdeal : Cert.KernelWOutIdeal.Facts] : Prop :=
  ∀ (m : (ℓ : Loc Cert.KernelWOutIdeal.nD Cert.KernelWOutIdeal.τ Cert.KernelWOutIdeal.sig) → Buf (Elt Ideal) ℓ) (g : Dev Cert.KernelWOutIdeal.nD → PrngReg), Pre_KernelWOutIdeal m →
    θ_run (Cert.KernelWOutIdeal.defs (F := Ideal)) (onTc (τ := Cert.KernelWOutIdeal.τ) (Cert.KernelWOutIdeal.main (F := Ideal))) ⟨m, fun _ => 0, g⟩ (fun r => (∀ c : Dev Cert.KernelWOutIdeal.nD,
      r.2.mem ((c.tc : Thread Cert.KernelWOutIdeal.nD Cert.KernelWOutIdeal.τ).loc Cert.KernelWOutIdeal.main_arg0) = m ((c.tc : Thread Cert.KernelWOutIdeal.nD Cert.KernelWOutIdeal.τ).loc Cert.KernelWOutIdeal.main_arg0)
      ∧ r.2.mem ((c.tc : Thread Cert.KernelWOutIdeal.nD Cert.KernelWOutIdeal.τ).loc Cert.KernelWOutIdeal.main_arg1) = m ((c.tc : Thread Cert.KernelWOutIdeal.nD Cert.KernelWOutIdeal.τ).loc Cert.KernelWOutIdeal.main_arg1))
      ∧ r.2.sem = fun _ => 0)

def quiescent_ReferenceWOutIdeal [hReferenceWOutIdeal : Cert.ReferenceWOutIdeal.Facts] : Prop :=
  ∀ (m : (ℓ : Loc Cert.ReferenceWOutIdeal.nD Cert.ReferenceWOutIdeal.τ Cert.ReferenceWOutIdeal.sig) → Buf (Elt Ideal) ℓ) (g : Dev Cert.ReferenceWOutIdeal.nD → PrngReg), Pre_ReferenceWOutIdeal m →
    θ_run (Cert.ReferenceWOutIdeal.defs (F := Ideal)) (onTc (τ := Cert.ReferenceWOutIdeal.τ) (Cert.ReferenceWOutIdeal.main (F := Ideal))) ⟨m, fun _ => 0, g⟩ (fun r => (∀ c : Dev Cert.ReferenceWOutIdeal.nD,
      r.2.mem ((c.tc : Thread Cert.ReferenceWOutIdeal.nD Cert.ReferenceWOutIdeal.τ).loc Cert.ReferenceWOutIdeal.main_arg0) = m ((c.tc : Thread Cert.ReferenceWOutIdeal.nD Cert.ReferenceWOutIdeal.τ).loc Cert.ReferenceWOutIdeal.main_arg0)
      ∧ r.2.mem ((c.tc : Thread Cert.ReferenceWOutIdeal.nD Cert.ReferenceWOutIdeal.τ).loc Cert.ReferenceWOutIdeal.main_arg1) = m ((c.tc : Thread Cert.ReferenceWOutIdeal.nD Cert.ReferenceWOutIdeal.τ).loc Cert.ReferenceWOutIdeal.main_arg1))
      ∧ r.2.sem = fun _ => 0)

def quiescent_KernelXOut [hKernelXOut : Cert.KernelXOut.Facts] : Prop :=
  ∀ (m : (ℓ : Loc Cert.KernelXOut.nD Cert.KernelXOut.τ Cert.KernelXOut.sig) → Buf (Elt Bits) ℓ) (g : Dev Cert.KernelXOut.nD → PrngReg), Pre_KernelXOut m →
    θ_run (Cert.KernelXOut.defs (F := Bits)) (onTc (τ := Cert.KernelXOut.τ) (Cert.KernelXOut.main (F := Bits))) ⟨m, fun _ => 0, g⟩ (fun r => (∀ c : Dev Cert.KernelXOut.nD,
      r.2.mem ((c.tc : Thread Cert.KernelXOut.nD Cert.KernelXOut.τ).loc Cert.KernelXOut.main_arg0) = m ((c.tc : Thread Cert.KernelXOut.nD Cert.KernelXOut.τ).loc Cert.KernelXOut.main_arg0)
      ∧ r.2.mem ((c.tc : Thread Cert.KernelXOut.nD Cert.KernelXOut.τ).loc Cert.KernelXOut.main_arg1) = m ((c.tc : Thread Cert.KernelXOut.nD Cert.KernelXOut.τ).loc Cert.KernelXOut.main_arg1))
      ∧ r.2.sem = fun _ => 0)

def quiescent_KernelXOutIdeal [hKernelXOutIdeal : Cert.KernelXOutIdeal.Facts] : Prop :=
  ∀ (m : (ℓ : Loc Cert.KernelXOutIdeal.nD Cert.KernelXOutIdeal.τ Cert.KernelXOutIdeal.sig) → Buf (Elt Ideal) ℓ) (g : Dev Cert.KernelXOutIdeal.nD → PrngReg), Pre_KernelXOutIdeal m →
    θ_run (Cert.KernelXOutIdeal.defs (F := Ideal)) (onTc (τ := Cert.KernelXOutIdeal.τ) (Cert.KernelXOutIdeal.main (F := Ideal))) ⟨m, fun _ => 0, g⟩ (fun r => (∀ c : Dev Cert.KernelXOutIdeal.nD,
      r.2.mem ((c.tc : Thread Cert.KernelXOutIdeal.nD Cert.KernelXOutIdeal.τ).loc Cert.KernelXOutIdeal.main_arg0) = m ((c.tc : Thread Cert.KernelXOutIdeal.nD Cert.KernelXOutIdeal.τ).loc Cert.KernelXOutIdeal.main_arg0)
      ∧ r.2.mem ((c.tc : Thread Cert.KernelXOutIdeal.nD Cert.KernelXOutIdeal.τ).loc Cert.KernelXOutIdeal.main_arg1) = m ((c.tc : Thread Cert.KernelXOutIdeal.nD Cert.KernelXOutIdeal.τ).loc Cert.KernelXOutIdeal.main_arg1))
      ∧ r.2.sem = fun _ => 0)

def quiescent_ReferenceXOutIdeal [hReferenceXOutIdeal : Cert.ReferenceXOutIdeal.Facts] : Prop :=
  ∀ (m : (ℓ : Loc Cert.ReferenceXOutIdeal.nD Cert.ReferenceXOutIdeal.τ Cert.ReferenceXOutIdeal.sig) → Buf (Elt Ideal) ℓ) (g : Dev Cert.ReferenceXOutIdeal.nD → PrngReg), Pre_ReferenceXOutIdeal m →
    θ_run (Cert.ReferenceXOutIdeal.defs (F := Ideal)) (onTc (τ := Cert.ReferenceXOutIdeal.τ) (Cert.ReferenceXOutIdeal.main (F := Ideal))) ⟨m, fun _ => 0, g⟩ (fun r => (∀ c : Dev Cert.ReferenceXOutIdeal.nD,
      r.2.mem ((c.tc : Thread Cert.ReferenceXOutIdeal.nD Cert.ReferenceXOutIdeal.τ).loc Cert.ReferenceXOutIdeal.main_arg0) = m ((c.tc : Thread Cert.ReferenceXOutIdeal.nD Cert.ReferenceXOutIdeal.τ).loc Cert.ReferenceXOutIdeal.main_arg0)
      ∧ r.2.mem ((c.tc : Thread Cert.ReferenceXOutIdeal.nD Cert.ReferenceXOutIdeal.τ).loc Cert.ReferenceXOutIdeal.main_arg1) = m ((c.tc : Thread Cert.ReferenceXOutIdeal.nD Cert.ReferenceXOutIdeal.τ).loc Cert.ReferenceXOutIdeal.main_arg1))
      ∧ r.2.sem = fun _ => 0)

def quiescent_KernelXProj [hKernelXProj : Cert.KernelXProj.Facts] : Prop :=
  ∀ (m : (ℓ : Loc Cert.KernelXProj.nD Cert.KernelXProj.τ Cert.KernelXProj.sig) → Buf (Elt Bits) ℓ) (g : Dev Cert.KernelXProj.nD → PrngReg), Pre_KernelXProj m →
    θ_run (Cert.KernelXProj.defs (F := Bits)) (onTc (τ := Cert.KernelXProj.τ) (Cert.KernelXProj.main (F := Bits))) ⟨m, fun _ => 0, g⟩ (fun r => (∀ c : Dev Cert.KernelXProj.nD,
      r.2.mem ((c.tc : Thread Cert.KernelXProj.nD Cert.KernelXProj.τ).loc Cert.KernelXProj.main_arg0) = m ((c.tc : Thread Cert.KernelXProj.nD Cert.KernelXProj.τ).loc Cert.KernelXProj.main_arg0)
      ∧ r.2.mem ((c.tc : Thread Cert.KernelXProj.nD Cert.KernelXProj.τ).loc Cert.KernelXProj.main_arg1) = m ((c.tc : Thread Cert.KernelXProj.nD Cert.KernelXProj.τ).loc Cert.KernelXProj.main_arg1))
      ∧ r.2.sem = fun _ => 0)

def quiescent_KernelXProjIdeal [hKernelXProjIdeal : Cert.KernelXProjIdeal.Facts] : Prop :=
  ∀ (m : (ℓ : Loc Cert.KernelXProjIdeal.nD Cert.KernelXProjIdeal.τ Cert.KernelXProjIdeal.sig) → Buf (Elt Ideal) ℓ) (g : Dev Cert.KernelXProjIdeal.nD → PrngReg), Pre_KernelXProjIdeal m →
    θ_run (Cert.KernelXProjIdeal.defs (F := Ideal)) (onTc (τ := Cert.KernelXProjIdeal.τ) (Cert.KernelXProjIdeal.main (F := Ideal))) ⟨m, fun _ => 0, g⟩ (fun r => (∀ c : Dev Cert.KernelXProjIdeal.nD,
      r.2.mem ((c.tc : Thread Cert.KernelXProjIdeal.nD Cert.KernelXProjIdeal.τ).loc Cert.KernelXProjIdeal.main_arg0) = m ((c.tc : Thread Cert.KernelXProjIdeal.nD Cert.KernelXProjIdeal.τ).loc Cert.KernelXProjIdeal.main_arg0)
      ∧ r.2.mem ((c.tc : Thread Cert.KernelXProjIdeal.nD Cert.KernelXProjIdeal.τ).loc Cert.KernelXProjIdeal.main_arg1) = m ((c.tc : Thread Cert.KernelXProjIdeal.nD Cert.KernelXProjIdeal.τ).loc Cert.KernelXProjIdeal.main_arg1))
      ∧ r.2.sem = fun _ => 0)

def quiescent_ReferenceXProjIdeal [hReferenceXProjIdeal : Cert.ReferenceXProjIdeal.Facts] : Prop :=
  ∀ (m : (ℓ : Loc Cert.ReferenceXProjIdeal.nD Cert.ReferenceXProjIdeal.τ Cert.ReferenceXProjIdeal.sig) → Buf (Elt Ideal) ℓ) (g : Dev Cert.ReferenceXProjIdeal.nD → PrngReg), Pre_ReferenceXProjIdeal m →
    θ_run (Cert.ReferenceXProjIdeal.defs (F := Ideal)) (onTc (τ := Cert.ReferenceXProjIdeal.τ) (Cert.ReferenceXProjIdeal.main (F := Ideal))) ⟨m, fun _ => 0, g⟩ (fun r => (∀ c : Dev Cert.ReferenceXProjIdeal.nD,
      r.2.mem ((c.tc : Thread Cert.ReferenceXProjIdeal.nD Cert.ReferenceXProjIdeal.τ).loc Cert.ReferenceXProjIdeal.main_arg0) = m ((c.tc : Thread Cert.ReferenceXProjIdeal.nD Cert.ReferenceXProjIdeal.τ).loc Cert.ReferenceXProjIdeal.main_arg0)
      ∧ r.2.mem ((c.tc : Thread Cert.ReferenceXProjIdeal.nD Cert.ReferenceXProjIdeal.τ).loc Cert.ReferenceXProjIdeal.main_arg1) = m ((c.tc : Thread Cert.ReferenceXProjIdeal.nD Cert.ReferenceXProjIdeal.τ).loc Cert.ReferenceXProjIdeal.main_arg1))
      ∧ r.2.sem = fun _ => 0)

def quiescent_KernelWUq [hKernelWUq : Cert.KernelWUq.Facts] : Prop :=
  ∀ (m : (ℓ : Loc Cert.KernelWUq.nD Cert.KernelWUq.τ Cert.KernelWUq.sig) → Buf (Elt Bits) ℓ) (g : Dev Cert.KernelWUq.nD → PrngReg), Pre_KernelWUq m →
    θ_run (Cert.KernelWUq.defs (F := Bits)) (onTc (τ := Cert.KernelWUq.τ) (Cert.KernelWUq.main (F := Bits))) ⟨m, fun _ => 0, g⟩ (fun r => (∀ c : Dev Cert.KernelWUq.nD,
      r.2.mem ((c.tc : Thread Cert.KernelWUq.nD Cert.KernelWUq.τ).loc Cert.KernelWUq.main_arg0) = m ((c.tc : Thread Cert.KernelWUq.nD Cert.KernelWUq.τ).loc Cert.KernelWUq.main_arg0)
      ∧ r.2.mem ((c.tc : Thread Cert.KernelWUq.nD Cert.KernelWUq.τ).loc Cert.KernelWUq.main_arg1) = m ((c.tc : Thread Cert.KernelWUq.nD Cert.KernelWUq.τ).loc Cert.KernelWUq.main_arg1))
      ∧ r.2.sem = fun _ => 0)

def quiescent_KernelWUqIdeal [hKernelWUqIdeal : Cert.KernelWUqIdeal.Facts] : Prop :=
  ∀ (m : (ℓ : Loc Cert.KernelWUqIdeal.nD Cert.KernelWUqIdeal.τ Cert.KernelWUqIdeal.sig) → Buf (Elt Ideal) ℓ) (g : Dev Cert.KernelWUqIdeal.nD → PrngReg), Pre_KernelWUqIdeal m →
    θ_run (Cert.KernelWUqIdeal.defs (F := Ideal)) (onTc (τ := Cert.KernelWUqIdeal.τ) (Cert.KernelWUqIdeal.main (F := Ideal))) ⟨m, fun _ => 0, g⟩ (fun r => (∀ c : Dev Cert.KernelWUqIdeal.nD,
      r.2.mem ((c.tc : Thread Cert.KernelWUqIdeal.nD Cert.KernelWUqIdeal.τ).loc Cert.KernelWUqIdeal.main_arg0) = m ((c.tc : Thread Cert.KernelWUqIdeal.nD Cert.KernelWUqIdeal.τ).loc Cert.KernelWUqIdeal.main_arg0)
      ∧ r.2.mem ((c.tc : Thread Cert.KernelWUqIdeal.nD Cert.KernelWUqIdeal.τ).loc Cert.KernelWUqIdeal.main_arg1) = m ((c.tc : Thread Cert.KernelWUqIdeal.nD Cert.KernelWUqIdeal.τ).loc Cert.KernelWUqIdeal.main_arg1))
      ∧ r.2.sem = fun _ => 0)

def quiescent_ReferenceWUqIdeal [hReferenceWUqIdeal : Cert.ReferenceWUqIdeal.Facts] : Prop :=
  ∀ (m : (ℓ : Loc Cert.ReferenceWUqIdeal.nD Cert.ReferenceWUqIdeal.τ Cert.ReferenceWUqIdeal.sig) → Buf (Elt Ideal) ℓ) (g : Dev Cert.ReferenceWUqIdeal.nD → PrngReg), Pre_ReferenceWUqIdeal m →
    θ_run (Cert.ReferenceWUqIdeal.defs (F := Ideal)) (onTc (τ := Cert.ReferenceWUqIdeal.τ) (Cert.ReferenceWUqIdeal.main (F := Ideal))) ⟨m, fun _ => 0, g⟩ (fun r => (∀ c : Dev Cert.ReferenceWUqIdeal.nD,
      r.2.mem ((c.tc : Thread Cert.ReferenceWUqIdeal.nD Cert.ReferenceWUqIdeal.τ).loc Cert.ReferenceWUqIdeal.main_arg0) = m ((c.tc : Thread Cert.ReferenceWUqIdeal.nD Cert.ReferenceWUqIdeal.τ).loc Cert.ReferenceWUqIdeal.main_arg0)
      ∧ r.2.mem ((c.tc : Thread Cert.ReferenceWUqIdeal.nD Cert.ReferenceWUqIdeal.τ).loc Cert.ReferenceWUqIdeal.main_arg1) = m ((c.tc : Thread Cert.ReferenceWUqIdeal.nD Cert.ReferenceWUqIdeal.τ).loc Cert.ReferenceWUqIdeal.main_arg1))
      ∧ r.2.sem = fun _ => 0)

def quiescent_KernelXUq [hKernelXUq : Cert.KernelXUq.Facts] : Prop :=
  ∀ (m : (ℓ : Loc Cert.KernelXUq.nD Cert.KernelXUq.τ Cert.KernelXUq.sig) → Buf (Elt Bits) ℓ) (g : Dev Cert.KernelXUq.nD → PrngReg), Pre_KernelXUq m →
    θ_run (Cert.KernelXUq.defs (F := Bits)) (onTc (τ := Cert.KernelXUq.τ) (Cert.KernelXUq.main (F := Bits))) ⟨m, fun _ => 0, g⟩ (fun r => (∀ c : Dev Cert.KernelXUq.nD,
      r.2.mem ((c.tc : Thread Cert.KernelXUq.nD Cert.KernelXUq.τ).loc Cert.KernelXUq.main_arg0) = m ((c.tc : Thread Cert.KernelXUq.nD Cert.KernelXUq.τ).loc Cert.KernelXUq.main_arg0)
      ∧ r.2.mem ((c.tc : Thread Cert.KernelXUq.nD Cert.KernelXUq.τ).loc Cert.KernelXUq.main_arg1) = m ((c.tc : Thread Cert.KernelXUq.nD Cert.KernelXUq.τ).loc Cert.KernelXUq.main_arg1))
      ∧ r.2.sem = fun _ => 0)

def quiescent_KernelXUqIdeal [hKernelXUqIdeal : Cert.KernelXUqIdeal.Facts] : Prop :=
  ∀ (m : (ℓ : Loc Cert.KernelXUqIdeal.nD Cert.KernelXUqIdeal.τ Cert.KernelXUqIdeal.sig) → Buf (Elt Ideal) ℓ) (g : Dev Cert.KernelXUqIdeal.nD → PrngReg), Pre_KernelXUqIdeal m →
    θ_run (Cert.KernelXUqIdeal.defs (F := Ideal)) (onTc (τ := Cert.KernelXUqIdeal.τ) (Cert.KernelXUqIdeal.main (F := Ideal))) ⟨m, fun _ => 0, g⟩ (fun r => (∀ c : Dev Cert.KernelXUqIdeal.nD,
      r.2.mem ((c.tc : Thread Cert.KernelXUqIdeal.nD Cert.KernelXUqIdeal.τ).loc Cert.KernelXUqIdeal.main_arg0) = m ((c.tc : Thread Cert.KernelXUqIdeal.nD Cert.KernelXUqIdeal.τ).loc Cert.KernelXUqIdeal.main_arg0)
      ∧ r.2.mem ((c.tc : Thread Cert.KernelXUqIdeal.nD Cert.KernelXUqIdeal.τ).loc Cert.KernelXUqIdeal.main_arg1) = m ((c.tc : Thread Cert.KernelXUqIdeal.nD Cert.KernelXUqIdeal.τ).loc Cert.KernelXUqIdeal.main_arg1))
      ∧ r.2.sem = fun _ => 0)

def quiescent_ReferenceXUqIdeal [hReferenceXUqIdeal : Cert.ReferenceXUqIdeal.Facts] : Prop :=
  ∀ (m : (ℓ : Loc Cert.ReferenceXUqIdeal.nD Cert.ReferenceXUqIdeal.τ Cert.ReferenceXUqIdeal.sig) → Buf (Elt Ideal) ℓ) (g : Dev Cert.ReferenceXUqIdeal.nD → PrngReg), Pre_ReferenceXUqIdeal m →
    θ_run (Cert.ReferenceXUqIdeal.defs (F := Ideal)) (onTc (τ := Cert.ReferenceXUqIdeal.τ) (Cert.ReferenceXUqIdeal.main (F := Ideal))) ⟨m, fun _ => 0, g⟩ (fun r => (∀ c : Dev Cert.ReferenceXUqIdeal.nD,
      r.2.mem ((c.tc : Thread Cert.ReferenceXUqIdeal.nD Cert.ReferenceXUqIdeal.τ).loc Cert.ReferenceXUqIdeal.main_arg0) = m ((c.tc : Thread Cert.ReferenceXUqIdeal.nD Cert.ReferenceXUqIdeal.τ).loc Cert.ReferenceXUqIdeal.main_arg0)
      ∧ r.2.mem ((c.tc : Thread Cert.ReferenceXUqIdeal.nD Cert.ReferenceXUqIdeal.τ).loc Cert.ReferenceXUqIdeal.main_arg1) = m ((c.tc : Thread Cert.ReferenceXUqIdeal.nD Cert.ReferenceXUqIdeal.τ).loc Cert.ReferenceXUqIdeal.main_arg1))
      ∧ r.2.sem = fun _ => 0)

def quiescent_KernelWUkv [hKernelWUkv : Cert.KernelWUkv.Facts] : Prop :=
  ∀ (m : (ℓ : Loc Cert.KernelWUkv.nD Cert.KernelWUkv.τ Cert.KernelWUkv.sig) → Buf (Elt Bits) ℓ) (g : Dev Cert.KernelWUkv.nD → PrngReg), Pre_KernelWUkv m →
    θ_run (Cert.KernelWUkv.defs (F := Bits)) (onTc (τ := Cert.KernelWUkv.τ) (Cert.KernelWUkv.main (F := Bits))) ⟨m, fun _ => 0, g⟩ (fun r => (∀ c : Dev Cert.KernelWUkv.nD,
      r.2.mem ((c.tc : Thread Cert.KernelWUkv.nD Cert.KernelWUkv.τ).loc Cert.KernelWUkv.main_arg0) = m ((c.tc : Thread Cert.KernelWUkv.nD Cert.KernelWUkv.τ).loc Cert.KernelWUkv.main_arg0)
      ∧ r.2.mem ((c.tc : Thread Cert.KernelWUkv.nD Cert.KernelWUkv.τ).loc Cert.KernelWUkv.main_arg1) = m ((c.tc : Thread Cert.KernelWUkv.nD Cert.KernelWUkv.τ).loc Cert.KernelWUkv.main_arg1))
      ∧ r.2.sem = fun _ => 0)

def quiescent_KernelWUkvIdeal [hKernelWUkvIdeal : Cert.KernelWUkvIdeal.Facts] : Prop :=
  ∀ (m : (ℓ : Loc Cert.KernelWUkvIdeal.nD Cert.KernelWUkvIdeal.τ Cert.KernelWUkvIdeal.sig) → Buf (Elt Ideal) ℓ) (g : Dev Cert.KernelWUkvIdeal.nD → PrngReg), Pre_KernelWUkvIdeal m →
    θ_run (Cert.KernelWUkvIdeal.defs (F := Ideal)) (onTc (τ := Cert.KernelWUkvIdeal.τ) (Cert.KernelWUkvIdeal.main (F := Ideal))) ⟨m, fun _ => 0, g⟩ (fun r => (∀ c : Dev Cert.KernelWUkvIdeal.nD,
      r.2.mem ((c.tc : Thread Cert.KernelWUkvIdeal.nD Cert.KernelWUkvIdeal.τ).loc Cert.KernelWUkvIdeal.main_arg0) = m ((c.tc : Thread Cert.KernelWUkvIdeal.nD Cert.KernelWUkvIdeal.τ).loc Cert.KernelWUkvIdeal.main_arg0)
      ∧ r.2.mem ((c.tc : Thread Cert.KernelWUkvIdeal.nD Cert.KernelWUkvIdeal.τ).loc Cert.KernelWUkvIdeal.main_arg1) = m ((c.tc : Thread Cert.KernelWUkvIdeal.nD Cert.KernelWUkvIdeal.τ).loc Cert.KernelWUkvIdeal.main_arg1))
      ∧ r.2.sem = fun _ => 0)

def quiescent_ReferenceWUkvIdeal [hReferenceWUkvIdeal : Cert.ReferenceWUkvIdeal.Facts] : Prop :=
  ∀ (m : (ℓ : Loc Cert.ReferenceWUkvIdeal.nD Cert.ReferenceWUkvIdeal.τ Cert.ReferenceWUkvIdeal.sig) → Buf (Elt Ideal) ℓ) (g : Dev Cert.ReferenceWUkvIdeal.nD → PrngReg), Pre_ReferenceWUkvIdeal m →
    θ_run (Cert.ReferenceWUkvIdeal.defs (F := Ideal)) (onTc (τ := Cert.ReferenceWUkvIdeal.τ) (Cert.ReferenceWUkvIdeal.main (F := Ideal))) ⟨m, fun _ => 0, g⟩ (fun r => (∀ c : Dev Cert.ReferenceWUkvIdeal.nD,
      r.2.mem ((c.tc : Thread Cert.ReferenceWUkvIdeal.nD Cert.ReferenceWUkvIdeal.τ).loc Cert.ReferenceWUkvIdeal.main_arg0) = m ((c.tc : Thread Cert.ReferenceWUkvIdeal.nD Cert.ReferenceWUkvIdeal.τ).loc Cert.ReferenceWUkvIdeal.main_arg0)
      ∧ r.2.mem ((c.tc : Thread Cert.ReferenceWUkvIdeal.nD Cert.ReferenceWUkvIdeal.τ).loc Cert.ReferenceWUkvIdeal.main_arg1) = m ((c.tc : Thread Cert.ReferenceWUkvIdeal.nD Cert.ReferenceWUkvIdeal.τ).loc Cert.ReferenceWUkvIdeal.main_arg1))
      ∧ r.2.sem = fun _ => 0)

def quiescent_KernelXUkv [hKernelXUkv : Cert.KernelXUkv.Facts] : Prop :=
  ∀ (m : (ℓ : Loc Cert.KernelXUkv.nD Cert.KernelXUkv.τ Cert.KernelXUkv.sig) → Buf (Elt Bits) ℓ) (g : Dev Cert.KernelXUkv.nD → PrngReg), Pre_KernelXUkv m →
    θ_run (Cert.KernelXUkv.defs (F := Bits)) (onTc (τ := Cert.KernelXUkv.τ) (Cert.KernelXUkv.main (F := Bits))) ⟨m, fun _ => 0, g⟩ (fun r => (∀ c : Dev Cert.KernelXUkv.nD,
      r.2.mem ((c.tc : Thread Cert.KernelXUkv.nD Cert.KernelXUkv.τ).loc Cert.KernelXUkv.main_arg0) = m ((c.tc : Thread Cert.KernelXUkv.nD Cert.KernelXUkv.τ).loc Cert.KernelXUkv.main_arg0)
      ∧ r.2.mem ((c.tc : Thread Cert.KernelXUkv.nD Cert.KernelXUkv.τ).loc Cert.KernelXUkv.main_arg1) = m ((c.tc : Thread Cert.KernelXUkv.nD Cert.KernelXUkv.τ).loc Cert.KernelXUkv.main_arg1))
      ∧ r.2.sem = fun _ => 0)

def quiescent_KernelXUkvIdeal [hKernelXUkvIdeal : Cert.KernelXUkvIdeal.Facts] : Prop :=
  ∀ (m : (ℓ : Loc Cert.KernelXUkvIdeal.nD Cert.KernelXUkvIdeal.τ Cert.KernelXUkvIdeal.sig) → Buf (Elt Ideal) ℓ) (g : Dev Cert.KernelXUkvIdeal.nD → PrngReg), Pre_KernelXUkvIdeal m →
    θ_run (Cert.KernelXUkvIdeal.defs (F := Ideal)) (onTc (τ := Cert.KernelXUkvIdeal.τ) (Cert.KernelXUkvIdeal.main (F := Ideal))) ⟨m, fun _ => 0, g⟩ (fun r => (∀ c : Dev Cert.KernelXUkvIdeal.nD,
      r.2.mem ((c.tc : Thread Cert.KernelXUkvIdeal.nD Cert.KernelXUkvIdeal.τ).loc Cert.KernelXUkvIdeal.main_arg0) = m ((c.tc : Thread Cert.KernelXUkvIdeal.nD Cert.KernelXUkvIdeal.τ).loc Cert.KernelXUkvIdeal.main_arg0)
      ∧ r.2.mem ((c.tc : Thread Cert.KernelXUkvIdeal.nD Cert.KernelXUkvIdeal.τ).loc Cert.KernelXUkvIdeal.main_arg1) = m ((c.tc : Thread Cert.KernelXUkvIdeal.nD Cert.KernelXUkvIdeal.τ).loc Cert.KernelXUkvIdeal.main_arg1))
      ∧ r.2.sem = fun _ => 0)

def quiescent_ReferenceXUkvIdeal [hReferenceXUkvIdeal : Cert.ReferenceXUkvIdeal.Facts] : Prop :=
  ∀ (m : (ℓ : Loc Cert.ReferenceXUkvIdeal.nD Cert.ReferenceXUkvIdeal.τ Cert.ReferenceXUkvIdeal.sig) → Buf (Elt Ideal) ℓ) (g : Dev Cert.ReferenceXUkvIdeal.nD → PrngReg), Pre_ReferenceXUkvIdeal m →
    θ_run (Cert.ReferenceXUkvIdeal.defs (F := Ideal)) (onTc (τ := Cert.ReferenceXUkvIdeal.τ) (Cert.ReferenceXUkvIdeal.main (F := Ideal))) ⟨m, fun _ => 0, g⟩ (fun r => (∀ c : Dev Cert.ReferenceXUkvIdeal.nD,
      r.2.mem ((c.tc : Thread Cert.ReferenceXUkvIdeal.nD Cert.ReferenceXUkvIdeal.τ).loc Cert.ReferenceXUkvIdeal.main_arg0) = m ((c.tc : Thread Cert.ReferenceXUkvIdeal.nD Cert.ReferenceXUkvIdeal.τ).loc Cert.ReferenceXUkvIdeal.main_arg0)
      ∧ r.2.mem ((c.tc : Thread Cert.ReferenceXUkvIdeal.nD Cert.ReferenceXUkvIdeal.τ).loc Cert.ReferenceXUkvIdeal.main_arg1) = m ((c.tc : Thread Cert.ReferenceXUkvIdeal.nD Cert.ReferenceXUkvIdeal.τ).loc Cert.ReferenceXUkvIdeal.main_arg1))
      ∧ r.2.sem = fun _ => 0)

def quiescent_KernelFInProj [hKernelFInProj : Cert.KernelFInProj.Facts] : Prop :=
  ∀ (m : (ℓ : Loc Cert.KernelFInProj.nD Cert.KernelFInProj.τ Cert.KernelFInProj.sig) → Buf (Elt Bits) ℓ) (g : Dev Cert.KernelFInProj.nD → PrngReg), Pre_KernelFInProj m →
    θ_run (Cert.KernelFInProj.defs (F := Bits)) (onTc (τ := Cert.KernelFInProj.τ) (Cert.KernelFInProj.main (F := Bits))) ⟨m, fun _ => 0, g⟩ (fun r => (∀ c : Dev Cert.KernelFInProj.nD,
      r.2.mem ((c.tc : Thread Cert.KernelFInProj.nD Cert.KernelFInProj.τ).loc Cert.KernelFInProj.main_arg0) = m ((c.tc : Thread Cert.KernelFInProj.nD Cert.KernelFInProj.τ).loc Cert.KernelFInProj.main_arg0)
      ∧ r.2.mem ((c.tc : Thread Cert.KernelFInProj.nD Cert.KernelFInProj.τ).loc Cert.KernelFInProj.main_arg1) = m ((c.tc : Thread Cert.KernelFInProj.nD Cert.KernelFInProj.τ).loc Cert.KernelFInProj.main_arg1))
      ∧ r.2.sem = fun _ => 0)

def quiescent_KernelFInProjIdeal [hKernelFInProjIdeal : Cert.KernelFInProjIdeal.Facts] : Prop :=
  ∀ (m : (ℓ : Loc Cert.KernelFInProjIdeal.nD Cert.KernelFInProjIdeal.τ Cert.KernelFInProjIdeal.sig) → Buf (Elt Ideal) ℓ) (g : Dev Cert.KernelFInProjIdeal.nD → PrngReg), Pre_KernelFInProjIdeal m →
    θ_run (Cert.KernelFInProjIdeal.defs (F := Ideal)) (onTc (τ := Cert.KernelFInProjIdeal.τ) (Cert.KernelFInProjIdeal.main (F := Ideal))) ⟨m, fun _ => 0, g⟩ (fun r => (∀ c : Dev Cert.KernelFInProjIdeal.nD,
      r.2.mem ((c.tc : Thread Cert.KernelFInProjIdeal.nD Cert.KernelFInProjIdeal.τ).loc Cert.KernelFInProjIdeal.main_arg0) = m ((c.tc : Thread Cert.KernelFInProjIdeal.nD Cert.KernelFInProjIdeal.τ).loc Cert.KernelFInProjIdeal.main_arg0)
      ∧ r.2.mem ((c.tc : Thread Cert.KernelFInProjIdeal.nD Cert.KernelFInProjIdeal.τ).loc Cert.KernelFInProjIdeal.main_arg1) = m ((c.tc : Thread Cert.KernelFInProjIdeal.nD Cert.KernelFInProjIdeal.τ).loc Cert.KernelFInProjIdeal.main_arg1))
      ∧ r.2.sem = fun _ => 0)

def quiescent_ReferenceFInProjIdeal [hReferenceFInProjIdeal : Cert.ReferenceFInProjIdeal.Facts] : Prop :=
  ∀ (m : (ℓ : Loc Cert.ReferenceFInProjIdeal.nD Cert.ReferenceFInProjIdeal.τ Cert.ReferenceFInProjIdeal.sig) → Buf (Elt Ideal) ℓ) (g : Dev Cert.ReferenceFInProjIdeal.nD → PrngReg), Pre_ReferenceFInProjIdeal m →
    θ_run (Cert.ReferenceFInProjIdeal.defs (F := Ideal)) (onTc (τ := Cert.ReferenceFInProjIdeal.τ) (Cert.ReferenceFInProjIdeal.main (F := Ideal))) ⟨m, fun _ => 0, g⟩ (fun r => (∀ c : Dev Cert.ReferenceFInProjIdeal.nD,
      r.2.mem ((c.tc : Thread Cert.ReferenceFInProjIdeal.nD Cert.ReferenceFInProjIdeal.τ).loc Cert.ReferenceFInProjIdeal.main_arg0) = m ((c.tc : Thread Cert.ReferenceFInProjIdeal.nD Cert.ReferenceFInProjIdeal.τ).loc Cert.ReferenceFInProjIdeal.main_arg0)
      ∧ r.2.mem ((c.tc : Thread Cert.ReferenceFInProjIdeal.nD Cert.ReferenceFInProjIdeal.τ).loc Cert.ReferenceFInProjIdeal.main_arg1) = m ((c.tc : Thread Cert.ReferenceFInProjIdeal.nD Cert.ReferenceFInProjIdeal.τ).loc Cert.ReferenceFInProjIdeal.main_arg1))
      ∧ r.2.sem = fun _ => 0)

def quiescent_KernelFFfnIn [hKernelFFfnIn : Cert.KernelFFfnIn.Facts] : Prop :=
  ∀ (m : (ℓ : Loc Cert.KernelFFfnIn.nD Cert.KernelFFfnIn.τ Cert.KernelFFfnIn.sig) → Buf (Elt Bits) ℓ) (g : Dev Cert.KernelFFfnIn.nD → PrngReg), Pre_KernelFFfnIn m →
    θ_run (Cert.KernelFFfnIn.defs (F := Bits)) (onTc (τ := Cert.KernelFFfnIn.τ) (Cert.KernelFFfnIn.main (F := Bits))) ⟨m, fun _ => 0, g⟩ (fun r => (∀ c : Dev Cert.KernelFFfnIn.nD,
      r.2.mem ((c.tc : Thread Cert.KernelFFfnIn.nD Cert.KernelFFfnIn.τ).loc Cert.KernelFFfnIn.main_arg0) = m ((c.tc : Thread Cert.KernelFFfnIn.nD Cert.KernelFFfnIn.τ).loc Cert.KernelFFfnIn.main_arg0)
      ∧ r.2.mem ((c.tc : Thread Cert.KernelFFfnIn.nD Cert.KernelFFfnIn.τ).loc Cert.KernelFFfnIn.main_arg1) = m ((c.tc : Thread Cert.KernelFFfnIn.nD Cert.KernelFFfnIn.τ).loc Cert.KernelFFfnIn.main_arg1))
      ∧ r.2.sem = fun _ => 0)

def quiescent_KernelFFfnInIdeal [hKernelFFfnInIdeal : Cert.KernelFFfnInIdeal.Facts] : Prop :=
  ∀ (m : (ℓ : Loc Cert.KernelFFfnInIdeal.nD Cert.KernelFFfnInIdeal.τ Cert.KernelFFfnInIdeal.sig) → Buf (Elt Ideal) ℓ) (g : Dev Cert.KernelFFfnInIdeal.nD → PrngReg), Pre_KernelFFfnInIdeal m →
    θ_run (Cert.KernelFFfnInIdeal.defs (F := Ideal)) (onTc (τ := Cert.KernelFFfnInIdeal.τ) (Cert.KernelFFfnInIdeal.main (F := Ideal))) ⟨m, fun _ => 0, g⟩ (fun r => (∀ c : Dev Cert.KernelFFfnInIdeal.nD,
      r.2.mem ((c.tc : Thread Cert.KernelFFfnInIdeal.nD Cert.KernelFFfnInIdeal.τ).loc Cert.KernelFFfnInIdeal.main_arg0) = m ((c.tc : Thread Cert.KernelFFfnInIdeal.nD Cert.KernelFFfnInIdeal.τ).loc Cert.KernelFFfnInIdeal.main_arg0)
      ∧ r.2.mem ((c.tc : Thread Cert.KernelFFfnInIdeal.nD Cert.KernelFFfnInIdeal.τ).loc Cert.KernelFFfnInIdeal.main_arg1) = m ((c.tc : Thread Cert.KernelFFfnInIdeal.nD Cert.KernelFFfnInIdeal.τ).loc Cert.KernelFFfnInIdeal.main_arg1))
      ∧ r.2.sem = fun _ => 0)

def quiescent_ReferenceFFfnInIdeal [hReferenceFFfnInIdeal : Cert.ReferenceFFfnInIdeal.Facts] : Prop :=
  ∀ (m : (ℓ : Loc Cert.ReferenceFFfnInIdeal.nD Cert.ReferenceFFfnInIdeal.τ Cert.ReferenceFFfnInIdeal.sig) → Buf (Elt Ideal) ℓ) (g : Dev Cert.ReferenceFFfnInIdeal.nD → PrngReg), Pre_ReferenceFFfnInIdeal m →
    θ_run (Cert.ReferenceFFfnInIdeal.defs (F := Ideal)) (onTc (τ := Cert.ReferenceFFfnInIdeal.τ) (Cert.ReferenceFFfnInIdeal.main (F := Ideal))) ⟨m, fun _ => 0, g⟩ (fun r => (∀ c : Dev Cert.ReferenceFFfnInIdeal.nD,
      r.2.mem ((c.tc : Thread Cert.ReferenceFFfnInIdeal.nD Cert.ReferenceFFfnInIdeal.τ).loc Cert.ReferenceFFfnInIdeal.main_arg0) = m ((c.tc : Thread Cert.ReferenceFFfnInIdeal.nD Cert.ReferenceFFfnInIdeal.τ).loc Cert.ReferenceFFfnInIdeal.main_arg0)
      ∧ r.2.mem ((c.tc : Thread Cert.ReferenceFFfnInIdeal.nD Cert.ReferenceFFfnInIdeal.τ).loc Cert.ReferenceFFfnInIdeal.main_arg1) = m ((c.tc : Thread Cert.ReferenceFFfnInIdeal.nD Cert.ReferenceFFfnInIdeal.τ).loc Cert.ReferenceFFfnInIdeal.main_arg1))
      ∧ r.2.sem = fun _ => 0)

def quiescent_KernelFFfnOut [hKernelFFfnOut : Cert.KernelFFfnOut.Facts] : Prop :=
  ∀ (m : (ℓ : Loc Cert.KernelFFfnOut.nD Cert.KernelFFfnOut.τ Cert.KernelFFfnOut.sig) → Buf (Elt Bits) ℓ) (g : Dev Cert.KernelFFfnOut.nD → PrngReg), Pre_KernelFFfnOut m →
    θ_run (Cert.KernelFFfnOut.defs (F := Bits)) (onTc (τ := Cert.KernelFFfnOut.τ) (Cert.KernelFFfnOut.main (F := Bits))) ⟨m, fun _ => 0, g⟩ (fun r => (∀ c : Dev Cert.KernelFFfnOut.nD,
      r.2.mem ((c.tc : Thread Cert.KernelFFfnOut.nD Cert.KernelFFfnOut.τ).loc Cert.KernelFFfnOut.main_arg0) = m ((c.tc : Thread Cert.KernelFFfnOut.nD Cert.KernelFFfnOut.τ).loc Cert.KernelFFfnOut.main_arg0)
      ∧ r.2.mem ((c.tc : Thread Cert.KernelFFfnOut.nD Cert.KernelFFfnOut.τ).loc Cert.KernelFFfnOut.main_arg1) = m ((c.tc : Thread Cert.KernelFFfnOut.nD Cert.KernelFFfnOut.τ).loc Cert.KernelFFfnOut.main_arg1))
      ∧ r.2.sem = fun _ => 0)

def quiescent_KernelFFfnOutIdeal [hKernelFFfnOutIdeal : Cert.KernelFFfnOutIdeal.Facts] : Prop :=
  ∀ (m : (ℓ : Loc Cert.KernelFFfnOutIdeal.nD Cert.KernelFFfnOutIdeal.τ Cert.KernelFFfnOutIdeal.sig) → Buf (Elt Ideal) ℓ) (g : Dev Cert.KernelFFfnOutIdeal.nD → PrngReg), Pre_KernelFFfnOutIdeal m →
    θ_run (Cert.KernelFFfnOutIdeal.defs (F := Ideal)) (onTc (τ := Cert.KernelFFfnOutIdeal.τ) (Cert.KernelFFfnOutIdeal.main (F := Ideal))) ⟨m, fun _ => 0, g⟩ (fun r => (∀ c : Dev Cert.KernelFFfnOutIdeal.nD,
      r.2.mem ((c.tc : Thread Cert.KernelFFfnOutIdeal.nD Cert.KernelFFfnOutIdeal.τ).loc Cert.KernelFFfnOutIdeal.main_arg0) = m ((c.tc : Thread Cert.KernelFFfnOutIdeal.nD Cert.KernelFFfnOutIdeal.τ).loc Cert.KernelFFfnOutIdeal.main_arg0)
      ∧ r.2.mem ((c.tc : Thread Cert.KernelFFfnOutIdeal.nD Cert.KernelFFfnOutIdeal.τ).loc Cert.KernelFFfnOutIdeal.main_arg1) = m ((c.tc : Thread Cert.KernelFFfnOutIdeal.nD Cert.KernelFFfnOutIdeal.τ).loc Cert.KernelFFfnOutIdeal.main_arg1))
      ∧ r.2.sem = fun _ => 0)

def quiescent_ReferenceFFfnOutIdeal [hReferenceFFfnOutIdeal : Cert.ReferenceFFfnOutIdeal.Facts] : Prop :=
  ∀ (m : (ℓ : Loc Cert.ReferenceFFfnOutIdeal.nD Cert.ReferenceFFfnOutIdeal.τ Cert.ReferenceFFfnOutIdeal.sig) → Buf (Elt Ideal) ℓ) (g : Dev Cert.ReferenceFFfnOutIdeal.nD → PrngReg), Pre_ReferenceFFfnOutIdeal m →
    θ_run (Cert.ReferenceFFfnOutIdeal.defs (F := Ideal)) (onTc (τ := Cert.ReferenceFFfnOutIdeal.τ) (Cert.ReferenceFFfnOutIdeal.main (F := Ideal))) ⟨m, fun _ => 0, g⟩ (fun r => (∀ c : Dev Cert.ReferenceFFfnOutIdeal.nD,
      r.2.mem ((c.tc : Thread Cert.ReferenceFFfnOutIdeal.nD Cert.ReferenceFFfnOutIdeal.τ).loc Cert.ReferenceFFfnOutIdeal.main_arg0) = m ((c.tc : Thread Cert.ReferenceFFfnOutIdeal.nD Cert.ReferenceFFfnOutIdeal.τ).loc Cert.ReferenceFFfnOutIdeal.main_arg0)
      ∧ r.2.mem ((c.tc : Thread Cert.ReferenceFFfnOutIdeal.nD Cert.ReferenceFFfnOutIdeal.τ).loc Cert.ReferenceFFfnOutIdeal.main_arg1) = m ((c.tc : Thread Cert.ReferenceFFfnOutIdeal.nD Cert.ReferenceFFfnOutIdeal.τ).loc Cert.ReferenceFFfnOutIdeal.main_arg1))
      ∧ r.2.sem = fun _ => 0)

def quiescent_KernelFProj [hKernelFProj : Cert.KernelFProj.Facts] : Prop :=
  ∀ (m : (ℓ : Loc Cert.KernelFProj.nD Cert.KernelFProj.τ Cert.KernelFProj.sig) → Buf (Elt Bits) ℓ) (g : Dev Cert.KernelFProj.nD → PrngReg), Pre_KernelFProj m →
    θ_run (Cert.KernelFProj.defs (F := Bits)) (onTc (τ := Cert.KernelFProj.τ) (Cert.KernelFProj.main (F := Bits))) ⟨m, fun _ => 0, g⟩ (fun r => (∀ c : Dev Cert.KernelFProj.nD,
      r.2.mem ((c.tc : Thread Cert.KernelFProj.nD Cert.KernelFProj.τ).loc Cert.KernelFProj.main_arg0) = m ((c.tc : Thread Cert.KernelFProj.nD Cert.KernelFProj.τ).loc Cert.KernelFProj.main_arg0)
      ∧ r.2.mem ((c.tc : Thread Cert.KernelFProj.nD Cert.KernelFProj.τ).loc Cert.KernelFProj.main_arg1) = m ((c.tc : Thread Cert.KernelFProj.nD Cert.KernelFProj.τ).loc Cert.KernelFProj.main_arg1))
      ∧ r.2.sem = fun _ => 0)

def quiescent_KernelFProjIdeal [hKernelFProjIdeal : Cert.KernelFProjIdeal.Facts] : Prop :=
  ∀ (m : (ℓ : Loc Cert.KernelFProjIdeal.nD Cert.KernelFProjIdeal.τ Cert.KernelFProjIdeal.sig) → Buf (Elt Ideal) ℓ) (g : Dev Cert.KernelFProjIdeal.nD → PrngReg), Pre_KernelFProjIdeal m →
    θ_run (Cert.KernelFProjIdeal.defs (F := Ideal)) (onTc (τ := Cert.KernelFProjIdeal.τ) (Cert.KernelFProjIdeal.main (F := Ideal))) ⟨m, fun _ => 0, g⟩ (fun r => (∀ c : Dev Cert.KernelFProjIdeal.nD,
      r.2.mem ((c.tc : Thread Cert.KernelFProjIdeal.nD Cert.KernelFProjIdeal.τ).loc Cert.KernelFProjIdeal.main_arg0) = m ((c.tc : Thread Cert.KernelFProjIdeal.nD Cert.KernelFProjIdeal.τ).loc Cert.KernelFProjIdeal.main_arg0)
      ∧ r.2.mem ((c.tc : Thread Cert.KernelFProjIdeal.nD Cert.KernelFProjIdeal.τ).loc Cert.KernelFProjIdeal.main_arg1) = m ((c.tc : Thread Cert.KernelFProjIdeal.nD Cert.KernelFProjIdeal.τ).loc Cert.KernelFProjIdeal.main_arg1))
      ∧ r.2.sem = fun _ => 0)

def quiescent_ReferenceFProjIdeal [hReferenceFProjIdeal : Cert.ReferenceFProjIdeal.Facts] : Prop :=
  ∀ (m : (ℓ : Loc Cert.ReferenceFProjIdeal.nD Cert.ReferenceFProjIdeal.τ Cert.ReferenceFProjIdeal.sig) → Buf (Elt Ideal) ℓ) (g : Dev Cert.ReferenceFProjIdeal.nD → PrngReg), Pre_ReferenceFProjIdeal m →
    θ_run (Cert.ReferenceFProjIdeal.defs (F := Ideal)) (onTc (τ := Cert.ReferenceFProjIdeal.τ) (Cert.ReferenceFProjIdeal.main (F := Ideal))) ⟨m, fun _ => 0, g⟩ (fun r => (∀ c : Dev Cert.ReferenceFProjIdeal.nD,
      r.2.mem ((c.tc : Thread Cert.ReferenceFProjIdeal.nD Cert.ReferenceFProjIdeal.τ).loc Cert.ReferenceFProjIdeal.main_arg0) = m ((c.tc : Thread Cert.ReferenceFProjIdeal.nD Cert.ReferenceFProjIdeal.τ).loc Cert.ReferenceFProjIdeal.main_arg0)
      ∧ r.2.mem ((c.tc : Thread Cert.ReferenceFProjIdeal.nD Cert.ReferenceFProjIdeal.τ).loc Cert.ReferenceFProjIdeal.main_arg1) = m ((c.tc : Thread Cert.ReferenceFProjIdeal.nD Cert.ReferenceFProjIdeal.τ).loc Cert.ReferenceFProjIdeal.main_arg1))
      ∧ r.2.sem = fun _ => 0)

def quiescent_KernelFOut [hKernelFOut : Cert.KernelFOut.Facts] : Prop :=
  ∀ (m : (ℓ : Loc Cert.KernelFOut.nD Cert.KernelFOut.τ Cert.KernelFOut.sig) → Buf (Elt Bits) ℓ) (g : Dev Cert.KernelFOut.nD → PrngReg), Pre_KernelFOut m →
    θ_run (Cert.KernelFOut.defs (F := Bits)) (onTc (τ := Cert.KernelFOut.τ) (Cert.KernelFOut.main (F := Bits))) ⟨m, fun _ => 0, g⟩ (fun r => (∀ c : Dev Cert.KernelFOut.nD,
      r.2.mem ((c.tc : Thread Cert.KernelFOut.nD Cert.KernelFOut.τ).loc Cert.KernelFOut.main_arg0) = m ((c.tc : Thread Cert.KernelFOut.nD Cert.KernelFOut.τ).loc Cert.KernelFOut.main_arg0)
      ∧ r.2.mem ((c.tc : Thread Cert.KernelFOut.nD Cert.KernelFOut.τ).loc Cert.KernelFOut.main_arg1) = m ((c.tc : Thread Cert.KernelFOut.nD Cert.KernelFOut.τ).loc Cert.KernelFOut.main_arg1))
      ∧ r.2.sem = fun _ => 0)

def quiescent_KernelFOutIdeal [hKernelFOutIdeal : Cert.KernelFOutIdeal.Facts] : Prop :=
  ∀ (m : (ℓ : Loc Cert.KernelFOutIdeal.nD Cert.KernelFOutIdeal.τ Cert.KernelFOutIdeal.sig) → Buf (Elt Ideal) ℓ) (g : Dev Cert.KernelFOutIdeal.nD → PrngReg), Pre_KernelFOutIdeal m →
    θ_run (Cert.KernelFOutIdeal.defs (F := Ideal)) (onTc (τ := Cert.KernelFOutIdeal.τ) (Cert.KernelFOutIdeal.main (F := Ideal))) ⟨m, fun _ => 0, g⟩ (fun r => (∀ c : Dev Cert.KernelFOutIdeal.nD,
      r.2.mem ((c.tc : Thread Cert.KernelFOutIdeal.nD Cert.KernelFOutIdeal.τ).loc Cert.KernelFOutIdeal.main_arg0) = m ((c.tc : Thread Cert.KernelFOutIdeal.nD Cert.KernelFOutIdeal.τ).loc Cert.KernelFOutIdeal.main_arg0)
      ∧ r.2.mem ((c.tc : Thread Cert.KernelFOutIdeal.nD Cert.KernelFOutIdeal.τ).loc Cert.KernelFOutIdeal.main_arg1) = m ((c.tc : Thread Cert.KernelFOutIdeal.nD Cert.KernelFOutIdeal.τ).loc Cert.KernelFOutIdeal.main_arg1))
      ∧ r.2.sem = fun _ => 0)

def quiescent_ReferenceFOutIdeal [hReferenceFOutIdeal : Cert.ReferenceFOutIdeal.Facts] : Prop :=
  ∀ (m : (ℓ : Loc Cert.ReferenceFOutIdeal.nD Cert.ReferenceFOutIdeal.τ Cert.ReferenceFOutIdeal.sig) → Buf (Elt Ideal) ℓ) (g : Dev Cert.ReferenceFOutIdeal.nD → PrngReg), Pre_ReferenceFOutIdeal m →
    θ_run (Cert.ReferenceFOutIdeal.defs (F := Ideal)) (onTc (τ := Cert.ReferenceFOutIdeal.τ) (Cert.ReferenceFOutIdeal.main (F := Ideal))) ⟨m, fun _ => 0, g⟩ (fun r => (∀ c : Dev Cert.ReferenceFOutIdeal.nD,
      r.2.mem ((c.tc : Thread Cert.ReferenceFOutIdeal.nD Cert.ReferenceFOutIdeal.τ).loc Cert.ReferenceFOutIdeal.main_arg0) = m ((c.tc : Thread Cert.ReferenceFOutIdeal.nD Cert.ReferenceFOutIdeal.τ).loc Cert.ReferenceFOutIdeal.main_arg0)
      ∧ r.2.mem ((c.tc : Thread Cert.ReferenceFOutIdeal.nD Cert.ReferenceFOutIdeal.τ).loc Cert.ReferenceFOutIdeal.main_arg1) = m ((c.tc : Thread Cert.ReferenceFOutIdeal.nD Cert.ReferenceFOutIdeal.τ).loc Cert.ReferenceFOutIdeal.main_arg1))
      ∧ r.2.sem = fun _ => 0)

def quiescent_KernelFUq [hKernelFUq : Cert.KernelFUq.Facts] : Prop :=
  ∀ (m : (ℓ : Loc Cert.KernelFUq.nD Cert.KernelFUq.τ Cert.KernelFUq.sig) → Buf (Elt Bits) ℓ) (g : Dev Cert.KernelFUq.nD → PrngReg), Pre_KernelFUq m →
    θ_run (Cert.KernelFUq.defs (F := Bits)) (onTc (τ := Cert.KernelFUq.τ) (Cert.KernelFUq.main (F := Bits))) ⟨m, fun _ => 0, g⟩ (fun r => (∀ c : Dev Cert.KernelFUq.nD,
      r.2.mem ((c.tc : Thread Cert.KernelFUq.nD Cert.KernelFUq.τ).loc Cert.KernelFUq.main_arg0) = m ((c.tc : Thread Cert.KernelFUq.nD Cert.KernelFUq.τ).loc Cert.KernelFUq.main_arg0)
      ∧ r.2.mem ((c.tc : Thread Cert.KernelFUq.nD Cert.KernelFUq.τ).loc Cert.KernelFUq.main_arg1) = m ((c.tc : Thread Cert.KernelFUq.nD Cert.KernelFUq.τ).loc Cert.KernelFUq.main_arg1))
      ∧ r.2.sem = fun _ => 0)

def quiescent_KernelFUqIdeal [hKernelFUqIdeal : Cert.KernelFUqIdeal.Facts] : Prop :=
  ∀ (m : (ℓ : Loc Cert.KernelFUqIdeal.nD Cert.KernelFUqIdeal.τ Cert.KernelFUqIdeal.sig) → Buf (Elt Ideal) ℓ) (g : Dev Cert.KernelFUqIdeal.nD → PrngReg), Pre_KernelFUqIdeal m →
    θ_run (Cert.KernelFUqIdeal.defs (F := Ideal)) (onTc (τ := Cert.KernelFUqIdeal.τ) (Cert.KernelFUqIdeal.main (F := Ideal))) ⟨m, fun _ => 0, g⟩ (fun r => (∀ c : Dev Cert.KernelFUqIdeal.nD,
      r.2.mem ((c.tc : Thread Cert.KernelFUqIdeal.nD Cert.KernelFUqIdeal.τ).loc Cert.KernelFUqIdeal.main_arg0) = m ((c.tc : Thread Cert.KernelFUqIdeal.nD Cert.KernelFUqIdeal.τ).loc Cert.KernelFUqIdeal.main_arg0)
      ∧ r.2.mem ((c.tc : Thread Cert.KernelFUqIdeal.nD Cert.KernelFUqIdeal.τ).loc Cert.KernelFUqIdeal.main_arg1) = m ((c.tc : Thread Cert.KernelFUqIdeal.nD Cert.KernelFUqIdeal.τ).loc Cert.KernelFUqIdeal.main_arg1))
      ∧ r.2.sem = fun _ => 0)

def quiescent_ReferenceFUqIdeal [hReferenceFUqIdeal : Cert.ReferenceFUqIdeal.Facts] : Prop :=
  ∀ (m : (ℓ : Loc Cert.ReferenceFUqIdeal.nD Cert.ReferenceFUqIdeal.τ Cert.ReferenceFUqIdeal.sig) → Buf (Elt Ideal) ℓ) (g : Dev Cert.ReferenceFUqIdeal.nD → PrngReg), Pre_ReferenceFUqIdeal m →
    θ_run (Cert.ReferenceFUqIdeal.defs (F := Ideal)) (onTc (τ := Cert.ReferenceFUqIdeal.τ) (Cert.ReferenceFUqIdeal.main (F := Ideal))) ⟨m, fun _ => 0, g⟩ (fun r => (∀ c : Dev Cert.ReferenceFUqIdeal.nD,
      r.2.mem ((c.tc : Thread Cert.ReferenceFUqIdeal.nD Cert.ReferenceFUqIdeal.τ).loc Cert.ReferenceFUqIdeal.main_arg0) = m ((c.tc : Thread Cert.ReferenceFUqIdeal.nD Cert.ReferenceFUqIdeal.τ).loc Cert.ReferenceFUqIdeal.main_arg0)
      ∧ r.2.mem ((c.tc : Thread Cert.ReferenceFUqIdeal.nD Cert.ReferenceFUqIdeal.τ).loc Cert.ReferenceFUqIdeal.main_arg1) = m ((c.tc : Thread Cert.ReferenceFUqIdeal.nD Cert.ReferenceFUqIdeal.τ).loc Cert.ReferenceFUqIdeal.main_arg1))
      ∧ r.2.sem = fun _ => 0)

def quiescent_KernelFUkv [hKernelFUkv : Cert.KernelFUkv.Facts] : Prop :=
  ∀ (m : (ℓ : Loc Cert.KernelFUkv.nD Cert.KernelFUkv.τ Cert.KernelFUkv.sig) → Buf (Elt Bits) ℓ) (g : Dev Cert.KernelFUkv.nD → PrngReg), Pre_KernelFUkv m →
    θ_run (Cert.KernelFUkv.defs (F := Bits)) (onTc (τ := Cert.KernelFUkv.τ) (Cert.KernelFUkv.main (F := Bits))) ⟨m, fun _ => 0, g⟩ (fun r => (∀ c : Dev Cert.KernelFUkv.nD,
      r.2.mem ((c.tc : Thread Cert.KernelFUkv.nD Cert.KernelFUkv.τ).loc Cert.KernelFUkv.main_arg0) = m ((c.tc : Thread Cert.KernelFUkv.nD Cert.KernelFUkv.τ).loc Cert.KernelFUkv.main_arg0)
      ∧ r.2.mem ((c.tc : Thread Cert.KernelFUkv.nD Cert.KernelFUkv.τ).loc Cert.KernelFUkv.main_arg1) = m ((c.tc : Thread Cert.KernelFUkv.nD Cert.KernelFUkv.τ).loc Cert.KernelFUkv.main_arg1))
      ∧ r.2.sem = fun _ => 0)

def quiescent_KernelFUkvIdeal [hKernelFUkvIdeal : Cert.KernelFUkvIdeal.Facts] : Prop :=
  ∀ (m : (ℓ : Loc Cert.KernelFUkvIdeal.nD Cert.KernelFUkvIdeal.τ Cert.KernelFUkvIdeal.sig) → Buf (Elt Ideal) ℓ) (g : Dev Cert.KernelFUkvIdeal.nD → PrngReg), Pre_KernelFUkvIdeal m →
    θ_run (Cert.KernelFUkvIdeal.defs (F := Ideal)) (onTc (τ := Cert.KernelFUkvIdeal.τ) (Cert.KernelFUkvIdeal.main (F := Ideal))) ⟨m, fun _ => 0, g⟩ (fun r => (∀ c : Dev Cert.KernelFUkvIdeal.nD,
      r.2.mem ((c.tc : Thread Cert.KernelFUkvIdeal.nD Cert.KernelFUkvIdeal.τ).loc Cert.KernelFUkvIdeal.main_arg0) = m ((c.tc : Thread Cert.KernelFUkvIdeal.nD Cert.KernelFUkvIdeal.τ).loc Cert.KernelFUkvIdeal.main_arg0)
      ∧ r.2.mem ((c.tc : Thread Cert.KernelFUkvIdeal.nD Cert.KernelFUkvIdeal.τ).loc Cert.KernelFUkvIdeal.main_arg1) = m ((c.tc : Thread Cert.KernelFUkvIdeal.nD Cert.KernelFUkvIdeal.τ).loc Cert.KernelFUkvIdeal.main_arg1))
      ∧ r.2.sem = fun _ => 0)

def quiescent_ReferenceFUkvIdeal [hReferenceFUkvIdeal : Cert.ReferenceFUkvIdeal.Facts] : Prop :=
  ∀ (m : (ℓ : Loc Cert.ReferenceFUkvIdeal.nD Cert.ReferenceFUkvIdeal.τ Cert.ReferenceFUkvIdeal.sig) → Buf (Elt Ideal) ℓ) (g : Dev Cert.ReferenceFUkvIdeal.nD → PrngReg), Pre_ReferenceFUkvIdeal m →
    θ_run (Cert.ReferenceFUkvIdeal.defs (F := Ideal)) (onTc (τ := Cert.ReferenceFUkvIdeal.τ) (Cert.ReferenceFUkvIdeal.main (F := Ideal))) ⟨m, fun _ => 0, g⟩ (fun r => (∀ c : Dev Cert.ReferenceFUkvIdeal.nD,
      r.2.mem ((c.tc : Thread Cert.ReferenceFUkvIdeal.nD Cert.ReferenceFUkvIdeal.τ).loc Cert.ReferenceFUkvIdeal.main_arg0) = m ((c.tc : Thread Cert.ReferenceFUkvIdeal.nD Cert.ReferenceFUkvIdeal.τ).loc Cert.ReferenceFUkvIdeal.main_arg0)
      ∧ r.2.mem ((c.tc : Thread Cert.ReferenceFUkvIdeal.nD Cert.ReferenceFUkvIdeal.τ).loc Cert.ReferenceFUkvIdeal.main_arg1) = m ((c.tc : Thread Cert.ReferenceFUkvIdeal.nD Cert.ReferenceFUkvIdeal.τ).loc Cert.ReferenceFUkvIdeal.main_arg1))
      ∧ r.2.sem = fun _ => 0)

def quiescent_KernelSwigluB [hKernelSwigluB : Cert.KernelSwigluB.Facts] : Prop :=
  ∀ (m : (ℓ : Loc Cert.KernelSwigluB.nD Cert.KernelSwigluB.τ Cert.KernelSwigluB.sig) → Buf (Elt Bits) ℓ) (g : Dev Cert.KernelSwigluB.nD → PrngReg), Pre_KernelSwigluB m →
    θ_run (Cert.KernelSwigluB.defs (F := Bits)) (onTc (τ := Cert.KernelSwigluB.τ) (Cert.KernelSwigluB.main (F := Bits))) ⟨m, fun _ => 0, g⟩ (fun r => (∀ c : Dev Cert.KernelSwigluB.nD,
      r.2.mem ((c.tc : Thread Cert.KernelSwigluB.nD Cert.KernelSwigluB.τ).loc Cert.KernelSwigluB.main_arg0) = m ((c.tc : Thread Cert.KernelSwigluB.nD Cert.KernelSwigluB.τ).loc Cert.KernelSwigluB.main_arg0)
      ∧ r.2.mem ((c.tc : Thread Cert.KernelSwigluB.nD Cert.KernelSwigluB.τ).loc Cert.KernelSwigluB.main_arg1) = m ((c.tc : Thread Cert.KernelSwigluB.nD Cert.KernelSwigluB.τ).loc Cert.KernelSwigluB.main_arg1))
      ∧ r.2.sem = fun _ => 0)

def quiescent_KernelSwigluBIdeal [hKernelSwigluBIdeal : Cert.KernelSwigluBIdeal.Facts] : Prop :=
  ∀ (m : (ℓ : Loc Cert.KernelSwigluBIdeal.nD Cert.KernelSwigluBIdeal.τ Cert.KernelSwigluBIdeal.sig) → Buf (Elt Ideal) ℓ) (g : Dev Cert.KernelSwigluBIdeal.nD → PrngReg), Pre_KernelSwigluBIdeal m →
    θ_run (Cert.KernelSwigluBIdeal.defs (F := Ideal)) (onTc (τ := Cert.KernelSwigluBIdeal.τ) (Cert.KernelSwigluBIdeal.main (F := Ideal))) ⟨m, fun _ => 0, g⟩ (fun r => (∀ c : Dev Cert.KernelSwigluBIdeal.nD,
      r.2.mem ((c.tc : Thread Cert.KernelSwigluBIdeal.nD Cert.KernelSwigluBIdeal.τ).loc Cert.KernelSwigluBIdeal.main_arg0) = m ((c.tc : Thread Cert.KernelSwigluBIdeal.nD Cert.KernelSwigluBIdeal.τ).loc Cert.KernelSwigluBIdeal.main_arg0)
      ∧ r.2.mem ((c.tc : Thread Cert.KernelSwigluBIdeal.nD Cert.KernelSwigluBIdeal.τ).loc Cert.KernelSwigluBIdeal.main_arg1) = m ((c.tc : Thread Cert.KernelSwigluBIdeal.nD Cert.KernelSwigluBIdeal.τ).loc Cert.KernelSwigluBIdeal.main_arg1))
      ∧ r.2.sem = fun _ => 0)

def quiescent_ReferenceSwigluBIdeal [hReferenceSwigluBIdeal : Cert.ReferenceSwigluBIdeal.Facts] : Prop :=
  ∀ (m : (ℓ : Loc Cert.ReferenceSwigluBIdeal.nD Cert.ReferenceSwigluBIdeal.τ Cert.ReferenceSwigluBIdeal.sig) → Buf (Elt Ideal) ℓ) (g : Dev Cert.ReferenceSwigluBIdeal.nD → PrngReg), Pre_ReferenceSwigluBIdeal m →
    θ_run (Cert.ReferenceSwigluBIdeal.defs (F := Ideal)) (onTc (τ := Cert.ReferenceSwigluBIdeal.τ) (Cert.ReferenceSwigluBIdeal.main (F := Ideal))) ⟨m, fun _ => 0, g⟩ (fun r => (∀ c : Dev Cert.ReferenceSwigluBIdeal.nD,
      r.2.mem ((c.tc : Thread Cert.ReferenceSwigluBIdeal.nD Cert.ReferenceSwigluBIdeal.τ).loc Cert.ReferenceSwigluBIdeal.main_arg0) = m ((c.tc : Thread Cert.ReferenceSwigluBIdeal.nD Cert.ReferenceSwigluBIdeal.τ).loc Cert.ReferenceSwigluBIdeal.main_arg0)
      ∧ r.2.mem ((c.tc : Thread Cert.ReferenceSwigluBIdeal.nD Cert.ReferenceSwigluBIdeal.τ).loc Cert.ReferenceSwigluBIdeal.main_arg1) = m ((c.tc : Thread Cert.ReferenceSwigluBIdeal.nD Cert.ReferenceSwigluBIdeal.τ).loc Cert.ReferenceSwigluBIdeal.main_arg1))
      ∧ r.2.sem = fun _ => 0)

def quiescent_KernelSwigluF [hKernelSwigluF : Cert.KernelSwigluF.Facts] : Prop :=
  ∀ (m : (ℓ : Loc Cert.KernelSwigluF.nD Cert.KernelSwigluF.τ Cert.KernelSwigluF.sig) → Buf (Elt Bits) ℓ) (g : Dev Cert.KernelSwigluF.nD → PrngReg), Pre_KernelSwigluF m →
    θ_run (Cert.KernelSwigluF.defs (F := Bits)) (onTc (τ := Cert.KernelSwigluF.τ) (Cert.KernelSwigluF.main (F := Bits))) ⟨m, fun _ => 0, g⟩ (fun r => (∀ c : Dev Cert.KernelSwigluF.nD,
      r.2.mem ((c.tc : Thread Cert.KernelSwigluF.nD Cert.KernelSwigluF.τ).loc Cert.KernelSwigluF.main_arg0) = m ((c.tc : Thread Cert.KernelSwigluF.nD Cert.KernelSwigluF.τ).loc Cert.KernelSwigluF.main_arg0))
      ∧ r.2.sem = fun _ => 0)

def quiescent_KernelSwigluFIdeal [hKernelSwigluFIdeal : Cert.KernelSwigluFIdeal.Facts] : Prop :=
  ∀ (m : (ℓ : Loc Cert.KernelSwigluFIdeal.nD Cert.KernelSwigluFIdeal.τ Cert.KernelSwigluFIdeal.sig) → Buf (Elt Ideal) ℓ) (g : Dev Cert.KernelSwigluFIdeal.nD → PrngReg), Pre_KernelSwigluFIdeal m →
    θ_run (Cert.KernelSwigluFIdeal.defs (F := Ideal)) (onTc (τ := Cert.KernelSwigluFIdeal.τ) (Cert.KernelSwigluFIdeal.main (F := Ideal))) ⟨m, fun _ => 0, g⟩ (fun r => (∀ c : Dev Cert.KernelSwigluFIdeal.nD,
      r.2.mem ((c.tc : Thread Cert.KernelSwigluFIdeal.nD Cert.KernelSwigluFIdeal.τ).loc Cert.KernelSwigluFIdeal.main_arg0) = m ((c.tc : Thread Cert.KernelSwigluFIdeal.nD Cert.KernelSwigluFIdeal.τ).loc Cert.KernelSwigluFIdeal.main_arg0))
      ∧ r.2.sem = fun _ => 0)

def quiescent_ReferenceSwigluFIdeal [hReferenceSwigluFIdeal : Cert.ReferenceSwigluFIdeal.Facts] : Prop :=
  ∀ (m : (ℓ : Loc Cert.ReferenceSwigluFIdeal.nD Cert.ReferenceSwigluFIdeal.τ Cert.ReferenceSwigluFIdeal.sig) → Buf (Elt Ideal) ℓ) (g : Dev Cert.ReferenceSwigluFIdeal.nD → PrngReg), Pre_ReferenceSwigluFIdeal m →
    θ_run (Cert.ReferenceSwigluFIdeal.defs (F := Ideal)) (onTc (τ := Cert.ReferenceSwigluFIdeal.τ) (Cert.ReferenceSwigluFIdeal.main (F := Ideal))) ⟨m, fun _ => 0, g⟩ (fun r => (∀ c : Dev Cert.ReferenceSwigluFIdeal.nD,
      r.2.mem ((c.tc : Thread Cert.ReferenceSwigluFIdeal.nD Cert.ReferenceSwigluFIdeal.τ).loc Cert.ReferenceSwigluFIdeal.main_arg0) = m ((c.tc : Thread Cert.ReferenceSwigluFIdeal.nD Cert.ReferenceSwigluFIdeal.τ).loc Cert.ReferenceSwigluFIdeal.main_arg0))
      ∧ r.2.sem = fun _ => 0)

def quiescent_KernelMergeB [hKernelMergeB : Cert.KernelMergeB.Facts] : Prop :=
  ∀ (m : (ℓ : Loc Cert.KernelMergeB.nD Cert.KernelMergeB.τ Cert.KernelMergeB.sig) → Buf (Elt Bits) ℓ) (g : Dev Cert.KernelMergeB.nD → PrngReg), Pre_KernelMergeB m →
    θ_run (Cert.KernelMergeB.defs (F := Bits)) (onTc (τ := Cert.KernelMergeB.τ) (Cert.KernelMergeB.main (F := Bits))) ⟨m, fun _ => 0, g⟩ (fun r => (∀ c : Dev Cert.KernelMergeB.nD,
      r.2.mem ((c.tc : Thread Cert.KernelMergeB.nD Cert.KernelMergeB.τ).loc Cert.KernelMergeB.main_arg0) = m ((c.tc : Thread Cert.KernelMergeB.nD Cert.KernelMergeB.τ).loc Cert.KernelMergeB.main_arg0)
      ∧ r.2.mem ((c.tc : Thread Cert.KernelMergeB.nD Cert.KernelMergeB.τ).loc Cert.KernelMergeB.main_arg1) = m ((c.tc : Thread Cert.KernelMergeB.nD Cert.KernelMergeB.τ).loc Cert.KernelMergeB.main_arg1)
      ∧ r.2.mem ((c.tc : Thread Cert.KernelMergeB.nD Cert.KernelMergeB.τ).loc Cert.KernelMergeB.main_arg2) = m ((c.tc : Thread Cert.KernelMergeB.nD Cert.KernelMergeB.τ).loc Cert.KernelMergeB.main_arg2)
      ∧ r.2.mem ((c.tc : Thread Cert.KernelMergeB.nD Cert.KernelMergeB.τ).loc Cert.KernelMergeB.main_arg3) = m ((c.tc : Thread Cert.KernelMergeB.nD Cert.KernelMergeB.τ).loc Cert.KernelMergeB.main_arg3)
      ∧ r.2.mem ((c.tc : Thread Cert.KernelMergeB.nD Cert.KernelMergeB.τ).loc Cert.KernelMergeB.main_arg4) = m ((c.tc : Thread Cert.KernelMergeB.nD Cert.KernelMergeB.τ).loc Cert.KernelMergeB.main_arg4))
      ∧ r.2.sem = fun _ => 0)

def quiescent_KernelMergeBIdeal [hKernelMergeBIdeal : Cert.KernelMergeBIdeal.Facts] : Prop :=
  ∀ (m : (ℓ : Loc Cert.KernelMergeBIdeal.nD Cert.KernelMergeBIdeal.τ Cert.KernelMergeBIdeal.sig) → Buf (Elt Ideal) ℓ) (g : Dev Cert.KernelMergeBIdeal.nD → PrngReg), Pre_KernelMergeBIdeal m →
    θ_run (Cert.KernelMergeBIdeal.defs (F := Ideal)) (onTc (τ := Cert.KernelMergeBIdeal.τ) (Cert.KernelMergeBIdeal.main (F := Ideal))) ⟨m, fun _ => 0, g⟩ (fun r => (∀ c : Dev Cert.KernelMergeBIdeal.nD,
      r.2.mem ((c.tc : Thread Cert.KernelMergeBIdeal.nD Cert.KernelMergeBIdeal.τ).loc Cert.KernelMergeBIdeal.main_arg0) = m ((c.tc : Thread Cert.KernelMergeBIdeal.nD Cert.KernelMergeBIdeal.τ).loc Cert.KernelMergeBIdeal.main_arg0)
      ∧ r.2.mem ((c.tc : Thread Cert.KernelMergeBIdeal.nD Cert.KernelMergeBIdeal.τ).loc Cert.KernelMergeBIdeal.main_arg1) = m ((c.tc : Thread Cert.KernelMergeBIdeal.nD Cert.KernelMergeBIdeal.τ).loc Cert.KernelMergeBIdeal.main_arg1)
      ∧ r.2.mem ((c.tc : Thread Cert.KernelMergeBIdeal.nD Cert.KernelMergeBIdeal.τ).loc Cert.KernelMergeBIdeal.main_arg2) = m ((c.tc : Thread Cert.KernelMergeBIdeal.nD Cert.KernelMergeBIdeal.τ).loc Cert.KernelMergeBIdeal.main_arg2)
      ∧ r.2.mem ((c.tc : Thread Cert.KernelMergeBIdeal.nD Cert.KernelMergeBIdeal.τ).loc Cert.KernelMergeBIdeal.main_arg3) = m ((c.tc : Thread Cert.KernelMergeBIdeal.nD Cert.KernelMergeBIdeal.τ).loc Cert.KernelMergeBIdeal.main_arg3)
      ∧ r.2.mem ((c.tc : Thread Cert.KernelMergeBIdeal.nD Cert.KernelMergeBIdeal.τ).loc Cert.KernelMergeBIdeal.main_arg4) = m ((c.tc : Thread Cert.KernelMergeBIdeal.nD Cert.KernelMergeBIdeal.τ).loc Cert.KernelMergeBIdeal.main_arg4))
      ∧ r.2.sem = fun _ => 0)

def quiescent_ReferenceMergeBIdeal [hReferenceMergeBIdeal : Cert.ReferenceMergeBIdeal.Facts] : Prop :=
  ∀ (m : (ℓ : Loc Cert.ReferenceMergeBIdeal.nD Cert.ReferenceMergeBIdeal.τ Cert.ReferenceMergeBIdeal.sig) → Buf (Elt Ideal) ℓ) (g : Dev Cert.ReferenceMergeBIdeal.nD → PrngReg), Pre_ReferenceMergeBIdeal m →
    θ_run (Cert.ReferenceMergeBIdeal.defs (F := Ideal)) (onTc (τ := Cert.ReferenceMergeBIdeal.τ) (Cert.ReferenceMergeBIdeal.main (F := Ideal))) ⟨m, fun _ => 0, g⟩ (fun r => (∀ c : Dev Cert.ReferenceMergeBIdeal.nD,
      r.2.mem ((c.tc : Thread Cert.ReferenceMergeBIdeal.nD Cert.ReferenceMergeBIdeal.τ).loc Cert.ReferenceMergeBIdeal.main_arg0) = m ((c.tc : Thread Cert.ReferenceMergeBIdeal.nD Cert.ReferenceMergeBIdeal.τ).loc Cert.ReferenceMergeBIdeal.main_arg0)
      ∧ r.2.mem ((c.tc : Thread Cert.ReferenceMergeBIdeal.nD Cert.ReferenceMergeBIdeal.τ).loc Cert.ReferenceMergeBIdeal.main_arg1) = m ((c.tc : Thread Cert.ReferenceMergeBIdeal.nD Cert.ReferenceMergeBIdeal.τ).loc Cert.ReferenceMergeBIdeal.main_arg1)
      ∧ r.2.mem ((c.tc : Thread Cert.ReferenceMergeBIdeal.nD Cert.ReferenceMergeBIdeal.τ).loc Cert.ReferenceMergeBIdeal.main_arg2) = m ((c.tc : Thread Cert.ReferenceMergeBIdeal.nD Cert.ReferenceMergeBIdeal.τ).loc Cert.ReferenceMergeBIdeal.main_arg2)
      ∧ r.2.mem ((c.tc : Thread Cert.ReferenceMergeBIdeal.nD Cert.ReferenceMergeBIdeal.τ).loc Cert.ReferenceMergeBIdeal.main_arg3) = m ((c.tc : Thread Cert.ReferenceMergeBIdeal.nD Cert.ReferenceMergeBIdeal.τ).loc Cert.ReferenceMergeBIdeal.main_arg3)
      ∧ r.2.mem ((c.tc : Thread Cert.ReferenceMergeBIdeal.nD Cert.ReferenceMergeBIdeal.τ).loc Cert.ReferenceMergeBIdeal.main_arg4) = m ((c.tc : Thread Cert.ReferenceMergeBIdeal.nD Cert.ReferenceMergeBIdeal.τ).loc Cert.ReferenceMergeBIdeal.main_arg4))
      ∧ r.2.sem = fun _ => 0)

def quiescent_KernelMergeF [hKernelMergeF : Cert.KernelMergeF.Facts] : Prop :=
  ∀ (m : (ℓ : Loc Cert.KernelMergeF.nD Cert.KernelMergeF.τ Cert.KernelMergeF.sig) → Buf (Elt Bits) ℓ) (g : Dev Cert.KernelMergeF.nD → PrngReg), Pre_KernelMergeF m →
    θ_run (Cert.KernelMergeF.defs (F := Bits)) (onTc (τ := Cert.KernelMergeF.τ) (Cert.KernelMergeF.main (F := Bits))) ⟨m, fun _ => 0, g⟩ (fun r => (∀ c : Dev Cert.KernelMergeF.nD,
      r.2.mem ((c.tc : Thread Cert.KernelMergeF.nD Cert.KernelMergeF.τ).loc Cert.KernelMergeF.main_arg0) = m ((c.tc : Thread Cert.KernelMergeF.nD Cert.KernelMergeF.τ).loc Cert.KernelMergeF.main_arg0)
      ∧ r.2.mem ((c.tc : Thread Cert.KernelMergeF.nD Cert.KernelMergeF.τ).loc Cert.KernelMergeF.main_arg1) = m ((c.tc : Thread Cert.KernelMergeF.nD Cert.KernelMergeF.τ).loc Cert.KernelMergeF.main_arg1)
      ∧ r.2.mem ((c.tc : Thread Cert.KernelMergeF.nD Cert.KernelMergeF.τ).loc Cert.KernelMergeF.main_arg2) = m ((c.tc : Thread Cert.KernelMergeF.nD Cert.KernelMergeF.τ).loc Cert.KernelMergeF.main_arg2)
      ∧ r.2.mem ((c.tc : Thread Cert.KernelMergeF.nD Cert.KernelMergeF.τ).loc Cert.KernelMergeF.main_arg3) = m ((c.tc : Thread Cert.KernelMergeF.nD Cert.KernelMergeF.τ).loc Cert.KernelMergeF.main_arg3))
      ∧ r.2.sem = fun _ => 0)

def quiescent_KernelMergeFIdeal [hKernelMergeFIdeal : Cert.KernelMergeFIdeal.Facts] : Prop :=
  ∀ (m : (ℓ : Loc Cert.KernelMergeFIdeal.nD Cert.KernelMergeFIdeal.τ Cert.KernelMergeFIdeal.sig) → Buf (Elt Ideal) ℓ) (g : Dev Cert.KernelMergeFIdeal.nD → PrngReg), Pre_KernelMergeFIdeal m →
    θ_run (Cert.KernelMergeFIdeal.defs (F := Ideal)) (onTc (τ := Cert.KernelMergeFIdeal.τ) (Cert.KernelMergeFIdeal.main (F := Ideal))) ⟨m, fun _ => 0, g⟩ (fun r => (∀ c : Dev Cert.KernelMergeFIdeal.nD,
      r.2.mem ((c.tc : Thread Cert.KernelMergeFIdeal.nD Cert.KernelMergeFIdeal.τ).loc Cert.KernelMergeFIdeal.main_arg0) = m ((c.tc : Thread Cert.KernelMergeFIdeal.nD Cert.KernelMergeFIdeal.τ).loc Cert.KernelMergeFIdeal.main_arg0)
      ∧ r.2.mem ((c.tc : Thread Cert.KernelMergeFIdeal.nD Cert.KernelMergeFIdeal.τ).loc Cert.KernelMergeFIdeal.main_arg1) = m ((c.tc : Thread Cert.KernelMergeFIdeal.nD Cert.KernelMergeFIdeal.τ).loc Cert.KernelMergeFIdeal.main_arg1)
      ∧ r.2.mem ((c.tc : Thread Cert.KernelMergeFIdeal.nD Cert.KernelMergeFIdeal.τ).loc Cert.KernelMergeFIdeal.main_arg2) = m ((c.tc : Thread Cert.KernelMergeFIdeal.nD Cert.KernelMergeFIdeal.τ).loc Cert.KernelMergeFIdeal.main_arg2)
      ∧ r.2.mem ((c.tc : Thread Cert.KernelMergeFIdeal.nD Cert.KernelMergeFIdeal.τ).loc Cert.KernelMergeFIdeal.main_arg3) = m ((c.tc : Thread Cert.KernelMergeFIdeal.nD Cert.KernelMergeFIdeal.τ).loc Cert.KernelMergeFIdeal.main_arg3))
      ∧ r.2.sem = fun _ => 0)

def quiescent_ReferenceMergeFIdeal [hReferenceMergeFIdeal : Cert.ReferenceMergeFIdeal.Facts] : Prop :=
  ∀ (m : (ℓ : Loc Cert.ReferenceMergeFIdeal.nD Cert.ReferenceMergeFIdeal.τ Cert.ReferenceMergeFIdeal.sig) → Buf (Elt Ideal) ℓ) (g : Dev Cert.ReferenceMergeFIdeal.nD → PrngReg), Pre_ReferenceMergeFIdeal m →
    θ_run (Cert.ReferenceMergeFIdeal.defs (F := Ideal)) (onTc (τ := Cert.ReferenceMergeFIdeal.τ) (Cert.ReferenceMergeFIdeal.main (F := Ideal))) ⟨m, fun _ => 0, g⟩ (fun r => (∀ c : Dev Cert.ReferenceMergeFIdeal.nD,
      r.2.mem ((c.tc : Thread Cert.ReferenceMergeFIdeal.nD Cert.ReferenceMergeFIdeal.τ).loc Cert.ReferenceMergeFIdeal.main_arg0) = m ((c.tc : Thread Cert.ReferenceMergeFIdeal.nD Cert.ReferenceMergeFIdeal.τ).loc Cert.ReferenceMergeFIdeal.main_arg0)
      ∧ r.2.mem ((c.tc : Thread Cert.ReferenceMergeFIdeal.nD Cert.ReferenceMergeFIdeal.τ).loc Cert.ReferenceMergeFIdeal.main_arg1) = m ((c.tc : Thread Cert.ReferenceMergeFIdeal.nD Cert.ReferenceMergeFIdeal.τ).loc Cert.ReferenceMergeFIdeal.main_arg1)
      ∧ r.2.mem ((c.tc : Thread Cert.ReferenceMergeFIdeal.nD Cert.ReferenceMergeFIdeal.τ).loc Cert.ReferenceMergeFIdeal.main_arg2) = m ((c.tc : Thread Cert.ReferenceMergeFIdeal.nD Cert.ReferenceMergeFIdeal.τ).loc Cert.ReferenceMergeFIdeal.main_arg2)
      ∧ r.2.mem ((c.tc : Thread Cert.ReferenceMergeFIdeal.nD Cert.ReferenceMergeFIdeal.τ).loc Cert.ReferenceMergeFIdeal.main_arg3) = m ((c.tc : Thread Cert.ReferenceMergeFIdeal.nD Cert.ReferenceMergeFIdeal.τ).loc Cert.ReferenceMergeFIdeal.main_arg3))
      ∧ r.2.sem = fun _ => 0)

def quiescent_KernelLatNormB [hKernelLatNormB : Cert.KernelLatNormB.Facts] : Prop :=
  ∀ (m : (ℓ : Loc Cert.KernelLatNormB.nD Cert.KernelLatNormB.τ Cert.KernelLatNormB.sig) → Buf (Elt Bits) ℓ) (g : Dev Cert.KernelLatNormB.nD → PrngReg), Pre_KernelLatNormB m →
    θ_run (Cert.KernelLatNormB.defs (F := Bits)) (onTc (τ := Cert.KernelLatNormB.τ) (Cert.KernelLatNormB.main (F := Bits))) ⟨m, fun _ => 0, g⟩ (fun r => (∀ c : Dev Cert.KernelLatNormB.nD,
      r.2.mem ((c.tc : Thread Cert.KernelLatNormB.nD Cert.KernelLatNormB.τ).loc Cert.KernelLatNormB.main_arg0) = m ((c.tc : Thread Cert.KernelLatNormB.nD Cert.KernelLatNormB.τ).loc Cert.KernelLatNormB.main_arg0)
      ∧ r.2.mem ((c.tc : Thread Cert.KernelLatNormB.nD Cert.KernelLatNormB.τ).loc Cert.KernelLatNormB.main_arg1) = m ((c.tc : Thread Cert.KernelLatNormB.nD Cert.KernelLatNormB.τ).loc Cert.KernelLatNormB.main_arg1)
      ∧ r.2.mem ((c.tc : Thread Cert.KernelLatNormB.nD Cert.KernelLatNormB.τ).loc Cert.KernelLatNormB.main_arg2) = m ((c.tc : Thread Cert.KernelLatNormB.nD Cert.KernelLatNormB.τ).loc Cert.KernelLatNormB.main_arg2)
      ∧ r.2.mem ((c.tc : Thread Cert.KernelLatNormB.nD Cert.KernelLatNormB.τ).loc Cert.KernelLatNormB.main_arg3) = m ((c.tc : Thread Cert.KernelLatNormB.nD Cert.KernelLatNormB.τ).loc Cert.KernelLatNormB.main_arg3)
      ∧ r.2.mem ((c.tc : Thread Cert.KernelLatNormB.nD Cert.KernelLatNormB.τ).loc Cert.KernelLatNormB.main_arg4) = m ((c.tc : Thread Cert.KernelLatNormB.nD Cert.KernelLatNormB.τ).loc Cert.KernelLatNormB.main_arg4))
      ∧ r.2.sem = fun _ => 0)

def quiescent_KernelLatNormBIdeal [hKernelLatNormBIdeal : Cert.KernelLatNormBIdeal.Facts] : Prop :=
  ∀ (m : (ℓ : Loc Cert.KernelLatNormBIdeal.nD Cert.KernelLatNormBIdeal.τ Cert.KernelLatNormBIdeal.sig) → Buf (Elt Ideal) ℓ) (g : Dev Cert.KernelLatNormBIdeal.nD → PrngReg), Pre_KernelLatNormBIdeal m →
    θ_run (Cert.KernelLatNormBIdeal.defs (F := Ideal)) (onTc (τ := Cert.KernelLatNormBIdeal.τ) (Cert.KernelLatNormBIdeal.main (F := Ideal))) ⟨m, fun _ => 0, g⟩ (fun r => (∀ c : Dev Cert.KernelLatNormBIdeal.nD,
      r.2.mem ((c.tc : Thread Cert.KernelLatNormBIdeal.nD Cert.KernelLatNormBIdeal.τ).loc Cert.KernelLatNormBIdeal.main_arg0) = m ((c.tc : Thread Cert.KernelLatNormBIdeal.nD Cert.KernelLatNormBIdeal.τ).loc Cert.KernelLatNormBIdeal.main_arg0)
      ∧ r.2.mem ((c.tc : Thread Cert.KernelLatNormBIdeal.nD Cert.KernelLatNormBIdeal.τ).loc Cert.KernelLatNormBIdeal.main_arg1) = m ((c.tc : Thread Cert.KernelLatNormBIdeal.nD Cert.KernelLatNormBIdeal.τ).loc Cert.KernelLatNormBIdeal.main_arg1)
      ∧ r.2.mem ((c.tc : Thread Cert.KernelLatNormBIdeal.nD Cert.KernelLatNormBIdeal.τ).loc Cert.KernelLatNormBIdeal.main_arg2) = m ((c.tc : Thread Cert.KernelLatNormBIdeal.nD Cert.KernelLatNormBIdeal.τ).loc Cert.KernelLatNormBIdeal.main_arg2)
      ∧ r.2.mem ((c.tc : Thread Cert.KernelLatNormBIdeal.nD Cert.KernelLatNormBIdeal.τ).loc Cert.KernelLatNormBIdeal.main_arg3) = m ((c.tc : Thread Cert.KernelLatNormBIdeal.nD Cert.KernelLatNormBIdeal.τ).loc Cert.KernelLatNormBIdeal.main_arg3)
      ∧ r.2.mem ((c.tc : Thread Cert.KernelLatNormBIdeal.nD Cert.KernelLatNormBIdeal.τ).loc Cert.KernelLatNormBIdeal.main_arg4) = m ((c.tc : Thread Cert.KernelLatNormBIdeal.nD Cert.KernelLatNormBIdeal.τ).loc Cert.KernelLatNormBIdeal.main_arg4))
      ∧ r.2.sem = fun _ => 0)

def quiescent_ReferenceLatNormBIdeal [hReferenceLatNormBIdeal : Cert.ReferenceLatNormBIdeal.Facts] : Prop :=
  ∀ (m : (ℓ : Loc Cert.ReferenceLatNormBIdeal.nD Cert.ReferenceLatNormBIdeal.τ Cert.ReferenceLatNormBIdeal.sig) → Buf (Elt Ideal) ℓ) (g : Dev Cert.ReferenceLatNormBIdeal.nD → PrngReg), Pre_ReferenceLatNormBIdeal m →
    θ_run (Cert.ReferenceLatNormBIdeal.defs (F := Ideal)) (onTc (τ := Cert.ReferenceLatNormBIdeal.τ) (Cert.ReferenceLatNormBIdeal.main (F := Ideal))) ⟨m, fun _ => 0, g⟩ (fun r => (∀ c : Dev Cert.ReferenceLatNormBIdeal.nD,
      r.2.mem ((c.tc : Thread Cert.ReferenceLatNormBIdeal.nD Cert.ReferenceLatNormBIdeal.τ).loc Cert.ReferenceLatNormBIdeal.main_arg0) = m ((c.tc : Thread Cert.ReferenceLatNormBIdeal.nD Cert.ReferenceLatNormBIdeal.τ).loc Cert.ReferenceLatNormBIdeal.main_arg0)
      ∧ r.2.mem ((c.tc : Thread Cert.ReferenceLatNormBIdeal.nD Cert.ReferenceLatNormBIdeal.τ).loc Cert.ReferenceLatNormBIdeal.main_arg1) = m ((c.tc : Thread Cert.ReferenceLatNormBIdeal.nD Cert.ReferenceLatNormBIdeal.τ).loc Cert.ReferenceLatNormBIdeal.main_arg1)
      ∧ r.2.mem ((c.tc : Thread Cert.ReferenceLatNormBIdeal.nD Cert.ReferenceLatNormBIdeal.τ).loc Cert.ReferenceLatNormBIdeal.main_arg2) = m ((c.tc : Thread Cert.ReferenceLatNormBIdeal.nD Cert.ReferenceLatNormBIdeal.τ).loc Cert.ReferenceLatNormBIdeal.main_arg2)
      ∧ r.2.mem ((c.tc : Thread Cert.ReferenceLatNormBIdeal.nD Cert.ReferenceLatNormBIdeal.τ).loc Cert.ReferenceLatNormBIdeal.main_arg3) = m ((c.tc : Thread Cert.ReferenceLatNormBIdeal.nD Cert.ReferenceLatNormBIdeal.τ).loc Cert.ReferenceLatNormBIdeal.main_arg3)
      ∧ r.2.mem ((c.tc : Thread Cert.ReferenceLatNormBIdeal.nD Cert.ReferenceLatNormBIdeal.τ).loc Cert.ReferenceLatNormBIdeal.main_arg4) = m ((c.tc : Thread Cert.ReferenceLatNormBIdeal.nD Cert.ReferenceLatNormBIdeal.τ).loc Cert.ReferenceLatNormBIdeal.main_arg4))
      ∧ r.2.sem = fun _ => 0)

def quiescent_KernelLatNormF [hKernelLatNormF : Cert.KernelLatNormF.Facts] : Prop :=
  ∀ (m : (ℓ : Loc Cert.KernelLatNormF.nD Cert.KernelLatNormF.τ Cert.KernelLatNormF.sig) → Buf (Elt Bits) ℓ) (g : Dev Cert.KernelLatNormF.nD → PrngReg), Pre_KernelLatNormF m →
    θ_run (Cert.KernelLatNormF.defs (F := Bits)) (onTc (τ := Cert.KernelLatNormF.τ) (Cert.KernelLatNormF.main (F := Bits))) ⟨m, fun _ => 0, g⟩ (fun r => (∀ c : Dev Cert.KernelLatNormF.nD,
      r.2.mem ((c.tc : Thread Cert.KernelLatNormF.nD Cert.KernelLatNormF.τ).loc Cert.KernelLatNormF.main_arg0) = m ((c.tc : Thread Cert.KernelLatNormF.nD Cert.KernelLatNormF.τ).loc Cert.KernelLatNormF.main_arg0)
      ∧ r.2.mem ((c.tc : Thread Cert.KernelLatNormF.nD Cert.KernelLatNormF.τ).loc Cert.KernelLatNormF.main_arg1) = m ((c.tc : Thread Cert.KernelLatNormF.nD Cert.KernelLatNormF.τ).loc Cert.KernelLatNormF.main_arg1)
      ∧ r.2.mem ((c.tc : Thread Cert.KernelLatNormF.nD Cert.KernelLatNormF.τ).loc Cert.KernelLatNormF.main_arg2) = m ((c.tc : Thread Cert.KernelLatNormF.nD Cert.KernelLatNormF.τ).loc Cert.KernelLatNormF.main_arg2))
      ∧ r.2.sem = fun _ => 0)

def quiescent_KernelLatNormFIdeal [hKernelLatNormFIdeal : Cert.KernelLatNormFIdeal.Facts] : Prop :=
  ∀ (m : (ℓ : Loc Cert.KernelLatNormFIdeal.nD Cert.KernelLatNormFIdeal.τ Cert.KernelLatNormFIdeal.sig) → Buf (Elt Ideal) ℓ) (g : Dev Cert.KernelLatNormFIdeal.nD → PrngReg), Pre_KernelLatNormFIdeal m →
    θ_run (Cert.KernelLatNormFIdeal.defs (F := Ideal)) (onTc (τ := Cert.KernelLatNormFIdeal.τ) (Cert.KernelLatNormFIdeal.main (F := Ideal))) ⟨m, fun _ => 0, g⟩ (fun r => (∀ c : Dev Cert.KernelLatNormFIdeal.nD,
      r.2.mem ((c.tc : Thread Cert.KernelLatNormFIdeal.nD Cert.KernelLatNormFIdeal.τ).loc Cert.KernelLatNormFIdeal.main_arg0) = m ((c.tc : Thread Cert.KernelLatNormFIdeal.nD Cert.KernelLatNormFIdeal.τ).loc Cert.KernelLatNormFIdeal.main_arg0)
      ∧ r.2.mem ((c.tc : Thread Cert.KernelLatNormFIdeal.nD Cert.KernelLatNormFIdeal.τ).loc Cert.KernelLatNormFIdeal.main_arg1) = m ((c.tc : Thread Cert.KernelLatNormFIdeal.nD Cert.KernelLatNormFIdeal.τ).loc Cert.KernelLatNormFIdeal.main_arg1)
      ∧ r.2.mem ((c.tc : Thread Cert.KernelLatNormFIdeal.nD Cert.KernelLatNormFIdeal.τ).loc Cert.KernelLatNormFIdeal.main_arg2) = m ((c.tc : Thread Cert.KernelLatNormFIdeal.nD Cert.KernelLatNormFIdeal.τ).loc Cert.KernelLatNormFIdeal.main_arg2))
      ∧ r.2.sem = fun _ => 0)

def quiescent_ReferenceLatNormFIdeal [hReferenceLatNormFIdeal : Cert.ReferenceLatNormFIdeal.Facts] : Prop :=
  ∀ (m : (ℓ : Loc Cert.ReferenceLatNormFIdeal.nD Cert.ReferenceLatNormFIdeal.τ Cert.ReferenceLatNormFIdeal.sig) → Buf (Elt Ideal) ℓ) (g : Dev Cert.ReferenceLatNormFIdeal.nD → PrngReg), Pre_ReferenceLatNormFIdeal m →
    θ_run (Cert.ReferenceLatNormFIdeal.defs (F := Ideal)) (onTc (τ := Cert.ReferenceLatNormFIdeal.τ) (Cert.ReferenceLatNormFIdeal.main (F := Ideal))) ⟨m, fun _ => 0, g⟩ (fun r => (∀ c : Dev Cert.ReferenceLatNormFIdeal.nD,
      r.2.mem ((c.tc : Thread Cert.ReferenceLatNormFIdeal.nD Cert.ReferenceLatNormFIdeal.τ).loc Cert.ReferenceLatNormFIdeal.main_arg0) = m ((c.tc : Thread Cert.ReferenceLatNormFIdeal.nD Cert.ReferenceLatNormFIdeal.τ).loc Cert.ReferenceLatNormFIdeal.main_arg0)
      ∧ r.2.mem ((c.tc : Thread Cert.ReferenceLatNormFIdeal.nD Cert.ReferenceLatNormFIdeal.τ).loc Cert.ReferenceLatNormFIdeal.main_arg1) = m ((c.tc : Thread Cert.ReferenceLatNormFIdeal.nD Cert.ReferenceLatNormFIdeal.τ).loc Cert.ReferenceLatNormFIdeal.main_arg1)
      ∧ r.2.mem ((c.tc : Thread Cert.ReferenceLatNormFIdeal.nD Cert.ReferenceLatNormFIdeal.τ).loc Cert.ReferenceLatNormFIdeal.main_arg2) = m ((c.tc : Thread Cert.ReferenceLatNormFIdeal.nD Cert.ReferenceLatNormFIdeal.τ).loc Cert.ReferenceLatNormFIdeal.main_arg2))
      ∧ r.2.sem = fun _ => 0)

def quiescent_KernelAdamMod [hKernelAdamMod : Cert.KernelAdamMod.Facts] : Prop :=
  ∀ (m : (ℓ : Loc Cert.KernelAdamMod.nD Cert.KernelAdamMod.τ Cert.KernelAdamMod.sig) → Buf (Elt Bits) ℓ) (g : Dev Cert.KernelAdamMod.nD → PrngReg), Pre_KernelAdamMod m →
    θ_run (Cert.KernelAdamMod.defs (F := Bits)) (onTc (τ := Cert.KernelAdamMod.τ) (Cert.KernelAdamMod.main (F := Bits))) ⟨m, fun _ => 0, g⟩ (fun r => (∀ c : Dev Cert.KernelAdamMod.nD,
      r.2.mem ((c.tc : Thread Cert.KernelAdamMod.nD Cert.KernelAdamMod.τ).loc Cert.KernelAdamMod.main_arg0) = m ((c.tc : Thread Cert.KernelAdamMod.nD Cert.KernelAdamMod.τ).loc Cert.KernelAdamMod.main_arg0)
      ∧ r.2.mem ((c.tc : Thread Cert.KernelAdamMod.nD Cert.KernelAdamMod.τ).loc Cert.KernelAdamMod.main_arg1) = m ((c.tc : Thread Cert.KernelAdamMod.nD Cert.KernelAdamMod.τ).loc Cert.KernelAdamMod.main_arg1)
      ∧ r.2.mem ((c.tc : Thread Cert.KernelAdamMod.nD Cert.KernelAdamMod.τ).loc Cert.KernelAdamMod.main_arg2) = m ((c.tc : Thread Cert.KernelAdamMod.nD Cert.KernelAdamMod.τ).loc Cert.KernelAdamMod.main_arg2)
      ∧ r.2.mem ((c.tc : Thread Cert.KernelAdamMod.nD Cert.KernelAdamMod.τ).loc Cert.KernelAdamMod.main_arg3) = m ((c.tc : Thread Cert.KernelAdamMod.nD Cert.KernelAdamMod.τ).loc Cert.KernelAdamMod.main_arg3))
      ∧ r.2.sem = fun _ => 0)

def quiescent_KernelAdamModIdeal [hKernelAdamModIdeal : Cert.KernelAdamModIdeal.Facts] : Prop :=
  ∀ (m : (ℓ : Loc Cert.KernelAdamModIdeal.nD Cert.KernelAdamModIdeal.τ Cert.KernelAdamModIdeal.sig) → Buf (Elt Ideal) ℓ) (g : Dev Cert.KernelAdamModIdeal.nD → PrngReg), Pre_KernelAdamModIdeal m →
    θ_run (Cert.KernelAdamModIdeal.defs (F := Ideal)) (onTc (τ := Cert.KernelAdamModIdeal.τ) (Cert.KernelAdamModIdeal.main (F := Ideal))) ⟨m, fun _ => 0, g⟩ (fun r => (∀ c : Dev Cert.KernelAdamModIdeal.nD,
      r.2.mem ((c.tc : Thread Cert.KernelAdamModIdeal.nD Cert.KernelAdamModIdeal.τ).loc Cert.KernelAdamModIdeal.main_arg0) = m ((c.tc : Thread Cert.KernelAdamModIdeal.nD Cert.KernelAdamModIdeal.τ).loc Cert.KernelAdamModIdeal.main_arg0)
      ∧ r.2.mem ((c.tc : Thread Cert.KernelAdamModIdeal.nD Cert.KernelAdamModIdeal.τ).loc Cert.KernelAdamModIdeal.main_arg1) = m ((c.tc : Thread Cert.KernelAdamModIdeal.nD Cert.KernelAdamModIdeal.τ).loc Cert.KernelAdamModIdeal.main_arg1)
      ∧ r.2.mem ((c.tc : Thread Cert.KernelAdamModIdeal.nD Cert.KernelAdamModIdeal.τ).loc Cert.KernelAdamModIdeal.main_arg2) = m ((c.tc : Thread Cert.KernelAdamModIdeal.nD Cert.KernelAdamModIdeal.τ).loc Cert.KernelAdamModIdeal.main_arg2)
      ∧ r.2.mem ((c.tc : Thread Cert.KernelAdamModIdeal.nD Cert.KernelAdamModIdeal.τ).loc Cert.KernelAdamModIdeal.main_arg3) = m ((c.tc : Thread Cert.KernelAdamModIdeal.nD Cert.KernelAdamModIdeal.τ).loc Cert.KernelAdamModIdeal.main_arg3))
      ∧ r.2.sem = fun _ => 0)

def quiescent_ReferenceAdamModIdeal [hReferenceAdamModIdeal : Cert.ReferenceAdamModIdeal.Facts] : Prop :=
  ∀ (m : (ℓ : Loc Cert.ReferenceAdamModIdeal.nD Cert.ReferenceAdamModIdeal.τ Cert.ReferenceAdamModIdeal.sig) → Buf (Elt Ideal) ℓ) (g : Dev Cert.ReferenceAdamModIdeal.nD → PrngReg), Pre_ReferenceAdamModIdeal m →
    θ_run (Cert.ReferenceAdamModIdeal.defs (F := Ideal)) (onTc (τ := Cert.ReferenceAdamModIdeal.τ) (Cert.ReferenceAdamModIdeal.main (F := Ideal))) ⟨m, fun _ => 0, g⟩ (fun r => (∀ c : Dev Cert.ReferenceAdamModIdeal.nD,
      r.2.mem ((c.tc : Thread Cert.ReferenceAdamModIdeal.nD Cert.ReferenceAdamModIdeal.τ).loc Cert.ReferenceAdamModIdeal.main_arg0) = m ((c.tc : Thread Cert.ReferenceAdamModIdeal.nD Cert.ReferenceAdamModIdeal.τ).loc Cert.ReferenceAdamModIdeal.main_arg0)
      ∧ r.2.mem ((c.tc : Thread Cert.ReferenceAdamModIdeal.nD Cert.ReferenceAdamModIdeal.τ).loc Cert.ReferenceAdamModIdeal.main_arg1) = m ((c.tc : Thread Cert.ReferenceAdamModIdeal.nD Cert.ReferenceAdamModIdeal.τ).loc Cert.ReferenceAdamModIdeal.main_arg1)
      ∧ r.2.mem ((c.tc : Thread Cert.ReferenceAdamModIdeal.nD Cert.ReferenceAdamModIdeal.τ).loc Cert.ReferenceAdamModIdeal.main_arg2) = m ((c.tc : Thread Cert.ReferenceAdamModIdeal.nD Cert.ReferenceAdamModIdeal.τ).loc Cert.ReferenceAdamModIdeal.main_arg2)
      ∧ r.2.mem ((c.tc : Thread Cert.ReferenceAdamModIdeal.nD Cert.ReferenceAdamModIdeal.τ).loc Cert.ReferenceAdamModIdeal.main_arg3) = m ((c.tc : Thread Cert.ReferenceAdamModIdeal.nD Cert.ReferenceAdamModIdeal.τ).loc Cert.ReferenceAdamModIdeal.main_arg3))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3))
      ∧ r.2.sem = fun _ => 0)

def quiescent_KernelAdamUq [hKernelAdamUq : Cert.KernelAdamUq.Facts] : Prop :=
  ∀ (m : (ℓ : Loc Cert.KernelAdamUq.nD Cert.KernelAdamUq.τ Cert.KernelAdamUq.sig) → Buf (Elt Bits) ℓ) (g : Dev Cert.KernelAdamUq.nD → PrngReg), Pre_KernelAdamUq m →
    θ_run (Cert.KernelAdamUq.defs (F := Bits)) (onTc (τ := Cert.KernelAdamUq.τ) (Cert.KernelAdamUq.main (F := Bits))) ⟨m, fun _ => 0, g⟩ (fun r => (∀ c : Dev Cert.KernelAdamUq.nD,
      r.2.mem ((c.tc : Thread Cert.KernelAdamUq.nD Cert.KernelAdamUq.τ).loc Cert.KernelAdamUq.main_arg0) = m ((c.tc : Thread Cert.KernelAdamUq.nD Cert.KernelAdamUq.τ).loc Cert.KernelAdamUq.main_arg0)
      ∧ r.2.mem ((c.tc : Thread Cert.KernelAdamUq.nD Cert.KernelAdamUq.τ).loc Cert.KernelAdamUq.main_arg1) = m ((c.tc : Thread Cert.KernelAdamUq.nD Cert.KernelAdamUq.τ).loc Cert.KernelAdamUq.main_arg1)
      ∧ r.2.mem ((c.tc : Thread Cert.KernelAdamUq.nD Cert.KernelAdamUq.τ).loc Cert.KernelAdamUq.main_arg2) = m ((c.tc : Thread Cert.KernelAdamUq.nD Cert.KernelAdamUq.τ).loc Cert.KernelAdamUq.main_arg2)
      ∧ r.2.mem ((c.tc : Thread Cert.KernelAdamUq.nD Cert.KernelAdamUq.τ).loc Cert.KernelAdamUq.main_arg3) = m ((c.tc : Thread Cert.KernelAdamUq.nD Cert.KernelAdamUq.τ).loc Cert.KernelAdamUq.main_arg3))
      ∧ r.2.sem = fun _ => 0)

def quiescent_KernelAdamUqIdeal [hKernelAdamUqIdeal : Cert.KernelAdamUqIdeal.Facts] : Prop :=
  ∀ (m : (ℓ : Loc Cert.KernelAdamUqIdeal.nD Cert.KernelAdamUqIdeal.τ Cert.KernelAdamUqIdeal.sig) → Buf (Elt Ideal) ℓ) (g : Dev Cert.KernelAdamUqIdeal.nD → PrngReg), Pre_KernelAdamUqIdeal m →
    θ_run (Cert.KernelAdamUqIdeal.defs (F := Ideal)) (onTc (τ := Cert.KernelAdamUqIdeal.τ) (Cert.KernelAdamUqIdeal.main (F := Ideal))) ⟨m, fun _ => 0, g⟩ (fun r => (∀ c : Dev Cert.KernelAdamUqIdeal.nD,
      r.2.mem ((c.tc : Thread Cert.KernelAdamUqIdeal.nD Cert.KernelAdamUqIdeal.τ).loc Cert.KernelAdamUqIdeal.main_arg0) = m ((c.tc : Thread Cert.KernelAdamUqIdeal.nD Cert.KernelAdamUqIdeal.τ).loc Cert.KernelAdamUqIdeal.main_arg0)
      ∧ r.2.mem ((c.tc : Thread Cert.KernelAdamUqIdeal.nD Cert.KernelAdamUqIdeal.τ).loc Cert.KernelAdamUqIdeal.main_arg1) = m ((c.tc : Thread Cert.KernelAdamUqIdeal.nD Cert.KernelAdamUqIdeal.τ).loc Cert.KernelAdamUqIdeal.main_arg1)
      ∧ r.2.mem ((c.tc : Thread Cert.KernelAdamUqIdeal.nD Cert.KernelAdamUqIdeal.τ).loc Cert.KernelAdamUqIdeal.main_arg2) = m ((c.tc : Thread Cert.KernelAdamUqIdeal.nD Cert.KernelAdamUqIdeal.τ).loc Cert.KernelAdamUqIdeal.main_arg2)
      ∧ r.2.mem ((c.tc : Thread Cert.KernelAdamUqIdeal.nD Cert.KernelAdamUqIdeal.τ).loc Cert.KernelAdamUqIdeal.main_arg3) = m ((c.tc : Thread Cert.KernelAdamUqIdeal.nD Cert.KernelAdamUqIdeal.τ).loc Cert.KernelAdamUqIdeal.main_arg3))
      ∧ r.2.sem = fun _ => 0)

def quiescent_ReferenceAdamUqIdeal [hReferenceAdamUqIdeal : Cert.ReferenceAdamUqIdeal.Facts] : Prop :=
  ∀ (m : (ℓ : Loc Cert.ReferenceAdamUqIdeal.nD Cert.ReferenceAdamUqIdeal.τ Cert.ReferenceAdamUqIdeal.sig) → Buf (Elt Ideal) ℓ) (g : Dev Cert.ReferenceAdamUqIdeal.nD → PrngReg), Pre_ReferenceAdamUqIdeal m →
    θ_run (Cert.ReferenceAdamUqIdeal.defs (F := Ideal)) (onTc (τ := Cert.ReferenceAdamUqIdeal.τ) (Cert.ReferenceAdamUqIdeal.main (F := Ideal))) ⟨m, fun _ => 0, g⟩ (fun r => (∀ c : Dev Cert.ReferenceAdamUqIdeal.nD,
      r.2.mem ((c.tc : Thread Cert.ReferenceAdamUqIdeal.nD Cert.ReferenceAdamUqIdeal.τ).loc Cert.ReferenceAdamUqIdeal.main_arg0) = m ((c.tc : Thread Cert.ReferenceAdamUqIdeal.nD Cert.ReferenceAdamUqIdeal.τ).loc Cert.ReferenceAdamUqIdeal.main_arg0)
      ∧ r.2.mem ((c.tc : Thread Cert.ReferenceAdamUqIdeal.nD Cert.ReferenceAdamUqIdeal.τ).loc Cert.ReferenceAdamUqIdeal.main_arg1) = m ((c.tc : Thread Cert.ReferenceAdamUqIdeal.nD Cert.ReferenceAdamUqIdeal.τ).loc Cert.ReferenceAdamUqIdeal.main_arg1)
      ∧ r.2.mem ((c.tc : Thread Cert.ReferenceAdamUqIdeal.nD Cert.ReferenceAdamUqIdeal.τ).loc Cert.ReferenceAdamUqIdeal.main_arg2) = m ((c.tc : Thread Cert.ReferenceAdamUqIdeal.nD Cert.ReferenceAdamUqIdeal.τ).loc Cert.ReferenceAdamUqIdeal.main_arg2)
      ∧ r.2.mem ((c.tc : Thread Cert.ReferenceAdamUqIdeal.nD Cert.ReferenceAdamUqIdeal.τ).loc Cert.ReferenceAdamUqIdeal.main_arg3) = m ((c.tc : Thread Cert.ReferenceAdamUqIdeal.nD Cert.ReferenceAdamUqIdeal.τ).loc Cert.ReferenceAdamUqIdeal.main_arg3))
      ∧ r.2.sem = fun _ => 0)

def quiescent_KernelAdamUkv [hKernelAdamUkv : Cert.KernelAdamUkv.Facts] : Prop :=
  ∀ (m : (ℓ : Loc Cert.KernelAdamUkv.nD Cert.KernelAdamUkv.τ Cert.KernelAdamUkv.sig) → Buf (Elt Bits) ℓ) (g : Dev Cert.KernelAdamUkv.nD → PrngReg), Pre_KernelAdamUkv m →
    θ_run (Cert.KernelAdamUkv.defs (F := Bits)) (onTc (τ := Cert.KernelAdamUkv.τ) (Cert.KernelAdamUkv.main (F := Bits))) ⟨m, fun _ => 0, g⟩ (fun r => (∀ c : Dev Cert.KernelAdamUkv.nD,
      r.2.mem ((c.tc : Thread Cert.KernelAdamUkv.nD Cert.KernelAdamUkv.τ).loc Cert.KernelAdamUkv.main_arg0) = m ((c.tc : Thread Cert.KernelAdamUkv.nD Cert.KernelAdamUkv.τ).loc Cert.KernelAdamUkv.main_arg0)
      ∧ r.2.mem ((c.tc : Thread Cert.KernelAdamUkv.nD Cert.KernelAdamUkv.τ).loc Cert.KernelAdamUkv.main_arg1) = m ((c.tc : Thread Cert.KernelAdamUkv.nD Cert.KernelAdamUkv.τ).loc Cert.KernelAdamUkv.main_arg1)
      ∧ r.2.mem ((c.tc : Thread Cert.KernelAdamUkv.nD Cert.KernelAdamUkv.τ).loc Cert.KernelAdamUkv.main_arg2) = m ((c.tc : Thread Cert.KernelAdamUkv.nD Cert.KernelAdamUkv.τ).loc Cert.KernelAdamUkv.main_arg2)
      ∧ r.2.mem ((c.tc : Thread Cert.KernelAdamUkv.nD Cert.KernelAdamUkv.τ).loc Cert.KernelAdamUkv.main_arg3) = m ((c.tc : Thread Cert.KernelAdamUkv.nD Cert.KernelAdamUkv.τ).loc Cert.KernelAdamUkv.main_arg3))
      ∧ r.2.sem = fun _ => 0)

def quiescent_KernelAdamUkvIdeal [hKernelAdamUkvIdeal : Cert.KernelAdamUkvIdeal.Facts] : Prop :=
  ∀ (m : (ℓ : Loc Cert.KernelAdamUkvIdeal.nD Cert.KernelAdamUkvIdeal.τ Cert.KernelAdamUkvIdeal.sig) → Buf (Elt Ideal) ℓ) (g : Dev Cert.KernelAdamUkvIdeal.nD → PrngReg), Pre_KernelAdamUkvIdeal m →
    θ_run (Cert.KernelAdamUkvIdeal.defs (F := Ideal)) (onTc (τ := Cert.KernelAdamUkvIdeal.τ) (Cert.KernelAdamUkvIdeal.main (F := Ideal))) ⟨m, fun _ => 0, g⟩ (fun r => (∀ c : Dev Cert.KernelAdamUkvIdeal.nD,
      r.2.mem ((c.tc : Thread Cert.KernelAdamUkvIdeal.nD Cert.KernelAdamUkvIdeal.τ).loc Cert.KernelAdamUkvIdeal.main_arg0) = m ((c.tc : Thread Cert.KernelAdamUkvIdeal.nD Cert.KernelAdamUkvIdeal.τ).loc Cert.KernelAdamUkvIdeal.main_arg0)
      ∧ r.2.mem ((c.tc : Thread Cert.KernelAdamUkvIdeal.nD Cert.KernelAdamUkvIdeal.τ).loc Cert.KernelAdamUkvIdeal.main_arg1) = m ((c.tc : Thread Cert.KernelAdamUkvIdeal.nD Cert.KernelAdamUkvIdeal.τ).loc Cert.KernelAdamUkvIdeal.main_arg1)
      ∧ r.2.mem ((c.tc : Thread Cert.KernelAdamUkvIdeal.nD Cert.KernelAdamUkvIdeal.τ).loc Cert.KernelAdamUkvIdeal.main_arg2) = m ((c.tc : Thread Cert.KernelAdamUkvIdeal.nD Cert.KernelAdamUkvIdeal.τ).loc Cert.KernelAdamUkvIdeal.main_arg2)
      ∧ r.2.mem ((c.tc : Thread Cert.KernelAdamUkvIdeal.nD Cert.KernelAdamUkvIdeal.τ).loc Cert.KernelAdamUkvIdeal.main_arg3) = m ((c.tc : Thread Cert.KernelAdamUkvIdeal.nD Cert.KernelAdamUkvIdeal.τ).loc Cert.KernelAdamUkvIdeal.main_arg3))
      ∧ r.2.sem = fun _ => 0)

def quiescent_ReferenceAdamUkvIdeal [hReferenceAdamUkvIdeal : Cert.ReferenceAdamUkvIdeal.Facts] : Prop :=
  ∀ (m : (ℓ : Loc Cert.ReferenceAdamUkvIdeal.nD Cert.ReferenceAdamUkvIdeal.τ Cert.ReferenceAdamUkvIdeal.sig) → Buf (Elt Ideal) ℓ) (g : Dev Cert.ReferenceAdamUkvIdeal.nD → PrngReg), Pre_ReferenceAdamUkvIdeal m →
    θ_run (Cert.ReferenceAdamUkvIdeal.defs (F := Ideal)) (onTc (τ := Cert.ReferenceAdamUkvIdeal.τ) (Cert.ReferenceAdamUkvIdeal.main (F := Ideal))) ⟨m, fun _ => 0, g⟩ (fun r => (∀ c : Dev Cert.ReferenceAdamUkvIdeal.nD,
      r.2.mem ((c.tc : Thread Cert.ReferenceAdamUkvIdeal.nD Cert.ReferenceAdamUkvIdeal.τ).loc Cert.ReferenceAdamUkvIdeal.main_arg0) = m ((c.tc : Thread Cert.ReferenceAdamUkvIdeal.nD Cert.ReferenceAdamUkvIdeal.τ).loc Cert.ReferenceAdamUkvIdeal.main_arg0)
      ∧ r.2.mem ((c.tc : Thread Cert.ReferenceAdamUkvIdeal.nD Cert.ReferenceAdamUkvIdeal.τ).loc Cert.ReferenceAdamUkvIdeal.main_arg1) = m ((c.tc : Thread Cert.ReferenceAdamUkvIdeal.nD Cert.ReferenceAdamUkvIdeal.τ).loc Cert.ReferenceAdamUkvIdeal.main_arg1)
      ∧ r.2.mem ((c.tc : Thread Cert.ReferenceAdamUkvIdeal.nD Cert.ReferenceAdamUkvIdeal.τ).loc Cert.ReferenceAdamUkvIdeal.main_arg2) = m ((c.tc : Thread Cert.ReferenceAdamUkvIdeal.nD Cert.ReferenceAdamUkvIdeal.τ).loc Cert.ReferenceAdamUkvIdeal.main_arg2)
      ∧ r.2.mem ((c.tc : Thread Cert.ReferenceAdamUkvIdeal.nD Cert.ReferenceAdamUkvIdeal.τ).loc Cert.ReferenceAdamUkvIdeal.main_arg3) = m ((c.tc : Thread Cert.ReferenceAdamUkvIdeal.nD Cert.ReferenceAdamUkvIdeal.τ).loc Cert.ReferenceAdamUkvIdeal.main_arg3))
      ∧ r.2.sem = fun _ => 0)

def quiescent_KernelAdamOut [hKernelAdamOut : Cert.KernelAdamOut.Facts] : Prop :=
  ∀ (m : (ℓ : Loc Cert.KernelAdamOut.nD Cert.KernelAdamOut.τ Cert.KernelAdamOut.sig) → Buf (Elt Bits) ℓ) (g : Dev Cert.KernelAdamOut.nD → PrngReg), Pre_KernelAdamOut m →
    θ_run (Cert.KernelAdamOut.defs (F := Bits)) (onTc (τ := Cert.KernelAdamOut.τ) (Cert.KernelAdamOut.main (F := Bits))) ⟨m, fun _ => 0, g⟩ (fun r => (∀ c : Dev Cert.KernelAdamOut.nD,
      r.2.mem ((c.tc : Thread Cert.KernelAdamOut.nD Cert.KernelAdamOut.τ).loc Cert.KernelAdamOut.main_arg0) = m ((c.tc : Thread Cert.KernelAdamOut.nD Cert.KernelAdamOut.τ).loc Cert.KernelAdamOut.main_arg0)
      ∧ r.2.mem ((c.tc : Thread Cert.KernelAdamOut.nD Cert.KernelAdamOut.τ).loc Cert.KernelAdamOut.main_arg1) = m ((c.tc : Thread Cert.KernelAdamOut.nD Cert.KernelAdamOut.τ).loc Cert.KernelAdamOut.main_arg1)
      ∧ r.2.mem ((c.tc : Thread Cert.KernelAdamOut.nD Cert.KernelAdamOut.τ).loc Cert.KernelAdamOut.main_arg2) = m ((c.tc : Thread Cert.KernelAdamOut.nD Cert.KernelAdamOut.τ).loc Cert.KernelAdamOut.main_arg2)
      ∧ r.2.mem ((c.tc : Thread Cert.KernelAdamOut.nD Cert.KernelAdamOut.τ).loc Cert.KernelAdamOut.main_arg3) = m ((c.tc : Thread Cert.KernelAdamOut.nD Cert.KernelAdamOut.τ).loc Cert.KernelAdamOut.main_arg3))
      ∧ r.2.sem = fun _ => 0)

def quiescent_KernelAdamOutIdeal [hKernelAdamOutIdeal : Cert.KernelAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg), Pre_KernelAdamOutIdeal m →
    θ_run (Cert.KernelAdamOutIdeal.defs (F := Ideal)) (onTc (τ := Cert.KernelAdamOutIdeal.τ) (Cert.KernelAdamOutIdeal.main (F := Ideal))) ⟨m, fun _ => 0, g⟩ (fun r => (∀ c : Dev Cert.KernelAdamOutIdeal.nD,
      r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
      ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
      ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
      ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ r.2.sem = fun _ => 0)

def quiescent_ReferenceAdamOutIdeal [hReferenceAdamOutIdeal : Cert.ReferenceAdamOutIdeal.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3))
      ∧ r.2.sem = fun _ => 0)

def quiescent_KernelAdamFfnIn [hKernelAdamFfnIn : Cert.KernelAdamFfnIn.Facts] : Prop :=
  ∀ (m : (ℓ : Loc Cert.KernelAdamFfnIn.nD Cert.KernelAdamFfnIn.τ Cert.KernelAdamFfnIn.sig) → Buf (Elt Bits) ℓ) (g : Dev Cert.KernelAdamFfnIn.nD → PrngReg), Pre_KernelAdamFfnIn m →
    θ_run (Cert.KernelAdamFfnIn.defs (F := Bits)) (onTc (τ := Cert.KernelAdamFfnIn.τ) (Cert.KernelAdamFfnIn.main (F := Bits))) ⟨m, fun _ => 0, g⟩ (fun r => (∀ c : Dev Cert.KernelAdamFfnIn.nD,
      r.2.mem ((c.tc : Thread Cert.KernelAdamFfnIn.nD Cert.KernelAdamFfnIn.τ).loc Cert.KernelAdamFfnIn.main_arg0) = m ((c.tc : Thread Cert.KernelAdamFfnIn.nD Cert.KernelAdamFfnIn.τ).loc Cert.KernelAdamFfnIn.main_arg0)
      ∧ r.2.mem ((c.tc : Thread Cert.KernelAdamFfnIn.nD Cert.KernelAdamFfnIn.τ).loc Cert.KernelAdamFfnIn.main_arg1) = m ((c.tc : Thread Cert.KernelAdamFfnIn.nD Cert.KernelAdamFfnIn.τ).loc Cert.KernelAdamFfnIn.main_arg1)
      ∧ r.2.mem ((c.tc : Thread Cert.KernelAdamFfnIn.nD Cert.KernelAdamFfnIn.τ).loc Cert.KernelAdamFfnIn.main_arg2) = m ((c.tc : Thread Cert.KernelAdamFfnIn.nD Cert.KernelAdamFfnIn.τ).loc Cert.KernelAdamFfnIn.main_arg2)
      ∧ r.2.mem ((c.tc : Thread Cert.KernelAdamFfnIn.nD Cert.KernelAdamFfnIn.τ).loc Cert.KernelAdamFfnIn.main_arg3) = m ((c.tc : Thread Cert.KernelAdamFfnIn.nD Cert.KernelAdamFfnIn.τ).loc Cert.KernelAdamFfnIn.main_arg3))
      ∧ r.2.sem = fun _ => 0)

def quiescent_KernelAdamFfnInIdeal [hKernelAdamFfnInIdeal : Cert.KernelAdamFfnInIdeal.Facts] : Prop :=
  ∀ (m : (ℓ : Loc Cert.KernelAdamFfnInIdeal.nD Cert.KernelAdamFfnInIdeal.τ Cert.KernelAdamFfnInIdeal.sig) → Buf (Elt Ideal) ℓ) (g : Dev Cert.KernelAdamFfnInIdeal.nD → PrngReg), Pre_KernelAdamFfnInIdeal m →
    θ_run (Cert.KernelAdamFfnInIdeal.defs (F := Ideal)) (onTc (τ := Cert.KernelAdamFfnInIdeal.τ) (Cert.KernelAdamFfnInIdeal.main (F := Ideal))) ⟨m, fun _ => 0, g⟩ (fun r => (∀ c : Dev Cert.KernelAdamFfnInIdeal.nD,
      r.2.mem ((c.tc : Thread Cert.KernelAdamFfnInIdeal.nD Cert.KernelAdamFfnInIdeal.τ).loc Cert.KernelAdamFfnInIdeal.main_arg0) = m ((c.tc : Thread Cert.KernelAdamFfnInIdeal.nD Cert.KernelAdamFfnInIdeal.τ).loc Cert.KernelAdamFfnInIdeal.main_arg0)
      ∧ r.2.mem ((c.tc : Thread Cert.KernelAdamFfnInIdeal.nD Cert.KernelAdamFfnInIdeal.τ).loc Cert.KernelAdamFfnInIdeal.main_arg1) = m ((c.tc : Thread Cert.KernelAdamFfnInIdeal.nD Cert.KernelAdamFfnInIdeal.τ).loc Cert.KernelAdamFfnInIdeal.main_arg1)
      ∧ r.2.mem ((c.tc : Thread Cert.KernelAdamFfnInIdeal.nD Cert.KernelAdamFfnInIdeal.τ).loc Cert.KernelAdamFfnInIdeal.main_arg2) = m ((c.tc : Thread Cert.KernelAdamFfnInIdeal.nD Cert.KernelAdamFfnInIdeal.τ).loc Cert.KernelAdamFfnInIdeal.main_arg2)
      ∧ r.2.mem ((c.tc : Thread Cert.KernelAdamFfnInIdeal.nD Cert.KernelAdamFfnInIdeal.τ).loc Cert.KernelAdamFfnInIdeal.main_arg3) = m ((c.tc : Thread Cert.KernelAdamFfnInIdeal.nD Cert.KernelAdamFfnInIdeal.τ).loc Cert.KernelAdamFfnInIdeal.main_arg3))
      ∧ r.2.sem = fun _ => 0)

def quiescent_ReferenceAdamFfnInIdeal [hReferenceAdamFfnInIdeal : Cert.ReferenceAdamFfnInIdeal.Facts] : Prop :=
  ∀ (m : (ℓ : Loc Cert.ReferenceAdamFfnInIdeal.nD Cert.ReferenceAdamFfnInIdeal.τ Cert.ReferenceAdamFfnInIdeal.sig) → Buf (Elt Ideal) ℓ) (g : Dev Cert.ReferenceAdamFfnInIdeal.nD → PrngReg), Pre_ReferenceAdamFfnInIdeal m →
    θ_run (Cert.ReferenceAdamFfnInIdeal.defs (F := Ideal)) (onTc (τ := Cert.ReferenceAdamFfnInIdeal.τ) (Cert.ReferenceAdamFfnInIdeal.main (F := Ideal))) ⟨m, fun _ => 0, g⟩ (fun r => (∀ c : Dev Cert.ReferenceAdamFfnInIdeal.nD,
      r.2.mem ((c.tc : Thread Cert.ReferenceAdamFfnInIdeal.nD Cert.ReferenceAdamFfnInIdeal.τ).loc Cert.ReferenceAdamFfnInIdeal.main_arg0) = m ((c.tc : Thread Cert.ReferenceAdamFfnInIdeal.nD Cert.ReferenceAdamFfnInIdeal.τ).loc Cert.ReferenceAdamFfnInIdeal.main_arg0)
      ∧ r.2.mem ((c.tc : Thread Cert.ReferenceAdamFfnInIdeal.nD Cert.ReferenceAdamFfnInIdeal.τ).loc Cert.ReferenceAdamFfnInIdeal.main_arg1) = m ((c.tc : Thread Cert.ReferenceAdamFfnInIdeal.nD Cert.ReferenceAdamFfnInIdeal.τ).loc Cert.ReferenceAdamFfnInIdeal.main_arg1)
      ∧ r.2.mem ((c.tc : Thread Cert.ReferenceAdamFfnInIdeal.nD Cert.ReferenceAdamFfnInIdeal.τ).loc Cert.ReferenceAdamFfnInIdeal.main_arg2) = m ((c.tc : Thread Cert.ReferenceAdamFfnInIdeal.nD Cert.ReferenceAdamFfnInIdeal.τ).loc Cert.ReferenceAdamFfnInIdeal.main_arg2)
      ∧ r.2.mem ((c.tc : Thread Cert.ReferenceAdamFfnInIdeal.nD Cert.ReferenceAdamFfnInIdeal.τ).loc Cert.ReferenceAdamFfnInIdeal.main_arg3) = m ((c.tc : Thread Cert.ReferenceAdamFfnInIdeal.nD Cert.ReferenceAdamFfnInIdeal.τ).loc Cert.ReferenceAdamFfnInIdeal.main_arg3))
      ∧ r.2.sem = fun _ => 0)

def quiescent_KernelAdamFfnOut [hKernelAdamFfnOut : Cert.KernelAdamFfnOut.Facts] : Prop :=
  ∀ (m : (ℓ : Loc Cert.KernelAdamFfnOut.nD Cert.KernelAdamFfnOut.τ Cert.KernelAdamFfnOut.sig) → Buf (Elt Bits) ℓ) (g : Dev Cert.KernelAdamFfnOut.nD → PrngReg), Pre_KernelAdamFfnOut m →
    θ_run (Cert.KernelAdamFfnOut.defs (F := Bits)) (onTc (τ := Cert.KernelAdamFfnOut.τ) (Cert.KernelAdamFfnOut.main (F := Bits))) ⟨m, fun _ => 0, g⟩ (fun r => (∀ c : Dev Cert.KernelAdamFfnOut.nD,
      r.2.mem ((c.tc : Thread Cert.KernelAdamFfnOut.nD Cert.KernelAdamFfnOut.τ).loc Cert.KernelAdamFfnOut.main_arg0) = m ((c.tc : Thread Cert.KernelAdamFfnOut.nD Cert.KernelAdamFfnOut.τ).loc Cert.KernelAdamFfnOut.main_arg0)
      ∧ r.2.mem ((c.tc : Thread Cert.KernelAdamFfnOut.nD Cert.KernelAdamFfnOut.τ).loc Cert.KernelAdamFfnOut.main_arg1) = m ((c.tc : Thread Cert.KernelAdamFfnOut.nD Cert.KernelAdamFfnOut.τ).loc Cert.KernelAdamFfnOut.main_arg1)
      ∧ r.2.mem ((c.tc : Thread Cert.KernelAdamFfnOut.nD Cert.KernelAdamFfnOut.τ).loc Cert.KernelAdamFfnOut.main_arg2) = m ((c.tc : Thread Cert.KernelAdamFfnOut.nD Cert.KernelAdamFfnOut.τ).loc Cert.KernelAdamFfnOut.main_arg2)
      ∧ r.2.mem ((c.tc : Thread Cert.KernelAdamFfnOut.nD Cert.KernelAdamFfnOut.τ).loc Cert.KernelAdamFfnOut.main_arg3) = m ((c.tc : Thread Cert.KernelAdamFfnOut.nD Cert.KernelAdamFfnOut.τ).loc Cert.KernelAdamFfnOut.main_arg3))
      ∧ r.2.sem = fun _ => 0)

def quiescent_KernelAdamFfnOutIdeal [hKernelAdamFfnOutIdeal : Cert.KernelAdamFfnOutIdeal.Facts] : Prop :=
  ∀ (m : (ℓ : Loc Cert.KernelAdamFfnOutIdeal.nD Cert.KernelAdamFfnOutIdeal.τ Cert.KernelAdamFfnOutIdeal.sig) → Buf (Elt Ideal) ℓ) (g : Dev Cert.KernelAdamFfnOutIdeal.nD → PrngReg), Pre_KernelAdamFfnOutIdeal m →
    θ_run (Cert.KernelAdamFfnOutIdeal.defs (F := Ideal)) (onTc (τ := Cert.KernelAdamFfnOutIdeal.τ) (Cert.KernelAdamFfnOutIdeal.main (F := Ideal))) ⟨m, fun _ => 0, g⟩ (fun r => (∀ c : Dev Cert.KernelAdamFfnOutIdeal.nD,
      r.2.mem ((c.tc : Thread Cert.KernelAdamFfnOutIdeal.nD Cert.KernelAdamFfnOutIdeal.τ).loc Cert.KernelAdamFfnOutIdeal.main_arg0) = m ((c.tc : Thread Cert.KernelAdamFfnOutIdeal.nD Cert.KernelAdamFfnOutIdeal.τ).loc Cert.KernelAdamFfnOutIdeal.main_arg0)
      ∧ r.2.mem ((c.tc : Thread Cert.KernelAdamFfnOutIdeal.nD Cert.KernelAdamFfnOutIdeal.τ).loc Cert.KernelAdamFfnOutIdeal.main_arg1) = m ((c.tc : Thread Cert.KernelAdamFfnOutIdeal.nD Cert.KernelAdamFfnOutIdeal.τ).loc Cert.KernelAdamFfnOutIdeal.main_arg1)
      ∧ r.2.mem ((c.tc : Thread Cert.KernelAdamFfnOutIdeal.nD Cert.KernelAdamFfnOutIdeal.τ).loc Cert.KernelAdamFfnOutIdeal.main_arg2) = m ((c.tc : Thread Cert.KernelAdamFfnOutIdeal.nD Cert.KernelAdamFfnOutIdeal.τ).loc Cert.KernelAdamFfnOutIdeal.main_arg2)
      ∧ r.2.mem ((c.tc : Thread Cert.KernelAdamFfnOutIdeal.nD Cert.KernelAdamFfnOutIdeal.τ).loc Cert.KernelAdamFfnOutIdeal.main_arg3) = m ((c.tc : Thread Cert.KernelAdamFfnOutIdeal.nD Cert.KernelAdamFfnOutIdeal.τ).loc Cert.KernelAdamFfnOutIdeal.main_arg3))
      ∧ r.2.sem = fun _ => 0)

def quiescent_ReferenceAdamFfnOutIdeal [hReferenceAdamFfnOutIdeal : Cert.ReferenceAdamFfnOutIdeal.Facts] : Prop :=
  ∀ (m : (ℓ : Loc Cert.ReferenceAdamFfnOutIdeal.nD Cert.ReferenceAdamFfnOutIdeal.τ Cert.ReferenceAdamFfnOutIdeal.sig) → Buf (Elt Ideal) ℓ) (g : Dev Cert.ReferenceAdamFfnOutIdeal.nD → PrngReg), Pre_ReferenceAdamFfnOutIdeal m →
    θ_run (Cert.ReferenceAdamFfnOutIdeal.defs (F := Ideal)) (onTc (τ := Cert.ReferenceAdamFfnOutIdeal.τ) (Cert.ReferenceAdamFfnOutIdeal.main (F := Ideal))) ⟨m, fun _ => 0, g⟩ (fun r => (∀ c : Dev Cert.ReferenceAdamFfnOutIdeal.nD,
      r.2.mem ((c.tc : Thread Cert.ReferenceAdamFfnOutIdeal.nD Cert.ReferenceAdamFfnOutIdeal.τ).loc Cert.ReferenceAdamFfnOutIdeal.main_arg0) = m ((c.tc : Thread Cert.ReferenceAdamFfnOutIdeal.nD Cert.ReferenceAdamFfnOutIdeal.τ).loc Cert.ReferenceAdamFfnOutIdeal.main_arg0)
      ∧ r.2.mem ((c.tc : Thread Cert.ReferenceAdamFfnOutIdeal.nD Cert.ReferenceAdamFfnOutIdeal.τ).loc Cert.ReferenceAdamFfnOutIdeal.main_arg1) = m ((c.tc : Thread Cert.ReferenceAdamFfnOutIdeal.nD Cert.ReferenceAdamFfnOutIdeal.τ).loc Cert.ReferenceAdamFfnOutIdeal.main_arg1)
      ∧ r.2.mem ((c.tc : Thread Cert.ReferenceAdamFfnOutIdeal.nD Cert.ReferenceAdamFfnOutIdeal.τ).loc Cert.ReferenceAdamFfnOutIdeal.main_arg2) = m ((c.tc : Thread Cert.ReferenceAdamFfnOutIdeal.nD Cert.ReferenceAdamFfnOutIdeal.τ).loc Cert.ReferenceAdamFfnOutIdeal.main_arg2)
      ∧ r.2.mem ((c.tc : Thread Cert.ReferenceAdamFfnOutIdeal.nD Cert.ReferenceAdamFfnOutIdeal.τ).loc Cert.ReferenceAdamFfnOutIdeal.main_arg3) = m ((c.tc : Thread Cert.ReferenceAdamFfnOutIdeal.nD Cert.ReferenceAdamFfnOutIdeal.τ).loc Cert.ReferenceAdamFfnOutIdeal.main_arg3))
      ∧ r.2.sem = fun _ => 0)

def quiescent_KernelAdamSmall [hKernelAdamSmall : Cert.KernelAdamSmall.Facts] : Prop :=
  ∀ (m : (ℓ : Loc Cert.KernelAdamSmall.nD Cert.KernelAdamSmall.τ Cert.KernelAdamSmall.sig) → Buf (Elt Bits) ℓ) (g : Dev Cert.KernelAdamSmall.nD → PrngReg), Pre_KernelAdamSmall m →
    θ_run (Cert.KernelAdamSmall.defs (F := Bits)) (onTc (τ := Cert.KernelAdamSmall.τ) (Cert.KernelAdamSmall.main (F := Bits))) ⟨m, fun _ => 0, g⟩ (fun r => (∀ c : Dev Cert.KernelAdamSmall.nD,
      r.2.mem ((c.tc : Thread Cert.KernelAdamSmall.nD Cert.KernelAdamSmall.τ).loc Cert.KernelAdamSmall.main_arg0) = m ((c.tc : Thread Cert.KernelAdamSmall.nD Cert.KernelAdamSmall.τ).loc Cert.KernelAdamSmall.main_arg0)
      ∧ r.2.mem ((c.tc : Thread Cert.KernelAdamSmall.nD Cert.KernelAdamSmall.τ).loc Cert.KernelAdamSmall.main_arg1) = m ((c.tc : Thread Cert.KernelAdamSmall.nD Cert.KernelAdamSmall.τ).loc Cert.KernelAdamSmall.main_arg1)
      ∧ r.2.mem ((c.tc : Thread Cert.KernelAdamSmall.nD Cert.KernelAdamSmall.τ).loc Cert.KernelAdamSmall.main_arg2) = m ((c.tc : Thread Cert.KernelAdamSmall.nD Cert.KernelAdamSmall.τ).loc Cert.KernelAdamSmall.main_arg2)
      ∧ r.2.mem ((c.tc : Thread Cert.KernelAdamSmall.nD Cert.KernelAdamSmall.τ).loc Cert.KernelAdamSmall.main_arg3) = m ((c.tc : Thread Cert.KernelAdamSmall.nD Cert.KernelAdamSmall.τ).loc Cert.KernelAdamSmall.main_arg3))
      ∧ r.2.sem = fun _ => 0)

def quiescent_KernelAdamSmallIdeal [hKernelAdamSmallIdeal : Cert.KernelAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg), Pre_KernelAdamSmallIdeal m →
    θ_run (Cert.KernelAdamSmallIdeal.defs (F := Ideal)) (onTc (τ := Cert.KernelAdamSmallIdeal.τ) (Cert.KernelAdamSmallIdeal.main (F := Ideal))) ⟨m, fun _ => 0, g⟩ (fun r => (∀ c : Dev Cert.KernelAdamSmallIdeal.nD,
      r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
      ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
      ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
      ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ r.2.sem = fun _ => 0)

def quiescent_ReferenceAdamSmallIdeal [hReferenceAdamSmallIdeal : Cert.ReferenceAdamSmallIdeal.Facts] : Prop :=
  ∀ (m : (ℓ : Loc Cert.ReferenceAdamSmallIdeal.nD Cert.ReferenceAdamSmallIdeal.τ Cert.ReferenceAdamSmallIdeal.sig) → Buf (Elt Ideal) ℓ) (g : Dev Cert.ReferenceAdamSmallIdeal.nD → PrngReg), Pre_ReferenceAdamSmallIdeal m →
    θ_run (Cert.ReferenceAdamSmallIdeal.defs (F := Ideal)) (onTc (τ := Cert.ReferenceAdamSmallIdeal.τ) (Cert.ReferenceAdamSmallIdeal.main (F := Ideal))) ⟨m, fun _ => 0, g⟩ (fun r => (∀ c : Dev Cert.ReferenceAdamSmallIdeal.nD,
      r.2.mem ((c.tc : Thread Cert.ReferenceAdamSmallIdeal.nD Cert.ReferenceAdamSmallIdeal.τ).loc Cert.ReferenceAdamSmallIdeal.main_arg0) = m ((c.tc : Thread Cert.ReferenceAdamSmallIdeal.nD Cert.ReferenceAdamSmallIdeal.τ).loc Cert.ReferenceAdamSmallIdeal.main_arg0)
      ∧ r.2.mem ((c.tc : Thread Cert.ReferenceAdamSmallIdeal.nD Cert.ReferenceAdamSmallIdeal.τ).loc Cert.ReferenceAdamSmallIdeal.main_arg1) = m ((c.tc : Thread Cert.ReferenceAdamSmallIdeal.nD Cert.ReferenceAdamSmallIdeal.τ).loc Cert.ReferenceAdamSmallIdeal.main_arg1)
      ∧ r.2.mem ((c.tc : Thread Cert.ReferenceAdamSmallIdeal.nD Cert.ReferenceAdamSmallIdeal.τ).loc Cert.ReferenceAdamSmallIdeal.main_arg2) = m ((c.tc : Thread Cert.ReferenceAdamSmallIdeal.nD Cert.ReferenceAdamSmallIdeal.τ).loc Cert.ReferenceAdamSmallIdeal.main_arg2)
      ∧ r.2.mem ((c.tc : Thread Cert.ReferenceAdamSmallIdeal.nD Cert.ReferenceAdamSmallIdeal.τ).loc Cert.ReferenceAdamSmallIdeal.main_arg3) = m ((c.tc : Thread Cert.ReferenceAdamSmallIdeal.nD Cert.ReferenceAdamSmallIdeal.τ).loc Cert.ReferenceAdamSmallIdeal.main_arg3))
      ∧ r.2.sem = fun _ => 0)

def quiescent_KernelSsdOutF [hKernelSsdOutF : Cert.KernelSsdOutF.Facts] : Prop :=
  ∀ (m : (ℓ : Loc Cert.KernelSsdOutF.nD Cert.KernelSsdOutF.τ Cert.KernelSsdOutF.sig) → Buf (Elt Bits) ℓ) (g : Dev Cert.KernelSsdOutF.nD → PrngReg), Pre_KernelSsdOutF m →
    θ_run (Cert.KernelSsdOutF.defs (F := Bits)) (onTc (τ := Cert.KernelSsdOutF.τ) (Cert.KernelSsdOutF.main (F := Bits))) ⟨m, fun _ => 0, g⟩ (fun r => (∀ c : Dev Cert.KernelSsdOutF.nD,
      r.2.mem ((c.tc : Thread Cert.KernelSsdOutF.nD Cert.KernelSsdOutF.τ).loc Cert.KernelSsdOutF.main_arg0) = m ((c.tc : Thread Cert.KernelSsdOutF.nD Cert.KernelSsdOutF.τ).loc Cert.KernelSsdOutF.main_arg0)
      ∧ r.2.mem ((c.tc : Thread Cert.KernelSsdOutF.nD Cert.KernelSsdOutF.τ).loc Cert.KernelSsdOutF.main_arg1) = m ((c.tc : Thread Cert.KernelSsdOutF.nD Cert.KernelSsdOutF.τ).loc Cert.KernelSsdOutF.main_arg1)
      ∧ r.2.mem ((c.tc : Thread Cert.KernelSsdOutF.nD Cert.KernelSsdOutF.τ).loc Cert.KernelSsdOutF.main_arg2) = m ((c.tc : Thread Cert.KernelSsdOutF.nD Cert.KernelSsdOutF.τ).loc Cert.KernelSsdOutF.main_arg2)
      ∧ r.2.mem ((c.tc : Thread Cert.KernelSsdOutF.nD Cert.KernelSsdOutF.τ).loc Cert.KernelSsdOutF.main_arg3) = m ((c.tc : Thread Cert.KernelSsdOutF.nD Cert.KernelSsdOutF.τ).loc Cert.KernelSsdOutF.main_arg3)
      ∧ r.2.mem ((c.tc : Thread Cert.KernelSsdOutF.nD Cert.KernelSsdOutF.τ).loc Cert.KernelSsdOutF.main_arg4) = m ((c.tc : Thread Cert.KernelSsdOutF.nD Cert.KernelSsdOutF.τ).loc Cert.KernelSsdOutF.main_arg4)
      ∧ r.2.mem ((c.tc : Thread Cert.KernelSsdOutF.nD Cert.KernelSsdOutF.τ).loc Cert.KernelSsdOutF.main_arg5) = m ((c.tc : Thread Cert.KernelSsdOutF.nD Cert.KernelSsdOutF.τ).loc Cert.KernelSsdOutF.main_arg5))
      ∧ r.2.sem = fun _ => 0)

def quiescent_KernelSsdOutFIdeal [hKernelSsdOutFIdeal : Cert.KernelSsdOutFIdeal.Facts] : Prop :=
  ∀ (m : (ℓ : Loc Cert.KernelSsdOutFIdeal.nD Cert.KernelSsdOutFIdeal.τ Cert.KernelSsdOutFIdeal.sig) → Buf (Elt Ideal) ℓ) (g : Dev Cert.KernelSsdOutFIdeal.nD → PrngReg), Pre_KernelSsdOutFIdeal m →
    θ_run (Cert.KernelSsdOutFIdeal.defs (F := Ideal)) (onTc (τ := Cert.KernelSsdOutFIdeal.τ) (Cert.KernelSsdOutFIdeal.main (F := Ideal))) ⟨m, fun _ => 0, g⟩ (fun r => (∀ c : Dev Cert.KernelSsdOutFIdeal.nD,
      r.2.mem ((c.tc : Thread Cert.KernelSsdOutFIdeal.nD Cert.KernelSsdOutFIdeal.τ).loc Cert.KernelSsdOutFIdeal.main_arg0) = m ((c.tc : Thread Cert.KernelSsdOutFIdeal.nD Cert.KernelSsdOutFIdeal.τ).loc Cert.KernelSsdOutFIdeal.main_arg0)
      ∧ r.2.mem ((c.tc : Thread Cert.KernelSsdOutFIdeal.nD Cert.KernelSsdOutFIdeal.τ).loc Cert.KernelSsdOutFIdeal.main_arg1) = m ((c.tc : Thread Cert.KernelSsdOutFIdeal.nD Cert.KernelSsdOutFIdeal.τ).loc Cert.KernelSsdOutFIdeal.main_arg1)
      ∧ r.2.mem ((c.tc : Thread Cert.KernelSsdOutFIdeal.nD Cert.KernelSsdOutFIdeal.τ).loc Cert.KernelSsdOutFIdeal.main_arg2) = m ((c.tc : Thread Cert.KernelSsdOutFIdeal.nD Cert.KernelSsdOutFIdeal.τ).loc Cert.KernelSsdOutFIdeal.main_arg2)
      ∧ r.2.mem ((c.tc : Thread Cert.KernelSsdOutFIdeal.nD Cert.KernelSsdOutFIdeal.τ).loc Cert.KernelSsdOutFIdeal.main_arg3) = m ((c.tc : Thread Cert.KernelSsdOutFIdeal.nD Cert.KernelSsdOutFIdeal.τ).loc Cert.KernelSsdOutFIdeal.main_arg3)
      ∧ r.2.mem ((c.tc : Thread Cert.KernelSsdOutFIdeal.nD Cert.KernelSsdOutFIdeal.τ).loc Cert.KernelSsdOutFIdeal.main_arg4) = m ((c.tc : Thread Cert.KernelSsdOutFIdeal.nD Cert.KernelSsdOutFIdeal.τ).loc Cert.KernelSsdOutFIdeal.main_arg4)
      ∧ r.2.mem ((c.tc : Thread Cert.KernelSsdOutFIdeal.nD Cert.KernelSsdOutFIdeal.τ).loc Cert.KernelSsdOutFIdeal.main_arg5) = m ((c.tc : Thread Cert.KernelSsdOutFIdeal.nD Cert.KernelSsdOutFIdeal.τ).loc Cert.KernelSsdOutFIdeal.main_arg5))
      ∧ r.2.sem = fun _ => 0)

def quiescent_ReferenceSsdOutFIdeal [hReferenceSsdOutFIdeal : Cert.ReferenceSsdOutFIdeal.Facts] : Prop :=
  ∀ (m : (ℓ : Loc Cert.ReferenceSsdOutFIdeal.nD Cert.ReferenceSsdOutFIdeal.τ Cert.ReferenceSsdOutFIdeal.sig) → Buf (Elt Ideal) ℓ) (g : Dev Cert.ReferenceSsdOutFIdeal.nD → PrngReg), Pre_ReferenceSsdOutFIdeal m →
    θ_run (Cert.ReferenceSsdOutFIdeal.defs (F := Ideal)) (onTc (τ := Cert.ReferenceSsdOutFIdeal.τ) (Cert.ReferenceSsdOutFIdeal.main (F := Ideal))) ⟨m, fun _ => 0, g⟩ (fun r => (∀ c : Dev Cert.ReferenceSsdOutFIdeal.nD,
      r.2.mem ((c.tc : Thread Cert.ReferenceSsdOutFIdeal.nD Cert.ReferenceSsdOutFIdeal.τ).loc Cert.ReferenceSsdOutFIdeal.main_arg0) = m ((c.tc : Thread Cert.ReferenceSsdOutFIdeal.nD Cert.ReferenceSsdOutFIdeal.τ).loc Cert.ReferenceSsdOutFIdeal.main_arg0)
      ∧ r.2.mem ((c.tc : Thread Cert.ReferenceSsdOutFIdeal.nD Cert.ReferenceSsdOutFIdeal.τ).loc Cert.ReferenceSsdOutFIdeal.main_arg1) = m ((c.tc : Thread Cert.ReferenceSsdOutFIdeal.nD Cert.ReferenceSsdOutFIdeal.τ).loc Cert.ReferenceSsdOutFIdeal.main_arg1)
      ∧ r.2.mem ((c.tc : Thread Cert.ReferenceSsdOutFIdeal.nD Cert.ReferenceSsdOutFIdeal.τ).loc Cert.ReferenceSsdOutFIdeal.main_arg2) = m ((c.tc : Thread Cert.ReferenceSsdOutFIdeal.nD Cert.ReferenceSsdOutFIdeal.τ).loc Cert.ReferenceSsdOutFIdeal.main_arg2)
      ∧ r.2.mem ((c.tc : Thread Cert.ReferenceSsdOutFIdeal.nD Cert.ReferenceSsdOutFIdeal.τ).loc Cert.ReferenceSsdOutFIdeal.main_arg3) = m ((c.tc : Thread Cert.ReferenceSsdOutFIdeal.nD Cert.ReferenceSsdOutFIdeal.τ).loc Cert.ReferenceSsdOutFIdeal.main_arg3)
      ∧ r.2.mem ((c.tc : Thread Cert.ReferenceSsdOutFIdeal.nD Cert.ReferenceSsdOutFIdeal.τ).loc Cert.ReferenceSsdOutFIdeal.main_arg4) = m ((c.tc : Thread Cert.ReferenceSsdOutFIdeal.nD Cert.ReferenceSsdOutFIdeal.τ).loc Cert.ReferenceSsdOutFIdeal.main_arg4)
      ∧ r.2.mem ((c.tc : Thread Cert.ReferenceSsdOutFIdeal.nD Cert.ReferenceSsdOutFIdeal.τ).loc Cert.ReferenceSsdOutFIdeal.main_arg5) = m ((c.tc : Thread Cert.ReferenceSsdOutFIdeal.nD Cert.ReferenceSsdOutFIdeal.τ).loc Cert.ReferenceSsdOutFIdeal.main_arg5))
      ∧ r.2.sem = fun _ => 0)

def quiescent_KernelNormF [hKernelNormF : Cert.KernelNormF.Facts] : Prop :=
  ∀ (m : (ℓ : Loc Cert.KernelNormF.nD Cert.KernelNormF.τ Cert.KernelNormF.sig) → Buf (Elt Bits) ℓ) (g : Dev Cert.KernelNormF.nD → PrngReg), Pre_KernelNormF m →
    θ_run (Cert.KernelNormF.defs (F := Bits)) (onTc (τ := Cert.KernelNormF.τ) (Cert.KernelNormF.main (F := Bits))) ⟨m, fun _ => 0, g⟩ (fun r => (∀ c : Dev Cert.KernelNormF.nD,
      r.2.mem ((c.tc : Thread Cert.KernelNormF.nD Cert.KernelNormF.τ).loc Cert.KernelNormF.main_arg0) = m ((c.tc : Thread Cert.KernelNormF.nD Cert.KernelNormF.τ).loc Cert.KernelNormF.main_arg0)
      ∧ r.2.mem ((c.tc : Thread Cert.KernelNormF.nD Cert.KernelNormF.τ).loc Cert.KernelNormF.main_arg1) = m ((c.tc : Thread Cert.KernelNormF.nD Cert.KernelNormF.τ).loc Cert.KernelNormF.main_arg1)
      ∧ r.2.mem ((c.tc : Thread Cert.KernelNormF.nD Cert.KernelNormF.τ).loc Cert.KernelNormF.main_arg2) = m ((c.tc : Thread Cert.KernelNormF.nD Cert.KernelNormF.τ).loc Cert.KernelNormF.main_arg2))
      ∧ r.2.sem = fun _ => 0)

def quiescent_KernelNormFIdeal [hKernelNormFIdeal : Cert.KernelNormFIdeal.Facts] : Prop :=
  ∀ (m : (ℓ : Loc Cert.KernelNormFIdeal.nD Cert.KernelNormFIdeal.τ Cert.KernelNormFIdeal.sig) → Buf (Elt Ideal) ℓ) (g : Dev Cert.KernelNormFIdeal.nD → PrngReg), Pre_KernelNormFIdeal m →
    θ_run (Cert.KernelNormFIdeal.defs (F := Ideal)) (onTc (τ := Cert.KernelNormFIdeal.τ) (Cert.KernelNormFIdeal.main (F := Ideal))) ⟨m, fun _ => 0, g⟩ (fun r => (∀ c : Dev Cert.KernelNormFIdeal.nD,
      r.2.mem ((c.tc : Thread Cert.KernelNormFIdeal.nD Cert.KernelNormFIdeal.τ).loc Cert.KernelNormFIdeal.main_arg0) = m ((c.tc : Thread Cert.KernelNormFIdeal.nD Cert.KernelNormFIdeal.τ).loc Cert.KernelNormFIdeal.main_arg0)
      ∧ r.2.mem ((c.tc : Thread Cert.KernelNormFIdeal.nD Cert.KernelNormFIdeal.τ).loc Cert.KernelNormFIdeal.main_arg1) = m ((c.tc : Thread Cert.KernelNormFIdeal.nD Cert.KernelNormFIdeal.τ).loc Cert.KernelNormFIdeal.main_arg1)
      ∧ r.2.mem ((c.tc : Thread Cert.KernelNormFIdeal.nD Cert.KernelNormFIdeal.τ).loc Cert.KernelNormFIdeal.main_arg2) = m ((c.tc : Thread Cert.KernelNormFIdeal.nD Cert.KernelNormFIdeal.τ).loc Cert.KernelNormFIdeal.main_arg2))
      ∧ r.2.sem = fun _ => 0)

def quiescent_ReferenceNormFIdeal [hReferenceNormFIdeal : Cert.ReferenceNormFIdeal.Facts] : Prop :=
  ∀ (m : (ℓ : Loc Cert.ReferenceNormFIdeal.nD Cert.ReferenceNormFIdeal.τ Cert.ReferenceNormFIdeal.sig) → Buf (Elt Ideal) ℓ) (g : Dev Cert.ReferenceNormFIdeal.nD → PrngReg), Pre_ReferenceNormFIdeal m →
    θ_run (Cert.ReferenceNormFIdeal.defs (F := Ideal)) (onTc (τ := Cert.ReferenceNormFIdeal.τ) (Cert.ReferenceNormFIdeal.main (F := Ideal))) ⟨m, fun _ => 0, g⟩ (fun r => (∀ c : Dev Cert.ReferenceNormFIdeal.nD,
      r.2.mem ((c.tc : Thread Cert.ReferenceNormFIdeal.nD Cert.ReferenceNormFIdeal.τ).loc Cert.ReferenceNormFIdeal.main_arg0) = m ((c.tc : Thread Cert.ReferenceNormFIdeal.nD Cert.ReferenceNormFIdeal.τ).loc Cert.ReferenceNormFIdeal.main_arg0)
      ∧ r.2.mem ((c.tc : Thread Cert.ReferenceNormFIdeal.nD Cert.ReferenceNormFIdeal.τ).loc Cert.ReferenceNormFIdeal.main_arg1) = m ((c.tc : Thread Cert.ReferenceNormFIdeal.nD Cert.ReferenceNormFIdeal.τ).loc Cert.ReferenceNormFIdeal.main_arg1)
      ∧ r.2.mem ((c.tc : Thread Cert.ReferenceNormFIdeal.nD Cert.ReferenceNormFIdeal.τ).loc Cert.ReferenceNormFIdeal.main_arg2) = m ((c.tc : Thread Cert.ReferenceNormFIdeal.nD Cert.ReferenceNormFIdeal.τ).loc Cert.ReferenceNormFIdeal.main_arg2))
      ∧ r.2.sem = fun _ => 0)

def quiescent_KernelRes1F [hKernelRes1F : Cert.KernelRes1F.Facts] : Prop :=
  ∀ (m : (ℓ : Loc Cert.KernelRes1F.nD Cert.KernelRes1F.τ Cert.KernelRes1F.sig) → Buf (Elt Bits) ℓ) (g : Dev Cert.KernelRes1F.nD → PrngReg), Pre_KernelRes1F m →
    θ_run (Cert.KernelRes1F.defs (F := Bits)) (onTc (τ := Cert.KernelRes1F.τ) (Cert.KernelRes1F.main (F := Bits))) ⟨m, fun _ => 0, g⟩ (fun r => (∀ c : Dev Cert.KernelRes1F.nD,
      r.2.mem ((c.tc : Thread Cert.KernelRes1F.nD Cert.KernelRes1F.τ).loc Cert.KernelRes1F.main_arg0) = m ((c.tc : Thread Cert.KernelRes1F.nD Cert.KernelRes1F.τ).loc Cert.KernelRes1F.main_arg0)
      ∧ r.2.mem ((c.tc : Thread Cert.KernelRes1F.nD Cert.KernelRes1F.τ).loc Cert.KernelRes1F.main_arg1) = m ((c.tc : Thread Cert.KernelRes1F.nD Cert.KernelRes1F.τ).loc Cert.KernelRes1F.main_arg1)
      ∧ r.2.mem ((c.tc : Thread Cert.KernelRes1F.nD Cert.KernelRes1F.τ).loc Cert.KernelRes1F.main_arg2) = m ((c.tc : Thread Cert.KernelRes1F.nD Cert.KernelRes1F.τ).loc Cert.KernelRes1F.main_arg2)
      ∧ r.2.mem ((c.tc : Thread Cert.KernelRes1F.nD Cert.KernelRes1F.τ).loc Cert.KernelRes1F.main_arg3) = m ((c.tc : Thread Cert.KernelRes1F.nD Cert.KernelRes1F.τ).loc Cert.KernelRes1F.main_arg3))
      ∧ r.2.sem = fun _ => 0)

def quiescent_KernelRes1FIdeal [hKernelRes1FIdeal : Cert.KernelRes1FIdeal.Facts] : Prop :=
  ∀ (m : (ℓ : Loc Cert.KernelRes1FIdeal.nD Cert.KernelRes1FIdeal.τ Cert.KernelRes1FIdeal.sig) → Buf (Elt Ideal) ℓ) (g : Dev Cert.KernelRes1FIdeal.nD → PrngReg), Pre_KernelRes1FIdeal m →
    θ_run (Cert.KernelRes1FIdeal.defs (F := Ideal)) (onTc (τ := Cert.KernelRes1FIdeal.τ) (Cert.KernelRes1FIdeal.main (F := Ideal))) ⟨m, fun _ => 0, g⟩ (fun r => (∀ c : Dev Cert.KernelRes1FIdeal.nD,
      r.2.mem ((c.tc : Thread Cert.KernelRes1FIdeal.nD Cert.KernelRes1FIdeal.τ).loc Cert.KernelRes1FIdeal.main_arg0) = m ((c.tc : Thread Cert.KernelRes1FIdeal.nD Cert.KernelRes1FIdeal.τ).loc Cert.KernelRes1FIdeal.main_arg0)
      ∧ r.2.mem ((c.tc : Thread Cert.KernelRes1FIdeal.nD Cert.KernelRes1FIdeal.τ).loc Cert.KernelRes1FIdeal.main_arg1) = m ((c.tc : Thread Cert.KernelRes1FIdeal.nD Cert.KernelRes1FIdeal.τ).loc Cert.KernelRes1FIdeal.main_arg1)
      ∧ r.2.mem ((c.tc : Thread Cert.KernelRes1FIdeal.nD Cert.KernelRes1FIdeal.τ).loc Cert.KernelRes1FIdeal.main_arg2) = m ((c.tc : Thread Cert.KernelRes1FIdeal.nD Cert.KernelRes1FIdeal.τ).loc Cert.KernelRes1FIdeal.main_arg2)
      ∧ r.2.mem ((c.tc : Thread Cert.KernelRes1FIdeal.nD Cert.KernelRes1FIdeal.τ).loc Cert.KernelRes1FIdeal.main_arg3) = m ((c.tc : Thread Cert.KernelRes1FIdeal.nD Cert.KernelRes1FIdeal.τ).loc Cert.KernelRes1FIdeal.main_arg3))
      ∧ r.2.sem = fun _ => 0)

def quiescent_ReferenceRes1FIdeal [hReferenceRes1FIdeal : Cert.ReferenceRes1FIdeal.Facts] : Prop :=
  ∀ (m : (ℓ : Loc Cert.ReferenceRes1FIdeal.nD Cert.ReferenceRes1FIdeal.τ Cert.ReferenceRes1FIdeal.sig) → Buf (Elt Ideal) ℓ) (g : Dev Cert.ReferenceRes1FIdeal.nD → PrngReg), Pre_ReferenceRes1FIdeal m →
    θ_run (Cert.ReferenceRes1FIdeal.defs (F := Ideal)) (onTc (τ := Cert.ReferenceRes1FIdeal.τ) (Cert.ReferenceRes1FIdeal.main (F := Ideal))) ⟨m, fun _ => 0, g⟩ (fun r => (∀ c : Dev Cert.ReferenceRes1FIdeal.nD,
      r.2.mem ((c.tc : Thread Cert.ReferenceRes1FIdeal.nD Cert.ReferenceRes1FIdeal.τ).loc Cert.ReferenceRes1FIdeal.main_arg0) = m ((c.tc : Thread Cert.ReferenceRes1FIdeal.nD Cert.ReferenceRes1FIdeal.τ).loc Cert.ReferenceRes1FIdeal.main_arg0)
      ∧ r.2.mem ((c.tc : Thread Cert.ReferenceRes1FIdeal.nD Cert.ReferenceRes1FIdeal.τ).loc Cert.ReferenceRes1FIdeal.main_arg1) = m ((c.tc : Thread Cert.ReferenceRes1FIdeal.nD Cert.ReferenceRes1FIdeal.τ).loc Cert.ReferenceRes1FIdeal.main_arg1)
      ∧ r.2.mem ((c.tc : Thread Cert.ReferenceRes1FIdeal.nD Cert.ReferenceRes1FIdeal.τ).loc Cert.ReferenceRes1FIdeal.main_arg2) = m ((c.tc : Thread Cert.ReferenceRes1FIdeal.nD Cert.ReferenceRes1FIdeal.τ).loc Cert.ReferenceRes1FIdeal.main_arg2)
      ∧ r.2.mem ((c.tc : Thread Cert.ReferenceRes1FIdeal.nD Cert.ReferenceRes1FIdeal.τ).loc Cert.ReferenceRes1FIdeal.main_arg3) = m ((c.tc : Thread Cert.ReferenceRes1FIdeal.nD Cert.ReferenceRes1FIdeal.τ).loc Cert.ReferenceRes1FIdeal.main_arg3))
      ∧ r.2.sem = fun _ => 0)

def quiescent_KernelRes2F [hKernelRes2F : Cert.KernelRes2F.Facts] : Prop :=
  ∀ (m : (ℓ : Loc Cert.KernelRes2F.nD Cert.KernelRes2F.τ Cert.KernelRes2F.sig) → Buf (Elt Bits) ℓ) (g : Dev Cert.KernelRes2F.nD → PrngReg), Pre_KernelRes2F m →
    θ_run (Cert.KernelRes2F.defs (F := Bits)) (onTc (τ := Cert.KernelRes2F.τ) (Cert.KernelRes2F.main (F := Bits))) ⟨m, fun _ => 0, g⟩ (fun r => (∀ c : Dev Cert.KernelRes2F.nD,
      r.2.mem ((c.tc : Thread Cert.KernelRes2F.nD Cert.KernelRes2F.τ).loc Cert.KernelRes2F.main_arg0) = m ((c.tc : Thread Cert.KernelRes2F.nD Cert.KernelRes2F.τ).loc Cert.KernelRes2F.main_arg0)
      ∧ r.2.mem ((c.tc : Thread Cert.KernelRes2F.nD Cert.KernelRes2F.τ).loc Cert.KernelRes2F.main_arg1) = m ((c.tc : Thread Cert.KernelRes2F.nD Cert.KernelRes2F.τ).loc Cert.KernelRes2F.main_arg1)
      ∧ r.2.mem ((c.tc : Thread Cert.KernelRes2F.nD Cert.KernelRes2F.τ).loc Cert.KernelRes2F.main_arg2) = m ((c.tc : Thread Cert.KernelRes2F.nD Cert.KernelRes2F.τ).loc Cert.KernelRes2F.main_arg2)
      ∧ r.2.mem ((c.tc : Thread Cert.KernelRes2F.nD Cert.KernelRes2F.τ).loc Cert.KernelRes2F.main_arg3) = m ((c.tc : Thread Cert.KernelRes2F.nD Cert.KernelRes2F.τ).loc Cert.KernelRes2F.main_arg3)
      ∧ r.2.mem ((c.tc : Thread Cert.KernelRes2F.nD Cert.KernelRes2F.τ).loc Cert.KernelRes2F.main_arg4) = m ((c.tc : Thread Cert.KernelRes2F.nD Cert.KernelRes2F.τ).loc Cert.KernelRes2F.main_arg4))
      ∧ r.2.sem = fun _ => 0)

def quiescent_KernelRes2FIdeal [hKernelRes2FIdeal : Cert.KernelRes2FIdeal.Facts] : Prop :=
  ∀ (m : (ℓ : Loc Cert.KernelRes2FIdeal.nD Cert.KernelRes2FIdeal.τ Cert.KernelRes2FIdeal.sig) → Buf (Elt Ideal) ℓ) (g : Dev Cert.KernelRes2FIdeal.nD → PrngReg), Pre_KernelRes2FIdeal m →
    θ_run (Cert.KernelRes2FIdeal.defs (F := Ideal)) (onTc (τ := Cert.KernelRes2FIdeal.τ) (Cert.KernelRes2FIdeal.main (F := Ideal))) ⟨m, fun _ => 0, g⟩ (fun r => (∀ c : Dev Cert.KernelRes2FIdeal.nD,
      r.2.mem ((c.tc : Thread Cert.KernelRes2FIdeal.nD Cert.KernelRes2FIdeal.τ).loc Cert.KernelRes2FIdeal.main_arg0) = m ((c.tc : Thread Cert.KernelRes2FIdeal.nD Cert.KernelRes2FIdeal.τ).loc Cert.KernelRes2FIdeal.main_arg0)
      ∧ r.2.mem ((c.tc : Thread Cert.KernelRes2FIdeal.nD Cert.KernelRes2FIdeal.τ).loc Cert.KernelRes2FIdeal.main_arg1) = m ((c.tc : Thread Cert.KernelRes2FIdeal.nD Cert.KernelRes2FIdeal.τ).loc Cert.KernelRes2FIdeal.main_arg1)
      ∧ r.2.mem ((c.tc : Thread Cert.KernelRes2FIdeal.nD Cert.KernelRes2FIdeal.τ).loc Cert.KernelRes2FIdeal.main_arg2) = m ((c.tc : Thread Cert.KernelRes2FIdeal.nD Cert.KernelRes2FIdeal.τ).loc Cert.KernelRes2FIdeal.main_arg2)
      ∧ r.2.mem ((c.tc : Thread Cert.KernelRes2FIdeal.nD Cert.KernelRes2FIdeal.τ).loc Cert.KernelRes2FIdeal.main_arg3) = m ((c.tc : Thread Cert.KernelRes2FIdeal.nD Cert.KernelRes2FIdeal.τ).loc Cert.KernelRes2FIdeal.main_arg3)
      ∧ r.2.mem ((c.tc : Thread Cert.KernelRes2FIdeal.nD Cert.KernelRes2FIdeal.τ).loc Cert.KernelRes2FIdeal.main_arg4) = m ((c.tc : Thread Cert.KernelRes2FIdeal.nD Cert.KernelRes2FIdeal.τ).loc Cert.KernelRes2FIdeal.main_arg4))
      ∧ r.2.sem = fun _ => 0)

def quiescent_ReferenceRes2FIdeal [hReferenceRes2FIdeal : Cert.ReferenceRes2FIdeal.Facts] : Prop :=
  ∀ (m : (ℓ : Loc Cert.ReferenceRes2FIdeal.nD Cert.ReferenceRes2FIdeal.τ Cert.ReferenceRes2FIdeal.sig) → Buf (Elt Ideal) ℓ) (g : Dev Cert.ReferenceRes2FIdeal.nD → PrngReg), Pre_ReferenceRes2FIdeal m →
    θ_run (Cert.ReferenceRes2FIdeal.defs (F := Ideal)) (onTc (τ := Cert.ReferenceRes2FIdeal.τ) (Cert.ReferenceRes2FIdeal.main (F := Ideal))) ⟨m, fun _ => 0, g⟩ (fun r => (∀ c : Dev Cert.ReferenceRes2FIdeal.nD,
      r.2.mem ((c.tc : Thread Cert.ReferenceRes2FIdeal.nD Cert.ReferenceRes2FIdeal.τ).loc Cert.ReferenceRes2FIdeal.main_arg0) = m ((c.tc : Thread Cert.ReferenceRes2FIdeal.nD Cert.ReferenceRes2FIdeal.τ).loc Cert.ReferenceRes2FIdeal.main_arg0)
      ∧ r.2.mem ((c.tc : Thread Cert.ReferenceRes2FIdeal.nD Cert.ReferenceRes2FIdeal.τ).loc Cert.ReferenceRes2FIdeal.main_arg1) = m ((c.tc : Thread Cert.ReferenceRes2FIdeal.nD Cert.ReferenceRes2FIdeal.τ).loc Cert.ReferenceRes2FIdeal.main_arg1)
      ∧ r.2.mem ((c.tc : Thread Cert.ReferenceRes2FIdeal.nD Cert.ReferenceRes2FIdeal.τ).loc Cert.ReferenceRes2FIdeal.main_arg2) = m ((c.tc : Thread Cert.ReferenceRes2FIdeal.nD Cert.ReferenceRes2FIdeal.τ).loc Cert.ReferenceRes2FIdeal.main_arg2)
      ∧ r.2.mem ((c.tc : Thread Cert.ReferenceRes2FIdeal.nD Cert.ReferenceRes2FIdeal.τ).loc Cert.ReferenceRes2FIdeal.main_arg3) = m ((c.tc : Thread Cert.ReferenceRes2FIdeal.nD Cert.ReferenceRes2FIdeal.τ).loc Cert.ReferenceRes2FIdeal.main_arg3)
      ∧ r.2.mem ((c.tc : Thread Cert.ReferenceRes2FIdeal.nD Cert.ReferenceRes2FIdeal.τ).loc Cert.ReferenceRes2FIdeal.main_arg4) = m ((c.tc : Thread Cert.ReferenceRes2FIdeal.nD Cert.ReferenceRes2FIdeal.τ).loc Cert.ReferenceRes2FIdeal.main_arg4))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_v139) = v2 c
          ∧ r.2.mem ((c.tc : Thread Cert.ReferenceIdeal.nD Cert.ReferenceIdeal.τ).loc Cert.ReferenceIdeal.main_v140) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelWInProj_KernelWInProjIdeal : Prop :=
  True

def algebraic_KernelWInProjIdeal_ReferenceWInProjIdeal [hKernelWInProjIdeal : Cert.KernelWInProjIdeal.Facts] [hReferenceWInProjIdeal : Cert.ReferenceWInProjIdeal.Facts] : Prop :=
  ∀ (m : (ℓ : Loc Cert.KernelWInProjIdeal.nD Cert.KernelWInProjIdeal.τ Cert.KernelWInProjIdeal.sig) → Buf (Elt Ideal) ℓ) (g : Dev Cert.KernelWInProjIdeal.nD → PrngReg)
    (m' : (ℓ : Loc Cert.ReferenceWInProjIdeal.nD Cert.ReferenceWInProjIdeal.τ Cert.ReferenceWInProjIdeal.sig) → Buf (Elt Ideal) ℓ) (g' : Dev Cert.ReferenceWInProjIdeal.nD → PrngReg), Pre_KernelWInProjIdeal m →
    (∀ c : Dev Cert.KernelWInProjIdeal.nD,
      m' ((c.tc : Thread Cert.ReferenceWInProjIdeal.nD Cert.ReferenceWInProjIdeal.τ).loc Cert.ReferenceWInProjIdeal.main_arg0) = m ((c.tc : Thread Cert.KernelWInProjIdeal.nD Cert.KernelWInProjIdeal.τ).loc Cert.KernelWInProjIdeal.main_arg0)
      ∧ m' ((c.tc : Thread Cert.ReferenceWInProjIdeal.nD Cert.ReferenceWInProjIdeal.τ).loc Cert.ReferenceWInProjIdeal.main_arg1) = m ((c.tc : Thread Cert.KernelWInProjIdeal.nD Cert.KernelWInProjIdeal.τ).loc Cert.KernelWInProjIdeal.main_arg1)) →
    ∃ (v0 : (c : Dev Cert.KernelWInProjIdeal.nD) → Buf (Elt Ideal) ((c.tc : Thread Cert.KernelWInProjIdeal.nD Cert.KernelWInProjIdeal.τ).loc Cert.KernelWInProjIdeal.main_v0)),
      θ_run (Cert.KernelWInProjIdeal.defs (F := Ideal)) (onTc (τ := Cert.KernelWInProjIdeal.τ) (Cert.KernelWInProjIdeal.main (F := Ideal))) ⟨m, fun _ => 0, g⟩ (fun r => ∀ c : Dev Cert.KernelWInProjIdeal.nD,
          r.2.mem ((c.tc : Thread Cert.KernelWInProjIdeal.nD Cert.KernelWInProjIdeal.τ).loc Cert.KernelWInProjIdeal.main_v0) = v0 c
          ∧ r.2.mem ((c.tc : Thread Cert.KernelWInProjIdeal.nD Cert.KernelWInProjIdeal.τ).loc Cert.KernelWInProjIdeal.main_arg0) = m ((c.tc : Thread Cert.KernelWInProjIdeal.nD Cert.KernelWInProjIdeal.τ).loc Cert.KernelWInProjIdeal.main_arg0)
          ∧ r.2.mem ((c.tc : Thread Cert.KernelWInProjIdeal.nD Cert.KernelWInProjIdeal.τ).loc Cert.KernelWInProjIdeal.main_arg1) = m ((c.tc : Thread Cert.KernelWInProjIdeal.nD Cert.KernelWInProjIdeal.τ).loc Cert.KernelWInProjIdeal.main_arg1))
      ∧ θ_run (Cert.ReferenceWInProjIdeal.defs (F := Ideal)) (onTc (τ := Cert.ReferenceWInProjIdeal.τ) (Cert.ReferenceWInProjIdeal.main (F := Ideal))) ⟨m', fun _ => 0, g'⟩ (fun r => ∀ c : Dev Cert.ReferenceWInProjIdeal.nD,
          r.2.mem ((c.tc : Thread Cert.ReferenceWInProjIdeal.nD Cert.ReferenceWInProjIdeal.τ).loc Cert.ReferenceWInProjIdeal.main_v5) = v0 c
          ∧ r.2.mem ((c.tc : Thread Cert.ReferenceWInProjIdeal.nD Cert.ReferenceWInProjIdeal.τ).loc Cert.ReferenceWInProjIdeal.main_arg0) = m' ((c.tc : Thread Cert.ReferenceWInProjIdeal.nD Cert.ReferenceWInProjIdeal.τ).loc Cert.ReferenceWInProjIdeal.main_arg0)
          ∧ r.2.mem ((c.tc : Thread Cert.ReferenceWInProjIdeal.nD Cert.ReferenceWInProjIdeal.τ).loc Cert.ReferenceWInProjIdeal.main_arg1) = m' ((c.tc : Thread Cert.ReferenceWInProjIdeal.nD Cert.ReferenceWInProjIdeal.τ).loc Cert.ReferenceWInProjIdeal.main_arg1))

def preserves_KernelXInProj_KernelXInProjIdeal : Prop :=
  True

def algebraic_KernelXInProjIdeal_ReferenceXInProjIdeal [hKernelXInProjIdeal : Cert.KernelXInProjIdeal.Facts] [hReferenceXInProjIdeal : Cert.ReferenceXInProjIdeal.Facts] : Prop :=
  ∀ (m : (ℓ : Loc Cert.KernelXInProjIdeal.nD Cert.KernelXInProjIdeal.τ Cert.KernelXInProjIdeal.sig) → Buf (Elt Ideal) ℓ) (g : Dev Cert.KernelXInProjIdeal.nD → PrngReg)
    (m' : (ℓ : Loc Cert.ReferenceXInProjIdeal.nD Cert.ReferenceXInProjIdeal.τ Cert.ReferenceXInProjIdeal.sig) → Buf (Elt Ideal) ℓ) (g' : Dev Cert.ReferenceXInProjIdeal.nD → PrngReg), Pre_KernelXInProjIdeal m →
    (∀ c : Dev Cert.KernelXInProjIdeal.nD,
      m' ((c.tc : Thread Cert.ReferenceXInProjIdeal.nD Cert.ReferenceXInProjIdeal.τ).loc Cert.ReferenceXInProjIdeal.main_arg0) = m ((c.tc : Thread Cert.KernelXInProjIdeal.nD Cert.KernelXInProjIdeal.τ).loc Cert.KernelXInProjIdeal.main_arg0)
      ∧ m' ((c.tc : Thread Cert.ReferenceXInProjIdeal.nD Cert.ReferenceXInProjIdeal.τ).loc Cert.ReferenceXInProjIdeal.main_arg1) = m ((c.tc : Thread Cert.KernelXInProjIdeal.nD Cert.KernelXInProjIdeal.τ).loc Cert.KernelXInProjIdeal.main_arg1)) →
    ∃ (v0 : (c : Dev Cert.KernelXInProjIdeal.nD) → Buf (Elt Ideal) ((c.tc : Thread Cert.KernelXInProjIdeal.nD Cert.KernelXInProjIdeal.τ).loc Cert.KernelXInProjIdeal.main_v0)),
      θ_run (Cert.KernelXInProjIdeal.defs (F := Ideal)) (onTc (τ := Cert.KernelXInProjIdeal.τ) (Cert.KernelXInProjIdeal.main (F := Ideal))) ⟨m, fun _ => 0, g⟩ (fun r => ∀ c : Dev Cert.KernelXInProjIdeal.nD,
          r.2.mem ((c.tc : Thread Cert.KernelXInProjIdeal.nD Cert.KernelXInProjIdeal.τ).loc Cert.KernelXInProjIdeal.main_v0) = v0 c
          ∧ r.2.mem ((c.tc : Thread Cert.KernelXInProjIdeal.nD Cert.KernelXInProjIdeal.τ).loc Cert.KernelXInProjIdeal.main_arg0) = m ((c.tc : Thread Cert.KernelXInProjIdeal.nD Cert.KernelXInProjIdeal.τ).loc Cert.KernelXInProjIdeal.main_arg0)
          ∧ r.2.mem ((c.tc : Thread Cert.KernelXInProjIdeal.nD Cert.KernelXInProjIdeal.τ).loc Cert.KernelXInProjIdeal.main_arg1) = m ((c.tc : Thread Cert.KernelXInProjIdeal.nD Cert.KernelXInProjIdeal.τ).loc Cert.KernelXInProjIdeal.main_arg1))
      ∧ θ_run (Cert.ReferenceXInProjIdeal.defs (F := Ideal)) (onTc (τ := Cert.ReferenceXInProjIdeal.τ) (Cert.ReferenceXInProjIdeal.main (F := Ideal))) ⟨m', fun _ => 0, g'⟩ (fun r => ∀ c : Dev Cert.ReferenceXInProjIdeal.nD,
          r.2.mem ((c.tc : Thread Cert.ReferenceXInProjIdeal.nD Cert.ReferenceXInProjIdeal.τ).loc Cert.ReferenceXInProjIdeal.main_v4) = v0 c
          ∧ r.2.mem ((c.tc : Thread Cert.ReferenceXInProjIdeal.nD Cert.ReferenceXInProjIdeal.τ).loc Cert.ReferenceXInProjIdeal.main_arg0) = m' ((c.tc : Thread Cert.ReferenceXInProjIdeal.nD Cert.ReferenceXInProjIdeal.τ).loc Cert.ReferenceXInProjIdeal.main_arg0)
          ∧ r.2.mem ((c.tc : Thread Cert.ReferenceXInProjIdeal.nD Cert.ReferenceXInProjIdeal.τ).loc Cert.ReferenceXInProjIdeal.main_arg1) = m' ((c.tc : Thread Cert.ReferenceXInProjIdeal.nD Cert.ReferenceXInProjIdeal.τ).loc Cert.ReferenceXInProjIdeal.main_arg1))

def preserves_KernelWFfnIn_KernelWFfnInIdeal : Prop :=
  True

def algebraic_KernelWFfnInIdeal_ReferenceWFfnInIdeal [hKernelWFfnInIdeal : Cert.KernelWFfnInIdeal.Facts] [hReferenceWFfnInIdeal : Cert.ReferenceWFfnInIdeal.Facts] : Prop :=
  ∀ (m : (ℓ : Loc Cert.KernelWFfnInIdeal.nD Cert.KernelWFfnInIdeal.τ Cert.KernelWFfnInIdeal.sig) → Buf (Elt Ideal) ℓ) (g : Dev Cert.KernelWFfnInIdeal.nD → PrngReg)
    (m' : (ℓ : Loc Cert.ReferenceWFfnInIdeal.nD Cert.ReferenceWFfnInIdeal.τ Cert.ReferenceWFfnInIdeal.sig) → Buf (Elt Ideal) ℓ) (g' : Dev Cert.ReferenceWFfnInIdeal.nD → PrngReg), Pre_KernelWFfnInIdeal m →
    (∀ c : Dev Cert.KernelWFfnInIdeal.nD,
      m' ((c.tc : Thread Cert.ReferenceWFfnInIdeal.nD Cert.ReferenceWFfnInIdeal.τ).loc Cert.ReferenceWFfnInIdeal.main_arg0) = m ((c.tc : Thread Cert.KernelWFfnInIdeal.nD Cert.KernelWFfnInIdeal.τ).loc Cert.KernelWFfnInIdeal.main_arg0)
      ∧ m' ((c.tc : Thread Cert.ReferenceWFfnInIdeal.nD Cert.ReferenceWFfnInIdeal.τ).loc Cert.ReferenceWFfnInIdeal.main_arg1) = m ((c.tc : Thread Cert.KernelWFfnInIdeal.nD Cert.KernelWFfnInIdeal.τ).loc Cert.KernelWFfnInIdeal.main_arg1)) →
    ∃ (v0 : (c : Dev Cert.KernelWFfnInIdeal.nD) → Buf (Elt Ideal) ((c.tc : Thread Cert.KernelWFfnInIdeal.nD Cert.KernelWFfnInIdeal.τ).loc Cert.KernelWFfnInIdeal.main_v0)),
      θ_run (Cert.KernelWFfnInIdeal.defs (F := Ideal)) (onTc (τ := Cert.KernelWFfnInIdeal.τ) (Cert.KernelWFfnInIdeal.main (F := Ideal))) ⟨m, fun _ => 0, g⟩ (fun r => ∀ c : Dev Cert.KernelWFfnInIdeal.nD,
          r.2.mem ((c.tc : Thread Cert.KernelWFfnInIdeal.nD Cert.KernelWFfnInIdeal.τ).loc Cert.KernelWFfnInIdeal.main_v0) = v0 c
          ∧ r.2.mem ((c.tc : Thread Cert.KernelWFfnInIdeal.nD Cert.KernelWFfnInIdeal.τ).loc Cert.KernelWFfnInIdeal.main_arg0) = m ((c.tc : Thread Cert.KernelWFfnInIdeal.nD Cert.KernelWFfnInIdeal.τ).loc Cert.KernelWFfnInIdeal.main_arg0)
          ∧ r.2.mem ((c.tc : Thread Cert.KernelWFfnInIdeal.nD Cert.KernelWFfnInIdeal.τ).loc Cert.KernelWFfnInIdeal.main_arg1) = m ((c.tc : Thread Cert.KernelWFfnInIdeal.nD Cert.KernelWFfnInIdeal.τ).loc Cert.KernelWFfnInIdeal.main_arg1))
      ∧ θ_run (Cert.ReferenceWFfnInIdeal.defs (F := Ideal)) (onTc (τ := Cert.ReferenceWFfnInIdeal.τ) (Cert.ReferenceWFfnInIdeal.main (F := Ideal))) ⟨m', fun _ => 0, g'⟩ (fun r => ∀ c : Dev Cert.ReferenceWFfnInIdeal.nD,
          r.2.mem ((c.tc : Thread Cert.ReferenceWFfnInIdeal.nD Cert.ReferenceWFfnInIdeal.τ).loc Cert.ReferenceWFfnInIdeal.main_v5) = v0 c
          ∧ r.2.mem ((c.tc : Thread Cert.ReferenceWFfnInIdeal.nD Cert.ReferenceWFfnInIdeal.τ).loc Cert.ReferenceWFfnInIdeal.main_arg0) = m' ((c.tc : Thread Cert.ReferenceWFfnInIdeal.nD Cert.ReferenceWFfnInIdeal.τ).loc Cert.ReferenceWFfnInIdeal.main_arg0)
          ∧ r.2.mem ((c.tc : Thread Cert.ReferenceWFfnInIdeal.nD Cert.ReferenceWFfnInIdeal.τ).loc Cert.ReferenceWFfnInIdeal.main_arg1) = m' ((c.tc : Thread Cert.ReferenceWFfnInIdeal.nD Cert.ReferenceWFfnInIdeal.τ).loc Cert.ReferenceWFfnInIdeal.main_arg1))

def preserves_KernelXFfnIn_KernelXFfnInIdeal : Prop :=
  True

def algebraic_KernelXFfnInIdeal_ReferenceXFfnInIdeal [hKernelXFfnInIdeal : Cert.KernelXFfnInIdeal.Facts] [hReferenceXFfnInIdeal : Cert.ReferenceXFfnInIdeal.Facts] : Prop :=
  ∀ (m : (ℓ : Loc Cert.KernelXFfnInIdeal.nD Cert.KernelXFfnInIdeal.τ Cert.KernelXFfnInIdeal.sig) → Buf (Elt Ideal) ℓ) (g : Dev Cert.KernelXFfnInIdeal.nD → PrngReg)
    (m' : (ℓ : Loc Cert.ReferenceXFfnInIdeal.nD Cert.ReferenceXFfnInIdeal.τ Cert.ReferenceXFfnInIdeal.sig) → Buf (Elt Ideal) ℓ) (g' : Dev Cert.ReferenceXFfnInIdeal.nD → PrngReg), Pre_KernelXFfnInIdeal m →
    (∀ c : Dev Cert.KernelXFfnInIdeal.nD,
      m' ((c.tc : Thread Cert.ReferenceXFfnInIdeal.nD Cert.ReferenceXFfnInIdeal.τ).loc Cert.ReferenceXFfnInIdeal.main_arg0) = m ((c.tc : Thread Cert.KernelXFfnInIdeal.nD Cert.KernelXFfnInIdeal.τ).loc Cert.KernelXFfnInIdeal.main_arg0)
      ∧ m' ((c.tc : Thread Cert.ReferenceXFfnInIdeal.nD Cert.ReferenceXFfnInIdeal.τ).loc Cert.ReferenceXFfnInIdeal.main_arg1) = m ((c.tc : Thread Cert.KernelXFfnInIdeal.nD Cert.KernelXFfnInIdeal.τ).loc Cert.KernelXFfnInIdeal.main_arg1)) →
    ∃ (v0 : (c : Dev Cert.KernelXFfnInIdeal.nD) → Buf (Elt Ideal) ((c.tc : Thread Cert.KernelXFfnInIdeal.nD Cert.KernelXFfnInIdeal.τ).loc Cert.KernelXFfnInIdeal.main_v0)),
      θ_run (Cert.KernelXFfnInIdeal.defs (F := Ideal)) (onTc (τ := Cert.KernelXFfnInIdeal.τ) (Cert.KernelXFfnInIdeal.main (F := Ideal))) ⟨m, fun _ => 0, g⟩ (fun r => ∀ c : Dev Cert.KernelXFfnInIdeal.nD,
          r.2.mem ((c.tc : Thread Cert.KernelXFfnInIdeal.nD Cert.KernelXFfnInIdeal.τ).loc Cert.KernelXFfnInIdeal.main_v0) = v0 c
          ∧ r.2.mem ((c.tc : Thread Cert.KernelXFfnInIdeal.nD Cert.KernelXFfnInIdeal.τ).loc Cert.KernelXFfnInIdeal.main_arg0) = m ((c.tc : Thread Cert.KernelXFfnInIdeal.nD Cert.KernelXFfnInIdeal.τ).loc Cert.KernelXFfnInIdeal.main_arg0)
          ∧ r.2.mem ((c.tc : Thread Cert.KernelXFfnInIdeal.nD Cert.KernelXFfnInIdeal.τ).loc Cert.KernelXFfnInIdeal.main_arg1) = m ((c.tc : Thread Cert.KernelXFfnInIdeal.nD Cert.KernelXFfnInIdeal.τ).loc Cert.KernelXFfnInIdeal.main_arg1))
      ∧ θ_run (Cert.ReferenceXFfnInIdeal.defs (F := Ideal)) (onTc (τ := Cert.ReferenceXFfnInIdeal.τ) (Cert.ReferenceXFfnInIdeal.main (F := Ideal))) ⟨m', fun _ => 0, g'⟩ (fun r => ∀ c : Dev Cert.ReferenceXFfnInIdeal.nD,
          r.2.mem ((c.tc : Thread Cert.ReferenceXFfnInIdeal.nD Cert.ReferenceXFfnInIdeal.τ).loc Cert.ReferenceXFfnInIdeal.main_v4) = v0 c
          ∧ r.2.mem ((c.tc : Thread Cert.ReferenceXFfnInIdeal.nD Cert.ReferenceXFfnInIdeal.τ).loc Cert.ReferenceXFfnInIdeal.main_arg0) = m' ((c.tc : Thread Cert.ReferenceXFfnInIdeal.nD Cert.ReferenceXFfnInIdeal.τ).loc Cert.ReferenceXFfnInIdeal.main_arg0)
          ∧ r.2.mem ((c.tc : Thread Cert.ReferenceXFfnInIdeal.nD Cert.ReferenceXFfnInIdeal.τ).loc Cert.ReferenceXFfnInIdeal.main_arg1) = m' ((c.tc : Thread Cert.ReferenceXFfnInIdeal.nD Cert.ReferenceXFfnInIdeal.τ).loc Cert.ReferenceXFfnInIdeal.main_arg1))

def preserves_KernelWFfnOut_KernelWFfnOutIdeal : Prop :=
  True

def algebraic_KernelWFfnOutIdeal_ReferenceWFfnOutIdeal [hKernelWFfnOutIdeal : Cert.KernelWFfnOutIdeal.Facts] [hReferenceWFfnOutIdeal : Cert.ReferenceWFfnOutIdeal.Facts] : Prop :=
  ∀ (m : (ℓ : Loc Cert.KernelWFfnOutIdeal.nD Cert.KernelWFfnOutIdeal.τ Cert.KernelWFfnOutIdeal.sig) → Buf (Elt Ideal) ℓ) (g : Dev Cert.KernelWFfnOutIdeal.nD → PrngReg)
    (m' : (ℓ : Loc Cert.ReferenceWFfnOutIdeal.nD Cert.ReferenceWFfnOutIdeal.τ Cert.ReferenceWFfnOutIdeal.sig) → Buf (Elt Ideal) ℓ) (g' : Dev Cert.ReferenceWFfnOutIdeal.nD → PrngReg), Pre_KernelWFfnOutIdeal m →
    (∀ c : Dev Cert.KernelWFfnOutIdeal.nD,
      m' ((c.tc : Thread Cert.ReferenceWFfnOutIdeal.nD Cert.ReferenceWFfnOutIdeal.τ).loc Cert.ReferenceWFfnOutIdeal.main_arg0) = m ((c.tc : Thread Cert.KernelWFfnOutIdeal.nD Cert.KernelWFfnOutIdeal.τ).loc Cert.KernelWFfnOutIdeal.main_arg0)
      ∧ m' ((c.tc : Thread Cert.ReferenceWFfnOutIdeal.nD Cert.ReferenceWFfnOutIdeal.τ).loc Cert.ReferenceWFfnOutIdeal.main_arg1) = m ((c.tc : Thread Cert.KernelWFfnOutIdeal.nD Cert.KernelWFfnOutIdeal.τ).loc Cert.KernelWFfnOutIdeal.main_arg1)) →
    ∃ (v0 : (c : Dev Cert.KernelWFfnOutIdeal.nD) → Buf (Elt Ideal) ((c.tc : Thread Cert.KernelWFfnOutIdeal.nD Cert.KernelWFfnOutIdeal.τ).loc Cert.KernelWFfnOutIdeal.main_v0)),
      θ_run (Cert.KernelWFfnOutIdeal.defs (F := Ideal)) (onTc (τ := Cert.KernelWFfnOutIdeal.τ) (Cert.KernelWFfnOutIdeal.main (F := Ideal))) ⟨m, fun _ => 0, g⟩ (fun r => ∀ c : Dev Cert.KernelWFfnOutIdeal.nD,
          r.2.mem ((c.tc : Thread Cert.KernelWFfnOutIdeal.nD Cert.KernelWFfnOutIdeal.τ).loc Cert.KernelWFfnOutIdeal.main_v0) = v0 c
          ∧ r.2.mem ((c.tc : Thread Cert.KernelWFfnOutIdeal.nD Cert.KernelWFfnOutIdeal.τ).loc Cert.KernelWFfnOutIdeal.main_arg0) = m ((c.tc : Thread Cert.KernelWFfnOutIdeal.nD Cert.KernelWFfnOutIdeal.τ).loc Cert.KernelWFfnOutIdeal.main_arg0)
          ∧ r.2.mem ((c.tc : Thread Cert.KernelWFfnOutIdeal.nD Cert.KernelWFfnOutIdeal.τ).loc Cert.KernelWFfnOutIdeal.main_arg1) = m ((c.tc : Thread Cert.KernelWFfnOutIdeal.nD Cert.KernelWFfnOutIdeal.τ).loc Cert.KernelWFfnOutIdeal.main_arg1))
      ∧ θ_run (Cert.ReferenceWFfnOutIdeal.defs (F := Ideal)) (onTc (τ := Cert.ReferenceWFfnOutIdeal.τ) (Cert.ReferenceWFfnOutIdeal.main (F := Ideal))) ⟨m', fun _ => 0, g'⟩ (fun r => ∀ c : Dev Cert.ReferenceWFfnOutIdeal.nD,
          r.2.mem ((c.tc : Thread Cert.ReferenceWFfnOutIdeal.nD Cert.ReferenceWFfnOutIdeal.τ).loc Cert.ReferenceWFfnOutIdeal.main_v5) = v0 c
          ∧ r.2.mem ((c.tc : Thread Cert.ReferenceWFfnOutIdeal.nD Cert.ReferenceWFfnOutIdeal.τ).loc Cert.ReferenceWFfnOutIdeal.main_arg0) = m' ((c.tc : Thread Cert.ReferenceWFfnOutIdeal.nD Cert.ReferenceWFfnOutIdeal.τ).loc Cert.ReferenceWFfnOutIdeal.main_arg0)
          ∧ r.2.mem ((c.tc : Thread Cert.ReferenceWFfnOutIdeal.nD Cert.ReferenceWFfnOutIdeal.τ).loc Cert.ReferenceWFfnOutIdeal.main_arg1) = m' ((c.tc : Thread Cert.ReferenceWFfnOutIdeal.nD Cert.ReferenceWFfnOutIdeal.τ).loc Cert.ReferenceWFfnOutIdeal.main_arg1))

def preserves_KernelXFfnOut_KernelXFfnOutIdeal : Prop :=
  True

def algebraic_KernelXFfnOutIdeal_ReferenceXFfnOutIdeal [hKernelXFfnOutIdeal : Cert.KernelXFfnOutIdeal.Facts] [hReferenceXFfnOutIdeal : Cert.ReferenceXFfnOutIdeal.Facts] : Prop :=
  ∀ (m : (ℓ : Loc Cert.KernelXFfnOutIdeal.nD Cert.KernelXFfnOutIdeal.τ Cert.KernelXFfnOutIdeal.sig) → Buf (Elt Ideal) ℓ) (g : Dev Cert.KernelXFfnOutIdeal.nD → PrngReg)
    (m' : (ℓ : Loc Cert.ReferenceXFfnOutIdeal.nD Cert.ReferenceXFfnOutIdeal.τ Cert.ReferenceXFfnOutIdeal.sig) → Buf (Elt Ideal) ℓ) (g' : Dev Cert.ReferenceXFfnOutIdeal.nD → PrngReg), Pre_KernelXFfnOutIdeal m →
    (∀ c : Dev Cert.KernelXFfnOutIdeal.nD,
      m' ((c.tc : Thread Cert.ReferenceXFfnOutIdeal.nD Cert.ReferenceXFfnOutIdeal.τ).loc Cert.ReferenceXFfnOutIdeal.main_arg0) = m ((c.tc : Thread Cert.KernelXFfnOutIdeal.nD Cert.KernelXFfnOutIdeal.τ).loc Cert.KernelXFfnOutIdeal.main_arg0)
      ∧ m' ((c.tc : Thread Cert.ReferenceXFfnOutIdeal.nD Cert.ReferenceXFfnOutIdeal.τ).loc Cert.ReferenceXFfnOutIdeal.main_arg1) = m ((c.tc : Thread Cert.KernelXFfnOutIdeal.nD Cert.KernelXFfnOutIdeal.τ).loc Cert.KernelXFfnOutIdeal.main_arg1)) →
    ∃ (v0 : (c : Dev Cert.KernelXFfnOutIdeal.nD) → Buf (Elt Ideal) ((c.tc : Thread Cert.KernelXFfnOutIdeal.nD Cert.KernelXFfnOutIdeal.τ).loc Cert.KernelXFfnOutIdeal.main_v0)),
      θ_run (Cert.KernelXFfnOutIdeal.defs (F := Ideal)) (onTc (τ := Cert.KernelXFfnOutIdeal.τ) (Cert.KernelXFfnOutIdeal.main (F := Ideal))) ⟨m, fun _ => 0, g⟩ (fun r => ∀ c : Dev Cert.KernelXFfnOutIdeal.nD,
          r.2.mem ((c.tc : Thread Cert.KernelXFfnOutIdeal.nD Cert.KernelXFfnOutIdeal.τ).loc Cert.KernelXFfnOutIdeal.main_v0) = v0 c
          ∧ r.2.mem ((c.tc : Thread Cert.KernelXFfnOutIdeal.nD Cert.KernelXFfnOutIdeal.τ).loc Cert.KernelXFfnOutIdeal.main_arg0) = m ((c.tc : Thread Cert.KernelXFfnOutIdeal.nD Cert.KernelXFfnOutIdeal.τ).loc Cert.KernelXFfnOutIdeal.main_arg0)
          ∧ r.2.mem ((c.tc : Thread Cert.KernelXFfnOutIdeal.nD Cert.KernelXFfnOutIdeal.τ).loc Cert.KernelXFfnOutIdeal.main_arg1) = m ((c.tc : Thread Cert.KernelXFfnOutIdeal.nD Cert.KernelXFfnOutIdeal.τ).loc Cert.KernelXFfnOutIdeal.main_arg1))
      ∧ θ_run (Cert.ReferenceXFfnOutIdeal.defs (F := Ideal)) (onTc (τ := Cert.ReferenceXFfnOutIdeal.τ) (Cert.ReferenceXFfnOutIdeal.main (F := Ideal))) ⟨m', fun _ => 0, g'⟩ (fun r => ∀ c : Dev Cert.ReferenceXFfnOutIdeal.nD,
          r.2.mem ((c.tc : Thread Cert.ReferenceXFfnOutIdeal.nD Cert.ReferenceXFfnOutIdeal.τ).loc Cert.ReferenceXFfnOutIdeal.main_v4) = v0 c
          ∧ r.2.mem ((c.tc : Thread Cert.ReferenceXFfnOutIdeal.nD Cert.ReferenceXFfnOutIdeal.τ).loc Cert.ReferenceXFfnOutIdeal.main_arg0) = m' ((c.tc : Thread Cert.ReferenceXFfnOutIdeal.nD Cert.ReferenceXFfnOutIdeal.τ).loc Cert.ReferenceXFfnOutIdeal.main_arg0)
          ∧ r.2.mem ((c.tc : Thread Cert.ReferenceXFfnOutIdeal.nD Cert.ReferenceXFfnOutIdeal.τ).loc Cert.ReferenceXFfnOutIdeal.main_arg1) = m' ((c.tc : Thread Cert.ReferenceXFfnOutIdeal.nD Cert.ReferenceXFfnOutIdeal.τ).loc Cert.ReferenceXFfnOutIdeal.main_arg1))

def preserves_KernelWOut_KernelWOutIdeal : Prop :=
  True

def algebraic_KernelWOutIdeal_ReferenceWOutIdeal [hKernelWOutIdeal : Cert.KernelWOutIdeal.Facts] [hReferenceWOutIdeal : Cert.ReferenceWOutIdeal.Facts] : Prop :=
  ∀ (m : (ℓ : Loc Cert.KernelWOutIdeal.nD Cert.KernelWOutIdeal.τ Cert.KernelWOutIdeal.sig) → Buf (Elt Ideal) ℓ) (g : Dev Cert.KernelWOutIdeal.nD → PrngReg)
    (m' : (ℓ : Loc Cert.ReferenceWOutIdeal.nD Cert.ReferenceWOutIdeal.τ Cert.ReferenceWOutIdeal.sig) → Buf (Elt Ideal) ℓ) (g' : Dev Cert.ReferenceWOutIdeal.nD → PrngReg), Pre_KernelWOutIdeal m →
    (∀ c : Dev Cert.KernelWOutIdeal.nD,
      m' ((c.tc : Thread Cert.ReferenceWOutIdeal.nD Cert.ReferenceWOutIdeal.τ).loc Cert.ReferenceWOutIdeal.main_arg0) = m ((c.tc : Thread Cert.KernelWOutIdeal.nD Cert.KernelWOutIdeal.τ).loc Cert.KernelWOutIdeal.main_arg0)
      ∧ m' ((c.tc : Thread Cert.ReferenceWOutIdeal.nD Cert.ReferenceWOutIdeal.τ).loc Cert.ReferenceWOutIdeal.main_arg1) = m ((c.tc : Thread Cert.KernelWOutIdeal.nD Cert.KernelWOutIdeal.τ).loc Cert.KernelWOutIdeal.main_arg1)) →
    ∃ (v0 : (c : Dev Cert.KernelWOutIdeal.nD) → Buf (Elt Ideal) ((c.tc : Thread Cert.KernelWOutIdeal.nD Cert.KernelWOutIdeal.τ).loc Cert.KernelWOutIdeal.main_v0)),
      θ_run (Cert.KernelWOutIdeal.defs (F := Ideal)) (onTc (τ := Cert.KernelWOutIdeal.τ) (Cert.KernelWOutIdeal.main (F := Ideal))) ⟨m, fun _ => 0, g⟩ (fun r => ∀ c : Dev Cert.KernelWOutIdeal.nD,
          r.2.mem ((c.tc : Thread Cert.KernelWOutIdeal.nD Cert.KernelWOutIdeal.τ).loc Cert.KernelWOutIdeal.main_v0) = v0 c
          ∧ r.2.mem ((c.tc : Thread Cert.KernelWOutIdeal.nD Cert.KernelWOutIdeal.τ).loc Cert.KernelWOutIdeal.main_arg0) = m ((c.tc : Thread Cert.KernelWOutIdeal.nD Cert.KernelWOutIdeal.τ).loc Cert.KernelWOutIdeal.main_arg0)
          ∧ r.2.mem ((c.tc : Thread Cert.KernelWOutIdeal.nD Cert.KernelWOutIdeal.τ).loc Cert.KernelWOutIdeal.main_arg1) = m ((c.tc : Thread Cert.KernelWOutIdeal.nD Cert.KernelWOutIdeal.τ).loc Cert.KernelWOutIdeal.main_arg1))
      ∧ θ_run (Cert.ReferenceWOutIdeal.defs (F := Ideal)) (onTc (τ := Cert.ReferenceWOutIdeal.τ) (Cert.ReferenceWOutIdeal.main (F := Ideal))) ⟨m', fun _ => 0, g'⟩ (fun r => ∀ c : Dev Cert.ReferenceWOutIdeal.nD,
          r.2.mem ((c.tc : Thread Cert.ReferenceWOutIdeal.nD Cert.ReferenceWOutIdeal.τ).loc Cert.ReferenceWOutIdeal.main_v5) = v0 c
          ∧ r.2.mem ((c.tc : Thread Cert.ReferenceWOutIdeal.nD Cert.ReferenceWOutIdeal.τ).loc Cert.ReferenceWOutIdeal.main_arg0) = m' ((c.tc : Thread Cert.ReferenceWOutIdeal.nD Cert.ReferenceWOutIdeal.τ).loc Cert.ReferenceWOutIdeal.main_arg0)
          ∧ r.2.mem ((c.tc : Thread Cert.ReferenceWOutIdeal.nD Cert.ReferenceWOutIdeal.τ).loc Cert.ReferenceWOutIdeal.main_arg1) = m' ((c.tc : Thread Cert.ReferenceWOutIdeal.nD Cert.ReferenceWOutIdeal.τ).loc Cert.ReferenceWOutIdeal.main_arg1))

def preserves_KernelXOut_KernelXOutIdeal : Prop :=
  True

def algebraic_KernelXOutIdeal_ReferenceXOutIdeal [hKernelXOutIdeal : Cert.KernelXOutIdeal.Facts] [hReferenceXOutIdeal : Cert.ReferenceXOutIdeal.Facts] : Prop :=
  ∀ (m : (ℓ : Loc Cert.KernelXOutIdeal.nD Cert.KernelXOutIdeal.τ Cert.KernelXOutIdeal.sig) → Buf (Elt Ideal) ℓ) (g : Dev Cert.KernelXOutIdeal.nD → PrngReg)
    (m' : (ℓ : Loc Cert.ReferenceXOutIdeal.nD Cert.ReferenceXOutIdeal.τ Cert.ReferenceXOutIdeal.sig) → Buf (Elt Ideal) ℓ) (g' : Dev Cert.ReferenceXOutIdeal.nD → PrngReg), Pre_KernelXOutIdeal m →
    (∀ c : Dev Cert.KernelXOutIdeal.nD,
      m' ((c.tc : Thread Cert.ReferenceXOutIdeal.nD Cert.ReferenceXOutIdeal.τ).loc Cert.ReferenceXOutIdeal.main_arg0) = m ((c.tc : Thread Cert.KernelXOutIdeal.nD Cert.KernelXOutIdeal.τ).loc Cert.KernelXOutIdeal.main_arg0)
      ∧ m' ((c.tc : Thread Cert.ReferenceXOutIdeal.nD Cert.ReferenceXOutIdeal.τ).loc Cert.ReferenceXOutIdeal.main_arg1) = m ((c.tc : Thread Cert.KernelXOutIdeal.nD Cert.KernelXOutIdeal.τ).loc Cert.KernelXOutIdeal.main_arg1)) →
    ∃ (v0 : (c : Dev Cert.KernelXOutIdeal.nD) → Buf (Elt Ideal) ((c.tc : Thread Cert.KernelXOutIdeal.nD Cert.KernelXOutIdeal.τ).loc Cert.KernelXOutIdeal.main_v0)),
      θ_run (Cert.KernelXOutIdeal.defs (F := Ideal)) (onTc (τ := Cert.KernelXOutIdeal.τ) (Cert.KernelXOutIdeal.main (F := Ideal))) ⟨m, fun _ => 0, g⟩ (fun r => ∀ c : Dev Cert.KernelXOutIdeal.nD,
          r.2.mem ((c.tc : Thread Cert.KernelXOutIdeal.nD Cert.KernelXOutIdeal.τ).loc Cert.KernelXOutIdeal.main_v0) = v0 c
          ∧ r.2.mem ((c.tc : Thread Cert.KernelXOutIdeal.nD Cert.KernelXOutIdeal.τ).loc Cert.KernelXOutIdeal.main_arg0) = m ((c.tc : Thread Cert.KernelXOutIdeal.nD Cert.KernelXOutIdeal.τ).loc Cert.KernelXOutIdeal.main_arg0)
          ∧ r.2.mem ((c.tc : Thread Cert.KernelXOutIdeal.nD Cert.KernelXOutIdeal.τ).loc Cert.KernelXOutIdeal.main_arg1) = m ((c.tc : Thread Cert.KernelXOutIdeal.nD Cert.KernelXOutIdeal.τ).loc Cert.KernelXOutIdeal.main_arg1))
      ∧ θ_run (Cert.ReferenceXOutIdeal.defs (F := Ideal)) (onTc (τ := Cert.ReferenceXOutIdeal.τ) (Cert.ReferenceXOutIdeal.main (F := Ideal))) ⟨m', fun _ => 0, g'⟩ (fun r => ∀ c : Dev Cert.ReferenceXOutIdeal.nD,
          r.2.mem ((c.tc : Thread Cert.ReferenceXOutIdeal.nD Cert.ReferenceXOutIdeal.τ).loc Cert.ReferenceXOutIdeal.main_v4) = v0 c
          ∧ r.2.mem ((c.tc : Thread Cert.ReferenceXOutIdeal.nD Cert.ReferenceXOutIdeal.τ).loc Cert.ReferenceXOutIdeal.main_arg0) = m' ((c.tc : Thread Cert.ReferenceXOutIdeal.nD Cert.ReferenceXOutIdeal.τ).loc Cert.ReferenceXOutIdeal.main_arg0)
          ∧ r.2.mem ((c.tc : Thread Cert.ReferenceXOutIdeal.nD Cert.ReferenceXOutIdeal.τ).loc Cert.ReferenceXOutIdeal.main_arg1) = m' ((c.tc : Thread Cert.ReferenceXOutIdeal.nD Cert.ReferenceXOutIdeal.τ).loc Cert.ReferenceXOutIdeal.main_arg1))

def preserves_KernelXProj_KernelXProjIdeal : Prop :=
  True

def algebraic_KernelXProjIdeal_ReferenceXProjIdeal [hKernelXProjIdeal : Cert.KernelXProjIdeal.Facts] [hReferenceXProjIdeal : Cert.ReferenceXProjIdeal.Facts] : Prop :=
  ∀ (m : (ℓ : Loc Cert.KernelXProjIdeal.nD Cert.KernelXProjIdeal.τ Cert.KernelXProjIdeal.sig) → Buf (Elt Ideal) ℓ) (g : Dev Cert.KernelXProjIdeal.nD → PrngReg)
    (m' : (ℓ : Loc Cert.ReferenceXProjIdeal.nD Cert.ReferenceXProjIdeal.τ Cert.ReferenceXProjIdeal.sig) → Buf (Elt Ideal) ℓ) (g' : Dev Cert.ReferenceXProjIdeal.nD → PrngReg), Pre_KernelXProjIdeal m →
    (∀ c : Dev Cert.KernelXProjIdeal.nD,
      m' ((c.tc : Thread Cert.ReferenceXProjIdeal.nD Cert.ReferenceXProjIdeal.τ).loc Cert.ReferenceXProjIdeal.main_arg0) = m ((c.tc : Thread Cert.KernelXProjIdeal.nD Cert.KernelXProjIdeal.τ).loc Cert.KernelXProjIdeal.main_arg0)
      ∧ m' ((c.tc : Thread Cert.ReferenceXProjIdeal.nD Cert.ReferenceXProjIdeal.τ).loc Cert.ReferenceXProjIdeal.main_arg1) = m ((c.tc : Thread Cert.KernelXProjIdeal.nD Cert.KernelXProjIdeal.τ).loc Cert.KernelXProjIdeal.main_arg1)) →
    ∃ (v0 : (c : Dev Cert.KernelXProjIdeal.nD) → Buf (Elt Ideal) ((c.tc : Thread Cert.KernelXProjIdeal.nD Cert.KernelXProjIdeal.τ).loc Cert.KernelXProjIdeal.main_v0)),
      θ_run (Cert.KernelXProjIdeal.defs (F := Ideal)) (onTc (τ := Cert.KernelXProjIdeal.τ) (Cert.KernelXProjIdeal.main (F := Ideal))) ⟨m, fun _ => 0, g⟩ (fun r => ∀ c : Dev Cert.KernelXProjIdeal.nD,
          r.2.mem ((c.tc : Thread Cert.KernelXProjIdeal.nD Cert.KernelXProjIdeal.τ).loc Cert.KernelXProjIdeal.main_v0) = v0 c
          ∧ r.2.mem ((c.tc : Thread Cert.KernelXProjIdeal.nD Cert.KernelXProjIdeal.τ).loc Cert.KernelXProjIdeal.main_arg0) = m ((c.tc : Thread Cert.KernelXProjIdeal.nD Cert.KernelXProjIdeal.τ).loc Cert.KernelXProjIdeal.main_arg0)
          ∧ r.2.mem ((c.tc : Thread Cert.KernelXProjIdeal.nD Cert.KernelXProjIdeal.τ).loc Cert.KernelXProjIdeal.main_arg1) = m ((c.tc : Thread Cert.KernelXProjIdeal.nD Cert.KernelXProjIdeal.τ).loc Cert.KernelXProjIdeal.main_arg1))
      ∧ θ_run (Cert.ReferenceXProjIdeal.defs (F := Ideal)) (onTc (τ := Cert.ReferenceXProjIdeal.τ) (Cert.ReferenceXProjIdeal.main (F := Ideal))) ⟨m', fun _ => 0, g'⟩ (fun r => ∀ c : Dev Cert.ReferenceXProjIdeal.nD,
          r.2.mem ((c.tc : Thread Cert.ReferenceXProjIdeal.nD Cert.ReferenceXProjIdeal.τ).loc Cert.ReferenceXProjIdeal.main_v5) = v0 c
          ∧ r.2.mem ((c.tc : Thread Cert.ReferenceXProjIdeal.nD Cert.ReferenceXProjIdeal.τ).loc Cert.ReferenceXProjIdeal.main_arg0) = m' ((c.tc : Thread Cert.ReferenceXProjIdeal.nD Cert.ReferenceXProjIdeal.τ).loc Cert.ReferenceXProjIdeal.main_arg0)
          ∧ r.2.mem ((c.tc : Thread Cert.ReferenceXProjIdeal.nD Cert.ReferenceXProjIdeal.τ).loc Cert.ReferenceXProjIdeal.main_arg1) = m' ((c.tc : Thread Cert.ReferenceXProjIdeal.nD Cert.ReferenceXProjIdeal.τ).loc Cert.ReferenceXProjIdeal.main_arg1))

def preserves_KernelWUq_KernelWUqIdeal : Prop :=
  True

def algebraic_KernelWUqIdeal_ReferenceWUqIdeal [hKernelWUqIdeal : Cert.KernelWUqIdeal.Facts] [hReferenceWUqIdeal : Cert.ReferenceWUqIdeal.Facts] : Prop :=
  ∀ (m : (ℓ : Loc Cert.KernelWUqIdeal.nD Cert.KernelWUqIdeal.τ Cert.KernelWUqIdeal.sig) → Buf (Elt Ideal) ℓ) (g : Dev Cert.KernelWUqIdeal.nD → PrngReg)
    (m' : (ℓ : Loc Cert.ReferenceWUqIdeal.nD Cert.ReferenceWUqIdeal.τ Cert.ReferenceWUqIdeal.sig) → Buf (Elt Ideal) ℓ) (g' : Dev Cert.ReferenceWUqIdeal.nD → PrngReg), Pre_KernelWUqIdeal m →
    (∀ c : Dev Cert.KernelWUqIdeal.nD,
      m' ((c.tc : Thread Cert.ReferenceWUqIdeal.nD Cert.ReferenceWUqIdeal.τ).loc Cert.ReferenceWUqIdeal.main_arg0) = m ((c.tc : Thread Cert.KernelWUqIdeal.nD Cert.KernelWUqIdeal.τ).loc Cert.KernelWUqIdeal.main_arg0)
      ∧ m' ((c.tc : Thread Cert.ReferenceWUqIdeal.nD Cert.ReferenceWUqIdeal.τ).loc Cert.ReferenceWUqIdeal.main_arg1) = m ((c.tc : Thread Cert.KernelWUqIdeal.nD Cert.KernelWUqIdeal.τ).loc Cert.KernelWUqIdeal.main_arg1)) →
    ∃ (v0 : (c : Dev Cert.KernelWUqIdeal.nD) → Buf (Elt Ideal) ((c.tc : Thread Cert.KernelWUqIdeal.nD Cert.KernelWUqIdeal.τ).loc Cert.KernelWUqIdeal.main_v0)),
      θ_run (Cert.KernelWUqIdeal.defs (F := Ideal)) (onTc (τ := Cert.KernelWUqIdeal.τ) (Cert.KernelWUqIdeal.main (F := Ideal))) ⟨m, fun _ => 0, g⟩ (fun r => ∀ c : Dev Cert.KernelWUqIdeal.nD,
          r.2.mem ((c.tc : Thread Cert.KernelWUqIdeal.nD Cert.KernelWUqIdeal.τ).loc Cert.KernelWUqIdeal.main_v0) = v0 c
          ∧ r.2.mem ((c.tc : Thread Cert.KernelWUqIdeal.nD Cert.KernelWUqIdeal.τ).loc Cert.KernelWUqIdeal.main_arg0) = m ((c.tc : Thread Cert.KernelWUqIdeal.nD Cert.KernelWUqIdeal.τ).loc Cert.KernelWUqIdeal.main_arg0)
          ∧ r.2.mem ((c.tc : Thread Cert.KernelWUqIdeal.nD Cert.KernelWUqIdeal.τ).loc Cert.KernelWUqIdeal.main_arg1) = m ((c.tc : Thread Cert.KernelWUqIdeal.nD Cert.KernelWUqIdeal.τ).loc Cert.KernelWUqIdeal.main_arg1))
      ∧ θ_run (Cert.ReferenceWUqIdeal.defs (F := Ideal)) (onTc (τ := Cert.ReferenceWUqIdeal.τ) (Cert.ReferenceWUqIdeal.main (F := Ideal))) ⟨m', fun _ => 0, g'⟩ (fun r => ∀ c : Dev Cert.ReferenceWUqIdeal.nD,
          r.2.mem ((c.tc : Thread Cert.ReferenceWUqIdeal.nD Cert.ReferenceWUqIdeal.τ).loc Cert.ReferenceWUqIdeal.main_v5) = v0 c
          ∧ r.2.mem ((c.tc : Thread Cert.ReferenceWUqIdeal.nD Cert.ReferenceWUqIdeal.τ).loc Cert.ReferenceWUqIdeal.main_arg0) = m' ((c.tc : Thread Cert.ReferenceWUqIdeal.nD Cert.ReferenceWUqIdeal.τ).loc Cert.ReferenceWUqIdeal.main_arg0)
          ∧ r.2.mem ((c.tc : Thread Cert.ReferenceWUqIdeal.nD Cert.ReferenceWUqIdeal.τ).loc Cert.ReferenceWUqIdeal.main_arg1) = m' ((c.tc : Thread Cert.ReferenceWUqIdeal.nD Cert.ReferenceWUqIdeal.τ).loc Cert.ReferenceWUqIdeal.main_arg1))

def preserves_KernelXUq_KernelXUqIdeal : Prop :=
  True

def algebraic_KernelXUqIdeal_ReferenceXUqIdeal [hKernelXUqIdeal : Cert.KernelXUqIdeal.Facts] [hReferenceXUqIdeal : Cert.ReferenceXUqIdeal.Facts] : Prop :=
  ∀ (m : (ℓ : Loc Cert.KernelXUqIdeal.nD Cert.KernelXUqIdeal.τ Cert.KernelXUqIdeal.sig) → Buf (Elt Ideal) ℓ) (g : Dev Cert.KernelXUqIdeal.nD → PrngReg)
    (m' : (ℓ : Loc Cert.ReferenceXUqIdeal.nD Cert.ReferenceXUqIdeal.τ Cert.ReferenceXUqIdeal.sig) → Buf (Elt Ideal) ℓ) (g' : Dev Cert.ReferenceXUqIdeal.nD → PrngReg), Pre_KernelXUqIdeal m →
    (∀ c : Dev Cert.KernelXUqIdeal.nD,
      m' ((c.tc : Thread Cert.ReferenceXUqIdeal.nD Cert.ReferenceXUqIdeal.τ).loc Cert.ReferenceXUqIdeal.main_arg0) = m ((c.tc : Thread Cert.KernelXUqIdeal.nD Cert.KernelXUqIdeal.τ).loc Cert.KernelXUqIdeal.main_arg0)
      ∧ m' ((c.tc : Thread Cert.ReferenceXUqIdeal.nD Cert.ReferenceXUqIdeal.τ).loc Cert.ReferenceXUqIdeal.main_arg1) = m ((c.tc : Thread Cert.KernelXUqIdeal.nD Cert.KernelXUqIdeal.τ).loc Cert.KernelXUqIdeal.main_arg1)) →
    ∃ (v0 : (c : Dev Cert.KernelXUqIdeal.nD) → Buf (Elt Ideal) ((c.tc : Thread Cert.KernelXUqIdeal.nD Cert.KernelXUqIdeal.τ).loc Cert.KernelXUqIdeal.main_v0)),
      θ_run (Cert.KernelXUqIdeal.defs (F := Ideal)) (onTc (τ := Cert.KernelXUqIdeal.τ) (Cert.KernelXUqIdeal.main (F := Ideal))) ⟨m, fun _ => 0, g⟩ (fun r => ∀ c : Dev Cert.KernelXUqIdeal.nD,
          r.2.mem ((c.tc : Thread Cert.KernelXUqIdeal.nD Cert.KernelXUqIdeal.τ).loc Cert.KernelXUqIdeal.main_v0) = v0 c
          ∧ r.2.mem ((c.tc : Thread Cert.KernelXUqIdeal.nD Cert.KernelXUqIdeal.τ).loc Cert.KernelXUqIdeal.main_arg0) = m ((c.tc : Thread Cert.KernelXUqIdeal.nD Cert.KernelXUqIdeal.τ).loc Cert.KernelXUqIdeal.main_arg0)
          ∧ r.2.mem ((c.tc : Thread Cert.KernelXUqIdeal.nD Cert.KernelXUqIdeal.τ).loc Cert.KernelXUqIdeal.main_arg1) = m ((c.tc : Thread Cert.KernelXUqIdeal.nD Cert.KernelXUqIdeal.τ).loc Cert.KernelXUqIdeal.main_arg1))
      ∧ θ_run (Cert.ReferenceXUqIdeal.defs (F := Ideal)) (onTc (τ := Cert.ReferenceXUqIdeal.τ) (Cert.ReferenceXUqIdeal.main (F := Ideal))) ⟨m', fun _ => 0, g'⟩ (fun r => ∀ c : Dev Cert.ReferenceXUqIdeal.nD,
          r.2.mem ((c.tc : Thread Cert.ReferenceXUqIdeal.nD Cert.ReferenceXUqIdeal.τ).loc Cert.ReferenceXUqIdeal.main_v4) = v0 c
          ∧ r.2.mem ((c.tc : Thread Cert.ReferenceXUqIdeal.nD Cert.ReferenceXUqIdeal.τ).loc Cert.ReferenceXUqIdeal.main_arg0) = m' ((c.tc : Thread Cert.ReferenceXUqIdeal.nD Cert.ReferenceXUqIdeal.τ).loc Cert.ReferenceXUqIdeal.main_arg0)
          ∧ r.2.mem ((c.tc : Thread Cert.ReferenceXUqIdeal.nD Cert.ReferenceXUqIdeal.τ).loc Cert.ReferenceXUqIdeal.main_arg1) = m' ((c.tc : Thread Cert.ReferenceXUqIdeal.nD Cert.ReferenceXUqIdeal.τ).loc Cert.ReferenceXUqIdeal.main_arg1))

def preserves_KernelWUkv_KernelWUkvIdeal : Prop :=
  True

def algebraic_KernelWUkvIdeal_ReferenceWUkvIdeal [hKernelWUkvIdeal : Cert.KernelWUkvIdeal.Facts] [hReferenceWUkvIdeal : Cert.ReferenceWUkvIdeal.Facts] : Prop :=
  ∀ (m : (ℓ : Loc Cert.KernelWUkvIdeal.nD Cert.KernelWUkvIdeal.τ Cert.KernelWUkvIdeal.sig) → Buf (Elt Ideal) ℓ) (g : Dev Cert.KernelWUkvIdeal.nD → PrngReg)
    (m' : (ℓ : Loc Cert.ReferenceWUkvIdeal.nD Cert.ReferenceWUkvIdeal.τ Cert.ReferenceWUkvIdeal.sig) → Buf (Elt Ideal) ℓ) (g' : Dev Cert.ReferenceWUkvIdeal.nD → PrngReg), Pre_KernelWUkvIdeal m →
    (∀ c : Dev Cert.KernelWUkvIdeal.nD,
      m' ((c.tc : Thread Cert.ReferenceWUkvIdeal.nD Cert.ReferenceWUkvIdeal.τ).loc Cert.ReferenceWUkvIdeal.main_arg0) = m ((c.tc : Thread Cert.KernelWUkvIdeal.nD Cert.KernelWUkvIdeal.τ).loc Cert.KernelWUkvIdeal.main_arg0)
      ∧ m' ((c.tc : Thread Cert.ReferenceWUkvIdeal.nD Cert.ReferenceWUkvIdeal.τ).loc Cert.ReferenceWUkvIdeal.main_arg1) = m ((c.tc : Thread Cert.KernelWUkvIdeal.nD Cert.KernelWUkvIdeal.τ).loc Cert.KernelWUkvIdeal.main_arg1)) →
    ∃ (v0 : (c : Dev Cert.KernelWUkvIdeal.nD) → Buf (Elt Ideal) ((c.tc : Thread Cert.KernelWUkvIdeal.nD Cert.KernelWUkvIdeal.τ).loc Cert.KernelWUkvIdeal.main_v0)),
      θ_run (Cert.KernelWUkvIdeal.defs (F := Ideal)) (onTc (τ := Cert.KernelWUkvIdeal.τ) (Cert.KernelWUkvIdeal.main (F := Ideal))) ⟨m, fun _ => 0, g⟩ (fun r => ∀ c : Dev Cert.KernelWUkvIdeal.nD,
          r.2.mem ((c.tc : Thread Cert.KernelWUkvIdeal.nD Cert.KernelWUkvIdeal.τ).loc Cert.KernelWUkvIdeal.main_v0) = v0 c
          ∧ r.2.mem ((c.tc : Thread Cert.KernelWUkvIdeal.nD Cert.KernelWUkvIdeal.τ).loc Cert.KernelWUkvIdeal.main_arg0) = m ((c.tc : Thread Cert.KernelWUkvIdeal.nD Cert.KernelWUkvIdeal.τ).loc Cert.KernelWUkvIdeal.main_arg0)
          ∧ r.2.mem ((c.tc : Thread Cert.KernelWUkvIdeal.nD Cert.KernelWUkvIdeal.τ).loc Cert.KernelWUkvIdeal.main_arg1) = m ((c.tc : Thread Cert.KernelWUkvIdeal.nD Cert.KernelWUkvIdeal.τ).loc Cert.KernelWUkvIdeal.main_arg1))
      ∧ θ_run (Cert.ReferenceWUkvIdeal.defs (F := Ideal)) (onTc (τ := Cert.ReferenceWUkvIdeal.τ) (Cert.ReferenceWUkvIdeal.main (F := Ideal))) ⟨m', fun _ => 0, g'⟩ (fun r => ∀ c : Dev Cert.ReferenceWUkvIdeal.nD,
          r.2.mem ((c.tc : Thread Cert.ReferenceWUkvIdeal.nD Cert.ReferenceWUkvIdeal.τ).loc Cert.ReferenceWUkvIdeal.main_v5) = v0 c
          ∧ r.2.mem ((c.tc : Thread Cert.ReferenceWUkvIdeal.nD Cert.ReferenceWUkvIdeal.τ).loc Cert.ReferenceWUkvIdeal.main_arg0) = m' ((c.tc : Thread Cert.ReferenceWUkvIdeal.nD Cert.ReferenceWUkvIdeal.τ).loc Cert.ReferenceWUkvIdeal.main_arg0)
          ∧ r.2.mem ((c.tc : Thread Cert.ReferenceWUkvIdeal.nD Cert.ReferenceWUkvIdeal.τ).loc Cert.ReferenceWUkvIdeal.main_arg1) = m' ((c.tc : Thread Cert.ReferenceWUkvIdeal.nD Cert.ReferenceWUkvIdeal.τ).loc Cert.ReferenceWUkvIdeal.main_arg1))

def preserves_KernelXUkv_KernelXUkvIdeal : Prop :=
  True

def algebraic_KernelXUkvIdeal_ReferenceXUkvIdeal [hKernelXUkvIdeal : Cert.KernelXUkvIdeal.Facts] [hReferenceXUkvIdeal : Cert.ReferenceXUkvIdeal.Facts] : Prop :=
  ∀ (m : (ℓ : Loc Cert.KernelXUkvIdeal.nD Cert.KernelXUkvIdeal.τ Cert.KernelXUkvIdeal.sig) → Buf (Elt Ideal) ℓ) (g : Dev Cert.KernelXUkvIdeal.nD → PrngReg)
    (m' : (ℓ : Loc Cert.ReferenceXUkvIdeal.nD Cert.ReferenceXUkvIdeal.τ Cert.ReferenceXUkvIdeal.sig) → Buf (Elt Ideal) ℓ) (g' : Dev Cert.ReferenceXUkvIdeal.nD → PrngReg), Pre_KernelXUkvIdeal m →
    (∀ c : Dev Cert.KernelXUkvIdeal.nD,
      m' ((c.tc : Thread Cert.ReferenceXUkvIdeal.nD Cert.ReferenceXUkvIdeal.τ).loc Cert.ReferenceXUkvIdeal.main_arg0) = m ((c.tc : Thread Cert.KernelXUkvIdeal.nD Cert.KernelXUkvIdeal.τ).loc Cert.KernelXUkvIdeal.main_arg0)
      ∧ m' ((c.tc : Thread Cert.ReferenceXUkvIdeal.nD Cert.ReferenceXUkvIdeal.τ).loc Cert.ReferenceXUkvIdeal.main_arg1) = m ((c.tc : Thread Cert.KernelXUkvIdeal.nD Cert.KernelXUkvIdeal.τ).loc Cert.KernelXUkvIdeal.main_arg1)) →
    ∃ (v0 : (c : Dev Cert.KernelXUkvIdeal.nD) → Buf (Elt Ideal) ((c.tc : Thread Cert.KernelXUkvIdeal.nD Cert.KernelXUkvIdeal.τ).loc Cert.KernelXUkvIdeal.main_v0)),
      θ_run (Cert.KernelXUkvIdeal.defs (F := Ideal)) (onTc (τ := Cert.KernelXUkvIdeal.τ) (Cert.KernelXUkvIdeal.main (F := Ideal))) ⟨m, fun _ => 0, g⟩ (fun r => ∀ c : Dev Cert.KernelXUkvIdeal.nD,
          r.2.mem ((c.tc : Thread Cert.KernelXUkvIdeal.nD Cert.KernelXUkvIdeal.τ).loc Cert.KernelXUkvIdeal.main_v0) = v0 c
          ∧ r.2.mem ((c.tc : Thread Cert.KernelXUkvIdeal.nD Cert.KernelXUkvIdeal.τ).loc Cert.KernelXUkvIdeal.main_arg0) = m ((c.tc : Thread Cert.KernelXUkvIdeal.nD Cert.KernelXUkvIdeal.τ).loc Cert.KernelXUkvIdeal.main_arg0)
          ∧ r.2.mem ((c.tc : Thread Cert.KernelXUkvIdeal.nD Cert.KernelXUkvIdeal.τ).loc Cert.KernelXUkvIdeal.main_arg1) = m ((c.tc : Thread Cert.KernelXUkvIdeal.nD Cert.KernelXUkvIdeal.τ).loc Cert.KernelXUkvIdeal.main_arg1))
      ∧ θ_run (Cert.ReferenceXUkvIdeal.defs (F := Ideal)) (onTc (τ := Cert.ReferenceXUkvIdeal.τ) (Cert.ReferenceXUkvIdeal.main (F := Ideal))) ⟨m', fun _ => 0, g'⟩ (fun r => ∀ c : Dev Cert.ReferenceXUkvIdeal.nD,
          r.2.mem ((c.tc : Thread Cert.ReferenceXUkvIdeal.nD Cert.ReferenceXUkvIdeal.τ).loc Cert.ReferenceXUkvIdeal.main_v4) = v0 c
          ∧ r.2.mem ((c.tc : Thread Cert.ReferenceXUkvIdeal.nD Cert.ReferenceXUkvIdeal.τ).loc Cert.ReferenceXUkvIdeal.main_arg0) = m' ((c.tc : Thread Cert.ReferenceXUkvIdeal.nD Cert.ReferenceXUkvIdeal.τ).loc Cert.ReferenceXUkvIdeal.main_arg0)
          ∧ r.2.mem ((c.tc : Thread Cert.ReferenceXUkvIdeal.nD Cert.ReferenceXUkvIdeal.τ).loc Cert.ReferenceXUkvIdeal.main_arg1) = m' ((c.tc : Thread Cert.ReferenceXUkvIdeal.nD Cert.ReferenceXUkvIdeal.τ).loc Cert.ReferenceXUkvIdeal.main_arg1))

def preserves_KernelFInProj_KernelFInProjIdeal : Prop :=
  True

def algebraic_KernelFInProjIdeal_ReferenceFInProjIdeal [hKernelFInProjIdeal : Cert.KernelFInProjIdeal.Facts] [hReferenceFInProjIdeal : Cert.ReferenceFInProjIdeal.Facts] : Prop :=
  ∀ (m : (ℓ : Loc Cert.KernelFInProjIdeal.nD Cert.KernelFInProjIdeal.τ Cert.KernelFInProjIdeal.sig) → Buf (Elt Ideal) ℓ) (g : Dev Cert.KernelFInProjIdeal.nD → PrngReg)
    (m' : (ℓ : Loc Cert.ReferenceFInProjIdeal.nD Cert.ReferenceFInProjIdeal.τ Cert.ReferenceFInProjIdeal.sig) → Buf (Elt Ideal) ℓ) (g' : Dev Cert.ReferenceFInProjIdeal.nD → PrngReg), Pre_KernelFInProjIdeal m →
    (∀ c : Dev Cert.KernelFInProjIdeal.nD,
      m' ((c.tc : Thread Cert.ReferenceFInProjIdeal.nD Cert.ReferenceFInProjIdeal.τ).loc Cert.ReferenceFInProjIdeal.main_arg0) = m ((c.tc : Thread Cert.KernelFInProjIdeal.nD Cert.KernelFInProjIdeal.τ).loc Cert.KernelFInProjIdeal.main_arg0)
      ∧ m' ((c.tc : Thread Cert.ReferenceFInProjIdeal.nD Cert.ReferenceFInProjIdeal.τ).loc Cert.ReferenceFInProjIdeal.main_arg1) = m ((c.tc : Thread Cert.KernelFInProjIdeal.nD Cert.KernelFInProjIdeal.τ).loc Cert.KernelFInProjIdeal.main_arg1)) →
    ∃ (v0 : (c : Dev Cert.KernelFInProjIdeal.nD) → Buf (Elt Ideal) ((c.tc : Thread Cert.KernelFInProjIdeal.nD Cert.KernelFInProjIdeal.τ).loc Cert.KernelFInProjIdeal.main_v0)),
      θ_run (Cert.KernelFInProjIdeal.defs (F := Ideal)) (onTc (τ := Cert.KernelFInProjIdeal.τ) (Cert.KernelFInProjIdeal.main (F := Ideal))) ⟨m, fun _ => 0, g⟩ (fun r => ∀ c : Dev Cert.KernelFInProjIdeal.nD,
          r.2.mem ((c.tc : Thread Cert.KernelFInProjIdeal.nD Cert.KernelFInProjIdeal.τ).loc Cert.KernelFInProjIdeal.main_v0) = v0 c
          ∧ r.2.mem ((c.tc : Thread Cert.KernelFInProjIdeal.nD Cert.KernelFInProjIdeal.τ).loc Cert.KernelFInProjIdeal.main_arg0) = m ((c.tc : Thread Cert.KernelFInProjIdeal.nD Cert.KernelFInProjIdeal.τ).loc Cert.KernelFInProjIdeal.main_arg0)
          ∧ r.2.mem ((c.tc : Thread Cert.KernelFInProjIdeal.nD Cert.KernelFInProjIdeal.τ).loc Cert.KernelFInProjIdeal.main_arg1) = m ((c.tc : Thread Cert.KernelFInProjIdeal.nD Cert.KernelFInProjIdeal.τ).loc Cert.KernelFInProjIdeal.main_arg1))
      ∧ θ_run (Cert.ReferenceFInProjIdeal.defs (F := Ideal)) (onTc (τ := Cert.ReferenceFInProjIdeal.τ) (Cert.ReferenceFInProjIdeal.main (F := Ideal))) ⟨m', fun _ => 0, g'⟩ (fun r => ∀ c : Dev Cert.ReferenceFInProjIdeal.nD,
          r.2.mem ((c.tc : Thread Cert.ReferenceFInProjIdeal.nD Cert.ReferenceFInProjIdeal.τ).loc Cert.ReferenceFInProjIdeal.main_v0) = v0 c
          ∧ r.2.mem ((c.tc : Thread Cert.ReferenceFInProjIdeal.nD Cert.ReferenceFInProjIdeal.τ).loc Cert.ReferenceFInProjIdeal.main_arg0) = m' ((c.tc : Thread Cert.ReferenceFInProjIdeal.nD Cert.ReferenceFInProjIdeal.τ).loc Cert.ReferenceFInProjIdeal.main_arg0)
          ∧ r.2.mem ((c.tc : Thread Cert.ReferenceFInProjIdeal.nD Cert.ReferenceFInProjIdeal.τ).loc Cert.ReferenceFInProjIdeal.main_arg1) = m' ((c.tc : Thread Cert.ReferenceFInProjIdeal.nD Cert.ReferenceFInProjIdeal.τ).loc Cert.ReferenceFInProjIdeal.main_arg1))

def preserves_KernelFFfnIn_KernelFFfnInIdeal : Prop :=
  True

def algebraic_KernelFFfnInIdeal_ReferenceFFfnInIdeal [hKernelFFfnInIdeal : Cert.KernelFFfnInIdeal.Facts] [hReferenceFFfnInIdeal : Cert.ReferenceFFfnInIdeal.Facts] : Prop :=
  ∀ (m : (ℓ : Loc Cert.KernelFFfnInIdeal.nD Cert.KernelFFfnInIdeal.τ Cert.KernelFFfnInIdeal.sig) → Buf (Elt Ideal) ℓ) (g : Dev Cert.KernelFFfnInIdeal.nD → PrngReg)
    (m' : (ℓ : Loc Cert.ReferenceFFfnInIdeal.nD Cert.ReferenceFFfnInIdeal.τ Cert.ReferenceFFfnInIdeal.sig) → Buf (Elt Ideal) ℓ) (g' : Dev Cert.ReferenceFFfnInIdeal.nD → PrngReg), Pre_KernelFFfnInIdeal m →
    (∀ c : Dev Cert.KernelFFfnInIdeal.nD,
      m' ((c.tc : Thread Cert.ReferenceFFfnInIdeal.nD Cert.ReferenceFFfnInIdeal.τ).loc Cert.ReferenceFFfnInIdeal.main_arg0) = m ((c.tc : Thread Cert.KernelFFfnInIdeal.nD Cert.KernelFFfnInIdeal.τ).loc Cert.KernelFFfnInIdeal.main_arg0)
      ∧ m' ((c.tc : Thread Cert.ReferenceFFfnInIdeal.nD Cert.ReferenceFFfnInIdeal.τ).loc Cert.ReferenceFFfnInIdeal.main_arg1) = m ((c.tc : Thread Cert.KernelFFfnInIdeal.nD Cert.KernelFFfnInIdeal.τ).loc Cert.KernelFFfnInIdeal.main_arg1)) →
    ∃ (v0 : (c : Dev Cert.KernelFFfnInIdeal.nD) → Buf (Elt Ideal) ((c.tc : Thread Cert.KernelFFfnInIdeal.nD Cert.KernelFFfnInIdeal.τ).loc Cert.KernelFFfnInIdeal.main_v0)),
      θ_run (Cert.KernelFFfnInIdeal.defs (F := Ideal)) (onTc (τ := Cert.KernelFFfnInIdeal.τ) (Cert.KernelFFfnInIdeal.main (F := Ideal))) ⟨m, fun _ => 0, g⟩ (fun r => ∀ c : Dev Cert.KernelFFfnInIdeal.nD,
          r.2.mem ((c.tc : Thread Cert.KernelFFfnInIdeal.nD Cert.KernelFFfnInIdeal.τ).loc Cert.KernelFFfnInIdeal.main_v0) = v0 c
          ∧ r.2.mem ((c.tc : Thread Cert.KernelFFfnInIdeal.nD Cert.KernelFFfnInIdeal.τ).loc Cert.KernelFFfnInIdeal.main_arg0) = m ((c.tc : Thread Cert.KernelFFfnInIdeal.nD Cert.KernelFFfnInIdeal.τ).loc Cert.KernelFFfnInIdeal.main_arg0)
          ∧ r.2.mem ((c.tc : Thread Cert.KernelFFfnInIdeal.nD Cert.KernelFFfnInIdeal.τ).loc Cert.KernelFFfnInIdeal.main_arg1) = m ((c.tc : Thread Cert.KernelFFfnInIdeal.nD Cert.KernelFFfnInIdeal.τ).loc Cert.KernelFFfnInIdeal.main_arg1))
      ∧ θ_run (Cert.ReferenceFFfnInIdeal.defs (F := Ideal)) (onTc (τ := Cert.ReferenceFFfnInIdeal.τ) (Cert.ReferenceFFfnInIdeal.main (F := Ideal))) ⟨m', fun _ => 0, g'⟩ (fun r => ∀ c : Dev Cert.ReferenceFFfnInIdeal.nD,
          r.2.mem ((c.tc : Thread Cert.ReferenceFFfnInIdeal.nD Cert.ReferenceFFfnInIdeal.τ).loc Cert.ReferenceFFfnInIdeal.main_v1) = v0 c
          ∧ r.2.mem ((c.tc : Thread Cert.ReferenceFFfnInIdeal.nD Cert.ReferenceFFfnInIdeal.τ).loc Cert.ReferenceFFfnInIdeal.main_arg0) = m' ((c.tc : Thread Cert.ReferenceFFfnInIdeal.nD Cert.ReferenceFFfnInIdeal.τ).loc Cert.ReferenceFFfnInIdeal.main_arg0)
          ∧ r.2.mem ((c.tc : Thread Cert.ReferenceFFfnInIdeal.nD Cert.ReferenceFFfnInIdeal.τ).loc Cert.ReferenceFFfnInIdeal.main_arg1) = m' ((c.tc : Thread Cert.ReferenceFFfnInIdeal.nD Cert.ReferenceFFfnInIdeal.τ).loc Cert.ReferenceFFfnInIdeal.main_arg1))

def preserves_KernelFFfnOut_KernelFFfnOutIdeal : Prop :=
  True

def algebraic_KernelFFfnOutIdeal_ReferenceFFfnOutIdeal [hKernelFFfnOutIdeal : Cert.KernelFFfnOutIdeal.Facts] [hReferenceFFfnOutIdeal : Cert.ReferenceFFfnOutIdeal.Facts] : Prop :=
  ∀ (m : (ℓ : Loc Cert.KernelFFfnOutIdeal.nD Cert.KernelFFfnOutIdeal.τ Cert.KernelFFfnOutIdeal.sig) → Buf (Elt Ideal) ℓ) (g : Dev Cert.KernelFFfnOutIdeal.nD → PrngReg)
    (m' : (ℓ : Loc Cert.ReferenceFFfnOutIdeal.nD Cert.ReferenceFFfnOutIdeal.τ Cert.ReferenceFFfnOutIdeal.sig) → Buf (Elt Ideal) ℓ) (g' : Dev Cert.ReferenceFFfnOutIdeal.nD → PrngReg), Pre_KernelFFfnOutIdeal m →
    (∀ c : Dev Cert.KernelFFfnOutIdeal.nD,
      m' ((c.tc : Thread Cert.ReferenceFFfnOutIdeal.nD Cert.ReferenceFFfnOutIdeal.τ).loc Cert.ReferenceFFfnOutIdeal.main_arg0) = m ((c.tc : Thread Cert.KernelFFfnOutIdeal.nD Cert.KernelFFfnOutIdeal.τ).loc Cert.KernelFFfnOutIdeal.main_arg0)
      ∧ m' ((c.tc : Thread Cert.ReferenceFFfnOutIdeal.nD Cert.ReferenceFFfnOutIdeal.τ).loc Cert.ReferenceFFfnOutIdeal.main_arg1) = m ((c.tc : Thread Cert.KernelFFfnOutIdeal.nD Cert.KernelFFfnOutIdeal.τ).loc Cert.KernelFFfnOutIdeal.main_arg1)) →
    ∃ (v0 : (c : Dev Cert.KernelFFfnOutIdeal.nD) → Buf (Elt Ideal) ((c.tc : Thread Cert.KernelFFfnOutIdeal.nD Cert.KernelFFfnOutIdeal.τ).loc Cert.KernelFFfnOutIdeal.main_v0)),
      θ_run (Cert.KernelFFfnOutIdeal.defs (F := Ideal)) (onTc (τ := Cert.KernelFFfnOutIdeal.τ) (Cert.KernelFFfnOutIdeal.main (F := Ideal))) ⟨m, fun _ => 0, g⟩ (fun r => ∀ c : Dev Cert.KernelFFfnOutIdeal.nD,
          r.2.mem ((c.tc : Thread Cert.KernelFFfnOutIdeal.nD Cert.KernelFFfnOutIdeal.τ).loc Cert.KernelFFfnOutIdeal.main_v0) = v0 c
          ∧ r.2.mem ((c.tc : Thread Cert.KernelFFfnOutIdeal.nD Cert.KernelFFfnOutIdeal.τ).loc Cert.KernelFFfnOutIdeal.main_arg0) = m ((c.tc : Thread Cert.KernelFFfnOutIdeal.nD Cert.KernelFFfnOutIdeal.τ).loc Cert.KernelFFfnOutIdeal.main_arg0)
          ∧ r.2.mem ((c.tc : Thread Cert.KernelFFfnOutIdeal.nD Cert.KernelFFfnOutIdeal.τ).loc Cert.KernelFFfnOutIdeal.main_arg1) = m ((c.tc : Thread Cert.KernelFFfnOutIdeal.nD Cert.KernelFFfnOutIdeal.τ).loc Cert.KernelFFfnOutIdeal.main_arg1))
      ∧ θ_run (Cert.ReferenceFFfnOutIdeal.defs (F := Ideal)) (onTc (τ := Cert.ReferenceFFfnOutIdeal.τ) (Cert.ReferenceFFfnOutIdeal.main (F := Ideal))) ⟨m', fun _ => 0, g'⟩ (fun r => ∀ c : Dev Cert.ReferenceFFfnOutIdeal.nD,
          r.2.mem ((c.tc : Thread Cert.ReferenceFFfnOutIdeal.nD Cert.ReferenceFFfnOutIdeal.τ).loc Cert.ReferenceFFfnOutIdeal.main_v0) = v0 c
          ∧ r.2.mem ((c.tc : Thread Cert.ReferenceFFfnOutIdeal.nD Cert.ReferenceFFfnOutIdeal.τ).loc Cert.ReferenceFFfnOutIdeal.main_arg0) = m' ((c.tc : Thread Cert.ReferenceFFfnOutIdeal.nD Cert.ReferenceFFfnOutIdeal.τ).loc Cert.ReferenceFFfnOutIdeal.main_arg0)
          ∧ r.2.mem ((c.tc : Thread Cert.ReferenceFFfnOutIdeal.nD Cert.ReferenceFFfnOutIdeal.τ).loc Cert.ReferenceFFfnOutIdeal.main_arg1) = m' ((c.tc : Thread Cert.ReferenceFFfnOutIdeal.nD Cert.ReferenceFFfnOutIdeal.τ).loc Cert.ReferenceFFfnOutIdeal.main_arg1))

def preserves_KernelFProj_KernelFProjIdeal : Prop :=
  True

def algebraic_KernelFProjIdeal_ReferenceFProjIdeal [hKernelFProjIdeal : Cert.KernelFProjIdeal.Facts] [hReferenceFProjIdeal : Cert.ReferenceFProjIdeal.Facts] : Prop :=
  ∀ (m : (ℓ : Loc Cert.KernelFProjIdeal.nD Cert.KernelFProjIdeal.τ Cert.KernelFProjIdeal.sig) → Buf (Elt Ideal) ℓ) (g : Dev Cert.KernelFProjIdeal.nD → PrngReg)
    (m' : (ℓ : Loc Cert.ReferenceFProjIdeal.nD Cert.ReferenceFProjIdeal.τ Cert.ReferenceFProjIdeal.sig) → Buf (Elt Ideal) ℓ) (g' : Dev Cert.ReferenceFProjIdeal.nD → PrngReg), Pre_KernelFProjIdeal m →
    (∀ c : Dev Cert.KernelFProjIdeal.nD,
      m' ((c.tc : Thread Cert.ReferenceFProjIdeal.nD Cert.ReferenceFProjIdeal.τ).loc Cert.ReferenceFProjIdeal.main_arg0) = m ((c.tc : Thread Cert.KernelFProjIdeal.nD Cert.KernelFProjIdeal.τ).loc Cert.KernelFProjIdeal.main_arg0)
      ∧ m' ((c.tc : Thread Cert.ReferenceFProjIdeal.nD Cert.ReferenceFProjIdeal.τ).loc Cert.ReferenceFProjIdeal.main_arg1) = m ((c.tc : Thread Cert.KernelFProjIdeal.nD Cert.KernelFProjIdeal.τ).loc Cert.KernelFProjIdeal.main_arg1)) →
    ∃ (v0 : (c : Dev Cert.KernelFProjIdeal.nD) → Buf (Elt Ideal) ((c.tc : Thread Cert.KernelFProjIdeal.nD Cert.KernelFProjIdeal.τ).loc Cert.KernelFProjIdeal.main_v0)),
      θ_run (Cert.KernelFProjIdeal.defs (F := Ideal)) (onTc (τ := Cert.KernelFProjIdeal.τ) (Cert.KernelFProjIdeal.main (F := Ideal))) ⟨m, fun _ => 0, g⟩ (fun r => ∀ c : Dev Cert.KernelFProjIdeal.nD,
          r.2.mem ((c.tc : Thread Cert.KernelFProjIdeal.nD Cert.KernelFProjIdeal.τ).loc Cert.KernelFProjIdeal.main_v0) = v0 c
          ∧ r.2.mem ((c.tc : Thread Cert.KernelFProjIdeal.nD Cert.KernelFProjIdeal.τ).loc Cert.KernelFProjIdeal.main_arg0) = m ((c.tc : Thread Cert.KernelFProjIdeal.nD Cert.KernelFProjIdeal.τ).loc Cert.KernelFProjIdeal.main_arg0)
          ∧ r.2.mem ((c.tc : Thread Cert.KernelFProjIdeal.nD Cert.KernelFProjIdeal.τ).loc Cert.KernelFProjIdeal.main_arg1) = m ((c.tc : Thread Cert.KernelFProjIdeal.nD Cert.KernelFProjIdeal.τ).loc Cert.KernelFProjIdeal.main_arg1))
      ∧ θ_run (Cert.ReferenceFProjIdeal.defs (F := Ideal)) (onTc (τ := Cert.ReferenceFProjIdeal.τ) (Cert.ReferenceFProjIdeal.main (F := Ideal))) ⟨m', fun _ => 0, g'⟩ (fun r => ∀ c : Dev Cert.ReferenceFProjIdeal.nD,
          r.2.mem ((c.tc : Thread Cert.ReferenceFProjIdeal.nD Cert.ReferenceFProjIdeal.τ).loc Cert.ReferenceFProjIdeal.main_v1) = v0 c
          ∧ r.2.mem ((c.tc : Thread Cert.ReferenceFProjIdeal.nD Cert.ReferenceFProjIdeal.τ).loc Cert.ReferenceFProjIdeal.main_arg0) = m' ((c.tc : Thread Cert.ReferenceFProjIdeal.nD Cert.ReferenceFProjIdeal.τ).loc Cert.ReferenceFProjIdeal.main_arg0)
          ∧ r.2.mem ((c.tc : Thread Cert.ReferenceFProjIdeal.nD Cert.ReferenceFProjIdeal.τ).loc Cert.ReferenceFProjIdeal.main_arg1) = m' ((c.tc : Thread Cert.ReferenceFProjIdeal.nD Cert.ReferenceFProjIdeal.τ).loc Cert.ReferenceFProjIdeal.main_arg1))

def preserves_KernelFOut_KernelFOutIdeal : Prop :=
  True

def algebraic_KernelFOutIdeal_ReferenceFOutIdeal [hKernelFOutIdeal : Cert.KernelFOutIdeal.Facts] [hReferenceFOutIdeal : Cert.ReferenceFOutIdeal.Facts] : Prop :=
  ∀ (m : (ℓ : Loc Cert.KernelFOutIdeal.nD Cert.KernelFOutIdeal.τ Cert.KernelFOutIdeal.sig) → Buf (Elt Ideal) ℓ) (g : Dev Cert.KernelFOutIdeal.nD → PrngReg)
    (m' : (ℓ : Loc Cert.ReferenceFOutIdeal.nD Cert.ReferenceFOutIdeal.τ Cert.ReferenceFOutIdeal.sig) → Buf (Elt Ideal) ℓ) (g' : Dev Cert.ReferenceFOutIdeal.nD → PrngReg), Pre_KernelFOutIdeal m →
    (∀ c : Dev Cert.KernelFOutIdeal.nD,
      m' ((c.tc : Thread Cert.ReferenceFOutIdeal.nD Cert.ReferenceFOutIdeal.τ).loc Cert.ReferenceFOutIdeal.main_arg0) = m ((c.tc : Thread Cert.KernelFOutIdeal.nD Cert.KernelFOutIdeal.τ).loc Cert.KernelFOutIdeal.main_arg0)
      ∧ m' ((c.tc : Thread Cert.ReferenceFOutIdeal.nD Cert.ReferenceFOutIdeal.τ).loc Cert.ReferenceFOutIdeal.main_arg1) = m ((c.tc : Thread Cert.KernelFOutIdeal.nD Cert.KernelFOutIdeal.τ).loc Cert.KernelFOutIdeal.main_arg1)) →
    ∃ (v0 : (c : Dev Cert.KernelFOutIdeal.nD) → Buf (Elt Ideal) ((c.tc : Thread Cert.KernelFOutIdeal.nD Cert.KernelFOutIdeal.τ).loc Cert.KernelFOutIdeal.main_v0)),
      θ_run (Cert.KernelFOutIdeal.defs (F := Ideal)) (onTc (τ := Cert.KernelFOutIdeal.τ) (Cert.KernelFOutIdeal.main (F := Ideal))) ⟨m, fun _ => 0, g⟩ (fun r => ∀ c : Dev Cert.KernelFOutIdeal.nD,
          r.2.mem ((c.tc : Thread Cert.KernelFOutIdeal.nD Cert.KernelFOutIdeal.τ).loc Cert.KernelFOutIdeal.main_v0) = v0 c
          ∧ r.2.mem ((c.tc : Thread Cert.KernelFOutIdeal.nD Cert.KernelFOutIdeal.τ).loc Cert.KernelFOutIdeal.main_arg0) = m ((c.tc : Thread Cert.KernelFOutIdeal.nD Cert.KernelFOutIdeal.τ).loc Cert.KernelFOutIdeal.main_arg0)
          ∧ r.2.mem ((c.tc : Thread Cert.KernelFOutIdeal.nD Cert.KernelFOutIdeal.τ).loc Cert.KernelFOutIdeal.main_arg1) = m ((c.tc : Thread Cert.KernelFOutIdeal.nD Cert.KernelFOutIdeal.τ).loc Cert.KernelFOutIdeal.main_arg1))
      ∧ θ_run (Cert.ReferenceFOutIdeal.defs (F := Ideal)) (onTc (τ := Cert.ReferenceFOutIdeal.τ) (Cert.ReferenceFOutIdeal.main (F := Ideal))) ⟨m', fun _ => 0, g'⟩ (fun r => ∀ c : Dev Cert.ReferenceFOutIdeal.nD,
          r.2.mem ((c.tc : Thread Cert.ReferenceFOutIdeal.nD Cert.ReferenceFOutIdeal.τ).loc Cert.ReferenceFOutIdeal.main_v0) = v0 c
          ∧ r.2.mem ((c.tc : Thread Cert.ReferenceFOutIdeal.nD Cert.ReferenceFOutIdeal.τ).loc Cert.ReferenceFOutIdeal.main_arg0) = m' ((c.tc : Thread Cert.ReferenceFOutIdeal.nD Cert.ReferenceFOutIdeal.τ).loc Cert.ReferenceFOutIdeal.main_arg0)
          ∧ r.2.mem ((c.tc : Thread Cert.ReferenceFOutIdeal.nD Cert.ReferenceFOutIdeal.τ).loc Cert.ReferenceFOutIdeal.main_arg1) = m' ((c.tc : Thread Cert.ReferenceFOutIdeal.nD Cert.ReferenceFOutIdeal.τ).loc Cert.ReferenceFOutIdeal.main_arg1))

def preserves_KernelFUq_KernelFUqIdeal : Prop :=
  True

def algebraic_KernelFUqIdeal_ReferenceFUqIdeal [hKernelFUqIdeal : Cert.KernelFUqIdeal.Facts] [hReferenceFUqIdeal : Cert.ReferenceFUqIdeal.Facts] : Prop :=
  ∀ (m : (ℓ : Loc Cert.KernelFUqIdeal.nD Cert.KernelFUqIdeal.τ Cert.KernelFUqIdeal.sig) → Buf (Elt Ideal) ℓ) (g : Dev Cert.KernelFUqIdeal.nD → PrngReg)
    (m' : (ℓ : Loc Cert.ReferenceFUqIdeal.nD Cert.ReferenceFUqIdeal.τ Cert.ReferenceFUqIdeal.sig) → Buf (Elt Ideal) ℓ) (g' : Dev Cert.ReferenceFUqIdeal.nD → PrngReg), Pre_KernelFUqIdeal m →
    (∀ c : Dev Cert.KernelFUqIdeal.nD,
      m' ((c.tc : Thread Cert.ReferenceFUqIdeal.nD Cert.ReferenceFUqIdeal.τ).loc Cert.ReferenceFUqIdeal.main_arg0) = m ((c.tc : Thread Cert.KernelFUqIdeal.nD Cert.KernelFUqIdeal.τ).loc Cert.KernelFUqIdeal.main_arg0)
      ∧ m' ((c.tc : Thread Cert.ReferenceFUqIdeal.nD Cert.ReferenceFUqIdeal.τ).loc Cert.ReferenceFUqIdeal.main_arg1) = m ((c.tc : Thread Cert.KernelFUqIdeal.nD Cert.KernelFUqIdeal.τ).loc Cert.KernelFUqIdeal.main_arg1)) →
    ∃ (v0 : (c : Dev Cert.KernelFUqIdeal.nD) → Buf (Elt Ideal) ((c.tc : Thread Cert.KernelFUqIdeal.nD Cert.KernelFUqIdeal.τ).loc Cert.KernelFUqIdeal.main_v0)),
      θ_run (Cert.KernelFUqIdeal.defs (F := Ideal)) (onTc (τ := Cert.KernelFUqIdeal.τ) (Cert.KernelFUqIdeal.main (F := Ideal))) ⟨m, fun _ => 0, g⟩ (fun r => ∀ c : Dev Cert.KernelFUqIdeal.nD,
          r.2.mem ((c.tc : Thread Cert.KernelFUqIdeal.nD Cert.KernelFUqIdeal.τ).loc Cert.KernelFUqIdeal.main_v0) = v0 c
          ∧ r.2.mem ((c.tc : Thread Cert.KernelFUqIdeal.nD Cert.KernelFUqIdeal.τ).loc Cert.KernelFUqIdeal.main_arg0) = m ((c.tc : Thread Cert.KernelFUqIdeal.nD Cert.KernelFUqIdeal.τ).loc Cert.KernelFUqIdeal.main_arg0)
          ∧ r.2.mem ((c.tc : Thread Cert.KernelFUqIdeal.nD Cert.KernelFUqIdeal.τ).loc Cert.KernelFUqIdeal.main_arg1) = m ((c.tc : Thread Cert.KernelFUqIdeal.nD Cert.KernelFUqIdeal.τ).loc Cert.KernelFUqIdeal.main_arg1))
      ∧ θ_run (Cert.ReferenceFUqIdeal.defs (F := Ideal)) (onTc (τ := Cert.ReferenceFUqIdeal.τ) (Cert.ReferenceFUqIdeal.main (F := Ideal))) ⟨m', fun _ => 0, g'⟩ (fun r => ∀ c : Dev Cert.ReferenceFUqIdeal.nD,
          r.2.mem ((c.tc : Thread Cert.ReferenceFUqIdeal.nD Cert.ReferenceFUqIdeal.τ).loc Cert.ReferenceFUqIdeal.main_v0) = v0 c
          ∧ r.2.mem ((c.tc : Thread Cert.ReferenceFUqIdeal.nD Cert.ReferenceFUqIdeal.τ).loc Cert.ReferenceFUqIdeal.main_arg0) = m' ((c.tc : Thread Cert.ReferenceFUqIdeal.nD Cert.ReferenceFUqIdeal.τ).loc Cert.ReferenceFUqIdeal.main_arg0)
          ∧ r.2.mem ((c.tc : Thread Cert.ReferenceFUqIdeal.nD Cert.ReferenceFUqIdeal.τ).loc Cert.ReferenceFUqIdeal.main_arg1) = m' ((c.tc : Thread Cert.ReferenceFUqIdeal.nD Cert.ReferenceFUqIdeal.τ).loc Cert.ReferenceFUqIdeal.main_arg1))

def preserves_KernelFUkv_KernelFUkvIdeal : Prop :=
  True

def algebraic_KernelFUkvIdeal_ReferenceFUkvIdeal [hKernelFUkvIdeal : Cert.KernelFUkvIdeal.Facts] [hReferenceFUkvIdeal : Cert.ReferenceFUkvIdeal.Facts] : Prop :=
  ∀ (m : (ℓ : Loc Cert.KernelFUkvIdeal.nD Cert.KernelFUkvIdeal.τ Cert.KernelFUkvIdeal.sig) → Buf (Elt Ideal) ℓ) (g : Dev Cert.KernelFUkvIdeal.nD → PrngReg)
    (m' : (ℓ : Loc Cert.ReferenceFUkvIdeal.nD Cert.ReferenceFUkvIdeal.τ Cert.ReferenceFUkvIdeal.sig) → Buf (Elt Ideal) ℓ) (g' : Dev Cert.ReferenceFUkvIdeal.nD → PrngReg), Pre_KernelFUkvIdeal m →
    (∀ c : Dev Cert.KernelFUkvIdeal.nD,
      m' ((c.tc : Thread Cert.ReferenceFUkvIdeal.nD Cert.ReferenceFUkvIdeal.τ).loc Cert.ReferenceFUkvIdeal.main_arg0) = m ((c.tc : Thread Cert.KernelFUkvIdeal.nD Cert.KernelFUkvIdeal.τ).loc Cert.KernelFUkvIdeal.main_arg0)
      ∧ m' ((c.tc : Thread Cert.ReferenceFUkvIdeal.nD Cert.ReferenceFUkvIdeal.τ).loc Cert.ReferenceFUkvIdeal.main_arg1) = m ((c.tc : Thread Cert.KernelFUkvIdeal.nD Cert.KernelFUkvIdeal.τ).loc Cert.KernelFUkvIdeal.main_arg1)) →
    ∃ (v0 : (c : Dev Cert.KernelFUkvIdeal.nD) → Buf (Elt Ideal) ((c.tc : Thread Cert.KernelFUkvIdeal.nD Cert.KernelFUkvIdeal.τ).loc Cert.KernelFUkvIdeal.main_v0)),
      θ_run (Cert.KernelFUkvIdeal.defs (F := Ideal)) (onTc (τ := Cert.KernelFUkvIdeal.τ) (Cert.KernelFUkvIdeal.main (F := Ideal))) ⟨m, fun _ => 0, g⟩ (fun r => ∀ c : Dev Cert.KernelFUkvIdeal.nD,
          r.2.mem ((c.tc : Thread Cert.KernelFUkvIdeal.nD Cert.KernelFUkvIdeal.τ).loc Cert.KernelFUkvIdeal.main_v0) = v0 c
          ∧ r.2.mem ((c.tc : Thread Cert.KernelFUkvIdeal.nD Cert.KernelFUkvIdeal.τ).loc Cert.KernelFUkvIdeal.main_arg0) = m ((c.tc : Thread Cert.KernelFUkvIdeal.nD Cert.KernelFUkvIdeal.τ).loc Cert.KernelFUkvIdeal.main_arg0)
          ∧ r.2.mem ((c.tc : Thread Cert.KernelFUkvIdeal.nD Cert.KernelFUkvIdeal.τ).loc Cert.KernelFUkvIdeal.main_arg1) = m ((c.tc : Thread Cert.KernelFUkvIdeal.nD Cert.KernelFUkvIdeal.τ).loc Cert.KernelFUkvIdeal.main_arg1))
      ∧ θ_run (Cert.ReferenceFUkvIdeal.defs (F := Ideal)) (onTc (τ := Cert.ReferenceFUkvIdeal.τ) (Cert.ReferenceFUkvIdeal.main (F := Ideal))) ⟨m', fun _ => 0, g'⟩ (fun r => ∀ c : Dev Cert.ReferenceFUkvIdeal.nD,
          r.2.mem ((c.tc : Thread Cert.ReferenceFUkvIdeal.nD Cert.ReferenceFUkvIdeal.τ).loc Cert.ReferenceFUkvIdeal.main_v0) = v0 c
          ∧ r.2.mem ((c.tc : Thread Cert.ReferenceFUkvIdeal.nD Cert.ReferenceFUkvIdeal.τ).loc Cert.ReferenceFUkvIdeal.main_arg0) = m' ((c.tc : Thread Cert.ReferenceFUkvIdeal.nD Cert.ReferenceFUkvIdeal.τ).loc Cert.ReferenceFUkvIdeal.main_arg0)
          ∧ r.2.mem ((c.tc : Thread Cert.ReferenceFUkvIdeal.nD Cert.ReferenceFUkvIdeal.τ).loc Cert.ReferenceFUkvIdeal.main_arg1) = m' ((c.tc : Thread Cert.ReferenceFUkvIdeal.nD Cert.ReferenceFUkvIdeal.τ).loc Cert.ReferenceFUkvIdeal.main_arg1))

def preserves_KernelSwigluB_KernelSwigluBIdeal : Prop :=
  True

def algebraic_KernelSwigluBIdeal_ReferenceSwigluBIdeal [hKernelSwigluBIdeal : Cert.KernelSwigluBIdeal.Facts] [hReferenceSwigluBIdeal : Cert.ReferenceSwigluBIdeal.Facts] : Prop :=
  ∀ (m : (ℓ : Loc Cert.KernelSwigluBIdeal.nD Cert.KernelSwigluBIdeal.τ Cert.KernelSwigluBIdeal.sig) → Buf (Elt Ideal) ℓ) (g : Dev Cert.KernelSwigluBIdeal.nD → PrngReg)
    (m' : (ℓ : Loc Cert.ReferenceSwigluBIdeal.nD Cert.ReferenceSwigluBIdeal.τ Cert.ReferenceSwigluBIdeal.sig) → Buf (Elt Ideal) ℓ) (g' : Dev Cert.ReferenceSwigluBIdeal.nD → PrngReg), Pre_KernelSwigluBIdeal m →
    (∀ c : Dev Cert.KernelSwigluBIdeal.nD,
      m' ((c.tc : Thread Cert.ReferenceSwigluBIdeal.nD Cert.ReferenceSwigluBIdeal.τ).loc Cert.ReferenceSwigluBIdeal.main_arg0) = m ((c.tc : Thread Cert.KernelSwigluBIdeal.nD Cert.KernelSwigluBIdeal.τ).loc Cert.KernelSwigluBIdeal.main_arg0)
      ∧ m' ((c.tc : Thread Cert.ReferenceSwigluBIdeal.nD Cert.ReferenceSwigluBIdeal.τ).loc Cert.ReferenceSwigluBIdeal.main_arg1) = m ((c.tc : Thread Cert.KernelSwigluBIdeal.nD Cert.KernelSwigluBIdeal.τ).loc Cert.KernelSwigluBIdeal.main_arg1)) →
    ∃ (v0 : (c : Dev Cert.KernelSwigluBIdeal.nD) → Buf (Elt Ideal) ((c.tc : Thread Cert.KernelSwigluBIdeal.nD Cert.KernelSwigluBIdeal.τ).loc Cert.KernelSwigluBIdeal.main_v0)),
      θ_run (Cert.KernelSwigluBIdeal.defs (F := Ideal)) (onTc (τ := Cert.KernelSwigluBIdeal.τ) (Cert.KernelSwigluBIdeal.main (F := Ideal))) ⟨m, fun _ => 0, g⟩ (fun r => ∀ c : Dev Cert.KernelSwigluBIdeal.nD,
          r.2.mem ((c.tc : Thread Cert.KernelSwigluBIdeal.nD Cert.KernelSwigluBIdeal.τ).loc Cert.KernelSwigluBIdeal.main_v0) = v0 c
          ∧ r.2.mem ((c.tc : Thread Cert.KernelSwigluBIdeal.nD Cert.KernelSwigluBIdeal.τ).loc Cert.KernelSwigluBIdeal.main_arg0) = m ((c.tc : Thread Cert.KernelSwigluBIdeal.nD Cert.KernelSwigluBIdeal.τ).loc Cert.KernelSwigluBIdeal.main_arg0)
          ∧ r.2.mem ((c.tc : Thread Cert.KernelSwigluBIdeal.nD Cert.KernelSwigluBIdeal.τ).loc Cert.KernelSwigluBIdeal.main_arg1) = m ((c.tc : Thread Cert.KernelSwigluBIdeal.nD Cert.KernelSwigluBIdeal.τ).loc Cert.KernelSwigluBIdeal.main_arg1))
      ∧ θ_run (Cert.ReferenceSwigluBIdeal.defs (F := Ideal)) (onTc (τ := Cert.ReferenceSwigluBIdeal.τ) (Cert.ReferenceSwigluBIdeal.main (F := Ideal))) ⟨m', fun _ => 0, g'⟩ (fun r => ∀ c : Dev Cert.ReferenceSwigluBIdeal.nD,
          r.2.mem ((c.tc : Thread Cert.ReferenceSwigluBIdeal.nD Cert.ReferenceSwigluBIdeal.τ).loc Cert.ReferenceSwigluBIdeal.main_v9) = v0 c
          ∧ r.2.mem ((c.tc : Thread Cert.ReferenceSwigluBIdeal.nD Cert.ReferenceSwigluBIdeal.τ).loc Cert.ReferenceSwigluBIdeal.main_arg0) = m' ((c.tc : Thread Cert.ReferenceSwigluBIdeal.nD Cert.ReferenceSwigluBIdeal.τ).loc Cert.ReferenceSwigluBIdeal.main_arg0)
          ∧ r.2.mem ((c.tc : Thread Cert.ReferenceSwigluBIdeal.nD Cert.ReferenceSwigluBIdeal.τ).loc Cert.ReferenceSwigluBIdeal.main_arg1) = m' ((c.tc : Thread Cert.ReferenceSwigluBIdeal.nD Cert.ReferenceSwigluBIdeal.τ).loc Cert.ReferenceSwigluBIdeal.main_arg1))

def preserves_KernelSwigluF_KernelSwigluFIdeal : Prop :=
  True

def algebraic_KernelSwigluFIdeal_ReferenceSwigluFIdeal [hKernelSwigluFIdeal : Cert.KernelSwigluFIdeal.Facts] [hReferenceSwigluFIdeal : Cert.ReferenceSwigluFIdeal.Facts] : Prop :=
  ∀ (m : (ℓ : Loc Cert.KernelSwigluFIdeal.nD Cert.KernelSwigluFIdeal.τ Cert.KernelSwigluFIdeal.sig) → Buf (Elt Ideal) ℓ) (g : Dev Cert.KernelSwigluFIdeal.nD → PrngReg)
    (m' : (ℓ : Loc Cert.ReferenceSwigluFIdeal.nD Cert.ReferenceSwigluFIdeal.τ Cert.ReferenceSwigluFIdeal.sig) → Buf (Elt Ideal) ℓ) (g' : Dev Cert.ReferenceSwigluFIdeal.nD → PrngReg), Pre_KernelSwigluFIdeal m →
    (∀ c : Dev Cert.KernelSwigluFIdeal.nD,
      m' ((c.tc : Thread Cert.ReferenceSwigluFIdeal.nD Cert.ReferenceSwigluFIdeal.τ).loc Cert.ReferenceSwigluFIdeal.main_arg0) = m ((c.tc : Thread Cert.KernelSwigluFIdeal.nD Cert.KernelSwigluFIdeal.τ).loc Cert.KernelSwigluFIdeal.main_arg0)) →
    ∃ (v0 : (c : Dev Cert.KernelSwigluFIdeal.nD) → Buf (Elt Ideal) ((c.tc : Thread Cert.KernelSwigluFIdeal.nD Cert.KernelSwigluFIdeal.τ).loc Cert.KernelSwigluFIdeal.main_v0)),
      θ_run (Cert.KernelSwigluFIdeal.defs (F := Ideal)) (onTc (τ := Cert.KernelSwigluFIdeal.τ) (Cert.KernelSwigluFIdeal.main (F := Ideal))) ⟨m, fun _ => 0, g⟩ (fun r => ∀ c : Dev Cert.KernelSwigluFIdeal.nD,
          r.2.mem ((c.tc : Thread Cert.KernelSwigluFIdeal.nD Cert.KernelSwigluFIdeal.τ).loc Cert.KernelSwigluFIdeal.main_v0) = v0 c
          ∧ r.2.mem ((c.tc : Thread Cert.KernelSwigluFIdeal.nD Cert.KernelSwigluFIdeal.τ).loc Cert.KernelSwigluFIdeal.main_arg0) = m ((c.tc : Thread Cert.KernelSwigluFIdeal.nD Cert.KernelSwigluFIdeal.τ).loc Cert.KernelSwigluFIdeal.main_arg0))
      ∧ θ_run (Cert.ReferenceSwigluFIdeal.defs (F := Ideal)) (onTc (τ := Cert.ReferenceSwigluFIdeal.τ) (Cert.ReferenceSwigluFIdeal.main (F := Ideal))) ⟨m', fun _ => 0, g'⟩ (fun r => ∀ c : Dev Cert.ReferenceSwigluFIdeal.nD,
          r.2.mem ((c.tc : Thread Cert.ReferenceSwigluFIdeal.nD Cert.ReferenceSwigluFIdeal.τ).loc Cert.ReferenceSwigluFIdeal.main_v5) = v0 c
          ∧ r.2.mem ((c.tc : Thread Cert.ReferenceSwigluFIdeal.nD Cert.ReferenceSwigluFIdeal.τ).loc Cert.ReferenceSwigluFIdeal.main_arg0) = m' ((c.tc : Thread Cert.ReferenceSwigluFIdeal.nD Cert.ReferenceSwigluFIdeal.τ).loc Cert.ReferenceSwigluFIdeal.main_arg0))

def preserves_KernelMergeB_KernelMergeBIdeal : Prop :=
  True

def algebraic_KernelMergeBIdeal_ReferenceMergeBIdeal [hKernelMergeBIdeal : Cert.KernelMergeBIdeal.Facts] [hReferenceMergeBIdeal : Cert.ReferenceMergeBIdeal.Facts] : Prop :=
  ∀ (m : (ℓ : Loc Cert.KernelMergeBIdeal.nD Cert.KernelMergeBIdeal.τ Cert.KernelMergeBIdeal.sig) → Buf (Elt Ideal) ℓ) (g : Dev Cert.KernelMergeBIdeal.nD → PrngReg)
    (m' : (ℓ : Loc Cert.ReferenceMergeBIdeal.nD Cert.ReferenceMergeBIdeal.τ Cert.ReferenceMergeBIdeal.sig) → Buf (Elt Ideal) ℓ) (g' : Dev Cert.ReferenceMergeBIdeal.nD → PrngReg), Pre_KernelMergeBIdeal m →
    (∀ c : Dev Cert.KernelMergeBIdeal.nD,
      m' ((c.tc : Thread Cert.ReferenceMergeBIdeal.nD Cert.ReferenceMergeBIdeal.τ).loc Cert.ReferenceMergeBIdeal.main_arg0) = m ((c.tc : Thread Cert.KernelMergeBIdeal.nD Cert.KernelMergeBIdeal.τ).loc Cert.KernelMergeBIdeal.main_arg0)
      ∧ m' ((c.tc : Thread Cert.ReferenceMergeBIdeal.nD Cert.ReferenceMergeBIdeal.τ).loc Cert.ReferenceMergeBIdeal.main_arg1) = m ((c.tc : Thread Cert.KernelMergeBIdeal.nD Cert.KernelMergeBIdeal.τ).loc Cert.KernelMergeBIdeal.main_arg1)
      ∧ m' ((c.tc : Thread Cert.ReferenceMergeBIdeal.nD Cert.ReferenceMergeBIdeal.τ).loc Cert.ReferenceMergeBIdeal.main_arg2) = m ((c.tc : Thread Cert.KernelMergeBIdeal.nD Cert.KernelMergeBIdeal.τ).loc Cert.KernelMergeBIdeal.main_arg2)
      ∧ m' ((c.tc : Thread Cert.ReferenceMergeBIdeal.nD Cert.ReferenceMergeBIdeal.τ).loc Cert.ReferenceMergeBIdeal.main_arg3) = m ((c.tc : Thread Cert.KernelMergeBIdeal.nD Cert.KernelMergeBIdeal.τ).loc Cert.KernelMergeBIdeal.main_arg3)
      ∧ m' ((c.tc : Thread Cert.ReferenceMergeBIdeal.nD Cert.ReferenceMergeBIdeal.τ).loc Cert.ReferenceMergeBIdeal.main_arg4) = m ((c.tc : Thread Cert.KernelMergeBIdeal.nD Cert.KernelMergeBIdeal.τ).loc Cert.KernelMergeBIdeal.main_arg4)) →
    ∃ (v0 : (c : Dev Cert.KernelMergeBIdeal.nD) → Buf (Elt Ideal) ((c.tc : Thread Cert.KernelMergeBIdeal.nD Cert.KernelMergeBIdeal.τ).loc Cert.KernelMergeBIdeal.main_v0_0)) (v1 : (c : Dev Cert.KernelMergeBIdeal.nD) → Buf (Elt Ideal) ((c.tc : Thread Cert.KernelMergeBIdeal.nD Cert.KernelMergeBIdeal.τ).loc Cert.KernelMergeBIdeal.main_v0_1)) (v2 : (c : Dev Cert.KernelMergeBIdeal.nD) → Buf (Elt Ideal) ((c.tc : Thread Cert.KernelMergeBIdeal.nD Cert.KernelMergeBIdeal.τ).loc Cert.KernelMergeBIdeal.main_v0_2)) (v3 : (c : Dev Cert.KernelMergeBIdeal.nD) → Buf (Elt Ideal) ((c.tc : Thread Cert.KernelMergeBIdeal.nD Cert.KernelMergeBIdeal.τ).loc Cert.KernelMergeBIdeal.main_v0_3)),
      θ_run (Cert.KernelMergeBIdeal.defs (F := Ideal)) (onTc (τ := Cert.KernelMergeBIdeal.τ) (Cert.KernelMergeBIdeal.main (F := Ideal))) ⟨m, fun _ => 0, g⟩ (fun r => ∀ c : Dev Cert.KernelMergeBIdeal.nD,
          r.2.mem ((c.tc : Thread Cert.KernelMergeBIdeal.nD Cert.KernelMergeBIdeal.τ).loc Cert.KernelMergeBIdeal.main_v0_0) = v0 c
          ∧ r.2.mem ((c.tc : Thread Cert.KernelMergeBIdeal.nD Cert.KernelMergeBIdeal.τ).loc Cert.KernelMergeBIdeal.main_v0_1) = v1 c
          ∧ r.2.mem ((c.tc : Thread Cert.KernelMergeBIdeal.nD Cert.KernelMergeBIdeal.τ).loc Cert.KernelMergeBIdeal.main_v0_2) = v2 c
          ∧ r.2.mem ((c.tc : Thread Cert.KernelMergeBIdeal.nD Cert.KernelMergeBIdeal.τ).loc Cert.KernelMergeBIdeal.main_v0_3) = v3 c
          ∧ r.2.mem ((c.tc : Thread Cert.KernelMergeBIdeal.nD Cert.KernelMergeBIdeal.τ).loc Cert.KernelMergeBIdeal.main_arg0) = m ((c.tc : Thread Cert.KernelMergeBIdeal.nD Cert.KernelMergeBIdeal.τ).loc Cert.KernelMergeBIdeal.main_arg0)
          ∧ r.2.mem ((c.tc : Thread Cert.KernelMergeBIdeal.nD Cert.KernelMergeBIdeal.τ).loc Cert.KernelMergeBIdeal.main_arg1) = m ((c.tc : Thread Cert.KernelMergeBIdeal.nD Cert.KernelMergeBIdeal.τ).loc Cert.KernelMergeBIdeal.main_arg1)
          ∧ r.2.mem ((c.tc : Thread Cert.KernelMergeBIdeal.nD Cert.KernelMergeBIdeal.τ).loc Cert.KernelMergeBIdeal.main_arg2) = m ((c.tc : Thread Cert.KernelMergeBIdeal.nD Cert.KernelMergeBIdeal.τ).loc Cert.KernelMergeBIdeal.main_arg2)
          ∧ r.2.mem ((c.tc : Thread Cert.KernelMergeBIdeal.nD Cert.KernelMergeBIdeal.τ).loc Cert.KernelMergeBIdeal.main_arg3) = m ((c.tc : Thread Cert.KernelMergeBIdeal.nD Cert.KernelMergeBIdeal.τ).loc Cert.KernelMergeBIdeal.main_arg3)
          ∧ r.2.mem ((c.tc : Thread Cert.KernelMergeBIdeal.nD Cert.KernelMergeBIdeal.τ).loc Cert.KernelMergeBIdeal.main_arg4) = m ((c.tc : Thread Cert.KernelMergeBIdeal.nD Cert.KernelMergeBIdeal.τ).loc Cert.KernelMergeBIdeal.main_arg4))
      ∧ θ_run (Cert.ReferenceMergeBIdeal.defs (F := Ideal)) (onTc (τ := Cert.ReferenceMergeBIdeal.τ) (Cert.ReferenceMergeBIdeal.main (F := Ideal))) ⟨m', fun _ => 0, g'⟩ (fun r => ∀ c : Dev Cert.ReferenceMergeBIdeal.nD,
          r.2.mem ((c.tc : Thread Cert.ReferenceMergeBIdeal.nD Cert.ReferenceMergeBIdeal.τ).loc Cert.ReferenceMergeBIdeal.main_v31) = v0 c
          ∧ r.2.mem ((c.tc : Thread Cert.ReferenceMergeBIdeal.nD Cert.ReferenceMergeBIdeal.τ).loc Cert.ReferenceMergeBIdeal.main_v32) = v1 c
          ∧ r.2.mem ((c.tc : Thread Cert.ReferenceMergeBIdeal.nD Cert.ReferenceMergeBIdeal.τ).loc Cert.ReferenceMergeBIdeal.main_v33) = v2 c
          ∧ r.2.mem ((c.tc : Thread Cert.ReferenceMergeBIdeal.nD Cert.ReferenceMergeBIdeal.τ).loc Cert.ReferenceMergeBIdeal.main_v34) = v3 c
          ∧ r.2.mem ((c.tc : Thread Cert.ReferenceMergeBIdeal.nD Cert.ReferenceMergeBIdeal.τ).loc Cert.ReferenceMergeBIdeal.main_arg0) = m' ((c.tc : Thread Cert.ReferenceMergeBIdeal.nD Cert.ReferenceMergeBIdeal.τ).loc Cert.ReferenceMergeBIdeal.main_arg0)
          ∧ r.2.mem ((c.tc : Thread Cert.ReferenceMergeBIdeal.nD Cert.ReferenceMergeBIdeal.τ).loc Cert.ReferenceMergeBIdeal.main_arg1) = m' ((c.tc : Thread Cert.ReferenceMergeBIdeal.nD Cert.ReferenceMergeBIdeal.τ).loc Cert.ReferenceMergeBIdeal.main_arg1)
          ∧ r.2.mem ((c.tc : Thread Cert.ReferenceMergeBIdeal.nD Cert.ReferenceMergeBIdeal.τ).loc Cert.ReferenceMergeBIdeal.main_arg2) = m' ((c.tc : Thread Cert.ReferenceMergeBIdeal.nD Cert.ReferenceMergeBIdeal.τ).loc Cert.ReferenceMergeBIdeal.main_arg2)
          ∧ r.2.mem ((c.tc : Thread Cert.ReferenceMergeBIdeal.nD Cert.ReferenceMergeBIdeal.τ).loc Cert.ReferenceMergeBIdeal.main_arg3) = m' ((c.tc : Thread Cert.ReferenceMergeBIdeal.nD Cert.ReferenceMergeBIdeal.τ).loc Cert.ReferenceMergeBIdeal.main_arg3)
          ∧ r.2.mem ((c.tc : Thread Cert.ReferenceMergeBIdeal.nD Cert.ReferenceMergeBIdeal.τ).loc Cert.ReferenceMergeBIdeal.main_arg4) = m' ((c.tc : Thread Cert.ReferenceMergeBIdeal.nD Cert.ReferenceMergeBIdeal.τ).loc Cert.ReferenceMergeBIdeal.main_arg4))

def preserves_KernelMergeF_KernelMergeFIdeal : Prop :=
  True

def algebraic_KernelMergeFIdeal_ReferenceMergeFIdeal [hKernelMergeFIdeal : Cert.KernelMergeFIdeal.Facts] [hReferenceMergeFIdeal : Cert.ReferenceMergeFIdeal.Facts] : Prop :=
  ∀ (m : (ℓ : Loc Cert.KernelMergeFIdeal.nD Cert.KernelMergeFIdeal.τ Cert.KernelMergeFIdeal.sig) → Buf (Elt Ideal) ℓ) (g : Dev Cert.KernelMergeFIdeal.nD → PrngReg)
    (m' : (ℓ : Loc Cert.ReferenceMergeFIdeal.nD Cert.ReferenceMergeFIdeal.τ Cert.ReferenceMergeFIdeal.sig) → Buf (Elt Ideal) ℓ) (g' : Dev Cert.ReferenceMergeFIdeal.nD → PrngReg), Pre_KernelMergeFIdeal m →
    (∀ c : Dev Cert.KernelMergeFIdeal.nD,
      m' ((c.tc : Thread Cert.ReferenceMergeFIdeal.nD Cert.ReferenceMergeFIdeal.τ).loc Cert.ReferenceMergeFIdeal.main_arg0) = m ((c.tc : Thread Cert.KernelMergeFIdeal.nD Cert.KernelMergeFIdeal.τ).loc Cert.KernelMergeFIdeal.main_arg0)
      ∧ m' ((c.tc : Thread Cert.ReferenceMergeFIdeal.nD Cert.ReferenceMergeFIdeal.τ).loc Cert.ReferenceMergeFIdeal.main_arg1) = m ((c.tc : Thread Cert.KernelMergeFIdeal.nD Cert.KernelMergeFIdeal.τ).loc Cert.KernelMergeFIdeal.main_arg1)
      ∧ m' ((c.tc : Thread Cert.ReferenceMergeFIdeal.nD Cert.ReferenceMergeFIdeal.τ).loc Cert.ReferenceMergeFIdeal.main_arg2) = m ((c.tc : Thread Cert.KernelMergeFIdeal.nD Cert.KernelMergeFIdeal.τ).loc Cert.KernelMergeFIdeal.main_arg2)
      ∧ m' ((c.tc : Thread Cert.ReferenceMergeFIdeal.nD Cert.ReferenceMergeFIdeal.τ).loc Cert.ReferenceMergeFIdeal.main_arg3) = m ((c.tc : Thread Cert.KernelMergeFIdeal.nD Cert.KernelMergeFIdeal.τ).loc Cert.KernelMergeFIdeal.main_arg3)) →
    ∃ (v0 : (c : Dev Cert.KernelMergeFIdeal.nD) → Buf (Elt Ideal) ((c.tc : Thread Cert.KernelMergeFIdeal.nD Cert.KernelMergeFIdeal.τ).loc Cert.KernelMergeFIdeal.main_v0)),
      θ_run (Cert.KernelMergeFIdeal.defs (F := Ideal)) (onTc (τ := Cert.KernelMergeFIdeal.τ) (Cert.KernelMergeFIdeal.main (F := Ideal))) ⟨m, fun _ => 0, g⟩ (fun r => ∀ c : Dev Cert.KernelMergeFIdeal.nD,
          r.2.mem ((c.tc : Thread Cert.KernelMergeFIdeal.nD Cert.KernelMergeFIdeal.τ).loc Cert.KernelMergeFIdeal.main_v0) = v0 c
          ∧ r.2.mem ((c.tc : Thread Cert.KernelMergeFIdeal.nD Cert.KernelMergeFIdeal.τ).loc Cert.KernelMergeFIdeal.main_arg0) = m ((c.tc : Thread Cert.KernelMergeFIdeal.nD Cert.KernelMergeFIdeal.τ).loc Cert.KernelMergeFIdeal.main_arg0)
          ∧ r.2.mem ((c.tc : Thread Cert.KernelMergeFIdeal.nD Cert.KernelMergeFIdeal.τ).loc Cert.KernelMergeFIdeal.main_arg1) = m ((c.tc : Thread Cert.KernelMergeFIdeal.nD Cert.KernelMergeFIdeal.τ).loc Cert.KernelMergeFIdeal.main_arg1)
          ∧ r.2.mem ((c.tc : Thread Cert.KernelMergeFIdeal.nD Cert.KernelMergeFIdeal.τ).loc Cert.KernelMergeFIdeal.main_arg2) = m ((c.tc : Thread Cert.KernelMergeFIdeal.nD Cert.KernelMergeFIdeal.τ).loc Cert.KernelMergeFIdeal.main_arg2)
          ∧ r.2.mem ((c.tc : Thread Cert.KernelMergeFIdeal.nD Cert.KernelMergeFIdeal.τ).loc Cert.KernelMergeFIdeal.main_arg3) = m ((c.tc : Thread Cert.KernelMergeFIdeal.nD Cert.KernelMergeFIdeal.τ).loc Cert.KernelMergeFIdeal.main_arg3))
      ∧ θ_run (Cert.ReferenceMergeFIdeal.defs (F := Ideal)) (onTc (τ := Cert.ReferenceMergeFIdeal.τ) (Cert.ReferenceMergeFIdeal.main (F := Ideal))) ⟨m', fun _ => 0, g'⟩ (fun r => ∀ c : Dev Cert.ReferenceMergeFIdeal.nD,
          r.2.mem ((c.tc : Thread Cert.ReferenceMergeFIdeal.nD Cert.ReferenceMergeFIdeal.τ).loc Cert.ReferenceMergeFIdeal.main_v18) = v0 c
          ∧ r.2.mem ((c.tc : Thread Cert.ReferenceMergeFIdeal.nD Cert.ReferenceMergeFIdeal.τ).loc Cert.ReferenceMergeFIdeal.main_arg0) = m' ((c.tc : Thread Cert.ReferenceMergeFIdeal.nD Cert.ReferenceMergeFIdeal.τ).loc Cert.ReferenceMergeFIdeal.main_arg0)
          ∧ r.2.mem ((c.tc : Thread Cert.ReferenceMergeFIdeal.nD Cert.ReferenceMergeFIdeal.τ).loc Cert.ReferenceMergeFIdeal.main_arg1) = m' ((c.tc : Thread Cert.ReferenceMergeFIdeal.nD Cert.ReferenceMergeFIdeal.τ).loc Cert.ReferenceMergeFIdeal.main_arg1)
          ∧ r.2.mem ((c.tc : Thread Cert.ReferenceMergeFIdeal.nD Cert.ReferenceMergeFIdeal.τ).loc Cert.ReferenceMergeFIdeal.main_arg2) = m' ((c.tc : Thread Cert.ReferenceMergeFIdeal.nD Cert.ReferenceMergeFIdeal.τ).loc Cert.ReferenceMergeFIdeal.main_arg2)
          ∧ r.2.mem ((c.tc : Thread Cert.ReferenceMergeFIdeal.nD Cert.ReferenceMergeFIdeal.τ).loc Cert.ReferenceMergeFIdeal.main_arg3) = m' ((c.tc : Thread Cert.ReferenceMergeFIdeal.nD Cert.ReferenceMergeFIdeal.τ).loc Cert.ReferenceMergeFIdeal.main_arg3))

def preserves_KernelLatNormB_KernelLatNormBIdeal : Prop :=
  IdealRules.named_const.Statement Cert.KernelLatNormBIdeal.κ "inv384" .f32 0x3B2AAAAB#32 ((384⁻¹ : ℝ) : EReal)

def algebraic_KernelLatNormBIdeal_ReferenceLatNormBIdeal [hKernelLatNormBIdeal : Cert.KernelLatNormBIdeal.Facts] [hReferenceLatNormBIdeal : Cert.ReferenceLatNormBIdeal.Facts] : Prop :=
  ∀ (m : (ℓ : Loc Cert.KernelLatNormBIdeal.nD Cert.KernelLatNormBIdeal.τ Cert.KernelLatNormBIdeal.sig) → Buf (Elt Ideal) ℓ) (g : Dev Cert.KernelLatNormBIdeal.nD → PrngReg)
    (m' : (ℓ : Loc Cert.ReferenceLatNormBIdeal.nD Cert.ReferenceLatNormBIdeal.τ Cert.ReferenceLatNormBIdeal.sig) → Buf (Elt Ideal) ℓ) (g' : Dev Cert.ReferenceLatNormBIdeal.nD → PrngReg), Pre_KernelLatNormBIdeal m →
    (∀ c : Dev Cert.KernelLatNormBIdeal.nD,
      m' ((c.tc : Thread Cert.ReferenceLatNormBIdeal.nD Cert.ReferenceLatNormBIdeal.τ).loc Cert.ReferenceLatNormBIdeal.main_arg0) = m ((c.tc : Thread Cert.KernelLatNormBIdeal.nD Cert.KernelLatNormBIdeal.τ).loc Cert.KernelLatNormBIdeal.main_arg0)
      ∧ m' ((c.tc : Thread Cert.ReferenceLatNormBIdeal.nD Cert.ReferenceLatNormBIdeal.τ).loc Cert.ReferenceLatNormBIdeal.main_arg1) = m ((c.tc : Thread Cert.KernelLatNormBIdeal.nD Cert.KernelLatNormBIdeal.τ).loc Cert.KernelLatNormBIdeal.main_arg1)
      ∧ m' ((c.tc : Thread Cert.ReferenceLatNormBIdeal.nD Cert.ReferenceLatNormBIdeal.τ).loc Cert.ReferenceLatNormBIdeal.main_arg2) = m ((c.tc : Thread Cert.KernelLatNormBIdeal.nD Cert.KernelLatNormBIdeal.τ).loc Cert.KernelLatNormBIdeal.main_arg2)
      ∧ m' ((c.tc : Thread Cert.ReferenceLatNormBIdeal.nD Cert.ReferenceLatNormBIdeal.τ).loc Cert.ReferenceLatNormBIdeal.main_arg3) = m ((c.tc : Thread Cert.KernelLatNormBIdeal.nD Cert.KernelLatNormBIdeal.τ).loc Cert.KernelLatNormBIdeal.main_arg3)
      ∧ m' ((c.tc : Thread Cert.ReferenceLatNormBIdeal.nD Cert.ReferenceLatNormBIdeal.τ).loc Cert.ReferenceLatNormBIdeal.main_arg4) = m ((c.tc : Thread Cert.KernelLatNormBIdeal.nD Cert.KernelLatNormBIdeal.τ).loc Cert.KernelLatNormBIdeal.main_arg4)) →
    ∃ (v0 : (c : Dev Cert.KernelLatNormBIdeal.nD) → Buf (Elt Ideal) ((c.tc : Thread Cert.KernelLatNormBIdeal.nD Cert.KernelLatNormBIdeal.τ).loc Cert.KernelLatNormBIdeal.main_v0_0)) (v1 : (c : Dev Cert.KernelLatNormBIdeal.nD) → Buf (Elt Ideal) ((c.tc : Thread Cert.KernelLatNormBIdeal.nD Cert.KernelLatNormBIdeal.τ).loc Cert.KernelLatNormBIdeal.main_v0_1)) (v2 : (c : Dev Cert.KernelLatNormBIdeal.nD) → Buf (Elt Ideal) ((c.tc : Thread Cert.KernelLatNormBIdeal.nD Cert.KernelLatNormBIdeal.τ).loc Cert.KernelLatNormBIdeal.main_v0_2)) (v3 : (c : Dev Cert.KernelLatNormBIdeal.nD) → Buf (Elt Ideal) ((c.tc : Thread Cert.KernelLatNormBIdeal.nD Cert.KernelLatNormBIdeal.τ).loc Cert.KernelLatNormBIdeal.main_v0_3)),
      θ_run (Cert.KernelLatNormBIdeal.defs (F := Ideal)) (onTc (τ := Cert.KernelLatNormBIdeal.τ) (Cert.KernelLatNormBIdeal.main (F := Ideal))) ⟨m, fun _ => 0, g⟩ (fun r => ∀ c : Dev Cert.KernelLatNormBIdeal.nD,
          r.2.mem ((c.tc : Thread Cert.KernelLatNormBIdeal.nD Cert.KernelLatNormBIdeal.τ).loc Cert.KernelLatNormBIdeal.main_v0_0) = v0 c
          ∧ r.2.mem ((c.tc : Thread Cert.KernelLatNormBIdeal.nD Cert.KernelLatNormBIdeal.τ).loc Cert.KernelLatNormBIdeal.main_v0_1) = v1 c
          ∧ r.2.mem ((c.tc : Thread Cert.KernelLatNormBIdeal.nD Cert.KernelLatNormBIdeal.τ).loc Cert.KernelLatNormBIdeal.main_v0_2) = v2 c
          ∧ r.2.mem ((c.tc : Thread Cert.KernelLatNormBIdeal.nD Cert.KernelLatNormBIdeal.τ).loc Cert.KernelLatNormBIdeal.main_v0_3) = v3 c
          ∧ r.2.mem ((c.tc : Thread Cert.KernelLatNormBIdeal.nD Cert.KernelLatNormBIdeal.τ).loc Cert.KernelLatNormBIdeal.main_arg0) = m ((c.tc : Thread Cert.KernelLatNormBIdeal.nD Cert.KernelLatNormBIdeal.τ).loc Cert.KernelLatNormBIdeal.main_arg0)
          ∧ r.2.mem ((c.tc : Thread Cert.KernelLatNormBIdeal.nD Cert.KernelLatNormBIdeal.τ).loc Cert.KernelLatNormBIdeal.main_arg1) = m ((c.tc : Thread Cert.KernelLatNormBIdeal.nD Cert.KernelLatNormBIdeal.τ).loc Cert.KernelLatNormBIdeal.main_arg1)
          ∧ r.2.mem ((c.tc : Thread Cert.KernelLatNormBIdeal.nD Cert.KernelLatNormBIdeal.τ).loc Cert.KernelLatNormBIdeal.main_arg2) = m ((c.tc : Thread Cert.KernelLatNormBIdeal.nD Cert.KernelLatNormBIdeal.τ).loc Cert.KernelLatNormBIdeal.main_arg2)
          ∧ r.2.mem ((c.tc : Thread Cert.KernelLatNormBIdeal.nD Cert.KernelLatNormBIdeal.τ).loc Cert.KernelLatNormBIdeal.main_arg3) = m ((c.tc : Thread Cert.KernelLatNormBIdeal.nD Cert.KernelLatNormBIdeal.τ).loc Cert.KernelLatNormBIdeal.main_arg3)
          ∧ r.2.mem ((c.tc : Thread Cert.KernelLatNormBIdeal.nD Cert.KernelLatNormBIdeal.τ).loc Cert.KernelLatNormBIdeal.main_arg4) = m ((c.tc : Thread Cert.KernelLatNormBIdeal.nD Cert.KernelLatNormBIdeal.τ).loc Cert.KernelLatNormBIdeal.main_arg4))
      ∧ θ_run (Cert.ReferenceLatNormBIdeal.defs (F := Ideal)) (onTc (τ := Cert.ReferenceLatNormBIdeal.τ) (Cert.ReferenceLatNormBIdeal.main (F := Ideal))) ⟨m', fun _ => 0, g'⟩ (fun r => ∀ c : Dev Cert.ReferenceLatNormBIdeal.nD,
          r.2.mem ((c.tc : Thread Cert.ReferenceLatNormBIdeal.nD Cert.ReferenceLatNormBIdeal.τ).loc Cert.ReferenceLatNormBIdeal.main_v70) = v0 c
          ∧ r.2.mem ((c.tc : Thread Cert.ReferenceLatNormBIdeal.nD Cert.ReferenceLatNormBIdeal.τ).loc Cert.ReferenceLatNormBIdeal.main_v71) = v1 c
          ∧ r.2.mem ((c.tc : Thread Cert.ReferenceLatNormBIdeal.nD Cert.ReferenceLatNormBIdeal.τ).loc Cert.ReferenceLatNormBIdeal.main_v34) = v2 c
          ∧ r.2.mem ((c.tc : Thread Cert.ReferenceLatNormBIdeal.nD Cert.ReferenceLatNormBIdeal.τ).loc Cert.ReferenceLatNormBIdeal.main_v53) = v3 c
          ∧ r.2.mem ((c.tc : Thread Cert.ReferenceLatNormBIdeal.nD Cert.ReferenceLatNormBIdeal.τ).loc Cert.ReferenceLatNormBIdeal.main_arg0) = m' ((c.tc : Thread Cert.ReferenceLatNormBIdeal.nD Cert.ReferenceLatNormBIdeal.τ).loc Cert.ReferenceLatNormBIdeal.main_arg0)
          ∧ r.2.mem ((c.tc : Thread Cert.ReferenceLatNormBIdeal.nD Cert.ReferenceLatNormBIdeal.τ).loc Cert.ReferenceLatNormBIdeal.main_arg1) = m' ((c.tc : Thread Cert.ReferenceLatNormBIdeal.nD Cert.ReferenceLatNormBIdeal.τ).loc Cert.ReferenceLatNormBIdeal.main_arg1)
          ∧ r.2.mem ((c.tc : Thread Cert.ReferenceLatNormBIdeal.nD Cert.ReferenceLatNormBIdeal.τ).loc Cert.ReferenceLatNormBIdeal.main_arg2) = m' ((c.tc : Thread Cert.ReferenceLatNormBIdeal.nD Cert.ReferenceLatNormBIdeal.τ).loc Cert.ReferenceLatNormBIdeal.main_arg2)
          ∧ r.2.mem ((c.tc : Thread Cert.ReferenceLatNormBIdeal.nD Cert.ReferenceLatNormBIdeal.τ).loc Cert.ReferenceLatNormBIdeal.main_arg3) = m' ((c.tc : Thread Cert.ReferenceLatNormBIdeal.nD Cert.ReferenceLatNormBIdeal.τ).loc Cert.ReferenceLatNormBIdeal.main_arg3)
          ∧ r.2.mem ((c.tc : Thread Cert.ReferenceLatNormBIdeal.nD Cert.ReferenceLatNormBIdeal.τ).loc Cert.ReferenceLatNormBIdeal.main_arg4) = m' ((c.tc : Thread Cert.ReferenceLatNormBIdeal.nD Cert.ReferenceLatNormBIdeal.τ).loc Cert.ReferenceLatNormBIdeal.main_arg4))

def preserves_KernelLatNormF_KernelLatNormFIdeal : Prop :=
  IdealRules.named_const.Statement Cert.KernelLatNormFIdeal.κ "inv384" .f32 0x3B2AAAAB#32 ((384⁻¹ : ℝ) : EReal)

def algebraic_KernelLatNormFIdeal_ReferenceLatNormFIdeal [hKernelLatNormFIdeal : Cert.KernelLatNormFIdeal.Facts] [hReferenceLatNormFIdeal : Cert.ReferenceLatNormFIdeal.Facts] : Prop :=
  ∀ (m : (ℓ : Loc Cert.KernelLatNormFIdeal.nD Cert.KernelLatNormFIdeal.τ Cert.KernelLatNormFIdeal.sig) → Buf (Elt Ideal) ℓ) (g : Dev Cert.KernelLatNormFIdeal.nD → PrngReg)
    (m' : (ℓ : Loc Cert.ReferenceLatNormFIdeal.nD Cert.ReferenceLatNormFIdeal.τ Cert.ReferenceLatNormFIdeal.sig) → Buf (Elt Ideal) ℓ) (g' : Dev Cert.ReferenceLatNormFIdeal.nD → PrngReg), Pre_KernelLatNormFIdeal m →
    (∀ c : Dev Cert.KernelLatNormFIdeal.nD,
      m' ((c.tc : Thread Cert.ReferenceLatNormFIdeal.nD Cert.ReferenceLatNormFIdeal.τ).loc Cert.ReferenceLatNormFIdeal.main_arg0) = m ((c.tc : Thread Cert.KernelLatNormFIdeal.nD Cert.KernelLatNormFIdeal.τ).loc Cert.KernelLatNormFIdeal.main_arg0)
      ∧ m' ((c.tc : Thread Cert.ReferenceLatNormFIdeal.nD Cert.ReferenceLatNormFIdeal.τ).loc Cert.ReferenceLatNormFIdeal.main_arg1) = m ((c.tc : Thread Cert.KernelLatNormFIdeal.nD Cert.KernelLatNormFIdeal.τ).loc Cert.KernelLatNormFIdeal.main_arg1)
      ∧ m' ((c.tc : Thread Cert.ReferenceLatNormFIdeal.nD Cert.ReferenceLatNormFIdeal.τ).loc Cert.ReferenceLatNormFIdeal.main_arg2) = m ((c.tc : Thread Cert.KernelLatNormFIdeal.nD Cert.KernelLatNormFIdeal.τ).loc Cert.KernelLatNormFIdeal.main_arg2)) →
    ∃ (v0 : (c : Dev Cert.KernelLatNormFIdeal.nD) → Buf (Elt Ideal) ((c.tc : Thread Cert.KernelLatNormFIdeal.nD Cert.KernelLatNormFIdeal.τ).loc Cert.KernelLatNormFIdeal.main_v0_0)) (v1 : (c : Dev Cert.KernelLatNormFIdeal.nD) → Buf (Elt Ideal) ((c.tc : Thread Cert.KernelLatNormFIdeal.nD Cert.KernelLatNormFIdeal.τ).loc Cert.KernelLatNormFIdeal.main_v0_1)),
      θ_run (Cert.KernelLatNormFIdeal.defs (F := Ideal)) (onTc (τ := Cert.KernelLatNormFIdeal.τ) (Cert.KernelLatNormFIdeal.main (F := Ideal))) ⟨m, fun _ => 0, g⟩ (fun r => ∀ c : Dev Cert.KernelLatNormFIdeal.nD,
          r.2.mem ((c.tc : Thread Cert.KernelLatNormFIdeal.nD Cert.KernelLatNormFIdeal.τ).loc Cert.KernelLatNormFIdeal.main_v0_0) = v0 c
          ∧ r.2.mem ((c.tc : Thread Cert.KernelLatNormFIdeal.nD Cert.KernelLatNormFIdeal.τ).loc Cert.KernelLatNormFIdeal.main_v0_1) = v1 c
          ∧ r.2.mem ((c.tc : Thread Cert.KernelLatNormFIdeal.nD Cert.KernelLatNormFIdeal.τ).loc Cert.KernelLatNormFIdeal.main_arg0) = m ((c.tc : Thread Cert.KernelLatNormFIdeal.nD Cert.KernelLatNormFIdeal.τ).loc Cert.KernelLatNormFIdeal.main_arg0)
          ∧ r.2.mem ((c.tc : Thread Cert.KernelLatNormFIdeal.nD Cert.KernelLatNormFIdeal.τ).loc Cert.KernelLatNormFIdeal.main_arg1) = m ((c.tc : Thread Cert.KernelLatNormFIdeal.nD Cert.KernelLatNormFIdeal.τ).loc Cert.KernelLatNormFIdeal.main_arg1)
          ∧ r.2.mem ((c.tc : Thread Cert.KernelLatNormFIdeal.nD Cert.KernelLatNormFIdeal.τ).loc Cert.KernelLatNormFIdeal.main_arg2) = m ((c.tc : Thread Cert.KernelLatNormFIdeal.nD Cert.KernelLatNormFIdeal.τ).loc Cert.KernelLatNormFIdeal.main_arg2))
      ∧ θ_run (Cert.ReferenceLatNormFIdeal.defs (F := Ideal)) (onTc (τ := Cert.ReferenceLatNormFIdeal.τ) (Cert.ReferenceLatNormFIdeal.main (F := Ideal))) ⟨m', fun _ => 0, g'⟩ (fun r => ∀ c : Dev Cert.ReferenceLatNormFIdeal.nD,
          r.2.mem ((c.tc : Thread Cert.ReferenceLatNormFIdeal.nD Cert.ReferenceLatNormFIdeal.τ).loc Cert.ReferenceLatNormFIdeal.main_v13) = v0 c
          ∧ r.2.mem ((c.tc : Thread Cert.ReferenceLatNormFIdeal.nD Cert.ReferenceLatNormFIdeal.τ).loc Cert.ReferenceLatNormFIdeal.main_v27) = v1 c
          ∧ r.2.mem ((c.tc : Thread Cert.ReferenceLatNormFIdeal.nD Cert.ReferenceLatNormFIdeal.τ).loc Cert.ReferenceLatNormFIdeal.main_arg0) = m' ((c.tc : Thread Cert.ReferenceLatNormFIdeal.nD Cert.ReferenceLatNormFIdeal.τ).loc Cert.ReferenceLatNormFIdeal.main_arg0)
          ∧ r.2.mem ((c.tc : Thread Cert.ReferenceLatNormFIdeal.nD Cert.ReferenceLatNormFIdeal.τ).loc Cert.ReferenceLatNormFIdeal.main_arg1) = m' ((c.tc : Thread Cert.ReferenceLatNormFIdeal.nD Cert.ReferenceLatNormFIdeal.τ).loc Cert.ReferenceLatNormFIdeal.main_arg1)
          ∧ r.2.mem ((c.tc : Thread Cert.ReferenceLatNormFIdeal.nD Cert.ReferenceLatNormFIdeal.τ).loc Cert.ReferenceLatNormFIdeal.main_arg2) = m' ((c.tc : Thread Cert.ReferenceLatNormFIdeal.nD Cert.ReferenceLatNormFIdeal.τ).loc Cert.ReferenceLatNormFIdeal.main_arg2))

def preserves_KernelAdamMod_KernelAdamModIdeal : Prop :=
  True

def algebraic_KernelAdamModIdeal_ReferenceAdamModIdeal [hKernelAdamModIdeal : Cert.KernelAdamModIdeal.Facts] [hReferenceAdamModIdeal : Cert.ReferenceAdamModIdeal.Facts] : Prop :=
  ∀ (m : (ℓ : Loc Cert.KernelAdamModIdeal.nD Cert.KernelAdamModIdeal.τ Cert.KernelAdamModIdeal.sig) → Buf (Elt Ideal) ℓ) (g : Dev Cert.KernelAdamModIdeal.nD → PrngReg)
    (m' : (ℓ : Loc Cert.ReferenceAdamModIdeal.nD Cert.ReferenceAdamModIdeal.τ Cert.ReferenceAdamModIdeal.sig) → Buf (Elt Ideal) ℓ) (g' : Dev Cert.ReferenceAdamModIdeal.nD → PrngReg), Pre_KernelAdamModIdeal m →
    (∀ c : Dev Cert.KernelAdamModIdeal.nD,
      m' ((c.tc : Thread Cert.ReferenceAdamModIdeal.nD Cert.ReferenceAdamModIdeal.τ).loc Cert.ReferenceAdamModIdeal.main_arg0) = m ((c.tc : Thread Cert.KernelAdamModIdeal.nD Cert.KernelAdamModIdeal.τ).loc Cert.KernelAdamModIdeal.main_arg0)
      ∧ m' ((c.tc : Thread Cert.ReferenceAdamModIdeal.nD Cert.ReferenceAdamModIdeal.τ).loc Cert.ReferenceAdamModIdeal.main_arg1) = m ((c.tc : Thread Cert.KernelAdamModIdeal.nD Cert.KernelAdamModIdeal.τ).loc Cert.KernelAdamModIdeal.main_arg1)
      ∧ m' ((c.tc : Thread Cert.ReferenceAdamModIdeal.nD Cert.ReferenceAdamModIdeal.τ).loc Cert.ReferenceAdamModIdeal.main_arg2) = m ((c.tc : Thread Cert.KernelAdamModIdeal.nD Cert.KernelAdamModIdeal.τ).loc Cert.KernelAdamModIdeal.main_arg2)
      ∧ m' ((c.tc : Thread Cert.ReferenceAdamModIdeal.nD Cert.ReferenceAdamModIdeal.τ).loc Cert.ReferenceAdamModIdeal.main_arg3) = m ((c.tc : Thread Cert.KernelAdamModIdeal.nD Cert.KernelAdamModIdeal.τ).loc Cert.KernelAdamModIdeal.main_arg3)) →
    ∃ (v0 : (c : Dev Cert.KernelAdamModIdeal.nD) → Buf (Elt Ideal) ((c.tc : Thread Cert.KernelAdamModIdeal.nD Cert.KernelAdamModIdeal.τ).loc Cert.KernelAdamModIdeal.main_v0_0)) (v1 : (c : Dev Cert.KernelAdamModIdeal.nD) → Buf (Elt Ideal) ((c.tc : Thread Cert.KernelAdamModIdeal.nD Cert.KernelAdamModIdeal.τ).loc Cert.KernelAdamModIdeal.main_v0_1)) (v2 : (c : Dev Cert.KernelAdamModIdeal.nD) → Buf (Elt Ideal) ((c.tc : Thread Cert.KernelAdamModIdeal.nD Cert.KernelAdamModIdeal.τ).loc Cert.KernelAdamModIdeal.main_v0_2)),
      θ_run (Cert.KernelAdamModIdeal.defs (F := Ideal)) (onTc (τ := Cert.KernelAdamModIdeal.τ) (Cert.KernelAdamModIdeal.main (F := Ideal))) ⟨m, fun _ => 0, g⟩ (fun r => ∀ c : Dev Cert.KernelAdamModIdeal.nD,
          r.2.mem ((c.tc : Thread Cert.KernelAdamModIdeal.nD Cert.KernelAdamModIdeal.τ).loc Cert.KernelAdamModIdeal.main_v0_0) = v0 c
          ∧ r.2.mem ((c.tc : Thread Cert.KernelAdamModIdeal.nD Cert.KernelAdamModIdeal.τ).loc Cert.KernelAdamModIdeal.main_v0_1) = v1 c
          ∧ r.2.mem ((c.tc : Thread Cert.KernelAdamModIdeal.nD Cert.KernelAdamModIdeal.τ).loc Cert.KernelAdamModIdeal.main_v0_2) = v2 c
          ∧ r.2.mem ((c.tc : Thread Cert.KernelAdamModIdeal.nD Cert.KernelAdamModIdeal.τ).loc Cert.KernelAdamModIdeal.main_arg0) = m ((c.tc : Thread Cert.KernelAdamModIdeal.nD Cert.KernelAdamModIdeal.τ).loc Cert.KernelAdamModIdeal.main_arg0)
          ∧ r.2.mem ((c.tc : Thread Cert.KernelAdamModIdeal.nD Cert.KernelAdamModIdeal.τ).loc Cert.KernelAdamModIdeal.main_arg1) = m ((c.tc : Thread Cert.KernelAdamModIdeal.nD Cert.KernelAdamModIdeal.τ).loc Cert.KernelAdamModIdeal.main_arg1)
          ∧ r.2.mem ((c.tc : Thread Cert.KernelAdamModIdeal.nD Cert.KernelAdamModIdeal.τ).loc Cert.KernelAdamModIdeal.main_arg2) = m ((c.tc : Thread Cert.KernelAdamModIdeal.nD Cert.KernelAdamModIdeal.τ).loc Cert.KernelAdamModIdeal.main_arg2)
          ∧ r.2.mem ((c.tc : Thread Cert.KernelAdamModIdeal.nD Cert.KernelAdamModIdeal.τ).loc Cert.KernelAdamModIdeal.main_arg3) = m ((c.tc : Thread Cert.KernelAdamModIdeal.nD Cert.KernelAdamModIdeal.τ).loc Cert.KernelAdamModIdeal.main_arg3))
      ∧ θ_run (Cert.ReferenceAdamModIdeal.defs (F := Ideal)) (onTc (τ := Cert.ReferenceAdamModIdeal.τ) (Cert.ReferenceAdamModIdeal.main (F := Ideal))) ⟨m', fun _ => 0, g'⟩ (fun r => ∀ c : Dev Cert.ReferenceAdamModIdeal.nD,
          r.2.mem ((c.tc : Thread Cert.ReferenceAdamModIdeal.nD Cert.ReferenceAdamModIdeal.τ).loc Cert.ReferenceAdamModIdeal.main_v23) = v0 c
          ∧ r.2.mem ((c.tc : Thread Cert.ReferenceAdamModIdeal.nD Cert.ReferenceAdamModIdeal.τ).loc Cert.ReferenceAdamModIdeal.main_v4) = v1 c
          ∧ r.2.mem ((c.tc : Thread Cert.ReferenceAdamModIdeal.nD Cert.ReferenceAdamModIdeal.τ).loc Cert.ReferenceAdamModIdeal.main_v10) = v2 c
          ∧ r.2.mem ((c.tc : Thread Cert.ReferenceAdamModIdeal.nD Cert.ReferenceAdamModIdeal.τ).loc Cert.ReferenceAdamModIdeal.main_arg0) = m' ((c.tc : Thread Cert.ReferenceAdamModIdeal.nD Cert.ReferenceAdamModIdeal.τ).loc Cert.ReferenceAdamModIdeal.main_arg0)
          ∧ r.2.mem ((c.tc : Thread Cert.ReferenceAdamModIdeal.nD Cert.ReferenceAdamModIdeal.τ).loc Cert.ReferenceAdamModIdeal.main_arg1) = m' ((c.tc : Thread Cert.ReferenceAdamModIdeal.nD Cert.ReferenceAdamModIdeal.τ).loc Cert.ReferenceAdamModIdeal.main_arg1)
          ∧ r.2.mem ((c.tc : Thread Cert.ReferenceAdamModIdeal.nD Cert.ReferenceAdamModIdeal.τ).loc Cert.ReferenceAdamModIdeal.main_arg2) = m' ((c.tc : Thread Cert.ReferenceAdamModIdeal.nD Cert.ReferenceAdamModIdeal.τ).loc Cert.ReferenceAdamModIdeal.main_arg2)
          ∧ r.2.mem ((c.tc : Thread Cert.ReferenceAdamModIdeal.nD Cert.ReferenceAdamModIdeal.τ).loc Cert.ReferenceAdamModIdeal.main_arg3) = m' ((c.tc : Thread Cert.ReferenceAdamModIdeal.nD Cert.ReferenceAdamModIdeal.τ).loc Cert.ReferenceAdamModIdeal.main_arg3))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)) →
    ∃ (v0 : (c : Dev Cert.KernelAdamInIdeal.nD) → Buf (Elt Ideal) ((c.tc : Thread Cert.KernelAdamInIdeal.nD Cert.KernelAdamInIdeal.τ).loc Cert.KernelAdamInIdeal.main_v0_0)) (v1 : (c : Dev Cert.KernelAdamInIdeal.nD) → Buf (Elt Ideal) ((c.tc : Thread Cert.KernelAdamInIdeal.nD Cert.KernelAdamInIdeal.τ).loc Cert.KernelAdamInIdeal.main_v0_1)) (v2 : (c : Dev Cert.KernelAdamInIdeal.nD) → Buf (Elt Ideal) ((c.tc : Thread Cert.KernelAdamInIdeal.nD Cert.KernelAdamInIdeal.τ).loc Cert.KernelAdamInIdeal.main_v0_2)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v0_0) = v0 c
          ∧ r.2.mem ((c.tc : Thread Cert.KernelAdamInIdeal.nD Cert.KernelAdamInIdeal.τ).loc Cert.KernelAdamInIdeal.main_v0_1) = v1 c
          ∧ r.2.mem ((c.tc : Thread Cert.KernelAdamInIdeal.nD Cert.KernelAdamInIdeal.τ).loc Cert.KernelAdamInIdeal.main_v0_2) = v2 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v23) = v0 c
          ∧ r.2.mem ((c.tc : Thread Cert.ReferenceAdamInIdeal.nD Cert.ReferenceAdamInIdeal.τ).loc Cert.ReferenceAdamInIdeal.main_v4) = v1 c
          ∧ r.2.mem ((c.tc : Thread Cert.ReferenceAdamInIdeal.nD Cert.ReferenceAdamInIdeal.τ).loc Cert.ReferenceAdamInIdeal.main_v10) = v2 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3))

def preserves_KernelAdamUq_KernelAdamUqIdeal : Prop :=
  True

def algebraic_KernelAdamUqIdeal_ReferenceAdamUqIdeal [hKernelAdamUqIdeal : Cert.KernelAdamUqIdeal.Facts] [hReferenceAdamUqIdeal : Cert.ReferenceAdamUqIdeal.Facts] : Prop :=
  ∀ (m : (ℓ : Loc Cert.KernelAdamUqIdeal.nD Cert.KernelAdamUqIdeal.τ Cert.KernelAdamUqIdeal.sig) → Buf (Elt Ideal) ℓ) (g : Dev Cert.KernelAdamUqIdeal.nD → PrngReg)
    (m' : (ℓ : Loc Cert.ReferenceAdamUqIdeal.nD Cert.ReferenceAdamUqIdeal.τ Cert.ReferenceAdamUqIdeal.sig) → Buf (Elt Ideal) ℓ) (g' : Dev Cert.ReferenceAdamUqIdeal.nD → PrngReg), Pre_KernelAdamUqIdeal m →
    (∀ c : Dev Cert.KernelAdamUqIdeal.nD,
      m' ((c.tc : Thread Cert.ReferenceAdamUqIdeal.nD Cert.ReferenceAdamUqIdeal.τ).loc Cert.ReferenceAdamUqIdeal.main_arg0) = m ((c.tc : Thread Cert.KernelAdamUqIdeal.nD Cert.KernelAdamUqIdeal.τ).loc Cert.KernelAdamUqIdeal.main_arg0)
      ∧ m' ((c.tc : Thread Cert.ReferenceAdamUqIdeal.nD Cert.ReferenceAdamUqIdeal.τ).loc Cert.ReferenceAdamUqIdeal.main_arg1) = m ((c.tc : Thread Cert.KernelAdamUqIdeal.nD Cert.KernelAdamUqIdeal.τ).loc Cert.KernelAdamUqIdeal.main_arg1)
      ∧ m' ((c.tc : Thread Cert.ReferenceAdamUqIdeal.nD Cert.ReferenceAdamUqIdeal.τ).loc Cert.ReferenceAdamUqIdeal.main_arg2) = m ((c.tc : Thread Cert.KernelAdamUqIdeal.nD Cert.KernelAdamUqIdeal.τ).loc Cert.KernelAdamUqIdeal.main_arg2)
      ∧ m' ((c.tc : Thread Cert.ReferenceAdamUqIdeal.nD Cert.ReferenceAdamUqIdeal.τ).loc Cert.ReferenceAdamUqIdeal.main_arg3) = m ((c.tc : Thread Cert.KernelAdamUqIdeal.nD Cert.KernelAdamUqIdeal.τ).loc Cert.KernelAdamUqIdeal.main_arg3)) →
    ∃ (v0 : (c : Dev Cert.KernelAdamUqIdeal.nD) → Buf (Elt Ideal) ((c.tc : Thread Cert.KernelAdamUqIdeal.nD Cert.KernelAdamUqIdeal.τ).loc Cert.KernelAdamUqIdeal.main_v0_0)) (v1 : (c : Dev Cert.KernelAdamUqIdeal.nD) → Buf (Elt Ideal) ((c.tc : Thread Cert.KernelAdamUqIdeal.nD Cert.KernelAdamUqIdeal.τ).loc Cert.KernelAdamUqIdeal.main_v0_1)) (v2 : (c : Dev Cert.KernelAdamUqIdeal.nD) → Buf (Elt Ideal) ((c.tc : Thread Cert.KernelAdamUqIdeal.nD Cert.KernelAdamUqIdeal.τ).loc Cert.KernelAdamUqIdeal.main_v0_2)),
      θ_run (Cert.KernelAdamUqIdeal.defs (F := Ideal)) (onTc (τ := Cert.KernelAdamUqIdeal.τ) (Cert.KernelAdamUqIdeal.main (F := Ideal))) ⟨m, fun _ => 0, g⟩ (fun r => ∀ c : Dev Cert.KernelAdamUqIdeal.nD,
          r.2.mem ((c.tc : Thread Cert.KernelAdamUqIdeal.nD Cert.KernelAdamUqIdeal.τ).loc Cert.KernelAdamUqIdeal.main_v0_0) = v0 c
          ∧ r.2.mem ((c.tc : Thread Cert.KernelAdamUqIdeal.nD Cert.KernelAdamUqIdeal.τ).loc Cert.KernelAdamUqIdeal.main_v0_1) = v1 c
          ∧ r.2.mem ((c.tc : Thread Cert.KernelAdamUqIdeal.nD Cert.KernelAdamUqIdeal.τ).loc Cert.KernelAdamUqIdeal.main_v0_2) = v2 c
          ∧ r.2.mem ((c.tc : Thread Cert.KernelAdamUqIdeal.nD Cert.KernelAdamUqIdeal.τ).loc Cert.KernelAdamUqIdeal.main_arg0) = m ((c.tc : Thread Cert.KernelAdamUqIdeal.nD Cert.KernelAdamUqIdeal.τ).loc Cert.KernelAdamUqIdeal.main_arg0)
          ∧ r.2.mem ((c.tc : Thread Cert.KernelAdamUqIdeal.nD Cert.KernelAdamUqIdeal.τ).loc Cert.KernelAdamUqIdeal.main_arg1) = m ((c.tc : Thread Cert.KernelAdamUqIdeal.nD Cert.KernelAdamUqIdeal.τ).loc Cert.KernelAdamUqIdeal.main_arg1)
          ∧ r.2.mem ((c.tc : Thread Cert.KernelAdamUqIdeal.nD Cert.KernelAdamUqIdeal.τ).loc Cert.KernelAdamUqIdeal.main_arg2) = m ((c.tc : Thread Cert.KernelAdamUqIdeal.nD Cert.KernelAdamUqIdeal.τ).loc Cert.KernelAdamUqIdeal.main_arg2)
          ∧ r.2.mem ((c.tc : Thread Cert.KernelAdamUqIdeal.nD Cert.KernelAdamUqIdeal.τ).loc Cert.KernelAdamUqIdeal.main_arg3) = m ((c.tc : Thread Cert.KernelAdamUqIdeal.nD Cert.KernelAdamUqIdeal.τ).loc Cert.KernelAdamUqIdeal.main_arg3))
      ∧ θ_run (Cert.ReferenceAdamUqIdeal.defs (F := Ideal)) (onTc (τ := Cert.ReferenceAdamUqIdeal.τ) (Cert.ReferenceAdamUqIdeal.main (F := Ideal))) ⟨m', fun _ => 0, g'⟩ (fun r => ∀ c : Dev Cert.ReferenceAdamUqIdeal.nD,
          r.2.mem ((c.tc : Thread Cert.ReferenceAdamUqIdeal.nD Cert.ReferenceAdamUqIdeal.τ).loc Cert.ReferenceAdamUqIdeal.main_v23) = v0 c
          ∧ r.2.mem ((c.tc : Thread Cert.ReferenceAdamUqIdeal.nD Cert.ReferenceAdamUqIdeal.τ).loc Cert.ReferenceAdamUqIdeal.main_v4) = v1 c
          ∧ r.2.mem ((c.tc : Thread Cert.ReferenceAdamUqIdeal.nD Cert.ReferenceAdamUqIdeal.τ).loc Cert.ReferenceAdamUqIdeal.main_v10) = v2 c
          ∧ r.2.mem ((c.tc : Thread Cert.ReferenceAdamUqIdeal.nD Cert.ReferenceAdamUqIdeal.τ).loc Cert.ReferenceAdamUqIdeal.main_arg0) = m' ((c.tc : Thread Cert.ReferenceAdamUqIdeal.nD Cert.ReferenceAdamUqIdeal.τ).loc Cert.ReferenceAdamUqIdeal.main_arg0)
          ∧ r.2.mem ((c.tc : Thread Cert.ReferenceAdamUqIdeal.nD Cert.ReferenceAdamUqIdeal.τ).loc Cert.ReferenceAdamUqIdeal.main_arg1) = m' ((c.tc : Thread Cert.ReferenceAdamUqIdeal.nD Cert.ReferenceAdamUqIdeal.τ).loc Cert.ReferenceAdamUqIdeal.main_arg1)
          ∧ r.2.mem ((c.tc : Thread Cert.ReferenceAdamUqIdeal.nD Cert.ReferenceAdamUqIdeal.τ).loc Cert.ReferenceAdamUqIdeal.main_arg2) = m' ((c.tc : Thread Cert.ReferenceAdamUqIdeal.nD Cert.ReferenceAdamUqIdeal.τ).loc Cert.ReferenceAdamUqIdeal.main_arg2)
          ∧ r.2.mem ((c.tc : Thread Cert.ReferenceAdamUqIdeal.nD Cert.ReferenceAdamUqIdeal.τ).loc Cert.ReferenceAdamUqIdeal.main_arg3) = m' ((c.tc : Thread Cert.ReferenceAdamUqIdeal.nD Cert.ReferenceAdamUqIdeal.τ).loc Cert.ReferenceAdamUqIdeal.main_arg3))

def preserves_KernelAdamUkv_KernelAdamUkvIdeal : Prop :=
  True

def algebraic_KernelAdamUkvIdeal_ReferenceAdamUkvIdeal [hKernelAdamUkvIdeal : Cert.KernelAdamUkvIdeal.Facts] [hReferenceAdamUkvIdeal : Cert.ReferenceAdamUkvIdeal.Facts] : Prop :=
  ∀ (m : (ℓ : Loc Cert.KernelAdamUkvIdeal.nD Cert.KernelAdamUkvIdeal.τ Cert.KernelAdamUkvIdeal.sig) → Buf (Elt Ideal) ℓ) (g : Dev Cert.KernelAdamUkvIdeal.nD → PrngReg)
    (m' : (ℓ : Loc Cert.ReferenceAdamUkvIdeal.nD Cert.ReferenceAdamUkvIdeal.τ Cert.ReferenceAdamUkvIdeal.sig) → Buf (Elt Ideal) ℓ) (g' : Dev Cert.ReferenceAdamUkvIdeal.nD → PrngReg), Pre_KernelAdamUkvIdeal m →
    (∀ c : Dev Cert.KernelAdamUkvIdeal.nD,
      m' ((c.tc : Thread Cert.ReferenceAdamUkvIdeal.nD Cert.ReferenceAdamUkvIdeal.τ).loc Cert.ReferenceAdamUkvIdeal.main_arg0) = m ((c.tc : Thread Cert.KernelAdamUkvIdeal.nD Cert.KernelAdamUkvIdeal.τ).loc Cert.KernelAdamUkvIdeal.main_arg0)
      ∧ m' ((c.tc : Thread Cert.ReferenceAdamUkvIdeal.nD Cert.ReferenceAdamUkvIdeal.τ).loc Cert.ReferenceAdamUkvIdeal.main_arg1) = m ((c.tc : Thread Cert.KernelAdamUkvIdeal.nD Cert.KernelAdamUkvIdeal.τ).loc Cert.KernelAdamUkvIdeal.main_arg1)
      ∧ m' ((c.tc : Thread Cert.ReferenceAdamUkvIdeal.nD Cert.ReferenceAdamUkvIdeal.τ).loc Cert.ReferenceAdamUkvIdeal.main_arg2) = m ((c.tc : Thread Cert.KernelAdamUkvIdeal.nD Cert.KernelAdamUkvIdeal.τ).loc Cert.KernelAdamUkvIdeal.main_arg2)
      ∧ m' ((c.tc : Thread Cert.ReferenceAdamUkvIdeal.nD Cert.ReferenceAdamUkvIdeal.τ).loc Cert.ReferenceAdamUkvIdeal.main_arg3) = m ((c.tc : Thread Cert.KernelAdamUkvIdeal.nD Cert.KernelAdamUkvIdeal.τ).loc Cert.KernelAdamUkvIdeal.main_arg3)) →
    ∃ (v0 : (c : Dev Cert.KernelAdamUkvIdeal.nD) → Buf (Elt Ideal) ((c.tc : Thread Cert.KernelAdamUkvIdeal.nD Cert.KernelAdamUkvIdeal.τ).loc Cert.KernelAdamUkvIdeal.main_v0_0)) (v1 : (c : Dev Cert.KernelAdamUkvIdeal.nD) → Buf (Elt Ideal) ((c.tc : Thread Cert.KernelAdamUkvIdeal.nD Cert.KernelAdamUkvIdeal.τ).loc Cert.KernelAdamUkvIdeal.main_v0_1)) (v2 : (c : Dev Cert.KernelAdamUkvIdeal.nD) → Buf (Elt Ideal) ((c.tc : Thread Cert.KernelAdamUkvIdeal.nD Cert.KernelAdamUkvIdeal.τ).loc Cert.KernelAdamUkvIdeal.main_v0_2)),
      θ_run (Cert.KernelAdamUkvIdeal.defs (F := Ideal)) (onTc (τ := Cert.KernelAdamUkvIdeal.τ) (Cert.KernelAdamUkvIdeal.main (F := Ideal))) ⟨m, fun _ => 0, g⟩ (fun r => ∀ c : Dev Cert.KernelAdamUkvIdeal.nD,
          r.2.mem ((c.tc : Thread Cert.KernelAdamUkvIdeal.nD Cert.KernelAdamUkvIdeal.τ).loc Cert.KernelAdamUkvIdeal.main_v0_0) = v0 c
          ∧ r.2.mem ((c.tc : Thread Cert.KernelAdamUkvIdeal.nD Cert.KernelAdamUkvIdeal.τ).loc Cert.KernelAdamUkvIdeal.main_v0_1) = v1 c
          ∧ r.2.mem ((c.tc : Thread Cert.KernelAdamUkvIdeal.nD Cert.KernelAdamUkvIdeal.τ).loc Cert.KernelAdamUkvIdeal.main_v0_2) = v2 c
          ∧ r.2.mem ((c.tc : Thread Cert.KernelAdamUkvIdeal.nD Cert.KernelAdamUkvIdeal.τ).loc Cert.KernelAdamUkvIdeal.main_arg0) = m ((c.tc : Thread Cert.KernelAdamUkvIdeal.nD Cert.KernelAdamUkvIdeal.τ).loc Cert.KernelAdamUkvIdeal.main_arg0)
          ∧ r.2.mem ((c.tc : Thread Cert.KernelAdamUkvIdeal.nD Cert.KernelAdamUkvIdeal.τ).loc Cert.KernelAdamUkvIdeal.main_arg1) = m ((c.tc : Thread Cert.KernelAdamUkvIdeal.nD Cert.KernelAdamUkvIdeal.τ).loc Cert.KernelAdamUkvIdeal.main_arg1)
          ∧ r.2.mem ((c.tc : Thread Cert.KernelAdamUkvIdeal.nD Cert.KernelAdamUkvIdeal.τ).loc Cert.KernelAdamUkvIdeal.main_arg2) = m ((c.tc : Thread Cert.KernelAdamUkvIdeal.nD Cert.KernelAdamUkvIdeal.τ).loc Cert.KernelAdamUkvIdeal.main_arg2)
          ∧ r.2.mem ((c.tc : Thread Cert.KernelAdamUkvIdeal.nD Cert.KernelAdamUkvIdeal.τ).loc Cert.KernelAdamUkvIdeal.main_arg3) = m ((c.tc : Thread Cert.KernelAdamUkvIdeal.nD Cert.KernelAdamUkvIdeal.τ).loc Cert.KernelAdamUkvIdeal.main_arg3))
      ∧ θ_run (Cert.ReferenceAdamUkvIdeal.defs (F := Ideal)) (onTc (τ := Cert.ReferenceAdamUkvIdeal.τ) (Cert.ReferenceAdamUkvIdeal.main (F := Ideal))) ⟨m', fun _ => 0, g'⟩ (fun r => ∀ c : Dev Cert.ReferenceAdamUkvIdeal.nD,
          r.2.mem ((c.tc : Thread Cert.ReferenceAdamUkvIdeal.nD Cert.ReferenceAdamUkvIdeal.τ).loc Cert.ReferenceAdamUkvIdeal.main_v23) = v0 c
          ∧ r.2.mem ((c.tc : Thread Cert.ReferenceAdamUkvIdeal.nD Cert.ReferenceAdamUkvIdeal.τ).loc Cert.ReferenceAdamUkvIdeal.main_v4) = v1 c
          ∧ r.2.mem ((c.tc : Thread Cert.ReferenceAdamUkvIdeal.nD Cert.ReferenceAdamUkvIdeal.τ).loc Cert.ReferenceAdamUkvIdeal.main_v10) = v2 c
          ∧ r.2.mem ((c.tc : Thread Cert.ReferenceAdamUkvIdeal.nD Cert.ReferenceAdamUkvIdeal.τ).loc Cert.ReferenceAdamUkvIdeal.main_arg0) = m' ((c.tc : Thread Cert.ReferenceAdamUkvIdeal.nD Cert.ReferenceAdamUkvIdeal.τ).loc Cert.ReferenceAdamUkvIdeal.main_arg0)
          ∧ r.2.mem ((c.tc : Thread Cert.ReferenceAdamUkvIdeal.nD Cert.ReferenceAdamUkvIdeal.τ).loc Cert.ReferenceAdamUkvIdeal.main_arg1) = m' ((c.tc : Thread Cert.ReferenceAdamUkvIdeal.nD Cert.ReferenceAdamUkvIdeal.τ).loc Cert.ReferenceAdamUkvIdeal.main_arg1)
          ∧ r.2.mem ((c.tc : Thread Cert.ReferenceAdamUkvIdeal.nD Cert.ReferenceAdamUkvIdeal.τ).loc Cert.ReferenceAdamUkvIdeal.main_arg2) = m' ((c.tc : Thread Cert.ReferenceAdamUkvIdeal.nD Cert.ReferenceAdamUkvIdeal.τ).loc Cert.ReferenceAdamUkvIdeal.main_arg2)
          ∧ r.2.mem ((c.tc : Thread Cert.ReferenceAdamUkvIdeal.nD Cert.ReferenceAdamUkvIdeal.τ).loc Cert.ReferenceAdamUkvIdeal.main_arg3) = m' ((c.tc : Thread Cert.ReferenceAdamUkvIdeal.nD Cert.ReferenceAdamUkvIdeal.τ).loc Cert.ReferenceAdamUkvIdeal.main_arg3))

def preserves_KernelAdamOut_KernelAdamOutIdeal : Prop :=
  True

def algebraic_KernelAdamOutIdeal_ReferenceAdamOutIdeal [hKernelAdamOutIdeal : Cert.KernelAdamOutIdeal.Facts] [hReferenceAdamOutIdeal : Cert.ReferenceAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_KernelAdamOutIdeal m →
    (∀ c : Dev Cert.KernelAdamOutIdeal.nD,
      m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0)
      ∧ m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1)
      ∧ m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2)
      ∧ m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)) →
    ∃ (v0 : (c : Dev Cert.KernelAdamOutIdeal.nD) → Buf (Elt Ideal) ((c.tc : Thread Cert.KernelAdamOutIdeal.nD Cert.KernelAdamOutIdeal.τ).loc Cert.KernelAdamOutIdeal.main_v0_0)) (v1 : (c : Dev Cert.KernelAdamOutIdeal.nD) → Buf (Elt Ideal) ((c.tc : Thread Cert.KernelAdamOutIdeal.nD Cert.KernelAdamOutIdeal.τ).loc Cert.KernelAdamOutIdeal.main_v0_1)) (v2 : (c : Dev Cert.KernelAdamOutIdeal.nD) → Buf (Elt Ideal) ((c.tc : Thread Cert.KernelAdamOutIdeal.nD Cert.KernelAdamOutIdeal.τ).loc Cert.KernelAdamOutIdeal.main_v0_2)),
      θ_run (Cert.KernelAdamOutIdeal.defs (F := Ideal)) (onTc (τ := Cert.KernelAdamOutIdeal.τ) (Cert.KernelAdamOutIdeal.main (F := Ideal))) ⟨m, fun _ => 0, g⟩ (fun r => ∀ c : Dev Cert.KernelAdamOutIdeal.nD,
          r.2.mem ((c.tc : Thread Cert.KernelAdamOutIdeal.nD Cert.KernelAdamOutIdeal.τ).loc Cert.KernelAdamOutIdeal.main_v0_0) = v0 c
          ∧ r.2.mem ((c.tc : Thread Cert.KernelAdamOutIdeal.nD Cert.KernelAdamOutIdeal.τ).loc Cert.KernelAdamOutIdeal.main_v0_1) = v1 c
          ∧ r.2.mem ((c.tc : Thread Cert.KernelAdamOutIdeal.nD Cert.KernelAdamOutIdeal.τ).loc Cert.KernelAdamOutIdeal.main_v0_2) = v2 c
          ∧ r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
          ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
          ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
          ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_v23) = v0 c
          ∧ r.2.mem ((c.tc : Thread Cert.ReferenceAdamOutIdeal.nD Cert.ReferenceAdamOutIdeal.τ).loc Cert.ReferenceAdamOutIdeal.main_v4) = v1 c
          ∧ r.2.mem ((c.tc : Thread Cert.ReferenceAdamOutIdeal.nD Cert.ReferenceAdamOutIdeal.τ).loc Cert.ReferenceAdamOutIdeal.main_v10) = v2 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3))

def preserves_KernelAdamFfnIn_KernelAdamFfnInIdeal : Prop :=
  True

def algebraic_KernelAdamFfnInIdeal_ReferenceAdamFfnInIdeal [hKernelAdamFfnInIdeal : Cert.KernelAdamFfnInIdeal.Facts] [hReferenceAdamFfnInIdeal : Cert.ReferenceAdamFfnInIdeal.Facts] : Prop :=
  ∀ (m : (ℓ : Loc Cert.KernelAdamFfnInIdeal.nD Cert.KernelAdamFfnInIdeal.τ Cert.KernelAdamFfnInIdeal.sig) → Buf (Elt Ideal) ℓ) (g : Dev Cert.KernelAdamFfnInIdeal.nD → PrngReg)
    (m' : (ℓ : Loc Cert.ReferenceAdamFfnInIdeal.nD Cert.ReferenceAdamFfnInIdeal.τ Cert.ReferenceAdamFfnInIdeal.sig) → Buf (Elt Ideal) ℓ) (g' : Dev Cert.ReferenceAdamFfnInIdeal.nD → PrngReg), Pre_KernelAdamFfnInIdeal m →
    (∀ c : Dev Cert.KernelAdamFfnInIdeal.nD,
      m' ((c.tc : Thread Cert.ReferenceAdamFfnInIdeal.nD Cert.ReferenceAdamFfnInIdeal.τ).loc Cert.ReferenceAdamFfnInIdeal.main_arg0) = m ((c.tc : Thread Cert.KernelAdamFfnInIdeal.nD Cert.KernelAdamFfnInIdeal.τ).loc Cert.KernelAdamFfnInIdeal.main_arg0)
      ∧ m' ((c.tc : Thread Cert.ReferenceAdamFfnInIdeal.nD Cert.ReferenceAdamFfnInIdeal.τ).loc Cert.ReferenceAdamFfnInIdeal.main_arg1) = m ((c.tc : Thread Cert.KernelAdamFfnInIdeal.nD Cert.KernelAdamFfnInIdeal.τ).loc Cert.KernelAdamFfnInIdeal.main_arg1)
      ∧ m' ((c.tc : Thread Cert.ReferenceAdamFfnInIdeal.nD Cert.ReferenceAdamFfnInIdeal.τ).loc Cert.ReferenceAdamFfnInIdeal.main_arg2) = m ((c.tc : Thread Cert.KernelAdamFfnInIdeal.nD Cert.KernelAdamFfnInIdeal.τ).loc Cert.KernelAdamFfnInIdeal.main_arg2)
      ∧ m' ((c.tc : Thread Cert.ReferenceAdamFfnInIdeal.nD Cert.ReferenceAdamFfnInIdeal.τ).loc Cert.ReferenceAdamFfnInIdeal.main_arg3) = m ((c.tc : Thread Cert.KernelAdamFfnInIdeal.nD Cert.KernelAdamFfnInIdeal.τ).loc Cert.KernelAdamFfnInIdeal.main_arg3)) →
    ∃ (v0 : (c : Dev Cert.KernelAdamFfnInIdeal.nD) → Buf (Elt Ideal) ((c.tc : Thread Cert.KernelAdamFfnInIdeal.nD Cert.KernelAdamFfnInIdeal.τ).loc Cert.KernelAdamFfnInIdeal.main_v0_0)) (v1 : (c : Dev Cert.KernelAdamFfnInIdeal.nD) → Buf (Elt Ideal) ((c.tc : Thread Cert.KernelAdamFfnInIdeal.nD Cert.KernelAdamFfnInIdeal.τ).loc Cert.KernelAdamFfnInIdeal.main_v0_1)) (v2 : (c : Dev Cert.KernelAdamFfnInIdeal.nD) → Buf (Elt Ideal) ((c.tc : Thread Cert.KernelAdamFfnInIdeal.nD Cert.KernelAdamFfnInIdeal.τ).loc Cert.KernelAdamFfnInIdeal.main_v0_2)),
      θ_run (Cert.KernelAdamFfnInIdeal.defs (F := Ideal)) (onTc (τ := Cert.KernelAdamFfnInIdeal.τ) (Cert.KernelAdamFfnInIdeal.main (F := Ideal))) ⟨m, fun _ => 0, g⟩ (fun r => ∀ c : Dev Cert.KernelAdamFfnInIdeal.nD,
          r.2.mem ((c.tc : Thread Cert.KernelAdamFfnInIdeal.nD Cert.KernelAdamFfnInIdeal.τ).loc Cert.KernelAdamFfnInIdeal.main_v0_0) = v0 c
          ∧ r.2.mem ((c.tc : Thread Cert.KernelAdamFfnInIdeal.nD Cert.KernelAdamFfnInIdeal.τ).loc Cert.KernelAdamFfnInIdeal.main_v0_1) = v1 c
          ∧ r.2.mem ((c.tc : Thread Cert.KernelAdamFfnInIdeal.nD Cert.KernelAdamFfnInIdeal.τ).loc Cert.KernelAdamFfnInIdeal.main_v0_2) = v2 c
          ∧ r.2.mem ((c.tc : Thread Cert.KernelAdamFfnInIdeal.nD Cert.KernelAdamFfnInIdeal.τ).loc Cert.KernelAdamFfnInIdeal.main_arg0) = m ((c.tc : Thread Cert.KernelAdamFfnInIdeal.nD Cert.KernelAdamFfnInIdeal.τ).loc Cert.KernelAdamFfnInIdeal.main_arg0)
          ∧ r.2.mem ((c.tc : Thread Cert.KernelAdamFfnInIdeal.nD Cert.KernelAdamFfnInIdeal.τ).loc Cert.KernelAdamFfnInIdeal.main_arg1) = m ((c.tc : Thread Cert.KernelAdamFfnInIdeal.nD Cert.KernelAdamFfnInIdeal.τ).loc Cert.KernelAdamFfnInIdeal.main_arg1)
          ∧ r.2.mem ((c.tc : Thread Cert.KernelAdamFfnInIdeal.nD Cert.KernelAdamFfnInIdeal.τ).loc Cert.KernelAdamFfnInIdeal.main_arg2) = m ((c.tc : Thread Cert.KernelAdamFfnInIdeal.nD Cert.KernelAdamFfnInIdeal.τ).loc Cert.KernelAdamFfnInIdeal.main_arg2)
          ∧ r.2.mem ((c.tc : Thread Cert.KernelAdamFfnInIdeal.nD Cert.KernelAdamFfnInIdeal.τ).loc Cert.KernelAdamFfnInIdeal.main_arg3) = m ((c.tc : Thread Cert.KernelAdamFfnInIdeal.nD Cert.KernelAdamFfnInIdeal.τ).loc Cert.KernelAdamFfnInIdeal.main_arg3))
      ∧ θ_run (Cert.ReferenceAdamFfnInIdeal.defs (F := Ideal)) (onTc (τ := Cert.ReferenceAdamFfnInIdeal.τ) (Cert.ReferenceAdamFfnInIdeal.main (F := Ideal))) ⟨m', fun _ => 0, g'⟩ (fun r => ∀ c : Dev Cert.ReferenceAdamFfnInIdeal.nD,
          r.2.mem ((c.tc : Thread Cert.ReferenceAdamFfnInIdeal.nD Cert.ReferenceAdamFfnInIdeal.τ).loc Cert.ReferenceAdamFfnInIdeal.main_v23) = v0 c
          ∧ r.2.mem ((c.tc : Thread Cert.ReferenceAdamFfnInIdeal.nD Cert.ReferenceAdamFfnInIdeal.τ).loc Cert.ReferenceAdamFfnInIdeal.main_v4) = v1 c
          ∧ r.2.mem ((c.tc : Thread Cert.ReferenceAdamFfnInIdeal.nD Cert.ReferenceAdamFfnInIdeal.τ).loc Cert.ReferenceAdamFfnInIdeal.main_v10) = v2 c
          ∧ r.2.mem ((c.tc : Thread Cert.ReferenceAdamFfnInIdeal.nD Cert.ReferenceAdamFfnInIdeal.τ).loc Cert.ReferenceAdamFfnInIdeal.main_arg0) = m' ((c.tc : Thread Cert.ReferenceAdamFfnInIdeal.nD Cert.ReferenceAdamFfnInIdeal.τ).loc Cert.ReferenceAdamFfnInIdeal.main_arg0)
          ∧ r.2.mem ((c.tc : Thread Cert.ReferenceAdamFfnInIdeal.nD Cert.ReferenceAdamFfnInIdeal.τ).loc Cert.ReferenceAdamFfnInIdeal.main_arg1) = m' ((c.tc : Thread Cert.ReferenceAdamFfnInIdeal.nD Cert.ReferenceAdamFfnInIdeal.τ).loc Cert.ReferenceAdamFfnInIdeal.main_arg1)
          ∧ r.2.mem ((c.tc : Thread Cert.ReferenceAdamFfnInIdeal.nD Cert.ReferenceAdamFfnInIdeal.τ).loc Cert.ReferenceAdamFfnInIdeal.main_arg2) = m' ((c.tc : Thread Cert.ReferenceAdamFfnInIdeal.nD Cert.ReferenceAdamFfnInIdeal.τ).loc Cert.ReferenceAdamFfnInIdeal.main_arg2)
          ∧ r.2.mem ((c.tc : Thread Cert.ReferenceAdamFfnInIdeal.nD Cert.ReferenceAdamFfnInIdeal.τ).loc Cert.ReferenceAdamFfnInIdeal.main_arg3) = m' ((c.tc : Thread Cert.ReferenceAdamFfnInIdeal.nD Cert.ReferenceAdamFfnInIdeal.τ).loc Cert.ReferenceAdamFfnInIdeal.main_arg3))

def preserves_KernelAdamFfnOut_KernelAdamFfnOutIdeal : Prop :=
  True

def algebraic_KernelAdamFfnOutIdeal_ReferenceAdamFfnOutIdeal [hKernelAdamFfnOutIdeal : Cert.KernelAdamFfnOutIdeal.Facts] [hReferenceAdamFfnOutIdeal : Cert.ReferenceAdamFfnOutIdeal.Facts] : Prop :=
  ∀ (m : (ℓ : Loc Cert.KernelAdamFfnOutIdeal.nD Cert.KernelAdamFfnOutIdeal.τ Cert.KernelAdamFfnOutIdeal.sig) → Buf (Elt Ideal) ℓ) (g : Dev Cert.KernelAdamFfnOutIdeal.nD → PrngReg)
    (m' : (ℓ : Loc Cert.ReferenceAdamFfnOutIdeal.nD Cert.ReferenceAdamFfnOutIdeal.τ Cert.ReferenceAdamFfnOutIdeal.sig) → Buf (Elt Ideal) ℓ) (g' : Dev Cert.ReferenceAdamFfnOutIdeal.nD → PrngReg), Pre_KernelAdamFfnOutIdeal m →
    (∀ c : Dev Cert.KernelAdamFfnOutIdeal.nD,
      m' ((c.tc : Thread Cert.ReferenceAdamFfnOutIdeal.nD Cert.ReferenceAdamFfnOutIdeal.τ).loc Cert.ReferenceAdamFfnOutIdeal.main_arg0) = m ((c.tc : Thread Cert.KernelAdamFfnOutIdeal.nD Cert.KernelAdamFfnOutIdeal.τ).loc Cert.KernelAdamFfnOutIdeal.main_arg0)
      ∧ m' ((c.tc : Thread Cert.ReferenceAdamFfnOutIdeal.nD Cert.ReferenceAdamFfnOutIdeal.τ).loc Cert.ReferenceAdamFfnOutIdeal.main_arg1) = m ((c.tc : Thread Cert.KernelAdamFfnOutIdeal.nD Cert.KernelAdamFfnOutIdeal.τ).loc Cert.KernelAdamFfnOutIdeal.main_arg1)
      ∧ m' ((c.tc : Thread Cert.ReferenceAdamFfnOutIdeal.nD Cert.ReferenceAdamFfnOutIdeal.τ).loc Cert.ReferenceAdamFfnOutIdeal.main_arg2) = m ((c.tc : Thread Cert.KernelAdamFfnOutIdeal.nD Cert.KernelAdamFfnOutIdeal.τ).loc Cert.KernelAdamFfnOutIdeal.main_arg2)
      ∧ m' ((c.tc : Thread Cert.ReferenceAdamFfnOutIdeal.nD Cert.ReferenceAdamFfnOutIdeal.τ).loc Cert.ReferenceAdamFfnOutIdeal.main_arg3) = m ((c.tc : Thread Cert.KernelAdamFfnOutIdeal.nD Cert.KernelAdamFfnOutIdeal.τ).loc Cert.KernelAdamFfnOutIdeal.main_arg3)) →
    ∃ (v0 : (c : Dev Cert.KernelAdamFfnOutIdeal.nD) → Buf (Elt Ideal) ((c.tc : Thread Cert.KernelAdamFfnOutIdeal.nD Cert.KernelAdamFfnOutIdeal.τ).loc Cert.KernelAdamFfnOutIdeal.main_v0_0)) (v1 : (c : Dev Cert.KernelAdamFfnOutIdeal.nD) → Buf (Elt Ideal) ((c.tc : Thread Cert.KernelAdamFfnOutIdeal.nD Cert.KernelAdamFfnOutIdeal.τ).loc Cert.KernelAdamFfnOutIdeal.main_v0_1)) (v2 : (c : Dev Cert.KernelAdamFfnOutIdeal.nD) → Buf (Elt Ideal) ((c.tc : Thread Cert.KernelAdamFfnOutIdeal.nD Cert.KernelAdamFfnOutIdeal.τ).loc Cert.KernelAdamFfnOutIdeal.main_v0_2)),
      θ_run (Cert.KernelAdamFfnOutIdeal.defs (F := Ideal)) (onTc (τ := Cert.KernelAdamFfnOutIdeal.τ) (Cert.KernelAdamFfnOutIdeal.main (F := Ideal))) ⟨m, fun _ => 0, g⟩ (fun r => ∀ c : Dev Cert.KernelAdamFfnOutIdeal.nD,
          r.2.mem ((c.tc : Thread Cert.KernelAdamFfnOutIdeal.nD Cert.KernelAdamFfnOutIdeal.τ).loc Cert.KernelAdamFfnOutIdeal.main_v0_0) = v0 c
          ∧ r.2.mem ((c.tc : Thread Cert.KernelAdamFfnOutIdeal.nD Cert.KernelAdamFfnOutIdeal.τ).loc Cert.KernelAdamFfnOutIdeal.main_v0_1) = v1 c
          ∧ r.2.mem ((c.tc : Thread Cert.KernelAdamFfnOutIdeal.nD Cert.KernelAdamFfnOutIdeal.τ).loc Cert.KernelAdamFfnOutIdeal.main_v0_2) = v2 c
          ∧ r.2.mem ((c.tc : Thread Cert.KernelAdamFfnOutIdeal.nD Cert.KernelAdamFfnOutIdeal.τ).loc Cert.KernelAdamFfnOutIdeal.main_arg0) = m ((c.tc : Thread Cert.KernelAdamFfnOutIdeal.nD Cert.KernelAdamFfnOutIdeal.τ).loc Cert.KernelAdamFfnOutIdeal.main_arg0)
          ∧ r.2.mem ((c.tc : Thread Cert.KernelAdamFfnOutIdeal.nD Cert.KernelAdamFfnOutIdeal.τ).loc Cert.KernelAdamFfnOutIdeal.main_arg1) = m ((c.tc : Thread Cert.KernelAdamFfnOutIdeal.nD Cert.KernelAdamFfnOutIdeal.τ).loc Cert.KernelAdamFfnOutIdeal.main_arg1)
          ∧ r.2.mem ((c.tc : Thread Cert.KernelAdamFfnOutIdeal.nD Cert.KernelAdamFfnOutIdeal.τ).loc Cert.KernelAdamFfnOutIdeal.main_arg2) = m ((c.tc : Thread Cert.KernelAdamFfnOutIdeal.nD Cert.KernelAdamFfnOutIdeal.τ).loc Cert.KernelAdamFfnOutIdeal.main_arg2)
          ∧ r.2.mem ((c.tc : Thread Cert.KernelAdamFfnOutIdeal.nD Cert.KernelAdamFfnOutIdeal.τ).loc Cert.KernelAdamFfnOutIdeal.main_arg3) = m ((c.tc : Thread Cert.KernelAdamFfnOutIdeal.nD Cert.KernelAdamFfnOutIdeal.τ).loc Cert.KernelAdamFfnOutIdeal.main_arg3))
      ∧ θ_run (Cert.ReferenceAdamFfnOutIdeal.defs (F := Ideal)) (onTc (τ := Cert.ReferenceAdamFfnOutIdeal.τ) (Cert.ReferenceAdamFfnOutIdeal.main (F := Ideal))) ⟨m', fun _ => 0, g'⟩ (fun r => ∀ c : Dev Cert.ReferenceAdamFfnOutIdeal.nD,
          r.2.mem ((c.tc : Thread Cert.ReferenceAdamFfnOutIdeal.nD Cert.ReferenceAdamFfnOutIdeal.τ).loc Cert.ReferenceAdamFfnOutIdeal.main_v23) = v0 c
          ∧ r.2.mem ((c.tc : Thread Cert.ReferenceAdamFfnOutIdeal.nD Cert.ReferenceAdamFfnOutIdeal.τ).loc Cert.ReferenceAdamFfnOutIdeal.main_v4) = v1 c
          ∧ r.2.mem ((c.tc : Thread Cert.ReferenceAdamFfnOutIdeal.nD Cert.ReferenceAdamFfnOutIdeal.τ).loc Cert.ReferenceAdamFfnOutIdeal.main_v10) = v2 c
          ∧ r.2.mem ((c.tc : Thread Cert.ReferenceAdamFfnOutIdeal.nD Cert.ReferenceAdamFfnOutIdeal.τ).loc Cert.ReferenceAdamFfnOutIdeal.main_arg0) = m' ((c.tc : Thread Cert.ReferenceAdamFfnOutIdeal.nD Cert.ReferenceAdamFfnOutIdeal.τ).loc Cert.ReferenceAdamFfnOutIdeal.main_arg0)
          ∧ r.2.mem ((c.tc : Thread Cert.ReferenceAdamFfnOutIdeal.nD Cert.ReferenceAdamFfnOutIdeal.τ).loc Cert.ReferenceAdamFfnOutIdeal.main_arg1) = m' ((c.tc : Thread Cert.ReferenceAdamFfnOutIdeal.nD Cert.ReferenceAdamFfnOutIdeal.τ).loc Cert.ReferenceAdamFfnOutIdeal.main_arg1)
          ∧ r.2.mem ((c.tc : Thread Cert.ReferenceAdamFfnOutIdeal.nD Cert.ReferenceAdamFfnOutIdeal.τ).loc Cert.ReferenceAdamFfnOutIdeal.main_arg2) = m' ((c.tc : Thread Cert.ReferenceAdamFfnOutIdeal.nD Cert.ReferenceAdamFfnOutIdeal.τ).loc Cert.ReferenceAdamFfnOutIdeal.main_arg2)
          ∧ r.2.mem ((c.tc : Thread Cert.ReferenceAdamFfnOutIdeal.nD Cert.ReferenceAdamFfnOutIdeal.τ).loc Cert.ReferenceAdamFfnOutIdeal.main_arg3) = m' ((c.tc : Thread Cert.ReferenceAdamFfnOutIdeal.nD Cert.ReferenceAdamFfnOutIdeal.τ).loc Cert.ReferenceAdamFfnOutIdeal.main_arg3))

def preserves_KernelAdamSmall_KernelAdamSmallIdeal : Prop :=
  True

def algebraic_KernelAdamSmallIdeal_ReferenceAdamSmallIdeal [hKernelAdamSmallIdeal : Cert.KernelAdamSmallIdeal.Facts] [hReferenceAdamSmallIdeal : Cert.ReferenceAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg)
    (m' : (ℓ : Loc Cert.ReferenceAdamSmallIdeal.nD Cert.ReferenceAdamSmallIdeal.τ Cert.ReferenceAdamSmallIdeal.sig) → Buf (Elt Ideal) ℓ) (g' : Dev Cert.ReferenceAdamSmallIdeal.nD → PrngReg), Pre_KernelAdamSmallIdeal m →
    (∀ c : Dev Cert.KernelAdamSmallIdeal.nD,
      m' ((c.tc : Thread Cert.ReferenceAdamSmallIdeal.nD Cert.ReferenceAdamSmallIdeal.τ).loc Cert.ReferenceAdamSmallIdeal.main_arg0) = m ((c.tc : Thread Cert.KernelAdamSmallIdeal.nD Cert.KernelAdamSmallIdeal.τ).loc Cert.KernelAdamSmallIdeal.main_arg0)
      ∧ m' ((c.tc : Thread Cert.ReferenceAdamSmallIdeal.nD Cert.ReferenceAdamSmallIdeal.τ).loc Cert.ReferenceAdamSmallIdeal.main_arg1) = m ((c.tc : Thread Cert.KernelAdamSmallIdeal.nD Cert.KernelAdamSmallIdeal.τ).loc Cert.KernelAdamSmallIdeal.main_arg1)
      ∧ m' ((c.tc : Thread Cert.ReferenceAdamSmallIdeal.nD Cert.ReferenceAdamSmallIdeal.τ).loc Cert.ReferenceAdamSmallIdeal.main_arg2) = m ((c.tc : Thread Cert.KernelAdamSmallIdeal.nD Cert.KernelAdamSmallIdeal.τ).loc Cert.KernelAdamSmallIdeal.main_arg2)
      ∧ m' ((c.tc : Thread Cert.ReferenceAdamSmallIdeal.nD Cert.ReferenceAdamSmallIdeal.τ).loc Cert.ReferenceAdamSmallIdeal.main_arg3) = m ((c.tc : Thread Cert.KernelAdamSmallIdeal.nD Cert.KernelAdamSmallIdeal.τ).loc Cert.KernelAdamSmallIdeal.main_arg3)) →
    ∃ (v0 : (c : Dev Cert.KernelAdamSmallIdeal.nD) → Buf (Elt Ideal) ((c.tc : Thread Cert.KernelAdamSmallIdeal.nD Cert.KernelAdamSmallIdeal.τ).loc Cert.KernelAdamSmallIdeal.main_v0_0)) (v1 : (c : Dev Cert.KernelAdamSmallIdeal.nD) → Buf (Elt Ideal) ((c.tc : Thread Cert.KernelAdamSmallIdeal.nD Cert.KernelAdamSmallIdeal.τ).loc Cert.KernelAdamSmallIdeal.main_v0_1)) (v2 : (c : Dev Cert.KernelAdamSmallIdeal.nD) → Buf (Elt Ideal) ((c.tc : Thread Cert.KernelAdamSmallIdeal.nD Cert.KernelAdamSmallIdeal.τ).loc Cert.KernelAdamSmallIdeal.main_v0_2)),
      θ_run (Cert.KernelAdamSmallIdeal.defs (F := Ideal)) (onTc (τ := Cert.KernelAdamSmallIdeal.τ) (Cert.KernelAdamSmallIdeal.main (F := Ideal))) ⟨m, fun _ => 0, g⟩ (fun r => ∀ c : Dev Cert.KernelAdamSmallIdeal.nD,
          r.2.mem ((c.tc : Thread Cert.KernelAdamSmallIdeal.nD Cert.KernelAdamSmallIdeal.τ).loc Cert.KernelAdamSmallIdeal.main_v0_0) = v0 c
          ∧ r.2.mem ((c.tc : Thread Cert.KernelAdamSmallIdeal.nD Cert.KernelAdamSmallIdeal.τ).loc Cert.KernelAdamSmallIdeal.main_v0_1) = v1 c
          ∧ r.2.mem ((c.tc : Thread Cert.KernelAdamSmallIdeal.nD Cert.KernelAdamSmallIdeal.τ).loc Cert.KernelAdamSmallIdeal.main_v0_2) = v2 c
          ∧ r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
          ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
          ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
          ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ θ_run (Cert.ReferenceAdamSmallIdeal.defs (F := Ideal)) (onTc (τ := Cert.ReferenceAdamSmallIdeal.τ) (Cert.ReferenceAdamSmallIdeal.main (F := Ideal))) ⟨m', fun _ => 0, g'⟩ (fun r => ∀ c : Dev Cert.ReferenceAdamSmallIdeal.nD,
          r.2.mem ((c.tc : Thread Cert.ReferenceAdamSmallIdeal.nD Cert.ReferenceAdamSmallIdeal.τ).loc Cert.ReferenceAdamSmallIdeal.main_v23) = v0 c
          ∧ r.2.mem ((c.tc : Thread Cert.ReferenceAdamSmallIdeal.nD Cert.ReferenceAdamSmallIdeal.τ).loc Cert.ReferenceAdamSmallIdeal.main_v4) = v1 c
          ∧ r.2.mem ((c.tc : Thread Cert.ReferenceAdamSmallIdeal.nD Cert.ReferenceAdamSmallIdeal.τ).loc Cert.ReferenceAdamSmallIdeal.main_v10) = v2 c
          ∧ r.2.mem ((c.tc : Thread Cert.ReferenceAdamSmallIdeal.nD Cert.ReferenceAdamSmallIdeal.τ).loc Cert.ReferenceAdamSmallIdeal.main_arg0) = m' ((c.tc : Thread Cert.ReferenceAdamSmallIdeal.nD Cert.ReferenceAdamSmallIdeal.τ).loc Cert.ReferenceAdamSmallIdeal.main_arg0)
          ∧ r.2.mem ((c.tc : Thread Cert.ReferenceAdamSmallIdeal.nD Cert.ReferenceAdamSmallIdeal.τ).loc Cert.ReferenceAdamSmallIdeal.main_arg1) = m' ((c.tc : Thread Cert.ReferenceAdamSmallIdeal.nD Cert.ReferenceAdamSmallIdeal.τ).loc Cert.ReferenceAdamSmallIdeal.main_arg1)
          ∧ r.2.mem ((c.tc : Thread Cert.ReferenceAdamSmallIdeal.nD Cert.ReferenceAdamSmallIdeal.τ).loc Cert.ReferenceAdamSmallIdeal.main_arg2) = m' ((c.tc : Thread Cert.ReferenceAdamSmallIdeal.nD Cert.ReferenceAdamSmallIdeal.τ).loc Cert.ReferenceAdamSmallIdeal.main_arg2)
          ∧ r.2.mem ((c.tc : Thread Cert.ReferenceAdamSmallIdeal.nD Cert.ReferenceAdamSmallIdeal.τ).loc Cert.ReferenceAdamSmallIdeal.main_arg3) = m' ((c.tc : Thread Cert.ReferenceAdamSmallIdeal.nD Cert.ReferenceAdamSmallIdeal.τ).loc Cert.ReferenceAdamSmallIdeal.main_arg3))

def preserves_KernelSsdOutF_KernelSsdOutFIdeal : Prop :=
  True

def algebraic_KernelSsdOutFIdeal_ReferenceSsdOutFIdeal [hKernelSsdOutFIdeal : Cert.KernelSsdOutFIdeal.Facts] [hReferenceSsdOutFIdeal : Cert.ReferenceSsdOutFIdeal.Facts] : Prop :=
  ∀ (m : (ℓ : Loc Cert.KernelSsdOutFIdeal.nD Cert.KernelSsdOutFIdeal.τ Cert.KernelSsdOutFIdeal.sig) → Buf (Elt Ideal) ℓ) (g : Dev Cert.KernelSsdOutFIdeal.nD → PrngReg)
    (m' : (ℓ : Loc Cert.ReferenceSsdOutFIdeal.nD Cert.ReferenceSsdOutFIdeal.τ Cert.ReferenceSsdOutFIdeal.sig) → Buf (Elt Ideal) ℓ) (g' : Dev Cert.ReferenceSsdOutFIdeal.nD → PrngReg), Pre_KernelSsdOutFIdeal m →
    (∀ c : Dev Cert.KernelSsdOutFIdeal.nD,
      m' ((c.tc : Thread Cert.ReferenceSsdOutFIdeal.nD Cert.ReferenceSsdOutFIdeal.τ).loc Cert.ReferenceSsdOutFIdeal.main_arg0) = m ((c.tc : Thread Cert.KernelSsdOutFIdeal.nD Cert.KernelSsdOutFIdeal.τ).loc Cert.KernelSsdOutFIdeal.main_arg0)
      ∧ m' ((c.tc : Thread Cert.ReferenceSsdOutFIdeal.nD Cert.ReferenceSsdOutFIdeal.τ).loc Cert.ReferenceSsdOutFIdeal.main_arg1) = m ((c.tc : Thread Cert.KernelSsdOutFIdeal.nD Cert.KernelSsdOutFIdeal.τ).loc Cert.KernelSsdOutFIdeal.main_arg1)
      ∧ m' ((c.tc : Thread Cert.ReferenceSsdOutFIdeal.nD Cert.ReferenceSsdOutFIdeal.τ).loc Cert.ReferenceSsdOutFIdeal.main_arg2) = m ((c.tc : Thread Cert.KernelSsdOutFIdeal.nD Cert.KernelSsdOutFIdeal.τ).loc Cert.KernelSsdOutFIdeal.main_arg2)
      ∧ m' ((c.tc : Thread Cert.ReferenceSsdOutFIdeal.nD Cert.ReferenceSsdOutFIdeal.τ).loc Cert.ReferenceSsdOutFIdeal.main_arg3) = m ((c.tc : Thread Cert.KernelSsdOutFIdeal.nD Cert.KernelSsdOutFIdeal.τ).loc Cert.KernelSsdOutFIdeal.main_arg3)
      ∧ m' ((c.tc : Thread Cert.ReferenceSsdOutFIdeal.nD Cert.ReferenceSsdOutFIdeal.τ).loc Cert.ReferenceSsdOutFIdeal.main_arg4) = m ((c.tc : Thread Cert.KernelSsdOutFIdeal.nD Cert.KernelSsdOutFIdeal.τ).loc Cert.KernelSsdOutFIdeal.main_arg4)
      ∧ m' ((c.tc : Thread Cert.ReferenceSsdOutFIdeal.nD Cert.ReferenceSsdOutFIdeal.τ).loc Cert.ReferenceSsdOutFIdeal.main_arg5) = m ((c.tc : Thread Cert.KernelSsdOutFIdeal.nD Cert.KernelSsdOutFIdeal.τ).loc Cert.KernelSsdOutFIdeal.main_arg5)) →
    ∃ (v0 : (c : Dev Cert.KernelSsdOutFIdeal.nD) → Buf (Elt Ideal) ((c.tc : Thread Cert.KernelSsdOutFIdeal.nD Cert.KernelSsdOutFIdeal.τ).loc Cert.KernelSsdOutFIdeal.main_v0)),
      θ_run (Cert.KernelSsdOutFIdeal.defs (F := Ideal)) (onTc (τ := Cert.KernelSsdOutFIdeal.τ) (Cert.KernelSsdOutFIdeal.main (F := Ideal))) ⟨m, fun _ => 0, g⟩ (fun r => ∀ c : Dev Cert.KernelSsdOutFIdeal.nD,
          r.2.mem ((c.tc : Thread Cert.KernelSsdOutFIdeal.nD Cert.KernelSsdOutFIdeal.τ).loc Cert.KernelSsdOutFIdeal.main_v0) = v0 c
          ∧ r.2.mem ((c.tc : Thread Cert.KernelSsdOutFIdeal.nD Cert.KernelSsdOutFIdeal.τ).loc Cert.KernelSsdOutFIdeal.main_arg0) = m ((c.tc : Thread Cert.KernelSsdOutFIdeal.nD Cert.KernelSsdOutFIdeal.τ).loc Cert.KernelSsdOutFIdeal.main_arg0)
          ∧ r.2.mem ((c.tc : Thread Cert.KernelSsdOutFIdeal.nD Cert.KernelSsdOutFIdeal.τ).loc Cert.KernelSsdOutFIdeal.main_arg1) = m ((c.tc : Thread Cert.KernelSsdOutFIdeal.nD Cert.KernelSsdOutFIdeal.τ).loc Cert.KernelSsdOutFIdeal.main_arg1)
          ∧ r.2.mem ((c.tc : Thread Cert.KernelSsdOutFIdeal.nD Cert.KernelSsdOutFIdeal.τ).loc Cert.KernelSsdOutFIdeal.main_arg2) = m ((c.tc : Thread Cert.KernelSsdOutFIdeal.nD Cert.KernelSsdOutFIdeal.τ).loc Cert.KernelSsdOutFIdeal.main_arg2)
          ∧ r.2.mem ((c.tc : Thread Cert.KernelSsdOutFIdeal.nD Cert.KernelSsdOutFIdeal.τ).loc Cert.KernelSsdOutFIdeal.main_arg3) = m ((c.tc : Thread Cert.KernelSsdOutFIdeal.nD Cert.KernelSsdOutFIdeal.τ).loc Cert.KernelSsdOutFIdeal.main_arg3)
          ∧ r.2.mem ((c.tc : Thread Cert.KernelSsdOutFIdeal.nD Cert.KernelSsdOutFIdeal.τ).loc Cert.KernelSsdOutFIdeal.main_arg4) = m ((c.tc : Thread Cert.KernelSsdOutFIdeal.nD Cert.KernelSsdOutFIdeal.τ).loc Cert.KernelSsdOutFIdeal.main_arg4)
          ∧ r.2.mem ((c.tc : Thread Cert.KernelSsdOutFIdeal.nD Cert.KernelSsdOutFIdeal.τ).loc Cert.KernelSsdOutFIdeal.main_arg5) = m ((c.tc : Thread Cert.KernelSsdOutFIdeal.nD Cert.KernelSsdOutFIdeal.τ).loc Cert.KernelSsdOutFIdeal.main_arg5))
      ∧ θ_run (Cert.ReferenceSsdOutFIdeal.defs (F := Ideal)) (onTc (τ := Cert.ReferenceSsdOutFIdeal.τ) (Cert.ReferenceSsdOutFIdeal.main (F := Ideal))) ⟨m', fun _ => 0, g'⟩ (fun r => ∀ c : Dev Cert.ReferenceSsdOutFIdeal.nD,
          r.2.mem ((c.tc : Thread Cert.ReferenceSsdOutFIdeal.nD Cert.ReferenceSsdOutFIdeal.τ).loc Cert.ReferenceSsdOutFIdeal.main_v20) = v0 c
          ∧ r.2.mem ((c.tc : Thread Cert.ReferenceSsdOutFIdeal.nD Cert.ReferenceSsdOutFIdeal.τ).loc Cert.ReferenceSsdOutFIdeal.main_arg0) = m' ((c.tc : Thread Cert.ReferenceSsdOutFIdeal.nD Cert.ReferenceSsdOutFIdeal.τ).loc Cert.ReferenceSsdOutFIdeal.main_arg0)
          ∧ r.2.mem ((c.tc : Thread Cert.ReferenceSsdOutFIdeal.nD Cert.ReferenceSsdOutFIdeal.τ).loc Cert.ReferenceSsdOutFIdeal.main_arg1) = m' ((c.tc : Thread Cert.ReferenceSsdOutFIdeal.nD Cert.ReferenceSsdOutFIdeal.τ).loc Cert.ReferenceSsdOutFIdeal.main_arg1)
          ∧ r.2.mem ((c.tc : Thread Cert.ReferenceSsdOutFIdeal.nD Cert.ReferenceSsdOutFIdeal.τ).loc Cert.ReferenceSsdOutFIdeal.main_arg2) = m' ((c.tc : Thread Cert.ReferenceSsdOutFIdeal.nD Cert.ReferenceSsdOutFIdeal.τ).loc Cert.ReferenceSsdOutFIdeal.main_arg2)
          ∧ r.2.mem ((c.tc : Thread Cert.ReferenceSsdOutFIdeal.nD Cert.ReferenceSsdOutFIdeal.τ).loc Cert.ReferenceSsdOutFIdeal.main_arg3) = m' ((c.tc : Thread Cert.ReferenceSsdOutFIdeal.nD Cert.ReferenceSsdOutFIdeal.τ).loc Cert.ReferenceSsdOutFIdeal.main_arg3)
          ∧ r.2.mem ((c.tc : Thread Cert.ReferenceSsdOutFIdeal.nD Cert.ReferenceSsdOutFIdeal.τ).loc Cert.ReferenceSsdOutFIdeal.main_arg4) = m' ((c.tc : Thread Cert.ReferenceSsdOutFIdeal.nD Cert.ReferenceSsdOutFIdeal.τ).loc Cert.ReferenceSsdOutFIdeal.main_arg4)
          ∧ r.2.mem ((c.tc : Thread Cert.ReferenceSsdOutFIdeal.nD Cert.ReferenceSsdOutFIdeal.τ).loc Cert.ReferenceSsdOutFIdeal.main_arg5) = m' ((c.tc : Thread Cert.ReferenceSsdOutFIdeal.nD Cert.ReferenceSsdOutFIdeal.τ).loc Cert.ReferenceSsdOutFIdeal.main_arg5))

def preserves_KernelNormF_KernelNormFIdeal : Prop :=
  True

def algebraic_KernelNormFIdeal_ReferenceNormFIdeal [hKernelNormFIdeal : Cert.KernelNormFIdeal.Facts] [hReferenceNormFIdeal : Cert.ReferenceNormFIdeal.Facts] : Prop :=
  ∀ (m : (ℓ : Loc Cert.KernelNormFIdeal.nD Cert.KernelNormFIdeal.τ Cert.KernelNormFIdeal.sig) → Buf (Elt Ideal) ℓ) (g : Dev Cert.KernelNormFIdeal.nD → PrngReg)
    (m' : (ℓ : Loc Cert.ReferenceNormFIdeal.nD Cert.ReferenceNormFIdeal.τ Cert.ReferenceNormFIdeal.sig) → Buf (Elt Ideal) ℓ) (g' : Dev Cert.ReferenceNormFIdeal.nD → PrngReg), Pre_KernelNormFIdeal m →
    (∀ c : Dev Cert.KernelNormFIdeal.nD,
      m' ((c.tc : Thread Cert.ReferenceNormFIdeal.nD Cert.ReferenceNormFIdeal.τ).loc Cert.ReferenceNormFIdeal.main_arg0) = m ((c.tc : Thread Cert.KernelNormFIdeal.nD Cert.KernelNormFIdeal.τ).loc Cert.KernelNormFIdeal.main_arg0)
      ∧ m' ((c.tc : Thread Cert.ReferenceNormFIdeal.nD Cert.ReferenceNormFIdeal.τ).loc Cert.ReferenceNormFIdeal.main_arg1) = m ((c.tc : Thread Cert.KernelNormFIdeal.nD Cert.KernelNormFIdeal.τ).loc Cert.KernelNormFIdeal.main_arg1)
      ∧ m' ((c.tc : Thread Cert.ReferenceNormFIdeal.nD Cert.ReferenceNormFIdeal.τ).loc Cert.ReferenceNormFIdeal.main_arg2) = m ((c.tc : Thread Cert.KernelNormFIdeal.nD Cert.KernelNormFIdeal.τ).loc Cert.KernelNormFIdeal.main_arg2)) →
    ∃ (v0 : (c : Dev Cert.KernelNormFIdeal.nD) → Buf (Elt Ideal) ((c.tc : Thread Cert.KernelNormFIdeal.nD Cert.KernelNormFIdeal.τ).loc Cert.KernelNormFIdeal.main_v0)),
      θ_run (Cert.KernelNormFIdeal.defs (F := Ideal)) (onTc (τ := Cert.KernelNormFIdeal.τ) (Cert.KernelNormFIdeal.main (F := Ideal))) ⟨m, fun _ => 0, g⟩ (fun r => ∀ c : Dev Cert.KernelNormFIdeal.nD,
          r.2.mem ((c.tc : Thread Cert.KernelNormFIdeal.nD Cert.KernelNormFIdeal.τ).loc Cert.KernelNormFIdeal.main_v0) = v0 c
          ∧ r.2.mem ((c.tc : Thread Cert.KernelNormFIdeal.nD Cert.KernelNormFIdeal.τ).loc Cert.KernelNormFIdeal.main_arg0) = m ((c.tc : Thread Cert.KernelNormFIdeal.nD Cert.KernelNormFIdeal.τ).loc Cert.KernelNormFIdeal.main_arg0)
          ∧ r.2.mem ((c.tc : Thread Cert.KernelNormFIdeal.nD Cert.KernelNormFIdeal.τ).loc Cert.KernelNormFIdeal.main_arg1) = m ((c.tc : Thread Cert.KernelNormFIdeal.nD Cert.KernelNormFIdeal.τ).loc Cert.KernelNormFIdeal.main_arg1)
          ∧ r.2.mem ((c.tc : Thread Cert.KernelNormFIdeal.nD Cert.KernelNormFIdeal.τ).loc Cert.KernelNormFIdeal.main_arg2) = m ((c.tc : Thread Cert.KernelNormFIdeal.nD Cert.KernelNormFIdeal.τ).loc Cert.KernelNormFIdeal.main_arg2))
      ∧ θ_run (Cert.ReferenceNormFIdeal.defs (F := Ideal)) (onTc (τ := Cert.ReferenceNormFIdeal.τ) (Cert.ReferenceNormFIdeal.main (F := Ideal))) ⟨m', fun _ => 0, g'⟩ (fun r => ∀ c : Dev Cert.ReferenceNormFIdeal.nD,
          r.2.mem ((c.tc : Thread Cert.ReferenceNormFIdeal.nD Cert.ReferenceNormFIdeal.τ).loc Cert.ReferenceNormFIdeal.main_v56) = v0 c
          ∧ r.2.mem ((c.tc : Thread Cert.ReferenceNormFIdeal.nD Cert.ReferenceNormFIdeal.τ).loc Cert.ReferenceNormFIdeal.main_arg0) = m' ((c.tc : Thread Cert.ReferenceNormFIdeal.nD Cert.ReferenceNormFIdeal.τ).loc Cert.ReferenceNormFIdeal.main_arg0)
          ∧ r.2.mem ((c.tc : Thread Cert.ReferenceNormFIdeal.nD Cert.ReferenceNormFIdeal.τ).loc Cert.ReferenceNormFIdeal.main_arg1) = m' ((c.tc : Thread Cert.ReferenceNormFIdeal.nD Cert.ReferenceNormFIdeal.τ).loc Cert.ReferenceNormFIdeal.main_arg1)
          ∧ r.2.mem ((c.tc : Thread Cert.ReferenceNormFIdeal.nD Cert.ReferenceNormFIdeal.τ).loc Cert.ReferenceNormFIdeal.main_arg2) = m' ((c.tc : Thread Cert.ReferenceNormFIdeal.nD Cert.ReferenceNormFIdeal.τ).loc Cert.ReferenceNormFIdeal.main_arg2))

def preserves_KernelRes1F_KernelRes1FIdeal : Prop :=
  True

def algebraic_KernelRes1FIdeal_ReferenceRes1FIdeal [hKernelRes1FIdeal : Cert.KernelRes1FIdeal.Facts] [hReferenceRes1FIdeal : Cert.ReferenceRes1FIdeal.Facts] : Prop :=
  ∀ (m : (ℓ : Loc Cert.KernelRes1FIdeal.nD Cert.KernelRes1FIdeal.τ Cert.KernelRes1FIdeal.sig) → Buf (Elt Ideal) ℓ) (g : Dev Cert.KernelRes1FIdeal.nD → PrngReg)
    (m' : (ℓ : Loc Cert.ReferenceRes1FIdeal.nD Cert.ReferenceRes1FIdeal.τ Cert.ReferenceRes1FIdeal.sig) → Buf (Elt Ideal) ℓ) (g' : Dev Cert.ReferenceRes1FIdeal.nD → PrngReg), Pre_KernelRes1FIdeal m →
    (∀ c : Dev Cert.KernelRes1FIdeal.nD,
      m' ((c.tc : Thread Cert.ReferenceRes1FIdeal.nD Cert.ReferenceRes1FIdeal.τ).loc Cert.ReferenceRes1FIdeal.main_arg0) = m ((c.tc : Thread Cert.KernelRes1FIdeal.nD Cert.KernelRes1FIdeal.τ).loc Cert.KernelRes1FIdeal.main_arg0)
      ∧ m' ((c.tc : Thread Cert.ReferenceRes1FIdeal.nD Cert.ReferenceRes1FIdeal.τ).loc Cert.ReferenceRes1FIdeal.main_arg1) = m ((c.tc : Thread Cert.KernelRes1FIdeal.nD Cert.KernelRes1FIdeal.τ).loc Cert.KernelRes1FIdeal.main_arg1)
      ∧ m' ((c.tc : Thread Cert.ReferenceRes1FIdeal.nD Cert.ReferenceRes1FIdeal.τ).loc Cert.ReferenceRes1FIdeal.main_arg2) = m ((c.tc : Thread Cert.KernelRes1FIdeal.nD Cert.KernelRes1FIdeal.τ).loc Cert.KernelRes1FIdeal.main_arg2)
      ∧ m' ((c.tc : Thread Cert.ReferenceRes1FIdeal.nD Cert.ReferenceRes1FIdeal.τ).loc Cert.ReferenceRes1FIdeal.main_arg3) = m ((c.tc : Thread Cert.KernelRes1FIdeal.nD Cert.KernelRes1FIdeal.τ).loc Cert.KernelRes1FIdeal.main_arg3)) →
    ∃ (v0 : (c : Dev Cert.KernelRes1FIdeal.nD) → Buf (Elt Ideal) ((c.tc : Thread Cert.KernelRes1FIdeal.nD Cert.KernelRes1FIdeal.τ).loc Cert.KernelRes1FIdeal.main_v0_0)) (v1 : (c : Dev Cert.KernelRes1FIdeal.nD) → Buf (Elt Ideal) ((c.tc : Thread Cert.KernelRes1FIdeal.nD Cert.KernelRes1FIdeal.τ).loc Cert.KernelRes1FIdeal.main_v0_1)),
      θ_run (Cert.KernelRes1FIdeal.defs (F := Ideal)) (onTc (τ := Cert.KernelRes1FIdeal.τ) (Cert.KernelRes1FIdeal.main (F := Ideal))) ⟨m, fun _ => 0, g⟩ (fun r => ∀ c : Dev Cert.KernelRes1FIdeal.nD,
          r.2.mem ((c.tc : Thread Cert.KernelRes1FIdeal.nD Cert.KernelRes1FIdeal.τ).loc Cert.KernelRes1FIdeal.main_v0_0) = v0 c
          ∧ r.2.mem ((c.tc : Thread Cert.KernelRes1FIdeal.nD Cert.KernelRes1FIdeal.τ).loc Cert.KernelRes1FIdeal.main_v0_1) = v1 c
          ∧ r.2.mem ((c.tc : Thread Cert.KernelRes1FIdeal.nD Cert.KernelRes1FIdeal.τ).loc Cert.KernelRes1FIdeal.main_arg0) = m ((c.tc : Thread Cert.KernelRes1FIdeal.nD Cert.KernelRes1FIdeal.τ).loc Cert.KernelRes1FIdeal.main_arg0)
          ∧ r.2.mem ((c.tc : Thread Cert.KernelRes1FIdeal.nD Cert.KernelRes1FIdeal.τ).loc Cert.KernelRes1FIdeal.main_arg1) = m ((c.tc : Thread Cert.KernelRes1FIdeal.nD Cert.KernelRes1FIdeal.τ).loc Cert.KernelRes1FIdeal.main_arg1)
          ∧ r.2.mem ((c.tc : Thread Cert.KernelRes1FIdeal.nD Cert.KernelRes1FIdeal.τ).loc Cert.KernelRes1FIdeal.main_arg2) = m ((c.tc : Thread Cert.KernelRes1FIdeal.nD Cert.KernelRes1FIdeal.τ).loc Cert.KernelRes1FIdeal.main_arg2)
          ∧ r.2.mem ((c.tc : Thread Cert.KernelRes1FIdeal.nD Cert.KernelRes1FIdeal.τ).loc Cert.KernelRes1FIdeal.main_arg3) = m ((c.tc : Thread Cert.KernelRes1FIdeal.nD Cert.KernelRes1FIdeal.τ).loc Cert.KernelRes1FIdeal.main_arg3))
      ∧ θ_run (Cert.ReferenceRes1FIdeal.defs (F := Ideal)) (onTc (τ := Cert.ReferenceRes1FIdeal.τ) (Cert.ReferenceRes1FIdeal.main (F := Ideal))) ⟨m', fun _ => 0, g'⟩ (fun r => ∀ c : Dev Cert.ReferenceRes1FIdeal.nD,
          r.2.mem ((c.tc : Thread Cert.ReferenceRes1FIdeal.nD Cert.ReferenceRes1FIdeal.τ).loc Cert.ReferenceRes1FIdeal.main_v64) = v0 c
          ∧ r.2.mem ((c.tc : Thread Cert.ReferenceRes1FIdeal.nD Cert.ReferenceRes1FIdeal.τ).loc Cert.ReferenceRes1FIdeal.main_v65) = v1 c
          ∧ r.2.mem ((c.tc : Thread Cert.ReferenceRes1FIdeal.nD Cert.ReferenceRes1FIdeal.τ).loc Cert.ReferenceRes1FIdeal.main_arg0) = m' ((c.tc : Thread Cert.ReferenceRes1FIdeal.nD Cert.ReferenceRes1FIdeal.τ).loc Cert.ReferenceRes1FIdeal.main_arg0)
          ∧ r.2.mem ((c.tc : Thread Cert.ReferenceRes1FIdeal.nD Cert.ReferenceRes1FIdeal.τ).loc Cert.ReferenceRes1FIdeal.main_arg1) = m' ((c.tc : Thread Cert.ReferenceRes1FIdeal.nD Cert.ReferenceRes1FIdeal.τ).loc Cert.ReferenceRes1FIdeal.main_arg1)
          ∧ r.2.mem ((c.tc : Thread Cert.ReferenceRes1FIdeal.nD Cert.ReferenceRes1FIdeal.τ).loc Cert.ReferenceRes1FIdeal.main_arg2) = m' ((c.tc : Thread Cert.ReferenceRes1FIdeal.nD Cert.ReferenceRes1FIdeal.τ).loc Cert.ReferenceRes1FIdeal.main_arg2)
          ∧ r.2.mem ((c.tc : Thread Cert.ReferenceRes1FIdeal.nD Cert.ReferenceRes1FIdeal.τ).loc Cert.ReferenceRes1FIdeal.main_arg3) = m' ((c.tc : Thread Cert.ReferenceRes1FIdeal.nD Cert.ReferenceRes1FIdeal.τ).loc Cert.ReferenceRes1FIdeal.main_arg3))

def preserves_KernelRes2F_KernelRes2FIdeal : Prop :=
  True

def algebraic_KernelRes2FIdeal_ReferenceRes2FIdeal [hKernelRes2FIdeal : Cert.KernelRes2FIdeal.Facts] [hReferenceRes2FIdeal : Cert.ReferenceRes2FIdeal.Facts] : Prop :=
  ∀ (m : (ℓ : Loc Cert.KernelRes2FIdeal.nD Cert.KernelRes2FIdeal.τ Cert.KernelRes2FIdeal.sig) → Buf (Elt Ideal) ℓ) (g : Dev Cert.KernelRes2FIdeal.nD → PrngReg)
    (m' : (ℓ : Loc Cert.ReferenceRes2FIdeal.nD Cert.ReferenceRes2FIdeal.τ Cert.ReferenceRes2FIdeal.sig) → Buf (Elt Ideal) ℓ) (g' : Dev Cert.ReferenceRes2FIdeal.nD → PrngReg), Pre_KernelRes2FIdeal m →
    (∀ c : Dev Cert.KernelRes2FIdeal.nD,
      m' ((c.tc : Thread Cert.ReferenceRes2FIdeal.nD Cert.ReferenceRes2FIdeal.τ).loc Cert.ReferenceRes2FIdeal.main_arg0) = m ((c.tc : Thread Cert.KernelRes2FIdeal.nD Cert.KernelRes2FIdeal.τ).loc Cert.KernelRes2FIdeal.main_arg0)
      ∧ m' ((c.tc : Thread Cert.ReferenceRes2FIdeal.nD Cert.ReferenceRes2FIdeal.τ).loc Cert.ReferenceRes2FIdeal.main_arg1) = m ((c.tc : Thread Cert.KernelRes2FIdeal.nD Cert.KernelRes2FIdeal.τ).loc Cert.KernelRes2FIdeal.main_arg1)
      ∧ m' ((c.tc : Thread Cert.ReferenceRes2FIdeal.nD Cert.ReferenceRes2FIdeal.τ).loc Cert.ReferenceRes2FIdeal.main_arg2) = m ((c.tc : Thread Cert.KernelRes2FIdeal.nD Cert.KernelRes2FIdeal.τ).loc Cert.KernelRes2FIdeal.main_arg2)
      ∧ m' ((c.tc : Thread Cert.ReferenceRes2FIdeal.nD Cert.ReferenceRes2FIdeal.τ).loc Cert.ReferenceRes2FIdeal.main_arg3) = m ((c.tc : Thread Cert.KernelRes2FIdeal.nD Cert.KernelRes2FIdeal.τ).loc Cert.KernelRes2FIdeal.main_arg3)
      ∧ m' ((c.tc : Thread Cert.ReferenceRes2FIdeal.nD Cert.ReferenceRes2FIdeal.τ).loc Cert.ReferenceRes2FIdeal.main_arg4) = m ((c.tc : Thread Cert.KernelRes2FIdeal.nD Cert.KernelRes2FIdeal.τ).loc Cert.KernelRes2FIdeal.main_arg4)) →
    ∃ (v0 : (c : Dev Cert.KernelRes2FIdeal.nD) → Buf (Elt Ideal) ((c.tc : Thread Cert.KernelRes2FIdeal.nD Cert.KernelRes2FIdeal.τ).loc Cert.KernelRes2FIdeal.main_v0_0)) (v1 : (c : Dev Cert.KernelRes2FIdeal.nD) → Buf (Elt Ideal) ((c.tc : Thread Cert.KernelRes2FIdeal.nD Cert.KernelRes2FIdeal.τ).loc Cert.KernelRes2FIdeal.main_v0_1)),
      θ_run (Cert.KernelRes2FIdeal.defs (F := Ideal)) (onTc (τ := Cert.KernelRes2FIdeal.τ) (Cert.KernelRes2FIdeal.main (F := Ideal))) ⟨m, fun _ => 0, g⟩ (fun r => ∀ c : Dev Cert.KernelRes2FIdeal.nD,
          r.2.mem ((c.tc : Thread Cert.KernelRes2FIdeal.nD Cert.KernelRes2FIdeal.τ).loc Cert.KernelRes2FIdeal.main_v0_0) = v0 c
          ∧ r.2.mem ((c.tc : Thread Cert.KernelRes2FIdeal.nD Cert.KernelRes2FIdeal.τ).loc Cert.KernelRes2FIdeal.main_v0_1) = v1 c
          ∧ r.2.mem ((c.tc : Thread Cert.KernelRes2FIdeal.nD Cert.KernelRes2FIdeal.τ).loc Cert.KernelRes2FIdeal.main_arg0) = m ((c.tc : Thread Cert.KernelRes2FIdeal.nD Cert.KernelRes2FIdeal.τ).loc Cert.KernelRes2FIdeal.main_arg0)
          ∧ r.2.mem ((c.tc : Thread Cert.KernelRes2FIdeal.nD Cert.KernelRes2FIdeal.τ).loc Cert.KernelRes2FIdeal.main_arg1) = m ((c.tc : Thread Cert.KernelRes2FIdeal.nD Cert.KernelRes2FIdeal.τ).loc Cert.KernelRes2FIdeal.main_arg1)
          ∧ r.2.mem ((c.tc : Thread Cert.KernelRes2FIdeal.nD Cert.KernelRes2FIdeal.τ).loc Cert.KernelRes2FIdeal.main_arg2) = m ((c.tc : Thread Cert.KernelRes2FIdeal.nD Cert.KernelRes2FIdeal.τ).loc Cert.KernelRes2FIdeal.main_arg2)
          ∧ r.2.mem ((c.tc : Thread Cert.KernelRes2FIdeal.nD Cert.KernelRes2FIdeal.τ).loc Cert.KernelRes2FIdeal.main_arg3) = m ((c.tc : Thread Cert.KernelRes2FIdeal.nD Cert.KernelRes2FIdeal.τ).loc Cert.KernelRes2FIdeal.main_arg3)
          ∧ r.2.mem ((c.tc : Thread Cert.KernelRes2FIdeal.nD Cert.KernelRes2FIdeal.τ).loc Cert.KernelRes2FIdeal.main_arg4) = m ((c.tc : Thread Cert.KernelRes2FIdeal.nD Cert.KernelRes2FIdeal.τ).loc Cert.KernelRes2FIdeal.main_arg4))
      ∧ θ_run (Cert.ReferenceRes2FIdeal.defs (F := Ideal)) (onTc (τ := Cert.ReferenceRes2FIdeal.τ) (Cert.ReferenceRes2FIdeal.main (F := Ideal))) ⟨m', fun _ => 0, g'⟩ (fun r => ∀ c : Dev Cert.ReferenceRes2FIdeal.nD,
          r.2.mem ((c.tc : Thread Cert.ReferenceRes2FIdeal.nD Cert.ReferenceRes2FIdeal.τ).loc Cert.ReferenceRes2FIdeal.main_v80) = v0 c
          ∧ r.2.mem ((c.tc : Thread Cert.ReferenceRes2FIdeal.nD Cert.ReferenceRes2FIdeal.τ).loc Cert.ReferenceRes2FIdeal.main_v81) = v1 c
          ∧ r.2.mem ((c.tc : Thread Cert.ReferenceRes2FIdeal.nD Cert.ReferenceRes2FIdeal.τ).loc Cert.ReferenceRes2FIdeal.main_arg0) = m' ((c.tc : Thread Cert.ReferenceRes2FIdeal.nD Cert.ReferenceRes2FIdeal.τ).loc Cert.ReferenceRes2FIdeal.main_arg0)
          ∧ r.2.mem ((c.tc : Thread Cert.ReferenceRes2FIdeal.nD Cert.ReferenceRes2FIdeal.τ).loc Cert.ReferenceRes2FIdeal.main_arg1) = m' ((c.tc : Thread Cert.ReferenceRes2FIdeal.nD Cert.ReferenceRes2FIdeal.τ).loc Cert.ReferenceRes2FIdeal.main_arg1)
          ∧ r.2.mem ((c.tc : Thread Cert.ReferenceRes2FIdeal.nD Cert.ReferenceRes2FIdeal.τ).loc Cert.ReferenceRes2FIdeal.main_arg2) = m' ((c.tc : Thread Cert.ReferenceRes2FIdeal.nD Cert.ReferenceRes2FIdeal.τ).loc Cert.ReferenceRes2FIdeal.main_arg2)
          ∧ r.2.mem ((c.tc : Thread Cert.ReferenceRes2FIdeal.nD Cert.ReferenceRes2FIdeal.τ).loc Cert.ReferenceRes2FIdeal.main_arg3) = m' ((c.tc : Thread Cert.ReferenceRes2FIdeal.nD Cert.ReferenceRes2FIdeal.τ).loc Cert.ReferenceRes2FIdeal.main_arg3)
          ∧ r.2.mem ((c.tc : Thread Cert.ReferenceRes2FIdeal.nD Cert.ReferenceRes2FIdeal.τ).loc Cert.ReferenceRes2FIdeal.main_arg4) = m' ((c.tc : Thread Cert.ReferenceRes2FIdeal.nD Cert.ReferenceRes2FIdeal.τ).loc Cert.ReferenceRes2FIdeal.main_arg4))

def Claim : Prop :=
  ∃ (hKernel : Cert.Kernel.Facts) (hKernelIdeal : Cert.KernelIdeal.Facts) (hReferenceIdeal : Cert.ReferenceIdeal.Facts) (hKernelWInProj : Cert.KernelWInProj.Facts) (hKernelWInProjIdeal : Cert.KernelWInProjIdeal.Facts) (hReferenceWInProjIdeal : Cert.ReferenceWInProjIdeal.Facts) (hKernelXInProj : Cert.KernelXInProj.Facts) (hKernelXInProjIdeal : Cert.KernelXInProjIdeal.Facts) (hReferenceXInProjIdeal : Cert.ReferenceXInProjIdeal.Facts) (hKernelWFfnIn : Cert.KernelWFfnIn.Facts) (hKernelWFfnInIdeal : Cert.KernelWFfnInIdeal.Facts) (hReferenceWFfnInIdeal : Cert.ReferenceWFfnInIdeal.Facts) (hKernelXFfnIn : Cert.KernelXFfnIn.Facts) (hKernelXFfnInIdeal : Cert.KernelXFfnInIdeal.Facts) (hReferenceXFfnInIdeal : Cert.ReferenceXFfnInIdeal.Facts) (hKernelWFfnOut : Cert.KernelWFfnOut.Facts) (hKernelWFfnOutIdeal : Cert.KernelWFfnOutIdeal.Facts) (hReferenceWFfnOutIdeal : Cert.ReferenceWFfnOutIdeal.Facts) (hKernelXFfnOut : Cert.KernelXFfnOut.Facts) (hKernelXFfnOutIdeal : Cert.KernelXFfnOutIdeal.Facts) (hReferenceXFfnOutIdeal : Cert.ReferenceXFfnOutIdeal.Facts) (hKernelWOut : Cert.KernelWOut.Facts) (hKernelWOutIdeal : Cert.KernelWOutIdeal.Facts) (hReferenceWOutIdeal : Cert.ReferenceWOutIdeal.Facts) (hKernelXOut : Cert.KernelXOut.Facts) (hKernelXOutIdeal : Cert.KernelXOutIdeal.Facts) (hReferenceXOutIdeal : Cert.ReferenceXOutIdeal.Facts) (hKernelXProj : Cert.KernelXProj.Facts) (hKernelXProjIdeal : Cert.KernelXProjIdeal.Facts) (hReferenceXProjIdeal : Cert.ReferenceXProjIdeal.Facts) (hKernelWUq : Cert.KernelWUq.Facts) (hKernelWUqIdeal : Cert.KernelWUqIdeal.Facts) (hReferenceWUqIdeal : Cert.ReferenceWUqIdeal.Facts) (hKernelXUq : Cert.KernelXUq.Facts) (hKernelXUqIdeal : Cert.KernelXUqIdeal.Facts) (hReferenceXUqIdeal : Cert.ReferenceXUqIdeal.Facts) (hKernelWUkv : Cert.KernelWUkv.Facts) (hKernelWUkvIdeal : Cert.KernelWUkvIdeal.Facts) (hReferenceWUkvIdeal : Cert.ReferenceWUkvIdeal.Facts) (hKernelXUkv : Cert.KernelXUkv.Facts) (hKernelXUkvIdeal : Cert.KernelXUkvIdeal.Facts) (hReferenceXUkvIdeal : Cert.ReferenceXUkvIdeal.Facts) (hKernelFInProj : Cert.KernelFInProj.Facts) (hKernelFInProjIdeal : Cert.KernelFInProjIdeal.Facts) (hReferenceFInProjIdeal : Cert.ReferenceFInProjIdeal.Facts) (hKernelFFfnIn : Cert.KernelFFfnIn.Facts) (hKernelFFfnInIdeal : Cert.KernelFFfnInIdeal.Facts) (hReferenceFFfnInIdeal : Cert.ReferenceFFfnInIdeal.Facts) (hKernelFFfnOut : Cert.KernelFFfnOut.Facts) (hKernelFFfnOutIdeal : Cert.KernelFFfnOutIdeal.Facts) (hReferenceFFfnOutIdeal : Cert.ReferenceFFfnOutIdeal.Facts) (hKernelFProj : Cert.KernelFProj.Facts) (hKernelFProjIdeal : Cert.KernelFProjIdeal.Facts) (hReferenceFProjIdeal : Cert.ReferenceFProjIdeal.Facts) (hKernelFOut : Cert.KernelFOut.Facts) (hKernelFOutIdeal : Cert.KernelFOutIdeal.Facts) (hReferenceFOutIdeal : Cert.ReferenceFOutIdeal.Facts) (hKernelFUq : Cert.KernelFUq.Facts) (hKernelFUqIdeal : Cert.KernelFUqIdeal.Facts) (hReferenceFUqIdeal : Cert.ReferenceFUqIdeal.Facts) (hKernelFUkv : Cert.KernelFUkv.Facts) (hKernelFUkvIdeal : Cert.KernelFUkvIdeal.Facts) (hReferenceFUkvIdeal : Cert.ReferenceFUkvIdeal.Facts) (hKernelSwigluB : Cert.KernelSwigluB.Facts) (hKernelSwigluBIdeal : Cert.KernelSwigluBIdeal.Facts) (hReferenceSwigluBIdeal : Cert.ReferenceSwigluBIdeal.Facts) (hKernelSwigluF : Cert.KernelSwigluF.Facts) (hKernelSwigluFIdeal : Cert.KernelSwigluFIdeal.Facts) (hReferenceSwigluFIdeal : Cert.ReferenceSwigluFIdeal.Facts) (hKernelMergeB : Cert.KernelMergeB.Facts) (hKernelMergeBIdeal : Cert.KernelMergeBIdeal.Facts) (hReferenceMergeBIdeal : Cert.ReferenceMergeBIdeal.Facts) (hKernelMergeF : Cert.KernelMergeF.Facts) (hKernelMergeFIdeal : Cert.KernelMergeFIdeal.Facts) (hReferenceMergeFIdeal : Cert.ReferenceMergeFIdeal.Facts) (hKernelLatNormB : Cert.KernelLatNormB.Facts) (hKernelLatNormBIdeal : Cert.KernelLatNormBIdeal.Facts) (hReferenceLatNormBIdeal : Cert.ReferenceLatNormBIdeal.Facts) (hKernelLatNormF : Cert.KernelLatNormF.Facts) (hKernelLatNormFIdeal : Cert.KernelLatNormFIdeal.Facts) (hReferenceLatNormFIdeal : Cert.ReferenceLatNormFIdeal.Facts) (hKernelAdamMod : Cert.KernelAdamMod.Facts) (hKernelAdamModIdeal : Cert.KernelAdamModIdeal.Facts) (hReferenceAdamModIdeal : Cert.ReferenceAdamModIdeal.Facts) (hKernelAdamIn : Cert.KernelAdamIn.Facts) (hKernelAdamInIdeal : Cert.KernelAdamInIdeal.Facts) (hReferenceAdamInIdeal : Cert.ReferenceAdamInIdeal.Facts) (hKernelAdamUq : Cert.KernelAdamUq.Facts) (hKernelAdamUqIdeal : Cert.KernelAdamUqIdeal.Facts) (hReferenceAdamUqIdeal : Cert.ReferenceAdamUqIdeal.Facts) (hKernelAdamUkv : Cert.KernelAdamUkv.Facts) (hKernelAdamUkvIdeal : Cert.KernelAdamUkvIdeal.Facts) (hReferenceAdamUkvIdeal : Cert.ReferenceAdamUkvIdeal.Facts) (hKernelAdamOut : Cert.KernelAdamOut.Facts) (hKernelAdamOutIdeal : Cert.KernelAdamOutIdeal.Facts) (hReferenceAdamOutIdeal : Cert.ReferenceAdamOutIdeal.Facts) (hKernelAdamFfnIn : Cert.KernelAdamFfnIn.Facts) (hKernelAdamFfnInIdeal : Cert.KernelAdamFfnInIdeal.Facts) (hReferenceAdamFfnInIdeal : Cert.ReferenceAdamFfnInIdeal.Facts) (hKernelAdamFfnOut : Cert.KernelAdamFfnOut.Facts) (hKernelAdamFfnOutIdeal : Cert.KernelAdamFfnOutIdeal.Facts) (hReferenceAdamFfnOutIdeal : Cert.ReferenceAdamFfnOutIdeal.Facts) (hKernelAdamSmall : Cert.KernelAdamSmall.Facts) (hKernelAdamSmallIdeal : Cert.KernelAdamSmallIdeal.Facts) (hReferenceAdamSmallIdeal : Cert.ReferenceAdamSmallIdeal.Facts) (hKernelSsdOutF : Cert.KernelSsdOutF.Facts) (hKernelSsdOutFIdeal : Cert.KernelSsdOutFIdeal.Facts) (hReferenceSsdOutFIdeal : Cert.ReferenceSsdOutFIdeal.Facts) (hKernelNormF : Cert.KernelNormF.Facts) (hKernelNormFIdeal : Cert.KernelNormFIdeal.Facts) (hReferenceNormFIdeal : Cert.ReferenceNormFIdeal.Facts) (hKernelRes1F : Cert.KernelRes1F.Facts) (hKernelRes1FIdeal : Cert.KernelRes1FIdeal.Facts) (hReferenceRes1FIdeal : Cert.ReferenceRes1FIdeal.Facts) (hKernelRes2F : Cert.KernelRes2F.Facts) (hKernelRes2FIdeal : Cert.KernelRes2FIdeal.Facts) (hReferenceRes2FIdeal : Cert.ReferenceRes2FIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelWInProj (hKernelWInProj := hKernelWInProj)
    ∧ quiescent_KernelWInProjIdeal (hKernelWInProjIdeal := hKernelWInProjIdeal)
    ∧ quiescent_ReferenceWInProjIdeal (hReferenceWInProjIdeal := hReferenceWInProjIdeal)
    ∧ quiescent_KernelXInProj (hKernelXInProj := hKernelXInProj)
    ∧ quiescent_KernelXInProjIdeal (hKernelXInProjIdeal := hKernelXInProjIdeal)
    ∧ quiescent_ReferenceXInProjIdeal (hReferenceXInProjIdeal := hReferenceXInProjIdeal)
    ∧ quiescent_KernelWFfnIn (hKernelWFfnIn := hKernelWFfnIn)
    ∧ quiescent_KernelWFfnInIdeal (hKernelWFfnInIdeal := hKernelWFfnInIdeal)
    ∧ quiescent_ReferenceWFfnInIdeal (hReferenceWFfnInIdeal := hReferenceWFfnInIdeal)
    ∧ quiescent_KernelXFfnIn (hKernelXFfnIn := hKernelXFfnIn)
    ∧ quiescent_KernelXFfnInIdeal (hKernelXFfnInIdeal := hKernelXFfnInIdeal)
    ∧ quiescent_ReferenceXFfnInIdeal (hReferenceXFfnInIdeal := hReferenceXFfnInIdeal)
    ∧ quiescent_KernelWFfnOut (hKernelWFfnOut := hKernelWFfnOut)
    ∧ quiescent_KernelWFfnOutIdeal (hKernelWFfnOutIdeal := hKernelWFfnOutIdeal)
    ∧ quiescent_ReferenceWFfnOutIdeal (hReferenceWFfnOutIdeal := hReferenceWFfnOutIdeal)
    ∧ quiescent_KernelXFfnOut (hKernelXFfnOut := hKernelXFfnOut)
    ∧ quiescent_KernelXFfnOutIdeal (hKernelXFfnOutIdeal := hKernelXFfnOutIdeal)
    ∧ quiescent_ReferenceXFfnOutIdeal (hReferenceXFfnOutIdeal := hReferenceXFfnOutIdeal)
    ∧ quiescent_KernelWOut (hKernelWOut := hKernelWOut)
    ∧ quiescent_KernelWOutIdeal (hKernelWOutIdeal := hKernelWOutIdeal)
    ∧ quiescent_ReferenceWOutIdeal (hReferenceWOutIdeal := hReferenceWOutIdeal)
    ∧ quiescent_KernelXOut (hKernelXOut := hKernelXOut)
    ∧ quiescent_KernelXOutIdeal (hKernelXOutIdeal := hKernelXOutIdeal)
    ∧ quiescent_ReferenceXOutIdeal (hReferenceXOutIdeal := hReferenceXOutIdeal)
    ∧ quiescent_KernelXProj (hKernelXProj := hKernelXProj)
    ∧ quiescent_KernelXProjIdeal (hKernelXProjIdeal := hKernelXProjIdeal)
    ∧ quiescent_ReferenceXProjIdeal (hReferenceXProjIdeal := hReferenceXProjIdeal)
    ∧ quiescent_KernelWUq (hKernelWUq := hKernelWUq)
    ∧ quiescent_KernelWUqIdeal (hKernelWUqIdeal := hKernelWUqIdeal)
    ∧ quiescent_ReferenceWUqIdeal (hReferenceWUqIdeal := hReferenceWUqIdeal)
    ∧ quiescent_KernelXUq (hKernelXUq := hKernelXUq)
    ∧ quiescent_KernelXUqIdeal (hKernelXUqIdeal := hKernelXUqIdeal)
    ∧ quiescent_ReferenceXUqIdeal (hReferenceXUqIdeal := hReferenceXUqIdeal)
    ∧ quiescent_KernelWUkv (hKernelWUkv := hKernelWUkv)
    ∧ quiescent_KernelWUkvIdeal (hKernelWUkvIdeal := hKernelWUkvIdeal)
    ∧ quiescent_ReferenceWUkvIdeal (hReferenceWUkvIdeal := hReferenceWUkvIdeal)
    ∧ quiescent_KernelXUkv (hKernelXUkv := hKernelXUkv)
    ∧ quiescent_KernelXUkvIdeal (hKernelXUkvIdeal := hKernelXUkvIdeal)
    ∧ quiescent_ReferenceXUkvIdeal (hReferenceXUkvIdeal := hReferenceXUkvIdeal)
    ∧ quiescent_KernelFInProj (hKernelFInProj := hKernelFInProj)
    ∧ quiescent_KernelFInProjIdeal (hKernelFInProjIdeal := hKernelFInProjIdeal)
    ∧ quiescent_ReferenceFInProjIdeal (hReferenceFInProjIdeal := hReferenceFInProjIdeal)
    ∧ quiescent_KernelFFfnIn (hKernelFFfnIn := hKernelFFfnIn)
    ∧ quiescent_KernelFFfnInIdeal (hKernelFFfnInIdeal := hKernelFFfnInIdeal)
    ∧ quiescent_ReferenceFFfnInIdeal (hReferenceFFfnInIdeal := hReferenceFFfnInIdeal)
    ∧ quiescent_KernelFFfnOut (hKernelFFfnOut := hKernelFFfnOut)
    ∧ quiescent_KernelFFfnOutIdeal (hKernelFFfnOutIdeal := hKernelFFfnOutIdeal)
    ∧ quiescent_ReferenceFFfnOutIdeal (hReferenceFFfnOutIdeal := hReferenceFFfnOutIdeal)
    ∧ quiescent_KernelFProj (hKernelFProj := hKernelFProj)
    ∧ quiescent_KernelFProjIdeal (hKernelFProjIdeal := hKernelFProjIdeal)
    ∧ quiescent_ReferenceFProjIdeal (hReferenceFProjIdeal := hReferenceFProjIdeal)
    ∧ quiescent_KernelFOut (hKernelFOut := hKernelFOut)
    ∧ quiescent_KernelFOutIdeal (hKernelFOutIdeal := hKernelFOutIdeal)
    ∧ quiescent_ReferenceFOutIdeal (hReferenceFOutIdeal := hReferenceFOutIdeal)
    ∧ quiescent_KernelFUq (hKernelFUq := hKernelFUq)
    ∧ quiescent_KernelFUqIdeal (hKernelFUqIdeal := hKernelFUqIdeal)
    ∧ quiescent_ReferenceFUqIdeal (hReferenceFUqIdeal := hReferenceFUqIdeal)
    ∧ quiescent_KernelFUkv (hKernelFUkv := hKernelFUkv)
    ∧ quiescent_KernelFUkvIdeal (hKernelFUkvIdeal := hKernelFUkvIdeal)
    ∧ quiescent_ReferenceFUkvIdeal (hReferenceFUkvIdeal := hReferenceFUkvIdeal)
    ∧ quiescent_KernelSwigluB (hKernelSwigluB := hKernelSwigluB)
    ∧ quiescent_KernelSwigluBIdeal (hKernelSwigluBIdeal := hKernelSwigluBIdeal)
    ∧ quiescent_ReferenceSwigluBIdeal (hReferenceSwigluBIdeal := hReferenceSwigluBIdeal)
    ∧ quiescent_KernelSwigluF (hKernelSwigluF := hKernelSwigluF)
    ∧ quiescent_KernelSwigluFIdeal (hKernelSwigluFIdeal := hKernelSwigluFIdeal)
    ∧ quiescent_ReferenceSwigluFIdeal (hReferenceSwigluFIdeal := hReferenceSwigluFIdeal)
    ∧ quiescent_KernelMergeB (hKernelMergeB := hKernelMergeB)
    ∧ quiescent_KernelMergeBIdeal (hKernelMergeBIdeal := hKernelMergeBIdeal)
    ∧ quiescent_ReferenceMergeBIdeal (hReferenceMergeBIdeal := hReferenceMergeBIdeal)
    ∧ quiescent_KernelMergeF (hKernelMergeF := hKernelMergeF)
    ∧ quiescent_KernelMergeFIdeal (hKernelMergeFIdeal := hKernelMergeFIdeal)
    ∧ quiescent_ReferenceMergeFIdeal (hReferenceMergeFIdeal := hReferenceMergeFIdeal)
    ∧ quiescent_KernelLatNormB (hKernelLatNormB := hKernelLatNormB)
    ∧ quiescent_KernelLatNormBIdeal (hKernelLatNormBIdeal := hKernelLatNormBIdeal)
    ∧ quiescent_ReferenceLatNormBIdeal (hReferenceLatNormBIdeal := hReferenceLatNormBIdeal)
    ∧ quiescent_KernelLatNormF (hKernelLatNormF := hKernelLatNormF)
    ∧ quiescent_KernelLatNormFIdeal (hKernelLatNormFIdeal := hKernelLatNormFIdeal)
    ∧ quiescent_ReferenceLatNormFIdeal (hReferenceLatNormFIdeal := hReferenceLatNormFIdeal)
    ∧ quiescent_KernelAdamMod (hKernelAdamMod := hKernelAdamMod)
    ∧ quiescent_KernelAdamModIdeal (hKernelAdamModIdeal := hKernelAdamModIdeal)
    ∧ quiescent_ReferenceAdamModIdeal (hReferenceAdamModIdeal := hReferenceAdamModIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamUq (hKernelAdamUq := hKernelAdamUq)
    ∧ quiescent_KernelAdamUqIdeal (hKernelAdamUqIdeal := hKernelAdamUqIdeal)
    ∧ quiescent_ReferenceAdamUqIdeal (hReferenceAdamUqIdeal := hReferenceAdamUqIdeal)
    ∧ quiescent_KernelAdamUkv (hKernelAdamUkv := hKernelAdamUkv)
    ∧ quiescent_KernelAdamUkvIdeal (hKernelAdamUkvIdeal := hKernelAdamUkvIdeal)
    ∧ quiescent_ReferenceAdamUkvIdeal (hReferenceAdamUkvIdeal := hReferenceAdamUkvIdeal)
    ∧ quiescent_KernelAdamOut (hKernelAdamOut := hKernelAdamOut)
    ∧ quiescent_KernelAdamOutIdeal (hKernelAdamOutIdeal := hKernelAdamOutIdeal)
    ∧ quiescent_ReferenceAdamOutIdeal (hReferenceAdamOutIdeal := hReferenceAdamOutIdeal)
    ∧ quiescent_KernelAdamFfnIn (hKernelAdamFfnIn := hKernelAdamFfnIn)
    ∧ quiescent_KernelAdamFfnInIdeal (hKernelAdamFfnInIdeal := hKernelAdamFfnInIdeal)
    ∧ quiescent_ReferenceAdamFfnInIdeal (hReferenceAdamFfnInIdeal := hReferenceAdamFfnInIdeal)
    ∧ quiescent_KernelAdamFfnOut (hKernelAdamFfnOut := hKernelAdamFfnOut)
    ∧ quiescent_KernelAdamFfnOutIdeal (hKernelAdamFfnOutIdeal := hKernelAdamFfnOutIdeal)
    ∧ quiescent_ReferenceAdamFfnOutIdeal (hReferenceAdamFfnOutIdeal := hReferenceAdamFfnOutIdeal)
    ∧ quiescent_KernelAdamSmall (hKernelAdamSmall := hKernelAdamSmall)
    ∧ quiescent_KernelAdamSmallIdeal (hKernelAdamSmallIdeal := hKernelAdamSmallIdeal)
    ∧ quiescent_ReferenceAdamSmallIdeal (hReferenceAdamSmallIdeal := hReferenceAdamSmallIdeal)
    ∧ quiescent_KernelSsdOutF (hKernelSsdOutF := hKernelSsdOutF)
    ∧ quiescent_KernelSsdOutFIdeal (hKernelSsdOutFIdeal := hKernelSsdOutFIdeal)
    ∧ quiescent_ReferenceSsdOutFIdeal (hReferenceSsdOutFIdeal := hReferenceSsdOutFIdeal)
    ∧ quiescent_KernelNormF (hKernelNormF := hKernelNormF)
    ∧ quiescent_KernelNormFIdeal (hKernelNormFIdeal := hKernelNormFIdeal)
    ∧ quiescent_ReferenceNormFIdeal (hReferenceNormFIdeal := hReferenceNormFIdeal)
    ∧ quiescent_KernelRes1F (hKernelRes1F := hKernelRes1F)
    ∧ quiescent_KernelRes1FIdeal (hKernelRes1FIdeal := hKernelRes1FIdeal)
    ∧ quiescent_ReferenceRes1FIdeal (hReferenceRes1FIdeal := hReferenceRes1FIdeal)
    ∧ quiescent_KernelRes2F (hKernelRes2F := hKernelRes2F)
    ∧ quiescent_KernelRes2FIdeal (hKernelRes2FIdeal := hKernelRes2FIdeal)
    ∧ quiescent_ReferenceRes2FIdeal (hReferenceRes2FIdeal := hReferenceRes2FIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelWInProj_KernelWInProjIdeal
    ∧ algebraic_KernelWInProjIdeal_ReferenceWInProjIdeal (hKernelWInProjIdeal := hKernelWInProjIdeal) (hReferenceWInProjIdeal := hReferenceWInProjIdeal)
    ∧ preserves_KernelXInProj_KernelXInProjIdeal
    ∧ algebraic_KernelXInProjIdeal_ReferenceXInProjIdeal (hKernelXInProjIdeal := hKernelXInProjIdeal) (hReferenceXInProjIdeal := hReferenceXInProjIdeal)
    ∧ preserves_KernelWFfnIn_KernelWFfnInIdeal
    ∧ algebraic_KernelWFfnInIdeal_ReferenceWFfnInIdeal (hKernelWFfnInIdeal := hKernelWFfnInIdeal) (hReferenceWFfnInIdeal := hReferenceWFfnInIdeal)
    ∧ preserves_KernelXFfnIn_KernelXFfnInIdeal
    ∧ algebraic_KernelXFfnInIdeal_ReferenceXFfnInIdeal (hKernelXFfnInIdeal := hKernelXFfnInIdeal) (hReferenceXFfnInIdeal := hReferenceXFfnInIdeal)
    ∧ preserves_KernelWFfnOut_KernelWFfnOutIdeal
    ∧ algebraic_KernelWFfnOutIdeal_ReferenceWFfnOutIdeal (hKernelWFfnOutIdeal := hKernelWFfnOutIdeal) (hReferenceWFfnOutIdeal := hReferenceWFfnOutIdeal)
    ∧ preserves_KernelXFfnOut_KernelXFfnOutIdeal
    ∧ algebraic_KernelXFfnOutIdeal_ReferenceXFfnOutIdeal (hKernelXFfnOutIdeal := hKernelXFfnOutIdeal) (hReferenceXFfnOutIdeal := hReferenceXFfnOutIdeal)
    ∧ preserves_KernelWOut_KernelWOutIdeal
    ∧ algebraic_KernelWOutIdeal_ReferenceWOutIdeal (hKernelWOutIdeal := hKernelWOutIdeal) (hReferenceWOutIdeal := hReferenceWOutIdeal)
    ∧ preserves_KernelXOut_KernelXOutIdeal
    ∧ algebraic_KernelXOutIdeal_ReferenceXOutIdeal (hKernelXOutIdeal := hKernelXOutIdeal) (hReferenceXOutIdeal := hReferenceXOutIdeal)
    ∧ preserves_KernelXProj_KernelXProjIdeal
    ∧ algebraic_KernelXProjIdeal_ReferenceXProjIdeal (hKernelXProjIdeal := hKernelXProjIdeal) (hReferenceXProjIdeal := hReferenceXProjIdeal)
    ∧ preserves_KernelWUq_KernelWUqIdeal
    ∧ algebraic_KernelWUqIdeal_ReferenceWUqIdeal (hKernelWUqIdeal := hKernelWUqIdeal) (hReferenceWUqIdeal := hReferenceWUqIdeal)
    ∧ preserves_KernelXUq_KernelXUqIdeal
    ∧ algebraic_KernelXUqIdeal_ReferenceXUqIdeal (hKernelXUqIdeal := hKernelXUqIdeal) (hReferenceXUqIdeal := hReferenceXUqIdeal)
    ∧ preserves_KernelWUkv_KernelWUkvIdeal
    ∧ algebraic_KernelWUkvIdeal_ReferenceWUkvIdeal (hKernelWUkvIdeal := hKernelWUkvIdeal) (hReferenceWUkvIdeal := hReferenceWUkvIdeal)
    ∧ preserves_KernelXUkv_KernelXUkvIdeal
    ∧ algebraic_KernelXUkvIdeal_ReferenceXUkvIdeal (hKernelXUkvIdeal := hKernelXUkvIdeal) (hReferenceXUkvIdeal := hReferenceXUkvIdeal)
    ∧ preserves_KernelFInProj_KernelFInProjIdeal
    ∧ algebraic_KernelFInProjIdeal_ReferenceFInProjIdeal (hKernelFInProjIdeal := hKernelFInProjIdeal) (hReferenceFInProjIdeal := hReferenceFInProjIdeal)
    ∧ preserves_KernelFFfnIn_KernelFFfnInIdeal
    ∧ algebraic_KernelFFfnInIdeal_ReferenceFFfnInIdeal (hKernelFFfnInIdeal := hKernelFFfnInIdeal) (hReferenceFFfnInIdeal := hReferenceFFfnInIdeal)
    ∧ preserves_KernelFFfnOut_KernelFFfnOutIdeal
    ∧ algebraic_KernelFFfnOutIdeal_ReferenceFFfnOutIdeal (hKernelFFfnOutIdeal := hKernelFFfnOutIdeal) (hReferenceFFfnOutIdeal := hReferenceFFfnOutIdeal)
    ∧ preserves_KernelFProj_KernelFProjIdeal
    ∧ algebraic_KernelFProjIdeal_ReferenceFProjIdeal (hKernelFProjIdeal := hKernelFProjIdeal) (hReferenceFProjIdeal := hReferenceFProjIdeal)
    ∧ preserves_KernelFOut_KernelFOutIdeal
    ∧ algebraic_KernelFOutIdeal_ReferenceFOutIdeal (hKernelFOutIdeal := hKernelFOutIdeal) (hReferenceFOutIdeal := hReferenceFOutIdeal)
    ∧ preserves_KernelFUq_KernelFUqIdeal
    ∧ algebraic_KernelFUqIdeal_ReferenceFUqIdeal (hKernelFUqIdeal := hKernelFUqIdeal) (hReferenceFUqIdeal := hReferenceFUqIdeal)
    ∧ preserves_KernelFUkv_KernelFUkvIdeal
    ∧ algebraic_KernelFUkvIdeal_ReferenceFUkvIdeal (hKernelFUkvIdeal := hKernelFUkvIdeal) (hReferenceFUkvIdeal := hReferenceFUkvIdeal)
    ∧ preserves_KernelSwigluB_KernelSwigluBIdeal
    ∧ algebraic_KernelSwigluBIdeal_ReferenceSwigluBIdeal (hKernelSwigluBIdeal := hKernelSwigluBIdeal) (hReferenceSwigluBIdeal := hReferenceSwigluBIdeal)
    ∧ preserves_KernelSwigluF_KernelSwigluFIdeal
    ∧ algebraic_KernelSwigluFIdeal_ReferenceSwigluFIdeal (hKernelSwigluFIdeal := hKernelSwigluFIdeal) (hReferenceSwigluFIdeal := hReferenceSwigluFIdeal)
    ∧ preserves_KernelMergeB_KernelMergeBIdeal
    ∧ algebraic_KernelMergeBIdeal_ReferenceMergeBIdeal (hKernelMergeBIdeal := hKernelMergeBIdeal) (hReferenceMergeBIdeal := hReferenceMergeBIdeal)
    ∧ preserves_KernelMergeF_KernelMergeFIdeal
    ∧ algebraic_KernelMergeFIdeal_ReferenceMergeFIdeal (hKernelMergeFIdeal := hKernelMergeFIdeal) (hReferenceMergeFIdeal := hReferenceMergeFIdeal)
    ∧ preserves_KernelLatNormB_KernelLatNormBIdeal
    ∧ algebraic_KernelLatNormBIdeal_ReferenceLatNormBIdeal (hKernelLatNormBIdeal := hKernelLatNormBIdeal) (hReferenceLatNormBIdeal := hReferenceLatNormBIdeal)
    ∧ preserves_KernelLatNormF_KernelLatNormFIdeal
    ∧ algebraic_KernelLatNormFIdeal_ReferenceLatNormFIdeal (hKernelLatNormFIdeal := hKernelLatNormFIdeal) (hReferenceLatNormFIdeal := hReferenceLatNormFIdeal)
    ∧ preserves_KernelAdamMod_KernelAdamModIdeal
    ∧ algebraic_KernelAdamModIdeal_ReferenceAdamModIdeal (hKernelAdamModIdeal := hKernelAdamModIdeal) (hReferenceAdamModIdeal := hReferenceAdamModIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamUq_KernelAdamUqIdeal
    ∧ algebraic_KernelAdamUqIdeal_ReferenceAdamUqIdeal (hKernelAdamUqIdeal := hKernelAdamUqIdeal) (hReferenceAdamUqIdeal := hReferenceAdamUqIdeal)
    ∧ preserves_KernelAdamUkv_KernelAdamUkvIdeal
    ∧ algebraic_KernelAdamUkvIdeal_ReferenceAdamUkvIdeal (hKernelAdamUkvIdeal := hKernelAdamUkvIdeal) (hReferenceAdamUkvIdeal := hReferenceAdamUkvIdeal)
    ∧ preserves_KernelAdamOut_KernelAdamOutIdeal
    ∧ algebraic_KernelAdamOutIdeal_ReferenceAdamOutIdeal (hKernelAdamOutIdeal := hKernelAdamOutIdeal) (hReferenceAdamOutIdeal := hReferenceAdamOutIdeal)
    ∧ preserves_KernelAdamFfnIn_KernelAdamFfnInIdeal
    ∧ algebraic_KernelAdamFfnInIdeal_ReferenceAdamFfnInIdeal (hKernelAdamFfnInIdeal := hKernelAdamFfnInIdeal) (hReferenceAdamFfnInIdeal := hReferenceAdamFfnInIdeal)
    ∧ preserves_KernelAdamFfnOut_KernelAdamFfnOutIdeal
    ∧ algebraic_KernelAdamFfnOutIdeal_ReferenceAdamFfnOutIdeal (hKernelAdamFfnOutIdeal := hKernelAdamFfnOutIdeal) (hReferenceAdamFfnOutIdeal := hReferenceAdamFfnOutIdeal)
    ∧ preserves_KernelAdamSmall_KernelAdamSmallIdeal
    ∧ algebraic_KernelAdamSmallIdeal_ReferenceAdamSmallIdeal (hKernelAdamSmallIdeal := hKernelAdamSmallIdeal) (hReferenceAdamSmallIdeal := hReferenceAdamSmallIdeal)
    ∧ preserves_KernelSsdOutF_KernelSsdOutFIdeal
    ∧ algebraic_KernelSsdOutFIdeal_ReferenceSsdOutFIdeal (hKernelSsdOutFIdeal := hKernelSsdOutFIdeal) (hReferenceSsdOutFIdeal := hReferenceSsdOutFIdeal)
    ∧ preserves_KernelNormF_KernelNormFIdeal
    ∧ algebraic_KernelNormFIdeal_ReferenceNormFIdeal (hKernelNormFIdeal := hKernelNormFIdeal) (hReferenceNormFIdeal := hReferenceNormFIdeal)
    ∧ preserves_KernelRes1F_KernelRes1FIdeal
    ∧ algebraic_KernelRes1FIdeal_ReferenceRes1FIdeal (hKernelRes1FIdeal := hKernelRes1FIdeal) (hReferenceRes1FIdeal := hReferenceRes1FIdeal)
    ∧ preserves_KernelRes2F_KernelRes2FIdeal
    ∧ algebraic_KernelRes2FIdeal_ReferenceRes2FIdeal (hKernelRes2FIdeal := hKernelRes2FIdeal) (hReferenceRes2FIdeal := hReferenceRes2FIdeal)
-- ==== Pre_finite.lean ====
abbrev S8448x2048 : Shape := ⟨2, ![8448, 2048]⟩
abbrev S8448x1024 : Shape := ⟨2, ![8448, 1024]⟩
abbrev S_ : Shape := ⟨0, ![]⟩

class Facts : Prop where
  bitsLt_bf16_f32 : FTy.bits .bf16 < FTy.bits .f32
  bcast_S_S8448x2048 : S_.BroadcastsInDim S8448x2048 (![] : Fin 0 → Fin S8448x2048.rank)
  bcast_S_S8448x1024 : S_.BroadcastsInDim S8448x1024 (![] : Fin 0 → Fin S8448x1024.rank)
  concatenates_S8448x1024_S8448x1024_S8448x2048_d1 : Shape.Concatenates [S8448x1024, S8448x1024] S8448x2048 1

variable [Facts]

def fn {F : FTy → Type} [FloatOps F] (main_arg0 : FVec F S8448x2048 .bf16) (main_arg1 : FVec F S8448x2048 .bf16) (main_arg2 : FVec F S8448x1024 .bf16) (main_arg3 : FVec F S8448x1024 .bf16) : IVec S8448x2048 1 :=
  let main_v0 : FVec F S8448x2048 .f32 := (extf .f32 · bitsLt_bf16_f32) main_arg0
  let main_v1 : FVec F S8448x2048 .f32 := Host.absf main_v0
  let main_cst : FVec F S_ .f32 := constant S_ .f32 0x7F800000#32
  let main_v2 : FVec F S8448x2048 .f32 := broadcastInDim S8448x2048 ![] bcast_S_S8448x2048 main_cst
  let main_v3 : IVec S8448x2048 1 := cmpf .olt main_v1 main_v2
  let main_v4 : FVec F S8448x2048 .f32 := (extf .f32 · bitsLt_bf16_f32) main_arg1
  let main_v5 : FVec F S8448x2048 .f32 := Host.absf main_v4
  let main_cst_0 : FVec F S_ .f32 := constant S_ .f32 0x7F800000#32
  let main_v6 : FVec F S8448x2048 .f32 := broadcastInDim S8448x2048 ![] bcast_S_S8448x2048 main_cst_0
  let main_v7 : IVec S8448x2048 1 := cmpf .olt main_v5 main_v6
  let main_v8 : FVec F S8448x1024 .f32 := (extf .f32 · bitsLt_bf16_f32) main_arg2
  let main_v9 : FVec F S8448x1024 .f32 := Host.absf main_v8
  let main_cst_1 : FVec F S_ .f32 := constant S_ .f32 0x7F800000#32
  let main_v10 : FVec F S8448x1024 .f32 := broadcastInDim S8448x1024 ![] bcast_S_S8448x1024 main_cst_1
  let main_v11 : IVec S8448x1024 1 := cmpf .olt main_v9 main_v10
  let main_v12 : FVec F S8448x1024 .f32 := (extf .f32 · bitsLt_bf16_f32) main_arg3
  let main_v13 : FVec F S8448x1024 .f32 := Host.absf main_v12
  let main_cst_2 : FVec F S_ .f32 := constant S_ .f32 0x7F800000#32
  let main_v14 : FVec F S8448x1024 .f32 := broadcastInDim S8448x1024 ![] bcast_S_S8448x1024 main_cst_2
  let main_v15 : IVec S8448x1024 1 := cmpf .olt main_v13 main_v14
  let main_v16 : IVec S8448x2048 1 := andi main_v3 main_v7
  let main_v17 : IVec S8448x2048 1 := (fun a b => concatenate S8448x2048 1 [⟨S8448x1024, a⟩, ⟨S8448x1024, b⟩] concatenates_S8448x1024_S8448x1024_S8448x2048_d1) main_v11 main_v15
  let main_v18 : IVec S8448x2048 1 := andi main_v16 main_v17
  main_v18
-- ==== Kernel.lean ====
abbrev S8448x2048 : Shape := ⟨2, ![8448, 2048]⟩
abbrev S8448x1024 : Shape := ⟨2, ![8448, 1024]⟩
abbrev S8x8448x1 : Shape := ⟨3, ![8, 8448, 1]⟩
abbrev S256x256 : Shape := ⟨2, ![256, 256]⟩
abbrev S8448x256 : Shape := ⟨2, ![8448, 256]⟩
abbrev S8448x128 : Shape := ⟨2, ![8448, 128]⟩
abbrev S256x128 : Shape := ⟨2, ![256, 128]⟩
abbrev S1x256x1 : Shape := ⟨3, ![1, 256, 1]⟩
abbrev S2816x256 : Shape := ⟨2, ![2816, 256]⟩
abbrev S256x2816 : Shape := ⟨2, ![256, 2816]⟩
abbrev S256 : Shape := ⟨1, ![256]⟩
abbrev S256x1 : Shape := ⟨2, ![256, 1]⟩
abbrev S2816x128 : Shape := ⟨2, ![2816, 128]⟩
abbrev S2048x8448 : Shape := ⟨2, ![2048, 8448]⟩
abbrev S1024x8448 : Shape := ⟨2, ![1024, 8448]⟩
abbrev S256x8448 : Shape := ⟨2, ![256, 8448]⟩
abbrev S128x8448 : Shape := ⟨2, ![128, 8448]⟩
abbrev S4224x256 : Shape := ⟨2, ![4224, 256]⟩
abbrev S256x4224 : Shape := ⟨2, ![256, 4224]⟩
abbrev S4224x128 : Shape := ⟨2, ![4224, 128]⟩
abbrev S128x4224 : Shape := ⟨2, ![128, 4224]⟩
abbrev S128x256 : Shape := ⟨2, ![128, 256]⟩

abbrev nBuf : Space → Nat
  | .hbm => 9
  | .vmem => 28
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S8448x1024, .bf16⟩
  | .hbm, ⟨3, _⟩ => ⟨S8448x1024, .bf16⟩
  | .hbm, ⟨4, _⟩ => ⟨S8448x1024, .bf16⟩
  | .hbm, ⟨5, _⟩ => ⟨S8x8448x1, .f32⟩
  | .hbm, ⟨6, _⟩ => ⟨S8448x2048, .f32⟩
  | .hbm, ⟨7, _⟩ => ⟨S2048x8448, .f32⟩
  | .hbm, ⟨8, _⟩ => ⟨S1024x8448, .f32⟩
  | .local _ .vmem, ⟨0, _⟩ => ⟨S256x256, .bf16⟩
  | .local _ .vmem, ⟨1, _⟩ => ⟨S256x256, .bf16⟩
  | .local _ .vmem, ⟨2, _⟩ => ⟨S8448x256, .bf16⟩
  | .local _ .vmem, ⟨3, _⟩ => ⟨S8448x256, .bf16⟩
  | .local _ .vmem, ⟨4, _⟩ => ⟨S8448x128, .bf16⟩
  | .local _ .vmem, ⟨5, _⟩ => ⟨S8448x128, .bf16⟩
  | .local _ .vmem, ⟨6, _⟩ => ⟨S256x128, .bf16⟩
  | .local _ .vmem, ⟨7, _⟩ => ⟨S256x128, .bf16⟩
  | .local _ .vmem, ⟨8, _⟩ => ⟨S1x256x1, .f32⟩
  | .local _ .vmem, ⟨9, _⟩ => ⟨S1x256x1, .f32⟩
  | .local _ .vmem, ⟨10, _⟩ => ⟨S256x256, .bf16⟩
  | .local _ .vmem, ⟨11, _⟩ => ⟨S256x256, .bf16⟩
  | .local _ .vmem, ⟨12, _⟩ => ⟨S8448x256, .bf16⟩
  | .local _ .vmem, ⟨13, _⟩ => ⟨S8448x256, .bf16⟩
  | .local _ .vmem, ⟨14, _⟩ => ⟨S8448x128, .bf16⟩
  | .local _ .vmem, ⟨15, _⟩ => ⟨S8448x128, .bf16⟩
  | .local _ .vmem, ⟨16, _⟩ => ⟨S256x128, .bf16⟩
  | .local _ .vmem, ⟨17, _⟩ => ⟨S256x128, .bf16⟩
  | .local _ .vmem, ⟨18, _⟩ => ⟨S256x128, .bf16⟩
  | .local _ .vmem, ⟨19, _⟩ => ⟨S256x128, .bf16⟩
  | .local _ .vmem, ⟨20, _⟩ => ⟨S1x256x1, .f32⟩
  | .local _ .vmem, ⟨21, _⟩ => ⟨S1x256x1, .f32⟩
  | .local _ .vmem, ⟨22, _⟩ => ⟨S256x256, .f32⟩
  | .local _ .vmem, ⟨23, _⟩ => ⟨S256x256, .f32⟩
  | .local _ .vmem, ⟨24, _⟩ => ⟨S256x8448, .f32⟩
  | .local _ .vmem, ⟨25, _⟩ => ⟨S256x8448, .f32⟩
  | .local _ .vmem, ⟨26, _⟩ => ⟨S128x8448, .f32⟩
  | .local _ .vmem, ⟨27, _⟩ => ⟨S128x8448, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![8, 33], ![false, false]⟩

def k0_cond1 (i : grid0.Coords) : BitVec 1 :=
  let arg1 : BitVec 32 := BitVec.ofNat 32 (i 1).val
  let c32_i32 : BitVec 32 := 32#32
  let v0 : BitVec 1 := Scalar.cmpi .slt arg1 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c32_i32_0 : BitVec 32 := 32#32
  let v3 : BitVec 1 := Scalar.cmpi .eq arg1 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 33], ![false, false]⟩

def k1_cond2 (i : grid1.Coords) : BitVec 1 :=
  let arg1 : BitVec 32 := BitVec.ofNat 32 (i 1).val
  let c32_i32 : BitVec 32 := 32#32
  let v12 : BitVec 1 := Scalar.cmpi .slt arg1 c32_i32
  let v13 : BitVec 32 := Scalar.extui v12
  let c0_i32_6 : BitVec 32 := 0#32
  let v14 : BitVec 1 := Scalar.cmpi .ne v13 c0_i32_6
  v14

def k1_cond3 (i : grid1.Coords) : BitVec 1 :=
  let arg1 : BitVec 32 := BitVec.ofNat 32 (i 1).val
  let c32_i32_7 : BitVec 32 := 32#32
  let v15 : BitVec 1 := Scalar.cmpi .eq arg1 c32_i32_7
  let v16 : BitVec 32 := Scalar.extui v15
  let c0_i32_8 : BitVec 32 := 0#32
  let v17 : BitVec 1 := Scalar.cmpi .ne v16 c0_i32_8
  v17

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8448x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8448x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S256x8448 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S128x8448 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== KernelIdeal.lean ====
variable {F : FTy → Type} [FloatOps F] [Named F]
def κ : String → Option EReal := fun
  | "log2e" => some (((Real.log 2)⁻¹ : ℝ) : EReal)
  | "scale" => some (((Real.sqrt 192)⁻¹ : ℝ) : EReal)
  | "scale_log2e" => some (((Real.sqrt 192)⁻¹ * (Real.log 2)⁻¹ : ℝ) : EReal)
  | _ => none
-- ==== ReferenceIdeal.lean ====
abbrev S8448x2048 : Shape := ⟨2, ![8448, 2048]⟩
abbrev S8448x1024 : Shape := ⟨2, ![8448, 1024]⟩
abbrev S8448x8x256 : Shape := ⟨3, ![8448, 8, 256]⟩
abbrev S8448x8x128 : Shape := ⟨3, ![8448, 8, 128]⟩
abbrev S8192x8x256 : Shape := ⟨3, ![8192, 8, 256]⟩
abbrev S8x8192x8448 : Shape := ⟨3, ![8, 8192, 8448]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8192x8x128 : Shape := ⟨3, ![8192, 8, 128]⟩
abbrev S256x8x256 : Shape := ⟨3, ![256, 8, 256]⟩
abbrev S256x8x128 : Shape := ⟨3, ![256, 8, 128]⟩
abbrev S8x256x256 : Shape := ⟨3, ![8, 256, 256]⟩
abbrev S8x256 : Shape := ⟨2, ![8, 256]⟩
abbrev S8x256x1 : Shape := ⟨3, ![8, 256, 1]⟩
abbrev S8x128x256 : Shape := ⟨3, ![8, 128, 256]⟩
abbrev S8x128x8448 : Shape := ⟨3, ![8, 128, 8448]⟩
abbrev S8x8448x256 : Shape := ⟨3, ![8, 8448, 256]⟩
abbrev S8x8192x256 : Shape := ⟨3, ![8, 8192, 256]⟩
abbrev S2048x8448 : Shape := ⟨2, ![2048, 8448]⟩
abbrev S1024x8448 : Shape := ⟨2, ![1024, 8448]⟩

abbrev nBuf : Space → Nat
  | .hbm => 175
  | .vmem => 0
  | .smem => 0
  | _ => 0

abbrev hbmTy0_0 (i : Nat) : BufTy := match i % 128 with
  | 0 => ⟨S8448x2048, .bf16⟩
  | 1 => ⟨S8448x2048, .bf16⟩
  | 2 => ⟨S8448x1024, .bf16⟩
  | 3 => ⟨S8448x1024, .bf16⟩
  | 4 => ⟨S8448x2048, .f32⟩
  | 5 => ⟨S8448x2048, .f32⟩
  | 6 => ⟨S8448x1024, .f32⟩
  | 7 => ⟨S8448x8x256, .f32⟩
  | 8 => ⟨S8448x8x256, .f32⟩
  | 9 => ⟨S8448x8x128, .f32⟩
  | 10 => ⟨S8192x8x256, .f32⟩
  | 11 => ⟨S8x8192x8448, .f32⟩
  | 12 => ⟨S_, .f32⟩
  | 13 => ⟨S_, .f32⟩
  | 14 => ⟨S8x8192x8448, .f32⟩
  | 15 => ⟨S8x8192x8448, .f32⟩
  | 16 => ⟨S_, .f32⟩
  | 17 => ⟨S8x8192, .f32⟩
  | 18 => ⟨S8x8192x1, .f32⟩
  | 19 => ⟨S8x8192x8448, .f32⟩
  | 20 => ⟨S8x8192x8448, .i1⟩
  | 21 => ⟨S8x8192x8448, .f32⟩
  | 22 => ⟨S_, .f32⟩
  | 23 => ⟨S8x8192, .f32⟩
  | 24 => ⟨S_, .f32⟩
  | 25 => ⟨S8x8192, .f32⟩
  | 26 => ⟨S8x8192, .f32⟩
  | 27 => ⟨S_, .f32⟩
  | 28 => ⟨S8x8192, .f32⟩
  | 29 => ⟨S8x8192, .i1⟩
  | 30 => ⟨S_, .f32⟩
  | 31 => ⟨S8x8192, .f32⟩
  | 32 => ⟨S8x8192, .i1⟩
  | 33 => ⟨S_, .f32⟩
  | 34 => ⟨S8x8192, .f32⟩
  | 35 => ⟨S_, .f32⟩
  | 36 => ⟨S8x8192, .f32⟩
  | 37 => ⟨S_, .f32⟩
  | 38 => ⟨S8x8192, .f32⟩
  | 39 => ⟨S8x8192, .f32⟩
  | 40 => ⟨S8x8192, .f32⟩
  | 41 => ⟨S8x8192x1, .f32⟩
  | 42 => ⟨S8x8192x8448, .f32⟩
  | 43 => ⟨S8x8192x8448, .f32⟩
  | 44 => ⟨S8x8192x8448, .f32⟩
  | 45 => ⟨S_, .f32⟩
  | 46 => ⟨S8x8192, .f32⟩
  | 47 => ⟨S8x8192x1, .f32⟩
  | 48 => ⟨S8x8192x8448, .f32⟩
  | 49 => ⟨S8x8192x8448, .f32⟩
  | 50 => ⟨S8x8192x1, .f32⟩
  | 51 => ⟨S_, .f32⟩
  | 52 => ⟨S8x8192x1, .f32⟩
  | 53 => ⟨S8x8192x1, .f32⟩
  | 54 => ⟨S8x128x8192, .f32⟩
  | 55 => ⟨S8192x8x128, .f32⟩
  | 56 => ⟨S256x8x256, .f32⟩
  | 57 => ⟨S256x8x256, .f32⟩
  | 58 => ⟨S256x8x128, .f32⟩
  | 59 => ⟨S8x256x256, .f32⟩
  | 60 => ⟨S_, .f32⟩
  | 61 => ⟨S_, .f32⟩
  | 62 => ⟨S8x256x256, .f32⟩
  | 63 => ⟨S8x256x256, .f32⟩
  | 64 => ⟨S_, .f32⟩
  | 65 => ⟨S8x256, .f32⟩
  | 66 => ⟨S8x256x1, .f32⟩
  | 67 => ⟨S8x256x256, .f32⟩
  | 68 => ⟨S8x256x256, .i1⟩
  | 69 => ⟨S8x256x256, .f32⟩
  | 70 => ⟨S_, .f32⟩
  | 71 => ⟨S8x256, .f32⟩
  | 72 => ⟨S_, .f32⟩
  | 73 => ⟨S8x256, .f32⟩
  | 74 => ⟨S8x256, .f32⟩
  | 75 => ⟨S_, .f32⟩
  | 76 => ⟨S8x256, .f32⟩
  | 77 => ⟨S8x256, .i1⟩
  | 78 => ⟨S_, .f32⟩
  | 79 => ⟨S8x256, .f32⟩
  | 80 => ⟨S8x256, .i1⟩
  | 81 => ⟨S_, .f32⟩
  | 82 => ⟨S8x256, .f32⟩
  | 83 => ⟨S_, .f32⟩
  | 84 => ⟨S8x256, .f32⟩
  | 85 => ⟨S_, .f32⟩
  | 86 => ⟨S8x256, .f32⟩
  | 87 => ⟨S8x256, .f32⟩
  | 88 => ⟨S8x256, .f32⟩
  | 89 => ⟨S8x256x1, .f32⟩
  | 90 => ⟨S8x256x256, .f32⟩
  | 91 => ⟨S8x256x256, .f32⟩
  | 92 => ⟨S8x256x256, .f32⟩
  | 93 => ⟨S_, .f32⟩
  | 94 => ⟨S8x256, .f32⟩
  | 95 => ⟨S8x256x1, .f32⟩
  | 96 => ⟨S8x256x256, .f32⟩
  | 97 => ⟨S8x256x256, .f32⟩
  | 98 => ⟨S8x256x1, .f32⟩
  | 99 => ⟨S_, .f32⟩
  | 100 => ⟨S8x256x1, .f32⟩
  | 101 => ⟨S8x256x1, .f32⟩
  | 102 => ⟨S8x128x256, .f32⟩
  | 103 => ⟨S256x8x128, .f32⟩
  | 104 => ⟨S8448x8x128, .f32⟩
  | 105 => ⟨S8448x1024, .f32⟩
  | 106 => ⟨S8448x1024, .f32⟩
  | 107 => ⟨S8448x8x128, .f32⟩
  | 108 => ⟨S8192x8x128, .f32⟩
  | 109 => ⟨S256x8x128, .f32⟩
  | 110 => ⟨S8x128x256, .f32⟩
  | 111 => ⟨S8x256x256, .f32⟩
  | 112 => ⟨S8x128x256, .f32⟩
  | 113 => ⟨S256x8x128, .f32⟩
  | 114 => ⟨S8x256x256, .f32⟩
  | 115 => ⟨S8x256x256, .f32⟩
  | 116 => ⟨S8x256x256, .f32⟩
  | 117 => ⟨S_, .f32⟩
  | 118 => ⟨S8x256, .f32⟩
  | 119 => ⟨S8x256x1, .f32⟩
  | 120 => ⟨S8x256x1, .f32⟩
  | 121 => ⟨S8x256x256, .f32⟩
  | 122 => ⟨S8x256x256, .f32⟩
  | 123 => ⟨S_, .f32⟩
  | 124 => ⟨S8x256, .f32⟩
  | 125 => ⟨S8x256x256, .f32⟩
  | 126 => ⟨S8x256x256, .f32⟩
  | 127 => ⟨S8x256x256, .f32⟩
  | _ => ⟨S8448x2048, .bf16⟩

abbrev hbmTy0_1 (i : Nat) : BufTy := match i % 128 with
  | 0 => ⟨S8x256x256, .f32⟩
  | 1 => ⟨S8x256x256, .f32⟩
  | 2 => ⟨S8x256x256, .f32⟩
  | 3 => ⟨S256x8x256, .f32⟩
  | 4 => ⟨S8x256x256, .f32⟩
  | 5 => ⟨S256x8x256, .f32⟩
  | 6 => ⟨S_, .f32⟩
  | 7 => ⟨S8448x8x128, .f32⟩
  | 8 => ⟨S_, .f32⟩
  | 9 => ⟨S8448x8x256, .f32⟩
  | 10 => ⟨S_, .f32⟩
  | 11 => ⟨S8448x8x256, .f32⟩
  | 12 => ⟨S8x128x8192, .f32⟩
  | 13 => ⟨S8x8192x8448, .f32⟩
  | 14 => ⟨S8x128x8448, .f32⟩
  | 15 => ⟨S8448x8x128, .f32⟩
  | 16 => ⟨S8448x8x128, .f32⟩
  | 17 => ⟨S8x8192x8448, .f32⟩
  | 18 => ⟨S8x8192x8448, .f32⟩
  | 19 => ⟨S8x8192x8448, .f32⟩
  | 20 => ⟨S_, .f32⟩
  | 21 => ⟨S8x8192, .f32⟩
  | 22 => ⟨S8x8192x1, .f32⟩
  | 23 => ⟨S8x8192x1, .f32⟩
  | 24 => ⟨S8x8192x8448, .f32⟩
  | 25 => ⟨S8x8192x8448, .f32⟩
  | 26 => ⟨S_, .f32⟩
  | 27 => ⟨S8x8192, .f32⟩
  | 28 => ⟨S8x8192x8448, .f32⟩
  | 29 => ⟨S8x8192x8448, .f32⟩
  | 30 => ⟨S8x8192x8448, .f32⟩
  | 31 => ⟨S8x8192x8448, .f32⟩
  | 32 => ⟨S8x8192x8448, .f32⟩
  | 33 => ⟨S8x8448x256, .f32⟩
  | 34 => ⟨S8448x8x256, .f32⟩
  | 35 => ⟨S8448x8x256, .f32⟩
  | 36 => ⟨S8x8192x256, .f32⟩
  | 37 => ⟨S8192x8x256, .f32⟩
  | 38 => ⟨S_, .f32⟩
  | 39 => ⟨S8448x8x256, .f32⟩
  | 40 => ⟨S8448x8x256, .f32⟩
  | 41 => ⟨S8448x1024, .f32⟩
  | 42 => ⟨S8448x2048, .f32⟩
  | 43 => ⟨S8448x2048, .f32⟩
  | 44 => ⟨S8448x1024, .bf16⟩
  | 45 => ⟨S2048x8448, .f32⟩
  | 46 => ⟨S1024x8448, .f32⟩
  | _ => ⟨S8448x2048, .bf16⟩

abbrev hbmTy (i : Nat) : BufTy := match i / 128 with
  | 0 => hbmTy0_0 i
  | 1 => hbmTy0_1 i
  | _ => ⟨S8448x2048, .bf16⟩

abbrev bufTy : (tb : Table) → Fin (tcTables nBuf tb) → BufTy
  | .hbm, ⟨i, _⟩ => hbmTy i
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_cst_13 : Ref sig .tc := ⟨.hbm, 72, rfl⟩
abbrev main_v54 : Ref sig .tc := ⟨.hbm, 73, rfl⟩
abbrev main_v55 : Ref sig .tc := ⟨.hbm, 74, rfl⟩
abbrev main_cst_14 : Ref sig .tc := ⟨.hbm, 75, rfl⟩
abbrev main_v56 : Ref sig .tc := ⟨.hbm, 76, rfl⟩
abbrev main_v57 : Ref sig .tc := ⟨.hbm, 77, rfl⟩
abbrev main_cst_15 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_cst_17 : Ref sig .tc := ⟨.hbm, 83, rfl⟩
abbrev main_v61 : Ref sig .tc := ⟨.hbm, 84, rfl⟩
abbrev main_cst_18 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_19 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_20 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_21 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_22 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_cst_23 : Ref sig .tc := ⟨.hbm, 134, rfl⟩
abbrev main_v106 : Ref sig .tc := ⟨.hbm, 135, rfl⟩
abbrev main_cst_24 : Ref sig .tc := ⟨.hbm, 136, rfl⟩
abbrev main_v107 : Ref sig .tc := ⟨.hbm, 137, rfl⟩
abbrev main_cst_25 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_26 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_cst_27 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_cst_28 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩

abbrev nD : Nat := 1
abbrev τ : Topo := Topo.v7x

variable {F : FTy → Type} [FloatOps F]
-- ==== KernelWInProj.lean ====
abbrev S8448x1024 : Shape := ⟨2, ![8448, 1024]⟩
abbrev S8448x8064 : Shape := ⟨2, ![8448, 8064]⟩
abbrev S1024x8064 : Shape := ⟨2, ![1024, 8064]⟩
abbrev S1408x1024 : Shape := ⟨2, ![1408, 1024]⟩
abbrev S1408x1152 : Shape := ⟨2, ![1408, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x8064, .bf16⟩
  | .hbm, ⟨2, _⟩ => ⟨S1024x8064, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1152, .bf16⟩
  | .local _ .vmem, ⟨3, _⟩ => ⟨S1408x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWInProjIdeal.lean ====
abbrev S8448x1024 : Shape := ⟨2, ![8448, 1024]⟩
abbrev S8448x8064 : Shape := ⟨2, ![8448, 8064]⟩
abbrev S_ : Shape := ⟨0, ![]⟩
abbrev S1024x8064 : Shape := ⟨2, ![1024, 8064]⟩
abbrev S8064x1024 : Shape := ⟨2, ![8064, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x8064, .bf16⟩
  | .hbm, ⟨2, _⟩ => ⟨S_, .bf16⟩
  | .hbm, ⟨3, _⟩ => ⟨S1024x8064, .bf16⟩
  | .hbm, ⟨4, _⟩ => ⟨S8448x8064, .f32⟩
  | .hbm, ⟨5, _⟩ => ⟨S8448x8064, .f32⟩
  | .hbm, ⟨6, _⟩ => ⟨S8064x1024, .f32⟩
  | .hbm, ⟨7, _⟩ => ⟨S1024x8064, .f32⟩
  | .hbm, ⟨8, _⟩ => ⟨S1024x8064, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelXInProj.lean ====
abbrev S8448x8064 : Shape := ⟨2, ![8448, 8064]⟩
abbrev S1024x8064 : Shape := ⟨2, ![1024, 8064]⟩
abbrev S8448x1024 : Shape := ⟨2, ![8448, 1024]⟩
abbrev S1408x1152 : Shape := ⟨2, ![1408, 1152]⟩
abbrev S1024x1152 : Shape := ⟨2, ![1024, 1152]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x8064, .bf16⟩
  | .hbm, ⟨1, _⟩ => ⟨S1024x8064, .bf16⟩
  | .hbm, ⟨2, _⟩ => ⟨S8448x1024, .f32⟩
  | .local _ .vmem, ⟨0, _⟩ => ⟨S1408x1152, .bf16⟩
  | .local _ .vmem, ⟨1, _⟩ => ⟨S1408x1152, .bf16⟩
  | .local _ .vmem, ⟨2, _⟩ => ⟨S1024x1152, .bf16⟩
  | .local _ .vmem, ⟨3, _⟩ => ⟨S1024x1152, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8448x8064, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 7], ![false, false, false]⟩

def k0_cond3 (i : grid0.Coords) : BitVec 1 :=
  let arg2 : BitVec 32 := BitVec.ofNat 32 (i 2).val
  let c6_i32 : BitVec 32 := 6#32
  let v9 : BitVec 1 := Scalar.cmpi .eq arg2 c6_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceXInProjIdeal.lean ====
abbrev S8448x8064 : Shape := ⟨2, ![8448, 8064]⟩
abbrev S1024x8064 : Shape := ⟨2, ![1024, 8064]⟩
abbrev S_ : Shape := ⟨0, ![]⟩
abbrev S8448x1024 : Shape := ⟨2, ![8448, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8448x8064, .bf16⟩
  | .hbm, ⟨1, _⟩ => ⟨S1024x8064, .bf16⟩
  | .hbm, ⟨2, _⟩ => ⟨S_, .f32⟩
  | .hbm, ⟨3, _⟩ => ⟨S8448x1024, .f32⟩
  | .hbm, ⟨4, _⟩ => ⟨S1024x8064, .f32⟩
  | .hbm, ⟨5, _⟩ => ⟨S8448x8064, .f32⟩
  | .hbm, ⟨6, _⟩ => ⟨S8448x8064, .f32⟩
  | .hbm, ⟨7, _⟩ => ⟨S8448x1024, .f32⟩
  | _, _ => ⟨S8448x8064, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelWFfnIn.lean ====
abbrev S8448x1024 : Shape := ⟨2, ![8448, 1024]⟩
abbrev S8448x5632 : Shape := ⟨2, ![8448, 5632]⟩
abbrev S1024x5632 : Shape := ⟨2, ![1024, 5632]⟩
abbrev S1408x1024 : Shape := ⟨2, ![1408, 1024]⟩
abbrev S1408x1408 : Shape := ⟨2, ![1408, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x5632, .bf16⟩
  | .hbm, ⟨2, _⟩ => ⟨S1024x5632, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1408, .bf16⟩
  | .local _ .vmem, ⟨3, _⟩ => ⟨S1408x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWFfnInIdeal.lean ====
abbrev S8448x1024 : Shape := ⟨2, ![8448, 1024]⟩
abbrev S8448x5632 : Shape := ⟨2, ![8448, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x5632, .bf16⟩
  | .hbm, ⟨2, _⟩ => ⟨S_, .bf16⟩
  | .hbm, ⟨3, _⟩ => ⟨S1024x5632, .bf16⟩
  | .hbm, ⟨4, _⟩ => ⟨S8448x5632, .f32⟩
  | .hbm, ⟨5, _⟩ => ⟨S8448x5632, .f32⟩
  | .hbm, ⟨6, _⟩ => ⟨S5632x1024, .f32⟩
  | .hbm, ⟨7, _⟩ => ⟨S1024x5632, .f32⟩
  | .hbm, ⟨8, _⟩ => ⟨S1024x5632, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelXFfnIn.lean ====
abbrev S8448x5632 : Shape := ⟨2, ![8448, 5632]⟩
abbrev S1024x5632 : Shape := ⟨2, ![1024, 5632]⟩
abbrev S8448x1024 : Shape := ⟨2, ![8448, 1024]⟩
abbrev S1408x1408 : Shape := ⟨2, ![1408, 1408]⟩
abbrev S1024x1408 : Shape := ⟨2, ![1024, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S1024x5632, .bf16⟩
  | .hbm, ⟨2, _⟩ => ⟨S8448x1024, .f32⟩
  | .local _ .vmem, ⟨0, _⟩ => ⟨S1408x1408, .bf16⟩
  | .local _ .vmem, ⟨1, _⟩ => ⟨S1408x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceXFfnInIdeal.lean ====
abbrev S8448x5632 : Shape := ⟨2, ![8448, 5632]⟩
abbrev S1024x5632 : Shape := ⟨2, ![1024, 5632]⟩
abbrev S_ : Shape := ⟨0, ![]⟩
abbrev S8448x1024 : Shape := ⟨2, ![8448, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S1024x5632, .bf16⟩
  | .hbm, ⟨2, _⟩ => ⟨S_, .f32⟩
  | .hbm, ⟨3, _⟩ => ⟨S8448x1024, .f32⟩
  | .hbm, ⟨4, _⟩ => ⟨S1024x5632, .f32⟩
  | .hbm, ⟨5, _⟩ => ⟨S8448x5632, .f32⟩
  | .hbm, ⟨6, _⟩ => ⟨S8448x5632, .f32⟩
  | .hbm, ⟨7, _⟩ => ⟨S8448x1024, .f32⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelWFfnOut.lean ====
abbrev S8448x2816 : Shape := ⟨2, ![8448, 2816]⟩
abbrev S8448x1024 : Shape := ⟨2, ![8448, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S2816x1024, .bf16⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWFfnOutIdeal.lean ====
abbrev S8448x2816 : Shape := ⟨2, ![8448, 2816]⟩
abbrev S8448x1024 : Shape := ⟨2, ![8448, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S_, .bf16⟩
  | .hbm, ⟨3, _⟩ => ⟨S2816x1024, .bf16⟩
  | .hbm, ⟨4, _⟩ => ⟨S8448x1024, .f32⟩
  | .hbm, ⟨5, _⟩ => ⟨S8448x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelXFfnOut.lean ====
abbrev S8448x1024 : Shape := ⟨2, ![8448, 1024]⟩
abbrev S2816x1024 : Shape := ⟨2, ![2816, 1024]⟩
abbrev S8448x2816 : Shape := ⟨2, ![8448, 2816]⟩
abbrev S1408x1024 : Shape := ⟨2, ![1408, 1024]⟩
abbrev S1408x1408 : Shape := ⟨2, ![1408, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S2816x1024, .bf16⟩
  | .hbm, ⟨2, _⟩ => ⟨S8448x2816, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1408, .f32⟩
  | .local _ .vmem, ⟨5, _⟩ => ⟨S1408x1408, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceXFfnOutIdeal.lean ====
abbrev S8448x1024 : Shape := ⟨2, ![8448, 1024]⟩
abbrev S2816x1024 : Shape := ⟨2, ![2816, 1024]⟩
abbrev S_ : Shape := ⟨0, ![]⟩
abbrev S8448x2816 : Shape := ⟨2, ![8448, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S2816x1024, .bf16⟩
  | .hbm, ⟨2, _⟩ => ⟨S_, .f32⟩
  | .hbm, ⟨3, _⟩ => ⟨S8448x2816, .f32⟩
  | .hbm, ⟨4, _⟩ => ⟨S2816x1024, .f32⟩
  | .hbm, ⟨5, _⟩ => ⟨S8448x1024, .f32⟩
  | .hbm, ⟨6, _⟩ => ⟨S8448x1024, .f32⟩
  | .hbm, ⟨7, _⟩ => ⟨S8448x2816, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelWOut.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceWOutIdeal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S_, .bf16⟩
  | .hbm, ⟨3, _⟩ => ⟨S1024x1024, .bf16⟩
  | .hbm, ⟨4, _⟩ => ⟨S8448x1024, .f32⟩
  | .hbm, ⟨5, _⟩ => ⟨S8448x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelXOut.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .f32⟩
  | .local _ .vmem, ⟨4, _⟩ => ⟨S1408x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceXOutIdeal.lean ====
abbrev S8448x1024 : Shape := ⟨2, ![8448, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S_, .f32⟩
  | .hbm, ⟨3, _⟩ => ⟨S8448x1024, .f32⟩
  | .hbm, ⟨4, _⟩ => ⟨S1024x1024, .f32⟩
  | .hbm, ⟨5, _⟩ => ⟨S8448x1024, .f32⟩
  | .hbm, ⟨6, _⟩ => ⟨S8448x1024, .f32⟩
  | .hbm, ⟨7, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelXProj.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .bf16⟩
  | .local _ .vmem, ⟨4, _⟩ => ⟨S1408x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceXProjIdeal.lean ====
abbrev S8448x1024 : Shape := ⟨2, ![8448, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S_, .f32⟩
  | .hbm, ⟨3, _⟩ => ⟨S8448x1024, .f32⟩
  | .hbm, ⟨4, _⟩ => ⟨S1024x1024, .f32⟩
  | .hbm, ⟨5, _⟩ => ⟨S8448x1024, .f32⟩
  | .hbm, ⟨6, _⟩ => ⟨S8448x1024, .f32⟩
  | .hbm, ⟨7, _⟩ => ⟨S8448x1024, .f32⟩
  | .hbm, ⟨8, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelWUq.lean ====
abbrev S8448x384 : Shape := ⟨2, ![8448, 384]⟩
abbrev S8448x2048 : Shape := ⟨2, ![8448, 2048]⟩
abbrev S384x2048 : Shape := ⟨2, ![384, 2048]⟩
abbrev S1408x384 : Shape := ⟨2, ![1408, 384]⟩
abbrev S1408x1024 : Shape := ⟨2, ![1408, 1024]⟩
abbrev S384x1024 : Shape := ⟨2, ![384, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x384, .bf16⟩
  | .hbm, ⟨1, _⟩ => ⟨S8448x2048, .bf16⟩
  | .hbm, ⟨2, _⟩ => ⟨S384x2048, .bf16⟩
  | .local _ .vmem, ⟨0, _⟩ => ⟨S1408x384, .bf16⟩
  | .local _ .vmem, ⟨1, _⟩ => ⟨S1408x384, .bf16⟩
  | .local _ .vmem, ⟨2, _⟩ => ⟨S1408x1024, .bf16⟩
  | .local _ .vmem, ⟨3, _⟩ => ⟨S1408x1024, .bf16⟩
  | .local _ .vmem, ⟨4, _⟩ => ⟨S384x1024, .bf16⟩
  | .local _ .vmem, ⟨5, _⟩ => ⟨S384x1024, .bf16⟩
  | .local _ .vmem, ⟨6, _⟩ => ⟨S384x1024, .f32⟩
  | _, _ => ⟨S8448x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWUqIdeal.lean ====
abbrev S8448x384 : Shape := ⟨2, ![8448, 384]⟩
abbrev S8448x2048 : Shape := ⟨2, ![8448, 2048]⟩
abbrev S_ : Shape := ⟨0, ![]⟩
abbrev S384x2048 : Shape := ⟨2, ![384, 2048]⟩
abbrev S2048x384 : Shape := ⟨2, ![2048, 384]⟩

abbrev nBuf : Space → Nat
  | .hbm => 9
  | .vmem => 0
  | .smem => 0
  | _ => 0

abbrev bufTy : (tb : Table) → Fin (tcTables nBuf tb) → BufTy
  | .hbm, ⟨0, _⟩ => ⟨S8448x384, .bf16⟩
  | .hbm, ⟨1, _⟩ => ⟨S8448x2048, .bf16⟩
  | .hbm, ⟨2, _⟩ => ⟨S_, .bf16⟩
  | .hbm, ⟨3, _⟩ => ⟨S384x2048, .bf16⟩
  | .hbm, ⟨4, _⟩ => ⟨S8448x2048, .f32⟩
  | .hbm, ⟨5, _⟩ => ⟨S8448x2048, .f32⟩
  | .hbm, ⟨6, _⟩ => ⟨S2048x384, .f32⟩
  | .hbm, ⟨7, _⟩ => ⟨S384x2048, .f32⟩
  | .hbm, ⟨8, _⟩ => ⟨S384x2048, .bf16⟩
  | _, _ => ⟨S8448x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelXUq.lean ====
abbrev S8448x2048 : Shape := ⟨2, ![8448, 2048]⟩
abbrev S384x2048 : Shape := ⟨2, ![384, 2048]⟩
abbrev S8448x384 : Shape := ⟨2, ![8448, 384]⟩
abbrev S1408x2048 : Shape := ⟨2, ![1408, 2048]⟩
abbrev S1408x384 : Shape := ⟨2, ![1408, 384]⟩

abbrev nBuf : Space → Nat
  | .hbm => 3
  | .vmem => 5
  | .smem => 0
  | _ => 0

abbrev bufTy : (tb : Table) → Fin (tcTables nBuf tb) → BufTy
  | .hbm, ⟨0, _⟩ => ⟨S8448x2048, .bf16⟩
  | .hbm, ⟨1, _⟩ => ⟨S384x2048, .bf16⟩
  | .hbm, ⟨2, _⟩ => ⟨S8448x384, .f32⟩
  | .local _ .vmem, ⟨0, _⟩ => ⟨S1408x2048, .bf16⟩
  | .local _ .vmem, ⟨1, _⟩ => ⟨S1408x2048, .bf16⟩
  | .local _ .vmem, ⟨2, _⟩ => ⟨S384x2048, .bf16⟩
  | .local _ .vmem, ⟨3, _⟩ => ⟨S1408x384, .f32⟩
  | .local _ .vmem, ⟨4, _⟩ => ⟨S1408x384, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceXUqIdeal.lean ====
abbrev S8448x2048 : Shape := ⟨2, ![8448, 2048]⟩
abbrev S384x2048 : Shape := ⟨2, ![384, 2048]⟩
abbrev S_ : Shape := ⟨0, ![]⟩
abbrev S8448x384 : Shape := ⟨2, ![8448, 384]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S384x2048, .bf16⟩
  | .hbm, ⟨2, _⟩ => ⟨S_, .f32⟩
  | .hbm, ⟨3, _⟩ => ⟨S8448x384, .f32⟩
  | .hbm, ⟨4, _⟩ => ⟨S384x2048, .f32⟩
  | .hbm, ⟨5, _⟩ => ⟨S8448x2048, .f32⟩
  | .hbm, ⟨6, _⟩ => ⟨S8448x2048, .f32⟩
  | .hbm, ⟨7, _⟩ => ⟨S8448x384, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelWUkv.lean ====
abbrev S8448x256 : Shape := ⟨2, ![8448, 256]⟩
abbrev S8448x2048 : Shape := ⟨2, ![8448, 2048]⟩
abbrev S256x2048 : Shape := ⟨2, ![256, 2048]⟩
abbrev S1408x256 : Shape := ⟨2, ![1408, 256]⟩
abbrev S1408x1024 : Shape := ⟨2, ![1408, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x256, .bf16⟩
  | .hbm, ⟨1, _⟩ => ⟨S8448x2048, .bf16⟩
  | .hbm, ⟨2, _⟩ => ⟨S256x2048, .bf16⟩
  | .local _ .vmem, ⟨0, _⟩ => ⟨S1408x256, .bf16⟩
  | .local _ .vmem, ⟨1, _⟩ => ⟨S1408x256, .bf16⟩
  | .local _ .vmem, ⟨2, _⟩ => ⟨S1408x1024, .bf16⟩
  | .local _ .vmem, ⟨3, _⟩ => ⟨S1408x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S8448x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWUkvIdeal.lean ====
abbrev S8448x256 : Shape := ⟨2, ![8448, 256]⟩
abbrev S8448x2048 : Shape := ⟨2, ![8448, 2048]⟩
abbrev S_ : Shape := ⟨0, ![]⟩
abbrev S256x2048 : Shape := ⟨2, ![256, 2048]⟩
abbrev S2048x256 : Shape := ⟨2, ![2048, 256]⟩

abbrev nBuf : Space → Nat
  | .hbm => 9
  | .vmem => 0
  | .smem => 0
  | _ => 0

abbrev bufTy : (tb : Table) → Fin (tcTables nBuf tb) → BufTy
  | .hbm, ⟨0, _⟩ => ⟨S8448x256, .bf16⟩
  | .hbm, ⟨1, _⟩ => ⟨S8448x2048, .bf16⟩
  | .hbm, ⟨2, _⟩ => ⟨S_, .bf16⟩
  | .hbm, ⟨3, _⟩ => ⟨S256x2048, .bf16⟩
  | .hbm, ⟨4, _⟩ => ⟨S8448x2048, .f32⟩
  | .hbm, ⟨5, _⟩ => ⟨S8448x2048, .f32⟩
  | .hbm, ⟨6, _⟩ => ⟨S2048x256, .f32⟩
  | .hbm, ⟨7, _⟩ => ⟨S256x2048, .f32⟩
  | .hbm, ⟨8, _⟩ => ⟨S256x2048, .bf16⟩
  | _, _ => ⟨S8448x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelXUkv.lean ====
abbrev S8448x2048 : Shape := ⟨2, ![8448, 2048]⟩
abbrev S256x2048 : Shape := ⟨2, ![256, 2048]⟩
abbrev S8448x256 : Shape := ⟨2, ![8448, 256]⟩
abbrev S1408x2048 : Shape := ⟨2, ![1408, 2048]⟩
abbrev S1408x256 : Shape := ⟨2, ![1408, 256]⟩

abbrev nBuf : Space → Nat
  | .hbm => 3
  | .vmem => 5
  | .smem => 0
  | _ => 0

abbrev bufTy : (tb : Table) → Fin (tcTables nBuf tb) → BufTy
  | .hbm, ⟨0, _⟩ => ⟨S8448x2048, .bf16⟩
  | .hbm, ⟨1, _⟩ => ⟨S256x2048, .bf16⟩
  | .hbm, ⟨2, _⟩ => ⟨S8448x256, .f32⟩
  | .local _ .vmem, ⟨0, _⟩ => ⟨S1408x2048, .bf16⟩
  | .local _ .vmem, ⟨1, _⟩ => ⟨S1408x2048, .bf16⟩
  | .local _ .vmem, ⟨2, _⟩ => ⟨S256x2048, .bf16⟩
  | .local _ .vmem, ⟨3, _⟩ => ⟨S1408x256, .f32⟩
  | .local _ .vmem, ⟨4, _⟩ => ⟨S1408x256, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceXUkvIdeal.lean ====
abbrev S8448x2048 : Shape := ⟨2, ![8448, 2048]⟩
abbrev S256x2048 : Shape := ⟨2, ![256, 2048]⟩
abbrev S_ : Shape := ⟨0, ![]⟩
abbrev S8448x256 : Shape := ⟨2, ![8448, 256]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S256x2048, .bf16⟩
  | .hbm, ⟨2, _⟩ => ⟨S_, .f32⟩
  | .hbm, ⟨3, _⟩ => ⟨S8448x256, .f32⟩
  | .hbm, ⟨4, _⟩ => ⟨S256x2048, .f32⟩
  | .hbm, ⟨5, _⟩ => ⟨S8448x2048, .f32⟩
  | .hbm, ⟨6, _⟩ => ⟨S8448x2048, .f32⟩
  | .hbm, ⟨7, _⟩ => ⟨S8448x256, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelFInProj.lean ====
abbrev S8448x1024 : Shape := ⟨2, ![8448, 1024]⟩
abbrev S1024x8064 : Shape := ⟨2, ![1024, 8064]⟩
abbrev S8448x8064 : Shape := ⟨2, ![8448, 8064]⟩
abbrev S1408x1024 : Shape := ⟨2, ![1408, 1024]⟩
abbrev S1024x1152 : Shape := ⟨2, ![1024, 1152]⟩
abbrev S1408x1152 : Shape := ⟨2, ![1408, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x8064, .bf16⟩
  | .hbm, ⟨2, _⟩ => ⟨S8448x8064, .f32⟩
  | .local _ .vmem, ⟨0, _⟩ => ⟨S1408x1024, .bf16⟩
  | .local _ .vmem, ⟨1, _⟩ => ⟨S1408x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1408x1152, .f32⟩
  | .local _ .vmem, ⟨5, _⟩ => ⟨S1408x1152, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFInProjIdeal.lean ====
abbrev S8448x1024 : Shape := ⟨2, ![8448, 1024]⟩
abbrev S1024x8064 : Shape := ⟨2, ![1024, 8064]⟩
abbrev S8448x8064 : Shape := ⟨2, ![8448, 8064]⟩

abbrev nBuf : Space → Nat
  | .hbm => 3
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x8064, .bf16⟩
  | .hbm, ⟨2, _⟩ => ⟨S8448x8064, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelFFfnIn.lean ====
abbrev S8448x1024 : Shape := ⟨2, ![8448, 1024]⟩
abbrev S1024x5632 : Shape := ⟨2, ![1024, 5632]⟩
abbrev S8448x5632 : Shape := ⟨2, ![8448, 5632]⟩
abbrev S1408x1024 : Shape := ⟨2, ![1408, 1024]⟩
abbrev S1024x1408 : Shape := ⟨2, ![1024, 1408]⟩
abbrev S1408x1408 : Shape := ⟨2, ![1408, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x5632, .bf16⟩
  | .hbm, ⟨2, _⟩ => ⟨S8448x5632, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1408x1408, .bf16⟩
  | .local _ .vmem, ⟨5, _⟩ => ⟨S1408x1408, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFFfnInIdeal.lean ====
abbrev S8448x1024 : Shape := ⟨2, ![8448, 1024]⟩
abbrev S1024x5632 : Shape := ⟨2, ![1024, 5632]⟩
abbrev S8448x5632 : Shape := ⟨2, ![8448, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x5632, .bf16⟩
  | .hbm, ⟨2, _⟩ => ⟨S8448x5632, .f32⟩
  | .hbm, ⟨3, _⟩ => ⟨S8448x5632, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelFFfnOut.lean ====
abbrev S8448x2816 : Shape := ⟨2, ![8448, 2816]⟩
abbrev S2816x1024 : Shape := ⟨2, ![2816, 1024]⟩
abbrev S8448x1024 : Shape := ⟨2, ![8448, 1024]⟩
abbrev S1408x1408 : Shape := ⟨2, ![1408, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x1024, .f32⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFFfnOutIdeal.lean ====
abbrev S8448x2816 : Shape := ⟨2, ![8448, 2816]⟩
abbrev S2816x1024 : Shape := ⟨2, ![2816, 1024]⟩
abbrev S8448x1024 : Shape := ⟨2, ![8448, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelFProj.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .bf16⟩
  | .local _ .vmem, ⟨4, _⟩ => ⟨S1408x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFProjIdeal.lean ====
abbrev S8448x1024 : Shape := ⟨2, ![8448, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelFOut.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .f32⟩
  | .local _ .vmem, ⟨4, _⟩ => ⟨S1408x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFOutIdeal.lean ====
abbrev S8448x1024 : Shape := ⟨2, ![8448, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelFUq.lean ====
abbrev S8448x384 : Shape := ⟨2, ![8448, 384]⟩
abbrev S384x2048 : Shape := ⟨2, ![384, 2048]⟩
abbrev S8448x2048 : Shape := ⟨2, ![8448, 2048]⟩
abbrev S1408x384 : Shape := ⟨2, ![1408, 384]⟩
abbrev S384x1024 : Shape := ⟨2, ![384, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x384, .bf16⟩
  | .hbm, ⟨1, _⟩ => ⟨S384x2048, .bf16⟩
  | .hbm, ⟨2, _⟩ => ⟨S8448x2048, .f32⟩
  | .local _ .vmem, ⟨0, _⟩ => ⟨S1408x384, .bf16⟩
  | .local _ .vmem, ⟨1, _⟩ => ⟨S1408x384, .bf16⟩
  | .local _ .vmem, ⟨2, _⟩ => ⟨S384x1024, .bf16⟩
  | .local _ .vmem, ⟨3, _⟩ => ⟨S384x1024, .bf16⟩
  | .local _ .vmem, ⟨4, _⟩ => ⟨S1408x1024, .f32⟩
  | .local _ .vmem, ⟨5, _⟩ => ⟨S1408x1024, .f32⟩
  | _, _ => ⟨S8448x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFUqIdeal.lean ====
abbrev S8448x384 : Shape := ⟨2, ![8448, 384]⟩
abbrev S384x2048 : Shape := ⟨2, ![384, 2048]⟩
abbrev S8448x2048 : Shape := ⟨2, ![8448, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8448x384, .bf16⟩
  | .hbm, ⟨1, _⟩ => ⟨S384x2048, .bf16⟩
  | .hbm, ⟨2, _⟩ => ⟨S8448x2048, .f32⟩
  | _, _ => ⟨S8448x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelFUkv.lean ====
abbrev S8448x256 : Shape := ⟨2, ![8448, 256]⟩
abbrev S256x2048 : Shape := ⟨2, ![256, 2048]⟩
abbrev S8448x2048 : Shape := ⟨2, ![8448, 2048]⟩
abbrev S1408x256 : Shape := ⟨2, ![1408, 256]⟩
abbrev S256x1024 : Shape := ⟨2, ![256, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x256, .bf16⟩
  | .hbm, ⟨1, _⟩ => ⟨S256x2048, .bf16⟩
  | .hbm, ⟨2, _⟩ => ⟨S8448x2048, .f32⟩
  | .local _ .vmem, ⟨0, _⟩ => ⟨S1408x256, .bf16⟩
  | .local _ .vmem, ⟨1, _⟩ => ⟨S1408x256, .bf16⟩
  | .local _ .vmem, ⟨2, _⟩ => ⟨S256x1024, .bf16⟩
  | .local _ .vmem, ⟨3, _⟩ => ⟨S256x1024, .bf16⟩
  | .local _ .vmem, ⟨4, _⟩ => ⟨S1408x1024, .f32⟩
  | .local _ .vmem, ⟨5, _⟩ => ⟨S1408x1024, .f32⟩
  | _, _ => ⟨S8448x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFUkvIdeal.lean ====
abbrev S8448x256 : Shape := ⟨2, ![8448, 256]⟩
abbrev S256x2048 : Shape := ⟨2, ![256, 2048]⟩
abbrev S8448x2048 : Shape := ⟨2, ![8448, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8448x256, .bf16⟩
  | .hbm, ⟨1, _⟩ => ⟨S256x2048, .bf16⟩
  | .hbm, ⟨2, _⟩ => ⟨S8448x2048, .f32⟩
  | _, _ => ⟨S8448x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelSwigluB.lean ====
abbrev S8448x5632 : Shape := ⟨2, ![8448, 5632]⟩
abbrev S8448x2816 : Shape := ⟨2, ![8448, 2816]⟩
abbrev S256x2816 : Shape := ⟨2, ![256, 2816]⟩
abbrev S256x5632 : Shape := ⟨2, ![256, 5632]⟩

abbrev nBuf : Space → Nat
  | .hbm => 3
  | .vmem => 8
  | .smem => 0
  | _ => 0

abbrev bufTy : (tb : Table) → Fin (tcTables nBuf tb) → BufTy
  | .hbm, ⟨0, _⟩ => ⟨S8448x5632, .bf16⟩
  | .hbm, ⟨1, _⟩ => ⟨S8448x2816, .f32⟩
  | .hbm, ⟨2, _⟩ => ⟨S8448x5632, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .f32⟩
  | .local _ .vmem, ⟨5, _⟩ => ⟨S256x2816, .f32⟩
  | .local _ .vmem, ⟨6, _⟩ => ⟨S256x5632, .bf16⟩
  | .local _ .vmem, ⟨7, _⟩ => ⟨S256x5632, .bf16⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceSwigluBIdeal.lean ====
abbrev S8448x5632 : Shape := ⟨2, ![8448, 5632]⟩
abbrev S8448x2816 : Shape := ⟨2, ![8448, 2816]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S8448x2816, .f32⟩
  | .hbm, ⟨2, _⟩ => ⟨S8448x5632, .f32⟩
  | .hbm, ⟨3, _⟩ => ⟨S8448x2816, .f32⟩
  | .hbm, ⟨4, _⟩ => ⟨S8448x2816, .f32⟩
  | .hbm, ⟨5, _⟩ => ⟨S8448x2816, .f32⟩
  | .hbm, ⟨6, _⟩ => ⟨S8448x2816, .f32⟩
  | .hbm, ⟨7, _⟩ => ⟨S_, .f32⟩
  | .hbm, ⟨8, _⟩ => ⟨S8448x2816, .f32⟩
  | .hbm, ⟨9, _⟩ => ⟨S8448x2816, .f32⟩
  | .hbm, ⟨10, _⟩ => ⟨S_, .f32⟩
  | .hbm, ⟨11, _⟩ => ⟨S8448x2816, .f32⟩
  | .hbm, ⟨12, _⟩ => ⟨S8448x2816, .f32⟩
  | .hbm, ⟨13, _⟩ => ⟨S_, .f32⟩
  | .hbm, ⟨14, _⟩ => ⟨S8448x2816, .f32⟩
  | .hbm, ⟨15, _⟩ => ⟨S8448x2816, .f32⟩
  | .hbm, ⟨16, _⟩ => ⟨S8448x2816, .f32⟩
  | .hbm, ⟨17, _⟩ => ⟨S8448x2816, .f32⟩
  | .hbm, ⟨18, _⟩ => ⟨S8448x2816, .f32⟩
  | .hbm, ⟨19, _⟩ => ⟨S8448x2816, .f32⟩
  | .hbm, ⟨20, _⟩ => ⟨S8448x2816, .f32⟩
  | .hbm, ⟨21, _⟩ => ⟨S8448x2816, .f32⟩
  | .hbm, ⟨22, _⟩ => ⟨S8448x2816, .f32⟩
  | .hbm, ⟨23, _⟩ => ⟨S8448x2816, .f32⟩
  | .hbm, ⟨24, _⟩ => ⟨S8448x2816, .f32⟩
  | .hbm, ⟨25, _⟩ => ⟨S8448x5632, .f32⟩
  | .hbm, ⟨26, _⟩ => ⟨S8448x5632, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩

abbrev nD : Nat := 1
abbrev τ : Topo := Topo.v7x

variable {F : FTy → Type} [FloatOps F]
-- ==== KernelSwigluF.lean ====
abbrev S8448x5632 : Shape := ⟨2, ![8448, 5632]⟩
abbrev S8448x2816 : Shape := ⟨2, ![8448, 2816]⟩
abbrev S256x2816 : Shape := ⟨2, ![256, 2816]⟩

abbrev nBuf : Space → Nat
  | .hbm => 2
  | .vmem => 6
  | .smem => 0
  | _ => 0

abbrev bufTy : (tb : Table) → Fin (tcTables nBuf tb) → BufTy
  | .hbm, ⟨0, _⟩ => ⟨S8448x5632, .bf16⟩
  | .hbm, ⟨1, _⟩ => ⟨S8448x2816, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceSwigluFIdeal.lean ====
abbrev S8448x5632 : Shape := ⟨2, ![8448, 5632]⟩
abbrev S8448x2816 : Shape := ⟨2, ![8448, 2816]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S8448x5632, .f32⟩
  | .hbm, ⟨2, _⟩ => ⟨S8448x2816, .f32⟩
  | .hbm, ⟨3, _⟩ => ⟨S8448x2816, .f32⟩
  | .hbm, ⟨4, _⟩ => ⟨S8448x2816, .f32⟩
  | .hbm, ⟨5, _⟩ => ⟨S8448x2816, .f32⟩
  | .hbm, ⟨6, _⟩ => ⟨S_, .f32⟩
  | .hbm, ⟨7, _⟩ => ⟨S8448x2816, .f32⟩
  | .hbm, ⟨8, _⟩ => ⟨S8448x2816, .f32⟩
  | .hbm, ⟨9, _⟩ => ⟨S_, .f32⟩
  | .hbm, ⟨10, _⟩ => ⟨S8448x2816, .f32⟩
  | .hbm, ⟨11, _⟩ => ⟨S8448x2816, .f32⟩
  | .hbm, ⟨12, _⟩ => ⟨S8448x2816, .f32⟩
  | .hbm, ⟨13, _⟩ => ⟨S8448x2816, .f32⟩
  | .hbm, ⟨14, _⟩ => ⟨S8448x2816, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== KernelMergeB.lean ====
abbrev S8448x8064 : Shape := ⟨2, ![8448, 8064]⟩
abbrev S8448x1024 : Shape := ⟨2, ![8448, 1024]⟩
abbrev S8448x3072 : Shape := ⟨2, ![8448, 3072]⟩
abbrev S256x1024 : Shape := ⟨2, ![256, 1024]⟩
abbrev S256x3072 : Shape := ⟨2, ![256, 3072]⟩

abbrev nBuf : Space → Nat
  | .hbm => 9
  | .vmem => 22
  | .smem => 0
  | _ => 0

abbrev bufTy : (tb : Table) → Fin (tcTables nBuf tb) → BufTy
  | .hbm, ⟨0, _⟩ => ⟨S8448x8064, .f32⟩
  | .hbm, ⟨1, _⟩ => ⟨S8448x1024, .bf16⟩
  | .hbm, ⟨2, _⟩ => ⟨S8448x1024, .bf16⟩
  | .hbm, ⟨3, _⟩ => ⟨S8448x1024, .bf16⟩
  | .hbm, ⟨4, _⟩ => ⟨S8448x1024, .f32⟩
  | .hbm, ⟨5, _⟩ => ⟨S8448x1024, .bf16⟩
  | .hbm, ⟨6, _⟩ => ⟨S8448x1024, .bf16⟩
  | .hbm, ⟨7, _⟩ => ⟨S8448x1024, .bf16⟩
  | .hbm, ⟨8, _⟩ => ⟨S8448x3072, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x3072, .bf16⟩
  | .local _ .vmem, ⟨21, _⟩ => ⟨S256x3072, .bf16⟩
  | _, _ => ⟨S8448x8064, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceMergeBIdeal.lean ====
abbrev S8448x8064 : Shape := ⟨2, ![8448, 8064]⟩
abbrev S8448x1024 : Shape := ⟨2, ![8448, 1024]⟩
abbrev S8448x3072 : Shape := ⟨2, ![8448, 3072]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S8448x8064, .f32⟩
  | .hbm, ⟨1, _⟩ => ⟨S8448x1024, .bf16⟩
  | .hbm, ⟨2, _⟩ => ⟨S8448x1024, .bf16⟩
  | .hbm, ⟨3, _⟩ => ⟨S8448x1024, .bf16⟩
  | .hbm, ⟨4, _⟩ => ⟨S8448x1024, .f32⟩
  | .hbm, ⟨5, _⟩ => ⟨S8448x3072, .f32⟩
  | .hbm, ⟨6, _⟩ => ⟨S8448x1024, .f32⟩
  | .hbm, ⟨7, _⟩ => ⟨S8448x1024, .f32⟩
  | .hbm, ⟨8, _⟩ => ⟨S8448x1024, .f32⟩
  | .hbm, ⟨9, _⟩ => ⟨S8448x3072, .f32⟩
  | .hbm, ⟨10, _⟩ => ⟨S8448x3072, .f32⟩
  | .hbm, ⟨11, _⟩ => ⟨S_, .f32⟩
  | .hbm, ⟨12, _⟩ => ⟨S8448x3072, .f32⟩
  | .hbm, ⟨13, _⟩ => ⟨S8448x3072, .f32⟩
  | .hbm, ⟨14, _⟩ => ⟨S_, .f32⟩
  | .hbm, ⟨15, _⟩ => ⟨S8448x3072, .f32⟩
  | .hbm, ⟨16, _⟩ => ⟨S8448x3072, .f32⟩
  | .hbm, ⟨17, _⟩ => ⟨S_, .f32⟩
  | .hbm, ⟨18, _⟩ => ⟨S8448x3072, .f32⟩
  | .hbm, ⟨19, _⟩ => ⟨S8448x3072, .f32⟩
  | .hbm, ⟨20, _⟩ => ⟨S8448x3072, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S8448x1024, .f32⟩
  | .hbm, ⟨26, _⟩ => ⟨S8448x1024, .f32⟩
  | .hbm, ⟨27, _⟩ => ⟨S8448x1024, .f32⟩
  | .hbm, ⟨28, _⟩ => ⟨S8448x1024, .f32⟩
  | .hbm, ⟨29, _⟩ => ⟨S8448x1024, .f32⟩
  | .hbm, ⟨30, _⟩ => ⟨S8448x1024, .f32⟩
  | .hbm, ⟨31, _⟩ => ⟨S8448x1024, .f32⟩
  | .hbm, ⟨32, _⟩ => ⟨S8448x1024, .f32⟩
  | .hbm, ⟨33, _⟩ => ⟨S8448x1024, .f32⟩
  | .hbm, ⟨34, _⟩ => ⟨S8448x1024, .f32⟩
  | .hbm, ⟨35, _⟩ => ⟨S8448x1024, .f32⟩
  | .hbm, ⟨36, _⟩ => ⟨S8448x1024, .f32⟩
  | .hbm, ⟨37, _⟩ => ⟨S8448x3072, .f32⟩
  | .hbm, ⟨38, _⟩ => ⟨S8448x3072, .f32⟩
  | .hbm, ⟨39, _⟩ => ⟨S8448x1024, .bf16⟩
  | .hbm, ⟨40, _⟩ => ⟨S8448x1024, .bf16⟩
  | .hbm, ⟨41, _⟩ => ⟨S8448x1024, .bf16⟩
  | .hbm, ⟨42, _⟩ => ⟨S8448x3072, .bf16⟩
  | _, _ => ⟨S8448x8064, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== KernelMergeF.lean ====
abbrev S8448x8064 : Shape := ⟨2, ![8448, 8064]⟩
abbrev S8448x1024 : Shape := ⟨2, ![8448, 1024]⟩
abbrev S256x1024 : Shape := ⟨2, ![256, 1024]⟩

abbrev nBuf : Space → Nat
  | .hbm => 5
  | .vmem => 14
  | .smem => 0
  | _ => 0

abbrev bufTy : (tb : Table) → Fin (tcTables nBuf tb) → BufTy
  | .hbm, ⟨0, _⟩ => ⟨S8448x8064, .f32⟩
  | .hbm, ⟨1, _⟩ => ⟨S8448x1024, .bf16⟩
  | .hbm, ⟨2, _⟩ => ⟨S8448x1024, .bf16⟩
  | .hbm, ⟨3, _⟩ => ⟨S8448x1024, .bf16⟩
  | .hbm, ⟨4, _⟩ => ⟨S8448x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | _, _ => ⟨S8448x8064, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceMergeFIdeal.lean ====
abbrev S8448x8064 : Shape := ⟨2, ![8448, 8064]⟩
abbrev S8448x1024 : Shape := ⟨2, ![8448, 1024]⟩
abbrev S8448x3072 : Shape := ⟨2, ![8448, 3072]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8448x8064, .f32⟩
  | .hbm, ⟨1, _⟩ => ⟨S8448x1024, .bf16⟩
  | .hbm, ⟨2, _⟩ => ⟨S8448x1024, .bf16⟩
  | .hbm, ⟨3, _⟩ => ⟨S8448x1024, .bf16⟩
  | .hbm, ⟨4, _⟩ => ⟨S8448x3072, .f32⟩
  | .hbm, ⟨5, _⟩ => ⟨S8448x1024, .f32⟩
  | .hbm, ⟨6, _⟩ => ⟨S8448x1024, .f32⟩
  | .hbm, ⟨7, _⟩ => ⟨S8448x1024, .f32⟩
  | .hbm, ⟨8, _⟩ => ⟨S8448x3072, .f32⟩
  | .hbm, ⟨9, _⟩ => ⟨S8448x3072, .f32⟩
  | .hbm, ⟨10, _⟩ => ⟨S_, .f32⟩
  | .hbm, ⟨11, _⟩ => ⟨S8448x3072, .f32⟩
  | .hbm, ⟨12, _⟩ => ⟨S8448x3072, .f32⟩
  | .hbm, ⟨13, _⟩ => ⟨S_, .f32⟩
  | .hbm, ⟨14, _⟩ => ⟨S8448x3072, .f32⟩
  | .hbm, ⟨15, _⟩ => ⟨S8448x3072, .f32⟩
  | .hbm, ⟨16, _⟩ => ⟨S8448x1024, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x1024, .bf16⟩
  | _, _ => ⟨S8448x8064, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== KernelLatNormB.lean ====
abbrev S8448x8064 : Shape := ⟨2, ![8448, 8064]⟩
abbrev S1x256 : Shape := ⟨2, ![1, 256]⟩
abbrev S1x384 : Shape := ⟨2, ![1, 384]⟩
abbrev S8448x256 : Shape := ⟨2, ![8448, 256]⟩
abbrev S8448x384 : Shape := ⟨2, ![8448, 384]⟩
abbrev S256x256 : Shape := ⟨2, ![256, 256]⟩
abbrev S256x384 : Shape := ⟨2, ![256, 384]⟩
abbrev S256 : Shape := ⟨1, ![256]⟩
abbrev S256x1 : Shape := ⟨2, ![256, 1]⟩
abbrev S384 : Shape := ⟨1, ![384]⟩

abbrev nBuf : Space → Nat
  | .hbm => 9
  | .vmem => 16
  | .smem => 0
  | _ => 0

abbrev bufTy : (tb : Table) → Fin (tcTables nBuf tb) → BufTy
  | .hbm, ⟨0, _⟩ => ⟨S8448x8064, .f32⟩
  | .hbm, ⟨1, _⟩ => ⟨S1x256, .f32⟩
  | .hbm, ⟨2, _⟩ => ⟨S1x384, .f32⟩
  | .hbm, ⟨3, _⟩ => ⟨S8448x256, .f32⟩
  | .hbm, ⟨4, _⟩ => ⟨S8448x384, .f32⟩
  | .hbm, ⟨5, _⟩ => ⟨S8448x256, .bf16⟩
  | .hbm, ⟨6, _⟩ => ⟨S8448x384, .bf16⟩
  | .hbm, ⟨7, _⟩ => ⟨S1x256, .f32⟩
  | .hbm, ⟨8, _⟩ => ⟨S1x384, .f32⟩
  | .local _ .vmem, ⟨0, _⟩ => ⟨S256x256, .f32⟩
  | .local _ .vmem, ⟨1, _⟩ => ⟨S256x256, .f32⟩
  | .local _ .vmem, ⟨2, _⟩ => ⟨S256x384, .f32⟩
  | .local _ .vmem, ⟨3, _⟩ => ⟨S256x384, .f32⟩
  | .local _ .vmem, ⟨4, _⟩ => ⟨S1x256, .f32⟩
  | .local _ .vmem, ⟨5, _⟩ => ⟨S1x384, .f32⟩
  | .local _ .vmem, ⟨6, _⟩ => ⟨S256x256, .f32⟩
  | .local _ .vmem, ⟨7, _⟩ => ⟨S256x256, .f32⟩
  | .local _ .vmem, ⟨8, _⟩ => ⟨S256x384, .f32⟩
  | .local _ .vmem, ⟨9, _⟩ => ⟨S256x384, .f32⟩
  | .local _ .vmem, ⟨10, _⟩ => ⟨S256x256, .bf16⟩
  | .local _ .vmem, ⟨11, _⟩ => ⟨S256x256, .bf16⟩
  | .local _ .vmem, ⟨12, _⟩ => ⟨S256x384, .bf16⟩
  | .local _ .vmem, ⟨13, _⟩ => ⟨S256x384, .bf16⟩
  | .local _ .vmem, ⟨14, _⟩ => ⟨S1x256, .f32⟩
  | .local _ .vmem, ⟨15, _⟩ => ⟨S1x384, .f32⟩
  | _, _ => ⟨S8448x8064, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_14 : BitVec 32 := 0#32
  let v40 : BitVec 1 := Scalar.cmpi .ne v39 c0_i32_14
  v40

def k0_cond2 (i : grid0.Coords) : BitVec 1 :=
  let arg0 : BitVec 32 := BitVec.ofNat 32 (i 0).val
  let c0_i32 : BitVec 32 := 0#32
  let v38 : BitVec 1 := Scalar.cmpi .eq arg0 c0_i32
  let v_true : BitVec 1 := 1#1
  let v41 : BitVec 1 := Scalar.xori v38 v_true
  let v42 : BitVec 32 := Scalar.extui v41
  let c0_i32_15 : BitVec 32 := 0#32
  let v43 : BitVec 1 := Scalar.cmpi .ne v42 c0_i32_15
  v43

def k0_cond3 (i : grid0.Coords) : BitVec 1 :=
  let arg0 : BitVec 32 := BitVec.ofNat 32 (i 0).val
  let c0_i32_32 : BitVec 32 := 0#32
  let v82 : BitVec 1 := Scalar.cmpi .eq arg0 c0_i32_32
  let v83 : BitVec 32 := Scalar.extui v82
  let c0_i32_33 : BitVec 32 := 0#32
  let v84 : BitVec 1 := Scalar.cmpi .ne v83 c0_i32_33
  v84

def k0_cond4 (i : grid0.Coords) : BitVec 1 :=
  let arg0 : BitVec 32 := BitVec.ofNat 32 (i 0).val
  let c0_i32_32 : BitVec 32 := 0#32
  let v82 : BitVec 1 := Scalar.cmpi .eq arg0 c0_i32_32
  let true_34 : BitVec 1 := 1#1
  let v85 : BitVec 1 := Scalar.xori v82 true_34
  let v86 : BitVec 32 := Scalar.extui v85
  let c0_i32_35 : BitVec 32 := 0#32
  let v87 : BitVec 1 := Scalar.cmpi .ne v86 c0_i32_35
  v87

def cc0_transform_0 (i : grid0.Coords) : Fin 2 → Nat :=
  let arg0 : BitVec 32 := BitVec.ofNat 32 (i 0).val
  let c28_i32 : BitVec 32 := 28#32
  let c0_i32 : BitVec 32 := 0#32
  ![arg0.toNat, c28_i32.toNat]

def cc0_transform_1 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelLatNormBIdeal.lean ====
variable {F : FTy → Type} [FloatOps F] [Named F]
def κ : String → Option EReal := fun
  | "inv384" => some ((384⁻¹ : ℝ) : EReal)
  | _ => none
-- ==== ReferenceLatNormBIdeal.lean ====
abbrev S8448x8064 : Shape := ⟨2, ![8448, 8064]⟩
abbrev S1x256 : Shape := ⟨2, ![1, 256]⟩
abbrev S1x384 : Shape := ⟨2, ![1, 384]⟩
abbrev S8448x256 : Shape := ⟨2, ![8448, 256]⟩
abbrev S8448x384 : Shape := ⟨2, ![8448, 384]⟩
abbrev S_ : Shape := ⟨0, ![]⟩
abbrev S8448 : Shape := ⟨1, ![8448]⟩
abbrev S8448x1 : Shape := ⟨2, ![8448, 1]⟩
abbrev S256 : Shape := ⟨1, ![256]⟩
abbrev S384 : Shape := ⟨1, ![384]⟩

abbrev nBuf : Space → Nat
  | .hbm => 93
  | .vmem => 0
  | .smem => 0
  | _ => 0

abbrev bufTy : (tb : Table) → Fin (tcTables nBuf tb) → BufTy
  | .hbm, ⟨0, _⟩ => ⟨S8448x8064, .f32⟩
  | .hbm, ⟨1, _⟩ => ⟨S1x256, .f32⟩
  | .hbm, ⟨2, _⟩ => ⟨S1x384, .f32⟩
  | .hbm, ⟨3, _⟩ => ⟨S8448x256, .f32⟩
  | .hbm, ⟨4, _⟩ => ⟨S8448x384, .f32⟩
  | .hbm, ⟨5, _⟩ => ⟨S8448x256, .f32⟩
  | .hbm, ⟨6, _⟩ => ⟨S8448x256, .f32⟩
  | .hbm, ⟨7, _⟩ => ⟨S_, .f32⟩
  | .hbm, ⟨8, _⟩ => ⟨S8448, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S_, .f32⟩
  | .hbm, ⟨14, _⟩ => ⟨S8448x1, .f32⟩
  | .hbm, ⟨15, _⟩ => ⟨S8448x1, .f32⟩
  | .hbm, ⟨16, _⟩ => ⟨S8448x1, .f32⟩
  | .hbm, ⟨17, _⟩ => ⟨S8448x1, .f32⟩
  | .hbm, ⟨18, _⟩ => ⟨S_, .f32⟩
  | .hbm, ⟨19, _⟩ => ⟨S8448x1, .f32⟩
  | .hbm, ⟨20, _⟩ => ⟨S8448x1, .f32⟩
  | .hbm, ⟨21, _⟩ => ⟨S8448x256, .f32⟩
  | .hbm, ⟨22, _⟩ => ⟨S8448x256, .f32⟩
  | .hbm, ⟨23, _⟩ => ⟨S8448x256, .f32⟩
  | .hbm, ⟨24, _⟩ => ⟨S8448x256, .f32⟩
  | .hbm, ⟨25, _⟩ => ⟨S8448x384, .f32⟩
  | .hbm, ⟨26, _⟩ => ⟨S8448x384, .f32⟩
  | .hbm, ⟨27, _⟩ => ⟨S_, .f32⟩
  | .hbm, ⟨28, _⟩ => ⟨S8448, .f32⟩
  | .hbm, ⟨29, _⟩ => ⟨S8448x1, .f32⟩
  | .hbm, ⟨30, _⟩ => ⟨S_, .f32⟩
  | .hbm, ⟨31, _⟩ => ⟨S8448x1, .f32⟩
  | .hbm, ⟨32, _⟩ => ⟨S8448x1, .f32⟩
  | .hbm, ⟨33, _⟩ => ⟨S_, .f32⟩
  | .hbm, ⟨34, _⟩ => ⟨S8448x1, .f32⟩
  | .hbm, ⟨35, _⟩ => ⟨S8448x1, .f32⟩
  | .hbm, ⟨36, _⟩ => ⟨S8448x1, .f32⟩
  | .hbm, ⟨37, _⟩ => ⟨S8448x1, .f32⟩
  | .hbm, ⟨38, _⟩ => ⟨S_, .f32⟩
  | .hbm, ⟨39, _⟩ => ⟨S8448x1, .f32⟩
  | .hbm, ⟨40, _⟩ => ⟨S8448x1, .f32⟩
  | .hbm, ⟨41, _⟩ => ⟨S8448x384, .f32⟩
  | .hbm, ⟨42, _⟩ => ⟨S8448x384, .f32⟩
  | .hbm, ⟨43, _⟩ => ⟨S8448x384, .f32⟩
  | .hbm, ⟨44, _⟩ => ⟨S8448x384, .f32⟩
  | .hbm, ⟨45, _⟩ => ⟨S8448x256, .f32⟩
  | .hbm, ⟨46, _⟩ => ⟨S_, .f32⟩
  | .hbm, ⟨47, _⟩ => ⟨S256, .f32⟩
  | .hbm, ⟨48, _⟩ => ⟨S1x256, .f32⟩
  | .hbm, ⟨49, _⟩ => ⟨S8448x256, .f32⟩
  | .hbm, ⟨50, _⟩ => ⟨S8448x256, .f32⟩
  | .hbm, ⟨51, _⟩ => ⟨S8448x256, .f32⟩
  | .hbm, ⟨52, _⟩ => ⟨S_, .f32⟩
  | .hbm, ⟨53, _⟩ => ⟨S8448, .f32⟩
  | .hbm, ⟨54, _⟩ => ⟨S8448x1, .f32⟩
  | .hbm, ⟨55, _⟩ => ⟨S8448x256, .f32⟩
  | .hbm, ⟨56, _⟩ => ⟨S8448x256, .f32⟩
  | .hbm, ⟨57, _⟩ => ⟨S8448x1, .f32⟩
  | .hbm, ⟨58, _⟩ => ⟨S_, .f32⟩
  | .hbm, ⟨59, _⟩ => ⟨S8448x1, .f32⟩
  | .hbm, ⟨60, _⟩ => ⟨S8448x1, .f32⟩
  | .hbm, ⟨61, _⟩ => ⟨S_, .f32⟩
  | .hbm, ⟨62, _⟩ => ⟨S8448, .f32⟩
  | .hbm, ⟨63, _⟩ => ⟨S8448x256, .f32⟩
  | .hbm, ⟨64, _⟩ => ⟨S8448x256, .f32⟩
  | .hbm, ⟨65, _⟩ => ⟨S8448x256, .f32⟩
  | .hbm, ⟨66, _⟩ => ⟨S8448x256, .f32⟩
  | .hbm, ⟨67, _⟩ => ⟨S8448x256, .f32⟩
  | .hbm, ⟨68, _⟩ => ⟨S8448x384, .f32⟩
  | .hbm, ⟨69, _⟩ => ⟨S_, .f32⟩
  | .hbm, ⟨70, _⟩ => ⟨S384, .f32⟩
  | .hbm, ⟨71, _⟩ => ⟨S1x384, .f32⟩
  | .hbm, ⟨72, _⟩ => ⟨S8448x384, .f32⟩
  | .hbm, ⟨73, _⟩ => ⟨S8448x384, .f32⟩
  | .hbm, ⟨74, _⟩ => ⟨S8448x384, .f32⟩
  | .hbm, ⟨75, _⟩ => ⟨S_, .f32⟩
  | .hbm, ⟨76, _⟩ => ⟨S8448, .f32⟩
  | .hbm, ⟨77, _⟩ => ⟨S8448x1, .f32⟩
  | .hbm, ⟨78, _⟩ => ⟨S8448x384, .f32⟩
  | .hbm, ⟨79, _⟩ => ⟨S8448x384, .f32⟩
  | .hbm, ⟨80, _⟩ => ⟨S8448x1, .f32⟩
  | .hbm, ⟨81, _⟩ => ⟨S_, .f32⟩
  | .hbm, ⟨82, _⟩ => ⟨S8448x1, .f32⟩
  | .hbm, ⟨83, _⟩ => ⟨S8448x1, .f32⟩
  | .hbm, ⟨84, _⟩ => ⟨S_, .f32⟩
  | .hbm, ⟨85, _⟩ => ⟨S8448, .f32⟩
  | .hbm, ⟨86, _⟩ => ⟨S8448x384, .f32⟩
  | .hbm, ⟨87, _⟩ => ⟨S8448x384, .f32⟩
  | .hbm, ⟨88, _⟩ => ⟨S8448x384, .f32⟩
  | .hbm, ⟨89, _⟩ => ⟨S8448x384, .f32⟩
  | .hbm, ⟨90, _⟩ => ⟨S8448x384, .f32⟩
  | .hbm, ⟨91, _⟩ => ⟨S8448x256, .bf16⟩
  | .hbm, ⟨92, _⟩ => ⟨S8448x384, .bf16⟩
  | _, _ => ⟨S8448x8064, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_12 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_v63 : Ref sig .tc := ⟨.hbm, 83, rfl⟩
abbrev main_cst_14 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]
-- ==== KernelLatNormF.lean ====
abbrev S8448x8064 : Shape := ⟨2, ![8448, 8064]⟩
abbrev S1x256 : Shape := ⟨2, ![1, 256]⟩
abbrev S1x384 : Shape := ⟨2, ![1, 384]⟩
abbrev S8448x256 : Shape := ⟨2, ![8448, 256]⟩
abbrev S8448x384 : Shape := ⟨2, ![8448, 384]⟩
abbrev S256x256 : Shape := ⟨2, ![256, 256]⟩
abbrev S256x384 : Shape := ⟨2, ![256, 384]⟩
abbrev S256 : Shape := ⟨1, ![256]⟩
abbrev S256x1 : Shape := ⟨2, ![256, 1]⟩

abbrev nBuf : Space → Nat
  | .hbm => 5
  | .vmem => 10
  | .smem => 0
  | _ => 0

abbrev bufTy : (tb : Table) → Fin (tcTables nBuf tb) → BufTy
  | .hbm, ⟨0, _⟩ => ⟨S8448x8064, .f32⟩
  | .hbm, ⟨1, _⟩ => ⟨S1x256, .f32⟩
  | .hbm, ⟨2, _⟩ => ⟨S1x384, .f32⟩
  | .hbm, ⟨3, _⟩ => ⟨S8448x256, .bf16⟩
  | .hbm, ⟨4, _⟩ => ⟨S8448x384, .bf16⟩
  | .local _ .vmem, ⟨0, _⟩ => ⟨S256x256, .f32⟩
  | .local _ .vmem, ⟨1, _⟩ => ⟨S256x256, .f32⟩
  | .local _ .vmem, ⟨2, _⟩ => ⟨S256x384, .f32⟩
  | .local _ .vmem, ⟨3, _⟩ => ⟨S256x384, .f32⟩
  | .local _ .vmem, ⟨4, _⟩ => ⟨S1x256, .f32⟩
  | .local _ .vmem, ⟨5, _⟩ => ⟨S1x384, .f32⟩
  | .local _ .vmem, ⟨6, _⟩ => ⟨S256x256, .bf16⟩
  | .local _ .vmem, ⟨7, _⟩ => ⟨S256x256, .bf16⟩
  | .local _ .vmem, ⟨8, _⟩ => ⟨S256x384, .bf16⟩
  | .local _ .vmem, ⟨9, _⟩ => ⟨S256x384, .bf16⟩
  | _, _ => ⟨S8448x8064, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c28_i32 : BitVec 32 := 28#32
  let c0_i32 : BitVec 32 := 0#32
  ![arg0.toNat, c28_i32.toNat]

def cc0_transform_1 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelLatNormFIdeal.lean ====
variable {F : FTy → Type} [FloatOps F] [Named F]
def κ : String → Option EReal := fun
  | "inv384" => some ((384⁻¹ : ℝ) : EReal)
  | _ => none
-- ==== ReferenceLatNormFIdeal.lean ====
abbrev S8448x8064 : Shape := ⟨2, ![8448, 8064]⟩
abbrev S1x256 : Shape := ⟨2, ![1, 256]⟩
abbrev S1x384 : Shape := ⟨2, ![1, 384]⟩
abbrev S8448x256 : Shape := ⟨2, ![8448, 256]⟩
abbrev S_ : Shape := ⟨0, ![]⟩
abbrev S8448 : Shape := ⟨1, ![8448]⟩
abbrev S8448x1 : Shape := ⟨2, ![8448, 1]⟩
abbrev S8448x384 : Shape := ⟨2, ![8448, 384]⟩

abbrev nBuf : Space → Nat
  | .hbm => 37
  | .vmem => 0
  | .smem => 0
  | _ => 0

abbrev bufTy : (tb : Table) → Fin (tcTables nBuf tb) → BufTy
  | .hbm, ⟨0, _⟩ => ⟨S8448x8064, .f32⟩
  | .hbm, ⟨1, _⟩ => ⟨S1x256, .f32⟩
  | .hbm, ⟨2, _⟩ => ⟨S1x384, .f32⟩
  | .hbm, ⟨3, _⟩ => ⟨S8448x256, .f32⟩
  | .hbm, ⟨4, _⟩ => ⟨S8448x256, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x256, .f32⟩
  | .hbm, ⟨16, _⟩ => ⟨S8448x256, .f32⟩
  | .hbm, ⟨17, _⟩ => ⟨S8448x256, .f32⟩
  | .hbm, ⟨18, _⟩ => ⟨S8448x256, .f32⟩
  | .hbm, ⟨19, _⟩ => ⟨S8448x256, .bf16⟩
  | .hbm, ⟨20, _⟩ => ⟨S8448x384, .f32⟩
  | .hbm, ⟨21, _⟩ => ⟨S8448x384, .f32⟩
  | .hbm, ⟨22, _⟩ => ⟨S_, .f32⟩
  | .hbm, ⟨23, _⟩ => ⟨S8448, .f32⟩
  | .hbm, ⟨24, _⟩ => ⟨S8448x1, .f32⟩
  | .hbm, ⟨25, _⟩ => ⟨S_, .f32⟩
  | .hbm, ⟨26, _⟩ => ⟨S8448x1, .f32⟩
  | .hbm, ⟨27, _⟩ => ⟨S8448x1, .f32⟩
  | .hbm, ⟨28, _⟩ => ⟨S_, .f32⟩
  | .hbm, ⟨29, _⟩ => ⟨S8448x1, .f32⟩
  | .hbm, ⟨30, _⟩ => ⟨S8448x1, .f32⟩
  | .hbm, ⟨31, _⟩ => ⟨S8448x1, .f32⟩
  | .hbm, ⟨32, _⟩ => ⟨S8448x384, .f32⟩
  | .hbm, ⟨33, _⟩ => ⟨S8448x384, .f32⟩
  | .hbm, ⟨34, _⟩ => ⟨S8448x384, .f32⟩
  | .hbm, ⟨35, _⟩ => ⟨S8448x384, .f32⟩
  | .hbm, ⟨36, _⟩ => ⟨S8448x384, .bf16⟩
  | _, _ => ⟨S8448x8064, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== KernelAdamMod.lean ====
abbrev S2048x1536 : Shape := ⟨2, ![2048, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamModIdeal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamIn.lean ====
abbrev S2048x1976 : Shape := ⟨2, ![2048, 1976]⟩
abbrev S256x1976 : Shape := ⟨2, ![256, 1976]⟩

abbrev nBuf : Space → Nat
  | .hbm => 7
  | .vmem => 14
  | .smem => 0
  | _ => 0

abbrev bufTy : (tb : Table) → Fin (tcTables nBuf tb) → BufTy
  | .hbm, ⟨0, _⟩ => ⟨S2048x1976, .f32⟩
  | .hbm, ⟨1, _⟩ => ⟨S2048x1976, .f32⟩
  | .hbm, ⟨2, _⟩ => ⟨S2048x1976, .f32⟩
  | .hbm, ⟨3, _⟩ => ⟨S2048x1976, .f32⟩
  | .hbm, ⟨4, _⟩ => ⟨S2048x1976, .f32⟩
  | .hbm, ⟨5, _⟩ => ⟨S2048x1976, .f32⟩
  | .hbm, ⟨6, _⟩ => ⟨S2048x1976, .f32⟩
  | .local _ .vmem, ⟨0, _⟩ => ⟨S256x1976, .f32⟩
  | .local _ .vmem, ⟨1, _⟩ => ⟨S256x1976, .f32⟩
  | .local _ .vmem, ⟨2, _⟩ => ⟨S256x1976, .f32⟩
  | .local _ .vmem, ⟨3, _⟩ => ⟨S256x1976, .f32⟩
  | .local _ .vmem, ⟨4, _⟩ => ⟨S256x1976, .f32⟩
  | .local _ .vmem, ⟨5, _⟩ => ⟨S256x1976, .f32⟩
  | .local _ .vmem, ⟨6, _⟩ => ⟨S256x1976, .f32⟩
  | .local _ .vmem, ⟨7, _⟩ => ⟨S256x1976, .f32⟩
  | .local _ .vmem, ⟨8, _⟩ => ⟨S256x1976, .f32⟩
  | .local _ .vmem, ⟨9, _⟩ => ⟨S256x1976, .f32⟩
  | .local _ .vmem, ⟨10, _⟩ => ⟨S256x1976, .f32⟩
  | .local _ .vmem, ⟨11, _⟩ => ⟨S256x1976, .f32⟩
  | .local _ .vmem, ⟨12, _⟩ => ⟨S256x1976, .f32⟩
  | .local _ .vmem, ⟨13, _⟩ => ⟨S256x1976, .f32⟩
  | _, _ => ⟨S2048x1976, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1976 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1976 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1976 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1976 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1976 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1976 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1976 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamInIdeal.lean ====
abbrev S2048x1976 : Shape := ⟨2, ![2048, 1976]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1976, .f32⟩
  | .hbm, ⟨1, _⟩ => ⟨S2048x1976, .f32⟩
  | .hbm, ⟨2, _⟩ => ⟨S2048x1976, .f32⟩
  | .hbm, ⟨3, _⟩ => ⟨S2048x1976, .f32⟩
  | .hbm, ⟨4, _⟩ => ⟨S_, .f32⟩
  | .hbm, ⟨5, _⟩ => ⟨S2048x1976, .f32⟩
  | .hbm, ⟨6, _⟩ => ⟨S2048x1976, .f32⟩
  | .hbm, ⟨7, _⟩ => ⟨S_, .f32⟩
  | .hbm, ⟨8, _⟩ => ⟨S2048x1976, .f32⟩
  | .hbm, ⟨9, _⟩ => ⟨S2048x1976, .f32⟩
  | .hbm, ⟨10, _⟩ => ⟨S2048x1976, .f32⟩
  | .hbm, ⟨11, _⟩ => ⟨S_, .f32⟩
  | .hbm, ⟨12, _⟩ => ⟨S2048x1976, .f32⟩
  | .hbm, ⟨13, _⟩ => ⟨S2048x1976, .f32⟩
  | .hbm, ⟨14, _⟩ => ⟨S2048x1976, .f32⟩
  | .hbm, ⟨15, _⟩ => ⟨S_, .f32⟩
  | .hbm, ⟨16, _⟩ => ⟨S2048x1976, .f32⟩
  | .hbm, ⟨17, _⟩ => ⟨S2048x1976, .f32⟩
  | .hbm, ⟨18, _⟩ => ⟨S2048x1976, .f32⟩
  | .hbm, ⟨19, _⟩ => ⟨S_, .f32⟩
  | .hbm, ⟨20, _⟩ => ⟨S2048x1976, .f32⟩
  | .hbm, ⟨21, _⟩ => ⟨S2048x1976, .f32⟩
  | .hbm, ⟨22, _⟩ => ⟨S_, .f32⟩
  | .hbm, ⟨23, _⟩ => ⟨S2048x1976, .f32⟩
  | .hbm, ⟨24, _⟩ => ⟨S2048x1976, .f32⟩
  | .hbm, ⟨25, _⟩ => ⟨S2048x1976, .f32⟩
  | .hbm, ⟨26, _⟩ => ⟨S_, .f32⟩
  | .hbm, ⟨27, _⟩ => ⟨S2048x1976, .f32⟩
  | .hbm, ⟨28, _⟩ => ⟨S2048x1976, .f32⟩
  | .hbm, ⟨29, _⟩ => ⟨S2048x1976, .f32⟩
  | .hbm, ⟨30, _⟩ => ⟨S_, .f32⟩
  | .hbm, ⟨31, _⟩ => ⟨S2048x1976, .f32⟩
  | .hbm, ⟨32, _⟩ => ⟨S2048x1976, .f32⟩
  | .hbm, ⟨33, _⟩ => ⟨S2048x1976, .f32⟩
  | .hbm, ⟨34, _⟩ => ⟨S_, .f32⟩
  | .hbm, ⟨35, _⟩ => ⟨S2048x1976, .f32⟩
  | .hbm, ⟨36, _⟩ => ⟨S2048x1976, .f32⟩
  | _, _ => ⟨S2048x1976, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamUq.lean ====
abbrev S768x384 : Shape := ⟨2, ![768, 384]⟩
abbrev S256x384 : Shape := ⟨2, ![256, 384]⟩

abbrev nBuf : Space → Nat
  | .hbm => 7
  | .vmem => 14
  | .smem => 0
  | _ => 0

abbrev bufTy : (tb : Table) → Fin (tcTables nBuf tb) → BufTy
  | .hbm, ⟨0, _⟩ => ⟨S768x384, .f32⟩
  | .hbm, ⟨1, _⟩ => ⟨S768x384, .f32⟩
  | .hbm, ⟨2, _⟩ => ⟨S768x384, .f32⟩
  | .hbm, ⟨3, _⟩ => ⟨S768x384, .f32⟩
  | .hbm, ⟨4, _⟩ => ⟨S768x384, .f32⟩
  | .hbm, ⟨5, _⟩ => ⟨S768x384, .f32⟩
  | .hbm, ⟨6, _⟩ => ⟨S768x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | _, _ => ⟨S768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamUqIdeal.lean ====
abbrev S768x384 : Shape := ⟨2, ![768, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S768x384, .f32⟩
  | .hbm, ⟨1, _⟩ => ⟨S768x384, .f32⟩
  | .hbm, ⟨2, _⟩ => ⟨S768x384, .f32⟩
  | .hbm, ⟨3, _⟩ => ⟨S768x384, .f32⟩
  | .hbm, ⟨4, _⟩ => ⟨S_, .f32⟩
  | .hbm, ⟨5, _⟩ => ⟨S768x384, .f32⟩
  | .hbm, ⟨6, _⟩ => ⟨S768x384, .f32⟩
  | .hbm, ⟨7, _⟩ => ⟨S_, .f32⟩
  | .hbm, ⟨8, _⟩ => ⟨S768x384, .f32⟩
  | .hbm, ⟨9, _⟩ => ⟨S768x384, .f32⟩
  | .hbm, ⟨10, _⟩ => ⟨S768x384, .f32⟩
  | .hbm, ⟨11, _⟩ => ⟨S_, .f32⟩
  | .hbm, ⟨12, _⟩ => ⟨S768x384, .f32⟩
  | .hbm, ⟨13, _⟩ => ⟨S768x384, .f32⟩
  | .hbm, ⟨14, _⟩ => ⟨S768x384, .f32⟩
  | .hbm, ⟨15, _⟩ => ⟨S_, .f32⟩
  | .hbm, ⟨16, _⟩ => ⟨S768x384, .f32⟩
  | .hbm, ⟨17, _⟩ => ⟨S768x384, .f32⟩
  | .hbm, ⟨18, _⟩ => ⟨S768x384, .f32⟩
  | .hbm, ⟨19, _⟩ => ⟨S_, .f32⟩
  | .hbm, ⟨20, _⟩ => ⟨S768x384, .f32⟩
  | .hbm, ⟨21, _⟩ => ⟨S768x384, .f32⟩
  | .hbm, ⟨22, _⟩ => ⟨S_, .f32⟩
  | .hbm, ⟨23, _⟩ => ⟨S768x384, .f32⟩
  | .hbm, ⟨24, _⟩ => ⟨S768x384, .f32⟩
  | .hbm, ⟨25, _⟩ => ⟨S768x384, .f32⟩
  | .hbm, ⟨26, _⟩ => ⟨S_, .f32⟩
  | .hbm, ⟨27, _⟩ => ⟨S768x384, .f32⟩
  | .hbm, ⟨28, _⟩ => ⟨S768x384, .f32⟩
  | .hbm, ⟨29, _⟩ => ⟨S768x384, .f32⟩
  | .hbm, ⟨30, _⟩ => ⟨S_, .f32⟩
  | .hbm, ⟨31, _⟩ => ⟨S768x384, .f32⟩
  | .hbm, ⟨32, _⟩ => ⟨S768x384, .f32⟩
  | .hbm, ⟨33, _⟩ => ⟨S768x384, .f32⟩
  | .hbm, ⟨34, _⟩ => ⟨S_, .f32⟩
  | .hbm, ⟨35, _⟩ => ⟨S768x384, .f32⟩
  | .hbm, ⟨36, _⟩ => ⟨S768x384, .f32⟩
  | _, _ => ⟨S768x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamUkv.lean ====
abbrev S512x512 : Shape := ⟨2, ![512, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamUkvIdeal.lean ====
abbrev S512x512 : Shape := ⟨2, ![512, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S_, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S_, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S_, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S_, .f32⟩
  | .hbm, ⟨35, _⟩ => ⟨S512x512, .f32⟩
  | .hbm, ⟨36, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamOut.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamOutIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamFfnIn.lean ====
abbrev S2048x1408 : Shape := ⟨2, ![2048, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamFfnInIdeal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamFfnOut.lean ====
abbrev S1408x1024 : Shape := ⟨2, ![1408, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamFfnOutIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamSmall.lean ====
abbrev S288x128 : Shape := ⟨2, ![288, 128]⟩
abbrev S32x128 : Shape := ⟨2, ![32, 128]⟩

abbrev nBuf : Space → Nat
  | .hbm => 7
  | .vmem => 14
  | .smem => 0
  | _ => 0

abbrev bufTy : (tb : Table) → Fin (tcTables nBuf tb) → BufTy
  | .hbm, ⟨0, _⟩ => ⟨S288x128, .f32⟩
  | .hbm, ⟨1, _⟩ => ⟨S288x128, .f32⟩
  | .hbm, ⟨2, _⟩ => ⟨S288x128, .f32⟩
  | .hbm, ⟨3, _⟩ => ⟨S288x128, .f32⟩
  | .hbm, ⟨4, _⟩ => ⟨S288x128, .f32⟩
  | .hbm, ⟨5, _⟩ => ⟨S288x128, .f32⟩
  | .hbm, ⟨6, _⟩ => ⟨S288x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | _, _ => ⟨S288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamSmallIdeal.lean ====
abbrev S288x128 : Shape := ⟨2, ![288, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S288x128, .f32⟩
  | .hbm, ⟨1, _⟩ => ⟨S288x128, .f32⟩
  | .hbm, ⟨2, _⟩ => ⟨S288x128, .f32⟩
  | .hbm, ⟨3, _⟩ => ⟨S288x128, .f32⟩
  | .hbm, ⟨4, _⟩ => ⟨S_, .f32⟩
  | .hbm, ⟨5, _⟩ => ⟨S288x128, .f32⟩
  | .hbm, ⟨6, _⟩ => ⟨S288x128, .f32⟩
  | .hbm, ⟨7, _⟩ => ⟨S_, .f32⟩
  | .hbm, ⟨8, _⟩ => ⟨S288x128, .f32⟩
  | .hbm, ⟨9, _⟩ => ⟨S288x128, .f32⟩
  | .hbm, ⟨10, _⟩ => ⟨S288x128, .f32⟩
  | .hbm, ⟨11, _⟩ => ⟨S_, .f32⟩
  | .hbm, ⟨12, _⟩ => ⟨S288x128, .f32⟩
  | .hbm, ⟨13, _⟩ => ⟨S288x128, .f32⟩
  | .hbm, ⟨14, _⟩ => ⟨S288x128, .f32⟩
  | .hbm, ⟨15, _⟩ => ⟨S_, .f32⟩
  | .hbm, ⟨16, _⟩ => ⟨S288x128, .f32⟩
  | .hbm, ⟨17, _⟩ => ⟨S288x128, .f32⟩
  | .hbm, ⟨18, _⟩ => ⟨S288x128, .f32⟩
  | .hbm, ⟨19, _⟩ => ⟨S_, .f32⟩
  | .hbm, ⟨20, _⟩ => ⟨S288x128, .f32⟩
  | .hbm, ⟨21, _⟩ => ⟨S288x128, .f32⟩
  | .hbm, ⟨22, _⟩ => ⟨S_, .f32⟩
  | .hbm, ⟨23, _⟩ => ⟨S288x128, .f32⟩
  | .hbm, ⟨24, _⟩ => ⟨S288x128, .f32⟩
  | .hbm, ⟨25, _⟩ => ⟨S288x128, .f32⟩
  | .hbm, ⟨26, _⟩ => ⟨S_, .f32⟩
  | .hbm, ⟨27, _⟩ => ⟨S288x128, .f32⟩
  | .hbm, ⟨28, _⟩ => ⟨S288x128, .f32⟩
  | .hbm, ⟨29, _⟩ => ⟨S288x128, .f32⟩
  | .hbm, ⟨30, _⟩ => ⟨S_, .f32⟩
  | .hbm, ⟨31, _⟩ => ⟨S288x128, .f32⟩
  | .hbm, ⟨32, _⟩ => ⟨S288x128, .f32⟩
  | .hbm, ⟨33, _⟩ => ⟨S288x128, .f32⟩
  | .hbm, ⟨34, _⟩ => ⟨S_, .f32⟩
  | .hbm, ⟨35, _⟩ => ⟨S288x128, .f32⟩
  | .hbm, ⟨36, _⟩ => ⟨S288x128, .f32⟩
  | _, _ => ⟨S288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelSsdOutF.lean ====
abbrev S8448x1024 : Shape := ⟨2, ![8448, 1024]⟩
abbrev S8448x1536 : Shape := ⟨2, ![8448, 1536]⟩
abbrev S8448x8064 : Shape := ⟨2, ![8448, 8064]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1536, .f32⟩
  | .hbm, ⟨3, _⟩ => ⟨S8448x8064, .f32⟩
  | .hbm, ⟨4, _⟩ => ⟨S1x1024, .f32⟩
  | .hbm, ⟨5, _⟩ => ⟨S1x1024, .f32⟩
  | .hbm, ⟨6, _⟩ => ⟨S8448x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceSsdOutFIdeal.lean ====
abbrev S8448x1024 : Shape := ⟨2, ![8448, 1024]⟩
abbrev S8448x1536 : Shape := ⟨2, ![8448, 1536]⟩
abbrev S8448x8064 : Shape := ⟨2, ![8448, 8064]⟩
abbrev S1x1024 : Shape := ⟨2, ![1, 1024]⟩
abbrev S_ : Shape := ⟨0, ![]⟩
abbrev S8448 : Shape := ⟨1, ![8448]⟩
abbrev S8448x1 : Shape := ⟨2, ![8448, 1]⟩

abbrev nBuf : Space → Nat
  | .hbm => 38
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1536, .f32⟩
  | .hbm, ⟨3, _⟩ => ⟨S8448x8064, .f32⟩
  | .hbm, ⟨4, _⟩ => ⟨S1x1024, .f32⟩
  | .hbm, ⟨5, _⟩ => ⟨S1x1024, .f32⟩
  | .hbm, ⟨6, _⟩ => ⟨S8448x1024, .f32⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S8448x1024, .f32⟩
  | .hbm, ⟨12, _⟩ => ⟨S8448x1024, .f32⟩
  | .hbm, ⟨13, _⟩ => ⟨S8448x1024, .f32⟩
  | .hbm, ⟨14, _⟩ => ⟨S_, .f32⟩
  | .hbm, ⟨15, _⟩ => ⟨S8448x1024, .f32⟩
  | .hbm, ⟨16, _⟩ => ⟨S8448x1024, .f32⟩
  | .hbm, ⟨17, _⟩ => ⟨S_, .f32⟩
  | .hbm, ⟨18, _⟩ => ⟨S8448x1024, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S_, .f32⟩
  | .hbm, ⟨24, _⟩ => ⟨S8448, .f32⟩
  | .hbm, ⟨25, _⟩ => ⟨S8448x1, .f32⟩
  | .hbm, ⟨26, _⟩ => ⟨S_, .f32⟩
  | .hbm, ⟨27, _⟩ => ⟨S8448x1, .f32⟩
  | .hbm, ⟨28, _⟩ => ⟨S8448x1, .f32⟩
  | .hbm, ⟨29, _⟩ => ⟨S_, .f32⟩
  | .hbm, ⟨30, _⟩ => ⟨S8448x1, .f32⟩
  | .hbm, ⟨31, _⟩ => ⟨S8448x1, .f32⟩
  | .hbm, ⟨32, _⟩ => ⟨S8448x1, .f32⟩
  | .hbm, ⟨33, _⟩ => ⟨S8448x1024, .f32⟩
  | .hbm, ⟨34, _⟩ => ⟨S8448x1024, .f32⟩
  | .hbm, ⟨35, _⟩ => ⟨S8448x1024, .f32⟩
  | .hbm, ⟨36, _⟩ => ⟨S8448x1024, .f32⟩
  | .hbm, ⟨37, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== KernelNormF.lean ====
abbrev S8448x1024 : Shape := ⟨2, ![8448, 1024]⟩
abbrev S2x1x6144 : Shape := ⟨3, ![2, 1, 6144]⟩
abbrev S1x1024 : Shape := ⟨2, ![1, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 4
  | .vmem => 9
  | .smem => 0
  | _ => 0

abbrev bufTy : (tb : Table) → Fin (tcTables nBuf tb) → BufTy
  | .hbm, ⟨0, _⟩ => ⟨S8448x1024, .f32⟩
  | .hbm, ⟨1, _⟩ => ⟨S2x1x6144, .f32⟩
  | .hbm, ⟨2, _⟩ => ⟨S1x1024, .f32⟩
  | .hbm, ⟨3, _⟩ => ⟨S8448x1024, .bf16⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceNormFIdeal.lean ====
abbrev S8448x1024 : Shape := ⟨2, ![8448, 1024]⟩
abbrev S2x1x6144 : Shape := ⟨3, ![2, 1, 6144]⟩
abbrev S1x1024 : Shape := ⟨2, ![1, 1024]⟩
abbrev S8192x1024 : Shape := ⟨2, ![8192, 1024]⟩
abbrev S1x1x6144 : Shape := ⟨3, ![1, 1, 6144]⟩
abbrev S1x6144 : Shape := ⟨2, ![1, 6144]⟩
abbrev S_ : Shape := ⟨0, ![]⟩
abbrev S8192 : Shape := ⟨1, ![8192]⟩
abbrev S8192x1 : Shape := ⟨2, ![8192, 1]⟩
abbrev S256x1024 : Shape := ⟨2, ![256, 1024]⟩
abbrev S256 : Shape := ⟨1, ![256]⟩
abbrev S256x1 : Shape := ⟨2, ![256, 1]⟩

abbrev nBuf : Space → Nat
  | .hbm => 68
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S2x1x6144, .f32⟩
  | .hbm, ⟨2, _⟩ => ⟨S1x1024, .f32⟩
  | .hbm, ⟨3, _⟩ => ⟨S8192x1024, .f32⟩
  | .hbm, ⟨4, _⟩ => ⟨S1x1x6144, .f32⟩
  | .hbm, ⟨5, _⟩ => ⟨S1x6144, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .bf16⟩
  | .hbm, ⟨35, _⟩ => ⟨S256x1024, .f32⟩
  | .hbm, ⟨36, _⟩ => ⟨S1x1x6144, .f32⟩
  | .hbm, ⟨37, _⟩ => ⟨S1x6144, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S256x1024, .f32⟩
  | .hbm, ⟨45, _⟩ => ⟨S_, .f32⟩
  | .hbm, ⟨46, _⟩ => ⟨S256, .f32⟩
  | .hbm, ⟨47, _⟩ => ⟨S256x1, .f32⟩
  | .hbm, ⟨48, _⟩ => ⟨S_, .f32⟩
  | .hbm, ⟨49, _⟩ => ⟨S256x1, .f32⟩
  | .hbm, ⟨50, _⟩ => ⟨S256x1, .f32⟩
  | .hbm, ⟨51, _⟩ => ⟨S_, .f32⟩
  | .hbm, ⟨52, _⟩ => ⟨S256x1, .f32⟩
  | .hbm, ⟨53, _⟩ => ⟨S256x1, .f32⟩
  | .hbm, ⟨54, _⟩ => ⟨S256x1, .f32⟩
  | .hbm, ⟨55, _⟩ => ⟨S256x1024, .f32⟩
  | .hbm, ⟨56, _⟩ => ⟨S256x1024, .f32⟩
  | .hbm, ⟨57, _⟩ => ⟨S256x1024, .f32⟩
  | .hbm, ⟨58, _⟩ => ⟨S256x1024, .f32⟩
  | .hbm, ⟨59, _⟩ => ⟨S_, .f32⟩
  | .hbm, ⟨60, _⟩ => ⟨S1x1024, .f32⟩
  | .hbm, ⟨61, _⟩ => ⟨S1x1024, .f32⟩
  | .hbm, ⟨62, _⟩ => ⟨S256x1024, .f32⟩
  | .hbm, ⟨63, _⟩ => ⟨S256x1024, .f32⟩
  | .hbm, ⟨64, _⟩ => ⟨S256x1024, .f32⟩
  | .hbm, ⟨65, _⟩ => ⟨S256x1024, .f32⟩
  | .hbm, ⟨66, _⟩ => ⟨S256x1024, .bf16⟩
  | .hbm, ⟨67, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩

abbrev nD : Nat := 1
abbrev τ : Topo := Topo.v7x

variable {F : FTy → Type} [FloatOps F]
-- ==== KernelRes1F.lean ====
abbrev S8448x1024 : Shape := ⟨2, ![8448, 1024]⟩
abbrev S2x1x6144 : Shape := ⟨3, ![2, 1, 6144]⟩
abbrev S1x1024 : Shape := ⟨2, ![1, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 6
  | .vmem => 15
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S2x1x6144, .f32⟩
  | .hbm, ⟨3, _⟩ => ⟨S1x1024, .f32⟩
  | .hbm, ⟨4, _⟩ => ⟨S8448x1024, .f32⟩
  | .hbm, ⟨5, _⟩ => ⟨S8448x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_4 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  ![v16.toNat, c0_i32_4.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceRes1FIdeal.lean ====
abbrev S8448x1024 : Shape := ⟨2, ![8448, 1024]⟩
abbrev S2x1x6144 : Shape := ⟨3, ![2, 1, 6144]⟩
abbrev S1x1024 : Shape := ⟨2, ![1, 1024]⟩
abbrev S8192x1024 : Shape := ⟨2, ![8192, 1024]⟩
abbrev S1x1x6144 : Shape := ⟨3, ![1, 1, 6144]⟩
abbrev S1x6144 : Shape := ⟨2, ![1, 6144]⟩
abbrev S_ : Shape := ⟨0, ![]⟩
abbrev S8192 : Shape := ⟨1, ![8192]⟩
abbrev S8192x1 : Shape := ⟨2, ![8192, 1]⟩
abbrev S256x1024 : Shape := ⟨2, ![256, 1024]⟩
abbrev S256 : Shape := ⟨1, ![256]⟩
abbrev S256x1 : Shape := ⟨2, ![256, 1]⟩

abbrev nBuf : Space → Nat
  | .hbm => 78
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S2x1x6144, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1x6144, .f32⟩
  | .hbm, ⟨7, _⟩ => ⟨S1x6144, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | .hbm, ⟨40, _⟩ => ⟨S256x1024, .f32⟩
  | .hbm, ⟨41, _⟩ => ⟨S256x1024, .f32⟩
  | .hbm, ⟨42, _⟩ => ⟨S1x1x6144, .f32⟩
  | .hbm, ⟨43, _⟩ => ⟨S1x6144, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S256x1024, .f32⟩
  | .hbm, ⟨51, _⟩ => ⟨S256x1024, .f32⟩
  | .hbm, ⟨52, _⟩ => ⟨S256x1024, .f32⟩
  | .hbm, ⟨53, _⟩ => ⟨S256x1024, .f32⟩
  | .hbm, ⟨54, _⟩ => ⟨S_, .f32⟩
  | .hbm, ⟨55, _⟩ => ⟨S256, .f32⟩
  | .hbm, ⟨56, _⟩ => ⟨S256x1, .f32⟩
  | .hbm, ⟨57, _⟩ => ⟨S_, .f32⟩
  | .hbm, ⟨58, _⟩ => ⟨S256x1, .f32⟩
  | .hbm, ⟨59, _⟩ => ⟨S256x1, .f32⟩
  | .hbm, ⟨60, _⟩ => ⟨S_, .f32⟩
  | .hbm, ⟨61, _⟩ => ⟨S256x1, .f32⟩
  | .hbm, ⟨62, _⟩ => ⟨S256x1, .f32⟩
  | .hbm, ⟨63, _⟩ => ⟨S256x1, .f32⟩
  | .hbm, ⟨64, _⟩ => ⟨S256x1024, .f32⟩
  | .hbm, ⟨65, _⟩ => ⟨S256x1024, .f32⟩
  | .hbm, ⟨66, _⟩ => ⟨S256x1024, .f32⟩
  | .hbm, ⟨67, _⟩ => ⟨S256x1024, .f32⟩
  | .hbm, ⟨68, _⟩ => ⟨S_, .f32⟩
  | .hbm, ⟨69, _⟩ => ⟨S1x1024, .f32⟩
  | .hbm, ⟨70, _⟩ => ⟨S1x1024, .f32⟩
  | .hbm, ⟨71, _⟩ => ⟨S256x1024, .f32⟩
  | .hbm, ⟨72, _⟩ => ⟨S256x1024, .f32⟩
  | .hbm, ⟨73, _⟩ => ⟨S256x1024, .f32⟩
  | .hbm, ⟨74, _⟩ => ⟨S256x1024, .f32⟩
  | .hbm, ⟨75, _⟩ => ⟨S256x1024, .bf16⟩
  | .hbm, ⟨76, _⟩ => ⟨S8448x1024, .f32⟩
  | .hbm, ⟨77, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_3 : Ref sig .tc := ⟨.hbm, 54, rfl⟩
abbrev main_v46 : Ref sig .tc := ⟨.hbm, 55, rfl⟩
abbrev main_v47 : Ref sig .tc := ⟨.hbm, 56, rfl⟩
abbrev main_cst_4 : Ref sig .tc := ⟨.hbm, 57, rfl⟩
abbrev main_v48 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_6 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩

abbrev nD : Nat := 1
abbrev τ : Topo := Topo.v7x

variable {F : FTy → Type} [FloatOps F]
-- ==== KernelRes2F.lean ====
abbrev S8448x1024 : Shape := ⟨2, ![8448, 1024]⟩
abbrev S2x1x6144 : Shape := ⟨3, ![2, 1, 6144]⟩
abbrev S1x1024 : Shape := ⟨2, ![1, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 7
  | .vmem => 15
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S2x1x6144, .f32⟩
  | .hbm, ⟨3, _⟩ => ⟨S2x1x6144, .f32⟩
  | .hbm, ⟨4, _⟩ => ⟨S1x1024, .f32⟩
  | .hbm, ⟨5, _⟩ => ⟨S8448x1024, .f32⟩
  | .hbm, ⟨6, _⟩ => ⟨S8448x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceRes2FIdeal.lean ====
abbrev S8448x1024 : Shape := ⟨2, ![8448, 1024]⟩
abbrev S2x1x6144 : Shape := ⟨3, ![2, 1, 6144]⟩
abbrev S1x1024 : Shape := ⟨2, ![1, 1024]⟩
abbrev S8192x1024 : Shape := ⟨2, ![8192, 1024]⟩
abbrev S1x1x6144 : Shape := ⟨3, ![1, 1, 6144]⟩
abbrev S1x6144 : Shape := ⟨2, ![1, 6144]⟩
abbrev S_ : Shape := ⟨0, ![]⟩
abbrev S8192 : Shape := ⟨1, ![8192]⟩
abbrev S8192x1 : Shape := ⟨2, ![8192, 1]⟩
abbrev S256x1024 : Shape := ⟨2, ![256, 1024]⟩
abbrev S256 : Shape := ⟨1, ![256]⟩
abbrev S256x1 : Shape := ⟨2, ![256, 1]⟩

abbrev nBuf : Space → Nat
  | .hbm => 95
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S2x1x6144, .f32⟩
  | .hbm, ⟨3, _⟩ => ⟨S2x1x6144, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S1x1x6144, .f32⟩
  | .hbm, ⟨8, _⟩ => ⟨S1x6144, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1x6144, .f32⟩
  | .hbm, ⟨16, _⟩ => ⟨S1x6144, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .bf16⟩
  | .hbm, ⟨49, _⟩ => ⟨S256x1024, .f32⟩
  | .hbm, ⟨50, _⟩ => ⟨S256x1024, .f32⟩
  | .hbm, ⟨51, _⟩ => ⟨S1x1x6144, .f32⟩
  | .hbm, ⟨52, _⟩ => ⟨S1x6144, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S1x1x6144, .f32⟩
  | .hbm, ⟨60, _⟩ => ⟨S1x6144, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S256x1024, .f32⟩
  | .hbm, ⟨68, _⟩ => ⟨S256x1024, .f32⟩
  | .hbm, ⟨69, _⟩ => ⟨S256x1024, .f32⟩
  | .hbm, ⟨70, _⟩ => ⟨S256x1024, .f32⟩
  | .hbm, ⟨71, _⟩ => ⟨S_, .f32⟩
  | .hbm, ⟨72, _⟩ => ⟨S256, .f32⟩
  | .hbm, ⟨73, _⟩ => ⟨S256x1, .f32⟩
  | .hbm, ⟨74, _⟩ => ⟨S_, .f32⟩
  | .hbm, ⟨75, _⟩ => ⟨S256x1, .f32⟩
  | .hbm, ⟨76, _⟩ => ⟨S256x1, .f32⟩
  | .hbm, ⟨77, _⟩ => ⟨S_, .f32⟩
  | .hbm, ⟨78, _⟩ => ⟨S256x1, .f32⟩
  | .hbm, ⟨79, _⟩ => ⟨S256x1, .f32⟩
  | .hbm, ⟨80, _⟩ => ⟨S256x1, .f32⟩
  | .hbm, ⟨81, _⟩ => ⟨S256x1024, .f32⟩
  | .hbm, ⟨82, _⟩ => ⟨S256x1024, .f32⟩
  | .hbm, ⟨83, _⟩ => ⟨S256x1024, .f32⟩
  | .hbm, ⟨84, _⟩ => ⟨S256x1024, .f32⟩
  | .hbm, ⟨85, _⟩ => ⟨S_, .f32⟩
  | .hbm, ⟨86, _⟩ => ⟨S1x1024, .f32⟩
  | .hbm, ⟨87, _⟩ => ⟨S1x1024, .f32⟩
  | .hbm, ⟨88, _⟩ => ⟨S256x1024, .f32⟩
  | .hbm, ⟨89, _⟩ => ⟨S256x1024, .f32⟩
  | .hbm, ⟨90, _⟩ => ⟨S256x1024, .f32⟩
  | .hbm, ⟨91, _⟩ => ⟨S256x1024, .f32⟩
  | .hbm, ⟨92, _⟩ => ⟨S256x1024, .bf16⟩
  | .hbm, ⟨93, _⟩ => ⟨S8448x1024, .f32⟩
  | .hbm, ⟨94, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_cst_3 : Ref sig .tc := ⟨.hbm, 71, rfl⟩
abbrev main_v62 : Ref sig .tc := ⟨.hbm, 72, rfl⟩
abbrev main_v63 : Ref sig .tc := ⟨.hbm, 73, rfl⟩
abbrev main_cst_4 : Ref sig .tc := ⟨.hbm, 74, rfl⟩
abbrev main_v64 : Ref sig .tc := ⟨.hbm, 75, rfl⟩
abbrev main_v65 : Ref sig .tc := ⟨.hbm, 76, rfl⟩
abbrev main_cst_5 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_6 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩

abbrev nD : Nat := 1
abbrev τ : Topo := Topo.v7x

variable {F : FTy → Type} [FloatOps F]
-- ==== Proof.KernelIdeal.FwdBody.lean ====
/- The forward kernel's body at one grid point: which values it leaves in its two output blocks. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Cert.KernelIdeal.Facts

variable {F : FTy → Type} [FloatOps F] [Named F]

local notation "𝕄" => MT nD τ sig Unit (Elt F) ℕ (UR sig nD τ) ℕ

/-! ## The values -/

/-- Rows `o … o + 2815` of the keys of a head. -/
def keyRows (x : Vec F S8448x256 .bf16) (o : ℕ) (h : ∀ a, (![o, 0] : Fin 2 → ℕ) a + S2816x256.size a ≤ S8448x256.size a) : Vec F S2816x256 .bf16 :=
  VecWindow.window x ![o, 0] S2816x256.size h
/-- Rows `o … o + 2815` of the values of a head. -/
def valRows (x : Vec F S8448x128 .bf16) (o : ℕ) (h : ∀ a, (![o, 0] : Fin 2 → ℕ) a + S2816x128.size a ≤ S8448x128.size a) : Vec F S2816x128 .bf16 :=
  VecWindow.window x ![o, 0] S2816x128.size h

/-- What a block of latent queries `q` leaves in the attention's output, from the three thirds of the keys and values. -/
def latO (q : Vec F S256x256 .bf16) (k₁ k₂ k₃ : Vec F S2816x256 .bf16) (v₁ v₂ v₃ : Vec F S2816x128 .bf16) : FVec F S256x128 .bf16 :=
  let m₁ := k0_pay5 q k₁
  let p₁ := k0_pay6 q k₁
  let l₁ := k0_pay7 p₁
  let a₁ := k0_pay8 p₁ v₁
  let s₂ := k0_pay9 q k₂
  let m₂ := k0_pay11 s₂
  let p₂ := k0_pay12 s₂
  let l₂ := k0_pay15 p₂ (k0_pay13 s₂) (k0_pay14 s₂)
  let a₂ := k0_pay16 p₂ v₂
  let s₃ := k0_pay17 q k₃
  let f₃ := k0_pay18 q k₃
  let m₃ := k0_pay19 s₃ f₃
  let p₃ := k0_pay20 s₃ f₃
  let a₃ := k0_pay23 p₃ v₃
  k0_pay1 a₂ m₃ a₃ (k0_pay24 m₁ m₂ m₃) (k0_pay25 m₁ l₁ m₂ l₂ m₃ p₃ (k0_pay21 s₃ f₃) (k0_pay22 s₃ f₃))
    (k0_pay26 m₁ a₁ m₂ m₃) (k0_pay27 m₁ m₂ m₃)

/-- What a block of latent queries leaves in the row of logarithms. -/
def latL (q : Vec F S256x256 .bf16) (k₁ k₂ k₃ : Vec F S2816x256 .bf16) : FVec F S1x256x1 .f32 :=
  let m₁ := k0_pay5 q k₁
  let p₁ := k0_pay6 q k₁
  let l₁ := k0_pay7 p₁
  let s₂ := k0_pay9 q k₂
  let m₂ := k0_pay11 s₂
  let p₂ := k0_pay12 s₂
  let l₂ := k0_pay15 p₂ (k0_pay13 s₂) (k0_pay14 s₂)
  let s₃ := k0_pay17 q k₃
  let f₃ := k0_pay18 q k₃
  let m₃ := k0_pay19 s₃ f₃
  let p₃ := k0_pay20 s₃ f₃
  k0_pay2 (k0_pay24 m₁ m₂ m₃) (k0_pay25 m₁ l₁ m₂ l₂ m₃ p₃ (k0_pay21 s₃ f₃) (k0_pay22 s₃ f₃))

/-- The output block at a point whose queries are latent (`lat`) or of the context. -/
def fwdO (lat : Prop) [Decidable lat] (q : Vec F S256x256 .bf16) (k : Vec F S8448x256 .bf16) (v : Vec F S8448x128 .bf16) : FVec F S256x128 .bf16 :=
  if lat then
    latO (VecWindow.window q ![0, 0] S256x256.size inb_S256x256_S256x256_0_0) (keyRows k 0 inb_S8448x256_S2816x256_0_0) (keyRows k 2816 inb_S8448x256_S2816x256_2816_0) (keyRows k 5632 inb_S8448x256_S2816x256_5632_0)
      (valRows v 0 inb_S8448x128_S2816x128_0_0) (valRows v 2816 inb_S8448x128_S2816x128_2816_0) (valRows v 5632 inb_S8448x128_S2816x128_5632_0)
  else k0_pay32 (VecWindow.window q ![0, 0] S256x256.size inb_S256x256_S256x256_0_0) (VecWindow.window k ![8192, 0] S256x256.size inb_S8448x256_S256x256_8192_0) (VecWindow.window v ![8192, 0] S256x128.size inb_S8448x128_S256x128_8192_0)

/-- The block of logarithms there. -/
def fwdL (lat : Prop) [Decidable lat] (q : Vec F S256x256 .bf16) (k : Vec F S8448x256 .bf16) : FVec F S1x256x1 .f32 :=
  if lat then
    latL (VecWindow.window q ![0, 0] S256x256.size inb_S256x256_S256x256_0_0) (keyRows k 0 inb_S8448x256_S2816x256_0_0) (keyRows k 2816 inb_S8448x256_S2816x256_2816_0) (keyRows k 5632 inb_S8448x256_S2816x256_5632_0)
  else k0_pay3 (k0_pay33 (VecWindow.window q ![0, 0] S256x256.size inb_S256x256_S256x256_0_0) (VecWindow.window k ![8192, 0] S256x256.size inb_S8448x256_S256x256_8192_0))

/-! ## The body -/

set_option maxHeartbeats 2000000 in
/-- At a point of latent queries the body reads the three input blocks and leaves `fwdO` and `fwdL` of them. -/
theorem fwd_lat (c : Dev nD) (i : grid0.Coords) (hc1 : k0_cond1 i = 1#1) (hc2 : ¬k0_cond2 i = 1#1)
    (arg2 : Memref sig .tc .vmem S256x256 .bf16) (harg2 : arg2.IsWhole) (arg3 : Memref sig .tc .vmem S8448x256 .bf16) (harg3 : arg3.IsWhole)
    (arg4 : Memref sig .tc .vmem S8448x128 .bf16) (harg4 : arg4.IsWhole) (arg5 : Memref sig .tc .vmem S256x128 .bf16) (harg5 : arg5.IsWhole)
    (arg6 : Memref sig .tc .vmem S1x256x1 .f32) (harg6 : arg6.IsWhole)
    (q : Vec F S256x256 .bf16) (k : Vec F S8448x256 .bf16) (v : Vec F S8448x128 .bf16) (E : Set ℕ) (K : PUnit → sProp 𝕄) :
    iprop(owns (c : Thread nD τ) arg2 fullShare q ∗ owns (c : Thread nD τ) arg3 fullShare k ∗ owns (c : Thread nD τ) arg4 fullShare v
        ∗ (∃ d, owns (c : Thread nD τ) arg5 fullShare d) ∗ (∃ d, owns (c : Thread nD τ) arg6 fullShare d)
        ∗ (iprop(owns (c : Thread nD τ) arg2 fullShare q ∗ owns (c : Thread nD τ) arg3 fullShare k ∗ owns (c : Thread nD τ) arg4 fullShare v
            ∗ owns (c : Thread nD τ) arg5 fullShare (fwdO True q k v) ∗ owns (c : Thread nD τ) arg6 fullShare (fwdL True q k)) -∗ K ⟨⟩))
      ⊢ wp frame (wpE (defs₀ (F := F)) Variants.none c none) E (cc0_l1_mla_fwd i arg2 harg2 arg3 harg3 arg4 harg4 arg5 harg5 arg6 harg6) K := by
  simp only [cc0_l1_mla_fwd_eq_skeleton]; unfold cc0_l1_mla_fwd_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%d5, %f5, -, H5⟩, ⟨%d6, %f6, -, H6⟩, Hk⟩
  subst hf2 hf3 hf4
  sl_exec (disch := first | sl_exact hc1 | sl_exact hc2)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro
    rw [View.read_writes_full]
    unfold fwdO
    rw [if_pos trivial]
    rfl
  iexists _; isplitr
  swap; · iexact H6
  ipureintro
  rw [View.read_writes_full]
  unfold fwdL
  rw [if_pos trivial]
  rfl

set_option maxHeartbeats 2000000 in
/-- At a point of context queries the body attends to the context's keys alone. -/
theorem fwd_ctx (c : Dev nD) (i : grid0.Coords) (hc1 : ¬k0_cond1 i = 1#1) (hc2 : k0_cond2 i = 1#1)
    (arg2 : Memref sig .tc .vmem S256x256 .bf16) (harg2 : arg2.IsWhole) (arg3 : Memref sig .tc .vmem S8448x256 .bf16) (harg3 : arg3.IsWhole)
    (arg4 : Memref sig .tc .vmem S8448x128 .bf16) (harg4 : arg4.IsWhole) (arg5 : Memref sig .tc .vmem S256x128 .bf16) (harg5 : arg5.IsWhole)
    (arg6 : Memref sig .tc .vmem S1x256x1 .f32) (harg6 : arg6.IsWhole)
    (q : Vec F S256x256 .bf16) (k : Vec F S8448x256 .bf16) (v : Vec F S8448x128 .bf16) (E : Set ℕ) (K : PUnit → sProp 𝕄) :
    iprop(owns (c : Thread nD τ) arg2 fullShare q ∗ owns (c : Thread nD τ) arg3 fullShare k ∗ owns (c : Thread nD τ) arg4 fullShare v
        ∗ (∃ d, owns (c : Thread nD τ) arg5 fullShare d) ∗ (∃ d, owns (c : Thread nD τ) arg6 fullShare d)
        ∗ (iprop(owns (c : Thread nD τ) arg2 fullShare q ∗ owns (c : Thread nD τ) arg3 fullShare k ∗ owns (c : Thread nD τ) arg4 fullShare v
            ∗ owns (c : Thread nD τ) arg5 fullShare (fwdO False q k v) ∗ owns (c : Thread nD τ) arg6 fullShare (fwdL False q k)) -∗ K ⟨⟩))
      ⊢ wp frame (wpE (defs₀ (F := F)) Variants.none c none) E (cc0_l1_mla_fwd i arg2 harg2 arg3 harg3 arg4 harg4 arg5 harg5 arg6 harg6) K := by
  simp only [cc0_l1_mla_fwd_eq_skeleton]; unfold cc0_l1_mla_fwd_skel
  simp only [k0_part7_eq_skeleton]
  unfold owns
  iintro ⟨⟨%f2, %hf2, H2⟩, ⟨%f3, %hf3, H3⟩, ⟨%f4, %hf4, H4⟩, ⟨%d5, %f5, -, H5⟩, ⟨%d6, %f6, -, H6⟩, Hk⟩
  subst hf2 hf3 hf4
  sl_exec (disch := first | sl_exact hc1 | sl_exact hc2)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro
    rw [View.read_writes_full]
    unfold fwdO
    rw [if_neg not_false]
    rfl
  iexists _; isplitr
  swap; · iexact H6
  ipureintro
  rw [View.read_writes_full]
  unfold fwdL
  rw [if_neg not_false]
  rfl

end Cert.KernelIdeal.Own

end
-- ==== Proof.KernelIdeal.FwdRegion.lean ====
/- The forward call: its proof data and its body obligation. -/
module

public import proofs.«01_k».proof.Proof.KernelIdeal.FwdBody
public import Idealize.ShloMosaic.Lib.Pipeline.TableIdle

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Cert.KernelIdeal.Facts
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Blocks and conditions -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input 0's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input 1's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input 2's staging buffer holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Condition 1 of the body, over the points. -/
theorem hcond0_1 : ∀ t : Fin cfg0.N, k0_cond1 (grid0.coords t) = 1#1 ↔ t.val % 33 ≤ 31 :=
  (by decide +kernel : ∀ t : Fin grid0.N, k0_cond1 (grid0.coords t) = 1#1 ↔ t.val % 33 ≤ 31)

/-- Condition 2 of the body, over the points. -/
theorem hcond0_2 : ∀ t : Fin cfg0.N, k0_cond2 (grid0.coords t) = 1#1 ↔ t.val % 33 = 32 :=
  (fun t => by
    have ht : t.val < 264 := Nat.lt_of_lt_of_eq t.isLt N_0
    have e0 : (grid0.coords t 0).val = t.val / 33 % 8 := Pipeline.Grid.coords_val t 0 (by decide) rfl
    have e1 : (grid0.coords t 1).val = t.val / 1 % 33 := Pipeline.Grid.coords_val t 1 (by decide) rfl
    simp only [k0_cond2, e0, e1]
    word_cmp
   : ∀ t : Fin grid0.N, k0_cond2 (grid0.coords t) = 1#1 ↔ t.val % 33 = 32)

/-! ## Live windows and staging buffers -/

/-- Window 0 is live at every point. -/
theorem liveAt0_0 : ∀ t : Fin cfg0.N, cfg0.idle 0 (grid0.coords t) = false := fun _ => rfl
/-- Window 1 is live at every point. -/
theorem liveAt0_1 : ∀ t : Fin cfg0.N, cfg0.idle 1 (grid0.coords t) = false := fun _ => rfl
/-- Window 2 is live at every point. -/
theorem liveAt0_2 : ∀ t : Fin cfg0.N, cfg0.idle 2 (grid0.coords t) = false := fun _ => rfl
/-- Window 3 is live at every point. -/
theorem liveAt0_3 : ∀ t : Fin cfg0.N, cfg0.idle 3 (grid0.coords t) = false := by decide +kernel
/-- Window 4 is live at every point. -/
theorem liveAt0_4 : ∀ t : Fin cfg0.N, cfg0.idle 4 (grid0.coords t) = false := by decide +kernel
/-- Window 0's staging buffer at a point. -/
abbrev ms0_0 (t : Fin cfg0.N) : Memref sig .tc .vmem S256x256 .bf16 := win0_0.stage (cfg0.slots t 0)
/-- Window 1's staging buffer at a point. -/
abbrev ms0_1 (t : Fin cfg0.N) : Memref sig .tc .vmem S8448x256 .bf16 := win0_1.stage (cfg0.slots t 1)
/-- Window 2's staging buffer at a point. -/
abbrev ms0_2 (t : Fin cfg0.N) : Memref sig .tc .vmem S8448x128 .bf16 := win0_2.stage (cfg0.slots t 2)
/-- Window 3's staging buffer at a point. -/
abbrev ms0_3 (t : Fin cfg0.N) : Memref sig .tc .vmem S256x128 .bf16 := win0_3.stage (cfg0.slots t 3)
/-- Window 4's staging buffer at a point. -/
abbrev ms0_4 (t : Fin cfg0.N) : Memref sig .tc .vmem S1x256x1 .f32 := win0_4.stage (cfg0.slots t 4)

/-! ## What the outputs hold -/

/-- A block of latent queries, however its condition is written. -/
theorem fwdO_pos (p : Prop) [Decidable p] (h : p) (q : Vec F S256x256 .bf16) (k : Vec F S8448x256 .bf16) (v : Vec F S8448x128 .bf16) :
    fwdO p q k v = fwdO True q k v := by unfold fwdO; rw [if_pos h, if_pos trivial]
/-- A block of latent queries, however its condition is written. -/
theorem fwdL_pos (p : Prop) [Decidable p] (h : p) (q : Vec F S256x256 .bf16) (k : Vec F S8448x256 .bf16) :
    fwdL p q k = fwdL True q k := by unfold fwdL; rw [if_pos h, if_pos trivial]
/-- The block of context queries, however its condition is written. -/
theorem fwdO_neg (p : Prop) [Decidable p] (h : ¬p) (q : Vec F S256x256 .bf16) (k : Vec F S8448x256 .bf16) (v : Vec F S8448x128 .bf16) :
    fwdO p q k v = fwdO False q k v := by unfold fwdO; rw [if_neg h, if_neg not_false]
/-- The block of context queries, however its condition is written. -/
theorem fwdL_neg (p : Prop) [Decidable p] (h : ¬p) (q : Vec F S256x256 .bf16) (k : Vec F S8448x256 .bf16) :
    fwdL p q k = fwdL False q k := by unfold fwdL; rw [if_neg h, if_neg not_false]

/-- The proof data of the call on core `c`: the arrays as the call finds them; after a point each input's buffer holds its block and each
    output's what the body leaves there. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => fwdO (t.val % 33 ≤ 31) (iblk0 V c 0 t) (iblk0 V c 1 t) (iblk0 V c 2 t)
    | ⟨4, _⟩ => fwdL (t.val % 33 ≤ 31) (iblk0 V c 0 t) (iblk0 V c 1 t)
  Φ _ := Pipeline.scopedRest spec0 c
  q _ := fullShare
  owed _ := 0

/-- The arrays of the proof data are the contents the call finds. -/
theorem A_eq0 (c : Dev nD) (w : Fin cfg0.W) : (dat0 V c).A w = V c (Pipeline.arrRef spec0 w) := by dsimp only [dat0]
/-- What the body leaves in window 0. -/
theorem after0_0 (c : Dev nD) (t : Fin cfg0.N) : (dat0 V c).after 0 t = iblk0 V c 0 t := by dsimp only [dat0]
/-- What the body leaves in window 1. -/
theorem after0_1 (c : Dev nD) (t : Fin cfg0.N) : (dat0 V c).after 1 t = iblk0 V c 1 t := by dsimp only [dat0]
/-- What the body leaves in window 2. -/
theorem after0_2 (c : Dev nD) (t : Fin cfg0.N) : (dat0 V c).after 2 t = iblk0 V c 2 t := by dsimp only [dat0]
/-- What the body leaves in window 3. -/
theorem after0_3 (c : Dev nD) (t : Fin cfg0.N) : (dat0 V c).after 3 t = fwdO (t.val % 33 ≤ 31) (iblk0 V c 0 t) (iblk0 V c 1 t) (iblk0 V c 2 t) := by dsimp only [dat0]
/-- What the body leaves in window 4. -/
theorem after0_4 (c : Dev nD) (t : Fin cfg0.N) : (dat0 V c).after 4 t = fwdL (t.val % 33 ≤ 31) (iblk0 V c 0 t) (iblk0 V c 1 t) := by dsimp only [dat0]
/-- What the body finds in window 0. -/
theorem before0_0 (c : Dev nD) (t : Fin cfg0.N) (d) : (dat0 V c).before 0 t d = iblk0 V c 0 t :=
  before0_0_of V (dat0 V c) (A_eq0 V c 0) (after0_0 V c) t d
/-- What the body finds in window 1. -/
theorem before0_1 (c : Dev nD) (t : Fin cfg0.N) (d) : (dat0 V c).before 1 t d = iblk0 V c 1 t :=
  before0_1_of V (dat0 V c) (A_eq0 V c 1) (after0_1 V c) t d
/-- What the body finds in window 2. -/
theorem before0_2 (c : Dev nD) (t : Fin cfg0.N) (d) : (dat0 V c).before 2 t d = iblk0 V c 2 t :=
  before0_2_of V (dat0 V c) (A_eq0 V c 2) (after0_2 V c) t d
/-- Window 0 is left at what the proof data says. -/
theorem leaves0_0 (c : Dev nD) (t : Fin cfg0.N) :
    (dat0 V c).leavesExact 0 t = owns (c : Thread nD τ) (ms0_0 t) fullShare ((dat0 V c).after 0 t) := by
  unfold Dat.leavesExact; rw [liveAt0_0 t]
/-- Window 1 is left at what the proof data says. -/
theorem leaves0_1 (c : Dev nD) (t : Fin cfg0.N) :
    (dat0 V c).leavesExact 1 t = owns (c : Thread nD τ) (ms0_1 t) fullShare ((dat0 V c).after 1 t) := by
  unfold Dat.leavesExact; rw [liveAt0_1 t]
/-- Window 2 is left at what the proof data says. -/
theorem leaves0_2 (c : Dev nD) (t : Fin cfg0.N) :
    (dat0 V c).leavesExact 2 t = owns (c : Thread nD τ) (ms0_2 t) fullShare ((dat0 V c).after 2 t) := by
  unfold Dat.leavesExact; rw [liveAt0_2 t]
/-- Window 3 is left at what the proof data says. -/
theorem leaves0_3 (c : Dev nD) (t : Fin cfg0.N) :
    (dat0 V c).leavesExact 3 t = owns (c : Thread nD τ) (ms0_3 t) fullShare ((dat0 V c).after 3 t) := by
  unfold Dat.leavesExact; rw [liveAt0_3 t]
/-- Window 4 is left at what the proof data says. -/
theorem leaves0_4 (c : Dev nD) (t : Fin cfg0.N) :
    (dat0 V c).leavesExact 4 t = owns (c : Thread nD τ) (ms0_4 t) fullShare ((dat0 V c).after 4 t) := by
  unfold Dat.leavesExact; rw [liveAt0_4 t]

/-! ## The body obligation -/

/-- What the body is called with at a point. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- What the body returns at a point. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 800000 in
/-- The body's triple at every point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl]
  have hN : t.val < 264 := lt_of_lt_of_eq t.isLt (show cfg0.N = 264 from N_0)
  rw [leaves0_0, leaves0_1, leaves0_2, leaves0_3, leaves0_4]
  rw [after0_0, after0_1, after0_2, after0_3, after0_4]
  by_cases h0 : t.val % 33 ≤ 31
  · rw [fwdO_pos _ h0, fwdL_pos _ h0]
    iintro ⟨HΦ, Ho, ⟨%d0, H0⟩, ⟨%d1, H1⟩, ⟨%d2, H2⟩, ⟨%d3, H3⟩, ⟨%d4, H4⟩⟩
    iapply (fwd_lat c (grid0.coords t) ((hcond0_1 t).mpr h0) (fun h => absurd ((hcond0_2 t).mp h) (by omega)) _ _ _ _ _ _ _ _ _ _ (iblk0 V c 0 t) (iblk0 V c 1 t) (iblk0 V c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [fwdO_neg _ h0, fwdL_neg _ h0]
    iintro ⟨HΦ, Ho, ⟨%d0, H0⟩, ⟨%d1, H1⟩, ⟨%d2, H2⟩, ⟨%d3, H3⟩, ⟨%d4, H4⟩⟩
    iapply (fwd_ctx c (grid0.coords t) (fun h => h0 ((hcond0_1 t).mp h)) ((hcond0_2 t).mpr (by omega)) _ _ _ _ _ _ _ _ _ _ (iblk0 V c 0 t) (iblk0 V c 1 t) (iblk0 V c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The definitions' row of the call is its body at the point. -/
theorem defs₀_row0 (t : Fin cfg0.N) :
    defs₀ (F := F) .tc cfg0.body (cfg0.bodyArgs t (cfg0.slots t)) = bodyAt0 t := by
  unfold defs₀; rw [Defs.onTc_tc]

/-- The body obligation of the call. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Own

end
-- ==== Proof.KernelIdeal.BwdBody.lean ====
/- The backward kernel's body at one grid point: which values it leaves in its three output blocks. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Cert.KernelIdeal.Facts

variable {F : FTy → Type} [FloatOps F] [Named F]

local notation "𝕄" => MT nD τ sig Unit (Elt F) ℕ (UR sig nD τ) ℕ

/-! ## The values -/

/-- The first and the second half of a head's keys. -/
def keyHalf (x : Vec F S8448x256 .bf16) (o : ℕ) (h : ∀ a, (![o, 0] : Fin 2 → ℕ) a + S4224x256.size a ≤ S8448x256.size a) : Vec F S4224x256 .bf16 :=
  VecWindow.window x ![o, 0] S4224x256.size h
/-- The first and the second half of a head's values. -/
def valHalf (x : Vec F S8448x128 .bf16) (o : ℕ) (h : ∀ a, (![o, 0] : Fin 2 → ℕ) a + S4224x128.size a ≤ S8448x128.size a) : Vec F S4224x128 .bf16 :=
  VecWindow.window x ![o, 0] S4224x128.size h
/-- The context's keys of a head. -/
def keyCtx (x : Vec F S8448x256 .bf16) : Vec F S256x256 .bf16 := VecWindow.window x ![8192, 0] S256x256.size inb_S8448x256_S256x256_8192_0
/-- The context's values of a head. -/
def valCtx (x : Vec F S8448x128 .bf16) : Vec F S256x128 .bf16 := VecWindow.window x ![8192, 0] S256x128.size inb_S8448x128_S256x128_8192_0

/-- A whole block read through its own rectangle. -/
def wq (q : Vec F S256x256 .bf16) : Vec F S256x256 .bf16 := VecWindow.window q ![0, 0] S256x256.size inb_S256x256_S256x256_0_0
def wo (q : Vec F S256x128 .bf16) : Vec F S256x128 .bf16 := VecWindow.window q ![0, 0] S256x128.size inb_S256x128_S256x128_0_0
def wl (q : Vec F S1x256x1 .f32) : Vec F S1x256x1 .f32 := VecWindow.window q ![0, 0, 0] S1x256x1.size inb_S1x256x1_S1x256x1_0_0_0

/-- The gradient of a block of queries. -/
def bwdQ (lat : Prop) [Decidable lat] (q : Vec F S256x256 .bf16) (k : Vec F S8448x256 .bf16) (v : Vec F S8448x128 .bf16)
    (o g : Vec F S256x128 .bf16) (l : Vec F S1x256x1 .f32) : FVec F S256x256 .f32 :=
  if lat then
    k1_pay6 (wq q) (wo g) (wo o)
      (k1_pay11 (wq q) (wo g) (k1_pay3 (wo g) (wo o)) (keyHalf k 0 inb_S8448x256_S4224x256_0_0) (wl l) (valHalf v 0 inb_S8448x128_S4224x128_0_0))
      (keyHalf k 4224 inb_S8448x256_S4224x256_4224_0) (constant S256x4224 .f32 0x00000000#32) (wl l) (valHalf v 4224 inb_S8448x128_S4224x128_4224_0)
  else k1_pay16 (wq q) (wo g) (k1_pay3 (wo g) (wo o)) (keyCtx k) (wl l) (valCtx v)

/-- The transposed gradient of the keys after a block of queries, from the one before it. -/
def bwdK (lat : Prop) [Decidable lat] (q : Vec F S256x256 .bf16) (k : Vec F S8448x256 .bf16) (v : Vec F S8448x128 .bf16)
    (o g : Vec F S256x128 .bf16) (l : Vec F S1x256x1 .f32) (dk : Vec F S256x8448 .f32) : Vec F S256x8448 .f32 :=
  if lat then
    VecWindow.put
      (VecWindow.put dk ![0, 0] S256x4224.size
        (k1_pay12 (wq q) (wo g) (k1_pay3 (wo g) (wo o)) (keyHalf k 0 inb_S8448x256_S4224x256_0_0) (wl l) (valHalf v 0 inb_S8448x128_S4224x128_0_0)
          (VecWindow.window dk ![0, 0] S256x4224.size inb_S256x8448_S256x4224_0_0)))
      ![0, 4224] S256x4224.size
      (k1_pay7 (wq q) (wo g) (wo o) (keyHalf k 4224 inb_S8448x256_S4224x256_4224_0) (constant S256x4224 .f32 0x00000000#32) (wl l)
        (valHalf v 4224 inb_S8448x128_S4224x128_4224_0) (VecWindow.window dk ![0, 4224] S256x4224.size inb_S256x8448_S256x4224_0_4224))
  else
    VecWindow.put dk ![0, 8192] S256x256.size
      (k1_pay17 (wq q) (wo g) (k1_pay3 (wo g) (wo o)) (keyCtx k) (wl l) (valCtx v) (VecWindow.window dk ![0, 8192] S256x256.size inb_S256x8448_S256x256_0_8192))

/-- The transposed gradient of the values after a block of queries, from the one before it. -/
def bwdV (lat : Prop) [Decidable lat] (q : Vec F S256x256 .bf16) (k : Vec F S8448x256 .bf16) (v : Vec F S8448x128 .bf16)
    (g : Vec F S256x128 .bf16) (l : Vec F S1x256x1 .f32) (dv : Vec F S128x8448 .f32) : Vec F S128x8448 .f32 :=
  if lat then
    VecWindow.put
      (VecWindow.put dv ![0, 0] S128x4224.size
        (k1_pay13 (wq q) (wo g) (keyHalf k 0 inb_S8448x256_S4224x256_0_0) (wl l) (VecWindow.window dv ![0, 0] S128x4224.size inb_S128x8448_S128x4224_0_0)))
      ![0, 4224] S128x4224.size
      (k1_pay8 (wq q) (wo g) (keyHalf k 4224 inb_S8448x256_S4224x256_4224_0) (constant S256x4224 .f32 0x00000000#32) (wl l)
        (VecWindow.window dv ![0, 4224] S128x4224.size inb_S128x8448_S128x4224_0_4224))
  else
    VecWindow.put dv ![0, 8192] S128x256.size
      (k1_pay18 (wq q) (wo g) (keyCtx k) (wl l) (VecWindow.window dv ![0, 8192] S128x256.size inb_S128x8448_S128x256_0_8192))

/-- A load that a list of stores covers is a window of what the stores leave. -/
theorem window_of_stores {sig : RefSig} {κ : Kind} {sp : Space} {s : Shape} {e : EltTy} {Val : EltTy → Type} [∀ e, Nonempty (Val e)]
    (v : View sig κ sp s e) (L : List (View.Piece Val s e)) {x : s.Idx → Val e} (off size : Fin s.rank → ℕ) (inb : ∀ a, off a + size a ≤ s.size a)
    (h : ∀ f, v.read Val (v.writes Val f L) = x) : v.readCov L (Rect.unit off size inb).toLoadRect = VecWindow.window x off size inb :=
  (View.readAt_unit v _ inb rfl inb).trans (congrArg (fun d => VecWindow.window d off size inb) (h _))

/-- Equal writes into equal arrays leave equal arrays. -/
theorem put_of {s : Shape} {α : Type} {x y : s.Idx → α} (off size : Fin s.rank → ℕ) {w w' : ((a : Fin s.rank) → Fin (size a)) → α} (h : x = y) (hw : w = w') :
    VecWindow.put x off size w = VecWindow.put y off size w' := congrArg₂ (fun d w => VecWindow.put d off size w) h hw

/-! ## The body -/

set_option maxHeartbeats 400000 in
/-- At a later point of latent queries the body adds to both sums. -/
theorem bwd_mid (c : Dev nD) (i : grid1.Coords) (hc1 : ¬k1_cond1 i = 1#1) (hc2 : k1_cond2 i = 1#1) (hc3 : ¬k1_cond3 i = 1#1)
    (arg2 : Memref sig .tc .vmem S256x256 .bf16) (harg2 : arg2.IsWhole) (arg3 : Memref sig .tc .vmem S8448x256 .bf16) (harg3 : arg3.IsWhole)
    (arg4 : Memref sig .tc .vmem S8448x128 .bf16) (harg4 : arg4.IsWhole) (arg5 : Memref sig .tc .vmem S256x128 .bf16) (harg5 : arg5.IsWhole)
    (arg6 : Memref sig .tc .vmem S256x128 .bf16) (harg6 : arg6.IsWhole) (arg7 : Memref sig .tc .vmem S1x256x1 .f32) (harg7 : arg7.IsWhole)
    (arg8 : Memref sig .tc .vmem S256x256 .f32) (harg8 : arg8.IsWhole) (arg9 : Memref sig .tc .vmem S256x8448 .f32) (harg9 : arg9.IsWhole)
    (arg10 : Memref sig .tc .vmem S128x8448 .f32) (harg10 : arg10.IsWhole)
    (q : Vec F S256x256 .bf16) (k : Vec F S8448x256 .bf16) (v : Vec F S8448x128 .bf16) (o g : Vec F S256x128 .bf16) (l : Vec F S1x256x1 .f32)
    (dk : Vec F S256x8448 .f32) (dv : Vec F S128x8448 .f32) (E : Set ℕ) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare o ∗ owns (c : Thread nD τ) arg6 fullShare g ∗ owns (c : Thread nD τ) arg7 fullShare l
        ∗ (∃ d, owns (c : Thread nD τ) arg8 fullShare d) ∗ owns (c : Thread nD τ) arg9 fullShare dk ∗ owns (c : Thread nD τ) arg10 fullShare dv
        ∗ (iprop(owns (c : Thread nD τ) arg2 fullShare q ∗ owns (c : Thread nD τ) arg3 fullShare k ∗ owns (c : Thread nD τ) arg4 fullShare v
        ∗ owns (c : Thread nD τ) arg5 fullShare o ∗ owns (c : Thread nD τ) arg6 fullShare g ∗ owns (c : Thread nD τ) arg7 fullShare l
        ∗ owns (c : Thread nD τ) arg8 fullShare (bwdQ True q k v o g l) ∗ owns (c : Thread nD τ) arg9 fullShare (bwdK True q k v o g l dk) ∗ owns (c : Thread nD τ) arg10 fullShare (bwdV True q k v g l dv)) -∗ K ⟨⟩))
      ⊢ wp frame (wpE (defs₀ (F := F)) Variants.none c none) E (cc1_l1b_mla_bwd i arg2 harg2 arg3 harg3 arg4 harg4 arg5 harg5 arg6 harg6 arg7 harg7 arg8 harg8 arg9 harg9 arg10 harg10) K := by
  simp only [cc1_l1b_mla_bwd_eq_skeleton]; unfold cc1_l1b_mla_bwd_skel
  simp only [k1_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  subst hf2 hf3 hf4 hf5 hf6 hf7 hf9 hf10
  sl_exec (disch := first | sl_exact hc1 | sl_exact hc2 | sl_exact hc3)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr
    swap; · iexact H8
    ipureintro
    rw [View.read_writes_full]
    unfold bwdQ
    rw [if_pos trivial]
    rfl
  isplitl [H9]
  · iexists _; isplitr
    swap; · iexact H9
    ipureintro
    unfold bwdK
    rw [if_pos trivial]
    refine (View.read_writes_cons_put _ _ _ _ _ rfl).trans ?_
    exact put_of _ _ (View.read_writes_cons_put _ _ _ _ [] rfl) rfl
  iexists _; isplitr
  swap; · iexact H10
  ipureintro
  unfold bwdV
  rw [if_pos trivial]
  refine (View.read_writes_cons_put _ _ _ _ _ rfl).trans ?_
  exact put_of _ _ (View.read_writes_cons_put _ _ _ _ [] rfl) rfl

set_option maxHeartbeats 400000 in
/-- At a head's first point the body starts both sums from zero. -/
theorem bwd_first (c : Dev nD) (i : grid1.Coords) (hc1 : k1_cond1 i = 1#1) (hc2 : k1_cond2 i = 1#1) (hc3 : ¬k1_cond3 i = 1#1)
    (arg2 : Memref sig .tc .vmem S256x256 .bf16) (harg2 : arg2.IsWhole) (arg3 : Memref sig .tc .vmem S8448x256 .bf16) (harg3 : arg3.IsWhole)
    (arg4 : Memref sig .tc .vmem S8448x128 .bf16) (harg4 : arg4.IsWhole) (arg5 : Memref sig .tc .vmem S256x128 .bf16) (harg5 : arg5.IsWhole)
    (arg6 : Memref sig .tc .vmem S256x128 .bf16) (harg6 : arg6.IsWhole) (arg7 : Memref sig .tc .vmem S1x256x1 .f32) (harg7 : arg7.IsWhole)
    (arg8 : Memref sig .tc .vmem S256x256 .f32) (harg8 : arg8.IsWhole) (arg9 : Memref sig .tc .vmem S256x8448 .f32) (harg9 : arg9.IsWhole)
    (arg10 : Memref sig .tc .vmem S128x8448 .f32) (harg10 : arg10.IsWhole)
    (q : Vec F S256x256 .bf16) (k : Vec F S8448x256 .bf16) (v : Vec F S8448x128 .bf16) (o g : Vec F S256x128 .bf16) (l : Vec F S1x256x1 .f32) (E : Set ℕ) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare o ∗ owns (c : Thread nD τ) arg6 fullShare g ∗ owns (c : Thread nD τ) arg7 fullShare l
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare q ∗ owns (c : Thread nD τ) arg3 fullShare k ∗ owns (c : Thread nD τ) arg4 fullShare v
        ∗ owns (c : Thread nD τ) arg5 fullShare o ∗ owns (c : Thread nD τ) arg6 fullShare g ∗ owns (c : Thread nD τ) arg7 fullShare l
        ∗ owns (c : Thread nD τ) arg8 fullShare (bwdQ True q k v o g l) ∗ owns (c : Thread nD τ) arg9 fullShare (bwdK True q k v o g l k1_pay1) ∗ owns (c : Thread nD τ) arg10 fullShare (bwdV True q k v g l k1_pay2)) -∗ K ⟨⟩))
      ⊢ wp frame (wpE (defs₀ (F := F)) Variants.none c none) E (cc1_l1b_mla_bwd i arg2 harg2 arg3 harg3 arg4 harg4 arg5 harg5 arg6 harg6 arg7 harg7 arg8 harg8 arg9 harg9 arg10 harg10) K := by
  simp only [cc1_l1b_mla_bwd_eq_skeleton]; unfold cc1_l1b_mla_bwd_skel
  simp only [k1_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf2 hf3 hf4 hf5 hf6 hf7
  sl_exec (disch := first | sl_exact hc1 | sl_exact hc2 | sl_exact hc3)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr
    swap; · iexact H8
    ipureintro
    rw [View.read_writes_full]
    unfold bwdQ
    rw [if_pos trivial]
    rfl
  isplitl [H9]
  · iexists _; isplitr
    swap; · iexact H9
    ipureintro
    unfold bwdK
    rw [if_pos trivial]
    have e1 : ∀ f, View.read (Elt F) arg9.view (arg9.view.writes (Elt F) f bwd_first.sl.H9_1) = k1_pay1 := fun f => View.read_writes_full _ _ _ _ _
    have e2 : bwd_first.sl.v38 c arg9 = VecWindow.window (k1_pay1 (F := F)) ![0, 0] S256x4224.size inb_S256x8448_S256x4224_0_0 :=
      by
      exact window_of_stores (Val := Elt F) (e := .f32) arg9.view bwd_first.sl.H9_1 ![0, 0] S256x4224.size inb_S256x8448_S256x4224_0_0 e1
    have e3 : ∀ f, View.read (Elt F) arg9.view (arg9.view.writes (Elt F) f (bwd_first.sl.H9_2 c arg2 arg3 arg4 arg5 arg6 arg7 arg9 f2 f3 f4 f5 f6 f7)) = VecWindow.put (k1_pay1 (F := F)) ![0, 0] S256x4224.size (k1_pay12 (wq (arg2.view.read (Elt F) f2)) (wo (arg6.view.read (Elt F) f6)) (k1_pay3 (wo (arg6.view.read (Elt F) f6)) (wo (arg5.view.read (Elt F) f5))) (keyHalf (arg3.view.read (Elt F) f3) 0 inb_S8448x256_S4224x256_0_0) (wl (arg7.view.read (Elt F) f7)) (valHalf (arg4.view.read (Elt F) f4) 0 inb_S8448x128_S4224x128_0_0) (VecWindow.window (k1_pay1 (F := F)) ![0, 0] S256x4224.size inb_S256x8448_S256x4224_0_0)) := fun f => by
      refine (View.read_writes_cons_put _ _ _ _ _ rfl).trans (put_of _ _ (e1 f) ?_)
      rw [← e2]
      rfl
    have e4 : bwd_first.sl.v68 c arg2 arg3 arg4 arg5 arg6 arg7 arg9 f2 f3 f4 f5 f6 f7 = VecWindow.window (k1_pay1 (F := F)) ![0, 4224] S256x4224.size inb_S256x8448_S256x4224_0_4224 :=
      (window_of_stores (Val := Elt F) (e := .f32) arg9.view (bwd_first.sl.H9_2 c arg2 arg3 arg4 arg5 arg6 arg7 arg9 f2 f3 f4 f5 f6 f7) ![0, 4224] S256x4224.size inb_S256x8448_S256x4224_0_4224 e3).trans
        (VecWindow.window_put_of_disjoint _ _ _ _ _ _ _ 1 (Or.inr (by decide)))
    refine (View.read_writes_cons_put _ _ _ _ _ rfl).trans (put_of _ _ (e3 _) ?_)
    rw [← e4]
    rfl
  iexists _; isplitr
  swap; · iexact H10
  ipureintro
  unfold bwdV
  rw [if_pos trivial]
  have e1 : ∀ f, View.read (Elt F) arg10.view (arg10.view.writes (Elt F) f bwd_first.sl.H10_1) = k1_pay2 := fun f => View.read_writes_full _ _ _ _ _
  have e2 : bwd_first.sl.v43 c arg10 = VecWindow.window (k1_pay2 (F := F)) ![0, 0] S128x4224.size inb_S128x8448_S128x4224_0_0 :=
    by
    exact window_of_stores (Val := Elt F) (e := .f32) arg10.view bwd_first.sl.H10_1 ![0, 0] S128x4224.size inb_S128x8448_S128x4224_0_0 e1
  have e3 : ∀ f, View.read (Elt F) arg10.view (arg10.view.writes (Elt F) f (bwd_first.sl.H10_2 c arg2 arg3 arg6 arg7 arg10 f2 f3 f6 f7)) = VecWindow.put (k1_pay2 (F := F)) ![0, 0] S128x4224.size (k1_pay13 (wq (arg2.view.read (Elt F) f2)) (wo (arg6.view.read (Elt F) f6)) (keyHalf (arg3.view.read (Elt F) f3) 0 inb_S8448x256_S4224x256_0_0) (wl (arg7.view.read (Elt F) f7)) (VecWindow.window (k1_pay2 (F := F)) ![0, 0] S128x4224.size inb_S128x8448_S128x4224_0_0)) := fun f => by
    refine (View.read_writes_cons_put _ _ _ _ _ rfl).trans (put_of _ _ (e1 f) ?_)
    rw [← e2]
    rfl
  have e4 : bwd_first.sl.v73 c arg2 arg3 arg6 arg7 arg10 f2 f3 f6 f7 = VecWindow.window (k1_pay2 (F := F)) ![0, 4224] S128x4224.size inb_S128x8448_S128x4224_0_4224 :=
    (window_of_stores (Val := Elt F) (e := .f32) arg10.view (bwd_first.sl.H10_2 c arg2 arg3 arg6 arg7 arg10 f2 f3 f6 f7) ![0, 4224] S128x4224.size inb_S128x8448_S128x4224_0_4224 e3).trans
      (VecWindow.window_put_of_disjoint _ _ _ _ _ _ _ 1 (Or.inr (by decide)))
  refine (View.read_writes_cons_put _ _ _ _ _ rfl).trans (put_of _ _ (e3 _) ?_)
  rw [← e4]
  rfl

set_option maxHeartbeats 400000 in
/-- At the point of context queries the body adds to the context's columns alone. -/
theorem bwd_ctx (c : Dev nD) (i : grid1.Coords) (hc1 : ¬k1_cond1 i = 1#1) (hc2 : ¬k1_cond2 i = 1#1) (hc3 : k1_cond3 i = 1#1)
    (arg2 : Memref sig .tc .vmem S256x256 .bf16) (harg2 : arg2.IsWhole) (arg3 : Memref sig .tc .vmem S8448x256 .bf16) (harg3 : arg3.IsWhole)
    (arg4 : Memref sig .tc .vmem S8448x128 .bf16) (harg4 : arg4.IsWhole) (arg5 : Memref sig .tc .vmem S256x128 .bf16) (harg5 : arg5.IsWhole)
    (arg6 : Memref sig .tc .vmem S256x128 .bf16) (harg6 : arg6.IsWhole) (arg7 : Memref sig .tc .vmem S1x256x1 .f32) (harg7 : arg7.IsWhole)
    (arg8 : Memref sig .tc .vmem S256x256 .f32) (harg8 : arg8.IsWhole) (arg9 : Memref sig .tc .vmem S256x8448 .f32) (harg9 : arg9.IsWhole)
    (arg10 : Memref sig .tc .vmem S128x8448 .f32) (harg10 : arg10.IsWhole)
    (q : Vec F S256x256 .bf16) (k : Vec F S8448x256 .bf16) (v : Vec F S8448x128 .bf16) (o g : Vec F S256x128 .bf16) (l : Vec F S1x256x1 .f32)
    (dk : Vec F S256x8448 .f32) (dv : Vec F S128x8448 .f32) (E : Set ℕ) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare o ∗ owns (c : Thread nD τ) arg6 fullShare g ∗ owns (c : Thread nD τ) arg7 fullShare l
        ∗ (∃ d, owns (c : Thread nD τ) arg8 fullShare d) ∗ owns (c : Thread nD τ) arg9 fullShare dk ∗ owns (c : Thread nD τ) arg10 fullShare dv
        ∗ (iprop(owns (c : Thread nD τ) arg2 fullShare q ∗ owns (c : Thread nD τ) arg3 fullShare k ∗ owns (c : Thread nD τ) arg4 fullShare v
        ∗ owns (c : Thread nD τ) arg5 fullShare o ∗ owns (c : Thread nD τ) arg6 fullShare g ∗ owns (c : Thread nD τ) arg7 fullShare l
        ∗ owns (c : Thread nD τ) arg8 fullShare (bwdQ False q k v o g l) ∗ owns (c : Thread nD τ) arg9 fullShare (bwdK False q k v o g l dk) ∗ owns (c : Thread nD τ) arg10 fullShare (bwdV False q k v g l dv)) -∗ K ⟨⟩))
      ⊢ wp frame (wpE (defs₀ (F := F)) Variants.none c none) E (cc1_l1b_mla_bwd i arg2 harg2 arg3 harg3 arg4 harg4 arg5 harg5 arg6 harg6 arg7 harg7 arg8 harg8 arg9 harg9 arg10 harg10) K := by
  simp only [cc1_l1b_mla_bwd_eq_skeleton]; unfold cc1_l1b_mla_bwd_skel
  simp only [k1_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  subst hf2 hf3 hf4 hf5 hf6 hf7 hf9 hf10
  sl_exec (disch := first | sl_exact hc1 | sl_exact hc2 | sl_exact hc3)
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr
    swap; · iexact H8
    ipureintro
    rw [View.read_writes_full]
    unfold bwdQ
    rw [if_neg not_false]
    rfl
  isplitl [H9]
  · iexists _; isplitr
    swap; · iexact H9
    ipureintro
    unfold bwdK
    rw [if_neg not_false]
    exact View.read_writes_cons_put _ _ _ _ [] rfl
  iexists _; isplitr
  swap; · iexact H10
  ipureintro
  unfold bwdV
  rw [if_neg not_false]
  exact View.read_writes_cons_put _ _ _ _ [] rfl

end Cert.KernelIdeal.Own

end
-- ==== Proof.KernelIdeal.BwdRegion.lean ====
/- The backward call: its proof data and its body obligation. -/
module

public import proofs.«01_k».proof.Proof.KernelIdeal.BwdBody
public import Idealize.ShloMosaic.Lib.Pipeline.TableIdle

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Cert.KernelIdeal.Facts
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Blocks and conditions -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input 0's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input 1's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input 2's staging buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input 3's staging buffer holds its block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input 4's staging buffer holds its block at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input 5's staging buffer holds its block at every point. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Condition 1 of the body, over the points. -/
theorem hcond1_1 : ∀ t : Fin cfg1.N, k1_cond1 (grid1.coords t) = 1#1 ↔ t.val % 33 = 0 :=
  (fun t => by
    have ht : t.val < 264 := Nat.lt_of_lt_of_eq t.isLt N_1
    have e0 : (grid1.coords t 0).val = t.val / 33 % 8 := Pipeline.Grid.coords_val t 0 (by decide) rfl
    have e1 : (grid1.coords t 1).val = t.val / 1 % 33 := Pipeline.Grid.coords_val t 1 (by decide) rfl
    simp only [k1_cond1, e0, e1]
    word_cmp
   : ∀ t : Fin grid1.N, k1_cond1 (grid1.coords t) = 1#1 ↔ t.val % 33 = 0)

/-- Condition 2 of the body, over the points. -/
theorem hcond1_2 : ∀ t : Fin cfg1.N, k1_cond2 (grid1.coords t) = 1#1 ↔ t.val % 33 ≤ 31 :=
  (by decide +kernel : ∀ t : Fin grid1.N, k1_cond2 (grid1.coords t) = 1#1 ↔ t.val % 33 ≤ 31)

/-- Condition 3 of the body, over the points. -/
theorem hcond1_3 : ∀ t : Fin cfg1.N, k1_cond3 (grid1.coords t) = 1#1 ↔ t.val % 33 = 32 :=
  (fun t => by
    have ht : t.val < 264 := Nat.lt_of_lt_of_eq t.isLt N_1
    have e0 : (grid1.coords t 0).val = t.val / 33 % 8 := Pipeline.Grid.coords_val t 0 (by decide) rfl
    have e1 : (grid1.coords t 1).val = t.val / 1 % 33 := Pipeline.Grid.coords_val t 1 (by decide) rfl
    simp only [k1_cond3, e0, e1]
    word_cmp
   : ∀ t : Fin grid1.N, k1_cond3 (grid1.coords t) = 1#1 ↔ t.val % 33 = 32)

/-! ## Live windows and staging buffers -/

/-- Window 0 is live at every point. -/
theorem liveAt1_0 : ∀ t : Fin cfg1.N, cfg1.idle 0 (grid1.coords t) = false := fun _ => rfl
/-- Window 1 is live at every point. -/
theorem liveAt1_1 : ∀ t : Fin cfg1.N, cfg1.idle 1 (grid1.coords t) = false := fun _ => rfl
/-- Window 2 is live at every point. -/
theorem liveAt1_2 : ∀ t : Fin cfg1.N, cfg1.idle 2 (grid1.coords t) = false := fun _ => rfl
/-- Window 3 is live at every point. -/
theorem liveAt1_3 : ∀ t : Fin cfg1.N, cfg1.idle 3 (grid1.coords t) = false := fun _ => rfl
/-- Window 4 is live at every point. -/
theorem liveAt1_4 : ∀ t : Fin cfg1.N, cfg1.idle 4 (grid1.coords t) = false := fun _ => rfl
/-- Window 5 is live at every point. -/
theorem liveAt1_5 : ∀ t : Fin cfg1.N, cfg1.idle 5 (grid1.coords t) = false := fun _ => rfl
/-- Window 6 is live at every point. -/
theorem liveAt1_6 : ∀ t : Fin cfg1.N, cfg1.idle 6 (grid1.coords t) = false := by decide +kernel
/-- Window 7 is live at every point. -/
theorem liveAt1_7 : ∀ t : Fin cfg1.N, cfg1.idle 7 (grid1.coords t) = false := by decide +kernel
/-- Window 8 is live at every point. -/
theorem liveAt1_8 : ∀ t : Fin cfg1.N, cfg1.idle 8 (grid1.coords t) = false := by decide +kernel
/-- Window 0's staging buffer at a point. -/
abbrev ms1_0 (t : Fin cfg1.N) : Memref sig .tc .vmem S256x256 .bf16 := win1_0.stage (cfg1.slots t 0)
/-- Window 1's staging buffer at a point. -/
abbrev ms1_1 (t : Fin cfg1.N) : Memref sig .tc .vmem S8448x256 .bf16 := win1_1.stage (cfg1.slots t 1)
/-- Window 2's staging buffer at a point. -/
abbrev ms1_2 (t : Fin cfg1.N) : Memref sig .tc .vmem S8448x128 .bf16 := win1_2.stage (cfg1.slots t 2)
/-- Window 3's staging buffer at a point. -/
abbrev ms1_3 (t : Fin cfg1.N) : Memref sig .tc .vmem S256x128 .bf16 := win1_3.stage (cfg1.slots t 3)
/-- Window 4's staging buffer at a point. -/
abbrev ms1_4 (t : Fin cfg1.N) : Memref sig .tc .vmem S256x128 .bf16 := win1_4.stage (cfg1.slots t 4)
/-- Window 5's staging buffer at a point. -/
abbrev ms1_5 (t : Fin cfg1.N) : Memref sig .tc .vmem S1x256x1 .f32 := win1_5.stage (cfg1.slots t 5)
/-- Window 6's staging buffer at a point. -/
abbrev ms1_6 (t : Fin cfg1.N) : Memref sig .tc .vmem S256x256 .f32 := win1_6.stage (cfg1.slots t 6)
/-- Window 7's staging buffer at a point. -/
abbrev ms1_7 (t : Fin cfg1.N) : Memref sig .tc .vmem S256x8448 .f32 := win1_7.stage (cfg1.slots t 7)
/-- Window 8's staging buffer at a point. -/
abbrev ms1_8 (t : Fin cfg1.N) : Memref sig .tc .vmem S128x8448 .f32 := win1_8.stage (cfg1.slots t 8)

/-! ## What the outputs hold -/

/-- A block of latent queries, however its condition is written. -/
theorem bwdQ_pos (p : Prop) [Decidable p] (h : p) (q : Vec F S256x256 .bf16) (k : Vec F S8448x256 .bf16) (v : Vec F S8448x128 .bf16) (o g : Vec F S256x128 .bf16) (l : Vec F S1x256x1 .f32) : bwdQ p q k v o g l = bwdQ True q k v o g l := by
  unfold bwdQ; rw [if_pos h, if_pos trivial]
/-- The block of context queries, however its condition is written. -/
theorem bwdQ_neg (p : Prop) [Decidable p] (h : ¬p) (q : Vec F S256x256 .bf16) (k : Vec F S8448x256 .bf16) (v : Vec F S8448x128 .bf16) (o g : Vec F S256x128 .bf16) (l : Vec F S1x256x1 .f32) : bwdQ p q k v o g l = bwdQ False q k v o g l := by
  unfold bwdQ; rw [if_neg h, if_neg not_false]
/-- A block of latent queries, however its condition is written. -/
theorem bwdK_pos (p : Prop) [Decidable p] (h : p) (q : Vec F S256x256 .bf16) (k : Vec F S8448x256 .bf16) (v : Vec F S8448x128 .bf16) (o g : Vec F S256x128 .bf16) (l : Vec F S1x256x1 .f32) (s : Vec F S256x8448 .f32) : bwdK p q k v o g l s = bwdK True q k v o g l s := by
  unfold bwdK; rw [if_pos h, if_pos trivial]
/-- The block of context queries, however its condition is written. -/
theorem bwdK_neg (p : Prop) [Decidable p] (h : ¬p) (q : Vec F S256x256 .bf16) (k : Vec F S8448x256 .bf16) (v : Vec F S8448x128 .bf16) (o g : Vec F S256x128 .bf16) (l : Vec F S1x256x1 .f32) (s : Vec F S256x8448 .f32) : bwdK p q k v o g l s = bwdK False q k v o g l s := by
  unfold bwdK; rw [if_neg h, if_neg not_false]
/-- A block of latent queries, however its condition is written. -/
theorem bwdV_pos (p : Prop) [Decidable p] (h : p) (q : Vec F S256x256 .bf16) (k : Vec F S8448x256 .bf16) (v : Vec F S8448x128 .bf16) (g : Vec F S256x128 .bf16) (l : Vec F S1x256x1 .f32) (s : Vec F S128x8448 .f32) : bwdV p q k v g l s = bwdV True q k v g l s := by
  unfold bwdV; rw [if_pos h, if_pos trivial]
/-- The block of context queries, however its condition is written. -/
theorem bwdV_neg (p : Prop) [Decidable p] (h : ¬p) (q : Vec F S256x256 .bf16) (k : Vec F S8448x256 .bf16) (v : Vec F S8448x128 .bf16) (g : Vec F S256x128 .bf16) (l : Vec F S1x256x1 .f32) (s : Vec F S128x8448 .f32) : bwdV p q k v g l s = bwdV False q k v g l s := by
  unfold bwdV; rw [if_neg h, if_neg not_false]

/-- The running transposed gradient of the keys of the current head after the body at position `n`; a head's first block starts it from zero. -/
def sumK (c : Dev nD) : (n : ℕ) → n < cfg1.N → Vec F S256x8448 .f32
  | 0, hn => bwdK True (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) k1_pay1
  | n + 1, hn => if (n + 1) % 33 = 0 then bwdK True (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) k1_pay1
      else bwdK ((n + 1) % 33 ≤ 31) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (sumK c n (Nat.lt_of_succ_lt hn))

/-- At a head's first block. -/
theorem sumK_first (c : Dev nD) (t : Fin cfg1.N) (h : t.val % 33 = 0) : sumK V c t.val t.isLt = bwdK True (iblk1 V c 0 t) (iblk1 V c 1 t) (iblk1 V c 2 t) (iblk1 V c 3 t) (iblk1 V c 4 t) (iblk1 V c 5 t) k1_pay1 := by
  obtain ⟨n, hn⟩ := t
  cases n with
  | zero => rfl
  | succ n => exact if_pos h

/-- At a later block of latent queries. -/
theorem sumK_mid (c : Dev nD) (t : Fin cfg1.N) (h : t.val % 33 ≠ 0) (h1 : t.val % 33 ≤ 31) :
    sumK V c t.val t.isLt = bwdK True (iblk1 V c 0 t) (iblk1 V c 1 t) (iblk1 V c 2 t) (iblk1 V c 3 t) (iblk1 V c 4 t) (iblk1 V c 5 t) (sumK V c (t.val - 1) (Nat.lt_of_le_of_lt (Nat.sub_le _ _) t.isLt)) := by
  obtain ⟨n, hn⟩ := t
  cases n with
  | zero => exact absurd rfl h
  | succ n => exact (if_neg h).trans (bwdK_pos _ h1 _ _ _ _ _ _ _)

/-- At the block of context queries. -/
theorem sumK_ctx (c : Dev nD) (t : Fin cfg1.N) (h1 : t.val % 33 = 32) :
    sumK V c t.val t.isLt = bwdK False (iblk1 V c 0 t) (iblk1 V c 1 t) (iblk1 V c 2 t) (iblk1 V c 3 t) (iblk1 V c 4 t) (iblk1 V c 5 t) (sumK V c (t.val - 1) (Nat.lt_of_le_of_lt (Nat.sub_le _ _) t.isLt)) := by
  obtain ⟨n, hn⟩ := t
  cases n with
  | zero => exact absurd h1 (by show ¬0 % 33 = 32; decide)
  | succ n => exact (if_neg (by show ¬(n + 1) % 33 = 0; have : (n + 1) % 33 = 32 := h1; omega)).trans (bwdK_neg _ (by show ¬(n + 1) % 33 ≤ 31; have : (n + 1) % 33 = 32 := h1; omega) _ _ _ _ _ _ _)

/-- At which positions output 7's buffer holds nothing the body stored for the current head. -/
def freshTab7 : ℕ → Bool
  | 0 => true
  | n + 1 => (0x800000004000000020000000100000000800000004000000020000000100000000 : ℕ).testBit n
/-- The table follows the call's own step. -/
theorem freshTab7_step : ∀ t : Fin cfg1.N,
    freshTab7 (t.val + 1) = ((cfg1.win 7).flush t || (cfg1.idle 7 (cfg1.grid.coords t) && freshTab7 t.val)) := by decide +kernel
/-- The table is the call's own. -/
theorem fresh7_eq (t : Fin cfg1.N) : cfg1.fresh 7 t.val = freshTab7 t.val :=
  Pipeline.Cfg.fresh_tab cfg1 7 freshTab7 rfl freshTab7_step t.val (Nat.le_of_lt t.isLt)
/-- Past a head's first block the buffer is carried. -/
theorem notFresh7 : ∀ t : Fin cfg1.N, ¬t.val % 33 = 0 → cfg1.fresh 7 t.val = false := by
  intro t; rw [fresh7_eq t]; revert t; decide +kernel

/-- The running transposed gradient of the values of the current head after the body at position `n`; a head's first block starts it from zero. -/
def sumV (c : Dev nD) : (n : ℕ) → n < cfg1.N → Vec F S128x8448 .f32
  | 0, hn => bwdV True (iblk1 V c 0 ⟨0, hn⟩) (iblk1 V c 1 ⟨0, hn⟩) (iblk1 V c 2 ⟨0, hn⟩) (iblk1 V c 4 ⟨0, hn⟩) (iblk1 V c 5 ⟨0, hn⟩) k1_pay2
  | n + 1, hn => if (n + 1) % 33 = 0 then bwdV True (iblk1 V c 0 ⟨n + 1, hn⟩) (iblk1 V c 1 ⟨n + 1, hn⟩) (iblk1 V c 2 ⟨n + 1, hn⟩) (iblk1 V c 4 ⟨n + 1, hn⟩) (iblk1 V c 5 ⟨n + 1, hn⟩) k1_pay2
      else bwdV ((n + 1) % 33 ≤ 31) (iblk1 V c 0 ⟨n + 1, hn⟩) (iblk1 V c 1 ⟨n + 1, hn⟩) (iblk1 V c 2 ⟨n + 1, hn⟩) (iblk1 V c 4 ⟨n + 1, hn⟩) (iblk1 V c 5 ⟨n + 1, hn⟩) (sumV c n (Nat.lt_of_succ_lt hn))

/-- At a head's first block. -/
theorem sumV_first (c : Dev nD) (t : Fin cfg1.N) (h : t.val % 33 = 0) : sumV V c t.val t.isLt = bwdV True (iblk1 V c 0 t) (iblk1 V c 1 t) (iblk1 V c 2 t) (iblk1 V c 4 t) (iblk1 V c 5 t) k1_pay2 := by
  obtain ⟨n, hn⟩ := t
  cases n with
  | zero => rfl
  | succ n => exact if_pos h

/-- At a later block of latent queries. -/
theorem sumV_mid (c : Dev nD) (t : Fin cfg1.N) (h : t.val % 33 ≠ 0) (h1 : t.val % 33 ≤ 31) :
    sumV V c t.val t.isLt = bwdV True (iblk1 V c 0 t) (iblk1 V c 1 t) (iblk1 V c 2 t) (iblk1 V c 4 t) (iblk1 V c 5 t) (sumV V c (t.val - 1) (Nat.lt_of_le_of_lt (Nat.sub_le _ _) t.isLt)) := by
  obtain ⟨n, hn⟩ := t
  cases n with
  | zero => exact absurd rfl h
  | succ n => exact (if_neg h).trans (bwdV_pos _ h1 _ _ _ _ _ _)

/-- At the block of context queries. -/
theorem sumV_ctx (c : Dev nD) (t : Fin cfg1.N) (h1 : t.val % 33 = 32) :
    sumV V c t.val t.isLt = bwdV False (iblk1 V c 0 t) (iblk1 V c 1 t) (iblk1 V c 2 t) (iblk1 V c 4 t) (iblk1 V c 5 t) (sumV V c (t.val - 1) (Nat.lt_of_le_of_lt (Nat.sub_le _ _) t.isLt)) := by
  obtain ⟨n, hn⟩ := t
  cases n with
  | zero => exact absurd h1 (by show ¬0 % 33 = 32; decide)
  | succ n => exact (if_neg (by show ¬(n + 1) % 33 = 0; have : (n + 1) % 33 = 32 := h1; omega)).trans (bwdV_neg _ (by show ¬(n + 1) % 33 ≤ 31; have : (n + 1) % 33 = 32 := h1; omega) _ _ _ _ _ _)

/-- At which positions output 8's buffer holds nothing the body stored for the current head. -/
def freshTab8 : ℕ → Bool
  | 0 => true
  | n + 1 => (0x800000004000000020000000100000000800000004000000020000000100000000 : ℕ).testBit n
/-- The table follows the call's own step. -/
theorem freshTab8_step : ∀ t : Fin cfg1.N,
    freshTab8 (t.val + 1) = ((cfg1.win 8).flush t || (cfg1.idle 8 (cfg1.grid.coords t) && freshTab8 t.val)) := by decide +kernel
/-- The table is the call's own. -/
theorem fresh8_eq (t : Fin cfg1.N) : cfg1.fresh 8 t.val = freshTab8 t.val :=
  Pipeline.Cfg.fresh_tab cfg1 8 freshTab8 rfl freshTab8_step t.val (Nat.le_of_lt t.isLt)
/-- Past a head's first block the buffer is carried. -/
theorem notFresh8 : ∀ t : Fin cfg1.N, ¬t.val % 33 = 0 → cfg1.fresh 8 t.val = false := by
  intro t; rw [fresh8_eq t]; revert t; decide +kernel

/-- The proof data of the call on core `c`: the arrays as the call finds them; after a point each input's buffer holds its block and each
    output's what the body leaves there. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => bwdQ (t.val % 33 ≤ 31) (iblk1 V c 0 t) (iblk1 V c 1 t) (iblk1 V c 2 t) (iblk1 V c 3 t) (iblk1 V c 4 t) (iblk1 V c 5 t)
    | ⟨7, _⟩ => sumK V c t.val t.isLt
    | ⟨8, _⟩ => sumV V c t.val t.isLt
  Φ _ := Pipeline.scopedRest spec1 c
  q _ := fullShare
  owed _ := 0

/-- The arrays of the proof data are the contents the call finds. -/
theorem A_eq1 (c : Dev nD) (w : Fin cfg1.W) : (dat1 V c).A w = V c (Pipeline.arrRef spec1 w) := by dsimp only [dat1]
/-- What the body leaves in window 0. -/
theorem after1_0 (c : Dev nD) (t : Fin cfg1.N) : (dat1 V c).after 0 t = iblk1 V c 0 t := by dsimp only [dat1]
/-- What the body leaves in window 1. -/
theorem after1_1 (c : Dev nD) (t : Fin cfg1.N) : (dat1 V c).after 1 t = iblk1 V c 1 t := by dsimp only [dat1]
/-- What the body leaves in window 2. -/
theorem after1_2 (c : Dev nD) (t : Fin cfg1.N) : (dat1 V c).after 2 t = iblk1 V c 2 t := by dsimp only [dat1]
/-- What the body leaves in window 3. -/
theorem after1_3 (c : Dev nD) (t : Fin cfg1.N) : (dat1 V c).after 3 t = iblk1 V c 3 t := by dsimp only [dat1]
/-- What the body leaves in window 4. -/
theorem after1_4 (c : Dev nD) (t : Fin cfg1.N) : (dat1 V c).after 4 t = iblk1 V c 4 t := by dsimp only [dat1]
/-- What the body leaves in window 5. -/
theorem after1_5 (c : Dev nD) (t : Fin cfg1.N) : (dat1 V c).after 5 t = iblk1 V c 5 t := by dsimp only [dat1]
/-- What the body leaves in window 6. -/
theorem after1_6 (c : Dev nD) (t : Fin cfg1.N) : (dat1 V c).after 6 t = bwdQ (t.val % 33 ≤ 31) (iblk1 V c 0 t) (iblk1 V c 1 t) (iblk1 V c 2 t) (iblk1 V c 3 t) (iblk1 V c 4 t) (iblk1 V c 5 t) := by dsimp only [dat1]
/-- What the body leaves in window 7. -/
theorem after1_7 (c : Dev nD) (t : Fin cfg1.N) : (dat1 V c).after 7 t = sumK V c t.val t.isLt := by dsimp only [dat1]
/-- What the body leaves in window 8. -/
theorem after1_8 (c : Dev nD) (t : Fin cfg1.N) : (dat1 V c).after 8 t = sumV V c t.val t.isLt := by dsimp only [dat1]
/-- What the body finds in window 0. -/
theorem before1_0 (c : Dev nD) (t : Fin cfg1.N) (d) : (dat1 V c).before 0 t d = iblk1 V c 0 t :=
  before1_0_of V (dat1 V c) (A_eq1 V c 0) (after1_0 V c) t d
/-- What the body finds in window 1. -/
theorem before1_1 (c : Dev nD) (t : Fin cfg1.N) (d) : (dat1 V c).before 1 t d = iblk1 V c 1 t :=
  before1_1_of V (dat1 V c) (A_eq1 V c 1) (after1_1 V c) t d
/-- What the body finds in window 2. -/
theorem before1_2 (c : Dev nD) (t : Fin cfg1.N) (d) : (dat1 V c).before 2 t d = iblk1 V c 2 t :=
  before1_2_of V (dat1 V c) (A_eq1 V c 2) (after1_2 V c) t d
/-- What the body finds in window 3. -/
theorem before1_3 (c : Dev nD) (t : Fin cfg1.N) (d) : (dat1 V c).before 3 t d = iblk1 V c 3 t :=
  before1_3_of V (dat1 V c) (A_eq1 V c 3) (after1_3 V c) t d
/-- What the body finds in window 4. -/
theorem before1_4 (c : Dev nD) (t : Fin cfg1.N) (d) : (dat1 V c).before 4 t d = iblk1 V c 4 t :=
  before1_4_of V (dat1 V c) (A_eq1 V c 4) (after1_4 V c) t d
/-- What the body finds in window 5. -/
theorem before1_5 (c : Dev nD) (t : Fin cfg1.N) (d) : (dat1 V c).before 5 t d = iblk1 V c 5 t :=
  before1_5_of V (dat1 V c) (A_eq1 V c 5) (after1_5 V c) t d
/-- Window 0 is left at what the proof data says. -/
theorem leaves1_0 (c : Dev nD) (t : Fin cfg1.N) :
    (dat1 V c).leavesExact 0 t = owns (c : Thread nD τ) (ms1_0 t) fullShare ((dat1 V c).after 0 t) := by
  unfold Dat.leavesExact; rw [liveAt1_0 t]
/-- Window 1 is left at what the proof data says. -/
theorem leaves1_1 (c : Dev nD) (t : Fin cfg1.N) :
    (dat1 V c).leavesExact 1 t = owns (c : Thread nD τ) (ms1_1 t) fullShare ((dat1 V c).after 1 t) := by
  unfold Dat.leavesExact; rw [liveAt1_1 t]
/-- Window 2 is left at what the proof data says. -/
theorem leaves1_2 (c : Dev nD) (t : Fin cfg1.N) :
    (dat1 V c).leavesExact 2 t = owns (c : Thread nD τ) (ms1_2 t) fullShare ((dat1 V c).after 2 t) := by
  unfold Dat.leavesExact; rw [liveAt1_2 t]
/-- Window 3 is left at what the proof data says. -/
theorem leaves1_3 (c : Dev nD) (t : Fin cfg1.N) :
    (dat1 V c).leavesExact 3 t = owns (c : Thread nD τ) (ms1_3 t) fullShare ((dat1 V c).after 3 t) := by
  unfold Dat.leavesExact; rw [liveAt1_3 t]
/-- Window 4 is left at what the proof data says. -/
theorem leaves1_4 (c : Dev nD) (t : Fin cfg1.N) :
    (dat1 V c).leavesExact 4 t = owns (c : Thread nD τ) (ms1_4 t) fullShare ((dat1 V c).after 4 t) := by
  unfold Dat.leavesExact; rw [liveAt1_4 t]
/-- Window 5 is left at what the proof data says. -/
theorem leaves1_5 (c : Dev nD) (t : Fin cfg1.N) :
    (dat1 V c).leavesExact 5 t = owns (c : Thread nD τ) (ms1_5 t) fullShare ((dat1 V c).after 5 t) := by
  unfold Dat.leavesExact; rw [liveAt1_5 t]
/-- Window 6 is left at what the proof data says. -/
theorem leaves1_6 (c : Dev nD) (t : Fin cfg1.N) :
    (dat1 V c).leavesExact 6 t = owns (c : Thread nD τ) (ms1_6 t) fullShare ((dat1 V c).after 6 t) := by
  unfold Dat.leavesExact; rw [liveAt1_6 t]
/-- Window 7 is left at what the proof data says. -/
theorem leaves1_7 (c : Dev nD) (t : Fin cfg1.N) :
    (dat1 V c).leavesExact 7 t = owns (c : Thread nD τ) (ms1_7 t) fullShare ((dat1 V c).after 7 t) := by
  unfold Dat.leavesExact; rw [liveAt1_7 t]
/-- Window 8 is left at what the proof data says. -/
theorem leaves1_8 (c : Dev nD) (t : Fin cfg1.N) :
    (dat1 V c).leavesExact 8 t = owns (c : Thread nD τ) (ms1_8 t) fullShare ((dat1 V c).after 8 t) := by
  unfold Dat.leavesExact; rw [liveAt1_8 t]

/-- Past a head's first block, output 7's buffer holds what the point before left. -/
theorem before1_7 (c : Dev nD) (t : Fin cfg1.N) (h : ¬t.val % 33 = 0) (d) :
    (dat1 V c).before 7 t d = sumK V c (t.val - 1) (Nat.lt_of_le_of_lt (Nat.sub_le _ _) t.isLt) := by
  rw [Dat.before_out_traj _ 7 rfl (fun _ _ => rfl) (fun t _ hi => absurd ((liveAt1_7 t).symm.trans hi) Bool.false_ne_true) t.val t rfl d,
    if_neg (by rw [notFresh7 t h]; exact Bool.false_ne_true)]
  exact after1_7 V c _

/-- Past a head's first block, output 8's buffer holds what the point before left. -/
theorem before1_8 (c : Dev nD) (t : Fin cfg1.N) (h : ¬t.val % 33 = 0) (d) :
    (dat1 V c).before 8 t d = sumV V c (t.val - 1) (Nat.lt_of_le_of_lt (Nat.sub_le _ _) t.isLt) := by
  rw [Dat.before_out_traj _ 8 rfl (fun _ _ => rfl) (fun t _ hi => absurd ((liveAt1_8 t).symm.trans hi) Bool.false_ne_true) t.val t rfl d,
    if_neg (by rw [notFresh8 t h]; exact Bool.false_ne_true)]
  exact after1_8 V c _

/-! ## The body obligation -/

/-- What the body is called with at a point. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- What the body returns at a point. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 800000 in
/-- The body's triple at every point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl]
  have hN : t.val < 264 := lt_of_lt_of_eq t.isLt (show cfg1.N = 264 from N_1)
  rw [leaves1_0, leaves1_1, leaves1_2, leaves1_3, leaves1_4, leaves1_5, leaves1_6, leaves1_7, leaves1_8]
  rw [after1_0, after1_1, after1_2, after1_3, after1_4, after1_5, after1_6, after1_7, after1_8]
  by_cases h0 : t.val % 33 = 0
  · rw [bwdQ_pos _ (show t.val % 33 ≤ 31 by omega), sumK_first V c t h0, sumV_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (bwd_first c (grid1.coords t) ((hcond1_1 t).mpr h0) ((hcond1_2 t).mpr (by omega)) (fun h => absurd ((hcond1_3 t).mp h) (by omega)) _ _ _ _ _ _ _ _ _ _ _ _ _ _ _ _ _ _ (iblk1 V c 0 t) (iblk1 V c 1 t) (iblk1 V c 2 t) (iblk1 V c 3 t) (iblk1 V c 4 t) (iblk1 V c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · simp only [before1_7 V c t h0, before1_8 V c t h0]
    by_cases h1 : t.val % 33 ≤ 31
    · rw [bwdQ_pos _ h1, sumK_mid V c t h0 h1, sumV_mid V c t h0 h1]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (bwd_mid c (grid1.coords t) (fun h => h0 ((hcond1_1 t).mp h)) ((hcond1_2 t).mpr h1) (fun h => absurd ((hcond1_3 t).mp h) (by omega)) _ _ _ _ _ _ _ _ _ _ _ _ _ _ _ _ _ _ (iblk1 V c 0 t) (iblk1 V c 1 t) (iblk1 V c 2 t) (iblk1 V c 3 t) (iblk1 V c 4 t) (iblk1 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      iintro ⟨H0, H1, H2, H3, H4, H5, H6, H7, H8⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [bwdQ_neg _ h1, sumK_ctx V c t (by omega), sumV_ctx V c t (by omega)]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (bwd_ctx c (grid1.coords t) (fun h => h0 ((hcond1_1 t).mp h)) (fun h => h1 ((hcond1_2 t).mp h)) ((hcond1_3 t).mpr (by omega)) _ _ _ _ _ _ _ _ _ _ _ _ _ _ _ _ _ _ (iblk1 V c 0 t) (iblk1 V c 1 t) (iblk1 V c 2 t) (iblk1 V c 3 t) (iblk1 V c 4 t) (iblk1 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      iintro ⟨H0, H1, H2, H3, H4, H5, H6, H7, H8⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The definitions' row of the call is its body at the point. -/
theorem defs₀_row1 (t : Fin cfg1.N) :
    defs₀ (F := F) .tc cfg1.body (cfg1.bodyArgs t (cfg1.slots t)) = bodyAt1 t := by
  unfold defs₀; rw [Defs.onTc_tc]

/-- The body obligation of the call. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Own

end
-- ==== Proof.KernelIdeal.Run.lean ====
/- The run of both calls, one after the other: what every buffer holds at the end. -/
module

public import proofs.«01_k».proof.Proof.KernelIdeal.FwdRegion
public import proofs.«01_k».proof.Proof.KernelIdeal.BwdRegion
public import proofs.«01_k».proof.Proof.Gen.KernelIdeal.Regions
public import Idealize.ShloMosaic.Lib.Pipeline.Frame
public import Idealize.ShloMosaic.Lib.Pipeline.RegionsLoop

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Cert.KernelIdeal.Facts
open Idealize.ShloMosaic.Pipeline (Dat Cfg Seg HostSeg RegionSeg cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The contents between the calls -/

/-- A core's buffers at launch. -/
def W0 (c : Dev nD) : Valuation τ sig (Elt F) := fun b => m (c, b)
/-- The forward call's proof data. -/
def datF (c : Dev nD) : Dat τ (Elt F) Unit ℕ (UR sig nD τ) ℕ cfg0 c := dat0 (fun c b => W0 m c b) c
/-- A core's buffers after the forward call. -/
def W1 (c : Dev nD) : Valuation τ sig (Elt F) :=
  Function.update (Function.update (W0 m c) main_v0_0 ((datF m c).arrAt 3 cfg0.N)) main_v0_1 ((datF m c).arrAt 4 cfg0.N)
/-- The backward call's proof data. -/
def datB (c : Dev nD) : Dat τ (Elt F) Unit ℕ (UR sig nD τ) ℕ cfg1 c := dat1 (fun c b => W1 m c b) c
/-- A core's buffers after the backward call. -/
def W2 (c : Dev nD) : Valuation τ sig (Elt F) :=
  Function.update (Function.update (Function.update (W1 m c) main_v1_0 ((datB m c).arrAt 6 cfg1.N)) main_v1_1 ((datB m c).arrAt 7 cfg1.N)) main_v1_2 ((datB m c).arrAt 8 cfg1.N)

/-- The forward call changes its two results alone. -/
theorem W1_of (c : Dev nD) (r : Ref sig .tc) (h : r ∉ ([main_v0_0, main_v0_1] : List (Ref sig .tc))) : W1 m c r = W0 m c r := by
  unfold W1
  rw [Function.update_of_ne (StableHlo.devRef_ne_of_ne (List.ne_of_not_mem_cons (List.not_mem_of_not_mem_cons h))),
    Function.update_of_ne (StableHlo.devRef_ne_of_ne (List.ne_of_not_mem_cons h))]
/-- The backward call changes its three results alone. -/
theorem W2_of (c : Dev nD) (r : Ref sig .tc) (h : r ∉ ([main_v1_0, main_v1_1, main_v1_2] : List (Ref sig .tc))) : W2 m c r = W1 m c r := by
  unfold W2
  rw [Function.update_of_ne (StableHlo.devRef_ne_of_ne (List.ne_of_not_mem_cons (List.not_mem_of_not_mem_cons (List.not_mem_of_not_mem_cons h)))),
    Function.update_of_ne (StableHlo.devRef_ne_of_ne (List.ne_of_not_mem_cons (List.not_mem_of_not_mem_cons h))),
    Function.update_of_ne (StableHlo.devRef_ne_of_ne (List.ne_of_not_mem_cons h))]
/-- The attention's output after the forward call. -/
theorem W1_o (c : Dev nD) : W1 m c main_v0_0 = (datF m c).arrAt 3 cfg0.N := by
  unfold W1
  rw [Function.update_of_ne (StableHlo.devRef_ne_of_ne (by decide)), Function.update_self]
/-- The logarithms after the forward call. -/
theorem W1_l (c : Dev nD) : W1 m c main_v0_1 = (datF m c).arrAt 4 cfg0.N := by
  unfold W1
  rw [Function.update_self]
/-- The gradient of the queries after the backward call. -/
theorem W2_q (c : Dev nD) : W2 m c main_v1_0 = (datB m c).arrAt 6 cfg1.N := by
  unfold W2
  rw [Function.update_of_ne (StableHlo.devRef_ne_of_ne (by decide)), Function.update_of_ne (StableHlo.devRef_ne_of_ne (by decide)), Function.update_self]
/-- The transposed gradient of the keys after the backward call. -/
theorem W2_k (c : Dev nD) : W2 m c main_v1_1 = (datB m c).arrAt 7 cfg1.N := by
  unfold W2
  rw [Function.update_of_ne (StableHlo.devRef_ne_of_ne (by decide)), Function.update_self]
/-- The transposed gradient of the values after the backward call. -/
theorem W2_v (c : Dev nD) : W2 m c main_v1_2 = (datB m c).arrAt 8 cfg1.N := by
  unfold W2
  rw [Function.update_self]

/-! ## The calls as segments -/

/-- Both calls' proof data. -/
def pdats : (p : Fin 2) → (c : Dev nD) → Dat τ (Elt F) Unit ℕ (UR sig nD τ) ℕ (cfgs p) c
  | 0 => datF m
  | 1 => datB m
  | ⟨_ + 2, h⟩ => absurd h (Nat.not_lt.2 (Nat.le_add_left _ _))

/-- No core owes another anything. -/
abbrev noL : GSem nD τ sig → Finset Unit := fun _ => ∅
/-- No level is assigned. -/
abbrev noLv : GSem nD τ sig → Unit → ℕ := fun _ _ => 0

set_option maxHeartbeats 1000000 in
set_option backward.isDefEq.respectTransparency.types false in
/-- Call 0 as a segment: entered with every buffer at `W0`, left with every buffer at `W1`. -/
def reg0 : RegionSeg (pcfgs (F := F)) adm (pdats m) () defs₀ Variants.none noL noLv 0 where
  win := launch0.win.to₀
  block_pos := launch0.block_pos
  stage_whole := launch0.stage_whole
  K := PEmpty
  osem k := k.elim
  ho := Pipeline.OwnSemFacts.none _
  hbody c := (body_obligation0 (fun c b => W0 m c b) c).loose
  hwaits := Pipeline.hwaits_of_owed_zero _ _ _ _ noL noLv 0 fun _ _ => rfl
  pre c := iprop(unscopedBufs c (fun b => W0 m c b) ∗ ∃ W, owes (c : Thread nD τ) (0 : CellTallies nD τ sig Unit) W)
  post c := iprop(unscopedBufs c (fun b => W1 m c b) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec0 c (fun b => W0 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => W0 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest spec0 c from rfl]
    iintro ⟨-, -, Hr⟩; iexact Hr
  hout c := by
    rw [Pipeline.ownSems0_none, show (pdats m 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (fun b => W0 m c b) (fun b => W1 m c b) ((pdats m 0 c).arrAt · cfg0.N)
      (fun w => by
        fin_cases w
        · exact ((pdats m 0 c).arrAt_in 0 rfl _).trans (W1_of m c main_arg0 (by decide)).symm
        · exact ((pdats m 0 c).arrAt_in 1 rfl _).trans (W1_of m c main_arg1 (by decide)).symm
        · exact ((pdats m 0 c).arrAt_in 2 rfl _).trans (W1_of m c main_arg2 (by decide)).symm
        · exact (W1_o m c).symm
        · exact (W1_l m c).symm)
      (fun b hb => W1_of m c b fun h => by
        simp only [List.mem_cons, List.not_mem_nil, or_false] at h
        rcases h with h0 | h1
        · exact hb (h0 ▸ Finset.mem_image.mpr ⟨3, Finset.mem_univ _, rfl⟩)
        · exact hb (h1 ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option maxHeartbeats 1000000 in
set_option backward.isDefEq.respectTransparency.types false in
/-- Call 1 as a segment: entered with every buffer at `W1`, left with every buffer at `W2`. -/
def reg1 : RegionSeg (pcfgs (F := F)) adm (pdats m) () defs₀ Variants.none noL noLv 1 where
  win := launch1.win.to₀
  block_pos := launch1.block_pos
  stage_whole := launch1.stage_whole
  K := PEmpty
  osem k := k.elim
  ho := Pipeline.OwnSemFacts.none _
  hbody c := (body_obligation1 (fun c b => W1 m c b) c).loose
  hwaits := Pipeline.hwaits_of_owed_zero _ _ _ _ noL noLv 1 fun _ _ => rfl
  pre c := iprop(unscopedBufs c (fun b => W1 m c b) ∗ ∃ W, owes (c : Thread nD τ) (0 : CellTallies nD τ sig Unit) W)
  post c := iprop(unscopedBufs c (fun b => W2 m c b) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec1 c (fun b => W1 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => W1 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pipeline.scopedRest spec1 c from rfl]
    iintro ⟨-, -, Hr⟩; iexact Hr
  hout c := by
    rw [Pipeline.ownSems0_none, show (pdats m 1 c).Φ (Fin.last _) = Pipeline.scopedRest spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (fun b => W1 m c b) (fun b => W2 m c b) ((pdats m 1 c).arrAt · cfg1.N)
      (fun w => by
        fin_cases w
        · exact ((pdats m 1 c).arrAt_in 0 rfl _).trans (W2_of m c main_arg0 (by decide)).symm
        · exact ((pdats m 1 c).arrAt_in 1 rfl _).trans (W2_of m c main_arg1 (by decide)).symm
        · exact ((pdats m 1 c).arrAt_in 2 rfl _).trans (W2_of m c main_arg2 (by decide)).symm
        · exact ((pdats m 1 c).arrAt_in 3 rfl _).trans (W2_of m c main_v0_0 (by decide)).symm
        · exact ((pdats m 1 c).arrAt_in 4 rfl _).trans (W2_of m c main_arg3 (by decide)).symm
        · exact ((pdats m 1 c).arrAt_in 5 rfl _).trans (W2_of m c main_v0_1 (by decide)).symm
        · exact (W2_q m c).symm
        · exact (W2_k m c).symm
        · exact (W2_v m c).symm)
      (fun b hb => W2_of m c b fun h => by
        simp only [List.mem_cons, List.not_mem_nil, or_false] at h
        rcases h with h0 | h1 | h2
        · exact hb (h0 ▸ Finset.mem_image.mpr ⟨6, Finset.mem_univ _, rfl⟩)
        · exact hb (h1 ▸ Finset.mem_image.mpr ⟨7, Finset.mem_univ _, rfl⟩)
        · exact hb (h2 ▸ Finset.mem_image.mpr ⟨8, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The run -/

-- the launch theorem's implicit arguments are found by unfolding plain definitions in a metavariable's type
set_option backward.isDefEq.respectTransparency.types false in
/-- From any memory with zero counters every fair execution ends, with every argument and result at the last contents and every counter at zero. -/
theorem run_main : θ_run defs (onTc (τ := τ) (main (F := F))) ⟨m, fun _ => 0, ρ⟩ (fun r => (∀ c : Dev nD,
      r.2.mem ((c.tc : Thread nD τ).loc main_arg0) = W2 m c main_arg0 ∧ r.2.mem ((c.tc : Thread nD τ).loc main_arg1) = W2 m c main_arg1 ∧ r.2.mem ((c.tc : Thread nD τ).loc main_arg2) = W2 m c main_arg2 ∧ r.2.mem ((c.tc : Thread nD τ).loc main_arg3) = W2 m c main_arg3 ∧ r.2.mem ((c.tc : Thread nD τ).loc main_v0_0) = W2 m c main_v0_0 ∧ r.2.mem ((c.tc : Thread nD τ).loc main_v1_0) = W2 m c main_v1_0 ∧ r.2.mem ((c.tc : Thread nD τ).loc main_v1_1) = W2 m c main_v1_1 ∧ r.2.mem ((c.tc : Thread nD τ).loc main_v1_2) = W2 m c main_v1_2)
      ∧ r.2.sem = fun _ => 0) := by
  refine Pipeline.θ_run_regions_kit_dev_sems (pcfgs (F := F)) adm (pdats m) () cellOf_inj emb₁ defs₀ Variants.none noL noLv m ρ main
    (fun _ => [.region (reg0 m), .region (reg1 m)])
    (fun c Q => by
      rewrite [main_chain c, Seg.run_eq_chain,
        show ([.region (reg0 m), .region (reg1 m)] : List (Seg (pcfgs (F := F)) adm (pdats m) () defs₀ Variants.none noL noLv)).map Seg.prog = [
          Prog.lift (.customCall (Pipeline.entry 0) ()),
          Prog.lift (.customCall (Pipeline.entry 1) ()) ] from rfl]
      dsimp (config := { failIfUnchanged := false }) only
      exact .rfl)
    (fun c => by simp only [Seg.pipes_region, Seg.pipes_nil]; decide) (fun _ => 0) (fun _ _ => rfl) (fun _ => iprop(emp))
    (initOf (Pipeline.cells cfgs cellOf_inj) (Pipeline.launchToks cfgs cellOf_inj)) ?_
    (T₀ := fun c => iprop(unscopedBufs c (fun b => W0 m c b) ∗ ∃ W, owes (c : Thread nD τ) (0 : CellTallies nD τ sig Unit) W))
    (Tₙ := fun c => unscopedBufs c (fun b => W2 m c b))
    (hch := fun c => ⟨.rfl, .rfl, .rfl⟩)
    (hinit := ?_) (QY := fun c s => s.mem ((c.tc : Thread nD τ).loc main_arg0) = W2 m c main_arg0 ∧ s.mem ((c.tc : Thread nD τ).loc main_arg1) = W2 m c main_arg1 ∧ s.mem ((c.tc : Thread nD τ).loc main_arg2) = W2 m c main_arg2 ∧ s.mem ((c.tc : Thread nD τ).loc main_arg3) = W2 m c main_arg3 ∧ s.mem ((c.tc : Thread nD τ).loc main_v0_0) = W2 m c main_v0_0 ∧ s.mem ((c.tc : Thread nD τ).loc main_v1_0) = W2 m c main_v1_0 ∧ s.mem ((c.tc : Thread nD τ).loc main_v1_1) = W2 m c main_v1_1 ∧ s.mem ((c.tc : Thread nD τ).loc main_v1_2) = W2 m c main_v1_2)
    (hfin := fun c s' => ?_) (hQ := fun _ h hz => ⟨h, funext fun g => hz g (.inr (regions_no_unscoped g.2))⟩)
  · iintro Hu; imodintro
    isplitl [Hu]; · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · have h1 : ∀ c : Dev nD, (iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ BI.emp) : sProp 𝕄)
        ⊢ iprop(unscopedBufs c (fun b => W0 m c b) ∗ ∃ W, owes (c : Thread nD τ) (0 : CellTallies nD τ sig Unit) W) := fun c => by
      iintro ⟨H, -, HO, -, -, -⟩
      isplitl [H]; · iexact H
      iexists _; iexact HO
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ BI.emp))
        ⊢ (bigSep Finset.univ fun c : Dev nD => iprop(unscopedBufs c (fun b => W0 m c b) ∗ ∃ W, owes (c : Thread nD τ) (0 : CellTallies nD τ sig Unit) W)
            : sProp 𝕄) := bigSep_mono fun c _ => h1 c
    iintro ⟨H, -⟩
    imodintro
    iapply hsplit $$ H
  · rw [Pipeline.unscopedBufs_held]
    unfold StableHlo.held
    iintro ⟨Hh, HSI⟩
    ihave Hr := (pointsTo_read_all (Pipeline.ucRefs τ sig) (fun b => ((c : Thread nD τ).1, b)) (W2 m c) s') $$ [Hh HSI]
    · isplitl [Hh] <;> iassumption
    icases Hr with ⟨%h, HSI⟩
    imodintro
    isplitr
    · ipureintro
      exact ⟨h (Proc.devRef .tc main_arg0) (Finset.mem_filter.mpr ⟨StableHlo.devRef_mem_tcRefs main_arg0, by decide⟩),
        h (Proc.devRef .tc main_arg1) (Finset.mem_filter.mpr ⟨StableHlo.devRef_mem_tcRefs main_arg1, by decide⟩),
        h (Proc.devRef .tc main_arg2) (Finset.mem_filter.mpr ⟨StableHlo.devRef_mem_tcRefs main_arg2, by decide⟩),
        h (Proc.devRef .tc main_arg3) (Finset.mem_filter.mpr ⟨StableHlo.devRef_mem_tcRefs main_arg3, by decide⟩),
        h (Proc.devRef .tc main_v0_0) (Finset.mem_filter.mpr ⟨StableHlo.devRef_mem_tcRefs main_v0_0, by decide⟩),
        h (Proc.devRef .tc main_v1_0) (Finset.mem_filter.mpr ⟨StableHlo.devRef_mem_tcRefs main_v1_0, by decide⟩),
        h (Proc.devRef .tc main_v1_1) (Finset.mem_filter.mpr ⟨StableHlo.devRef_mem_tcRefs main_v1_1, by decide⟩),
        h (Proc.devRef .tc main_v1_2) (Finset.mem_filter.mpr ⟨StableHlo.devRef_mem_tcRefs main_v1_2, by decide⟩)⟩
    · iexact HSI

/-- An argument is never written. -/
theorem W2_arg (c : Dev nD) (r : Ref sig .tc) (h : r ∉ ([main_v1_0, main_v1_1, main_v1_2] : List (Ref sig .tc))) (h' : r ∉ ([main_v0_0, main_v0_1] : List (Ref sig .tc))) :
    W2 m c r = m ((c : Thread nD τ).loc r) := (W2_of m c r h).trans ((W1_of m c r h').trans rfl)

/-- The frame: every fair execution ends, no argument is changed, every counter is zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3))
      ∧ r.2.sem = fun _ => 0) :=
  (θ_run defs _ _).mono (fun r h => ⟨fun c => ⟨(h.1 c).1.trans (W2_arg m c main_arg0 (by decide) (by decide)), (h.1 c).2.1.trans (W2_arg m c main_arg1 (by decide) (by decide)), (h.1 c).2.2.1.trans (W2_arg m c main_arg2 (by decide) (by decide)), (h.1 c).2.2.2.1.trans (W2_arg m c main_arg3 (by decide) (by decide))⟩, h.2⟩) (run_main m ρ)

/-- The values: the attention's output and the three gradients at the end, the arguments unchanged. -/
theorem value_main : θ_run defs (onTc (τ := τ) (main (F := F))) ⟨m, fun _ => 0, ρ⟩ (fun r => ∀ c : Dev nD,
      r.2.mem ((c.tc : Thread nD τ).loc main_v0_0) = (datF m c).arrAt 3 cfg0.N ∧ r.2.mem ((c.tc : Thread nD τ).loc main_v1_0) = (datB m c).arrAt 6 cfg1.N
      ∧ r.2.mem ((c.tc : Thread nD τ).loc main_v1_1) = (datB m c).arrAt 7 cfg1.N ∧ r.2.mem ((c.tc : Thread nD τ).loc main_v1_2) = (datB m c).arrAt 8 cfg1.N
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun r h c => ⟨(h.1 c).2.2.2.2.1.trans ((W2_of m c main_v0_0 (by decide)).trans (W1_o m c)), (h.1 c).2.2.2.2.2.1.trans (W2_q m c),
    (h.1 c).2.2.2.2.2.2.1.trans (W2_k m c), (h.1 c).2.2.2.2.2.2.2.trans (W2_v m c),
    (h.1 c).1.trans (W2_arg m c main_arg0 (by decide) (by decide)), (h.1 c).2.1.trans (W2_arg m c main_arg1 (by decide) (by decide)), (h.1 c).2.2.1.trans (W2_arg m c main_arg2 (by decide) (by decide)), (h.1 c).2.2.2.1.trans (W2_arg m c main_arg3 (by decide) (by decide))⟩) (run_main m ρ)

end Cert.KernelIdeal.Own

end
-- ==== Proof.Value.Real.lean ====
/- Vectors over the extended reals whose entries are real numbers, and what the kernels' operations do to them. -/
module

public import Idealize.ShloMosaic.Lib.MatmulPlain
public import Idealize.ShloMosaic.Lib.ValueIdx
public import Idealize.ShloMosaic.Lib.Pipeline.Value
public import Idealize.ShloMosaic.PureOps.Ideal.Laws
public import Idealize.ShloMosaic.PureOps.IdealRules
public import Idealize.ShloMosaic.Lib.VecWindow

@[expose] public section

noncomputable section

namespace Cert.RealCalc

open Idealize.ShloMosaic Idealize.ShloMosaic.ValueIdx
open scoped BigOperators

/-- A sum of reals, read as extended reals, is the real sum. -/
theorem sum_coe {ι : Type} [Fintype ι] {x : ι → EReal} {f : ι → ℝ} (h : ∀ i, x i = (f i : EReal)) :
    (∑ i, x i) = ((∑ i, f i : ℝ) : EReal) := by
  have e : ∀ s : Finset ι, (∑ i ∈ s, x i) = ((∑ i ∈ s, f i : ℝ) : EReal) := by
    intro s
    induction s using Finset.cons_induction with
    | empty => simp
    | cons a s ha ih => rw [Finset.sum_cons, Finset.sum_cons, ih, h a, EReal.coe_add]
  exact e Finset.univ

/-- The greatest of finitely many reals, with the least extended real to start from, is real when there is one. -/
theorem fold_max_real {ι : Type} [Fintype ι] [Nonempty ι] {x : ι → EReal} (h : ∀ i, ∃ r : ℝ, x i = (r : EReal)) :
    ∃ r : ℝ, (Finset.univ : Finset ι).fold max (⊥ : EReal) x = (r : EReal) := by
  have e : ∀ s : Finset ι, (s.fold max (⊥ : EReal) x = ⊥ ∧ s = ∅) ∨ ∃ r : ℝ, s.fold max (⊥ : EReal) x = (r : EReal) := by
    intro s
    induction s using Finset.cons_induction with
    | empty => left; simp
    | cons a s ha ih =>
      right
      rw [Finset.fold_cons]
      obtain ⟨r, hr⟩ := h a
      rcases ih with ⟨h0, _⟩ | ⟨u, hu⟩
      · exact ⟨r, by rw [h0, hr]; simp⟩
      · exact ⟨max r u, by rw [hu, hr]; exact (EReal.coe_strictMono.monotone.map_max (a := r) (b := u)).symm⟩
  rcases e Finset.univ with ⟨_, h0⟩ | h1
  · exact absurd h0 Finset.univ_nonempty.ne_empty
  · exact h1

/-- A matrix of extended reals all of whose entries are the given reals. -/
def R2 {A B : ℕ} {φ : FTy} (X : FVec Ideal ⟨2, ![A, B]⟩ φ) (f : Fin A → Fin B → ℝ) : Prop :=
  ∀ a b, (X (ix2 a b) : EReal) = ((f a b : ℝ) : EReal)

variable {A B C K M N : ℕ} {φ φ₁ φ₂ : FTy}

/-- The reals may be rewritten. -/
theorem R2.congr {X : FVec Ideal ⟨2, ![A, B]⟩ φ} {f g : Fin A → Fin B → ℝ} (h : R2 X f) (e : ∀ a b, f a b = g a b) : R2 X g :=
  fun a b => (h a b).trans (congrArg _ (e a b))

theorem R2.addf {X Y : FVec Ideal ⟨2, ![A, B]⟩ φ} {f g : Fin A → Fin B → ℝ} (hX : R2 X f) (hY : R2 Y g) :
    R2 (addf X Y) (fun a b => f a b + g a b) := fun a b => by
  show (X (ix2 a b) : EReal) + Y (ix2 a b) = _
  rw [hX a b, hY a b, EReal.coe_add]

theorem R2.subf {X Y : FVec Ideal ⟨2, ![A, B]⟩ φ} {f g : Fin A → Fin B → ℝ} (hX : R2 X f) (hY : R2 Y g) :
    R2 (subf X Y) (fun a b => f a b - g a b) := fun a b => by
  show (X (ix2 a b) : EReal) - Y (ix2 a b) = _
  rw [hX a b, hY a b, EReal.coe_sub]

theorem R2.mulf {X Y : FVec Ideal ⟨2, ![A, B]⟩ φ} {f g : Fin A → Fin B → ℝ} (hX : R2 X f) (hY : R2 Y g) :
    R2 (mulf X Y) (fun a b => f a b * g a b) := fun a b => by
  show (X (ix2 a b) : EReal) * Y (ix2 a b) = _
  rw [hX a b, hY a b, EReal.coe_mul]

theorem R2.maximumf {X Y : FVec Ideal ⟨2, ![A, B]⟩ φ} {f g : Fin A → Fin B → ℝ} (hX : R2 X f) (hY : R2 Y g) :
    R2 (maximumf X Y) (fun a b => max (f a b) (g a b)) := fun a b => by
  show max (X (ix2 a b) : EReal) (Y (ix2 a b)) = _
  rw [hX a b, hY a b]; exact (EReal.coe_strictMono.monotone.map_max (a := f a b) (b := g a b)).symm

theorem R2.divf {X Y : FVec Ideal ⟨2, ![A, B]⟩ φ} {f g : Fin A → Fin B → ℝ} (hX : R2 X f) (hY : R2 Y g)
    (h0 : ∀ a b, g a b ≠ 0) : R2 (divf X Y) (fun a b => f a b / g a b) := fun a b => by
  show Ideal.div (X (ix2 a b)) (Y (ix2 a b)) = _
  rw [hX a b, hY a b, Ideal.div_coe (h0 a b), ← EReal.coe_mul, mul_one_div]

theorem R2.exp2 {X : FVec Ideal ⟨2, ![A, B]⟩ φ} {f : Fin A → Fin B → ℝ} (hX : R2 X f) :
    R2 (exp2 X) (fun a b => (2 : ℝ) ^ (f a b)) := fun a b => by
  show Ideal.exp2 (X (ix2 a b)) = _
  rw [hX a b, Ideal.exp2_coe]; rfl

theorem R2.log {X : FVec Ideal ⟨2, ![A, B]⟩ φ} {f : Fin A → Fin B → ℝ} (hX : R2 X f) (h0 : ∀ a b, 0 < f a b) :
    R2 (log X) (fun a b => Real.log (f a b)) := fun a b => by
  show Ideal.log (X (ix2 a b)) = _
  rw [hX a b, Ideal.log_coe, if_neg (not_le.mpr (h0 a b))]

theorem R2.truncf {X : FVec Ideal ⟨2, ![A, B]⟩ φ} {f : Fin A → Fin B → ℝ} (hX : R2 X f) (h : φ₁.bits < φ.bits) :
    R2 (truncf φ₁ X h) f := hX

theorem R2.extf {X : FVec Ideal ⟨2, ![A, B]⟩ φ} {f : Fin A → Fin B → ℝ} (hX : R2 X f) (h : φ.bits < φ₁.bits) :
    R2 (extf φ₁ X h) f := hX

theorem R2.splat {c : Ideal φ} {r : ℝ} (h : (c : EReal) = (r : EReal)) :
    R2 (broadcast (⟨2, ![A, B]⟩ : Shape) c : FVec Ideal ⟨2, ![A, B]⟩ φ) (fun _ _ => r) := fun _ _ => h

theorem R2.zero : R2 (constant (F := Ideal) (⟨2, ![A, B]⟩ : Shape) .f32 0x00000000#32) (fun _ _ => 0) := fun _ _ => by
  show Ideal.ofBits .f32 0x00000000#32 = _
  rw [Ideal.ofBits_zero_f32]; rfl

theorem zero_splat : (Scalar.ofBits (F := Ideal) .f32 0x00000000#32 : EReal) = ((0 : ℝ) : EReal) := by
  show Ideal.ofBits .f32 0x00000000#32 = _
  rw [Ideal.ofBits_zero_f32]; rfl

/-- A column repeated along the rows. -/
theorem R2.spread {X : FVec Ideal ⟨2, ![A, 1]⟩ φ} {f : Fin A → ℝ} (hX : R2 X (fun a _ => f a))
    (h : (⟨2, ![A, 1]⟩ : Shape).Broadcasts ⟨2, ![A, B]⟩) : R2 (broadcastTo (⟨2, ![A, B]⟩ : Shape) X h : FVec Ideal ⟨2, ![A, B]⟩ φ) (fun a _ => f a) := fun a b => by
  refine Eq.trans (broadcastTo_apply X h (ix2 a b) (ix2 a 0) ?_) (hX a 0)
  intro c
  match c with
  | ⟨0, _⟩ =>
    show a.val = if A = 1 then 0 else a.val
    split
    · have := a.isLt; omega
    · rfl
  | ⟨1, _⟩ => rfl

/-- A slice of columns. -/
theorem R2.slice {X : FVec Ideal ⟨2, ![A, B]⟩ φ} {f : Fin A → Fin B → ℝ} (hX : R2 X f) (o : ℕ) (ho : o + C ≤ B)
    (h : (⟨2, ![A, B]⟩ : Shape).Slices ![0, o] ⟨2, ![A, C]⟩) :
    R2 (extractStridedSlice (⟨2, ![A, C]⟩ : Shape) ![0, o] X h : FVec Ideal ⟨2, ![A, C]⟩ φ)
      (fun a k => f a ⟨o + k.val, by have := k.isLt; omega⟩) := fun a k => by
  refine Eq.trans (extractStridedSlice_apply ![0, o] X h (ix2 a k) (ix2 a ⟨o + k.val, by have := k.isLt; omega⟩) ?_) (hX a _)
  intro c
  match c with
  | ⟨0, _⟩ => show a.val = 0 + a.val; omega
  | ⟨1, _⟩ => rfl

/-- The sum along the rows, as a column. -/
theorem R2.rowSum {X : FVec Ideal ⟨2, ![A, B]⟩ .f32} {f : Fin A → Fin B → ℝ} (hX : R2 X f) {acc : BitVec FTy.f32.bits}
    (h : (⟨2, ![A, B]⟩ : Shape).Reduces [1] ⟨1, ![A]⟩) (hφ : FKind.Formats .f32) (hacc : acc = FKind.add.neutral .f32 hφ)
    (hc : (⟨1, ![A]⟩ : Shape).ShapeCasts ⟨2, ![A, 1]⟩) :
    R2 (shapeCast (⟨2, ![A, 1]⟩ : Shape) (multiReduction .add [1] ⟨1, ![A]⟩ X acc h hφ hacc) hc : FVec Ideal ⟨2, ![A, 1]⟩ .f32)
      (fun a _ => ∑ k, f a k) := fun a b => by
  refine Eq.trans (shapeCast_apply _ hc (ix2 a b) (ix1 a) ?_) ?_
  · rw [Shape.rowMajor_val_one, Shape.rowMajor_val_two]
    show a.val = a.val * 1 + b.val
    have := b.isLt; omega
  · rw [Ideal.multiReduction_add_single]
    exact sum_coe fun k => Eq.trans (congrArg X (by funext c; match c with | ⟨0, _⟩ => rfl | ⟨1, _⟩ => rfl)) (hX a k)

/-- The greatest entry of each row, as a column: some reals. -/
theorem R2.rowMax {X : FVec Ideal ⟨2, ![A, B]⟩ .f32} {f : Fin A → Fin B → ℝ} (hX : R2 X f) (hB : 0 < B)
    (h : (⟨2, ![A, B]⟩ : Shape).Reduces [1] ⟨1, ![A]⟩) (hφ : FKind.Formats .f32)
    (hacc : (0xFF800000#32 : BitVec FTy.f32.bits) = FKind.maximumf.neutral .f32 hφ)
    (hc : (⟨1, ![A]⟩ : Shape).ShapeCasts ⟨2, ![A, 1]⟩) :
    ∃ m : Fin A → ℝ,
      R2 (shapeCast (⟨2, ![A, 1]⟩ : Shape) (multiReduction .maximumf [1] ⟨1, ![A]⟩ X 0xFF800000#32 h hφ hacc) hc : FVec Ideal ⟨2, ![A, 1]⟩ .f32)
        (fun a _ => m a) := by
  have key : ∀ a : Fin A, ∃ r : ℝ, ∀ b : Fin 1,
      ((shapeCast (⟨2, ![A, 1]⟩ : Shape) (multiReduction .maximumf [1] ⟨1, ![A]⟩ X 0xFF800000#32 h hφ hacc) hc : FVec Ideal ⟨2, ![A, 1]⟩ .f32)
        (ix2 a b) : EReal) = (r : EReal) := by
    intro a
    have hbot : (FloatOps.ofBits (F := Ideal) .f32 0xFF800000#32 : EReal) = ⊥ := by
      show Ideal.ofBits .f32 0xFF800000#32 = _
      simp [Ideal.ofBits, Ideal.ieee]
    haveI : Nonempty (Fin ((⟨2, ![A, B]⟩ : Shape).size 1)) := ⟨⟨0, hB⟩⟩
    obtain ⟨r, hr⟩ := fold_max_real (x := X ∘ h.lift (ix1 a)) fun k =>
      ⟨f a k, Eq.trans (congrArg X (by funext c; match c with | ⟨0, _⟩ => rfl | ⟨1, _⟩ => rfl)) (hX a k)⟩
    refine ⟨r, fun b => ?_⟩
    refine Eq.trans (shapeCast_apply _ hc (ix2 a b) (ix1 a) ?_) ?_
    · rw [Shape.rowMajor_val_one, Shape.rowMajor_val_two]
      show a.val = a.val * 1 + b.val
      have := b.isLt; omega
    · rw [Ideal.multiReduction_maximumf_single, hbot]; exact hr
  choose m hm using key
  exact ⟨m, fun a b => hm a b⟩

/-- A matrix cast to its own shape. -/
theorem R2.castSelf {X : FVec Ideal ⟨2, ![A, B]⟩ φ} {f : Fin A → Fin B → ℝ} (hX : R2 X f)
    (h : (⟨2, ![A, B]⟩ : Shape).ShapeCasts ⟨2, ![A, B]⟩) : R2 (shapeCast (⟨2, ![A, B]⟩ : Shape) X h : FVec Ideal ⟨2, ![A, B]⟩ φ) f := fun a b =>
  Eq.trans (shapeCast_apply X h (ix2 a b) (ix2 a b) rfl) (hX a b)

/-- A column given a leading axis of one. -/
theorem R2.lift3 {X : FVec Ideal ⟨2, ![A, 1]⟩ φ} {f : Fin A → ℝ} (hX : R2 X (fun a _ => f a))
    (h : (⟨2, ![A, 1]⟩ : Shape).ShapeCasts ⟨3, ![1, A, 1]⟩) (c : Fin 1) (a : Fin A) (b : Fin 1) :
    ((shapeCast (⟨3, ![1, A, 1]⟩ : Shape) X h : FVec Ideal ⟨3, ![1, A, 1]⟩ φ) (ix3 c a b) : EReal) = (f a : EReal) := by
  refine Eq.trans (shapeCast_apply X h (ix3 c a b) (ix2 a 0) ?_) (hX a 0)
  rw [Shape.rowMajor_val_two, Shape.rowMajor_val_three]
  show a.val * 1 + 0 = (c.val * A + a.val) * 1 + b.val
  have := b.isLt; have hc : c.val = 0 := by have := c.isLt; omega
  rw [hc]; omega

/-- A column that had a leading axis of one. -/
theorem R2.drop3 {X : FVec Ideal ⟨3, ![1, A, 1]⟩ φ} {f : Fin A → ℝ} (hX : ∀ a, (X (ix3 0 a 0) : EReal) = (f a : EReal))
    (h : (⟨3, ![1, A, 1]⟩ : Shape).ShapeCasts ⟨2, ![A, 1]⟩) :
    R2 (shapeCast (⟨2, ![A, 1]⟩ : Shape) X h : FVec Ideal ⟨2, ![A, 1]⟩ φ) (fun a _ => f a) := fun a b => by
  refine Eq.trans (shapeCast_apply X h (ix2 a b) (ix3 0 a 0) ?_) (hX a)
  rw [Shape.rowMajor_val_two, Shape.rowMajor_val_three]
  show (0 * A + a.val) * 1 + 0 = a.val * 1 + b.val
  have := b.isLt; omega

/-! ## Products of matrices -/

theorem dot_coe {x y : Fin K → EReal} {f g : Fin K → ℝ} (hx : ∀ k, x k = (f k : EReal)) (hy : ∀ k, y k = (g k : EReal)) :
    (((0 : ℝ) : EReal) + ∑ k, x k * y k) = ((∑ k, f k * g k : ℝ) : EReal) := by
  rw [sum_coe (f := fun k => f k * g k) fun k => by rw [hx k, hy k, EReal.coe_mul], ← EReal.coe_add, zero_add]

/-- Rows by columns. -/
theorem R2.mm {X : FVec Ideal ⟨2, ![M, K]⟩ φ₁} {Y : FVec Ideal ⟨2, ![K, N]⟩ φ₂} {Z : FVec Ideal ⟨2, ![M, N]⟩ .f32}
    {f : Fin M → Fin K → ℝ} {g : Fin K → Fin N → ℝ} (hX : R2 X f) (hY : R2 Y g) (hZ : R2 Z (fun _ _ => 0))
    (prec : Option ContractPrecision) :
    R2 (FloatOps.matmul (DotDims.plain M K N) prec X Y Z : FVec Ideal ⟨2, ![M, N]⟩ .f32) (fun a b => ∑ k, f a k * g k b) := fun a b => by
  refine Eq.trans (Ideal.matmul_plain_apply prec X Y Z a b) ?_
  rw [hZ a b]
  exact dot_coe (fun k => hX a k) (fun k => hY k b)

/-- Rows by rows. -/
theorem R2.mmT {X : FVec Ideal ⟨2, ![M, K]⟩ φ₁} {Y : FVec Ideal ⟨2, ![N, K]⟩ φ₂} {Z : FVec Ideal ⟨2, ![M, N]⟩ .f32}
    {f : Fin M → Fin K → ℝ} {g : Fin N → Fin K → ℝ} (hX : R2 X f) (hY : R2 Y g) (hZ : R2 Z (fun _ _ => 0))
    (prec : Option ContractPrecision) :
    R2 (FloatOps.matmul (DotDims.transposedRhs M K N) prec X Y Z : FVec Ideal ⟨2, ![M, N]⟩ .f32) (fun a b => ∑ k, f a k * g b k) := fun a b => by
  refine Eq.trans (Ideal.matmul_transposedRhs_apply prec X Y Z a b) ?_
  rw [hZ a b]
  exact dot_coe (fun k => hX a k) (fun k => hY b k)

/-- Both operands contracted on their first axis. -/
def tn (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [], by simpa [List.finRange] using List.Perm.swap 0 1 [],
    rfl, Nat.two_pos, fun b => by fin_cases b <;> rfl⟩

theorem tn_contr_rank : (tn M K N).contr.rank = 1 := rfl
theorem tn_contr_size : (tn M K N).contr.size ⟨0, by rw [tn_contr_rank]; exact Nat.one_pos⟩ = K := rfl

/-- The one coordinate of that contraction. -/
def tnContr (M K N : ℕ) : (tn M K N).contr.Idx ≃ Fin K := contrEquiv1 _ K tn_contr_rank tn_contr_size

/-- That product at an index. -/
theorem matmul_tn_apply (prec : Option ContractPrecision) (lhs : FVec Ideal ⟨2, ![K, M]⟩ φ₁) (rhs : FVec Ideal ⟨2, ![K, N]⟩ φ₂)
    (acc : FVec Ideal ⟨2, ![M, N]⟩ .f32) (r : Fin M) (c : Fin N) :
    FloatOps.matmul (tn M K N) prec lhs rhs acc (ix2 r c) = acc (ix2 r c) + ∑ k : Fin K, lhs (ix2 k r) * rhs (ix2 k c) := by
  rw [Ideal.matmul_apply, ← Equiv.sum_comp (tnContr M K N).symm]
  refine congrArg (acc (ix2 r c) + ·) (Finset.sum_congr rfl fun k _ => ?_)
  have hk := contrEquiv1_symm_val _ K (tn_contr_rank (M := M) (N := N)) (tn_contr_size (M := M) (N := N)) k
  have el : (tn M K N).lhsIdx (ix2 r c) ((tnContr M K N).symm k) = ix2 k r := by
    funext a; apply Fin.ext
    match a with
    | ⟨0, _⟩ => exact hk
    | ⟨1, _⟩ => rfl
  have er : (tn M K N).rhsIdx (ix2 r c) ((tnContr M K N).symm k) = ix2 k c := by
    funext a; apply Fin.ext
    match a with
    | ⟨0, _⟩ => exact hk
    | ⟨1, _⟩ => rfl
  rw [el, er]

/-- Columns by columns. -/
theorem R2.mmC {X : FVec Ideal ⟨2, ![K, M]⟩ φ₁} {Y : FVec Ideal ⟨2, ![K, N]⟩ φ₂} {Z : FVec Ideal ⟨2, ![M, N]⟩ .f32}
    {f : Fin K → Fin M → ℝ} {g : Fin K → Fin N → ℝ} (hX : R2 X f) (hY : R2 Y g) (hZ : R2 Z (fun _ _ => 0))
    (prec : Option ContractPrecision) :
    R2 (FloatOps.matmul (tn M K N) prec X Y Z : FVec Ideal ⟨2, ![M, N]⟩ .f32) (fun a b => ∑ k, f k a * g k b) := fun a b => by
  refine Eq.trans (matmul_tn_apply prec X Y Z a b) ?_
  rw [hZ a b]
  exact dot_coe (fun k => hX k a) (fun k => hY k b)

/-! ## Reals -/

/-- A power of two is an exponential. -/
theorem two_rpow (x : ℝ) : (2 : ℝ) ^ x = Real.exp (x * Real.log 2) := by
  rw [Real.rpow_def_of_pos (by norm_num : (0 : ℝ) < 2), mul_comm]

theorem log_two_ne : Real.log 2 ≠ 0 := (Real.log_pos (by norm_num)).ne'

/-- A sum over 22 blocks of 128. -/
theorem sum_blocks (g : Fin 2816 → ℝ) :
    ∑ j, g j = ∑ c : Fin 22, ∑ k : Fin 128, g ⟨128 * c.val + k.val, by have := c.isLt; have := k.isLt; omega⟩ := by
  have e := Equiv.sum_comp (finProdFinEquiv (m := 22) (n := 128)) (fun j : Fin (22 * 128) => g j)
  refine Eq.trans (Eq.symm e) ?_
  rw [Fintype.sum_prod_type]
  refine Finset.sum_congr rfl fun c _ => Finset.sum_congr rfl fun k _ => congrArg g (Fin.ext ?_)
  show k.val + 128 * c.val = 128 * c.val + k.val
  omega

/-! ## Windows -/

/-- A window of a matrix. -/
theorem R2.window {X : FVec Ideal ⟨2, ![A, B]⟩ φ} {f : Fin A → Fin B → ℝ} (hX : R2 X f) (o p M N : ℕ) (ho : o + M ≤ A) (hp : p + N ≤ B)
    (inb : ∀ a, (![o, p] : Fin 2 → ℕ) a + (⟨2, ![M, N]⟩ : Shape).size a ≤ (⟨2, ![A, B]⟩ : Shape).size a) :
    R2 (A := M) (B := N) (φ := φ) (VecWindow.window X ![o, p] (⟨2, ![M, N]⟩ : Shape).size inb)
      (fun a b => f ⟨o + a.val, by have := a.isLt; omega⟩ ⟨p + b.val, by have := b.isLt; omega⟩) := fun a b => by
  refine Eq.trans (congrArg X (funext fun c => Fin.ext ?_)) (hX ⟨o + a.val, by have := a.isLt; omega⟩ ⟨p + b.val, by have := b.isLt; omega⟩)
  match c with
  | ⟨0, _⟩ => show o + 1 * a.val = o + a.val; omega
  | ⟨1, _⟩ => show p + 1 * b.val = p + b.val; omega

/-- A matrix into which columns are put. -/
theorem R2.put {X : FVec Ideal ⟨2, ![A, B]⟩ φ} {W : FVec Ideal ⟨2, ![A, C]⟩ φ} {f g : Fin A → Fin B → ℝ} {w : Fin A → Fin C → ℝ}
    (hX : R2 X f) (hW : R2 W w) (o : ℕ) (hin : ∀ a (j : Fin C) (hj : o + j.val < B), g a ⟨o + j.val, hj⟩ = w a j)
    (hout : ∀ a (b : Fin B), ¬ (o ≤ b.val ∧ b.val < o + C) → g a b = f a b) :
    R2 (A := A) (B := B) (φ := φ) (VecWindow.put X ![0, o] (⟨2, ![A, C]⟩ : Shape).size W) g := fun a b => by
  unfold VecWindow.put
  split
  · rename_i h
    have h1 : o ≤ b.val ∧ b.val < o + C := h 1
    refine Eq.trans (congrArg W (funext fun c => Fin.ext ?_)) ((hW a ⟨b.val - o, by omega⟩).trans
      (congrArg _ ((hin a ⟨b.val - o, by omega⟩ (by show o + (b.val - o) < B; have := b.isLt; omega)).symm.trans
        (congrArg (g a) (Fin.ext (by show o + (b.val - o) = b.val; omega))))))
    match c with
    | ⟨0, _⟩ => show a.val - 0 = a.val; omega
    | ⟨1, _⟩ => rfl
  · rename_i h
    refine (hX a b).trans (congrArg _ (hout a b fun h1 => h fun c => ?_).symm)
    match c with
    | ⟨0, _⟩ => exact ⟨Nat.zero_le _, by show a.val < 0 + A; have := a.isLt; omega⟩
    | ⟨1, _⟩ => exact h1

/-- A sum over three thirds. -/
theorem sum_thirds (g : Fin 8448 → ℝ) :
    ∑ j, g j = ∑ j : Fin 2816, g ⟨0 + j.val, by omega⟩ + ∑ j : Fin 2816, g ⟨2816 + j.val, by omega⟩ + ∑ j : Fin 2816, g ⟨5632 + j.val, by omega⟩ := by
  refine (Fin.sum_univ_add (a := 5632) (b := 2816) g).trans ?_
  refine congrArg₂ (· + ·) ((Fin.sum_univ_add (a := 2816) (b := 2816) fun i => g (Fin.castAdd 2816 i)).trans ?_) rfl
  exact congrArg₂ (· + ·) (Finset.sum_congr rfl fun k _ => congrArg g (Fin.ext (Nat.zero_add _).symm)) rfl

/-- A sum over two halves. -/
theorem sum_halves (g : Fin 8448 → ℝ) :
    ∑ j, g j = ∑ j : Fin 4224, g ⟨0 + j.val, by omega⟩ + ∑ j : Fin 4224, g ⟨4224 + j.val, by omega⟩ := by
  refine (Fin.sum_univ_add (a := 4224) (b := 4224) g).trans ?_
  exact congrArg₂ (· + ·) (Finset.sum_congr rfl fun k _ => congrArg g (Fin.ext (Nat.zero_add _).symm)) rfl

/-- A sum whose terms before the last 256 vanish. -/
theorem sum_last (g : Fin 8448 → ℝ) (h : ∀ j : Fin 8448, j.val < 8192 → g j = 0) : ∑ j, g j = ∑ j : Fin 256, g ⟨8192 + j.val, by omega⟩ := by
  refine (Fin.sum_univ_add (a := 8192) (b := 256) g).trans ?_
  rw [Finset.sum_eq_zero fun j _ => h _ j.isLt, zero_add]
  rfl

end Cert.RealCalc
-- ==== Proof.Value.Target.lean ====
/- The attention of one head over the reals and its derivatives: what both programs are shown to compute. -/
module

public import proofs.«01_k».proof.Proof.Value.Real

@[expose] public section

noncomputable section

namespace Cert.RealCalc

open Idealize.ShloMosaic Idealize.ShloMosaic.ValueIdx
open scoped BigOperators

/-- The real arrays of the heads: rows by columns. -/
abbrev Heads (n : ℕ) := Fin 8 → Fin 8448 → Fin n → ℝ

/-- Row `a` of block `n` of 256 rows. -/
def row (n : ℕ) (a : Fin 256) : Fin 8448 := ⟨n % 33 * 256 + a.val, by have := a.isLt; have := Nat.mod_lt n (show 0 < 33 by norm_num); omega⟩

/-- The head of grid point `n`. -/
def hd (n : ℕ) : Fin 8 := ⟨n / 33 % 8, Nat.mod_lt _ (by norm_num)⟩

/-- Column `d` of head `h`, of `n` columns each, among `m`. -/
def col {n m : ℕ} (e : 8 * n = m) (h : Fin 8) (d : Fin n) : Fin m :=
  ⟨h.val * n + d.val, by
    subst e
    calc h.val * n + d.val < h.val * n + n := Nat.add_lt_add_left d.isLt _
      _ = (h.val + 1) * n := (Nat.succ_mul _ _).symm
      _ ≤ 8 * n := Nat.mul_le_mul_right _ h.isLt⟩

/-- Every column is a column of some head. -/
theorem exists_col {n m : ℕ} (e : 8 * n = m) (c : Fin m) : ∃ h d, c = col (n := n) e h d := by
  subst e
  have hn : 0 < n := by
    rcases Nat.eq_zero_or_pos n with h | h
    · have := c.isLt; subst h; omega
    · exact h
  refine ⟨⟨c.val / n, Nat.div_lt_of_lt_mul (lt_of_lt_of_eq c.isLt (Nat.mul_comm 8 n))⟩, ⟨c.val % n, Nat.mod_lt _ hn⟩, Fin.ext ?_⟩
  show c.val = c.val / n * n + c.val % n
  exact (Nat.div_add_mod' c.val n).symm

/-- The 256 columns of a head among 2048. -/
theorem e256 : 8 * 256 = 2048 := rfl
/-- The 128 columns of a head among 1024. -/
theorem e128 : 8 * 128 = 1024 := rfl

/-- A column belongs to one head. -/
theorem col_inj {n m : ℕ} {e : 8 * n = m} {h h' : Fin 8} {d d' : Fin n} (he : col e h d = col e h' d') : h = h' ∧ d = d' := by
  have hn : 0 < n := Nat.zero_lt_of_lt d.isLt
  have e1 : h.val * n + d.val = h'.val * n + d'.val := congrArg Fin.val he
  have e2 : h.val = h'.val := by
    have := congrArg (· / n) e1
    simpa only [Nat.mul_comm _ n, Nat.mul_add_div hn, Nat.div_eq_of_lt d.isLt, Nat.div_eq_of_lt d'.isLt, Nat.add_zero] using this
  refine ⟨Fin.ext e2, Fin.ext ?_⟩
  rw [e2] at e1
  omega

/-- A matrix whose columns are those of the heads, side by side. -/
def HC {n m : ℕ} (e : 8 * n = m) {φ : FTy} (X : FVec Ideal ⟨2, ![8448, m]⟩ φ) (f : Heads n) : Prop :=
  ∀ h r d, (X (ix2 r (col e h d)) : EReal) = ((f h r d : ℝ) : EReal)

/-- A matrix whose rows are those of the heads, one under the other. -/
def HR {n m : ℕ} (e : 8 * n = m) {φ : FTy} (X : FVec Ideal ⟨2, ![m, 8448]⟩ φ) (f : Fin 8 → Fin n → Fin 8448 → ℝ) : Prop :=
  ∀ h d r, (X (ix2 (col e h d) r) : EReal) = ((f h d r : ℝ) : EReal)

/-- Two matrices of heads with the same real entries are the same. -/
theorem HC.ext {n m : ℕ} {e : 8 * n = m} {φ : FTy} {X Y : FVec Ideal ⟨2, ![8448, m]⟩ φ} {f : Heads n} (hX : HC e X f) (hY : HC e Y f) : X = Y := by
  funext i
  obtain ⟨h, d, hc⟩ := exists_col e (i 1)
  have hi : i = ix2 (i 0) (col e h d) := (eq_ix2 i).trans (by rw [hc]; rfl)
  rw [hi]
  exact (hX h _ d).trans (hY h _ d).symm

/-- … of heads one under the other. -/
theorem HR.ext {n m : ℕ} {e : 8 * n = m} {φ : FTy} {X Y : FVec Ideal ⟨2, ![m, 8448]⟩ φ} {f : Fin 8 → Fin n → Fin 8448 → ℝ} (hX : HR e X f) (hY : HR e Y f) : X = Y := by
  funext i
  obtain ⟨h, d, hc⟩ := exists_col e (i 0)
  have hi : i = ix2 (col e h d) (i 1) := (eq_ix2 i).trans (by rw [hc]; rfl)
  rw [hi]
  exact (hX h d _).trans (hY h d _).symm

/-- A matrix of reals is a matrix of heads. -/
theorem HC.of_real {n m : ℕ} (e : 8 * n = m) {φ : FTy} {X : FVec Ideal ⟨2, ![8448, m]⟩ φ} (hX : ∀ i, ∃ r : ℝ, (X i : EReal) = (r : EReal)) :
    ∃ f : Heads n, HC e X f := by
  choose F hF using hX
  exact ⟨fun h r d => F (ix2 r (col e h d)), fun h r d => hF _⟩

/-- A sum over the rows, block by block. -/
theorem sum_rows (f : Fin 8448 → ℝ) : ∑ r, f r = ∑ i ∈ Finset.range 33, ∑ a, f (row i a) := by
  have e := Equiv.sum_comp (finProdFinEquiv (m := 33) (n := 256)) (fun j : Fin (33 * 256) => f j)
  rw [Finset.sum_range fun i => ∑ a, f (row i a)]
  refine Eq.trans (Eq.symm e) ?_
  rw [Fintype.sum_prod_type]
  refine Finset.sum_congr rfl fun c _ => Finset.sum_congr rfl fun k _ => congrArg f (Fin.ext ?_)
  have := c.isLt
  show k.val + 256 * c.val = c.val % 33 * 256 + k.val
  omega

theorem row_mod (n : ℕ) (a : Fin 256) : row (n % 33) a = row n a :=
  Fin.ext (by show n % 33 % 33 * 256 + a.val = n % 33 * 256 + a.val; rw [Nat.mod_mod])

theorem hd_pred {n : ℕ} (h : n % 33 ≠ 0) : hd (n - 1) = hd n :=
  Fin.ext (by show (n - 1) / 33 % 8 = n / 33 % 8; omega)

/-- The first block's share of a sum over the rows. -/
theorem sum_start {n : ℕ} (h : n % 33 = 0) (f : Fin 8448 → ℝ) :
    0 + ∑ a, f (row n a) = ∑ i ∈ Finset.range (n % 33 + 1), ∑ a, f (row i a) := by
  rw [Finset.sum_range_succ, zero_add]
  simp only [row_mod]
  rw [h, Finset.sum_range_zero, zero_add]

/-- One block more. -/
theorem sum_next {n : ℕ} (h : n % 33 ≠ 0) (f : Fin 8448 → ℝ) :
    (∑ i ∈ Finset.range ((n - 1) % 33 + 1), ∑ a, f (row i a)) + ∑ a, f (row n a) = ∑ i ∈ Finset.range (n % 33 + 1), ∑ a, f (row i a) := by
  rw [Finset.sum_range_succ _ (n % 33), show (n - 1) % 33 + 1 = n % 33 by omega]
  simp only [row_mod]

/-- All blocks. -/
theorem sum_end {n : ℕ} (h : n % 33 = 32) (f : Fin 8448 → ℝ) : ∑ i ∈ Finset.range (n % 33 + 1), ∑ a, f (row i a) = ∑ r, f r := by
  rw [h, sum_rows]

section Head

variable (q k : Fin 8448 → Fin 256 → ℝ) (v g : Fin 8448 → Fin 128 → ℝ)

/-- The score of query `r` and key `j`. -/
def score (r j : Fin 8448) : ℝ := (∑ d, q r d * k j d) * (Real.sqrt 192)⁻¹

/-- The weight: latent queries see every key, the last 256 queries the last 256 keys. -/
def weight (r j : Fin 8448) : ℝ := if r.val < 8192 ∨ 8192 ≤ j.val then Real.exp (score q k r j) else 0

/-- The sum of a query's weights. -/
def total (r : Fin 8448) : ℝ := ∑ j, weight q k r j

/-- The attention probabilities. -/
def prob (r j : Fin 8448) : ℝ := weight q k r j / total q k r

/-- The attention output. -/
def out (r : Fin 8448) (d : Fin 128) : ℝ := (∑ j, weight q k r j * v j d) / total q k r

/-- The derivative with respect to the unscaled scores. -/
def dscore (r j : Fin 8448) : ℝ := prob q k r j * (∑ d, g r d * v j d - ∑ d, g r d * out q k v r d) * (Real.sqrt 192)⁻¹

/-- The derivative with respect to the queries. -/
def dqry (r : Fin 8448) (d : Fin 256) : ℝ := ∑ j, dscore q k v g r j * k j d

/-- The derivative with respect to the keys. -/
def dkey (d : Fin 256) (j : Fin 8448) : ℝ := ∑ r, q r d * dscore q k v g r j

/-- The derivative with respect to the values. -/
def dval (d : Fin 128) (j : Fin 8448) : ℝ := ∑ r, g r d * prob q k r j

theorem weight_nonneg (r j : Fin 8448) : 0 ≤ weight q k r j := by
  unfold weight; split
  · exact (Real.exp_pos _).le
  · exact le_rfl

theorem total_pos (r : Fin 8448) : 0 < total q k r := by
  refine Finset.sum_pos' (fun j _ => weight_nonneg q k r j) ⟨⟨8192, by norm_num⟩, Finset.mem_univ _, ?_⟩
  unfold weight
  rw [if_pos (Or.inr (le_refl 8192))]
  exact Real.exp_pos _

theorem weight_far {r j : Fin 8448} (hr : 8192 ≤ r.val) (hj : j.val < 8192) : weight q k r j = 0 :=
  if_neg (by omega)

theorem prob_far {r j : Fin 8448} (hr : 8192 ≤ r.val) (hj : j.val < 8192) : prob q k r j = 0 := by
  unfold prob; rw [weight_far q k hr hj, zero_div]

theorem dscore_far {r j : Fin 8448} (hr : 8192 ≤ r.val) (hj : j.val < 8192) : dscore q k v g r j = 0 := by
  unfold dscore; rw [prob_far q k hr hj, zero_mul, zero_mul]

end Head

/-- A latent row. -/
def latRow (r : Fin 8192) : Fin 8448 := ⟨r.val, Nat.lt_of_lt_of_le r.isLt (by norm_num)⟩

/-- A context row. -/
def ctxRow (r : Fin 256) : Fin 8448 := ⟨8192 + r.val, by have := r.isLt; omega⟩

/-- A row is a latent or a context row. -/
theorem row_cases (r : Fin 8448) : (∃ a, r = latRow a) ∨ ∃ a, r = ctxRow a := by
  by_cases h : r.val < 8192
  · exact Or.inl ⟨⟨r.val, h⟩, rfl⟩
  · exact Or.inr ⟨⟨r.val - 8192, by have := r.isLt; omega⟩, Fin.ext (by show r.val = 8192 + (r.val - 8192); omega)⟩

/-- A sum over the rows: the latent ones and the context ones. -/
theorem sum_lat_ctx (f : Fin 8448 → ℝ) : ∑ r, f r = ∑ r, f (latRow r) + ∑ r, f (ctxRow r) :=
  Fin.sum_univ_add (a := 8192) (b := 256) f

end Cert.RealCalc

end
-- ==== Proof.Value.Fwd.lean ====
/- The forward kernel's blocks over the extended reals: the softmax-weighted means and the logarithms of the weights' sums. -/
module

public import proofs.«01_k».proof.Proof.KernelIdeal.FwdBody
public import proofs.«01_k».proof.Proof.Value.Real

@[expose] public section

set_option maxRecDepth 16384

noncomputable section

namespace Cert.KernelIdeal.Own

open Idealize.ShloMosaic Idealize.ShloMosaic.ValueIdx
open Cert.KernelIdeal.Gen Cert.RealCalc
open scoped BigOperators

/-- The scale of the scores. -/
def sc : ℝ := (Real.sqrt 192)⁻¹
/-- The factor from natural to binary logarithms. -/
def lb : ℝ := (Real.log 2)⁻¹

theorem named_scale_log2e : (Named.named (F := Ideal) Cert.KernelIdeal.κ "scale_log2e" (φ := .f32) 0x3DD53B95#32 : EReal) = ((sc * lb : ℝ) : EReal) := rfl
theorem named_scale : (Named.named (F := Ideal) Cert.KernelIdeal.κ "scale" (φ := .f32) 0x3D93CD3A#32 : EReal) = ((sc : ℝ) : EReal) := rfl
theorem named_log2e : (Named.named (F := Ideal) Cert.KernelIdeal.κ "log2e" (φ := .f32) 0x3FB8AA3B#32 : EReal) = ((lb : ℝ) : EReal) := rfl

/-- A binary power of a scaled score less a maximum. -/
theorem pow_score (s m : ℝ) : (2 : ℝ) ^ (s * (sc * lb) - m) = Real.exp (s * sc) * (2 : ℝ) ^ (-m) := by
  rw [sub_eq_add_neg, Real.rpow_add (by norm_num : (0 : ℝ) < 2), two_rpow (s * (sc * lb))]
  congr 2
  rw [show s * (sc * lb) * Real.log 2 = s * sc * (lb * Real.log 2) by ring, lb, inv_mul_cancel₀ log_two_ne, mul_one]

/-- A part's sum brought to the common maximum. -/
theorem rescale (m M z : ℝ) : (2 : ℝ) ^ (m - M) * (z * (2 : ℝ) ^ (-m)) = (2 : ℝ) ^ (-M) * z := by
  have h : (2 : ℝ) ^ (m - M) * (2 : ℝ) ^ (-m) = (2 : ℝ) ^ (-M) := by
    rw [← Real.rpow_add (by norm_num : (0 : ℝ) < 2)]; congr 1; ring
  rw [← h]; ring

section Pieces

variable {Q : Vec Ideal S256x256 .bf16} {q : Fin 256 → Fin 256 → ℝ}
variable {S : FVec Ideal S256x2816 .f32} {s : Fin 256 → Fin 2816 → ℝ}

theorem pay9_real {K : Vec Ideal S2816x256 .bf16} {k : Fin 2816 → Fin 256 → ℝ} (hQ : R2 (φ := .bf16) Q q) (hK : R2 (φ := .bf16) K k) :
    R2 (φ := .f32) (k0_pay9 (F := Ideal) Q K) (fun a j => ∑ d, q a d * k j d) :=
  R2.mmT (φ₁ := .bf16) (φ₂ := .bf16) hQ hK R2.zero none

theorem pay10_real (hS : R2 (φ := .f32) S s) : R2 (φ := .f32) (k0_pay10 (F := Ideal) S) (fun a j => s a j * (sc * lb)) :=
  R2.mulf hS (R2.splat named_scale_log2e)

theorem pay11_real (hS : R2 (φ := .f32) S s) : ∃ m : Fin 256 → ℝ, R2 (φ := .f32) (k0_pay11 (F := Ideal) S) (fun a _ => m a) :=
  have h := pay10_real hS
  R2.rowMax (R2.maximumf (R2.maximumf (R2.maximumf (R2.maximumf (R2.maximumf (R2.maximumf (R2.maximumf (R2.maximumf (R2.maximumf (R2.maximumf (R2.maximumf (R2.maximumf (R2.maximumf (R2.maximumf (R2.maximumf (R2.maximumf (R2.maximumf (R2.maximumf (R2.maximumf (R2.maximumf (R2.maximumf (h.slice (C := 128) 0 (by norm_num) _) (h.slice (C := 128) 128 (by norm_num) _)) (h.slice (C := 128) 256 (by norm_num) _)) (h.slice (C := 128) 384 (by norm_num) _)) (h.slice (C := 128) 512 (by norm_num) _)) (h.slice (C := 128) 640 (by norm_num) _)) (h.slice (C := 128) 768 (by norm_num) _)) (h.slice (C := 128) 896 (by norm_num) _)) (h.slice (C := 128) 1024 (by norm_num) _)) (h.slice (C := 128) 1152 (by norm_num) _)) (h.slice (C := 128) 1280 (by norm_num) _)) (h.slice (C := 128) 1408 (by norm_num) _)) (h.slice (C := 128) 1536 (by norm_num) _)) (h.slice (C := 128) 1664 (by norm_num) _)) (h.slice (C := 128) 1792 (by norm_num) _)) (h.slice (C := 128) 1920 (by norm_num) _)) (h.slice (C := 128) 2048 (by norm_num) _)) (h.slice (C := 128) 2176 (by norm_num) _)) (h.slice (C := 128) 2304 (by norm_num) _)) (h.slice (C := 128) 2432 (by norm_num) _)) (h.slice (C := 128) 2560 (by norm_num) _)) (h.slice (C := 128) 2688 (by norm_num) _)) (by norm_num) _ _ _ _

theorem pay12_real (hS : R2 (φ := .f32) S s) {m : Fin 256 → ℝ} (hm : R2 (φ := .f32) (k0_pay11 (F := Ideal) S) (fun a _ => m a)) :
    R2 (φ := .f32) (k0_pay12 (F := Ideal) S) (fun a j => Real.exp (s a j * sc) * (2 : ℝ) ^ (-(m a))) :=
  R2.congr (R2.exp2 (R2.subf (pay10_real hS) (R2.spread hm _))) fun a j => pow_score _ _

theorem sum_fin22 (g : Fin 22 → ℝ) : ∑ c, g c = g 0 + g 1 + g 2 + g 3 + g 4 + g 5 + g 6 + g 7 + g 8 + g 9 + g 10 + g 11 + g 12 + g 13 + g 14 + g 15 + g 16 + g 17 + g 18 + g 19 + g 20 + g 21 := by
  simp only [Fin.sum_univ_castSucc, Fin.sum_univ_zero, zero_add]
  rfl

theorem sum22 (g : Fin 2816 → ℝ) : (∑ k : Fin 128, (((((((((((((((((((((g ⟨0 + k.val, by omega⟩ + g ⟨128 + k.val, by omega⟩) + g ⟨256 + k.val, by omega⟩) + g ⟨384 + k.val, by omega⟩) + g ⟨512 + k.val, by omega⟩) + g ⟨640 + k.val, by omega⟩) + g ⟨768 + k.val, by omega⟩) + g ⟨896 + k.val, by omega⟩) + g ⟨1024 + k.val, by omega⟩) + g ⟨1152 + k.val, by omega⟩) + g ⟨1280 + k.val, by omega⟩) + g ⟨1408 + k.val, by omega⟩) + g ⟨1536 + k.val, by omega⟩) + g ⟨1664 + k.val, by omega⟩) + g ⟨1792 + k.val, by omega⟩) + g ⟨1920 + k.val, by omega⟩) + g ⟨2048 + k.val, by omega⟩) + g ⟨2176 + k.val, by omega⟩) + g ⟨2304 + k.val, by omega⟩) + g ⟨2432 + k.val, by omega⟩) + g ⟨2560 + k.val, by omega⟩) + g ⟨2688 + k.val, by omega⟩)) = ∑ j, g j := by
  rw [sum_blocks, sum_fin22]
  simp only [Finset.sum_add_distrib]
  rfl

theorem pay7_real (hS : R2 (φ := .f32) S s) : R2 (φ := .f32) (k0_pay7 (F := Ideal) S) (fun a _ => ∑ j, s a j) :=
  have h := hS
  R2.congr (R2.rowSum (R2.addf (R2.addf (R2.addf (R2.addf (R2.addf (R2.addf (R2.addf (R2.addf (R2.addf (R2.addf (R2.addf (R2.addf (R2.addf (R2.addf (R2.addf (R2.addf (R2.addf (R2.addf (R2.addf (R2.addf (R2.addf (h.slice (C := 128) 0 (by norm_num) _) (h.slice (C := 128) 128 (by norm_num) _)) (h.slice (C := 128) 256 (by norm_num) _)) (h.slice (C := 128) 384 (by norm_num) _)) (h.slice (C := 128) 512 (by norm_num) _)) (h.slice (C := 128) 640 (by norm_num) _)) (h.slice (C := 128) 768 (by norm_num) _)) (h.slice (C := 128) 896 (by norm_num) _)) (h.slice (C := 128) 1024 (by norm_num) _)) (h.slice (C := 128) 1152 (by norm_num) _)) (h.slice (C := 128) 1280 (by norm_num) _)) (h.slice (C := 128) 1408 (by norm_num) _)) (h.slice (C := 128) 1536 (by norm_num) _)) (h.slice (C := 128) 1664 (by norm_num) _)) (h.slice (C := 128) 1792 (by norm_num) _)) (h.slice (C := 128) 1920 (by norm_num) _)) (h.slice (C := 128) 2048 (by norm_num) _)) (h.slice (C := 128) 2176 (by norm_num) _)) (h.slice (C := 128) 2304 (by norm_num) _)) (h.slice (C := 128) 2432 (by norm_num) _)) (h.slice (C := 128) 2560 (by norm_num) _)) (h.slice (C := 128) 2688 (by norm_num) _)) _ _ _ _) fun a _ => sum22 (s a)

theorem pay8_real {V : Vec Ideal S2816x128 .bf16} {v : Fin 2816 → Fin 128 → ℝ} (hS : R2 (φ := .f32) S s) (hV : R2 (φ := .bf16) V v) :
    R2 (φ := .f32) (k0_pay8 (F := Ideal) S V) (fun a d => ∑ j, s a j * v j d) :=
  R2.mm (φ₁ := .bf16) (φ₂ := .bf16) (R2.truncf hS _) hV R2.zero none

end Pieces

/-- The sum of the three parts' sums, brought to the common maximum. -/
def den (m₁ l₁ m₂ l₂ m₃ l₃ : FVec Ideal S256x1 .f32) : FVec Ideal S256x1 .f32 :=
  addf (addf (addf (broadcast S256x1 (Scalar.ofBits (F := Ideal) .f32 0x00000000#32)) (mulf (exp2 (subf m₁ (k0_pay24 m₁ m₂ m₃))) l₁))
    (mulf (exp2 (subf m₂ (k0_pay24 m₁ m₂ m₃))) l₂)) (mulf (exp2 (subf m₃ (k0_pay24 m₁ m₂ m₃))) l₃)

/-- A latent block's means, from each third's scores alone. -/
theorem latO_eq (q : Vec Ideal S256x256 .bf16) (k₁ k₂ k₃ : Vec Ideal S2816x256 .bf16) (v₁ v₂ v₃ : Vec Ideal S2816x128 .bf16) :
    latO (F := Ideal) q k₁ k₂ k₃ v₁ v₂ v₃ =
      k0_pay1 (k0_pay8 (k0_pay12 (k0_pay9 q k₂)) v₂) (k0_pay11 (k0_pay9 q k₃)) (k0_pay8 (k0_pay12 (k0_pay9 q k₃)) v₃)
        (k0_pay24 (k0_pay11 (k0_pay9 q k₁)) (k0_pay11 (k0_pay9 q k₂)) (k0_pay11 (k0_pay9 q k₃)))
        (den (k0_pay11 (k0_pay9 q k₁)) (k0_pay7 (k0_pay12 (k0_pay9 q k₁))) (k0_pay11 (k0_pay9 q k₂)) (k0_pay7 (k0_pay12 (k0_pay9 q k₂)))
          (k0_pay11 (k0_pay9 q k₃)) (k0_pay7 (k0_pay12 (k0_pay9 q k₃))))
        (k0_pay26 (k0_pay11 (k0_pay9 q k₁)) (k0_pay8 (k0_pay12 (k0_pay9 q k₁)) v₁) (k0_pay11 (k0_pay9 q k₂)) (k0_pay11 (k0_pay9 q k₃)))
        (k0_pay27 (k0_pay11 (k0_pay9 q k₁)) (k0_pay11 (k0_pay9 q k₂)) (k0_pay11 (k0_pay9 q k₃))) := rfl

/-- A latent block's logarithms, likewise. -/
theorem latL_eq (q : Vec Ideal S256x256 .bf16) (k₁ k₂ k₃ : Vec Ideal S2816x256 .bf16) :
    latL (F := Ideal) q k₁ k₂ k₃ =
      k0_pay2 (k0_pay24 (k0_pay11 (k0_pay9 q k₁)) (k0_pay11 (k0_pay9 q k₂)) (k0_pay11 (k0_pay9 q k₃)))
        (den (k0_pay11 (k0_pay9 q k₁)) (k0_pay7 (k0_pay12 (k0_pay9 q k₁))) (k0_pay11 (k0_pay9 q k₂)) (k0_pay7 (k0_pay12 (k0_pay9 q k₂)))
          (k0_pay11 (k0_pay9 q k₃)) (k0_pay7 (k0_pay12 (k0_pay9 q k₃)))) := rfl

section Join

variable {m₁ m₂ m₃ l₁ l₂ l₃ : FVec Ideal S256x1 .f32} {a₁ a₂ a₃ : FVec Ideal S256x128 .f32}
variable {x₁ x₂ x₃ z₁ z₂ z₃ : Fin 256 → ℝ} {y₁ y₂ y₃ : Fin 256 → Fin 128 → ℝ}

theorem pay24_real (h₁ : R2 (φ := .f32) m₁ (fun a _ => x₁ a)) (h₂ : R2 (φ := .f32) m₂ (fun a _ => x₂ a)) (h₃ : R2 (φ := .f32) m₃ (fun a _ => x₃ a)) :
    R2 (φ := .f32) (k0_pay24 (F := Ideal) m₁ m₂ m₃) (fun a _ => max (max (x₁ a) (x₂ a)) (x₃ a)) :=
  R2.maximumf (R2.maximumf h₁ h₂) h₃

theorem den_real (h₁ : R2 (φ := .f32) m₁ (fun a _ => x₁ a)) (h₂ : R2 (φ := .f32) m₂ (fun a _ => x₂ a)) (h₃ : R2 (φ := .f32) m₃ (fun a _ => x₃ a))
    (i₁ : R2 (φ := .f32) l₁ (fun a _ => z₁ a * (2 : ℝ) ^ (-(x₁ a)))) (i₂ : R2 (φ := .f32) l₂ (fun a _ => z₂ a * (2 : ℝ) ^ (-(x₂ a))))
    (i₃ : R2 (φ := .f32) l₃ (fun a _ => z₃ a * (2 : ℝ) ^ (-(x₃ a)))) :
    R2 (φ := .f32) (den m₁ l₁ m₂ l₂ m₃ l₃) (fun a _ => (2 : ℝ) ^ (-(max (max (x₁ a) (x₂ a)) (x₃ a))) * (z₁ a + z₂ a + z₃ a)) :=
  have hM := pay24_real h₁ h₂ h₃
  R2.congr (R2.addf (R2.addf (R2.addf (R2.splat zero_splat) (R2.mulf (R2.exp2 (R2.subf h₁ hM)) i₁)) (R2.mulf (R2.exp2 (R2.subf h₂ hM)) i₂))
    (R2.mulf (R2.exp2 (R2.subf h₃ hM)) i₃)) fun a _ => by
      simp only [rescale]; ring

theorem pay1_real (h₁ : R2 (φ := .f32) m₁ (fun a _ => x₁ a)) (h₂ : R2 (φ := .f32) m₂ (fun a _ => x₂ a)) (h₃ : R2 (φ := .f32) m₃ (fun a _ => x₃ a))
    (i₁ : R2 (φ := .f32) l₁ (fun a _ => z₁ a * (2 : ℝ) ^ (-(x₁ a)))) (i₂ : R2 (φ := .f32) l₂ (fun a _ => z₂ a * (2 : ℝ) ^ (-(x₂ a))))
    (i₃ : R2 (φ := .f32) l₃ (fun a _ => z₃ a * (2 : ℝ) ^ (-(x₃ a))))
    (j₁ : R2 (φ := .f32) a₁ (fun a d => y₁ a d * (2 : ℝ) ^ (-(x₁ a)))) (j₂ : R2 (φ := .f32) a₂ (fun a d => y₂ a d * (2 : ℝ) ^ (-(x₂ a))))
    (j₃ : R2 (φ := .f32) a₃ (fun a d => y₃ a d * (2 : ℝ) ^ (-(x₃ a)))) (hz : ∀ a, 0 < z₁ a + z₂ a + z₃ a) :
    R2 (φ := .bf16) (k0_pay1 (F := Ideal) a₂ m₃ a₃ (k0_pay24 m₁ m₂ m₃) (den m₁ l₁ m₂ l₂ m₃ l₃) (k0_pay26 m₁ a₁ m₂ m₃) (k0_pay27 m₁ m₂ m₃))
      (fun a d => (y₁ a d + y₂ a d + y₃ a d) / (z₁ a + z₂ a + z₃ a)) :=
  have hM := pay24_real h₁ h₂ h₃
  have p2 : ∀ x : ℝ, (2 : ℝ) ^ x ≠ 0 := fun x => (Real.rpow_pos_of_pos (by norm_num) x).ne'
  have h26 : R2 (φ := .f32) (k0_pay26 (F := Ideal) m₁ a₁ m₂ m₃) (fun a d => 0 + (2 : ℝ) ^ (x₁ a - max (max (x₁ a) (x₂ a)) (x₃ a)) * (y₁ a d * (2 : ℝ) ^ (-(x₁ a)))) :=
    R2.addf (R2.splat zero_splat) (R2.mulf (R2.spread (f := fun a => (2 : ℝ) ^ (x₁ a - max (max (x₁ a) (x₂ a)) (x₃ a))) (R2.exp2 (R2.subf h₁ hM)) _) j₁)
  have h27 : R2 (φ := .f32) (k0_pay27 (F := Ideal) m₁ m₂ m₃) (fun a _ => x₂ a - max (max (x₁ a) (x₂ a)) (x₃ a)) := R2.subf h₂ hM
  R2.congr (R2.truncf (R2.divf (R2.addf (R2.addf h26 (R2.mulf (R2.spread (f := fun a => (2 : ℝ) ^ (x₂ a - max (max (x₁ a) (x₂ a)) (x₃ a))) (R2.exp2 h27) _) j₂)) (R2.mulf (R2.spread (f := fun a => (2 : ℝ) ^ (x₃ a - max (max (x₁ a) (x₂ a)) (x₃ a))) (R2.exp2 (R2.subf h₃ hM)) _) j₃))
    (R2.spread (den_real h₁ h₂ h₃ i₁ i₂ i₃) _) (fun a _ => mul_ne_zero (p2 _) (hz a).ne')) _) fun a d => by
      simp only [rescale]
      rw [zero_add, ← mul_add, ← mul_add, mul_div_mul_left _ _ (p2 _)]

theorem pay2_real (h₁ : R2 (φ := .f32) m₁ (fun a _ => x₁ a)) (h₂ : R2 (φ := .f32) m₂ (fun a _ => x₂ a)) (h₃ : R2 (φ := .f32) m₃ (fun a _ => x₃ a))
    (i₁ : R2 (φ := .f32) l₁ (fun a _ => z₁ a * (2 : ℝ) ^ (-(x₁ a)))) (i₂ : R2 (φ := .f32) l₂ (fun a _ => z₂ a * (2 : ℝ) ^ (-(x₂ a))))
    (i₃ : R2 (φ := .f32) l₃ (fun a _ => z₃ a * (2 : ℝ) ^ (-(x₃ a)))) (hz : ∀ a, 0 < z₁ a + z₂ a + z₃ a) (c : Fin 1) (a : Fin 256) (b : Fin 1) :
    (k0_pay2 (F := Ideal) (k0_pay24 m₁ m₂ m₃) (den m₁ l₁ m₂ l₂ m₃ l₃) (ix3 c a b) : EReal) = ((Real.log (z₁ a + z₂ a + z₃ a) * lb : ℝ) : EReal) :=
  have hM := pay24_real h₁ h₂ h₃
  have p2 : ∀ x : ℝ, 0 < (2 : ℝ) ^ x := fun x => Real.rpow_pos_of_pos (by norm_num) x
  R2.lift3 (φ := .f32) (f := fun a => Real.log (z₁ a + z₂ a + z₃ a) * lb)
    (R2.congr (R2.addf hM (R2.mulf (R2.log (den_real h₁ h₂ h₃ i₁ i₂ i₃) fun a _ => mul_pos (p2 _) (hz a)) (R2.splat named_log2e))) fun a _ => by
      rw [Real.log_mul (p2 _).ne' (hz a).ne', Real.log_rpow (by norm_num : (0 : ℝ) < 2), add_mul,
        mul_assoc, lb, mul_inv_cancel₀ log_two_ne]; ring) _ c a b

end Join

section Lat

variable {Q : Vec Ideal S256x256 .bf16} {q : Fin 256 → Fin 256 → ℝ}
variable {K₁ K₂ K₃ : Vec Ideal S2816x256 .bf16} {k₁ k₂ k₃ : Fin 2816 → Fin 256 → ℝ}
variable {V₁ V₂ V₃ : Vec Ideal S2816x128 .bf16} {v₁ v₂ v₃ : Fin 2816 → Fin 128 → ℝ}

/-- The weight of key row `j` for query row `a`. -/
def wgt {n : ℕ} (q : Fin 256 → Fin 256 → ℝ) (k : Fin n → Fin 256 → ℝ) (a : Fin 256) (j : Fin n) : ℝ := Real.exp ((∑ d, q a d * k j d) * sc)

theorem wgt_pos {n : ℕ} (q : Fin 256 → Fin 256 → ℝ) (k : Fin n → Fin 256 → ℝ) (a : Fin 256) (j : Fin n) : 0 < wgt q k a j := Real.exp_pos _

theorem sum_wgt_pos {n : ℕ} (hn : 0 < n) (q : Fin 256 → Fin 256 → ℝ) (k : Fin n → Fin 256 → ℝ) (a : Fin 256) : 0 < ∑ j, wgt q k a j :=
  Finset.sum_pos (fun j _ => wgt_pos q k a j) ⟨⟨0, hn⟩, Finset.mem_univ _⟩

/-- One third's maximum, sum and weighted sum. -/
theorem third {K : Vec Ideal S2816x256 .bf16} {k : Fin 2816 → Fin 256 → ℝ} (hQ : R2 (φ := .bf16) Q q) (hK : R2 (φ := .bf16) K k) :
    ∃ x : Fin 256 → ℝ, R2 (φ := .f32) (k0_pay11 (F := Ideal) (k0_pay9 Q K)) (fun a _ => x a) ∧
      R2 (φ := .f32) (k0_pay7 (F := Ideal) (k0_pay12 (k0_pay9 Q K))) (fun a _ => (∑ j, wgt q k a j) * (2 : ℝ) ^ (-(x a))) ∧
      ∀ {V : Vec Ideal S2816x128 .bf16} {v : Fin 2816 → Fin 128 → ℝ}, R2 (φ := .bf16) V v →
        R2 (φ := .f32) (k0_pay8 (F := Ideal) (k0_pay12 (k0_pay9 Q K)) V) (fun a d => (∑ j, wgt q k a j * v j d) * (2 : ℝ) ^ (-(x a))) := by
  obtain ⟨x, hx⟩ := pay11_real (pay9_real hQ hK)
  refine ⟨x, hx, ?_, fun hV => ?_⟩
  · exact R2.congr (pay7_real (pay12_real (pay9_real hQ hK) hx)) fun a _ => (Finset.sum_mul ..).symm
  · refine R2.congr (pay8_real (pay12_real (pay9_real hQ hK) hx) hV) fun a d => ?_
    rw [Finset.sum_mul]
    exact Finset.sum_congr rfl fun j _ => mul_right_comm _ _ _

/-- A latent block's means. -/
theorem latO_real (hQ : R2 (φ := .bf16) Q q) (h₁ : R2 (φ := .bf16) K₁ k₁) (h₂ : R2 (φ := .bf16) K₂ k₂) (h₃ : R2 (φ := .bf16) K₃ k₃)
    (g₁ : R2 (φ := .bf16) V₁ v₁) (g₂ : R2 (φ := .bf16) V₂ v₂) (g₃ : R2 (φ := .bf16) V₃ v₃) :
    R2 (φ := .bf16) (latO (F := Ideal) Q K₁ K₂ K₃ V₁ V₂ V₃) (fun a d =>
      (∑ j, wgt q k₁ a j * v₁ j d + ∑ j, wgt q k₂ a j * v₂ j d + ∑ j, wgt q k₃ a j * v₃ j d) /
        (∑ j, wgt q k₁ a j + ∑ j, wgt q k₂ a j + ∑ j, wgt q k₃ a j)) := by
  rw [latO_eq]
  obtain ⟨x₁, hx₁, i₁, j₁⟩ := third hQ h₁
  obtain ⟨x₂, hx₂, i₂, j₂⟩ := third hQ h₂
  obtain ⟨x₃, hx₃, i₃, j₃⟩ := third hQ h₃
  have p := fun (k : Fin 2816 → Fin 256 → ℝ) a => sum_wgt_pos (by norm_num) q k a
  exact pay1_real hx₁ hx₂ hx₃ i₁ i₂ i₃ (j₁ g₁) (j₂ g₂) (j₃ g₃) fun a => by have := p k₁ a; have := p k₂ a; have := p k₃ a; positivity

/-- A latent block's logarithms. -/
theorem latL_real (hQ : R2 (φ := .bf16) Q q) (h₁ : R2 (φ := .bf16) K₁ k₁) (h₂ : R2 (φ := .bf16) K₂ k₂) (h₃ : R2 (φ := .bf16) K₃ k₃)
    (c : Fin 1) (a : Fin 256) (b : Fin 1) :
    (latL (F := Ideal) Q K₁ K₂ K₃ (ix3 c a b) : EReal) =
      ((Real.log (∑ j, wgt q k₁ a j + ∑ j, wgt q k₂ a j + ∑ j, wgt q k₃ a j) * lb : ℝ) : EReal) := by
  rw [latL_eq]
  obtain ⟨x₁, hx₁, i₁, j₁⟩ := third hQ h₁
  obtain ⟨x₂, hx₂, i₂, j₂⟩ := third hQ h₂
  obtain ⟨x₃, hx₃, i₃, j₃⟩ := third hQ h₃
  have p := fun (k : Fin 2816 → Fin 256 → ℝ) a => sum_wgt_pos (by norm_num) q k a
  exact pay2_real hx₁ hx₂ hx₃ i₁ i₂ i₃ (fun a => by have := p k₁ a; have := p k₂ a; have := p k₃ a; positivity) c a b

end Lat

section Ctx

variable {Q : Vec Ideal S256x256 .bf16} {q : Fin 256 → Fin 256 → ℝ}
variable {K : Vec Ideal S256x256 .bf16} {k : Fin 256 → Fin 256 → ℝ} {V : Vec Ideal S256x128 .bf16} {v : Fin 256 → Fin 128 → ℝ}

theorem pay28_real (hQ : R2 (φ := .bf16) Q q) (hK : R2 (φ := .bf16) K k) :
    R2 (φ := .f32) (k0_pay28 (F := Ideal) Q K) (fun a j => (∑ d, q a d * k j d) * (sc * lb)) :=
  R2.mulf (R2.mmT (φ₁ := .bf16) (φ₂ := .bf16) hQ hK R2.zero none) (R2.splat named_scale_log2e)

theorem pay29_real (hQ : R2 (φ := .bf16) Q q) (hK : R2 (φ := .bf16) K k) :
    ∃ m : Fin 256 → ℝ, R2 (φ := .f32) (k0_pay29 (F := Ideal) Q K) (fun a _ => m a) :=
  have h := pay28_real hQ hK
  R2.rowMax (R2.maximumf (h.slice (C := 128) 0 (by norm_num) _) (h.slice (C := 128) 128 (by norm_num) _)) (by norm_num) _ _ _ _

theorem pay30_real (hQ : R2 (φ := .bf16) Q q) (hK : R2 (φ := .bf16) K k) {m : Fin 256 → ℝ}
    (hm : R2 (φ := .f32) (k0_pay29 (F := Ideal) Q K) (fun a _ => m a)) :
    R2 (φ := .f32) (k0_pay30 (F := Ideal) Q K) (fun a j => wgt q k a j * (2 : ℝ) ^ (-(m a))) :=
  R2.congr (R2.exp2 (R2.subf (pay28_real hQ hK) (R2.spread hm _))) fun a j => pow_score _ _

theorem sum2 (g : Fin 256 → ℝ) : (∑ k : Fin 128, (g ⟨0 + k.val, by omega⟩ + g ⟨128 + k.val, by omega⟩)) = ∑ j, g j := by
  rw [Finset.sum_add_distrib]
  refine Eq.trans ?_ (Fin.sum_univ_add (a := 128) (b := 128) g).symm
  refine congrArg₂ (· + ·) (Finset.sum_congr rfl fun k _ => congrArg g (Fin.ext ?_)) (Finset.sum_congr rfl fun k _ => congrArg g (Fin.ext ?_))
  · show 0 + k.val = k.val; omega
  · rfl

theorem pay31_real (hQ : R2 (φ := .bf16) Q q) (hK : R2 (φ := .bf16) K k) {m : Fin 256 → ℝ}
    (hm : R2 (φ := .f32) (k0_pay29 (F := Ideal) Q K) (fun a _ => m a)) :
    R2 (φ := .f32) (k0_pay31 (F := Ideal) Q K) (fun a _ => (2 : ℝ) ^ (-(m a)) * ∑ j, wgt q k a j) :=
  have h := pay30_real hQ hK hm
  R2.congr (R2.addf (R2.splat zero_splat) (R2.mulf (R2.exp2 (R2.subf hm hm)) (R2.rowSum (R2.addf (h.slice (C := 128) 0 (by norm_num) _) (h.slice (C := 128) 128 (by norm_num) _)) _ _ _ _))) fun a _ => by
    rw [sum2 (fun j => wgt q k a j * (2 : ℝ) ^ (-(m a))), ← Finset.sum_mul, rescale, zero_add]

/-- A context block's means. -/
theorem ctxO_real (hQ : R2 (φ := .bf16) Q q) (hK : R2 (φ := .bf16) K k) (hV : R2 (φ := .bf16) V v) :
    R2 (φ := .bf16) (k0_pay32 (F := Ideal) Q K V) (fun a d => (∑ j, wgt q k a j * v j d) / ∑ j, wgt q k a j) := by
  obtain ⟨m, hm⟩ := pay29_real hQ hK
  have p2 : ∀ x : ℝ, (2 : ℝ) ^ x ≠ 0 := fun x => (Real.rpow_pos_of_pos (by norm_num) x).ne'
  exact R2.congr (R2.truncf (R2.divf (R2.addf (R2.splat zero_splat) (R2.mulf (R2.spread (f := fun a => (2 : ℝ) ^ (m a - m a)) (R2.exp2 (R2.subf hm hm)) _)
      (R2.mm (φ₁ := .bf16) (φ₂ := .bf16) (R2.truncf (pay30_real hQ hK hm) _) hV R2.zero none))) (R2.spread (pay31_real hQ hK hm) _)
      (fun a _ => mul_ne_zero (p2 _) (sum_wgt_pos (by norm_num) q k a).ne')) _) fun a d => by
    rw [zero_add, show (∑ j, wgt q k a j * (2 : ℝ) ^ (-(m a)) * v j d) = (∑ j, wgt q k a j * v j d) * (2 : ℝ) ^ (-(m a)) by
      rw [Finset.sum_mul]; exact Finset.sum_congr rfl fun j _ => mul_right_comm _ _ _, rescale, mul_div_mul_left _ _ (p2 _)]

/-- A context block's logarithms. -/
theorem ctxL_real (hQ : R2 (φ := .bf16) Q q) (hK : R2 (φ := .bf16) K k) (c : Fin 1) (a : Fin 256) (b : Fin 1) :
    (k0_pay3 (F := Ideal) (k0_pay33 Q K) (ix3 c a b) : EReal) = ((Real.log (∑ j, wgt q k a j) * lb : ℝ) : EReal) := by
  obtain ⟨m, hm⟩ := pay29_real hQ hK
  have p2 : ∀ x : ℝ, 0 < (2 : ℝ) ^ x := fun x => Real.rpow_pos_of_pos (by norm_num) x
  have hz := sum_wgt_pos (by norm_num : 0 < 256) q k
  exact R2.lift3 (φ := .f32) (f := fun a => Real.log (∑ j, wgt q k a j) * lb)
    (R2.congr (R2.addf hm (R2.mulf (R2.log (pay31_real hQ hK hm) fun a _ => mul_pos (p2 _) (hz a)) (R2.splat named_log2e))) fun a _ => by
      rw [Real.log_mul (p2 _).ne' (hz a).ne', Real.log_rpow (by norm_num : (0 : ℝ) < 2), add_mul,
        mul_assoc, lb, mul_inv_cancel₀ log_two_ne]; ring) _ c a b

end Ctx

end Cert.KernelIdeal.Own
-- ==== Proof.Value.Blocks.lean ====
/- What the two kernels leave in their blocks, over the extended reals, with one mask for the latent and the context queries. -/
module

public import proofs.«01_k».proof.Proof.Value.Fwd
public import proofs.«01_k».proof.Proof.KernelIdeal.BwdBody

@[expose] public section

set_option maxRecDepth 16384

noncomputable section

namespace Cert.KernelIdeal.Own

open Idealize.ShloMosaic Idealize.ShloMosaic.ValueIdx
open Cert.KernelIdeal.Gen Cert.RealCalc
open scoped BigOperators

variable {lat : Prop} [Decidable lat]
variable {Q : Vec Ideal S256x256 .bf16} {q : Fin 256 → Fin 256 → ℝ}
variable {K : Vec Ideal S8448x256 .bf16} {k : Fin 8448 → Fin 256 → ℝ} {V : Vec Ideal S8448x128 .bf16} {v : Fin 8448 → Fin 128 → ℝ}

/-- The weight of a key row, zero where the query does not see it: latent queries see every row, context queries the last 256. -/
def wgtM (lat : Prop) [Decidable lat] (q : Fin 256 → Fin 256 → ℝ) (k : Fin 8448 → Fin 256 → ℝ) (a : Fin 256) (j : Fin 8448) : ℝ :=
  if lat ∨ 8192 ≤ j.val then wgt q k a j else 0

/-- The sum of a query's weights. -/
def zM (lat : Prop) [Decidable lat] (q : Fin 256 → Fin 256 → ℝ) (k : Fin 8448 → Fin 256 → ℝ) (a : Fin 256) : ℝ := ∑ j, wgtM lat q k a j

theorem wgtM_lat (h : lat) (a : Fin 256) (j : Fin 8448) : wgtM lat q k a j = wgt q k a j := if_pos (Or.inl h)
theorem wgtM_last (a : Fin 256) (j : Fin 8448) (h : 8192 ≤ j.val) : wgtM lat q k a j = wgt q k a j := if_pos (Or.inr h)
theorem wgtM_out (h : ¬ lat) (a : Fin 256) (j : Fin 8448) (hj : j.val < 8192) : wgtM lat q k a j = 0 := if_neg (by rintro (h' | h'); exacts [h h', by omega])

theorem zM_pos (a : Fin 256) : 0 < zM lat q k a := by
  refine Finset.sum_pos' (fun j _ => ?_) ⟨⟨8192, by norm_num⟩, Finset.mem_univ _, ?_⟩
  · unfold wgtM; split
    · exact (wgt_pos _ _ _ _).le
    · exact le_rfl
  · rw [wgtM_last _ _ (le_refl 8192)]; exact wgt_pos _ _ _ _

theorem win_q (hQ : R2 (φ := .bf16) Q q) (h : ∀ a, (![0, 0] : Fin 2 → ℕ) a + S256x256.size a ≤ S256x256.size a) :
    R2 (A := 256) (B := 256) (φ := .bf16) (VecWindow.window Q ![0, 0] S256x256.size h) q :=
  R2.congr (R2.window (φ := .bf16) hQ 0 0 256 256 (by norm_num) (by norm_num) h) fun a b => by
    congr 1 <;> exact Fin.ext (Nat.zero_add _)

theorem win_rows {n m C : ℕ} {X : FVec Ideal ⟨2, ![n, C]⟩ .bf16} {x : Fin n → Fin C → ℝ} (hX : R2 X x) (o : ℕ) (ho : o + m ≤ n)
    (h : ∀ a, (![o, 0] : Fin 2 → ℕ) a + (⟨2, ![m, C]⟩ : Shape).size a ≤ (⟨2, ![n, C]⟩ : Shape).size a) :
    R2 (A := m) (B := C) (φ := .bf16) (VecWindow.window X ![o, 0] (⟨2, ![m, C]⟩ : Shape).size h)
      (fun a b => x ⟨o + a.val, by have := a.isLt; omega⟩ b) :=
  R2.congr (R2.window (φ := .bf16) hX o 0 m C ho (by omega) h) fun a b => congrArg _ (Fin.ext (Nat.zero_add _))

/-- The attention's output block: means weighted by the masked weights. -/
theorem fwdO_real (hQ : R2 (φ := .bf16) Q q) (hK : R2 (φ := .bf16) K k) (hV : R2 (φ := .bf16) V v) :
    R2 (φ := .bf16) (fwdO (F := Ideal) lat Q K V) (fun a d => (∑ j, wgtM lat q k a j * v j d) / zM lat q k a) := by
  unfold fwdO
  split
  · rename_i h
    refine R2.congr (latO_real (win_q hQ _) (win_rows (m := 2816) hK 0 (by norm_num) _) (win_rows (m := 2816) hK 2816 (by norm_num) _) (win_rows (m := 2816) hK 5632 (by norm_num) _)
      (win_rows (m := 2816) hV 0 (by norm_num) _) (win_rows (m := 2816) hV 2816 (by norm_num) _) (win_rows (m := 2816) hV 5632 (by norm_num) _)) fun a d => ?_
    simp only [zM, wgtM_lat h]
    rw [sum_thirds, sum_thirds fun j => wgt q k a j]
    rfl
  · rename_i h
    refine R2.congr (ctxO_real (win_q hQ _) (win_rows (m := 256) hK 8192 (by norm_num) _) (win_rows (m := 256) hV 8192 (by norm_num) _)) fun a d => ?_
    unfold zM
    rw [sum_last _ fun j hj => by rw [wgtM_out h a j hj, zero_mul], sum_last _ fun j hj => wgtM_out h a j hj]
    congr 1
    · exact Finset.sum_congr rfl fun j _ => congrArg (· * _) (wgtM_last _ _ (Nat.le_add_right _ _)).symm
    · exact Finset.sum_congr rfl fun j _ => (wgtM_last _ _ (Nat.le_add_right _ _)).symm

/-- The block of logarithms of the weights' sums. -/
theorem fwdL_real (hQ : R2 (φ := .bf16) Q q) (hK : R2 (φ := .bf16) K k) (c : Fin 1) (a : Fin 256) (b : Fin 1) :
    (fwdL (F := Ideal) lat Q K (ix3 c a b) : EReal) = ((Real.log (zM lat q k a) * lb : ℝ) : EReal) := by
  unfold fwdL
  split
  · rename_i h
    refine (latL_real (win_q hQ _) (win_rows (m := 2816) hK 0 (by norm_num) _) (win_rows (m := 2816) hK 2816 (by norm_num) _) (win_rows (m := 2816) hK 5632 (by norm_num) _)
      c a b).trans ?_
    simp only [zM, wgtM_lat h]
    rw [sum_thirds fun j => wgt q k a j]
    rfl
  · rename_i h
    refine (ctxL_real (win_q hQ _) (win_rows (m := 256) hK 8192 (by norm_num) _) c a b).trans ?_
    unfold zM
    rw [sum_last _ fun j hj => wgtM_out h a j hj]
    congr 3
    exact Finset.sum_congr rfl fun j _ => (wgtM_last _ _ (Nat.le_add_right _ _)).symm

/-! ## The backward kernel -/

/-- The gradient of a score, from the query `q`, the keys, the values, the sum of weights `z`, the output's gradient `g` and `δ`. -/
def dS {n : ℕ} (q : Fin 256 → Fin 256 → ℝ) (k : Fin n → Fin 256 → ℝ) (v : Fin n → Fin 128 → ℝ) (g : Fin 256 → Fin 128 → ℝ) (z δ : Fin 256 → ℝ)
    (a : Fin 256) (j : Fin n) : ℝ := wgt q k a j / z a * (∑ d, g a d * v j d - δ a) * sc

/-- The same, zero where the query does not see the key. -/
def dSM (lat : Prop) [Decidable lat] (q : Fin 256 → Fin 256 → ℝ) (k : Fin 8448 → Fin 256 → ℝ) (v : Fin 8448 → Fin 128 → ℝ) (g : Fin 256 → Fin 128 → ℝ)
    (z δ : Fin 256 → ℝ) (a : Fin 256) (j : Fin 8448) : ℝ := wgtM lat q k a j / z a * (∑ d, g a d * v j d - δ a) * sc

theorem dSM_lat {g : Fin 256 → Fin 128 → ℝ} {z δ : Fin 256 → ℝ} (h : lat) (a : Fin 256) (j : Fin 8448) : dSM lat q k v g z δ a j = dS q k v g z δ a j := by
  unfold dSM dS; rw [wgtM_lat h]
theorem dSM_last {g : Fin 256 → Fin 128 → ℝ} {z δ : Fin 256 → ℝ} (a : Fin 256) (j : Fin 8448) (h : 8192 ≤ j.val) : dSM lat q k v g z δ a j = dS q k v g z δ a j := by
  unfold dSM dS; rw [wgtM_last a j h]
theorem dSM_out {g : Fin 256 → Fin 128 → ℝ} {z δ : Fin 256 → ℝ} (h : ¬ lat) (a : Fin 256) (j : Fin 8448) (hj : j.val < 8192) : dSM lat q k v g z δ a j = 0 := by
  unfold dSM; rw [wgtM_out h a j hj, zero_div, zero_mul, zero_mul]

variable {G O : Vec Ideal S256x128 .bf16} {g o : Fin 256 → Fin 128 → ℝ} {L : Vec Ideal S1x256x1 .f32} {z : Fin 256 → ℝ}

/-- A weight over its row's sum. -/
theorem pow_prob (s : ℝ) {x : ℝ} (hx : 0 < x) : (2 : ℝ) ^ (s * (sc * lb) - Real.log x * lb) = Real.exp (s * sc) / x := by
  rw [pow_score, two_rpow, div_eq_mul_inv]
  congr 1
  rw [neg_mul, mul_assoc, lb, inv_mul_cancel₀ log_two_ne, mul_one, Real.exp_neg, Real.exp_log hx]

theorem delta_real (hG : R2 (φ := .bf16) G g) (hO : R2 (φ := .bf16) O o) :
    R2 (φ := .f32) (k1_pay3 (F := Ideal) G O) (fun a _ => ∑ d, g a d * o a d) :=
  R2.rowSum (R2.mulf (R2.extf hG _) (R2.extf (R2.castSelf (φ := .bf16) hO _) _)) _ _ _ _

section Half

variable {Kh : Vec Ideal S4224x256 .bf16} {kh : Fin 4224 → Fin 256 → ℝ} {Vh : Vec Ideal S4224x128 .bf16} {vh : Fin 4224 → Fin 128 → ℝ}
variable {D : FVec Ideal S256x1 .f32} {δ : Fin 256 → ℝ}

theorem pay9b_real (hQ : R2 (φ := .bf16) Q q) (hK : R2 (φ := .bf16) Kh kh) (hL : ∀ a, (L (ix3 0 a 0) : EReal) = ((Real.log (z a) * lb : ℝ) : EReal))
    (hz : ∀ a, 0 < z a) : R2 (φ := .f32) (k1_pay9 (F := Ideal) Q Kh L) (fun a j => wgt q kh a j / z a) :=
  R2.congr (R2.exp2 (R2.subf (R2.mulf (R2.mmT (φ₁ := .bf16) (φ₂ := .bf16) hQ hK R2.zero none) (R2.splat named_scale_log2e))
    (R2.spread (f := fun a => Real.log (z a) * lb) (R2.drop3 (φ := .f32) hL _) _))) fun a j => pow_prob _ (hz a)

theorem pay10b_real (hQ : R2 (φ := .bf16) Q q) (hK : R2 (φ := .bf16) Kh kh) (hL : ∀ a, (L (ix3 0 a 0) : EReal) = ((Real.log (z a) * lb : ℝ) : EReal))
    (hz : ∀ a, 0 < z a) (hG : R2 (φ := .bf16) G g) (hV : R2 (φ := .bf16) Vh vh) (hD : R2 (φ := .f32) D (fun a _ => δ a)) :
    R2 (φ := .bf16) (k1_pay10 (F := Ideal) Q G D Kh L Vh) (dS q kh vh g z δ) :=
  R2.truncf (φ := .f32) (R2.mulf (R2.mulf (pay9b_real hQ hK hL hz) (R2.subf (R2.mmT (φ₁ := .bf16) (φ₂ := .bf16) hG hV R2.zero none) (R2.spread (f := δ) hD _)))
    (R2.splat named_scale)) _

theorem pay11b_real (hQ : R2 (φ := .bf16) Q q) (hK : R2 (φ := .bf16) Kh kh) (hL : ∀ a, (L (ix3 0 a 0) : EReal) = ((Real.log (z a) * lb : ℝ) : EReal))
    (hz : ∀ a, 0 < z a) (hG : R2 (φ := .bf16) G g) (hV : R2 (φ := .bf16) Vh vh) (hD : R2 (φ := .f32) D (fun a _ => δ a)) :
    R2 (φ := .f32) (k1_pay11 (F := Ideal) Q G D Kh L Vh) (fun a d => 0 + ∑ j, dS q kh vh g z δ a j * kh j d) :=
  R2.addf (R2.splat zero_splat) (R2.mm (φ₁ := .bf16) (φ₂ := .bf16) (pay10b_real hQ hK hL hz hG hV hD) hK R2.zero none)

theorem pay12b_real (hQ : R2 (φ := .bf16) Q q) (hK : R2 (φ := .bf16) Kh kh) (hL : ∀ a, (L (ix3 0 a 0) : EReal) = ((Real.log (z a) * lb : ℝ) : EReal))
    (hz : ∀ a, 0 < z a) (hG : R2 (φ := .bf16) G g) (hV : R2 (φ := .bf16) Vh vh) (hD : R2 (φ := .f32) D (fun a _ => δ a))
    {W : Vec Ideal S256x4224 .f32} {w : Fin 256 → Fin 4224 → ℝ} (hW : R2 (φ := .f32) W w) :
    R2 (φ := .f32) (k1_pay12 (F := Ideal) Q G D Kh L Vh W) (fun d j => w d j + ∑ r, q r d * dS q kh vh g z δ r j) :=
  R2.addf (R2.castSelf (φ := .f32) hW _) (R2.mmC (φ₁ := .bf16) (φ₂ := .bf16) hQ (pay10b_real hQ hK hL hz hG hV hD) R2.zero none)

theorem pay13b_real (hQ : R2 (φ := .bf16) Q q) (hK : R2 (φ := .bf16) Kh kh) (hL : ∀ a, (L (ix3 0 a 0) : EReal) = ((Real.log (z a) * lb : ℝ) : EReal))
    (hz : ∀ a, 0 < z a) (hG : R2 (φ := .bf16) G g)
    {W : Vec Ideal S128x4224 .f32} {w : Fin 128 → Fin 4224 → ℝ} (hW : R2 (φ := .f32) W w) :
    R2 (φ := .f32) (k1_pay13 (F := Ideal) Q G Kh L W) (fun d j => w d j + ∑ r, g r d * (wgt q kh r j / z r)) :=
  R2.addf (R2.castSelf (φ := .f32) hW _) (R2.mmC (φ₁ := .bf16) (φ₂ := .bf16) hG (R2.truncf (pay9b_real hQ hK hL hz) _) R2.zero none)

end Half

section CtxB

variable {Kc : Vec Ideal S256x256 .bf16} {kc : Fin 256 → Fin 256 → ℝ} {Vc : Vec Ideal S256x128 .bf16} {vc : Fin 256 → Fin 128 → ℝ}
variable {D : FVec Ideal S256x1 .f32} {δ : Fin 256 → ℝ}

theorem pay14b_real (hQ : R2 (φ := .bf16) Q q) (hK : R2 (φ := .bf16) Kc kc) (hL : ∀ a, (L (ix3 0 a 0) : EReal) = ((Real.log (z a) * lb : ℝ) : EReal))
    (hz : ∀ a, 0 < z a) : R2 (φ := .f32) (k1_pay14 (F := Ideal) Q Kc L) (fun a j => wgt q kc a j / z a) :=
  R2.congr (R2.exp2 (R2.subf (R2.mulf (R2.mmT (φ₁ := .bf16) (φ₂ := .bf16) hQ hK R2.zero none) (R2.splat named_scale_log2e))
    (R2.spread (f := fun a => Real.log (z a) * lb) (R2.drop3 (φ := .f32) hL _) _))) fun a j => pow_prob _ (hz a)

theorem pay15b_real (hQ : R2 (φ := .bf16) Q q) (hK : R2 (φ := .bf16) Kc kc) (hL : ∀ a, (L (ix3 0 a 0) : EReal) = ((Real.log (z a) * lb : ℝ) : EReal))
    (hz : ∀ a, 0 < z a) (hG : R2 (φ := .bf16) G g) (hV : R2 (φ := .bf16) Vc vc) (hD : R2 (φ := .f32) D (fun a _ => δ a)) :
    R2 (φ := .bf16) (k1_pay15 (F := Ideal) Q G D Kc L Vc) (dS q kc vc g z δ) :=
  R2.truncf (φ := .f32) (R2.mulf (R2.mulf (pay14b_real hQ hK hL hz) (R2.subf (R2.mmT (φ₁ := .bf16) (φ₂ := .bf16) hG hV R2.zero none) (R2.spread (f := δ) hD _)))
    (R2.splat named_scale)) _

theorem pay16b_real (hQ : R2 (φ := .bf16) Q q) (hK : R2 (φ := .bf16) Kc kc) (hL : ∀ a, (L (ix3 0 a 0) : EReal) = ((Real.log (z a) * lb : ℝ) : EReal))
    (hz : ∀ a, 0 < z a) (hG : R2 (φ := .bf16) G g) (hV : R2 (φ := .bf16) Vc vc) (hD : R2 (φ := .f32) D (fun a _ => δ a)) :
    R2 (φ := .f32) (k1_pay16 (F := Ideal) Q G D Kc L Vc) (fun a d => 0 + ∑ j, dS q kc vc g z δ a j * kc j d) :=
  R2.addf (R2.splat zero_splat) (R2.mm (φ₁ := .bf16) (φ₂ := .bf16) (pay15b_real hQ hK hL hz hG hV hD) hK R2.zero none)

theorem pay17b_real (hQ : R2 (φ := .bf16) Q q) (hK : R2 (φ := .bf16) Kc kc) (hL : ∀ a, (L (ix3 0 a 0) : EReal) = ((Real.log (z a) * lb : ℝ) : EReal))
    (hz : ∀ a, 0 < z a) (hG : R2 (φ := .bf16) G g) (hV : R2 (φ := .bf16) Vc vc) (hD : R2 (φ := .f32) D (fun a _ => δ a))
    {W : Vec Ideal S256x256 .f32} {w : Fin 256 → Fin 256 → ℝ} (hW : R2 (φ := .f32) W w) :
    R2 (φ := .f32) (k1_pay17 (F := Ideal) Q G D Kc L Vc W) (fun d j => w d j + ∑ r, q r d * dS q kc vc g z δ r j) :=
  R2.addf (R2.castSelf (φ := .f32) hW _) (R2.mmC (φ₁ := .bf16) (φ₂ := .bf16) hQ (pay15b_real hQ hK hL hz hG hV hD) R2.zero none)

theorem pay18b_real (hQ : R2 (φ := .bf16) Q q) (hK : R2 (φ := .bf16) Kc kc) (hL : ∀ a, (L (ix3 0 a 0) : EReal) = ((Real.log (z a) * lb : ℝ) : EReal))
    (hz : ∀ a, 0 < z a) (hG : R2 (φ := .bf16) G g)
    {W : Vec Ideal S128x256 .f32} {w : Fin 128 → Fin 256 → ℝ} (hW : R2 (φ := .f32) W w) :
    R2 (φ := .f32) (k1_pay18 (F := Ideal) Q G Kc L W) (fun d j => w d j + ∑ r, g r d * (wgt q kc r j / z r)) :=
  R2.addf (R2.castSelf (φ := .f32) hW _) (R2.mmC (φ₁ := .bf16) (φ₂ := .bf16) hG (R2.truncf (pay14b_real hQ hK hL hz) _) R2.zero none)

end CtxB

theorem win_l (hL : ∀ a : Fin 256, (L (ix3 0 a 0) : EReal) = ((Real.log (z a) * lb : ℝ) : EReal)) (a : Fin 256) :
    (wl (F := Ideal) L (ix3 0 a 0) : EReal) = ((Real.log (z a) * lb : ℝ) : EReal) := by
  refine Eq.trans (congrArg L (funext fun c => Fin.ext ?_)) (hL a)
  match c with
  | ⟨0, _⟩ => rfl
  | ⟨1, _⟩ => show 0 + 1 * a.val = a.val; omega
  | ⟨2, _⟩ => rfl

theorem win_o (hG : R2 (φ := .bf16) G g) : R2 (φ := .bf16) (wo (F := Ideal) G) g :=
  R2.congr (R2.window (φ := .bf16) hG 0 0 256 128 (by norm_num) (by norm_num) inb_S256x128_S256x128_0_0) fun a b => by
    congr 1 <;> exact Fin.ext (Nat.zero_add _)

variable (hQ : R2 (φ := .bf16) Q q) (hK : R2 (φ := .bf16) K k) (hV : R2 (φ := .bf16) V v)
  (hL : ∀ a : Fin 256, (L (ix3 0 a 0) : EReal) = ((Real.log (z a) * lb : ℝ) : EReal)) (hz : ∀ a, 0 < z a) (hG : R2 (φ := .bf16) G g)

include hQ hK hV hL hz hG

/-- The gradient of a block of queries. -/
theorem bwdQ_real (hO : R2 (φ := .bf16) O o) :
    R2 (φ := .f32) (bwdQ (F := Ideal) lat Q K V O G L) (fun a d => ∑ j, dSM lat q k v g z (fun a => ∑ d, g a d * o a d) a j * k j d) := by
  have hD := delta_real (win_o hG) (win_o hO)
  have hq : R2 (φ := .bf16) (wq (F := Ideal) Q) q := win_q hQ _
  unfold bwdQ
  split
  · rename_i h
    have h1 := pay11b_real hq (win_rows (m := 4224) hK 0 (by norm_num) inb_S8448x256_S4224x256_0_0) (win_l hL) hz (win_o hG)
      (win_rows (m := 4224) hV 0 (by norm_num) inb_S8448x128_S4224x128_0_0) hD
    have h2 := pay10b_real hq (win_rows (m := 4224) hK 4224 (by norm_num) inb_S8448x256_S4224x256_4224_0) (win_l hL) hz (win_o hG)
      (win_rows (m := 4224) hV 4224 (by norm_num) inb_S8448x128_S4224x128_4224_0) hD
    refine R2.congr (R2.addf h1 (R2.mm (φ₁ := .bf16) (φ₂ := .bf16) h2 (win_rows (m := 4224) hK 4224 (by norm_num) inb_S8448x256_S4224x256_4224_0) R2.zero none)) fun a d => ?_
    simp only [dSM_lat h]
    rw [sum_halves, zero_add]
    rfl
  · rename_i h
    refine R2.congr (pay16b_real hq (win_rows (m := 256) hK 8192 (by norm_num) inb_S8448x256_S256x256_8192_0) (win_l hL) hz (win_o hG)
      (win_rows (m := 256) hV 8192 (by norm_num) inb_S8448x128_S256x128_8192_0) hD) fun a d => ?_
    rw [zero_add, sum_last _ fun j hj => by rw [dSM_out h a j hj, zero_mul]]
    exact Finset.sum_congr rfl fun j _ => by rw [dSM_last _ _ (Nat.le_add_right _ _)]; rfl

/-- The transposed gradient of the keys after a block of queries. -/
theorem bwdK_real (hO : R2 (φ := .bf16) O o) {X : Vec Ideal S256x8448 .f32} {x : Fin 256 → Fin 8448 → ℝ} (hX : R2 (φ := .f32) X x) :
    R2 (φ := .f32) (bwdK (F := Ideal) lat Q K V O G L X)
      (fun d j => x d j + ∑ r, q r d * dSM lat q k v g z (fun a => ∑ d, g a d * o a d) r j) := by
  have hD := delta_real (win_o hG) (win_o hO)
  have hq : R2 (φ := .bf16) (wq (F := Ideal) Q) q := win_q hQ _
  unfold bwdK
  split
  · rename_i h
    have h1 := pay12b_real hq (win_rows (m := 4224) hK 0 (by norm_num) inb_S8448x256_S4224x256_0_0) (win_l hL) hz (win_o hG)
      (win_rows (m := 4224) hV 0 (by norm_num) inb_S8448x128_S4224x128_0_0) hD
      (R2.window (φ := .f32) hX 0 0 256 4224 (by norm_num) (by norm_num) inb_S256x8448_S256x4224_0_0)
    have h2 := pay12b_real hq (win_rows (m := 4224) hK 4224 (by norm_num) inb_S8448x256_S4224x256_4224_0) (win_l hL) hz (win_o hG)
      (win_rows (m := 4224) hV 4224 (by norm_num) inb_S8448x128_S4224x128_4224_0) hD
      (R2.window (φ := .f32) hX 0 4224 256 4224 (by norm_num) (by norm_num) inb_S256x8448_S256x4224_0_4224)
    refine R2.put (φ := .f32) (R2.put (φ := .f32) (g := fun d j => if j.val < 4224 then x d j + ∑ r, q r d * dSM lat q k v g z (fun a => ∑ d, g a d * o a d) r j else x d j)
      hX h1 0 ?_ ?_) h2 4224 ?_ ?_
    · intro a j hj
      rw [if_pos (by show 0 + j.val < 4224; have := j.isLt; omega)]
      simp only [dSM_lat h]
      exact congrArg₂ (· + ·) (congrArg₂ x (Fin.ext (Nat.zero_add _).symm) rfl) rfl
    · intro a b hb; exact if_neg (by omega)
    · intro a j hj
      simp only [dSM_lat h]
      exact congrArg₂ (· + ·) (congrArg₂ x (Fin.ext (Nat.zero_add _).symm) rfl) rfl
    · intro a b hb; exact (if_pos (by have := b.isLt; omega)).symm
  · rename_i h
    have h1 := pay17b_real hq (win_rows (m := 256) hK 8192 (by norm_num) inb_S8448x256_S256x256_8192_0) (win_l hL) hz (win_o hG)
      (win_rows (m := 256) hV 8192 (by norm_num) inb_S8448x128_S256x128_8192_0) hD
      (R2.window (φ := .f32) hX 0 8192 256 256 (by norm_num) (by norm_num) inb_S256x8448_S256x256_0_8192)
    refine R2.put (φ := .f32) hX h1 8192 ?_ ?_
    · intro a j hj
      simp only [dSM_last _ (⟨8192 + j.val, hj⟩ : Fin 8448) (Nat.le_add_right _ _)]
      exact congrArg₂ (· + ·) (congrArg₂ x (Fin.ext (Nat.zero_add _).symm) rfl) rfl
    · intro a b hb
      show x a b + _ = x a b
      rw [Finset.sum_eq_zero fun r _ => by rw [dSM_out h r b (by have := b.isLt; omega), mul_zero], add_zero]

omit hV in
/-- The transposed gradient of the values after a block of queries. -/
theorem bwdV_real {X : Vec Ideal S128x8448 .f32} {x : Fin 128 → Fin 8448 → ℝ} (hX : R2 (φ := .f32) X x) :
    R2 (φ := .f32) (bwdV (F := Ideal) lat Q K V G L X) (fun d j => x d j + ∑ r, g r d * (wgtM lat q k r j / z r)) := by
  have hq : R2 (φ := .bf16) (wq (F := Ideal) Q) q := win_q hQ _
  unfold bwdV
  split
  · rename_i h
    have h1 := pay13b_real hq (win_rows (m := 4224) hK 0 (by norm_num) inb_S8448x256_S4224x256_0_0) (win_l hL) hz (win_o hG)
      (R2.window (φ := .f32) hX 0 0 128 4224 (by norm_num) (by norm_num) inb_S128x8448_S128x4224_0_0)
    have h2 := pay13b_real hq (win_rows (m := 4224) hK 4224 (by norm_num) inb_S8448x256_S4224x256_4224_0) (win_l hL) hz (win_o hG)
      (R2.window (φ := .f32) hX 0 4224 128 4224 (by norm_num) (by norm_num) inb_S128x8448_S128x4224_0_4224)
    refine R2.put (φ := .f32) (R2.put (φ := .f32) (g := fun d j => if j.val < 4224 then x d j + ∑ r, g r d * (wgtM lat q k r j / z r) else x d j)
      hX h1 0 ?_ ?_) h2 4224 ?_ ?_
    · intro a j hj
      rw [if_pos (by show 0 + j.val < 4224; have := j.isLt; omega)]
      simp only [wgtM_lat h]
      exact congrArg₂ (· + ·) (congrArg₂ x (Fin.ext (Nat.zero_add _).symm) rfl) rfl
    · intro a b hb; exact if_neg (by omega)
    · intro a j hj
      simp only [wgtM_lat h]
      exact congrArg₂ (· + ·) (congrArg₂ x (Fin.ext (Nat.zero_add _).symm) rfl) rfl
    · intro a b hb; exact (if_pos (by have := b.isLt; omega)).symm
  · rename_i h
    have h1 := pay18b_real hq (win_rows (m := 256) hK 8192 (by norm_num) inb_S8448x256_S256x256_8192_0) (win_l hL) hz (win_o hG)
      (R2.window (φ := .f32) hX 0 8192 128 256 (by norm_num) (by norm_num) inb_S128x8448_S128x256_0_8192)
    refine R2.put (φ := .f32) hX h1 8192 ?_ ?_
    · intro a j hj
      simp only [wgtM_last _ (⟨8192 + j.val, hj⟩ : Fin 8448) (Nat.le_add_right _ _)]
      exact congrArg₂ (· + ·) (congrArg₂ x (Fin.ext (Nat.zero_add _).symm) rfl) rfl
    · intro a b hb
      show x a b + _ = x a b
      rw [Finset.sum_eq_zero fun r _ => by rw [wgtM_out h r b (by have := b.isLt; omega), zero_div, mul_zero], add_zero]

end Cert.KernelIdeal.Own
-- ==== Proof.Value.Arrays.lean ====
/- What the two calls leave in whole arrays, over the extended reals. -/
module

public import proofs.«01_k».proof.Proof.Value.Target
public import proofs.«01_k».proof.Proof.Value.Blocks
public import proofs.«01_k».proof.Proof.KernelIdeal.Run
public import Idealize.ShloMosaic.Lib.Pipeline.ValueKit.Geometry

@[expose] public section

set_option maxRecDepth 16384

noncomputable section

namespace Cert.KernelIdeal.Own

open Idealize.ShloMosaic
open Idealize.ShloMosaic.TcCoe Idealize.ShloMosaic.ValueIdx
open Cert.KernelIdeal.Gen Cert.RealCalc
open scoped BigOperators

/-! ## Where a block lies in its array -/

theorem at_qrow0 : ∀ t : Fin grid0.N, cc0_transform_0 (grid0.coords t) = ![t.val % 33, t.val / 33 % 8] := by decide +kernel
theorem at_key0 : ∀ t : Fin grid0.N, cc0_transform_1 (grid0.coords t) = ![0, t.val / 33 % 8] := by decide +kernel
theorem at_val0 : ∀ t : Fin grid0.N, cc0_transform_2 (grid0.coords t) = ![0, t.val / 33 % 8] := by decide +kernel
theorem at_out0 : ∀ t : Fin grid0.N, cc0_transform_3 (grid0.coords t) = ![t.val % 33, t.val / 33 % 8] := by decide +kernel
theorem at_log0 : ∀ t : Fin grid0.N, cc0_transform_4 (grid0.coords t) = ![t.val / 33 % 8, t.val % 33, 0] := by decide +kernel
theorem at_qrow1 : ∀ t : Fin grid1.N, cc1_transform_0 (grid1.coords t) = ![t.val % 33, t.val / 33 % 8] := by decide +kernel
theorem at_key1 : ∀ t : Fin grid1.N, cc1_transform_1 (grid1.coords t) = ![0, t.val / 33 % 8] := by decide +kernel
theorem at_val1 : ∀ t : Fin grid1.N, cc1_transform_2 (grid1.coords t) = ![0, t.val / 33 % 8] := by decide +kernel
theorem at_out1 : ∀ t : Fin grid1.N, cc1_transform_3 (grid1.coords t) = ![t.val % 33, t.val / 33 % 8] := by decide +kernel
theorem at_dout1 : ∀ t : Fin grid1.N, cc1_transform_4 (grid1.coords t) = ![t.val % 33, t.val / 33 % 8] := by decide +kernel
theorem at_log1 : ∀ t : Fin grid1.N, cc1_transform_5 (grid1.coords t) = ![t.val / 33 % 8, t.val % 33, 0] := by decide +kernel
theorem at_dq1 : ∀ t : Fin grid1.N, cc1_transform_6 (grid1.coords t) = ![t.val % 33, t.val / 33 % 8] := by decide +kernel
theorem at_dk1 : ∀ t : Fin grid1.N, cc1_transform_7 (grid1.coords t) = ![t.val / 33 % 8, 0] := by decide +kernel
theorem at_dv1 : ∀ t : Fin grid1.N, cc1_transform_8 (grid1.coords t) = ![t.val / 33 % 8, 0] := by decide +kernel

variable (V : (c : Dev nD) → (b : Ref sig .tc) → Buf (Elt Ideal) ((c : Thread nD τ).loc b))

/-- The query rows of a point. -/
theorem blk0_0 (c : Dev nD) (t : Fin cfg0.N) {f : Heads 256} (h : HC (φ := .bf16) e256 (V c main_arg0) f) :
    R2 (A := 256) (B := 256) (φ := .bf16) (iblk0 (F := Ideal) V c 0 t) (fun a d => f (hd t) (row t a) d) := by
  intro a d
  refine Eq.trans (congrArg (V c main_arg0) (?_ : ((cfg0.win 0).blk t).view.emb (ix2 a d) = ix2 (row t a) (col e256 (hd t) d))) (h _ _ _)
  refine (eq_ix2 _).trans (congrArg₂ ix2 ?_ ?_) <;> refine Fin.ext ((win0_0.rect_emb_val t (ix2 a d) _).trans ?_)
  · rw [show win0_0.index t = _ from at_qrow0 t]; rfl
  · rw [show win0_0.index t = _ from at_qrow0 t]; rfl

/-- The keys of a point's head. -/
theorem blk0_1 (c : Dev nD) (t : Fin cfg0.N) {f : Heads 256} (h : HC (φ := .bf16) e256 (V c main_arg1) f) :
    R2 (A := 8448) (B := 256) (φ := .bf16) (iblk0 (F := Ideal) V c 1 t) (f (hd t)) := by
  intro a d
  refine Eq.trans (congrArg (V c main_arg1) (?_ : ((cfg0.win 1).blk t).view.emb (ix2 a d) = ix2 a (col e256 (hd t) d))) (h _ _ _)
  refine (eq_ix2 _).trans (congrArg₂ ix2 ?_ ?_) <;> refine Fin.ext ((win0_1.rect_emb_val t (ix2 a d) _).trans ?_)
  · rw [show win0_1.index t = _ from at_key0 t]; exact (congrArg (· + a.val) (Nat.zero_mul _)).trans (Nat.zero_add _)
  · rw [show win0_1.index t = _ from at_key0 t]; rfl

/-- The values of a point's head. -/
theorem blk0_2 (c : Dev nD) (t : Fin cfg0.N) {f : Heads 128} (h : HC (φ := .bf16) e128 (V c main_arg2) f) :
    R2 (A := 8448) (B := 128) (φ := .bf16) (iblk0 (F := Ideal) V c 2 t) (f (hd t)) := by
  intro a d
  refine Eq.trans (congrArg (V c main_arg2) (?_ : ((cfg0.win 2).blk t).view.emb (ix2 a d) = ix2 a (col e128 (hd t) d))) (h _ _ _)
  refine (eq_ix2 _).trans (congrArg₂ ix2 ?_ ?_) <;> refine Fin.ext ((win0_2.rect_emb_val t (ix2 a d) _).trans ?_)
  · rw [show win0_2.index t = _ from at_val0 t]; exact (congrArg (· + a.val) (Nat.zero_mul _)).trans (Nat.zero_add _)
  · rw [show win0_2.index t = _ from at_val0 t]; rfl

/-- The query rows of a point of the backward call. -/
theorem blk1_0 (c : Dev nD) (t : Fin cfg1.N) {f : Heads 256} (h : HC (φ := .bf16) e256 (V c main_arg0) f) :
    R2 (A := 256) (B := 256) (φ := .bf16) (iblk1 (F := Ideal) V c 0 t) (fun a d => f (hd t) (row t a) d) := by
  intro a d
  refine Eq.trans (congrArg (V c main_arg0) (?_ : ((cfg1.win 0).blk t).view.emb (ix2 a d) = ix2 (row t a) (col e256 (hd t) d))) (h _ _ _)
  refine (eq_ix2 _).trans (congrArg₂ ix2 ?_ ?_) <;> refine Fin.ext ((win1_0.rect_emb_val t (ix2 a d) _).trans ?_)
  · rw [show win1_0.index t = _ from at_qrow1 t]; rfl
  · rw [show win1_0.index t = _ from at_qrow1 t]; rfl

/-- The keys of its head. -/
theorem blk1_1 (c : Dev nD) (t : Fin cfg1.N) {f : Heads 256} (h : HC (φ := .bf16) e256 (V c main_arg1) f) :
    R2 (A := 8448) (B := 256) (φ := .bf16) (iblk1 (F := Ideal) V c 1 t) (f (hd t)) := by
  intro a d
  refine Eq.trans (congrArg (V c main_arg1) (?_ : ((cfg1.win 1).blk t).view.emb (ix2 a d) = ix2 a (col e256 (hd t) d))) (h _ _ _)
  refine (eq_ix2 _).trans (congrArg₂ ix2 ?_ ?_) <;> refine Fin.ext ((win1_1.rect_emb_val t (ix2 a d) _).trans ?_)
  · rw [show win1_1.index t = _ from at_key1 t]; exact (congrArg (· + a.val) (Nat.zero_mul _)).trans (Nat.zero_add _)
  · rw [show win1_1.index t = _ from at_key1 t]; rfl

/-- The values of its head. -/
theorem blk1_2 (c : Dev nD) (t : Fin cfg1.N) {f : Heads 128} (h : HC (φ := .bf16) e128 (V c main_arg2) f) :
    R2 (A := 8448) (B := 128) (φ := .bf16) (iblk1 (F := Ideal) V c 2 t) (f (hd t)) := by
  intro a d
  refine Eq.trans (congrArg (V c main_arg2) (?_ : ((cfg1.win 2).blk t).view.emb (ix2 a d) = ix2 a (col e128 (hd t) d))) (h _ _ _)
  refine (eq_ix2 _).trans (congrArg₂ ix2 ?_ ?_) <;> refine Fin.ext ((win1_2.rect_emb_val t (ix2 a d) _).trans ?_)
  · rw [show win1_2.index t = _ from at_val1 t]; exact (congrArg (· + a.val) (Nat.zero_mul _)).trans (Nat.zero_add _)
  · rw [show win1_2.index t = _ from at_val1 t]; rfl

/-- Its rows of the attention output. -/
theorem blk1_3 (c : Dev nD) (t : Fin cfg1.N) {f : Heads 128} (h : HC (φ := .bf16) e128 (V c main_v0_0) f) :
    R2 (A := 256) (B := 128) (φ := .bf16) (iblk1 (F := Ideal) V c 3 t) (fun a d => f (hd t) (row t a) d) := by
  intro a d
  refine Eq.trans (congrArg (V c main_v0_0) (?_ : ((cfg1.win 3).blk t).view.emb (ix2 a d) = ix2 (row t a) (col e128 (hd t) d))) (h _ _ _)
  refine (eq_ix2 _).trans (congrArg₂ ix2 ?_ ?_) <;> refine Fin.ext ((win1_3.rect_emb_val t (ix2 a d) _).trans ?_)
  · rw [show win1_3.index t = _ from at_out1 t]; rfl
  · rw [show win1_3.index t = _ from at_out1 t]; rfl

/-- Its rows of the output's gradient. -/
theorem blk1_4 (c : Dev nD) (t : Fin cfg1.N) {f : Heads 128} (h : HC (φ := .bf16) e128 (V c main_arg3) f) :
    R2 (A := 256) (B := 128) (φ := .bf16) (iblk1 (F := Ideal) V c 4 t) (fun a d => f (hd t) (row t a) d) := by
  intro a d
  refine Eq.trans (congrArg (V c main_arg3) (?_ : ((cfg1.win 4).blk t).view.emb (ix2 a d) = ix2 (row t a) (col e128 (hd t) d))) (h _ _ _)
  refine (eq_ix2 _).trans (congrArg₂ ix2 ?_ ?_) <;> refine Fin.ext ((win1_4.rect_emb_val t (ix2 a d) _).trans ?_)
  · rw [show win1_4.index t = _ from at_dout1 t]; rfl
  · rw [show win1_4.index t = _ from at_dout1 t]; rfl

/-- Its rows of the logarithms. -/
theorem blk1_5 (c : Dev nD) (t : Fin cfg1.N) {f : Fin 8 → Fin 8448 → ℝ}
    (h : ∀ h r, (V c main_v0_1 : FVec Ideal S8x8448x1 .f32) (ix3 h r (0 : Fin 1)) = ((f h r : ℝ) : EReal)) (a : Fin 256) :
    (iblk1 (F := Ideal) V c 5 t : FVec Ideal S1x256x1 .f32) (ix3 (0 : Fin 1) a (0 : Fin 1)) = ((f (hd t) (row t a) : ℝ) : EReal) := by
  refine Eq.trans (congrArg (V c main_v0_1) (?_ : ((cfg1.win 5).blk t).view.emb (ix3 (0 : Fin 1) a (0 : Fin 1)) = ix3 (hd t) (row t a) (0 : Fin 1))) (h _ _)
  refine (eq_ix3 _).trans ?_
  have e0 : ((cfg1.win 5).blk t).view.emb (ix3 (0 : Fin 1) a (0 : Fin 1)) 0 = hd t := by
    refine Fin.ext ((win1_5.rect_emb_val t (ix3 (0 : Fin 1) a (0 : Fin 1)) 0).trans ?_)
    rw [show win1_5.index t = _ from at_log1 t]; exact Nat.mul_one _
  have e1 : ((cfg1.win 5).blk t).view.emb (ix3 (0 : Fin 1) a (0 : Fin 1)) 1 = row t a := by
    refine Fin.ext ((win1_5.rect_emb_val t (ix3 (0 : Fin 1) a (0 : Fin 1)) 1).trans ?_)
    rw [show win1_5.index t = _ from at_log1 t]; rfl
  have e2 : ((cfg1.win 5).blk t).view.emb (ix3 (0 : Fin 1) a (0 : Fin 1)) 2 = (0 : Fin 1) := Subsingleton.elim (α := Fin 1) _ _
  rw [e0, e1, e2]; rfl

/-! ## The forward call -/

/-- A point's weights are those of its rows. -/
theorem wgtM_weight (n : ℕ) (q k : Fin 8448 → Fin 256 → ℝ) (a : Fin 256) (j : Fin 8448) :
    wgtM (n % 33 ≤ 31) (fun a d => q (row n a) d) k a j = weight q k (row n a) j := by
  have h : (n % 33 ≤ 31 ∨ 8192 ≤ j.val) ↔ ((row n a).val < 8192 ∨ 8192 ≤ j.val) := by
    have := a.isLt
    show _ ↔ (n % 33 * 256 + a.val < 8192 ∨ _)
    omega
  unfold wgtM weight
  exact if_congr h rfl rfl

/-- So is their sum. -/
theorem zM_total (n : ℕ) (q k : Fin 8448 → Fin 256 → ℝ) (a : Fin 256) :
    zM (n % 33 ≤ 31) (fun a d => q (row n a) d) k a = total q k (row n a) :=
  Finset.sum_congr rfl fun j _ => wgtM_weight n q k a j

variable {V} {c : Dev nD} {q k : Heads 256} {v g o : Heads 128}

/-- The forward call leaves the attention output. -/
theorem fwd_out (hq : HC (φ := .bf16) e256 (V c main_arg0) q) (hk : HC (φ := .bf16) e256 (V c main_arg1) k) (hv : HC (φ := .bf16) e128 (V c main_arg2) v) :
    HC (φ := .bf16) e128 ((dat0 (F := Ideal) V c).arrAt 3 cfg0.N) (fun h => out (q h) (k h) (v h)) := by
  intro h r d
  refine (Pipeline.Dat.arrAt_forall_of_covers (dat0 (F := Ideal) V c) 3 (fun i x => ∀ h r d, i = ix2 r (col e128 h d) → (x : EReal) = ((out (q h) (k h) (v h) r d : ℝ) : EReal))
    (by decide +kernel) (fun t _ y h r d hi => ?_) (ix2 r (col e128 h d)) (Memref.isWhole_whole _)) h r d rfl
  obtain ⟨a, b, rfl⟩ : ∃ (a : Fin 256) (b : Fin 128), y = ix2 a b := ⟨y 0, y 1, eq_ix2 y⟩
  have e0 : row t a = r := by
    refine Fin.ext (Eq.trans (Eq.symm ?_) (congrArg (fun z : S8448x1024.Idx => (z 0).val) hi))
    refine (win0_3.rect_emb_val t (ix2 a b) 0).trans ?_
    rw [show win0_3.index t = _ from at_out0 t]; rfl
  have e1 : col e128 (hd t) b = col e128 h d := by
    refine Fin.ext (Eq.trans (Eq.symm ?_) (congrArg (fun z : S8448x1024.Idx => (z 1).val) hi))
    refine (win0_3.rect_emb_val t (ix2 a b) 1).trans ?_
    rw [show win0_3.index t = _ from at_out0 t]; rfl
  obtain ⟨rfl, rfl⟩ := col_inj e1
  subst e0
  refine Eq.trans (congrFun (after0_3 V c t) (ix2 a b)) ((fwdO_real (blk0_0 V c t hq) (blk0_1 V c t hk) (blk0_2 V c t hv) a b).trans ?_)
  simp only [wgtM_weight, zM_total]
  rfl

/-- The forward call leaves the logarithms of the sums of the weights, to the base two. -/
theorem fwd_log (hq : HC (φ := .bf16) e256 (V c main_arg0) q) (hk : HC (φ := .bf16) e256 (V c main_arg1) k) (h : Fin 8) (r : Fin 8448) :
    ((dat0 (F := Ideal) V c).arrAt 4 cfg0.N : FVec Ideal S8x8448x1 .f32) (ix3 h r (0 : Fin 1)) = ((Real.log (total (q h) (k h) r) * lb : ℝ) : EReal) := by
  refine (Pipeline.Dat.arrAt_forall_of_covers (dat0 (F := Ideal) V c) 4 (fun i x => ∀ h r, i = ix3 h r (0 : Fin 1) → (x : EReal) = ((Real.log (total (q h) (k h) r) * lb : ℝ) : EReal))
    (by decide +kernel) (fun t _ y h r hi => ?_) (ix3 h r (0 : Fin 1)) (Memref.isWhole_whole _)) h r rfl
  obtain ⟨u, a, w, rfl⟩ : ∃ (u : Fin 1) (a : Fin 256) (w : Fin 1), y = ix3 u a w := ⟨y 0, y 1, y 2, eq_ix3 y⟩
  have e0 : hd t = h := by
    refine Fin.ext (Eq.trans (Eq.symm ?_) (congrArg (fun z : S8x8448x1.Idx => (z 0).val) hi))
    refine (win0_4.rect_emb_val t (ix3 u a w) 0).trans ?_
    rw [show win0_4.index t = _ from at_log0 t]
    have := u.isLt
    show t.val / 33 % 8 * 1 + u.val = t.val / 33 % 8
    omega
  have e1 : row t a = r := by
    refine Fin.ext (Eq.trans (Eq.symm ?_) (congrArg (fun z : S8x8448x1.Idx => (z 1).val) hi))
    refine (win0_4.rect_emb_val t (ix3 u a w) 1).trans ?_
    rw [show win0_4.index t = _ from at_log0 t]; rfl
  subst e0 e1
  refine Eq.trans (congrFun (after0_4 V c t) (ix3 u a w)) ((fwdL_real (blk0_0 V c t hq) (blk0_1 V c t hk) u a w).trans ?_)
  rw [zM_total]

/-! ## The backward call -/

/-- The derivative with respect to a point's scores is that of its rows. -/
theorem dSM_dscore (n : ℕ) (q k : Fin 8448 → Fin 256 → ℝ) (v g : Fin 8448 → Fin 128 → ℝ) (a : Fin 256) (j : Fin 8448) :
    dSM (n % 33 ≤ 31) (fun a d => q (row n a) d) k v (fun a d => g (row n a) d) (fun a => total q k (row n a))
      (fun a => ∑ d, g (row n a) d * out q k v (row n a) d) a j = dscore q k v g (row n a) j := by
  unfold dSM dscore prob
  rw [wgtM_weight]
  rfl

section Bwd

variable (hq : HC (φ := .bf16) e256 (V c main_arg0) q) (hk : HC (φ := .bf16) e256 (V c main_arg1) k) (hv : HC (φ := .bf16) e128 (V c main_arg2) v)
  (hg : HC (φ := .bf16) e128 (V c main_arg3) g) (ho : HC (φ := .bf16) e128 (V c main_v0_0) (fun h => out (q h) (k h) (v h)))
  (hl : ∀ h r, (V c main_v0_1 : FVec Ideal S8x8448x1 .f32) (ix3 h r (0 : Fin 1)) = ((Real.log (total (q h) (k h) r) * lb : ℝ) : EReal))

include hq hk hv hg ho hl

/-- The backward call leaves the derivative with respect to the queries. -/
theorem bwd_q : HC (φ := .f32) e256 ((dat1 (F := Ideal) V c).arrAt 6 cfg1.N) (fun h => dqry (q h) (k h) (v h) (g h)) := by
  intro h r d
  refine (Pipeline.Dat.arrAt_forall_of_covers (dat1 (F := Ideal) V c) 6 (fun i x => ∀ h r d, i = ix2 r (col e256 h d) → (x : EReal) = ((dqry (q h) (k h) (v h) (g h) r d : ℝ) : EReal))
    (by decide +kernel) (fun t _ y h r d hi => ?_) (ix2 r (col e256 h d)) (Memref.isWhole_whole _)) h r d rfl
  obtain ⟨a, b, rfl⟩ : ∃ (a : Fin 256) (b : Fin 256), y = ix2 a b := ⟨y 0, y 1, eq_ix2 y⟩
  have e0 : row t a = r := by
    refine Fin.ext (Eq.trans (Eq.symm ?_) (congrArg (fun z : S8448x2048.Idx => (z 0).val) hi))
    refine (win1_6.rect_emb_val t (ix2 a b) 0).trans ?_
    rw [show win1_6.index t = _ from at_dq1 t]; rfl
  have e1 : col e256 (hd t) b = col e256 h d := by
    refine Fin.ext (Eq.trans (Eq.symm ?_) (congrArg (fun z : S8448x2048.Idx => (z 1).val) hi))
    refine (win1_6.rect_emb_val t (ix2 a b) 1).trans ?_
    rw [show win1_6.index t = _ from at_dq1 t]; rfl
  obtain ⟨rfl, rfl⟩ := col_inj e1
  subst e0
  refine Eq.trans (congrFun (after1_6 V c t) (ix2 a b)) ((bwdQ_real (blk1_0 V c t hq) (blk1_1 V c t hk) (blk1_2 V c t hv) (blk1_5 V c t hl) (fun a => total_pos _ _ _)
    (blk1_4 V c t hg) (blk1_3 V c t ho) a b).trans ?_)
  refine congrArg Real.toEReal (Finset.sum_congr rfl fun j _ => ?_)
  rw [← dSM_dscore]

/-- What the head's points up to this one have added to the keys' derivative. -/
theorem sumK_real (n : ℕ) : ∀ hn : n < cfg1.N, R2 (A := 256) (B := 8448) (φ := .f32) (sumK (F := Ideal) V c n hn)
    (fun d j => ∑ i ∈ Finset.range (n % 33 + 1), ∑ a, q (hd n) (row i a) d * dscore (q (hd n)) (k (hd n)) (v (hd n)) (g (hd n)) (row i a) j) := by
  induction n using Nat.strong_induction_on with
  | _ n ih =>
    intro hn
    have step : ∀ (X : FVec Ideal S256x8448 .f32) (x : Fin 256 → Fin 8448 → ℝ), R2 (A := 256) (B := 8448) (φ := .f32) X x →
        R2 (A := 256) (B := 8448) (φ := .f32) (bwdK (F := Ideal) (n % 33 ≤ 31) (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩) X)
          (fun d j => x d j + ∑ a, q (hd n) (row n a) d * dscore (q (hd n)) (k (hd n)) (v (hd n)) (g (hd n)) (row n a) j) := by
      intro X x hX a b
      refine (bwdK_real (blk1_0 V c ⟨n, hn⟩ hq) (blk1_1 V c ⟨n, hn⟩ hk) (blk1_2 V c ⟨n, hn⟩ hv) (blk1_5 V c ⟨n, hn⟩ hl) (fun a => total_pos _ _ _)
      (blk1_4 V c ⟨n, hn⟩ hg) (blk1_3 V c ⟨n, hn⟩ ho) hX a b).trans ?_
      refine congrArg Real.toEReal (congrArg (x a b + ·) (Finset.sum_congr rfl fun j _ => ?_))
      rw [← dSM_dscore]
    by_cases h0 : n % 33 = 0
    · rw [show sumK (F := Ideal) V c n hn = _ from sumK_first V c ⟨n, hn⟩ h0, ← bwdK_pos _ (show n % 33 ≤ 31 by omega)]
      refine R2.congr (step k1_pay1 (fun _ _ => 0) fun a b => zero_splat) fun d j => ?_
      exact sum_start h0 (fun r => q (hd n) r d * dscore (q (hd n)) (k (hd n)) (v (hd n)) (g (hd n)) r j)
    · have hp : n - 1 < cfg1.N := Nat.lt_of_le_of_lt (Nat.sub_le _ _) hn
      have hX := ih (n - 1) (by omega) hp
      rw [hd_pred h0] at hX
      have e : sumK (F := Ideal) V c n hn = bwdK (F := Ideal) (n % 33 ≤ 31) (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩) (sumK V c (n - 1) hp) := by
        by_cases h1 : n % 33 ≤ 31
        · exact (sumK_mid V c ⟨n, hn⟩ h0 h1).trans (bwdK_pos _ h1 _ _ _ _ _ _ _).symm
        · exact (sumK_ctx V c ⟨n, hn⟩ (by show n % 33 = 32; omega)).trans (bwdK_neg _ h1 _ _ _ _ _ _ _).symm
      rw [e]
      refine R2.congr (step _ _ hX) fun d j => ?_
      exact sum_next h0 (fun r => q (hd n) r d * dscore (q (hd n)) (k (hd n)) (v (hd n)) (g (hd n)) r j)

/-- The backward call leaves the keys' derivative. -/
theorem bwd_k : HR (φ := .f32) e256 ((dat1 (F := Ideal) V c).arrAt 7 cfg1.N) (fun h => dkey (q h) (k h) (v h) (g h)) := by
  intro h d j
  refine (Pipeline.Dat.arrAt_forall_of_covers (dat1 (F := Ideal) V c) 7 (fun i x => ∀ h d j, i = ix2 (col e256 h d) j → (x : EReal) = (((fun h => dkey (q h) (k h) (v h) (g h)) h d j : ℝ) : EReal))
    (by decide +kernel) (fun t hf y h d j hi => ?_) (ix2 (col e256 h d) j) (Memref.isWhole_whole _)) h d j rfl
  obtain ⟨a, b, rfl⟩ : ∃ (a : Fin 256) (b : Fin 8448), y = ix2 a b := ⟨y 0, y 1, eq_ix2 y⟩
  have e0 : col e256 (hd t) a = col e256 h d := by
    refine Fin.ext (Eq.trans (Eq.symm ?_) (congrArg (fun z : S2048x8448.Idx => (z 0).val) hi))
    refine (win1_7.rect_emb_val t (ix2 a b) 0).trans ?_
    rw [show win1_7.index t = _ from at_dk1 t]; rfl
  have e1 : b = j := by
    refine Fin.ext (Eq.trans (Eq.symm ?_) (congrArg (fun z : S2048x8448.Idx => (z 1).val) hi))
    refine (win1_7.rect_emb_val t (ix2 a b) 1).trans ?_
    rw [show win1_7.index t = _ from at_dk1 t]
    exact (congrArg (· + b.val) (Nat.zero_mul _)).trans (Nat.zero_add _)
  obtain ⟨rfl, rfl⟩ := col_inj e0
  subst e1
  refine Eq.trans (congrFun (after1_7 V c t) (ix2 a b)) ((sumK_real hq hk hv hg ho hl t.val t.isLt a b).trans ?_)
  exact congrArg Real.toEReal (sum_end ((flush1_7 t).mp hf) fun r => q (hd t) r a * dscore (q (hd t)) (k (hd t)) (v (hd t)) (g (hd t)) r b)

omit hv ho

/-- What the head's points up to this one have added to the values' derivative. -/
theorem sumV_real (n : ℕ) : ∀ hn : n < cfg1.N, R2 (A := 128) (B := 8448) (φ := .f32) (sumV (F := Ideal) V c n hn)
    (fun d j => ∑ i ∈ Finset.range (n % 33 + 1), ∑ a, g (hd n) (row i a) d * prob (q (hd n)) (k (hd n)) (row i a) j) := by
  induction n using Nat.strong_induction_on with
  | _ n ih =>
    intro hn
    have step : ∀ (X : FVec Ideal S128x8448 .f32) (x : Fin 128 → Fin 8448 → ℝ), R2 (A := 128) (B := 8448) (φ := .f32) X x →
        R2 (A := 128) (B := 8448) (φ := .f32) (bwdV (F := Ideal) (n % 33 ≤ 31) (iblk1 V c 0 ⟨n, hn⟩) (iblk1 V c 1 ⟨n, hn⟩) (iblk1 V c 2 ⟨n, hn⟩) (iblk1 V c 4 ⟨n, hn⟩) (iblk1 V c 5 ⟨n, hn⟩) X)
          (fun d j => x d j + ∑ a, g (hd n) (row n a) d * prob (q (hd n)) (k (hd n)) (row n a) j) := by
      intro X x hX a b
      refine (bwdV_real (blk1_0 V c ⟨n, hn⟩ hq) (blk1_1 V c ⟨n, hn⟩ hk) (blk1_5 V c ⟨n, hn⟩ hl) (fun a => total_pos _ _ _)
      (blk1_4 V c ⟨n, hn⟩ hg) hX a b).trans ?_
      refine congrArg Real.toEReal (congrArg (x a b + ·) (Finset.sum_congr rfl fun j _ => ?_))
      rw [wgtM_weight]; rfl
    by_cases h0 : n % 33 = 0
    · rw [show sumV (F := Ideal) V c n hn = _ from sumV_first V c ⟨n, hn⟩ h0, ← bwdV_pos _ (show n % 33 ≤ 31 by omega)]
      refine R2.congr (step k1_pay2 (fun _ _ => 0) fun a b => zero_splat) fun d j => ?_
      exact sum_start h0 (fun r => g (hd n) r d * prob (q (hd n)) (k (hd n)) r j)
    · have hp : n - 1 < cfg1.N := Nat.lt_of_le_of_lt (Nat.sub_le _ _) hn
      have hX := ih (n - 1) (by omega) hp
      rw [hd_pred h0] at hX
      have e : sumV (F := Ideal) V c n hn = bwdV (F := Ideal) (n % 33 ≤ 31) (iblk1 V c 0 ⟨n, hn⟩) (iblk1 V c 1 ⟨n, hn⟩) (iblk1 V c 2 ⟨n, hn⟩) (iblk1 V c 4 ⟨n, hn⟩) (iblk1 V c 5 ⟨n, hn⟩) (sumV V c (n - 1) hp) := by
        by_cases h1 : n % 33 ≤ 31
        · exact (sumV_mid V c ⟨n, hn⟩ h0 h1).trans (bwdV_pos _ h1 _ _ _ _ _ _).symm
        · exact (sumV_ctx V c ⟨n, hn⟩ (by show n % 33 = 32; omega)).trans (bwdV_neg _ h1 _ _ _ _ _ _).symm
      rw [e]
      refine R2.congr (step _ _ hX) fun d j => ?_
      exact sum_next h0 (fun r => g (hd n) r d * prob (q (hd n)) (k (hd n)) r j)

/-- The backward call leaves the values' derivative. -/
theorem bwd_v : HR (φ := .f32) e128 ((dat1 (F := Ideal) V c).arrAt 8 cfg1.N) (fun h => dval (q h) (k h) (g h)) := by
  intro h d j
  refine (Pipeline.Dat.arrAt_forall_of_covers (dat1 (F := Ideal) V c) 8 (fun i x => ∀ h d j, i = ix2 (col e128 h d) j → (x : EReal) = (((fun h => dval (q h) (k h) (g h)) h d j : ℝ) : EReal))
    (by decide +kernel) (fun t hf y h d j hi => ?_) (ix2 (col e128 h d) j) (Memref.isWhole_whole _)) h d j rfl
  obtain ⟨a, b, rfl⟩ : ∃ (a : Fin 128) (b : Fin 8448), y = ix2 a b := ⟨y 0, y 1, eq_ix2 y⟩
  have e0 : col e128 (hd t) a = col e128 h d := by
    refine Fin.ext (Eq.trans (Eq.symm ?_) (congrArg (fun z : S1024x8448.Idx => (z 0).val) hi))
    refine (win1_8.rect_emb_val t (ix2 a b) 0).trans ?_
    rw [show win1_8.index t = _ from at_dv1 t]; rfl
  have e1 : b = j := by
    refine Fin.ext (Eq.trans (Eq.symm ?_) (congrArg (fun z : S1024x8448.Idx => (z 1).val) hi))
    refine (win1_8.rect_emb_val t (ix2 a b) 1).trans ?_
    rw [show win1_8.index t = _ from at_dv1 t]
    exact (congrArg (· + b.val) (Nat.zero_mul _)).trans (Nat.zero_add _)
  obtain ⟨rfl, rfl⟩ := col_inj e0
  subst e1
  refine Eq.trans (congrFun (after1_8 V c t) (ix2 a b)) ((sumV_real hq hk hg hl t.val t.isLt a b).trans ?_)
  exact congrArg Real.toEReal (sum_end ((flush1_8 t).mp hf) fun r => g (hd t) r a * prob (q (hd t)) (k (hd t)) r b)

end Bwd

/-! ## Both calls -/

/-- What the kernel's four results hold, when its arguments are real. -/
theorem kernel_values (m : (ℓ : Loc nD τ sig) → Buf (Elt Ideal) ℓ) (c : Dev nD) {q k : Heads 256} {v g : Heads 128}
    (hq : HC (φ := .bf16) e256 (m (c, main_arg0)) q) (hk : HC (φ := .bf16) e256 (m (c, main_arg1)) k)
    (hv : HC (φ := .bf16) e128 (m (c, main_arg2)) v) (hg : HC (φ := .bf16) e128 (m (c, main_arg3)) g) :
    HC (φ := .bf16) e128 ((datF m c).arrAt 3 cfg0.N) (fun h => out (q h) (k h) (v h))
    ∧ HC (φ := .f32) e256 ((datB m c).arrAt 6 cfg1.N) (fun h => dqry (q h) (k h) (v h) (g h))
    ∧ HR (φ := .f32) e256 ((datB m c).arrAt 7 cfg1.N) (fun h => dkey (q h) (k h) (v h) (g h))
    ∧ HR (φ := .f32) e128 ((datB m c).arrAt 8 cfg1.N) (fun h => dval (q h) (k h) (g h)) := by
  have ho := fwd_out (V := fun c b => W0 m c b) (c := c) hq hk hv
  have hl := fwd_log (V := fun c b => W0 m c b) (c := c) hq hk
  have hq1 : HC (φ := .bf16) e256 (W1 m c main_arg0) q := by rw [W1_of m c main_arg0 (by decide)]; exact hq
  have hk1 : HC (φ := .bf16) e256 (W1 m c main_arg1) k := by rw [W1_of m c main_arg1 (by decide)]; exact hk
  have hv1 : HC (φ := .bf16) e128 (W1 m c main_arg2) v := by rw [W1_of m c main_arg2 (by decide)]; exact hv
  have hg1 : HC (φ := .bf16) e128 (W1 m c main_arg3) g := by rw [W1_of m c main_arg3 (by decide)]; exact hg
  have ho1 : HC (φ := .bf16) e128 (W1 m c main_v0_0) (fun h => out (q h) (k h) (v h)) := by rw [W1_o m c]; exact ho
  have hl1 : ∀ h r, (W1 m c main_v0_1 : FVec Ideal S8x8448x1 .f32) (ix3 h r (0 : Fin 1)) = ((Real.log (total (q h) (k h) r) * lb : ℝ) : EReal) := by
    rw [W1_l m c]; exact hl
  exact ⟨ho, bwd_q (V := fun c b => W1 m c b) hq1 hk1 hv1 hg1 ho1 hl1, bwd_k (V := fun c b => W1 m c b) hq1 hk1 hv1 hg1 ho1 hl1,
    bwd_v (V := fun c b => W1 m c b) hq1 hk1 hg1 hl1⟩

end Cert.KernelIdeal.Own

end
-- ==== Proof.Value.Cube.lean ====
/- Arrays of three axes over the extended reals whose entries are real numbers, and what the host's operations do to them. -/
module

public import proofs.«01_k».proof.Proof.Value.Target

@[expose] public section

noncomputable section

namespace Cert.RealCalc

open Idealize.ShloMosaic Idealize.ShloMosaic.ValueIdx
open scoped BigOperators

variable {A B C K : ℕ} {φ : FTy}

/-- An array of three axes all of whose entries are the given reals. -/
def R3 (X : FVec Ideal ⟨3, ![A, B, C]⟩ φ) (f : Fin A → Fin B → Fin C → ℝ) : Prop :=
  ∀ a b c, (X (ix3 a b c) : EReal) = ((f a b c : ℝ) : EReal)

variable {X Y : FVec Ideal ⟨3, ![A, B, C]⟩ φ} {f g : Fin A → Fin B → Fin C → ℝ}

theorem R3.congr (h : R3 X f) (e : ∀ a b c, f a b c = g a b c) : R3 X g :=
  fun a b c => (h a b c).trans (congrArg _ (e a b c))

theorem R3.addf (hX : R3 X f) (hY : R3 Y g) : R3 (addf X Y) (fun a b c => f a b c + g a b c) := fun a b c => by
  show (X (ix3 a b c) : EReal) + Y (ix3 a b c) = _
  rw [hX a b c, hY a b c, EReal.coe_add]

theorem R3.subf (hX : R3 X f) (hY : R3 Y g) : R3 (subf X Y) (fun a b c => f a b c - g a b c) := fun a b c => by
  show (X (ix3 a b c) : EReal) - Y (ix3 a b c) = _
  rw [hX a b c, hY a b c, EReal.coe_sub]

theorem R3.mulf (hX : R3 X f) (hY : R3 Y g) : R3 (mulf X Y) (fun a b c => f a b c * g a b c) := fun a b c => by
  show (X (ix3 a b c) : EReal) * Y (ix3 a b c) = _
  rw [hX a b c, hY a b c, EReal.coe_mul]

theorem R3.divf (hX : R3 X f) (hY : R3 Y g) (h0 : ∀ a b c, g a b c ≠ 0) : R3 (Host.divf X Y) (fun a b c => f a b c / g a b c) := fun a b c => by
  show Ideal.div (X (ix3 a b c)) (Y (ix3 a b c)) = _
  rw [hX a b c, hY a b c, Ideal.div_coe (h0 a b c), ← EReal.coe_mul, mul_one_div]

theorem R3.negf (hX : R3 X f) : R3 (Host.negf X) (fun a b c => -f a b c) := fun a b c => by
  show -(X (ix3 a b c) : EReal) = _
  rw [hX a b c, EReal.coe_neg]

theorem R3.exp (hX : R3 X f) : R3 (Host.exp X) (fun a b c => Real.exp (f a b c)) := fun a b c => by
  show Ideal.exp (X (ix3 a b c)) = _
  rw [hX a b c, Ideal.exp_coe]

theorem R3.truncf {ψ : FTy} (hX : R3 X f) (h : ψ.bits < φ.bits) : R3 (truncf ψ X h) f := fun a b c => hX a b c

theorem R3.extf {ψ : FTy} (hX : R3 X f) (h : φ.bits < ψ.bits) : R3 (extf ψ X h) f := fun a b c => hX a b c

/-- A product of two reals, each read at its place. -/
theorem mul_at {x y : EReal} {r s : ℝ} (hx : x = (r : EReal)) (hy : y = (s : EReal)) : x * y = ((r * s : ℝ) : EReal) := by
  rw [hx, hy, EReal.coe_mul]

/-- A sum from zero. -/
theorem zero_sum {ι : Type} [Fintype ι] {z : EReal} {x : ι → EReal} {f : ι → ℝ} (hz : z = ((0 : ℝ) : EReal)) (h : ∀ i, x i = (f i : EReal)) :
    z + (∑ i, x i) = ((∑ i, f i : ℝ) : EReal) := by
  rw [hz, sum_coe h, ← EReal.coe_add, zero_add]

theorem fold_real (l : List EReal) : (∀ x ∈ l, ∃ r : ℝ, x = (r : EReal)) → ∀ b : EReal, (b = ⊥ ∨ ∃ r : ℝ, b = (r : EReal)) →
    (l ≠ [] ∨ ∃ r : ℝ, b = (r : EReal)) → ∃ r : ℝ, l.foldl max b = (r : EReal) := by
  induction l with
  | nil =>
    intro _ b _ h
    rcases h with h | h
    · exact absurd rfl h
    · exact h
  | cons x l ih =>
    intro hl b hb _
    obtain ⟨r, hr⟩ := hl x (by simp)
    have hm : ∃ r : ℝ, max b x = (r : EReal) := by
      rcases hb with hb | ⟨u, hu⟩
      · exact ⟨r, by rw [hb, hr]; simp⟩
      · exact ⟨max u r, by rw [hu, hr]; exact (EReal.coe_strictMono.monotone.map_max (a := u) (b := r)).symm⟩
    exact ih (fun y hy => hl y (by simp [hy])) (max b x) (Or.inr hm) (Or.inr hm)

/-- The greatest entry along the last axis is real. -/
theorem R3.rowMax (hX : R3 X f) (hC : 0 < C) {u : Shape} (init : u.Idx → Ideal φ) (h : (⟨3, ![A, B, C]⟩ : Shape).ReducesTo [2] ⟨2, ![A, B]⟩) (hu : 0 < u.numel)
    (hi : (init (Shape.Idx.first hu) : EReal) = ⊥) :
    ∃ M : Fin A → Fin B → ℝ, ∀ a b, (Host.reduce (FloatOps.maximumf (F := Ideal) (φ := φ)) X init h hu (ix2 a b) : Ideal φ) = ((M a b : ℝ) : EReal) := by
  have e : ∀ a b, ∃ r : ℝ, (Host.reduce (FloatOps.maximumf (F := Ideal) (φ := φ)) X init h hu (ix2 a b) : Ideal φ) = (r : EReal) := by
    intro a b
    unfold Host.reduce
    obtain ⟨r, hr⟩ := fold_real (((List.finRange (⟨3, ![A, B, C]⟩ : Shape).numel).filter fun n => h.drop ((⟨3, ![A, B, C]⟩ : Shape).rowMajor.symm n) = ix2 a b).map
        fun n => (X ((⟨3, ![A, B, C]⟩ : Shape).rowMajor.symm n) : EReal)) (fun x hx => by
          obtain ⟨n, _, rfl⟩ := List.mem_map.mp hx
          exact ⟨_, (congrArg X (eq_ix3 _)).trans (hX _ _ _)⟩) (init (Shape.Idx.first hu)) (Or.inl hi) (Or.inl (by
          refine List.ne_nil_of_mem (List.mem_map_of_mem (a := (⟨3, ![A, B, C]⟩ : Shape).rowMajor (ix3 a b ⟨0, hC⟩)) ?_)
          rw [List.mem_filter]
          refine ⟨List.mem_finRange _, ?_⟩
          rw [Equiv.symm_apply_apply, decide_eq_true_eq]
          funext z
          match z with
          | ⟨0, _⟩ => exact Fin.ext rfl
          | ⟨1, _⟩ => exact Fin.ext rfl))
    exact ⟨r, (List.foldl_map ..).symm.trans hr⟩
  choose M hM using e
  exact ⟨M, hM⟩

/-! ## The softmax and its derivative, over the reals -/

section Softmax

variable {ι : Type} [Fintype ι] [Nonempty ι] (s dp : ι → ℝ) (M : ℝ)

theorem sum_exp_pos : 0 < ∑ j, Real.exp (s j) := Finset.sum_pos (fun _ _ => Real.exp_pos _) Finset.univ_nonempty

/-- A shift of the scores leaves the probabilities. -/
theorem softmax_shift (j : ι) : Real.exp (s j - M) / ∑ i, Real.exp (s i - M) = Real.exp (s j) / ∑ i, Real.exp (s i) := by
  have e : ∀ i, Real.exp (s i - M) = Real.exp (s i) * Real.exp (-M) := fun i => by rw [sub_eq_add_neg, Real.exp_add]
  simp only [e]
  rw [← Finset.sum_mul, mul_div_mul_right _ _ (Real.exp_pos _).ne']

/-- The derivative of the softmax as the reference computes it. -/
theorem softmax_deriv (c : ℝ) (j : ι) :
    (dp j / (∑ i, Real.exp (s i - M)) + -∑ i, dp i * (1 / ((∑ i, Real.exp (s i - M)) * ∑ i, Real.exp (s i - M))) * Real.exp (s i - M)) * Real.exp (s j - M) / c
      = Real.exp (s j) / (∑ i, Real.exp (s i)) * (dp j - ∑ i, Real.exp (s i) / (∑ i, Real.exp (s i)) * dp i) * c⁻¹ := by
  have hL := (sum_exp_pos fun i => s i - M).ne'
  simp only [← softmax_shift s M]
  generalize (∑ i, Real.exp (s i - M)) = L at hL ⊢
  have e : ∑ i, dp i * (1 / (L * L)) * Real.exp (s i - M) = (∑ i, Real.exp (s i - M) / L * dp i) / L := by
    rw [Finset.sum_div]
    refine Finset.sum_congr rfl fun i _ => ?_
    field_simp
  rw [e, div_eq_mul_inv _ c]
  refine congrArg (· * c⁻¹) ?_
  field_simp
  ring

end Softmax

end Cert.RealCalc

end
-- ==== Proof.Value.Ref.lean ====
/- The reference, one operation at a time, over the extended reals: the attention of every head and its derivatives. -/
module

public import proofs.«01_k».proof.Proof.Value.Cube
public import proofs.«01_k».proof.Proof.Gen.ReferenceIdeal.Read

@[expose] public section

set_option maxRecDepth 16384

noncomputable section

namespace Cert.ReferenceIdeal.Own

open Idealize.ShloMosaic Idealize.ShloMosaic.ValueIdx
open Cert.ReferenceIdeal Cert.ReferenceIdeal.Gen Cert.ReferenceIdeal.Read Cert.RealCalc
open scoped BigOperators

theorem ix3_ext {A B C : ℕ} {i : (⟨3, ![A, B, C]⟩ : Shape).Idx} {a : Fin A} {b : Fin B} {c : Fin C} (h0 : (i 0).val = a.val) (h1 : (i 1).val = b.val)
    (h2 : (i 2).val = c.val) : i = ix3 a b c := by
  rw [eq_ix3 i]
  congr 1 <;> exact Fin.ext (by assumption)

theorem ix2_ext {A B : ℕ} {i : (⟨2, ![A, B]⟩ : Shape).Idx} {a : Fin A} {b : Fin B} (h0 : (i 0).val = a.val) (h1 : (i 1).val = b.val) : i = ix2 a b := by
  rw [eq_ix2 i]
  congr 1 <;> exact Fin.ext (by assumption)

variable {x0 x1 : FVec Ideal S8448x2048 .bf16} {x2 x3 : FVec Ideal S8448x1024 .bf16} {q k : Heads 256} {v g : Heads 128}

theorem at3 {A B C : ℕ} {X : (⟨3, ![A, B, C]⟩ : Shape).Idx → EReal} {i : (⟨3, ![A, B, C]⟩ : Shape).Idx} {y : EReal} (a : Fin A) (b : Fin B) (c : Fin C)
    (h : X (ix3 a b c) = y) (h0 : (i 0).val = a.val) (h1 : (i 1).val = b.val) (h2 : (i 2).val = c.val) : X i = y := ix3_ext h0 h1 h2 ▸ h

theorem at2 {A B : ℕ} {X : (⟨2, ![A, B]⟩ : Shape).Idx → EReal} {i : (⟨2, ![A, B]⟩ : Shape).Idx} {y : EReal} (a : Fin A) (b : Fin B)
    (h : X (ix2 a b) = y) (h0 : (i 0).val = a.val) (h1 : (i 1).val = b.val) : X i = y := ix2_ext h0 h1 ▸ h

theorem lit_192 : Ideal.ofBits .f32 0x43400000#32 = ((192 : ℝ) : EReal) := by
  simp [Ideal.ofBits, Ideal.ieee]
  norm_cast
  norm_num

theorem lit_one : Ideal.ofBits .f32 0x3F800000#32 = ((1 : ℝ) : EReal) := by
  simp [Ideal.ofBits, Ideal.ieee]
  rw [← EReal.coe_one]
  norm_cast
  norm_num

theorem lit_bot : Ideal.ofBits .f32 0xFF800000#32 = (⊥ : EReal) := by
  simp [Ideal.ofBits, Ideal.ieee]

theorem sqrt_ne : Real.sqrt 192 ≠ 0 := (Real.sqrt_pos.mpr (by norm_num)).ne'

/-! ## The arguments by heads -/

theorem arg_q (hq : HC (φ := .bf16) e256 x0 q) :
    R3 (A := 8448) (B := 8) (C := 256) (φ := .f32) (val_main_v3 (F := Ideal) x0) fun r h d => q h r d := fun r h d => by
  have h0 := r.isLt; have h1 := h.isLt; have h2 := d.isLt
  rw [val_main_v3_apply]
  refine at2 (X := (val_main_v0 (F := Ideal) x0)) r (col e256 h d) ?_ ?_ ?_
  · rw [val_main_v0_apply]; exact hq h r d
  · show ((r.val * 8 + h.val) * 256 + d.val) / 2048 = r.val; omega
  · show ((r.val * 8 + h.val) * 256 + d.val) % 2048 = h.val * 256 + d.val; omega

theorem arg_k (hk : HC (φ := .bf16) e256 x1 k) :
    R3 (A := 8448) (B := 8) (C := 256) (φ := .f32) (val_main_v4 (F := Ideal) x1) fun r h d => k h r d := fun r h d => by
  have h0 := r.isLt; have h1 := h.isLt; have h2 := d.isLt
  rw [val_main_v4_apply]
  refine at2 (X := (val_main_v1 (F := Ideal) x1)) r (col e256 h d) ?_ ?_ ?_
  · rw [val_main_v1_apply]; exact hk h r d
  · show ((r.val * 8 + h.val) * 256 + d.val) / 2048 = r.val; omega
  · show ((r.val * 8 + h.val) * 256 + d.val) % 2048 = h.val * 256 + d.val; omega

theorem arg_v (hv : HC (φ := .bf16) e128 x2 v) :
    R3 (A := 8448) (B := 8) (C := 128) (φ := .f32) (val_main_v5 (F := Ideal) x2) fun r h d => v h r d := fun r h d => by
  have h0 := r.isLt; have h1 := h.isLt; have h2 := d.isLt
  rw [val_main_v5_apply]
  refine at2 (X := (val_main_v2 (F := Ideal) x2)) r (col e128 h d) ?_ ?_ ?_
  · rw [val_main_v2_apply]; exact hv h r d
  · show ((r.val * 8 + h.val) * 128 + d.val) / 1024 = r.val; omega
  · show ((r.val * 8 + h.val) * 128 + d.val) % 1024 = h.val * 128 + d.val; omega

theorem arg_g (hg : HC (φ := .bf16) e128 x3 g) :
    R3 (A := 8448) (B := 8) (C := 128) (φ := .f32) (val_main_v81 (F := Ideal) x3) fun r h d => g h r d := fun r h d => by
  have h0 := r.isLt; have h1 := h.isLt; have h2 := d.isLt
  rw [val_main_v81_apply]
  refine at2 (X := (val_main_v80 (F := Ideal) x3)) r (col e128 h d) ?_ ?_ ?_
  · rw [val_main_v80_apply]; exact hg h r d
  · show ((r.val * 8 + h.val) * 128 + d.val) / 1024 = r.val; omega
  · show ((r.val * 8 + h.val) * 128 + d.val) % 1024 = h.val * 128 + d.val; omega

end Cert.ReferenceIdeal.Own

end
-- ==== Proof.Value.RefLat.lean ====
/- The reference for the queries of the latent rows, one operation at a time, over the extended reals. -/
module

public import proofs.«01_k».proof.Proof.Value.Ref

@[expose] public section

set_option maxRecDepth 16384

noncomputable section

namespace Cert.ReferenceIdeal.Own

open Idealize.ShloMosaic Idealize.ShloMosaic.ValueIdx
open Cert.ReferenceIdeal Cert.ReferenceIdeal.Gen Cert.ReferenceIdeal.Read Cert.RealCalc
open scoped BigOperators

variable {x0 x1 : FVec Ideal S8448x2048 .bf16} {x2 x3 : FVec Ideal S8448x1024 .bf16} {q k : Heads 256} {v g : Heads 128}

/-! ## The latent queries -/

theorem weight_lat (q k : Fin 8448 → Fin 256 → ℝ) (r : Fin 8192) (j : Fin 8448) : weight q k (latRow r) j = Real.exp (score q k (latRow r) j) :=
  if_pos (Or.inl r.isLt)

theorem sum_lat (q k : Fin 8448 → Fin 256 → ℝ) (r : Fin 8192) (f : Fin 8448 → ℝ) :
    ∑ j, weight q k (latRow r) j * f j = ∑ j, weight q k (latRow r) j * f j := rfl

/-- The probabilities of these queries. -/
theorem prob_lat (q k : Fin 8448 → Fin 256 → ℝ) (r : Fin 8192) (j : Fin 8448) :
    prob q k (latRow r) j = Real.exp (score q k (latRow r) j) / ∑ i : Fin 8448, Real.exp (score q k (latRow r) i) := by
  unfold prob total
  simp only [weight_lat]

/-- Their output is the mean of the values. -/
theorem out_lat (q k : Fin 8448 → Fin 256 → ℝ) (v : Fin 8448 → Fin 128 → ℝ) (r : Fin 8192) (d : Fin 128) :
    out q k v (latRow r) d = ∑ j : Fin 8448, v j d * prob q k (latRow r) j := by
  unfold out
  rw [sum_lat q k r fun j => v j d, Finset.sum_div]
  refine Finset.sum_congr rfl fun j _ => ?_
  unfold prob
  ring

/-- The output's share of the derivative, over the probabilities. -/
theorem delta_lat (q k : Fin 8448 → Fin 256 → ℝ) (v g : Fin 8448 → Fin 128 → ℝ) (r : Fin 8192) :
    ∑ d, g (latRow r) d * out q k v (latRow r) d = ∑ i : Fin 8448, prob q k (latRow r) i * ∑ d, g (latRow r) d * v i d := by
  simp only [out_lat, Finset.mul_sum]
  rw [Finset.sum_comm]
  refine Finset.sum_congr rfl fun i _ => Finset.sum_congr rfl fun d _ => ?_
  ring

/-- The derivative with respect to their scores. -/
theorem dscore_lat (q k : Fin 8448 → Fin 256 → ℝ) (v g : Fin 8448 → Fin 128 → ℝ) (r : Fin 8192) (j : Fin 8448) (M : ℝ) :
    ((∑ d, g (latRow r) d * v j d) / (∑ i : Fin 8448, Real.exp (score q k (latRow r) i - M))
      + -∑ i : Fin 8448, (∑ d, g (latRow r) d * v i d) * (1 / ((∑ i : Fin 8448, Real.exp (score q k (latRow r) i - M)) * ∑ i : Fin 8448, Real.exp (score q k (latRow r) i - M)))
        * Real.exp (score q k (latRow r) i - M)) * Real.exp (score q k (latRow r) j - M) / Real.sqrt 192 = dscore q k v g (latRow r) j := by
  refine (softmax_deriv (fun i : Fin 8448 => score q k (latRow r) i) (fun i : Fin 8448 => ∑ d, g (latRow r) d * v i d) M (Real.sqrt 192) j).trans ?_
  unfold dscore
  rw [delta_lat]
  simp only [prob_lat]

/-- Their queries' derivative. -/
theorem dqry_lat (q k : Fin 8448 → Fin 256 → ℝ) (v g : Fin 8448 → Fin 128 → ℝ) (r : Fin 8192) (d : Fin 256) :
    dqry q k v g (latRow r) d = ∑ j : Fin 8448, dscore q k v g (latRow r) j * k j d := by
  unfold dqry
  rfl

theorem q_lat (hq : HC (φ := .bf16) e256 x0 q) :
    R3 (A := 8192) (B := 8) (C := 256) (φ := .f32) (val_main_v6 (F := Ideal) x0) fun r h d => q h (latRow r) d :=
  by
  intro r h d
  rw [val_main_v6_apply]
  exact at3 (X := (val_main_v3 (F := Ideal) x0)) (latRow r) h d (arg_q hq (latRow r) h d) rfl rfl rfl

theorem k_lat (hk : HC (φ := .bf16) e256 x1 k) :
    R3 (A := 8448) (B := 8) (C := 256) (φ := .f32) (val_main_v4 (F := Ideal) x1) fun j h d => k h j d := arg_k hk

theorem v_lat (hv : HC (φ := .bf16) e128 x2 v) :
    R3 (A := 8448) (B := 8) (C := 128) (φ := .f32) (val_main_v5 (F := Ideal) x2) fun j h d => v h j d := arg_v hv

theorem g_lat (hg : HC (φ := .bf16) e128 x3 g) :
    R3 (A := 8192) (B := 8) (C := 128) (φ := .f32) (val_main_v82 (F := Ideal) x3) fun r h d => g h (latRow r) d :=
  by
  intro r h d
  rw [val_main_v82_apply]
  exact at3 (X := (val_main_v81 (F := Ideal) x3)) (latRow r) h d (arg_g hg (latRow r) h d) rfl rfl rfl

theorem gT_lat (hg : HC (φ := .bf16) e128 x3 g) :
    R3 (A := 8) (B := 128) (C := 8192) (φ := .f32) (val_main_v109 (F := Ideal) x3) fun h d r => g h (latRow r) d :=
  by
  intro h d r
  rw [val_main_v109_apply]
  refine at3 (X := (val_main_v82 (F := Ideal) x3)) r h d ?_ rfl rfl rfl
  exact g_lat hg r h d

theorem sq_lat (i : S_.Idx) : ((val_main_v8 (F := Ideal)) i : EReal) = ((Real.sqrt 192 : ℝ) : EReal) := by
  refine (val_main_v8_apply i).trans ?_
  show Ideal.sqrt (Ideal.ofBits .f32 0x43400000#32) = _
  rw [lit_192, Ideal.sqrt_coe, if_neg (by norm_num)]

theorem sqb_lat : R3 (A := 8) (B := 8192) (C := 8448) (φ := .f32) (val_main_v9 (F := Ideal)) fun _ _ _ => Real.sqrt 192 := by
  intro h r j
  rw [val_main_v9_apply]
  exact sq_lat _

theorem sqb2_lat : R3 (A := 8) (B := 8192) (C := 8448) (φ := .f32) (val_main_v126 (F := Ideal)) fun _ _ _ => Real.sqrt 192 := by
  intro h r j
  rw [val_main_v126_apply]
  exact sq_lat _

theorem dot_lat (hq : HC (φ := .bf16) e256 x0 q) (hk : HC (φ := .bf16) e256 x1 k) :
    R3 (A := 8) (B := 8192) (C := 8448) (φ := .f32) (val_main_v7 (F := Ideal) x0 x1) fun h r j => ∑ d, q h (latRow r) d * k h j d :=
  by
  intro h r j
  rw [val_main_v7_apply]
  refine sum_coe (f := fun z => q h (latRow r) z * k h j z) fun z => mul_at ?_ ?_
  · exact at3 (X := (val_main_v6 (F := Ideal) x0)) r h z (q_lat hq r h z) rfl rfl rfl
  · exact at3 (X := (val_main_v4 (F := Ideal) x1)) j h z (k_lat hk j h z) rfl rfl rfl

theorem dotc_lat (hq : HC (φ := .bf16) e256 x0 q) (hk : HC (φ := .bf16) e256 x1 k) :
    R3 (A := 8) (B := 8192) (C := 8448) (φ := .f32) (val_main_v7 (F := Ideal) x0 x1) fun h r j => ∑ d, q h (latRow r) d * k h j d :=
  by
  intro h r j
  exact dot_lat hq hk h r j

/-- The scores. -/
theorem s_lat (hq : HC (φ := .bf16) e256 x0 q) (hk : HC (φ := .bf16) e256 x1 k) :
    R3 (A := 8) (B := 8192) (C := 8448) (φ := .f32) (val_main_v10 (F := Ideal) x0 x1) fun h r j => score (q h) (k h) (latRow r) j :=
  R3.congr (R3.divf (X := (val_main_v7 (F := Ideal) x0 x1)) (Y := (val_main_v9 (F := Ideal))) (dotc_lat hq hk) sqb_lat fun _ _ _ => sqrt_ne) fun h r j => div_eq_mul_inv _ _

theorem max_lat (hq : HC (φ := .bf16) e256 x0 q) (hk : HC (φ := .bf16) e256 x1 k) : ∃ M : Fin 8 → Fin 8192 → ℝ, ∀ h r, ((val_main_v18 (F := Ideal) x0 x1) (ix2 h r) : EReal) = ((M h r : ℝ) : EReal) := by
  obtain ⟨M, hM⟩ := R3.rowMax (s_lat hq hk) (by norm_num) (val_main_cst_0 (F := Ideal)) reducesTo_S8x8192x8448_S8x8192_d2 h_S_ lit_bot
  refine ⟨M, fun h r => ?_⟩
  rw [val_main_v18_apply]
  have e : ((val_main_v17 (F := Ideal)) (ix2 h r) : EReal) = ⊥ := by rw [val_main_v17_apply]; exact lit_bot
  show max ((val_main_v17 (F := Ideal)) (ix2 h r) : EReal) ((val_main_v11 (F := Ideal) x0 x1) (ix2 h r)) = _
  rw [e, max_eq_right bot_le]
  exact hM h r

theorem mb_lat (hq : HC (φ := .bf16) e256 x0 q) (hk : HC (φ := .bf16) e256 x1 k) {M : Fin 8 → Fin 8192 → ℝ} (hM : ∀ h r, ((val_main_v18 (F := Ideal) x0 x1) (ix2 h r) : EReal) = ((M h r : ℝ) : EReal)) :
    R3 (A := 8) (B := 8192) (C := 8448) (φ := .f32) (val_main_v29 (F := Ideal) x0 x1) fun h r _ => M h r :=
  by
  intro h r j
  rw [val_main_v29_apply]
  refine at3 (X := (val_main_v28 (F := Ideal) x0 x1)) h r (0 : Fin 1) ?_ rfl rfl rfl
  rw [val_main_v28_apply]
  exact at2 (X := (val_main_v18 (F := Ideal) x0 x1)) h r (hM h r) rfl rfl

/-- The shifted exponentials. -/
theorem e_lat (hq : HC (φ := .bf16) e256 x0 q) (hk : HC (φ := .bf16) e256 x1 k) {M : Fin 8 → Fin 8192 → ℝ} (hM : ∀ h r, ((val_main_v18 (F := Ideal) x0 x1) (ix2 h r) : EReal) = ((M h r : ℝ) : EReal)) :
    R3 (A := 8) (B := 8192) (C := 8448) (φ := .f32) (val_main_v31 (F := Ideal) x0 x1) fun h r j => Real.exp (score (q h) (k h) (latRow r) j - M h r) :=
  R3.exp (X := (val_main_v30 (F := Ideal) x0 x1)) (R3.subf (X := (val_main_v10 (F := Ideal) x0 x1)) (Y := (val_main_v29 (F := Ideal) x0 x1)) (s_lat hq hk) (mb_lat hq hk hM))

/-- Their sums. -/
theorem l_lat (hq : HC (φ := .bf16) e256 x0 q) (hk : HC (φ := .bf16) e256 x1 k) {M : Fin 8 → Fin 8192 → ℝ} (hM : ∀ h r, ((val_main_v18 (F := Ideal) x0 x1) (ix2 h r) : EReal) = ((M h r : ℝ) : EReal)) :
    ∀ h r, ((val_main_v32 (F := Ideal) x0 x1) (ix2 h r) : EReal) = ((∑ i : Fin 8448, Real.exp (score (q h) (k h) (latRow r) i - M h r)) : ℝ) :=
  by
  intro h r
  rw [val_main_v32_apply]
  refine zero_sum (f := fun i : Fin 8448 => Real.exp (score (q h) (k h) (latRow r) i - M h r)) zero_splat fun i => ?_
  exact at3 (X := (val_main_v31 (F := Ideal) x0 x1)) h r i (e_lat hq hk hM h r i) rfl rfl rfl

theorem l3_lat (hq : HC (φ := .bf16) e256 x0 q) (hk : HC (φ := .bf16) e256 x1 k) {M : Fin 8 → Fin 8192 → ℝ} (hM : ∀ h r, ((val_main_v18 (F := Ideal) x0 x1) (ix2 h r) : EReal) = ((M h r : ℝ) : EReal)) :
    R3 (A := 8) (B := 8192) (C := 1) (φ := .f32) (val_main_v33 (F := Ideal) x0 x1) fun h r _ => (∑ i : Fin 8448, Real.exp (score (q h) (k h) (latRow r) i - M h r)) :=
  by
  intro h r u
  rw [val_main_v33_apply]
  exact at2 (X := (val_main_v32 (F := Ideal) x0 x1)) h r (l_lat hq hk hM h r) rfl rfl

theorem lb_lat (hq : HC (φ := .bf16) e256 x0 q) (hk : HC (φ := .bf16) e256 x1 k) {M : Fin 8 → Fin 8192 → ℝ} (hM : ∀ h r, ((val_main_v18 (F := Ideal) x0 x1) (ix2 h r) : EReal) = ((M h r : ℝ) : EReal)) :
    R3 (A := 8) (B := 8192) (C := 8448) (φ := .f32) (val_main_v34 (F := Ideal) x0 x1) fun h r _ => (∑ i : Fin 8448, Real.exp (score (q h) (k h) (latRow r) i - M h r)) :=
  by
  intro h r j
  rw [val_main_v34_apply]
  exact at3 (X := (val_main_v33 (F := Ideal) x0 x1)) h r (0 : Fin 1) (l3_lat hq hk hM h r (0 : Fin 1)) rfl rfl rfl

theorem lb2_lat (hq : HC (φ := .bf16) e256 x0 q) (hk : HC (φ := .bf16) e256 x1 k) {M : Fin 8 → Fin 8192 → ℝ} (hM : ∀ h r, ((val_main_v18 (F := Ideal) x0 x1) (ix2 h r) : EReal) = ((M h r : ℝ) : EReal)) :
    R3 (A := 8) (B := 8192) (C := 8448) (φ := .f32) (val_main_v120 (F := Ideal) x0 x1) fun h r _ => (∑ i : Fin 8448, Real.exp (score (q h) (k h) (latRow r) i - M h r)) :=
  by
  intro h r j
  rw [val_main_v120_apply]
  exact at3 (X := (val_main_v33 (F := Ideal) x0 x1)) h r (0 : Fin 1) (l3_lat hq hk hM h r (0 : Fin 1)) rfl rfl rfl

/-- The probabilities. -/
theorem p_lat (hq : HC (φ := .bf16) e256 x0 q) (hk : HC (φ := .bf16) e256 x1 k) {M : Fin 8 → Fin 8192 → ℝ} (hM : ∀ h r, ((val_main_v18 (F := Ideal) x0 x1) (ix2 h r) : EReal) = ((M h r : ℝ) : EReal)) :
    R3 (A := 8) (B := 8192) (C := 8448) (φ := .f32) (val_main_v35 (F := Ideal) x0 x1) fun h r j => prob (q h) (k h) (latRow r) j :=
  R3.congr (R3.divf (X := (val_main_v31 (F := Ideal) x0 x1)) (Y := (val_main_v34 (F := Ideal) x0 x1)) (e_lat hq hk hM) (lb_lat hq hk hM) fun h r _ => (sum_exp_pos fun i : Fin 8448 => score (q h) (k h) (latRow r) i - M h r).ne') fun h r j =>
    (softmax_shift (fun i : Fin 8448 => score (q h) (k h) (latRow r) i) (M h r) j).trans (prob_lat _ _ _ _).symm

theorem pc_lat (hq : HC (φ := .bf16) e256 x0 q) (hk : HC (φ := .bf16) e256 x1 k) {M : Fin 8 → Fin 8192 → ℝ} (hM : ∀ h r, ((val_main_v18 (F := Ideal) x0 x1) (ix2 h r) : EReal) = ((M h r : ℝ) : EReal)) :
    R3 (A := 8) (B := 8192) (C := 8448) (φ := .f32) (val_main_v35 (F := Ideal) x0 x1) fun h r j => prob (q h) (k h) (latRow r) j :=
  by
  intro h r j
  exact p_lat hq hk hM h r j

theorem i2_lat (hq : HC (φ := .bf16) e256 x0 q) (hk : HC (φ := .bf16) e256 x1 k) {M : Fin 8 → Fin 8192 → ℝ} (hM : ∀ h r, ((val_main_v18 (F := Ideal) x0 x1) (ix2 h r) : EReal) = ((M h r : ℝ) : EReal)) :
    R3 (A := 8) (B := 8192) (C := 1) (φ := .f32) (val_main_v38 (F := Ideal) x0 x1) fun h r _ => 1 / ((∑ i : Fin 8448, Real.exp (score (q h) (k h) (latRow r) i - M h r)) * (∑ i : Fin 8448, Real.exp (score (q h) (k h) (latRow r) i - M h r))) :=
  R3.divf (X := (val_main_v37 (F := Ideal))) (Y := (val_main_v36 (F := Ideal) x0 x1)) (f := fun _ _ _ => 1) (by intro h r u; rw [val_main_v37_apply]; exact lit_one)
     (R3.mulf (X := (val_main_v33 (F := Ideal) x0 x1)) (Y := (val_main_v33 (F := Ideal) x0 x1)) (l3_lat hq hk hM) (l3_lat hq hk hM)) fun h r _ => mul_self_ne_zero.mpr (sum_exp_pos fun i : Fin 8448 => score (q h) (k h) (latRow r) i - M h r).ne'

theorem om_lat (hq : HC (φ := .bf16) e256 x0 q) (hk : HC (φ := .bf16) e256 x1 k) (hv : HC (φ := .bf16) e128 x2 v) {M : Fin 8 → Fin 8192 → ℝ} (hM : ∀ h r, ((val_main_v18 (F := Ideal) x0 x1) (ix2 h r) : EReal) = ((M h r : ℝ) : EReal)) :
    R3 (A := 8) (B := 128) (C := 8192) (φ := .f32) (val_main_v39 (F := Ideal) x0 x1 x2) fun h d r => ∑ j : Fin 8448, v h j d * prob (q h) (k h) (latRow r) j :=
  by
  intro h d r
  rw [val_main_v39_apply]
  refine sum_coe (f := fun j => v h j d * prob (q h) (k h) (latRow r) j) fun j => mul_at ?_ ?_
  · exact at3 (X := (val_main_v5 (F := Ideal) x2)) j h d (v_lat hv j h d) rfl rfl rfl
  · exact at3 (X := (val_main_v35 (F := Ideal) x0 x1)) h r j (pc_lat hq hk hM h r j) rfl rfl rfl

/-- The output. -/
theorem o_lat (hq : HC (φ := .bf16) e256 x0 q) (hk : HC (φ := .bf16) e256 x1 k) (hv : HC (φ := .bf16) e128 x2 v) {M : Fin 8 → Fin 8192 → ℝ} (hM : ∀ h r, ((val_main_v18 (F := Ideal) x0 x1) (ix2 h r) : EReal) = ((M h r : ℝ) : EReal)) :
    R3 (A := 8192) (B := 8) (C := 128) (φ := .f32) (val_main_v40 (F := Ideal) x0 x1 x2) fun r h d => out (q h) (k h) (v h) (latRow r) d :=
  R3.congr (f := fun r h d => ∑ j : Fin 8448, v h j d * prob (q h) (k h) (latRow r) j)
    (by
    intro r h d
    rw [val_main_v40_apply]
    exact at3 (X := (val_main_v39 (F := Ideal) x0 x1 x2)) h d r (om_lat hq hk hv hM h d r) rfl rfl rfl) fun r h d => (out_lat _ _ _ _ _).symm

/-- The derivative with respect to the probabilities. -/
theorem dpd_lat (hv : HC (φ := .bf16) e128 x2 v) (hg : HC (φ := .bf16) e128 x3 g) :
    R3 (A := 8) (B := 8192) (C := 8448) (φ := .f32) (val_main_v110 (F := Ideal) x2 x3) fun h r j => ∑ d, g h (latRow r) d * v h j d :=
  by
  intro h r j
  rw [val_main_v110_apply]
  refine sum_coe (f := fun d => g h (latRow r) d * v h j d) fun d => mul_at ?_ ?_
  · exact at3 (X := (val_main_v109 (F := Ideal) x3)) h d r (gT_lat hg h d r) rfl rfl rfl
  · exact at3 (X := (val_main_v5 (F := Ideal) x2)) j h d (v_lat hv j h d) rfl rfl rfl

theorem dp_lat (hv : HC (φ := .bf16) e128 x2 v) (hg : HC (φ := .bf16) e128 x3 g) :
    R3 (A := 8) (B := 8192) (C := 8448) (φ := .f32) (val_main_v110 (F := Ideal) x2 x3) fun h r j => ∑ d, g h (latRow r) d * v h j d :=
  by
  intro h r j
  exact dpd_lat hv hg h r j

theorem ib_lat (hq : HC (φ := .bf16) e256 x0 q) (hk : HC (φ := .bf16) e256 x1 k) {M : Fin 8 → Fin 8192 → ℝ} (hM : ∀ h r, ((val_main_v18 (F := Ideal) x0 x1) (ix2 h r) : EReal) = ((M h r : ℝ) : EReal)) :
    R3 (A := 8) (B := 8192) (C := 8448) (φ := .f32) (val_main_v114 (F := Ideal) x0 x1) fun h r _ => 1 / ((∑ i : Fin 8448, Real.exp (score (q h) (k h) (latRow r) i - M h r)) * (∑ i : Fin 8448, Real.exp (score (q h) (k h) (latRow r) i - M h r))) :=
  by
  intro h r j
  rw [val_main_v114_apply]
  exact at3 (X := (val_main_v38 (F := Ideal) x0 x1)) h r (0 : Fin 1) (i2_lat hq hk hM h r (0 : Fin 1)) rfl rfl rfl

theorem m2_lat (hq : HC (φ := .bf16) e256 x0 q) (hk : HC (φ := .bf16) e256 x1 k) (hv : HC (φ := .bf16) e128 x2 v) (hg : HC (φ := .bf16) e128 x3 g) {M : Fin 8 → Fin 8192 → ℝ} (hM : ∀ h r, ((val_main_v18 (F := Ideal) x0 x1) (ix2 h r) : EReal) = ((M h r : ℝ) : EReal)) :
    R3 (A := 8) (B := 8192) (C := 8448) (φ := .f32) (val_main_v116 (F := Ideal) x0 x1 x2 x3) fun h r j => (∑ d, g h (latRow r) d * v h j d) * (1 / ((∑ i : Fin 8448, Real.exp (score (q h) (k h) (latRow r) i - M h r)) * (∑ i : Fin 8448, Real.exp (score (q h) (k h) (latRow r) i - M h r)))) * Real.exp (score (q h) (k h) (latRow r) j - M h r) :=
  R3.mulf (X := (val_main_v115 (F := Ideal) x0 x1 x2 x3)) (Y := (val_main_v31 (F := Ideal) x0 x1)) (R3.mulf (X := (val_main_v110 (F := Ideal) x2 x3)) (Y := (val_main_v114 (F := Ideal) x0 x1)) (dp_lat hv hg) (ib_lat hq hk hM)) (e_lat hq hk hM)

theorem sm_lat (hq : HC (φ := .bf16) e256 x0 q) (hk : HC (φ := .bf16) e256 x1 k) (hv : HC (φ := .bf16) e128 x2 v) (hg : HC (φ := .bf16) e128 x3 g) {M : Fin 8 → Fin 8192 → ℝ} (hM : ∀ h r, ((val_main_v18 (F := Ideal) x0 x1) (ix2 h r) : EReal) = ((M h r : ℝ) : EReal)) :
    ∀ h r, ((val_main_v117 (F := Ideal) x0 x1 x2 x3) (ix2 h r) : EReal) = ((∑ i : Fin 8448, (∑ d, g h (latRow r) d * v h i d) * (1 / ((∑ i : Fin 8448, Real.exp (score (q h) (k h) (latRow r) i - M h r)) * (∑ i : Fin 8448, Real.exp (score (q h) (k h) (latRow r) i - M h r)))) * Real.exp (score (q h) (k h) (latRow r) i - M h r) : ℝ) : EReal) :=
  by
  intro h r
  rw [val_main_v117_apply]
  refine zero_sum (f := fun i : Fin 8448 => (∑ d, g h (latRow r) d * v h i d) * (1 / ((∑ i : Fin 8448, Real.exp (score (q h) (k h) (latRow r) i - M h r)) * (∑ i : Fin 8448, Real.exp (score (q h) (k h) (latRow r) i - M h r)))) * Real.exp (score (q h) (k h) (latRow r) i - M h r)) zero_splat fun i => ?_
  exact at3 (X := (val_main_v116 (F := Ideal) x0 x1 x2 x3)) h r i (m2_lat hq hk hv hg hM h r i) rfl rfl rfl

theorem sm3_lat (hq : HC (φ := .bf16) e256 x0 q) (hk : HC (φ := .bf16) e256 x1 k) (hv : HC (φ := .bf16) e128 x2 v) (hg : HC (φ := .bf16) e128 x3 g) {M : Fin 8 → Fin 8192 → ℝ} (hM : ∀ h r, ((val_main_v18 (F := Ideal) x0 x1) (ix2 h r) : EReal) = ((M h r : ℝ) : EReal)) :
    R3 (A := 8) (B := 8192) (C := 1) (φ := .f32) (val_main_v118 (F := Ideal) x0 x1 x2 x3) fun h r _ => ∑ i : Fin 8448, (∑ d, g h (latRow r) d * v h i d) * (1 / ((∑ i : Fin 8448, Real.exp (score (q h) (k h) (latRow r) i - M h r)) * (∑ i : Fin 8448, Real.exp (score (q h) (k h) (latRow r) i - M h r)))) * Real.exp (score (q h) (k h) (latRow r) i - M h r) := fun h r u => by
  have h0 := h.isLt; have h1 := r.isLt; have h2 := u.isLt
  rw [val_main_v118_apply]
  refine at2 (X := (val_main_v117 (F := Ideal) x0 x1 x2 x3)) h r (sm_lat hq hk hv hg hM h r) ?_ ?_
  · show ((h.val * 8192 + r.val) * 1 + u.val) / 8192 = h.val; omega
  · show ((h.val * 8192 + r.val) * 1 + u.val) % 8192 = r.val; omega

theorem neg_lat (hq : HC (φ := .bf16) e256 x0 q) (hk : HC (φ := .bf16) e256 x1 k) (hv : HC (φ := .bf16) e128 x2 v) (hg : HC (φ := .bf16) e128 x3 g) {M : Fin 8 → Fin 8192 → ℝ} (hM : ∀ h r, ((val_main_v18 (F := Ideal) x0 x1) (ix2 h r) : EReal) = ((M h r : ℝ) : EReal)) :
    R3 (A := 8) (B := 8192) (C := 1) (φ := .f32) (val_main_v119 (F := Ideal) x0 x1 x2 x3) fun h r _ => -∑ i : Fin 8448, (∑ d, g h (latRow r) d * v h i d) * (1 / ((∑ i : Fin 8448, Real.exp (score (q h) (k h) (latRow r) i - M h r)) * (∑ i : Fin 8448, Real.exp (score (q h) (k h) (latRow r) i - M h r)))) * Real.exp (score (q h) (k h) (latRow r) i - M h r) :=
  R3.negf (X := (val_main_v118 (F := Ideal) x0 x1 x2 x3)) (sm3_lat hq hk hv hg hM)

theorem s1_lat (hq : HC (φ := .bf16) e256 x0 q) (hk : HC (φ := .bf16) e256 x1 k) (hv : HC (φ := .bf16) e128 x2 v) (hg : HC (φ := .bf16) e128 x3 g) {M : Fin 8 → Fin 8192 → ℝ} (hM : ∀ h r, ((val_main_v18 (F := Ideal) x0 x1) (ix2 h r) : EReal) = ((M h r : ℝ) : EReal)) :
    ∀ h r, ((val_main_v122 (F := Ideal) x0 x1 x2 x3) (ix2 h r) : EReal) = ((-∑ i : Fin 8448, (∑ d, g h (latRow r) d * v h i d) * (1 / ((∑ i : Fin 8448, Real.exp (score (q h) (k h) (latRow r) i - M h r)) * (∑ i : Fin 8448, Real.exp (score (q h) (k h) (latRow r) i - M h r)))) * Real.exp (score (q h) (k h) (latRow r) i - M h r) : ℝ) : EReal) :=
  by
  intro h r
  rw [val_main_v122_apply]
  refine (zero_sum (f := fun _ : Fin 1 => -∑ i : Fin 8448, (∑ d, g h (latRow r) d * v h i d) * (1 / ((∑ i : Fin 8448, Real.exp (score (q h) (k h) (latRow r) i - M h r)) * (∑ i : Fin 8448, Real.exp (score (q h) (k h) (latRow r) i - M h r)))) * Real.exp (score (q h) (k h) (latRow r) i - M h r)) zero_splat fun u => ?_).trans (congrArg Real.toEReal (Fin.sum_univ_one _))
  exact at3 (X := (val_main_v119 (F := Ideal) x0 x1 x2 x3)) h r u (neg_lat hq hk hv hg hM h r u) rfl rfl rfl

theorem sb_lat (hq : HC (φ := .bf16) e256 x0 q) (hk : HC (φ := .bf16) e256 x1 k) (hv : HC (φ := .bf16) e128 x2 v) (hg : HC (φ := .bf16) e128 x3 g) {M : Fin 8 → Fin 8192 → ℝ} (hM : ∀ h r, ((val_main_v18 (F := Ideal) x0 x1) (ix2 h r) : EReal) = ((M h r : ℝ) : EReal)) :
    R3 (A := 8) (B := 8192) (C := 8448) (φ := .f32) (val_main_v123 (F := Ideal) x0 x1 x2 x3) fun h r _ => -∑ i : Fin 8448, (∑ d, g h (latRow r) d * v h i d) * (1 / ((∑ i : Fin 8448, Real.exp (score (q h) (k h) (latRow r) i - M h r)) * (∑ i : Fin 8448, Real.exp (score (q h) (k h) (latRow r) i - M h r)))) * Real.exp (score (q h) (k h) (latRow r) i - M h r) :=
  by
  intro h r j
  rw [val_main_v123_apply]
  exact at2 (X := (val_main_v122 (F := Ideal) x0 x1 x2 x3)) h r (s1_lat hq hk hv hg hM h r) rfl rfl

/-- The derivative with respect to the products of queries and keys. -/
theorem dsf_lat (hq : HC (φ := .bf16) e256 x0 q) (hk : HC (φ := .bf16) e256 x1 k) (hv : HC (φ := .bf16) e128 x2 v) (hg : HC (φ := .bf16) e128 x3 g) {M : Fin 8 → Fin 8192 → ℝ} (hM : ∀ h r, ((val_main_v18 (F := Ideal) x0 x1) (ix2 h r) : EReal) = ((M h r : ℝ) : EReal)) :
    R3 (A := 8) (B := 8192) (C := 8448) (φ := .f32) (val_main_v127 (F := Ideal) x0 x1 x2 x3) fun h r j => dscore (q h) (k h) (v h) (g h) (latRow r) j :=
  R3.congr (R3.divf (X := (val_main_v125 (F := Ideal) x0 x1 x2 x3)) (Y := (val_main_v126 (F := Ideal))) (R3.mulf (X := (val_main_v124 (F := Ideal) x0 x1 x2 x3)) (Y := (val_main_v31 (F := Ideal) x0 x1)) (R3.addf (X := (val_main_v121 (F := Ideal) x0 x1 x2 x3)) (Y := (val_main_v123 (F := Ideal) x0 x1 x2 x3)) (R3.divf (X := (val_main_v110 (F := Ideal) x2 x3)) (Y := (val_main_v120 (F := Ideal) x0 x1)) (dp_lat hv hg) (lb2_lat hq hk hM) fun h r _ => (sum_exp_pos fun i : Fin 8448 => score (q h) (k h) (latRow r) i - M h r).ne') (sb_lat hq hk hv hg hM)) (e_lat hq hk hM)) sqb2_lat fun _ _ _ => sqrt_ne) fun h r j => dscore_lat _ _ _ _ _ _ _

theorem ds_lat (hq : HC (φ := .bf16) e256 x0 q) (hk : HC (φ := .bf16) e256 x1 k) (hv : HC (φ := .bf16) e128 x2 v) (hg : HC (φ := .bf16) e128 x3 g) {M : Fin 8 → Fin 8192 → ℝ} (hM : ∀ h r, ((val_main_v18 (F := Ideal) x0 x1) (ix2 h r) : EReal) = ((M h r : ℝ) : EReal)) :
    R3 (A := 8) (B := 8192) (C := 8448) (φ := .f32) (val_main_v127 (F := Ideal) x0 x1 x2 x3) fun h r j => dscore (q h) (k h) (v h) (g h) (latRow r) j :=
  by
  intro h r j
  exact dsf_lat hq hk hv hg hM h r j

theorem dkd_lat (hq : HC (φ := .bf16) e256 x0 q) (hk : HC (φ := .bf16) e256 x1 k) (hv : HC (φ := .bf16) e128 x2 v) (hg : HC (φ := .bf16) e128 x3 g) {M : Fin 8 → Fin 8192 → ℝ} (hM : ∀ h r, ((val_main_v18 (F := Ideal) x0 x1) (ix2 h r) : EReal) = ((M h r : ℝ) : EReal)) :
    R3 (A := 8) (B := 8448) (C := 256) (φ := .f32) (val_main_v128 (F := Ideal) x0 x1 x2 x3) fun h j d => ∑ r : Fin 8192, dscore (q h) (k h) (v h) (g h) (latRow r) j * q h (latRow r) d :=
  by
  intro h j d
  rw [val_main_v128_apply]
  refine sum_coe (f := fun r => dscore (q h) (k h) (v h) (g h) (latRow r) j * q h (latRow r) d) fun r => mul_at ?_ ?_
  · exact at3 (X := (val_main_v127 (F := Ideal) x0 x1 x2 x3)) h r j (ds_lat hq hk hv hg hM h r j) rfl rfl rfl
  · exact at3 (X := (val_main_v6 (F := Ideal) x0)) r h d (q_lat hq r h d) rfl rfl rfl

theorem dk_lat (hq : HC (φ := .bf16) e256 x0 q) (hk : HC (φ := .bf16) e256 x1 k) (hv : HC (φ := .bf16) e128 x2 v) (hg : HC (φ := .bf16) e128 x3 g) {M : Fin 8 → Fin 8192 → ℝ} (hM : ∀ h r, ((val_main_v18 (F := Ideal) x0 x1) (ix2 h r) : EReal) = ((M h r : ℝ) : EReal)) :
    R3 (A := 8448) (B := 8) (C := 256) (φ := .f32) (val_main_v129 (F := Ideal) x0 x1 x2 x3) fun j h d => ∑ r : Fin 8192, dscore (q h) (k h) (v h) (g h) (latRow r) j * q h (latRow r) d :=
  by
  intro j h d
  rw [val_main_v129_apply]
  exact at3 (X := (val_main_v128 (F := Ideal) x0 x1 x2 x3)) h j d (dkd_lat hq hk hv hg hM h j d) rfl rfl rfl

theorem dqd_lat (hq : HC (φ := .bf16) e256 x0 q) (hk : HC (φ := .bf16) e256 x1 k) (hv : HC (φ := .bf16) e128 x2 v) (hg : HC (φ := .bf16) e128 x3 g) {M : Fin 8 → Fin 8192 → ℝ} (hM : ∀ h r, ((val_main_v18 (F := Ideal) x0 x1) (ix2 h r) : EReal) = ((M h r : ℝ) : EReal)) :
    R3 (A := 8) (B := 8192) (C := 256) (φ := .f32) (val_main_v131 (F := Ideal) x0 x1 x2 x3) fun h r d => ∑ j : Fin 8448, dscore (q h) (k h) (v h) (g h) (latRow r) j * k h j d :=
  by
  intro h r d
  rw [val_main_v131_apply]
  refine sum_coe (f := fun j => dscore (q h) (k h) (v h) (g h) (latRow r) j * k h j d) fun j => mul_at ?_ ?_
  · exact at3 (X := (val_main_v127 (F := Ideal) x0 x1 x2 x3)) h r j (ds_lat hq hk hv hg hM h r j) rfl rfl rfl
  · exact at3 (X := (val_main_v4 (F := Ideal) x1)) j h d (k_lat hk j h d) rfl rfl rfl

theorem dq_lat (hq : HC (φ := .bf16) e256 x0 q) (hk : HC (φ := .bf16) e256 x1 k) (hv : HC (φ := .bf16) e128 x2 v) (hg : HC (φ := .bf16) e128 x3 g) {M : Fin 8 → Fin 8192 → ℝ} (hM : ∀ h r, ((val_main_v18 (F := Ideal) x0 x1) (ix2 h r) : EReal) = ((M h r : ℝ) : EReal)) :
    R3 (A := 8192) (B := 8) (C := 256) (φ := .f32) (val_main_v132 (F := Ideal) x0 x1 x2 x3) fun r h d => dqry (q h) (k h) (v h) (g h) (latRow r) d :=
  R3.congr (f := fun r h d => ∑ j : Fin 8448, dscore (q h) (k h) (v h) (g h) (latRow r) j * k h j d)
    (by
    intro r h d
    rw [val_main_v132_apply]
    exact at3 (X := (val_main_v131 (F := Ideal) x0 x1 x2 x3)) h r d (dqd_lat hq hk hv hg hM h r d) rfl rfl rfl) fun r h d => (dqry_lat _ _ _ _ _ _).symm

theorem dvd_lat (hq : HC (φ := .bf16) e256 x0 q) (hk : HC (φ := .bf16) e256 x1 k) (hg : HC (φ := .bf16) e128 x3 g) {M : Fin 8 → Fin 8192 → ℝ} (hM : ∀ h r, ((val_main_v18 (F := Ideal) x0 x1) (ix2 h r) : EReal) = ((M h r : ℝ) : EReal)) :
    R3 (A := 8) (B := 128) (C := 8448) (φ := .f32) (val_main_v111 (F := Ideal) x0 x1 x3) fun h d j => ∑ r : Fin 8192, g h (latRow r) d * prob (q h) (k h) (latRow r) j :=
  by
  intro h d j
  rw [val_main_v111_apply]
  refine sum_coe (f := fun r => g h (latRow r) d * prob (q h) (k h) (latRow r) j) fun r => mul_at ?_ ?_
  · exact at3 (X := (val_main_v109 (F := Ideal) x3)) h d r (gT_lat hg h d r) rfl rfl rfl
  · exact at3 (X := (val_main_v35 (F := Ideal) x0 x1)) h r j (pc_lat hq hk hM h r j) rfl rfl rfl

theorem dv_lat (hq : HC (φ := .bf16) e256 x0 q) (hk : HC (φ := .bf16) e256 x1 k) (hg : HC (φ := .bf16) e128 x3 g) {M : Fin 8 → Fin 8192 → ℝ} (hM : ∀ h r, ((val_main_v18 (F := Ideal) x0 x1) (ix2 h r) : EReal) = ((M h r : ℝ) : EReal)) :
    R3 (A := 8448) (B := 8) (C := 128) (φ := .f32) (val_main_v112 (F := Ideal) x0 x1 x3) fun j h d => ∑ r : Fin 8192, g h (latRow r) d * prob (q h) (k h) (latRow r) j :=
  by
  intro j h d
  rw [val_main_v112_apply]
  exact at3 (X := (val_main_v111 (F := Ideal) x0 x1 x3)) h d j (dvd_lat hq hk hg hM h d j) rfl rfl rfl

end Cert.ReferenceIdeal.Own

end
-- ==== Proof.Value.RefCtx.lean ====
/- The reference for the queries of the context rows, one operation at a time, over the extended reals. -/
module

public import proofs.«01_k».proof.Proof.Value.Ref

@[expose] public section

set_option maxRecDepth 16384

noncomputable section

namespace Cert.ReferenceIdeal.Own

open Idealize.ShloMosaic Idealize.ShloMosaic.ValueIdx
open Cert.ReferenceIdeal Cert.ReferenceIdeal.Gen Cert.ReferenceIdeal.Read Cert.RealCalc
open scoped BigOperators

variable {x0 x1 : FVec Ideal S8448x2048 .bf16} {x2 x3 : FVec Ideal S8448x1024 .bf16} {q k : Heads 256} {v g : Heads 128}

/-! ## The context queries -/

theorem weight_ctx (q k : Fin 8448 → Fin 256 → ℝ) (r j : Fin 256) : weight q k (ctxRow r) (ctxRow j) = Real.exp (score q k (ctxRow r) (ctxRow j)) :=
  if_pos (Or.inr (Nat.le_add_right _ _))

theorem sum_ctx (q k : Fin 8448 → Fin 256 → ℝ) (r : Fin 256) (f : Fin 8448 → ℝ) :
    ∑ j, weight q k (ctxRow r) j * f j = ∑ j, weight q k (ctxRow r) (ctxRow j) * f (ctxRow j) :=
  sum_last _ fun j hj => by rw [weight_far q k (Nat.le_add_right _ _) hj, zero_mul]

/-- The probabilities of these queries. -/
theorem prob_ctx (q k : Fin 8448 → Fin 256 → ℝ) (r : Fin 256) (j : Fin 256) :
    prob q k (ctxRow r) (ctxRow j) = Real.exp (score q k (ctxRow r) (ctxRow j)) / ∑ i : Fin 256, Real.exp (score q k (ctxRow r) (ctxRow i)) := by
  unfold prob total
  have e := sum_ctx q k r fun _ => 1
  simp only [mul_one] at e
  rw [e]
  simp only [weight_ctx]

/-- Their output is the mean of the values. -/
theorem out_ctx (q k : Fin 8448 → Fin 256 → ℝ) (v : Fin 8448 → Fin 128 → ℝ) (r : Fin 256) (d : Fin 128) :
    out q k v (ctxRow r) d = ∑ j : Fin 256, v (ctxRow j) d * prob q k (ctxRow r) (ctxRow j) := by
  unfold out
  rw [sum_ctx q k r fun j => v j d, Finset.sum_div]
  refine Finset.sum_congr rfl fun j _ => ?_
  unfold prob
  ring

/-- The output's share of the derivative, over the probabilities. -/
theorem delta_ctx (q k : Fin 8448 → Fin 256 → ℝ) (v g : Fin 8448 → Fin 128 → ℝ) (r : Fin 256) :
    ∑ d, g (ctxRow r) d * out q k v (ctxRow r) d = ∑ i : Fin 256, prob q k (ctxRow r) (ctxRow i) * ∑ d, g (ctxRow r) d * v (ctxRow i) d := by
  simp only [out_ctx, Finset.mul_sum]
  rw [Finset.sum_comm]
  refine Finset.sum_congr rfl fun i _ => Finset.sum_congr rfl fun d _ => ?_
  ring

/-- The derivative with respect to their scores. -/
theorem dscore_ctx (q k : Fin 8448 → Fin 256 → ℝ) (v g : Fin 8448 → Fin 128 → ℝ) (r : Fin 256) (j : Fin 256) (M : ℝ) :
    ((∑ d, g (ctxRow r) d * v (ctxRow j) d) / (∑ i : Fin 256, Real.exp (score q k (ctxRow r) (ctxRow i) - M))
      + -∑ i : Fin 256, (∑ d, g (ctxRow r) d * v (ctxRow i) d) * (1 / ((∑ i : Fin 256, Real.exp (score q k (ctxRow r) (ctxRow i) - M)) * ∑ i : Fin 256, Real.exp (score q k (ctxRow r) (ctxRow i) - M)))
        * Real.exp (score q k (ctxRow r) (ctxRow i) - M)) * Real.exp (score q k (ctxRow r) (ctxRow j) - M) / Real.sqrt 192 = dscore q k v g (ctxRow r) (ctxRow j) := by
  refine (softmax_deriv (fun i : Fin 256 => score q k (ctxRow r) (ctxRow i)) (fun i : Fin 256 => ∑ d, g (ctxRow r) d * v (ctxRow i) d) M (Real.sqrt 192) j).trans ?_
  unfold dscore
  rw [delta_ctx]
  simp only [prob_ctx]

/-- Their queries' derivative. -/
theorem dqry_ctx (q k : Fin 8448 → Fin 256 → ℝ) (v g : Fin 8448 → Fin 128 → ℝ) (r : Fin 256) (d : Fin 256) :
    dqry q k v g (ctxRow r) d = ∑ j : Fin 256, dscore q k v g (ctxRow r) (ctxRow j) * k (ctxRow j) d := by
  unfold dqry
  exact sum_last _ fun j hj => by rw [dscore_far q k v g (Nat.le_add_right _ _) hj, zero_mul]

theorem q_ctx (hq : HC (φ := .bf16) e256 x0 q) :
    R3 (A := 256) (B := 8) (C := 256) (φ := .f32) (val_main_v41 (F := Ideal) x0) fun r h d => q h (ctxRow r) d :=
  by
  intro r h d
  rw [val_main_v41_apply]
  exact at3 (X := (val_main_v3 (F := Ideal) x0)) (ctxRow r) h d (arg_q hq (ctxRow r) h d) rfl rfl rfl

theorem k_ctx (hk : HC (φ := .bf16) e256 x1 k) :
    R3 (A := 256) (B := 8) (C := 256) (φ := .f32) (val_main_v42 (F := Ideal) x1) fun r h d => k h (ctxRow r) d :=
  by
  intro r h d
  rw [val_main_v42_apply]
  exact at3 (X := (val_main_v4 (F := Ideal) x1)) (ctxRow r) h d (arg_k hk (ctxRow r) h d) rfl rfl rfl

theorem v_ctx (hv : HC (φ := .bf16) e128 x2 v) :
    R3 (A := 256) (B := 8) (C := 128) (φ := .f32) (val_main_v43 (F := Ideal) x2) fun r h d => v h (ctxRow r) d :=
  by
  intro r h d
  rw [val_main_v43_apply]
  exact at3 (X := (val_main_v5 (F := Ideal) x2)) (ctxRow r) h d (arg_v hv (ctxRow r) h d) rfl rfl rfl

theorem g_ctx (hg : HC (φ := .bf16) e128 x3 g) :
    R3 (A := 256) (B := 8) (C := 128) (φ := .f32) (val_main_v83 (F := Ideal) x3) fun r h d => g h (ctxRow r) d :=
  by
  intro r h d
  rw [val_main_v83_apply]
  exact at3 (X := (val_main_v81 (F := Ideal) x3)) (ctxRow r) h d (arg_g hg (ctxRow r) h d) rfl rfl rfl

theorem gT_ctx (hg : HC (φ := .bf16) e128 x3 g) :
    R3 (A := 8) (B := 128) (C := 256) (φ := .f32) (val_main_v84 (F := Ideal) x3) fun h d r => g h (ctxRow r) d :=
  by
  intro h d r
  rw [val_main_v84_apply]
  refine at3 (X := (val_main_v83 (F := Ideal) x3)) r h d ?_ rfl rfl rfl
  exact g_ctx hg r h d

theorem sq_ctx (i : S_.Idx) : ((val_main_v45 (F := Ideal)) i : EReal) = ((Real.sqrt 192 : ℝ) : EReal) := by
  refine (val_main_v45_apply i).trans ?_
  show Ideal.sqrt (Ideal.ofBits .f32 0x43400000#32) = _
  rw [lit_192, Ideal.sqrt_coe, if_neg (by norm_num)]

theorem sqb_ctx : R3 (A := 8) (B := 256) (C := 256) (φ := .f32) (val_main_v46 (F := Ideal)) fun _ _ _ => Real.sqrt 192 := by
  intro h r j
  rw [val_main_v46_apply]
  exact sq_ctx _

theorem sqb2_ctx : R3 (A := 8) (B := 256) (C := 256) (φ := .f32) (val_main_v100 (F := Ideal)) fun _ _ _ => Real.sqrt 192 := by
  intro h r j
  rw [val_main_v100_apply]
  exact sq_ctx _

theorem dot_ctx (hq : HC (φ := .bf16) e256 x0 q) (hk : HC (φ := .bf16) e256 x1 k) :
    R3 (A := 8) (B := 256) (C := 256) (φ := .f32) (val_main_v44 (F := Ideal) x0 x1) fun h r j => ∑ d, q h (ctxRow r) d * k h (ctxRow j) d :=
  by
  intro h r j
  rw [val_main_v44_apply]
  refine sum_coe (f := fun z => q h (ctxRow r) z * k h (ctxRow j) z) fun z => mul_at ?_ ?_
  · exact at3 (X := (val_main_v41 (F := Ideal) x0)) r h z (q_ctx hq r h z) rfl rfl rfl
  · exact at3 (X := (val_main_v42 (F := Ideal) x1)) j h z (k_ctx hk j h z) rfl rfl rfl

theorem dotc_ctx (hq : HC (φ := .bf16) e256 x0 q) (hk : HC (φ := .bf16) e256 x1 k) :
    R3 (A := 8) (B := 256) (C := 256) (φ := .f32) (val_main_v44 (F := Ideal) x0 x1) fun h r j => ∑ d, q h (ctxRow r) d * k h (ctxRow j) d :=
  by
  intro h r j
  exact dot_ctx hq hk h r j

/-- The scores. -/
theorem s_ctx (hq : HC (φ := .bf16) e256 x0 q) (hk : HC (φ := .bf16) e256 x1 k) :
    R3 (A := 8) (B := 256) (C := 256) (φ := .f32) (val_main_v47 (F := Ideal) x0 x1) fun h r j => score (q h) (k h) (ctxRow r) (ctxRow j) :=
  R3.congr (R3.divf (X := (val_main_v44 (F := Ideal) x0 x1)) (Y := (val_main_v46 (F := Ideal))) (dotc_ctx hq hk) sqb_ctx fun _ _ _ => sqrt_ne) fun h r j => div_eq_mul_inv _ _

theorem max_ctx (hq : HC (φ := .bf16) e256 x0 q) (hk : HC (φ := .bf16) e256 x1 k) : ∃ M : Fin 8 → Fin 256 → ℝ, ∀ h r, ((val_main_v55 (F := Ideal) x0 x1) (ix2 h r) : EReal) = ((M h r : ℝ) : EReal) := by
  obtain ⟨M, hM⟩ := R3.rowMax (s_ctx hq hk) (by norm_num) (val_main_cst_11 (F := Ideal)) reducesTo_S8x256x256_S8x256_d2 h_S_ lit_bot
  refine ⟨M, fun h r => ?_⟩
  rw [val_main_v55_apply]
  have e : ((val_main_v54 (F := Ideal)) (ix2 h r) : EReal) = ⊥ := by rw [val_main_v54_apply]; exact lit_bot
  show max ((val_main_v54 (F := Ideal)) (ix2 h r) : EReal) ((val_main_v48 (F := Ideal) x0 x1) (ix2 h r)) = _
  rw [e, max_eq_right bot_le]
  exact hM h r

theorem mb_ctx (hq : HC (φ := .bf16) e256 x0 q) (hk : HC (φ := .bf16) e256 x1 k) {M : Fin 8 → Fin 256 → ℝ} (hM : ∀ h r, ((val_main_v55 (F := Ideal) x0 x1) (ix2 h r) : EReal) = ((M h r : ℝ) : EReal)) :
    R3 (A := 8) (B := 256) (C := 256) (φ := .f32) (val_main_v66 (F := Ideal) x0 x1) fun h r _ => M h r :=
  by
  intro h r j
  rw [val_main_v66_apply]
  refine at3 (X := (val_main_v65 (F := Ideal) x0 x1)) h r (0 : Fin 1) ?_ rfl rfl rfl
  rw [val_main_v65_apply]
  exact at2 (X := (val_main_v55 (F := Ideal) x0 x1)) h r (hM h r) rfl rfl

/-- The shifted exponentials. -/
theorem e_ctx (hq : HC (φ := .bf16) e256 x0 q) (hk : HC (φ := .bf16) e256 x1 k) {M : Fin 8 → Fin 256 → ℝ} (hM : ∀ h r, ((val_main_v55 (F := Ideal) x0 x1) (ix2 h r) : EReal) = ((M h r : ℝ) : EReal)) :
    R3 (A := 8) (B := 256) (C := 256) (φ := .f32) (val_main_v68 (F := Ideal) x0 x1) fun h r j => Real.exp (score (q h) (k h) (ctxRow r) (ctxRow j) - M h r) :=
  R3.exp (X := (val_main_v67 (F := Ideal) x0 x1)) (R3.subf (X := (val_main_v47 (F := Ideal) x0 x1)) (Y := (val_main_v66 (F := Ideal) x0 x1)) (s_ctx hq hk) (mb_ctx hq hk hM))

/-- Their sums. -/
theorem l_ctx (hq : HC (φ := .bf16) e256 x0 q) (hk : HC (φ := .bf16) e256 x1 k) {M : Fin 8 → Fin 256 → ℝ} (hM : ∀ h r, ((val_main_v55 (F := Ideal) x0 x1) (ix2 h r) : EReal) = ((M h r : ℝ) : EReal)) :
    ∀ h r, ((val_main_v69 (F := Ideal) x0 x1) (ix2 h r) : EReal) = ((∑ i : Fin 256, Real.exp (score (q h) (k h) (ctxRow r) (ctxRow i) - M h r)) : ℝ) :=
  by
  intro h r
  rw [val_main_v69_apply]
  refine zero_sum (f := fun i : Fin 256 => Real.exp (score (q h) (k h) (ctxRow r) (ctxRow i) - M h r)) zero_splat fun i => ?_
  exact at3 (X := (val_main_v68 (F := Ideal) x0 x1)) h r i (e_ctx hq hk hM h r i) rfl rfl rfl

theorem l3_ctx (hq : HC (φ := .bf16) e256 x0 q) (hk : HC (φ := .bf16) e256 x1 k) {M : Fin 8 → Fin 256 → ℝ} (hM : ∀ h r, ((val_main_v55 (F := Ideal) x0 x1) (ix2 h r) : EReal) = ((M h r : ℝ) : EReal)) :
    R3 (A := 8) (B := 256) (C := 1) (φ := .f32) (val_main_v70 (F := Ideal) x0 x1) fun h r _ => (∑ i : Fin 256, Real.exp (score (q h) (k h) (ctxRow r) (ctxRow i) - M h r)) :=
  by
  intro h r u
  rw [val_main_v70_apply]
  exact at2 (X := (val_main_v69 (F := Ideal) x0 x1)) h r (l_ctx hq hk hM h r) rfl rfl

theorem lb_ctx (hq : HC (φ := .bf16) e256 x0 q) (hk : HC (φ := .bf16) e256 x1 k) {M : Fin 8 → Fin 256 → ℝ} (hM : ∀ h r, ((val_main_v55 (F := Ideal) x0 x1) (ix2 h r) : EReal) = ((M h r : ℝ) : EReal)) :
    R3 (A := 8) (B := 256) (C := 256) (φ := .f32) (val_main_v71 (F := Ideal) x0 x1) fun h r _ => (∑ i : Fin 256, Real.exp (score (q h) (k h) (ctxRow r) (ctxRow i) - M h r)) :=
  by
  intro h r j
  rw [val_main_v71_apply]
  exact at3 (X := (val_main_v70 (F := Ideal) x0 x1)) h r (0 : Fin 1) (l3_ctx hq hk hM h r (0 : Fin 1)) rfl rfl rfl

theorem lb2_ctx (hq : HC (φ := .bf16) e256 x0 q) (hk : HC (φ := .bf16) e256 x1 k) {M : Fin 8 → Fin 256 → ℝ} (hM : ∀ h r, ((val_main_v55 (F := Ideal) x0 x1) (ix2 h r) : EReal) = ((M h r : ℝ) : EReal)) :
    R3 (A := 8) (B := 256) (C := 256) (φ := .f32) (val_main_v94 (F := Ideal) x0 x1) fun h r _ => (∑ i : Fin 256, Real.exp (score (q h) (k h) (ctxRow r) (ctxRow i) - M h r)) :=
  by
  intro h r j
  rw [val_main_v94_apply]
  exact at3 (X := (val_main_v70 (F := Ideal) x0 x1)) h r (0 : Fin 1) (l3_ctx hq hk hM h r (0 : Fin 1)) rfl rfl rfl

/-- The probabilities. -/
theorem p_ctx (hq : HC (φ := .bf16) e256 x0 q) (hk : HC (φ := .bf16) e256 x1 k) {M : Fin 8 → Fin 256 → ℝ} (hM : ∀ h r, ((val_main_v55 (F := Ideal) x0 x1) (ix2 h r) : EReal) = ((M h r : ℝ) : EReal)) :
    R3 (A := 8) (B := 256) (C := 256) (φ := .f32) (val_main_v72 (F := Ideal) x0 x1) fun h r j => prob (q h) (k h) (ctxRow r) (ctxRow j) :=
  R3.congr (R3.divf (X := (val_main_v68 (F := Ideal) x0 x1)) (Y := (val_main_v71 (F := Ideal) x0 x1)) (e_ctx hq hk hM) (lb_ctx hq hk hM) fun h r _ => (sum_exp_pos fun i : Fin 256 => score (q h) (k h) (ctxRow r) (ctxRow i) - M h r).ne') fun h r j =>
    (softmax_shift (fun i : Fin 256 => score (q h) (k h) (ctxRow r) (ctxRow i)) (M h r) j).trans (prob_ctx _ _ _ _).symm

theorem pc_ctx (hq : HC (φ := .bf16) e256 x0 q) (hk : HC (φ := .bf16) e256 x1 k) {M : Fin 8 → Fin 256 → ℝ} (hM : ∀ h r, ((val_main_v55 (F := Ideal) x0 x1) (ix2 h r) : EReal) = ((M h r : ℝ) : EReal)) :
    R3 (A := 8) (B := 256) (C := 256) (φ := .f32) (val_main_v72 (F := Ideal) x0 x1) fun h r j => prob (q h) (k h) (ctxRow r) (ctxRow j) :=
  by
  intro h r j
  exact p_ctx hq hk hM h r j

theorem i2_ctx (hq : HC (φ := .bf16) e256 x0 q) (hk : HC (φ := .bf16) e256 x1 k) {M : Fin 8 → Fin 256 → ℝ} (hM : ∀ h r, ((val_main_v55 (F := Ideal) x0 x1) (ix2 h r) : EReal) = ((M h r : ℝ) : EReal)) :
    R3 (A := 8) (B := 256) (C := 1) (φ := .f32) (val_main_v75 (F := Ideal) x0 x1) fun h r _ => 1 / ((∑ i : Fin 256, Real.exp (score (q h) (k h) (ctxRow r) (ctxRow i) - M h r)) * (∑ i : Fin 256, Real.exp (score (q h) (k h) (ctxRow r) (ctxRow i) - M h r))) :=
  R3.divf (X := (val_main_v74 (F := Ideal))) (Y := (val_main_v73 (F := Ideal) x0 x1)) (f := fun _ _ _ => 1) (by intro h r u; rw [val_main_v74_apply]; exact lit_one)
     (R3.mulf (X := (val_main_v70 (F := Ideal) x0 x1)) (Y := (val_main_v70 (F := Ideal) x0 x1)) (l3_ctx hq hk hM) (l3_ctx hq hk hM)) fun h r _ => mul_self_ne_zero.mpr (sum_exp_pos fun i : Fin 256 => score (q h) (k h) (ctxRow r) (ctxRow i) - M h r).ne'

theorem om_ctx (hq : HC (φ := .bf16) e256 x0 q) (hk : HC (φ := .bf16) e256 x1 k) (hv : HC (φ := .bf16) e128 x2 v) {M : Fin 8 → Fin 256 → ℝ} (hM : ∀ h r, ((val_main_v55 (F := Ideal) x0 x1) (ix2 h r) : EReal) = ((M h r : ℝ) : EReal)) :
    R3 (A := 8) (B := 128) (C := 256) (φ := .f32) (val_main_v76 (F := Ideal) x0 x1 x2) fun h d r => ∑ j : Fin 256, v h (ctxRow j) d * prob (q h) (k h) (ctxRow r) (ctxRow j) :=
  by
  intro h d r
  rw [val_main_v76_apply]
  refine sum_coe (f := fun j => v h (ctxRow j) d * prob (q h) (k h) (ctxRow r) (ctxRow j)) fun j => mul_at ?_ ?_
  · exact at3 (X := (val_main_v43 (F := Ideal) x2)) j h d (v_ctx hv j h d) rfl rfl rfl
  · exact at3 (X := (val_main_v72 (F := Ideal) x0 x1)) h r j (pc_ctx hq hk hM h r j) rfl rfl rfl

/-- The output. -/
theorem o_ctx (hq : HC (φ := .bf16) e256 x0 q) (hk : HC (φ := .bf16) e256 x1 k) (hv : HC (φ := .bf16) e128 x2 v) {M : Fin 8 → Fin 256 → ℝ} (hM : ∀ h r, ((val_main_v55 (F := Ideal) x0 x1) (ix2 h r) : EReal) = ((M h r : ℝ) : EReal)) :
    R3 (A := 256) (B := 8) (C := 128) (φ := .f32) (val_main_v77 (F := Ideal) x0 x1 x2) fun r h d => out (q h) (k h) (v h) (ctxRow r) d :=
  R3.congr (f := fun r h d => ∑ j : Fin 256, v h (ctxRow j) d * prob (q h) (k h) (ctxRow r) (ctxRow j))
    (by
    intro r h d
    rw [val_main_v77_apply]
    exact at3 (X := (val_main_v76 (F := Ideal) x0 x1 x2)) h d r (om_ctx hq hk hv hM h d r) rfl rfl rfl) fun r h d => (out_ctx _ _ _ _ _).symm

/-- The derivative with respect to the probabilities. -/
theorem dpd_ctx (hv : HC (φ := .bf16) e128 x2 v) (hg : HC (φ := .bf16) e128 x3 g) :
    R3 (A := 8) (B := 256) (C := 256) (φ := .f32) (val_main_v85 (F := Ideal) x2 x3) fun h r j => ∑ d, g h (ctxRow r) d * v h (ctxRow j) d :=
  by
  intro h r j
  rw [val_main_v85_apply]
  refine sum_coe (f := fun d => g h (ctxRow r) d * v h (ctxRow j) d) fun d => mul_at ?_ ?_
  · exact at3 (X := (val_main_v84 (F := Ideal) x3)) h d r (gT_ctx hg h d r) rfl rfl rfl
  · exact at3 (X := (val_main_v43 (F := Ideal) x2)) j h d (v_ctx hv j h d) rfl rfl rfl

theorem dp_ctx (hv : HC (φ := .bf16) e128 x2 v) (hg : HC (φ := .bf16) e128 x3 g) :
    R3 (A := 8) (B := 256) (C := 256) (φ := .f32) (val_main_v85 (F := Ideal) x2 x3) fun h r j => ∑ d, g h (ctxRow r) d * v h (ctxRow j) d :=
  by
  intro h r j
  exact dpd_ctx hv hg h r j

theorem ib_ctx (hq : HC (φ := .bf16) e256 x0 q) (hk : HC (φ := .bf16) e256 x1 k) {M : Fin 8 → Fin 256 → ℝ} (hM : ∀ h r, ((val_main_v55 (F := Ideal) x0 x1) (ix2 h r) : EReal) = ((M h r : ℝ) : EReal)) :
    R3 (A := 8) (B := 256) (C := 256) (φ := .f32) (val_main_v88 (F := Ideal) x0 x1) fun h r _ => 1 / ((∑ i : Fin 256, Real.exp (score (q h) (k h) (ctxRow r) (ctxRow i) - M h r)) * (∑ i : Fin 256, Real.exp (score (q h) (k h) (ctxRow r) (ctxRow i) - M h r))) :=
  by
  intro h r j
  rw [val_main_v88_apply]
  exact at3 (X := (val_main_v75 (F := Ideal) x0 x1)) h r (0 : Fin 1) (i2_ctx hq hk hM h r (0 : Fin 1)) rfl rfl rfl

theorem m2_ctx (hq : HC (φ := .bf16) e256 x0 q) (hk : HC (φ := .bf16) e256 x1 k) (hv : HC (φ := .bf16) e128 x2 v) (hg : HC (φ := .bf16) e128 x3 g) {M : Fin 8 → Fin 256 → ℝ} (hM : ∀ h r, ((val_main_v55 (F := Ideal) x0 x1) (ix2 h r) : EReal) = ((M h r : ℝ) : EReal)) :
    R3 (A := 8) (B := 256) (C := 256) (φ := .f32) (val_main_v90 (F := Ideal) x0 x1 x2 x3) fun h r j => (∑ d, g h (ctxRow r) d * v h (ctxRow j) d) * (1 / ((∑ i : Fin 256, Real.exp (score (q h) (k h) (ctxRow r) (ctxRow i) - M h r)) * (∑ i : Fin 256, Real.exp (score (q h) (k h) (ctxRow r) (ctxRow i) - M h r)))) * Real.exp (score (q h) (k h) (ctxRow r) (ctxRow j) - M h r) :=
  R3.mulf (X := (val_main_v89 (F := Ideal) x0 x1 x2 x3)) (Y := (val_main_v68 (F := Ideal) x0 x1)) (R3.mulf (X := (val_main_v85 (F := Ideal) x2 x3)) (Y := (val_main_v88 (F := Ideal) x0 x1)) (dp_ctx hv hg) (ib_ctx hq hk hM)) (e_ctx hq hk hM)

theorem sm_ctx (hq : HC (φ := .bf16) e256 x0 q) (hk : HC (φ := .bf16) e256 x1 k) (hv : HC (φ := .bf16) e128 x2 v) (hg : HC (φ := .bf16) e128 x3 g) {M : Fin 8 → Fin 256 → ℝ} (hM : ∀ h r, ((val_main_v55 (F := Ideal) x0 x1) (ix2 h r) : EReal) = ((M h r : ℝ) : EReal)) :
    ∀ h r, ((val_main_v91 (F := Ideal) x0 x1 x2 x3) (ix2 h r) : EReal) = ((∑ i : Fin 256, (∑ d, g h (ctxRow r) d * v h (ctxRow i) d) * (1 / ((∑ i : Fin 256, Real.exp (score (q h) (k h) (ctxRow r) (ctxRow i) - M h r)) * (∑ i : Fin 256, Real.exp (score (q h) (k h) (ctxRow r) (ctxRow i) - M h r)))) * Real.exp (score (q h) (k h) (ctxRow r) (ctxRow i) - M h r) : ℝ) : EReal) :=
  by
  intro h r
  rw [val_main_v91_apply]
  refine zero_sum (f := fun i : Fin 256 => (∑ d, g h (ctxRow r) d * v h (ctxRow i) d) * (1 / ((∑ i : Fin 256, Real.exp (score (q h) (k h) (ctxRow r) (ctxRow i) - M h r)) * (∑ i : Fin 256, Real.exp (score (q h) (k h) (ctxRow r) (ctxRow i) - M h r)))) * Real.exp (score (q h) (k h) (ctxRow r) (ctxRow i) - M h r)) zero_splat fun i => ?_
  exact at3 (X := (val_main_v90 (F := Ideal) x0 x1 x2 x3)) h r i (m2_ctx hq hk hv hg hM h r i) rfl rfl rfl

theorem sm3_ctx (hq : HC (φ := .bf16) e256 x0 q) (hk : HC (φ := .bf16) e256 x1 k) (hv : HC (φ := .bf16) e128 x2 v) (hg : HC (φ := .bf16) e128 x3 g) {M : Fin 8 → Fin 256 → ℝ} (hM : ∀ h r, ((val_main_v55 (F := Ideal) x0 x1) (ix2 h r) : EReal) = ((M h r : ℝ) : EReal)) :
    R3 (A := 8) (B := 256) (C := 1) (φ := .f32) (val_main_v92 (F := Ideal) x0 x1 x2 x3) fun h r _ => ∑ i : Fin 256, (∑ d, g h (ctxRow r) d * v h (ctxRow i) d) * (1 / ((∑ i : Fin 256, Real.exp (score (q h) (k h) (ctxRow r) (ctxRow i) - M h r)) * (∑ i : Fin 256, Real.exp (score (q h) (k h) (ctxRow r) (ctxRow i) - M h r)))) * Real.exp (score (q h) (k h) (ctxRow r) (ctxRow i) - M h r) := fun h r u => by
  have h0 := h.isLt; have h1 := r.isLt; have h2 := u.isLt
  rw [val_main_v92_apply]
  refine at2 (X := (val_main_v91 (F := Ideal) x0 x1 x2 x3)) h r (sm_ctx hq hk hv hg hM h r) ?_ ?_
  · show ((h.val * 256 + r.val) * 1 + u.val) / 256 = h.val; omega
  · show ((h.val * 256 + r.val) * 1 + u.val) % 256 = r.val; omega

theorem neg_ctx (hq : HC (φ := .bf16) e256 x0 q) (hk : HC (φ := .bf16) e256 x1 k) (hv : HC (φ := .bf16) e128 x2 v) (hg : HC (φ := .bf16) e128 x3 g) {M : Fin 8 → Fin 256 → ℝ} (hM : ∀ h r, ((val_main_v55 (F := Ideal) x0 x1) (ix2 h r) : EReal) = ((M h r : ℝ) : EReal)) :
    R3 (A := 8) (B := 256) (C := 1) (φ := .f32) (val_main_v93 (F := Ideal) x0 x1 x2 x3) fun h r _ => -∑ i : Fin 256, (∑ d, g h (ctxRow r) d * v h (ctxRow i) d) * (1 / ((∑ i : Fin 256, Real.exp (score (q h) (k h) (ctxRow r) (ctxRow i) - M h r)) * (∑ i : Fin 256, Real.exp (score (q h) (k h) (ctxRow r) (ctxRow i) - M h r)))) * Real.exp (score (q h) (k h) (ctxRow r) (ctxRow i) - M h r) :=
  R3.negf (X := (val_main_v92 (F := Ideal) x0 x1 x2 x3)) (sm3_ctx hq hk hv hg hM)

theorem s1_ctx (hq : HC (φ := .bf16) e256 x0 q) (hk : HC (φ := .bf16) e256 x1 k) (hv : HC (φ := .bf16) e128 x2 v) (hg : HC (φ := .bf16) e128 x3 g) {M : Fin 8 → Fin 256 → ℝ} (hM : ∀ h r, ((val_main_v55 (F := Ideal) x0 x1) (ix2 h r) : EReal) = ((M h r : ℝ) : EReal)) :
    ∀ h r, ((val_main_v96 (F := Ideal) x0 x1 x2 x3) (ix2 h r) : EReal) = ((-∑ i : Fin 256, (∑ d, g h (ctxRow r) d * v h (ctxRow i) d) * (1 / ((∑ i : Fin 256, Real.exp (score (q h) (k h) (ctxRow r) (ctxRow i) - M h r)) * (∑ i : Fin 256, Real.exp (score (q h) (k h) (ctxRow r) (ctxRow i) - M h r)))) * Real.exp (score (q h) (k h) (ctxRow r) (ctxRow i) - M h r) : ℝ) : EReal) :=
  by
  intro h r
  rw [val_main_v96_apply]
  refine (zero_sum (f := fun _ : Fin 1 => -∑ i : Fin 256, (∑ d, g h (ctxRow r) d * v h (ctxRow i) d) * (1 / ((∑ i : Fin 256, Real.exp (score (q h) (k h) (ctxRow r) (ctxRow i) - M h r)) * (∑ i : Fin 256, Real.exp (score (q h) (k h) (ctxRow r) (ctxRow i) - M h r)))) * Real.exp (score (q h) (k h) (ctxRow r) (ctxRow i) - M h r)) zero_splat fun u => ?_).trans (congrArg Real.toEReal (Fin.sum_univ_one _))
  exact at3 (X := (val_main_v93 (F := Ideal) x0 x1 x2 x3)) h r u (neg_ctx hq hk hv hg hM h r u) rfl rfl rfl

theorem sb_ctx (hq : HC (φ := .bf16) e256 x0 q) (hk : HC (φ := .bf16) e256 x1 k) (hv : HC (φ := .bf16) e128 x2 v) (hg : HC (φ := .bf16) e128 x3 g) {M : Fin 8 → Fin 256 → ℝ} (hM : ∀ h r, ((val_main_v55 (F := Ideal) x0 x1) (ix2 h r) : EReal) = ((M h r : ℝ) : EReal)) :
    R3 (A := 8) (B := 256) (C := 256) (φ := .f32) (val_main_v97 (F := Ideal) x0 x1 x2 x3) fun h r _ => -∑ i : Fin 256, (∑ d, g h (ctxRow r) d * v h (ctxRow i) d) * (1 / ((∑ i : Fin 256, Real.exp (score (q h) (k h) (ctxRow r) (ctxRow i) - M h r)) * (∑ i : Fin 256, Real.exp (score (q h) (k h) (ctxRow r) (ctxRow i) - M h r)))) * Real.exp (score (q h) (k h) (ctxRow r) (ctxRow i) - M h r) :=
  by
  intro h r j
  rw [val_main_v97_apply]
  exact at2 (X := (val_main_v96 (F := Ideal) x0 x1 x2 x3)) h r (s1_ctx hq hk hv hg hM h r) rfl rfl

/-- The derivative with respect to the products of queries and keys. -/
theorem dsf_ctx (hq : HC (φ := .bf16) e256 x0 q) (hk : HC (φ := .bf16) e256 x1 k) (hv : HC (φ := .bf16) e128 x2 v) (hg : HC (φ := .bf16) e128 x3 g) {M : Fin 8 → Fin 256 → ℝ} (hM : ∀ h r, ((val_main_v55 (F := Ideal) x0 x1) (ix2 h r) : EReal) = ((M h r : ℝ) : EReal)) :
    R3 (A := 8) (B := 256) (C := 256) (φ := .f32) (val_main_v101 (F := Ideal) x0 x1 x2 x3) fun h r j => dscore (q h) (k h) (v h) (g h) (ctxRow r) (ctxRow j) :=
  R3.congr (R3.divf (X := (val_main_v99 (F := Ideal) x0 x1 x2 x3)) (Y := (val_main_v100 (F := Ideal))) (R3.mulf (X := (val_main_v98 (F := Ideal) x0 x1 x2 x3)) (Y := (val_main_v68 (F := Ideal) x0 x1)) (R3.addf (X := (val_main_v95 (F := Ideal) x0 x1 x2 x3)) (Y := (val_main_v97 (F := Ideal) x0 x1 x2 x3)) (R3.divf (X := (val_main_v85 (F := Ideal) x2 x3)) (Y := (val_main_v94 (F := Ideal) x0 x1)) (dp_ctx hv hg) (lb2_ctx hq hk hM) fun h r _ => (sum_exp_pos fun i : Fin 256 => score (q h) (k h) (ctxRow r) (ctxRow i) - M h r).ne') (sb_ctx hq hk hv hg hM)) (e_ctx hq hk hM)) sqb2_ctx fun _ _ _ => sqrt_ne) fun h r j => dscore_ctx _ _ _ _ _ _ _

theorem ds_ctx (hq : HC (φ := .bf16) e256 x0 q) (hk : HC (φ := .bf16) e256 x1 k) (hv : HC (φ := .bf16) e128 x2 v) (hg : HC (φ := .bf16) e128 x3 g) {M : Fin 8 → Fin 256 → ℝ} (hM : ∀ h r, ((val_main_v55 (F := Ideal) x0 x1) (ix2 h r) : EReal) = ((M h r : ℝ) : EReal)) :
    R3 (A := 8) (B := 256) (C := 256) (φ := .f32) (val_main_v101 (F := Ideal) x0 x1 x2 x3) fun h r j => dscore (q h) (k h) (v h) (g h) (ctxRow r) (ctxRow j) :=
  by
  intro h r j
  exact dsf_ctx hq hk hv hg hM h r j

theorem dkd_ctx (hq : HC (φ := .bf16) e256 x0 q) (hk : HC (φ := .bf16) e256 x1 k) (hv : HC (φ := .bf16) e128 x2 v) (hg : HC (φ := .bf16) e128 x3 g) {M : Fin 8 → Fin 256 → ℝ} (hM : ∀ h r, ((val_main_v55 (F := Ideal) x0 x1) (ix2 h r) : EReal) = ((M h r : ℝ) : EReal)) :
    R3 (A := 8) (B := 256) (C := 256) (φ := .f32) (val_main_v102 (F := Ideal) x0 x1 x2 x3) fun h j d => ∑ r : Fin 256, dscore (q h) (k h) (v h) (g h) (ctxRow r) (ctxRow j) * q h (ctxRow r) d :=
  by
  intro h j d
  rw [val_main_v102_apply]
  refine sum_coe (f := fun r => dscore (q h) (k h) (v h) (g h) (ctxRow r) (ctxRow j) * q h (ctxRow r) d) fun r => mul_at ?_ ?_
  · exact at3 (X := (val_main_v101 (F := Ideal) x0 x1 x2 x3)) h r j (ds_ctx hq hk hv hg hM h r j) rfl rfl rfl
  · exact at3 (X := (val_main_v41 (F := Ideal) x0)) r h d (q_ctx hq r h d) rfl rfl rfl

theorem dk_ctx (hq : HC (φ := .bf16) e256 x0 q) (hk : HC (φ := .bf16) e256 x1 k) (hv : HC (φ := .bf16) e128 x2 v) (hg : HC (φ := .bf16) e128 x3 g) {M : Fin 8 → Fin 256 → ℝ} (hM : ∀ h r, ((val_main_v55 (F := Ideal) x0 x1) (ix2 h r) : EReal) = ((M h r : ℝ) : EReal)) :
    R3 (A := 256) (B := 8) (C := 256) (φ := .f32) (val_main_v103 (F := Ideal) x0 x1 x2 x3) fun j h d => ∑ r : Fin 256, dscore (q h) (k h) (v h) (g h) (ctxRow r) (ctxRow j) * q h (ctxRow r) d :=
  by
  intro j h d
  rw [val_main_v103_apply]
  exact at3 (X := (val_main_v102 (F := Ideal) x0 x1 x2 x3)) h j d (dkd_ctx hq hk hv hg hM h j d) rfl rfl rfl

theorem dqd_ctx (hq : HC (φ := .bf16) e256 x0 q) (hk : HC (φ := .bf16) e256 x1 k) (hv : HC (φ := .bf16) e128 x2 v) (hg : HC (φ := .bf16) e128 x3 g) {M : Fin 8 → Fin 256 → ℝ} (hM : ∀ h r, ((val_main_v55 (F := Ideal) x0 x1) (ix2 h r) : EReal) = ((M h r : ℝ) : EReal)) :
    R3 (A := 8) (B := 256) (C := 256) (φ := .f32) (val_main_v104 (F := Ideal) x0 x1 x2 x3) fun h r d => ∑ j : Fin 256, dscore (q h) (k h) (v h) (g h) (ctxRow r) (ctxRow j) * k h (ctxRow j) d :=
  by
  intro h r d
  rw [val_main_v104_apply]
  refine sum_coe (f := fun j => dscore (q h) (k h) (v h) (g h) (ctxRow r) (ctxRow j) * k h (ctxRow j) d) fun j => mul_at ?_ ?_
  · exact at3 (X := (val_main_v101 (F := Ideal) x0 x1 x2 x3)) h r j (ds_ctx hq hk hv hg hM h r j) rfl rfl rfl
  · exact at3 (X := (val_main_v42 (F := Ideal) x1)) j h d (k_ctx hk j h d) rfl rfl rfl

theorem dq_ctx (hq : HC (φ := .bf16) e256 x0 q) (hk : HC (φ := .bf16) e256 x1 k) (hv : HC (φ := .bf16) e128 x2 v) (hg : HC (φ := .bf16) e128 x3 g) {M : Fin 8 → Fin 256 → ℝ} (hM : ∀ h r, ((val_main_v55 (F := Ideal) x0 x1) (ix2 h r) : EReal) = ((M h r : ℝ) : EReal)) :
    R3 (A := 256) (B := 8) (C := 256) (φ := .f32) (val_main_v105 (F := Ideal) x0 x1 x2 x3) fun r h d => dqry (q h) (k h) (v h) (g h) (ctxRow r) d :=
  R3.congr (f := fun r h d => ∑ j : Fin 256, dscore (q h) (k h) (v h) (g h) (ctxRow r) (ctxRow j) * k h (ctxRow j) d)
    (by
    intro r h d
    rw [val_main_v105_apply]
    exact at3 (X := (val_main_v104 (F := Ideal) x0 x1 x2 x3)) h r d (dqd_ctx hq hk hv hg hM h r d) rfl rfl rfl) fun r h d => (dqry_ctx _ _ _ _ _ _).symm

theorem dvd_ctx (hq : HC (φ := .bf16) e256 x0 q) (hk : HC (φ := .bf16) e256 x1 k) (hg : HC (φ := .bf16) e128 x3 g) {M : Fin 8 → Fin 256 → ℝ} (hM : ∀ h r, ((val_main_v55 (F := Ideal) x0 x1) (ix2 h r) : EReal) = ((M h r : ℝ) : EReal)) :
    R3 (A := 8) (B := 128) (C := 256) (φ := .f32) (val_main_v86 (F := Ideal) x0 x1 x3) fun h d j => ∑ r : Fin 256, g h (ctxRow r) d * prob (q h) (k h) (ctxRow r) (ctxRow j) :=
  by
  intro h d j
  rw [val_main_v86_apply]
  refine sum_coe (f := fun r => g h (ctxRow r) d * prob (q h) (k h) (ctxRow r) (ctxRow j)) fun r => mul_at ?_ ?_
  · exact at3 (X := (val_main_v84 (F := Ideal) x3)) h d r (gT_ctx hg h d r) rfl rfl rfl
  · exact at3 (X := (val_main_v72 (F := Ideal) x0 x1)) h r j (pc_ctx hq hk hM h r j) rfl rfl rfl

theorem dv_ctx (hq : HC (φ := .bf16) e256 x0 q) (hk : HC (φ := .bf16) e256 x1 k) (hg : HC (φ := .bf16) e128 x3 g) {M : Fin 8 → Fin 256 → ℝ} (hM : ∀ h r, ((val_main_v55 (F := Ideal) x0 x1) (ix2 h r) : EReal) = ((M h r : ℝ) : EReal)) :
    R3 (A := 256) (B := 8) (C := 128) (φ := .f32) (val_main_v87 (F := Ideal) x0 x1 x3) fun j h d => ∑ r : Fin 256, g h (ctxRow r) d * prob (q h) (k h) (ctxRow r) (ctxRow j) :=
  by
  intro j h d
  rw [val_main_v87_apply]
  exact at3 (X := (val_main_v86 (F := Ideal) x0 x1 x3)) h d j (dvd_ctx hq hk hg hM h d j) rfl rfl rfl

end Cert.ReferenceIdeal.Own

end
-- ==== Proof.Value.RefOut.lean ====
/- The four results of the reference over the extended reals: the rows of both parts put together. -/
module

public import proofs.«01_k».proof.Proof.Value.RefLat
public import proofs.«01_k».proof.Proof.Value.RefCtx
public import Idealize.ShloMosaic.Lib.KernelVsHost

@[expose] public section

set_option maxRecDepth 16384

noncomputable section

namespace Cert.ReferenceIdeal.Own

open Idealize.ShloMosaic Idealize.ShloMosaic.ValueIdx
open Cert.ReferenceIdeal Cert.ReferenceIdeal.Gen Cert.ReferenceIdeal.Read Cert.RealCalc
open scoped BigOperators

section Rows

variable {w : ℕ} {φ : FTy} {u : Shape} {z : u.Idx → Ideal φ}

/-- A context row of what is padded with zeros in front. -/
theorem front_ctx {X : FVec Ideal ⟨3, ![256, 8, w]⟩ φ} {f : Fin 256 → Fin 8 → Fin w → ℝ} (hX : R3 X f)
    (p : (⟨3, ![256, 8, w]⟩ : Shape).Pads ![8192, 0, 0] ![0, 0, 0] ![0, 0, 0] ⟨3, ![8448, 8, w]⟩) (hu : 0 < u.numel) (a : Fin 256) (b : Fin 8) (c : Fin w) :
    (pad ⟨3, ![8448, 8, w]⟩ ![8192, 0, 0] ![0, 0, 0] ![0, 0, 0] X z p hu (ix3 (ctxRow a) b c) : EReal) = (f a b c : EReal) := by
  refine (pad_apply_of_inside _ _ _ X z p hu (ix3 (ctxRow a) b c) (ix3 a b c) ?_).trans (hX a b c)
  intro e
  match e with
  | ⟨0, _⟩ => show 8192 + a.val = 8192 + a.val * (0 + 1); omega
  | ⟨1, _⟩ => show b.val = 0 + b.val * (0 + 1); omega
  | ⟨2, _⟩ => show c.val = 0 + c.val * (0 + 1); omega

/-- A latent row of what is padded with zeros in front. -/
theorem front_lat {X : FVec Ideal ⟨3, ![256, 8, w]⟩ φ} (hz : ∀ i, (z i : EReal) = ((0 : ℝ) : EReal))
    (p : (⟨3, ![256, 8, w]⟩ : Shape).Pads ![8192, 0, 0] ![0, 0, 0] ![0, 0, 0] ⟨3, ![8448, 8, w]⟩) (hu : 0 < u.numel) (a : Fin 8192) (b : Fin 8) (c : Fin w) :
    (pad ⟨3, ![8448, 8, w]⟩ ![8192, 0, 0] ![0, 0, 0] ![0, 0, 0] X z p hu (ix3 (latRow a) b c) : EReal) = ((0 : ℝ) : EReal) := by
  rw [pad_apply_of_not_inside ![8192, 0, 0] ![0, 0, 0] ![0, 0, 0] X z p hu (ix3 (latRow a) b c) (0 : Fin 3) fun e =>
    absurd (show 8192 ≤ a.val from e.1) (by have := a.isLt; omega)]
  exact hz _

/-- A latent row of what is padded with zeros behind. -/
theorem behind_lat {X : FVec Ideal ⟨3, ![8192, 8, w]⟩ φ} {f : Fin 8192 → Fin 8 → Fin w → ℝ} (hX : R3 X f)
    (p : (⟨3, ![8192, 8, w]⟩ : Shape).Pads ![0, 0, 0] ![256, 0, 0] ![0, 0, 0] ⟨3, ![8448, 8, w]⟩) (hu : 0 < u.numel) (a : Fin 8192) (b : Fin 8) (c : Fin w) :
    (pad ⟨3, ![8448, 8, w]⟩ ![0, 0, 0] ![256, 0, 0] ![0, 0, 0] X z p hu (ix3 (latRow a) b c) : EReal) = (f a b c : EReal) := by
  refine (pad_apply_of_inside _ _ _ X z p hu (ix3 (latRow a) b c) (ix3 a b c) ?_).trans (hX a b c)
  intro e
  match e with
  | ⟨0, _⟩ => show a.val = 0 + a.val * (0 + 1); omega
  | ⟨1, _⟩ => show b.val = 0 + b.val * (0 + 1); omega
  | ⟨2, _⟩ => show c.val = 0 + c.val * (0 + 1); omega

/-- A context row of what is padded with zeros behind. -/
theorem behind_ctx {X : FVec Ideal ⟨3, ![8192, 8, w]⟩ φ} (hz : ∀ i, (z i : EReal) = ((0 : ℝ) : EReal))
    (p : (⟨3, ![8192, 8, w]⟩ : Shape).Pads ![0, 0, 0] ![256, 0, 0] ![0, 0, 0] ⟨3, ![8448, 8, w]⟩) (hu : 0 < u.numel) (a : Fin 256) (b : Fin 8) (c : Fin w) :
    (pad ⟨3, ![8448, 8, w]⟩ ![0, 0, 0] ![256, 0, 0] ![0, 0, 0] X z p hu (ix3 (ctxRow a) b c) : EReal) = ((0 : ℝ) : EReal) := by
  rw [pad_apply_of_not_inside ![0, 0, 0] ![256, 0, 0] ![0, 0, 0] X z p hu (ix3 (ctxRow a) b c) (0 : Fin 3) fun e => by
    have h : (8192 + a.val - 0) / (0 + 1) < 8192 := e.2.2
    omega]
  exact hz _

/-- Two parts one above the other. -/
theorem stack {X : FVec Ideal ⟨3, ![8192, 8, w]⟩ φ} {Y : FVec Ideal ⟨3, ![256, 8, w]⟩ φ} {f : Fin 8448 → Fin 8 → Fin w → ℝ}
    (hX : R3 X fun a b c => f (latRow a) b c) (hY : R3 Y fun a b c => f (ctxRow a) b c)
    (h : Shape.Concatenates [(⟨3, ![8192, 8, w]⟩ : Shape), ⟨3, ![256, 8, w]⟩] ⟨3, ![8448, 8, w]⟩ 0) (r : Fin 8448) (b : Fin 8) (c : Fin w) :
    (concatenate ⟨3, ![8448, 8, w]⟩ 0 [⟨⟨3, ![8192, 8, w]⟩, X⟩, ⟨⟨3, ![256, 8, w]⟩, Y⟩] h (ix3 r b c) : EReal) = (f r b c : EReal) := by
  rcases row_cases r with ⟨a, rfl⟩ | ⟨a, rfl⟩
  · rw [concatenate_pair_apply_left (0 : Fin 3) X Y h (ix3 (latRow a) b c) rfl (ix3 a b c) fun e => match e with
      | ⟨0, _⟩ => rfl
      | ⟨1, _⟩ => rfl
      | ⟨2, _⟩ => rfl]
    exact hX a b c
  · rw [concatenate_pair_apply_right (0 : Fin 3) X Y h (ix3 (ctxRow a) b c) rfl rfl (ix3 a b c) (fun e he => match e, he with
      | ⟨0, _⟩, he => absurd rfl he
      | ⟨1, _⟩, _ => rfl
      | ⟨2, _⟩, _ => rfl) (show a.val + 8192 = 8192 + a.val by omega)]
    exact hY a b c

end Rows

variable {x0 x1 : FVec Ideal S8448x2048 .bf16} {x2 x3 : FVec Ideal S8448x1024 .bf16} {q k : Heads 256} {v g : Heads 128}

theorem add_at {x y : EReal} {r s t : ℝ} (hx : x = (r : EReal)) (hy : y = (s : EReal)) (h : r + s = t) : x + y = (t : EReal) := by
  rw [hx, hy, ← EReal.coe_add, h]

/-- The output of every row. -/
theorem res_out (hq : HC (φ := .bf16) e256 x0 q) (hk : HC (φ := .bf16) e256 x1 k) (hv : HC (φ := .bf16) e128 x2 v) :
    HC (φ := .bf16) e128 (val_main_v138 (F := Ideal) x0 x1 x2) (fun h => out (q h) (k h) (v h)) := by
  obtain ⟨M, hM⟩ := max_lat hq hk
  obtain ⟨M', hM'⟩ := max_ctx hq hk
  intro h r d
  have h0 := r.isLt; have h1 := h.isLt; have h2 := d.isLt
  rw [val_main_v138_apply, val_main_v79_apply]
  refine at3 (X := (val_main_v78 (F := Ideal) x0 x1 x2)) r h d ?_ ?_ ?_ ?_
  · unfold val_main_v78
    exact stack (f := fun r h d => out (q h) (k h) (v h) r d) (o_lat hq hk hv hM) (o_ctx hq hk hv hM') _ r h d
  · show (r.val * 1024 + (h.val * 128 + d.val)) / 1024 = r.val; omega
  · show (r.val * 1024 + (h.val * 128 + d.val)) / 128 % 8 = h.val; omega
  · show (r.val * 1024 + (h.val * 128 + d.val)) % 128 = d.val; omega

/-- The derivative of the queries. -/
theorem res_dq (hq : HC (φ := .bf16) e256 x0 q) (hk : HC (φ := .bf16) e256 x1 k) (hv : HC (φ := .bf16) e128 x2 v) (hg : HC (φ := .bf16) e128 x3 g) :
    HC (φ := .f32) e256 (val_main_v137 (F := Ideal) x0 x1 x2 x3) (fun h => dqry (q h) (k h) (v h) (g h)) := by
  obtain ⟨M, hM⟩ := max_lat hq hk
  obtain ⟨M', hM'⟩ := max_ctx hq hk
  intro h r d
  have h0 := r.isLt; have h1 := h.isLt; have h2 := d.isLt
  rw [val_main_v137_apply]
  refine at3 (X := (val_main_v134 (F := Ideal) x0 x1 x2 x3)) r h d ?_ ?_ ?_ ?_
  · rw [val_main_v134_apply]
    unfold val_main_v108 val_main_v133
    rcases row_cases r with ⟨a, rfl⟩ | ⟨a, rfl⟩
    · exact add_at (front_lat (fun _ => zero_splat) _ _ a h d) (behind_lat (dq_lat hq hk hv hg hM) _ _ a h d) (zero_add _)
    · exact add_at (front_ctx (dq_ctx hq hk hv hg hM') _ _ a h d) (behind_ctx (fun _ => zero_splat) _ _ a h d) (add_zero _)
  · show (r.val * 2048 + (h.val * 256 + d.val)) / 2048 = r.val; omega
  · show (r.val * 2048 + (h.val * 256 + d.val)) / 256 % 8 = h.val; omega
  · show (r.val * 2048 + (h.val * 256 + d.val)) % 256 = d.val; omega

/-- The derivative of the keys. -/
theorem res_dk (hq : HC (φ := .bf16) e256 x0 q) (hk : HC (φ := .bf16) e256 x1 k) (hv : HC (φ := .bf16) e128 x2 v) (hg : HC (φ := .bf16) e128 x3 g) :
    HR (φ := .f32) e256 (val_main_v139 (F := Ideal) x0 x1 x2 x3) (fun h => dkey (q h) (k h) (v h) (g h)) := by
  obtain ⟨M, hM⟩ := max_lat hq hk
  obtain ⟨M', hM'⟩ := max_ctx hq hk
  intro h d r
  have h0 := r.isLt; have h1 := h.isLt; have h2 := d.isLt
  rw [val_main_v139_apply]
  refine at2 (X := (val_main_v136 (F := Ideal) x0 x1 x2 x3)) r (col e256 h d) ?_ rfl rfl
  rw [val_main_v136_apply]
  refine at3 (X := (val_main_v130 (F := Ideal) x0 x1 x2 x3)) r h d ?_ ?_ ?_ ?_
  · rw [val_main_v130_apply]
    unfold val_main_v107
    rcases row_cases r with ⟨a, rfl⟩ | ⟨a, rfl⟩
    · refine add_at (front_lat (fun _ => zero_splat) _ _ a h d) (dk_lat hq hk hv hg hM (latRow a) h d) ?_
      unfold dkey
      beta_reduce
      rw [sum_lat_ctx, zero_add, Finset.sum_eq_zero (s := (Finset.univ : Finset (Fin 256))) (fun r _ => by rw [dscore_far _ _ _ _ (Nat.le_add_right _ _) a.isLt, mul_zero]), add_zero]
      exact Finset.sum_congr rfl fun _ _ => mul_comm _ _
    · refine add_at (front_ctx (dk_ctx hq hk hv hg hM') _ _ a h d) (dk_lat hq hk hv hg hM (ctxRow a) h d) ?_
      unfold dkey
      beta_reduce
      rw [sum_lat_ctx, add_comm]
      exact congrArg₂ _ (Finset.sum_congr rfl fun _ _ => mul_comm _ _) (Finset.sum_congr rfl fun _ _ => mul_comm _ _)
  · show (r.val * 2048 + (h.val * 256 + d.val)) / 2048 = r.val; omega
  · show (r.val * 2048 + (h.val * 256 + d.val)) / 256 % 8 = h.val; omega
  · show (r.val * 2048 + (h.val * 256 + d.val)) % 256 = d.val; omega

/-- The derivative of the values. -/
theorem res_dv (hq : HC (φ := .bf16) e256 x0 q) (hk : HC (φ := .bf16) e256 x1 k) (hg : HC (φ := .bf16) e128 x3 g) :
    HR (φ := .f32) e128 (val_main_v140 (F := Ideal) x0 x1 x3) (fun h => dval (q h) (k h) (g h)) := by
  obtain ⟨M, hM⟩ := max_lat hq hk
  obtain ⟨M', hM'⟩ := max_ctx hq hk
  intro h d r
  have h0 := r.isLt; have h1 := h.isLt; have h2 := d.isLt
  rw [val_main_v140_apply]
  refine at2 (X := (val_main_v135 (F := Ideal) x0 x1 x3)) r (col e128 h d) ?_ rfl rfl
  rw [val_main_v135_apply]
  refine at3 (X := (val_main_v113 (F := Ideal) x0 x1 x3)) r h d ?_ ?_ ?_ ?_
  · rw [val_main_v113_apply]
    unfold val_main_v106
    rcases row_cases r with ⟨a, rfl⟩ | ⟨a, rfl⟩
    · refine add_at (front_lat (fun _ => zero_splat) _ _ a h d) (dv_lat hq hk hg hM (latRow a) h d) ?_
      unfold dval
      beta_reduce
      rw [sum_lat_ctx, zero_add, Finset.sum_eq_zero (s := (Finset.univ : Finset (Fin 256))) (fun r _ => by rw [prob_far _ _ (Nat.le_add_right _ _) a.isLt, mul_zero]), add_zero]
    · refine add_at (front_ctx (dv_ctx hq hk hg hM') _ _ a h d) (dv_lat hq hk hg hM (ctxRow a) h d) ?_
      unfold dval
      beta_reduce
      rw [sum_lat_ctx, add_comm]
  · show (r.val * 1024 + (h.val * 128 + d.val)) / 1024 = r.val; omega
  · show (r.val * 1024 + (h.val * 128 + d.val)) / 128 % 8 = h.val; omega
  · show (r.val * 1024 + (h.val * 128 + d.val)) % 128 = d.val; omega

end Cert.ReferenceIdeal.Own

end
-- ==== Proof.Value.Finite.lean ====
/- What the precondition says: every entry of the four arguments is a real number. -/
module

public import proofs.«01_k».proof.Pre_finite
public import proofs.«01_k».proof.Proof.Value.Target
public import Idealize.ShloMosaic.Lib.Pipeline.Value

@[expose] public section

noncomputable section

namespace Cert.RealCalc

open Idealize.ShloMosaic Idealize.ShloMosaic.ValueIdx

theorem lit_inf : Ideal.ofBits .f32 0x7F800000#32 = (⊤ : EReal) := by
  simp [Ideal.ofBits, Ideal.ieee]

/-- What has a magnitude below infinity is a real number. -/
theorem real_of_below {x : EReal} (h : (FloatOps.cmpf (F := Ideal) (φ := .f32) .olt (max x (-x)) (Ideal.ofBits .f32 0x7F800000#32)) = 1#1) : ∃ r : ℝ, x = (r : EReal) := by
  have e : max x (-x) < ⊤ := by
    by_contra hn
    rw [lit_inf] at h
    have h' : BitVec.ofBool (decide (max x (-x) < (⊤ : EReal))) = 1#1 := h
    rw [decide_eq_false hn] at h'
    exact absurd h' (by decide)
  have h1 : x ≠ ⊤ := fun h => by rw [h] at e; simp at e
  have h2 : x ≠ ⊥ := fun h => by rw [h] at e; simp at e
  exact ⟨x.toReal, (EReal.coe_toReal h1 h2).symm⟩

theorem and_one {a b : BitVec 1} (h : a &&& b = 1#1) : a = 1#1 ∧ b = 1#1 := by
  revert a b; decide

variable [Cert.Pre_finite.Facts] {x0 x1 : FVec Ideal ⟨2, ![8448, 2048]⟩ .bf16} {x2 x3 : FVec Ideal ⟨2, ![8448, 1024]⟩ .bf16}

/-- Every entry of the arguments is real. -/
theorem real_of_pre (h : Cert.Pre_finite.fn (F := Ideal) x0 x1 x2 x3 = fun _ => 1#1) :
    (∀ i, ∃ r : ℝ, (x0 i : EReal) = (r : EReal)) ∧ (∀ i, ∃ r : ℝ, (x1 i : EReal) = (r : EReal))
    ∧ (∀ i, ∃ r : ℝ, (x2 i : EReal) = (r : EReal)) ∧ ∀ i, ∃ r : ℝ, (x3 i : EReal) = (r : EReal) := by
  unfold Cert.Pre_finite.fn at h
  have h1 := fun i => and_one (congrFun h i)
  have h2 := fun i => and_one (h1 i).1
  refine ⟨fun i => real_of_below (h2 i).1, fun i => real_of_below (h2 i).2, fun i => ?_, fun i => ?_⟩
  · have b0 : (i 0).val < 8448 := (i 0).isLt
    have b1 : (i 1).val < 1024 := (i 1).isLt
    have e := (h1 (ix2 ⟨(i 0).val, b0⟩ ⟨(i 1).val, by omega⟩)).2
    beta_reduce at e
    exact real_of_below ((concatenate_pair_apply_left (s₁ := ⟨2, ![8448, 1024]⟩) (s₂ := ⟨2, ![8448, 1024]⟩) (t := ⟨2, ![8448, 2048]⟩) (1 : Fin 2) _ _ Cert.Pre_finite.Facts.concatenates_S8448x1024_S8448x1024_S8448x2048_d1 (ix2 ⟨(i 0).val, b0⟩ ⟨(i 1).val, by omega⟩) rfl i fun b => match b with
      | ⟨0, _⟩ => rfl
      | ⟨1, _⟩ => rfl).symm.trans e)
  · have b0 : (i 0).val < 8448 := (i 0).isLt
    have b1 : (i 1).val < 1024 := (i 1).isLt
    have e := (h1 (ix2 ⟨(i 0).val, b0⟩ ⟨1024 + (i 1).val, by omega⟩)).2
    beta_reduce at e
    exact real_of_below ((concatenate_pair_apply_right (s₁ := ⟨2, ![8448, 1024]⟩) (s₂ := ⟨2, ![8448, 1024]⟩) (t := ⟨2, ![8448, 2048]⟩) (1 : Fin 2) _ _ Cert.Pre_finite.Facts.concatenates_S8448x1024_S8448x1024_S8448x2048_d1 (ix2 ⟨(i 0).val, b0⟩ ⟨1024 + (i 1).val, by omega⟩) rfl rfl i (fun b hb => match b, hb with
      | ⟨0, _⟩, _ => rfl
      | ⟨1, _⟩, hb => absurd rfl hb) (Nat.add_comm _ _)).symm.trans e)

end Cert.RealCalc

end
-- ==== Proof.Value.Same.lean ====
/- The kernel and the reference leave the same output and the same three derivatives. -/
module

public import proofs.«01_k».proof.Defs
public import proofs.«01_k».proof.Proof.KernelIdeal.Run
public import proofs.«01_k».proof.Proof.Value.Arrays
public import proofs.«01_k».proof.Proof.Value.RefOut
public import proofs.«01_k».proof.Proof.Value.Finite
public import proofs.«01_k».proof.Proof.Gen.ReferenceIdeal.Run

@[expose] public section

noncomputable section

namespace Cert.Value

open Idealize.ShloMosaic Idealize.SL.Sem Cert.RealCalc

/-- What the reference leaves, of the contents its arguments have. -/
theorem reference_main (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v138) = Cert.ReferenceIdeal.Read.val_main_v138 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_v137) = Cert.ReferenceIdeal.Read.val_main_v137 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v139) = Cert.ReferenceIdeal.Read.val_main_v139 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v140) = Cert.ReferenceIdeal.Read.val_main_v140 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0) ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run _ _ _).mono (fun r h c => ⟨(h c).1.trans (Cert.ReferenceIdeal.Read.val_main_v138_eq m c), (h c).2.1.trans (Cert.ReferenceIdeal.Read.val_main_v137_eq m c),
    (h c).2.2.1.trans (Cert.ReferenceIdeal.Read.val_main_v139_eq m c), (h c).2.2.2.1.trans (Cert.ReferenceIdeal.Read.val_main_v140_eq m c),
    (h c).2.2.2.2⟩) (Cert.ReferenceIdeal.Value.run (F := Ideal) m g)

/-- On finite arguments the reference's four results are the arrays the kernel leaves. -/
theorem same [Cert.Pre_finite.Facts] : Cert.algebraic_KernelIdeal_ReferenceIdeal_pre_finite := by
  intro m g m' g' hp ha
  refine ⟨_, _, _, _, Cert.KernelIdeal.Own.value_main m g, ?_⟩
  refine (θ_run _ _ _).mono (fun r h c => ?_) (reference_main m' g')
  obtain ⟨r0, r1, r2, r3⟩ := real_of_pre (hp c)
  obtain ⟨q, hq⟩ := HC.of_real (φ := .bf16) e256 r0
  obtain ⟨k, hk⟩ := HC.of_real (φ := .bf16) e256 r1
  obtain ⟨v, hv⟩ := HC.of_real (φ := .bf16) e128 r2
  obtain ⟨d, hd⟩ := HC.of_real (φ := .bf16) e128 r3
  obtain ⟨k0, k1, k2, k3⟩ := Cert.KernelIdeal.Own.kernel_values m c hq hk hv hd
  obtain ⟨h0, h1, h2, h3, hr⟩ := h c
  obtain ⟨a0, a1, a2, a3⟩ := ha c
  have hq' : HC (φ := .bf16) e256 (m' ((c.tc : Thread Cert.ReferenceIdeal.nD Cert.ReferenceIdeal.τ).loc Cert.ReferenceIdeal.main_arg0)) q := by intro a b e; exact (congrFun a0 _).trans (hq a b e)
  have hk' : HC (φ := .bf16) e256 (m' ((c.tc : Thread Cert.ReferenceIdeal.nD Cert.ReferenceIdeal.τ).loc Cert.ReferenceIdeal.main_arg1)) k := by intro a b e; exact (congrFun a1 _).trans (hk a b e)
  have hv' : HC (φ := .bf16) e128 (m' ((c.tc : Thread Cert.ReferenceIdeal.nD Cert.ReferenceIdeal.τ).loc Cert.ReferenceIdeal.main_arg2)) v := by intro a b e; exact (congrFun a2 _).trans (hv a b e)
  have hd' : HC (φ := .bf16) e128 (m' ((c.tc : Thread Cert.ReferenceIdeal.nD Cert.ReferenceIdeal.τ).loc Cert.ReferenceIdeal.main_arg3)) d := by intro a b e; exact (congrFun a3 _).trans (hd a b e)
  exact ⟨h0.trans (HC.ext (Cert.ReferenceIdeal.Own.res_out hq' hk' hv') k0), h1.trans (HC.ext (Cert.ReferenceIdeal.Own.res_dq hq' hk' hv' hd') k1),
    h2.trans (HR.ext (Cert.ReferenceIdeal.Own.res_dk hq' hk' hv' hd') k2), h3.trans (HR.ext (Cert.ReferenceIdeal.Own.res_dv hq' hk' hd') k3), hr⟩

end Cert.Value

end
-- ==== Proof.Products.Sums.lean ====
/- Products of two matrices over the extended reals, entry by entry, and a long sum cut into runs. -/
module

public import Idealize.ShloMosaic.Lib.Pipeline.ValueKit
public import Idealize.ShloMosaic.Lib.Pointwise

@[expose] public section

noncomputable section

namespace Cert.Products

open Idealize.ShloMosaic
open scoped BigOperators

/-- An array of two axes over the extended reals. -/
abbrev Mat (a b : ℕ) := (⟨2, ![a, b]⟩ : Shape).Idx → EReal

/-- Rows of the left with columns of the right. -/
def rowCol {a n b : ℕ} (A : Mat a n) (B : Mat n b) : Mat a b := fun i => ∑ k : Fin n, A (ix2 (i 0) k) * B (ix2 k (i 1))

/-- Rows of the left with rows of the right. -/
def rowRow {a n b : ℕ} (A : Mat a n) (B : Mat b n) : Mat a b := fun i => ∑ k : Fin n, A (ix2 (i 0) k) * B (ix2 (i 1) k)

/-- Columns of the left with columns of the right. -/
def colCol {a n b : ℕ} (A : Mat n a) (B : Mat n b) : Mat a b := fun i => ∑ k : Fin n, A (ix2 k (i 0)) * B (ix2 k (i 1))

end Cert.Products
-- ==== Proof.Products.WInProj.lean ====
/- The gradient of the mixers' first matrix, over the extended reals. -/
module

public import proofs.«01_k».proof.Defs
public import proofs.«01_k».proof.Proof.Gen.KernelWInProj
public import proofs.«01_k».proof.Proof.Gen.KernelWInProj.Skeleton
public import proofs.«01_k».proof.Proof.Gen.KernelWInProj.Launch
public import proofs.«01_k».proof.Proof.Gen.KernelWInProj.Frame
public import proofs.«01_k».proof.Proof.Gen.KernelWInProjIdeal
public import proofs.«01_k».proof.Proof.Gen.KernelWInProjIdeal.Skeleton
public import proofs.«01_k».proof.Proof.Gen.KernelWInProjIdeal.Launch
public import proofs.«01_k».proof.Proof.Gen.KernelWInProjIdeal.Frame
public import proofs.«01_k».proof.Proof.Gen.KernelWInProjIdeal.Value
public import proofs.«01_k».proof.Proof.Gen.ReferenceWInProjIdeal
public import proofs.«01_k».proof.Proof.Gen.ReferenceWInProjIdeal.Run
public import proofs.«01_k».proof.Proof.Products.Sums
public import Idealize.ShloMosaic.Lib.Pipeline.ValueKit
public import Idealize.ShloMosaic.Lib.Pointwise
public import Idealize.ShloMosaic.Lib.Quiescent

@[expose] public section

set_option maxRecDepth 16384

noncomputable section

namespace Cert.KernelWInProjIdeal.Own

open Idealize.ShloMosaic Idealize.ShloMosaic.TcCoe Idealize.SL.Sem Cert.Products
open Cert.KernelWInProjIdeal Cert.KernelWInProjIdeal.Gen
open scoped BigOperators

variable (m : (ℓ : Loc nD τ sig) → Buf (Elt Ideal) ℓ) (ρ : Dev nD → PrngReg)

theorem at_0 : ∀ t : Fin grid0.N, win0_0.index t = ![t.val % 6, 0] := by decide +kernel
theorem at_1 : ∀ t : Fin grid0.N, win0_1.index t = ![t.val % 6, t.val / 6] := by decide +kernel
theorem at_2 : ∀ t : Fin grid0.N, win0_2.index t = ![0, t.val / 6] := by decide +kernel

/-- What a point adds. -/
def part (c : Dev nD) (t : Fin cfg0.N) (y : S1024x1152.Idx) : EReal :=
  colCol (a := 1024) (n := 1408) (b := 1152) (iblk m c 0 t) (iblk m c 1 t) y

/-- The first point of a run leaves what it adds. -/
theorem first (c : Dev nD) (t : Fin cfg0.N) (h : t.val % 6 = 0) (y : S1024x1152.Idx) :
    ((outsAt0 m c t.val t.isLt).2 y : EReal) = (0 : EReal) + part m c t y := by
  rw [outsAt0_A m c t h (by omega) (by omega)]
  frame_out
  unfold part colCol
  pointwise [k0_pay1, k0_pay2]

/-- A later point adds to what the point before left. -/
theorem later (c : Dev nD) (t : Fin cfg0.N) (h : ¬t.val % 6 = 0) (y : S1024x1152.Idx) :
    ((outsAt0 m c t.val t.isLt).2 y : EReal) = (outsAt0 m c (t.val - 1) (Nat.lt_of_le_of_lt (Nat.sub_le _ _) t.isLt)).2 y + part m c t y := by
  by_cases h' : t.val % 6 = 5
  · rw [outsAt0_C m c t h (by omega) h']
    frame_out
    unfold part colCol
    pointwise [k0_pay1, k0_pay3]
    refine congrArg (fun x : EReal => x + _) ?_
    exact congrFun ((Memref.isWhole_whole cc0_scratch0).read_unread (Val := Elt Ideal) (outsAt0 m c (t.val - 1) (Nat.lt_of_le_of_lt (Nat.sub_le _ _) t.isLt)).2) y
  · rw [outsAt0_B m c t h (by omega) h']
    frame_out
    unfold part colCol
    pointwise [k0_pay1, k0_pay3]
    refine congrArg (fun x : EReal => x + _) ?_
    exact congrFun ((Memref.isWhole_whole cc0_scratch0).read_unread (Val := Elt Ideal) (outsAt0 m c (t.val - 1) (Nat.lt_of_le_of_lt (Nat.sub_le _ _) t.isLt)).2) y

/-- The last point of a run hands its sum over. -/
theorem last (c : Dev nD) (t : Fin cfg0.N) (h : t.val % 6 = 5) (y : S1024x1152.Idx) :
    ((outsAt0 m c t.val t.isLt).1 y : EReal) = (outsAt0 m c t.val t.isLt).2 y := by
  rw [outsAt0_C m c t (by omega) (by omega) h]
  frame_out
  rfl

/-- The call leaves the product in its result. -/
theorem leaves (c : Dev nD) : (dats m 0 c).arrAt 2 cfg0.N
    = colCol (a := 1024) (n := 8448) (b := 8064) (m ((c : Thread nD τ).loc main_arg0)) (m ((c : Thread nD τ).loc main_arg1)) := by
  refine (dats m 0 c).arrAt_eq_of_covers 2 _ (by decide +kernel) fun t hf y => ?_
  have hr : t.val % 6 = 5 := (flush0_2 t).mp hf
  blk_simp
  rw [after0_2]
  refine (last m c t hr y).trans ((Pipeline.eq_sum_fin_of_reset_step_apply_of_flush (M := EReal) (fun n h y => (outsAt0 m c n h).2 y) 6 (fun _ => 0) (part m c)
    (first m c) (later m c) t hr y).trans ((zero_add _).trans ?_))
  unfold part colCol
  refine Fin.sum_mul_add_congr fun s k hl => congrArg₂ (fun x y : EReal => x * y) ?_ ?_
  · blk_ext [iblk, V, at_0 _, at_2 t]
  · blk_ext [iblk, V, at_1 _, at_2 t]

/-- The reference leaves its arguments and has no semaphores to leave. -/
theorem frame_reference : Cert.quiescent_ReferenceWInProjIdeal := fun m g _ =>
  (θ_run _ _ _).mono (fun r h => ⟨fun c => (h c).2, sem_eq_zero_of_no_sems (by decide) r.2⟩) (Cert.ReferenceWInProjIdeal.Value.run (F := Ideal) m g)

/-- The call and the reference leave the same product. -/
theorem same : Cert.algebraic_KernelWInProjIdeal_ReferenceWInProjIdeal := by
  intro m g m' g' _ ha
  refine ⟨fun c => colCol (a := 1024) (n := 8448) (b := 8064) (m ((c : Thread nD τ).loc main_arg0)) (m ((c : Thread nD τ).loc main_arg1)),
    (θ_run _ _ _).mono (fun r h c => ⟨(h c).1.trans (leaves m c), (h c).2⟩) (Cert.KernelWInProjIdeal.Value.run_blocks m g),
    (θ_run _ _ _).mono (fun r h c => ⟨(h c).1.trans ?_, (h c).2⟩) (Cert.ReferenceWInProjIdeal.Value.run (F := Ideal) m' g')⟩
  obtain ⟨a0, a1⟩ := ha c
  rw [a0, a1]
  funext i
  unfold colCol
  pointwise
  exact Fin.sum_fin_congr fun k => mul_comm (G := EReal) _ _

end Cert.KernelWInProjIdeal.Own

end
-- ==== Proof.Products.XInProj.lean ====
/- The gradient of what the mixers' first matrix multiplies, over the extended reals. -/
module

public import proofs.«01_k».proof.Defs
public import proofs.«01_k».proof.Proof.Gen.KernelXInProj
public import proofs.«01_k».proof.Proof.Gen.KernelXInProj.Skeleton
public import proofs.«01_k».proof.Proof.Gen.KernelXInProj.Launch
public import proofs.«01_k».proof.Proof.Gen.KernelXInProj.Frame
public import proofs.«01_k».proof.Proof.Gen.KernelXInProjIdeal
public import proofs.«01_k».proof.Proof.Gen.KernelXInProjIdeal.Skeleton
public import proofs.«01_k».proof.Proof.Gen.KernelXInProjIdeal.Launch
public import proofs.«01_k».proof.Proof.Gen.KernelXInProjIdeal.Frame
public import proofs.«01_k».proof.Proof.Gen.KernelXInProjIdeal.Value
public import proofs.«01_k».proof.Proof.Gen.ReferenceXInProjIdeal
public import proofs.«01_k».proof.Proof.Gen.ReferenceXInProjIdeal.Run
public import proofs.«01_k».proof.Proof.Products.Sums
public import Idealize.ShloMosaic.Lib.Pipeline.ValueKit
public import Idealize.ShloMosaic.Lib.Pointwise
public import Idealize.ShloMosaic.Lib.Quiescent

@[expose] public section

set_option maxRecDepth 16384

noncomputable section

namespace Cert.KernelXInProjIdeal.Own

open Idealize.ShloMosaic Idealize.ShloMosaic.TcCoe Idealize.SL.Sem Cert.Products
open Cert.KernelXInProjIdeal Cert.KernelXInProjIdeal.Gen
open scoped BigOperators

variable (m : (ℓ : Loc nD τ sig) → Buf (Elt Ideal) ℓ) (ρ : Dev nD → PrngReg)

theorem at_0 : ∀ t : Fin grid0.N, win0_0.index t = ![t.val / 7, t.val % 7] := by decide +kernel
theorem at_1 : ∀ t : Fin grid0.N, win0_1.index t = ![0, t.val % 7] := by decide +kernel
theorem at_2 : ∀ t : Fin grid0.N, win0_2.index t = ![t.val / 7, 0] := by decide +kernel

/-- What a point adds. -/
def part (c : Dev nD) (t : Fin cfg0.N) (y : S1408x1024.Idx) : EReal :=
  rowRow (a := 1408) (n := 1152) (b := 1024) (iblk m c 0 t) (iblk m c 1 t) y

/-- The first point of a run leaves what it adds. -/
theorem first (c : Dev nD) (t : Fin cfg0.N) (h : t.val % 7 = 0) (y : S1408x1024.Idx) :
    ((outsAt0 m c t.val t.isLt).2 y : EReal) = (0 : EReal) + part m c t y := by
  rw [outsAt0_A m c t h (by omega) (by omega)]
  frame_out
  unfold part rowRow
  pointwise [k0_pay1, k0_pay2]

/-- A later point adds to what the point before left. -/
theorem later (c : Dev nD) (t : Fin cfg0.N) (h : ¬t.val % 7 = 0) (y : S1408x1024.Idx) :
    ((outsAt0 m c t.val t.isLt).2 y : EReal) = (outsAt0 m c (t.val - 1) (Nat.lt_of_le_of_lt (Nat.sub_le _ _) t.isLt)).2 y + part m c t y := by
  by_cases h' : t.val % 7 = 6
  · rw [outsAt0_C m c t h (by omega) h']
    frame_out
    unfold part rowRow
    pointwise [k0_pay1, k0_pay3]
    refine congrArg (fun x : EReal => x + _) ?_
    exact congrFun ((Memref.isWhole_whole cc0_scratch0).read_unread (Val := Elt Ideal) (outsAt0 m c (t.val - 1) (Nat.lt_of_le_of_lt (Nat.sub_le _ _) t.isLt)).2) y
  · rw [outsAt0_B m c t h (by omega) h']
    frame_out
    unfold part rowRow
    pointwise [k0_pay1, k0_pay3]
    refine congrArg (fun x : EReal => x + _) ?_
    exact congrFun ((Memref.isWhole_whole cc0_scratch0).read_unread (Val := Elt Ideal) (outsAt0 m c (t.val - 1) (Nat.lt_of_le_of_lt (Nat.sub_le _ _) t.isLt)).2) y

/-- The last point of a run hands its sum over. -/
theorem last (c : Dev nD) (t : Fin cfg0.N) (h : t.val % 7 = 6) (y : S1408x1024.Idx) :
    ((outsAt0 m c t.val t.isLt).1 y : EReal) = (outsAt0 m c t.val t.isLt).2 y := by
  rw [outsAt0_C m c t (by omega) (by omega) h]
  frame_out

/-- The call leaves the product in its result. -/
theorem leaves (c : Dev nD) : (dats m 0 c).arrAt 2 cfg0.N
    = rowRow (a := 8448) (n := 8064) (b := 1024) (m ((c : Thread nD τ).loc main_arg0)) (m ((c : Thread nD τ).loc main_arg1)) := by
  refine (dats m 0 c).arrAt_eq_of_covers 2 _ (by decide +kernel) fun t hf y => ?_
  have hr : t.val % 7 = 6 := (flush0_2 t).mp hf
  blk_simp
  rw [after0_2]
  refine (last m c t hr y).trans ((Pipeline.eq_sum_fin_of_reset_step_apply_of_flush (M := EReal) (fun n h y => (outsAt0 m c n h).2 y) 7 (fun _ => 0) (part m c)
    (first m c) (later m c) t hr y).trans ((zero_add _).trans ?_))
  unfold part rowRow
  refine Fin.sum_mul_add_congr fun s k hl => congrArg₂ (fun x y : EReal => x * y) ?_ ?_
  · blk_ext [iblk, V, at_0 _, at_2 t]
  · blk_ext [iblk, V, at_1 _, at_2 t]

/-- The reference leaves its arguments and has no semaphores to leave. -/
theorem frame_reference : Cert.quiescent_ReferenceXInProjIdeal := fun m g _ =>
  (θ_run _ _ _).mono (fun r h => ⟨fun c => (h c).2, sem_eq_zero_of_no_sems (by decide) r.2⟩) (Cert.ReferenceXInProjIdeal.Value.run (F := Ideal) m g)

/-- The call and the reference leave the same product. -/
theorem same : Cert.algebraic_KernelXInProjIdeal_ReferenceXInProjIdeal := by
  intro m g m' g' _ ha
  refine ⟨fun c => rowRow (a := 8448) (n := 8064) (b := 1024) (m ((c : Thread nD τ).loc main_arg0)) (m ((c : Thread nD τ).loc main_arg1)),
    (θ_run _ _ _).mono (fun r h c => ⟨(h c).1.trans (leaves m c), (h c).2⟩) (Cert.KernelXInProjIdeal.Value.run_blocks m g),
    (θ_run _ _ _).mono (fun r h c => ⟨(h c).1.trans ?_, (h c).2⟩) (Cert.ReferenceXInProjIdeal.Value.run (F := Ideal) m' g')⟩
  obtain ⟨a0, a1⟩ := ha c
  rw [a0, a1]
  funext i
  unfold rowRow
  pointwise

end Cert.KernelXInProjIdeal.Own

end
-- ==== Proof.Products.WFfnIn.lean ====
/- The gradient of the feed-forward's first matrix, over the extended reals. -/
module

public import proofs.«01_k».proof.Defs
public import proofs.«01_k».proof.Proof.Gen.KernelWFfnIn
public import proofs.«01_k».proof.Proof.Gen.KernelWFfnIn.Skeleton
public import proofs.«01_k».proof.Proof.Gen.KernelWFfnIn.Launch
public import proofs.«01_k».proof.Proof.Gen.KernelWFfnIn.Frame
public import proofs.«01_k».proof.Proof.Gen.KernelWFfnInIdeal
public import proofs.«01_k».proof.Proof.Gen.KernelWFfnInIdeal.Skeleton
public import proofs.«01_k».proof.Proof.Gen.KernelWFfnInIdeal.Launch
public import proofs.«01_k».proof.Proof.Gen.KernelWFfnInIdeal.Frame
public import proofs.«01_k».proof.Proof.Gen.KernelWFfnInIdeal.Value
public import proofs.«01_k».proof.Proof.Gen.ReferenceWFfnInIdeal
public import proofs.«01_k».proof.Proof.Gen.ReferenceWFfnInIdeal.Run
public import proofs.«01_k».proof.Proof.Products.Sums
public import Idealize.ShloMosaic.Lib.Pipeline.ValueKit
public import Idealize.ShloMosaic.Lib.Pointwise
public import Idealize.ShloMosaic.Lib.Quiescent

@[expose] public section

set_option maxRecDepth 16384

noncomputable section

namespace Cert.KernelWFfnInIdeal.Own

open Idealize.ShloMosaic Idealize.ShloMosaic.TcCoe Idealize.SL.Sem Cert.Products
open Cert.KernelWFfnInIdeal Cert.KernelWFfnInIdeal.Gen
open scoped BigOperators

variable (m : (ℓ : Loc nD τ sig) → Buf (Elt Ideal) ℓ) (ρ : Dev nD → PrngReg)

theorem at_0 : ∀ t : Fin grid0.N, win0_0.index t = ![t.val % 6, 0] := by decide +kernel
theorem at_1 : ∀ t : Fin grid0.N, win0_1.index t = ![t.val % 6, t.val / 6] := by decide +kernel
theorem at_2 : ∀ t : Fin grid0.N, win0_2.index t = ![0, t.val / 6] := by decide +kernel

/-- What a point adds. -/
def part (c : Dev nD) (t : Fin cfg0.N) (y : S1024x1408.Idx) : EReal :=
  colCol (a := 1024) (n := 1408) (b := 1408) (iblk m c 0 t) (iblk m c 1 t) y

/-- The first point of a run leaves what it adds. -/
theorem first (c : Dev nD) (t : Fin cfg0.N) (h : t.val % 6 = 0) (y : S1024x1408.Idx) :
    ((outsAt0 m c t.val t.isLt).2 y : EReal) = (0 : EReal) + part m c t y := by
  rw [outsAt0_A m c t h (by omega) (by omega)]
  frame_out
  unfold part colCol
  pointwise [k0_pay1, k0_pay2]

/-- A later point adds to what the point before left. -/
theorem later (c : Dev nD) (t : Fin cfg0.N) (h : ¬t.val % 6 = 0) (y : S1024x1408.Idx) :
    ((outsAt0 m c t.val t.isLt).2 y : EReal) = (outsAt0 m c (t.val - 1) (Nat.lt_of_le_of_lt (Nat.sub_le _ _) t.isLt)).2 y + part m c t y := by
  by_cases h' : t.val % 6 = 5
  · rw [outsAt0_C m c t h (by omega) h']
    frame_out
    unfold part colCol
    pointwise [k0_pay1, k0_pay3]
    refine congrArg (fun x : EReal => x + _) ?_
    exact congrFun ((Memref.isWhole_whole cc0_scratch0).read_unread (Val := Elt Ideal) (outsAt0 m c (t.val - 1) (Nat.lt_of_le_of_lt (Nat.sub_le _ _) t.isLt)).2) y
  · rw [outsAt0_B m c t h (by omega) h']
    frame_out
    unfold part colCol
    pointwise [k0_pay1, k0_pay3]
    refine congrArg (fun x : EReal => x + _) ?_
    exact congrFun ((Memref.isWhole_whole cc0_scratch0).read_unread (Val := Elt Ideal) (outsAt0 m c (t.val - 1) (Nat.lt_of_le_of_lt (Nat.sub_le _ _) t.isLt)).2) y

/-- The last point of a run hands its sum over. -/
theorem last (c : Dev nD) (t : Fin cfg0.N) (h : t.val % 6 = 5) (y : S1024x1408.Idx) :
    ((outsAt0 m c t.val t.isLt).1 y : EReal) = (outsAt0 m c t.val t.isLt).2 y := by
  rw [outsAt0_C m c t (by omega) (by omega) h]
  frame_out
  rfl

/-- The call leaves the product in its result. -/
theorem leaves (c : Dev nD) : (dats m 0 c).arrAt 2 cfg0.N
    = colCol (a := 1024) (n := 8448) (b := 5632) (m ((c : Thread nD τ).loc main_arg0)) (m ((c : Thread nD τ).loc main_arg1)) := by
  refine (dats m 0 c).arrAt_eq_of_covers 2 _ (by decide +kernel) fun t hf y => ?_
  have hr : t.val % 6 = 5 := (flush0_2 t).mp hf
  blk_simp
  rw [after0_2]
  refine (last m c t hr y).trans ((Pipeline.eq_sum_fin_of_reset_step_apply_of_flush (M := EReal) (fun n h y => (outsAt0 m c n h).2 y) 6 (fun _ => 0) (part m c)
    (first m c) (later m c) t hr y).trans ((zero_add _).trans ?_))
  unfold part colCol
  refine Fin.sum_mul_add_congr fun s k hl => congrArg₂ (fun x y : EReal => x * y) ?_ ?_
  · blk_ext [iblk, V, at_0 _, at_2 t]
  · blk_ext [iblk, V, at_1 _, at_2 t]

/-- The reference leaves its arguments and has no semaphores to leave. -/
theorem frame_reference : Cert.quiescent_ReferenceWFfnInIdeal := fun m g _ =>
  (θ_run _ _ _).mono (fun r h => ⟨fun c => (h c).2, sem_eq_zero_of_no_sems (by decide) r.2⟩) (Cert.ReferenceWFfnInIdeal.Value.run (F := Ideal) m g)

/-- The call and the reference leave the same product. -/
theorem same : Cert.algebraic_KernelWFfnInIdeal_ReferenceWFfnInIdeal := by
  intro m g m' g' _ ha
  refine ⟨fun c => colCol (a := 1024) (n := 8448) (b := 5632) (m ((c : Thread nD τ).loc main_arg0)) (m ((c : Thread nD τ).loc main_arg1)),
    (θ_run _ _ _).mono (fun r h c => ⟨(h c).1.trans (leaves m c), (h c).2⟩) (Cert.KernelWFfnInIdeal.Value.run_blocks m g),
    (θ_run _ _ _).mono (fun r h c => ⟨(h c).1.trans ?_, (h c).2⟩) (Cert.ReferenceWFfnInIdeal.Value.run (F := Ideal) m' g')⟩
  obtain ⟨a0, a1⟩ := ha c
  rw [a0, a1]
  funext i
  unfold colCol
  pointwise
  exact Fin.sum_fin_congr fun k => mul_comm (G := EReal) _ _

end Cert.KernelWFfnInIdeal.Own

end
-- ==== Proof.Products.XFfnIn.lean ====
/- The gradient of what the feed-forward's first matrix multiplies, over the extended reals. -/
module

public import proofs.«01_k».proof.Defs
public import proofs.«01_k».proof.Proof.Gen.KernelXFfnIn
public import proofs.«01_k».proof.Proof.Gen.KernelXFfnIn.Skeleton
public import proofs.«01_k».proof.Proof.Gen.KernelXFfnIn.Launch
public import proofs.«01_k».proof.Proof.Gen.KernelXFfnIn.Frame
public import proofs.«01_k».proof.Proof.Gen.KernelXFfnInIdeal
public import proofs.«01_k».proof.Proof.Gen.KernelXFfnInIdeal.Skeleton
public import proofs.«01_k».proof.Proof.Gen.KernelXFfnInIdeal.Launch
public import proofs.«01_k».proof.Proof.Gen.KernelXFfnInIdeal.Frame
public import proofs.«01_k».proof.Proof.Gen.KernelXFfnInIdeal.Value
public import proofs.«01_k».proof.Proof.Gen.ReferenceXFfnInIdeal
public import proofs.«01_k».proof.Proof.Gen.ReferenceXFfnInIdeal.Run
public import proofs.«01_k».proof.Proof.Products.Sums
public import Idealize.ShloMosaic.Lib.Pipeline.ValueKit
public import Idealize.ShloMosaic.Lib.Pointwise
public import Idealize.ShloMosaic.Lib.Quiescent

@[expose] public section

set_option maxRecDepth 16384

noncomputable section

namespace Cert.KernelXFfnInIdeal.Own

open Idealize.ShloMosaic Idealize.ShloMosaic.TcCoe Idealize.SL.Sem Cert.Products
open Cert.KernelXFfnInIdeal Cert.KernelXFfnInIdeal.Gen
open scoped BigOperators

variable (m : (ℓ : Loc nD τ sig) → Buf (Elt Ideal) ℓ) (ρ : Dev nD → PrngReg)

theorem at_0 : ∀ t : Fin grid0.N, win0_0.index t = ![t.val / 4, t.val % 4] := by decide +kernel
theorem at_1 : ∀ t : Fin grid0.N, win0_1.index t = ![0, t.val % 4] := by decide +kernel
theorem at_2 : ∀ t : Fin grid0.N, win0_2.index t = ![t.val / 4, 0] := by decide +kernel

/-- What a point adds. -/
def part (c : Dev nD) (t : Fin cfg0.N) (y : S1408x1024.Idx) : EReal :=
  rowRow (a := 1408) (n := 1408) (b := 1024) (iblk m c 0 t) (iblk m c 1 t) y

/-- The first point of a run leaves what it adds. -/
theorem first (c : Dev nD) (t : Fin cfg0.N) (h : t.val % 4 = 0) (y : S1408x1024.Idx) :
    ((outsAt0 m c t.val t.isLt).2 y : EReal) = (0 : EReal) + part m c t y := by
  rw [outsAt0_A m c t h (by omega) (by omega)]
  frame_out
  unfold part rowRow
  pointwise [k0_pay1, k0_pay2]

/-- A later point adds to what the point before left. -/
theorem later (c : Dev nD) (t : Fin cfg0.N) (h : ¬t.val % 4 = 0) (y : S1408x1024.Idx) :
    ((outsAt0 m c t.val t.isLt).2 y : EReal) = (outsAt0 m c (t.val - 1) (Nat.lt_of_le_of_lt (Nat.sub_le _ _) t.isLt)).2 y + part m c t y := by
  by_cases h' : t.val % 4 = 3
  · rw [outsAt0_C m c t h (by omega) h']
    frame_out
    unfold part rowRow
    pointwise [k0_pay1, k0_pay3]
    refine congrArg (fun x : EReal => x + _) ?_
    exact congrFun ((Memref.isWhole_whole cc0_scratch0).read_unread (Val := Elt Ideal) (outsAt0 m c (t.val - 1) (Nat.lt_of_le_of_lt (Nat.sub_le _ _) t.isLt)).2) y
  · rw [outsAt0_B m c t h (by omega) h']
    frame_out
    unfold part rowRow
    pointwise [k0_pay1, k0_pay3]
    refine congrArg (fun x : EReal => x + _) ?_
    exact congrFun ((Memref.isWhole_whole cc0_scratch0).read_unread (Val := Elt Ideal) (outsAt0 m c (t.val - 1) (Nat.lt_of_le_of_lt (Nat.sub_le _ _) t.isLt)).2) y

/-- The last point of a run hands its sum over. -/
theorem last (c : Dev nD) (t : Fin cfg0.N) (h : t.val % 4 = 3) (y : S1408x1024.Idx) :
    ((outsAt0 m c t.val t.isLt).1 y : EReal) = (outsAt0 m c t.val t.isLt).2 y := by
  rw [outsAt0_C m c t (by omega) (by omega) h]
  frame_out

/-- The call leaves the product in its result. -/
theorem leaves (c : Dev nD) : (dats m 0 c).arrAt 2 cfg0.N
    = rowRow (a := 8448) (n := 5632) (b := 1024) (m ((c : Thread nD τ).loc main_arg0)) (m ((c : Thread nD τ).loc main_arg1)) := by
  refine (dats m 0 c).arrAt_eq_of_covers 2 _ (by decide +kernel) fun t hf y => ?_
  have hr : t.val % 4 = 3 := (flush0_2 t).mp hf
  blk_simp
  rw [after0_2]
  refine (last m c t hr y).trans ((Pipeline.eq_sum_fin_of_reset_step_apply_of_flush (M := EReal) (fun n h y => (outsAt0 m c n h).2 y) 4 (fun _ => 0) (part m c)
    (first m c) (later m c) t hr y).trans ((zero_add _).trans ?_))
  unfold part rowRow
  refine Fin.sum_mul_add_congr fun s k hl => congrArg₂ (fun x y : EReal => x * y) ?_ ?_
  · blk_ext [iblk, V, at_0 _, at_2 t]
  · blk_ext [iblk, V, at_1 _, at_2 t]

/-- The reference leaves its arguments and has no semaphores to leave. -/
theorem frame_reference : Cert.quiescent_ReferenceXFfnInIdeal := fun m g _ =>
  (θ_run _ _ _).mono (fun r h => ⟨fun c => (h c).2, sem_eq_zero_of_no_sems (by decide) r.2⟩) (Cert.ReferenceXFfnInIdeal.Value.run (F := Ideal) m g)

/-- The call and the reference leave the same product. -/
theorem same : Cert.algebraic_KernelXFfnInIdeal_ReferenceXFfnInIdeal := by
  intro m g m' g' _ ha
  refine ⟨fun c => rowRow (a := 8448) (n := 5632) (b := 1024) (m ((c : Thread nD τ).loc main_arg0)) (m ((c : Thread nD τ).loc main_arg1)),
    (θ_run _ _ _).mono (fun r h c => ⟨(h c).1.trans (leaves m c), (h c).2⟩) (Cert.KernelXFfnInIdeal.Value.run_blocks m g),
    (θ_run _ _ _).mono (fun r h c => ⟨(h c).1.trans ?_, (h c).2⟩) (Cert.ReferenceXFfnInIdeal.Value.run (F := Ideal) m' g')⟩
  obtain ⟨a0, a1⟩ := ha c
  rw [a0, a1]
  funext i
  unfold rowRow
  pointwise

end Cert.KernelXFfnInIdeal.Own

end
-- ==== Proof.Products.WFfnOut.lean ====
/- The gradient of the feed-forward's second matrix, over the extended reals. -/
module

public import proofs.«01_k».proof.Defs
public import proofs.«01_k».proof.Proof.Gen.KernelWFfnOut
public import proofs.«01_k».proof.Proof.Gen.KernelWFfnOut.Skeleton
public import proofs.«01_k».proof.Proof.Gen.KernelWFfnOut.Launch
public import proofs.«01_k».proof.Proof.Gen.KernelWFfnOut.Frame
public import proofs.«01_k».proof.Proof.Gen.KernelWFfnOutIdeal
public import proofs.«01_k».proof.Proof.Gen.KernelWFfnOutIdeal.Skeleton
public import proofs.«01_k».proof.Proof.Gen.KernelWFfnOutIdeal.Launch
public import proofs.«01_k».proof.Proof.Gen.KernelWFfnOutIdeal.Frame
public import proofs.«01_k».proof.Proof.Gen.KernelWFfnOutIdeal.Value
public import proofs.«01_k».proof.Proof.Gen.ReferenceWFfnOutIdeal
public import proofs.«01_k».proof.Proof.Gen.ReferenceWFfnOutIdeal.Run
public import proofs.«01_k».proof.Proof.Products.Sums
public import Idealize.ShloMosaic.Lib.Pipeline.ValueKit
public import Idealize.ShloMosaic.Lib.Pointwise
public import Idealize.ShloMosaic.Lib.Quiescent

@[expose] public section

set_option maxRecDepth 16384

noncomputable section

namespace Cert.KernelWFfnOutIdeal.Own

open Idealize.ShloMosaic Idealize.ShloMosaic.TcCoe Idealize.SL.Sem Cert.Products
open Cert.KernelWFfnOutIdeal Cert.KernelWFfnOutIdeal.Gen
open scoped BigOperators

variable (m : (ℓ : Loc nD τ sig) → Buf (Elt Ideal) ℓ) (ρ : Dev nD → PrngReg)

theorem at_0 : ∀ t : Fin grid0.N, win0_0.index t = ![t.val % 6, t.val / 6] := by decide +kernel
theorem at_1 : ∀ t : Fin grid0.N, win0_1.index t = ![t.val % 6, 0] := by decide +kernel
theorem at_2 : ∀ t : Fin grid0.N, win0_2.index t = ![t.val / 6, 0] := by decide +kernel

/-- What a point adds. -/
def part (c : Dev nD) (t : Fin cfg0.N) (y : S1408x1024.Idx) : EReal :=
  colCol (a := 1408) (n := 1408) (b := 1024) (iblk m c 0 t) (iblk m c 1 t) y

/-- The first point of a run leaves what it adds. -/
theorem first (c : Dev nD) (t : Fin cfg0.N) (h : t.val % 6 = 0) (y : S1408x1024.Idx) :
    ((outsAt0 m c t.val t.isLt).2 y : EReal) = (0 : EReal) + part m c t y := by
  rw [outsAt0_A m c t h (by omega) (by omega)]
  frame_out
  unfold part colCol
  pointwise [k0_pay1, k0_pay2]

/-- A later point adds to what the point before left. -/
theorem later (c : Dev nD) (t : Fin cfg0.N) (h : ¬t.val % 6 = 0) (y : S1408x1024.Idx) :
    ((outsAt0 m c t.val t.isLt).2 y : EReal) = (outsAt0 m c (t.val - 1) (Nat.lt_of_le_of_lt (Nat.sub_le _ _) t.isLt)).2 y + part m c t y := by
  by_cases h' : t.val % 6 = 5
  · rw [outsAt0_C m c t h (by omega) h']
    frame_out
    unfold part colCol
    pointwise [k0_pay1, k0_pay3]
    refine congrArg (fun x : EReal => x + _) ?_
    exact congrFun ((Memref.isWhole_whole cc0_scratch0).read_unread (Val := Elt Ideal) (outsAt0 m c (t.val - 1) (Nat.lt_of_le_of_lt (Nat.sub_le _ _) t.isLt)).2) y
  · rw [outsAt0_B m c t h (by omega) h']
    frame_out
    unfold part colCol
    pointwise [k0_pay1, k0_pay3]
    refine congrArg (fun x : EReal => x + _) ?_
    exact congrFun ((Memref.isWhole_whole cc0_scratch0).read_unread (Val := Elt Ideal) (outsAt0 m c (t.val - 1) (Nat.lt_of_le_of_lt (Nat.sub_le _ _) t.isLt)).2) y

/-- The last point of a run hands its sum over. -/
theorem last (c : Dev nD) (t : Fin cfg0.N) (h : t.val % 6 = 5) (y : S1408x1024.Idx) :
    ((outsAt0 m c t.val t.isLt).1 y : EReal) = (outsAt0 m c t.val t.isLt).2 y := by
  rw [outsAt0_C m c t (by omega) (by omega) h]
  frame_out
  rfl

/-- The call leaves the product in its result. -/
theorem leaves (c : Dev nD) : (dats m 0 c).arrAt 2 cfg0.N
    = colCol (a := 2816) (n := 8448) (b := 1024) (m ((c : Thread nD τ).loc main_arg0)) (m ((c : Thread nD τ).loc main_arg1)) := by
  refine (dats m 0 c).arrAt_eq_of_covers 2 _ (by decide +kernel) fun t hf y => ?_
  have hr : t.val % 6 = 5 := (flush0_2 t).mp hf
  blk_simp
  rw [after0_2]
  refine (last m c t hr y).trans ((Pipeline.eq_sum_fin_of_reset_step_apply_of_flush (M := EReal) (fun n h y => (outsAt0 m c n h).2 y) 6 (fun _ => 0) (part m c)
    (first m c) (later m c) t hr y).trans ((zero_add _).trans ?_))
  unfold part colCol
  refine Fin.sum_mul_add_congr fun s k hl => congrArg₂ (fun x y : EReal => x * y) ?_ ?_
  · blk_ext [iblk, V, at_0 _, at_2 t]
  · blk_ext [iblk, V, at_1 _, at_2 t]

/-- The reference leaves its arguments and has no semaphores to leave. -/
theorem frame_reference : Cert.quiescent_ReferenceWFfnOutIdeal := fun m g _ =>
  (θ_run _ _ _).mono (fun r h => ⟨fun c => (h c).2, sem_eq_zero_of_no_sems (by decide) r.2⟩) (Cert.ReferenceWFfnOutIdeal.Value.run (F := Ideal) m g)

/-- The call and the reference leave the same product. -/
theorem same : Cert.algebraic_KernelWFfnOutIdeal_ReferenceWFfnOutIdeal := by
  intro m g m' g' _ ha
  refine ⟨fun c => colCol (a := 2816) (n := 8448) (b := 1024) (m ((c : Thread nD τ).loc main_arg0)) (m ((c : Thread nD τ).loc main_arg1)),
    (θ_run _ _ _).mono (fun r h c => ⟨(h c).1.trans (leaves m c), (h c).2⟩) (Cert.KernelWFfnOutIdeal.Value.run_blocks m g),
    (θ_run _ _ _).mono (fun r h c => ⟨(h c).1.trans ?_, (h c).2⟩) (Cert.ReferenceWFfnOutIdeal.Value.run (F := Ideal) m' g')⟩
  obtain ⟨a0, a1⟩ := ha c
  rw [a0, a1]
  funext i
  unfold colCol
  pointwise
  exact Fin.sum_fin_congr fun k => mul_comm (G := EReal) _ _

end Cert.KernelWFfnOutIdeal.Own

end
-- ==== Proof.Products.XFfnOut.lean ====
/- The gradient of what the feed-forward's second matrix multiplies, over the extended reals. -/
module

public import proofs.«01_k».proof.Defs
public import proofs.«01_k».proof.Proof.Gen.KernelXFfnOut
public import proofs.«01_k».proof.Proof.Gen.KernelXFfnOut.Skeleton
public import proofs.«01_k».proof.Proof.Gen.KernelXFfnOut.Launch
public import proofs.«01_k».proof.Proof.Gen.KernelXFfnOut.Frame
public import proofs.«01_k».proof.Proof.Gen.KernelXFfnOutIdeal
public import proofs.«01_k».proof.Proof.Gen.KernelXFfnOutIdeal.Skeleton
public import proofs.«01_k».proof.Proof.Gen.KernelXFfnOutIdeal.Launch
public import proofs.«01_k».proof.Proof.Gen.KernelXFfnOutIdeal.Frame
public import proofs.«01_k».proof.Proof.Gen.KernelXFfnOutIdeal.Value
public import proofs.«01_k».proof.Proof.Gen.ReferenceXFfnOutIdeal
public import proofs.«01_k».proof.Proof.Gen.ReferenceXFfnOutIdeal.Run
public import proofs.«01_k».proof.Proof.Products.Sums
public import Idealize.ShloMosaic.Lib.Pipeline.ValueKit
public import Idealize.ShloMosaic.Lib.Pointwise
public import Idealize.ShloMosaic.Lib.Quiescent

@[expose] public section

set_option maxRecDepth 16384

noncomputable section

namespace Cert.KernelXFfnOutIdeal.Own

open Idealize.ShloMosaic Idealize.ShloMosaic.TcCoe Idealize.SL.Sem Cert.Products
open Cert.KernelXFfnOutIdeal Cert.KernelXFfnOutIdeal.Gen
open scoped BigOperators

variable (m : (ℓ : Loc nD τ sig) → Buf (Elt Ideal) ℓ) (ρ : Dev nD → PrngReg)

theorem at_0 : ∀ t : Fin grid0.N, win0_0.index t = ![t.val / 2, 0] := by decide +kernel
theorem at_1 : ∀ t : Fin grid0.N, win0_1.index t = ![t.val % 2, 0] := by decide +kernel
theorem at_2 : ∀ t : Fin grid0.N, win0_2.index t = ![t.val / 2, t.val % 2] := by decide +kernel

/-- The call leaves the product in its result. -/
theorem leaves (c : Dev nD) : (dats m 0 c).arrAt 2 cfg0.N
    = rowRow (a := 8448) (n := 1024) (b := 2816) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold rowRow
  pointwise [k0_pay1]
  refine Fin.sum_fin_congr fun k => congrArg₂ (fun x y : EReal => x * y) ?_ ?_
  · blk_ext [iblk, V, at_0 t, at_2 t]
  · blk_ext [iblk, V, at_1 t, at_2 t]

/-- The reference leaves its arguments and has no semaphores to leave. -/
theorem frame_reference : Cert.quiescent_ReferenceXFfnOutIdeal := fun m g _ =>
  (θ_run _ _ _).mono (fun r h => ⟨fun c => (h c).2, sem_eq_zero_of_no_sems (by decide) r.2⟩) (Cert.ReferenceXFfnOutIdeal.Value.run (F := Ideal) m g)

/-- The call and the reference leave the same product. -/
theorem same : Cert.algebraic_KernelXFfnOutIdeal_ReferenceXFfnOutIdeal := by
  intro m g m' g' _ ha
  refine ⟨fun c => rowRow (a := 8448) (n := 1024) (b := 2816) (m ((c : Thread nD τ).loc main_arg0)) (m ((c : Thread nD τ).loc main_arg1)),
    (θ_run _ _ _).mono (fun r h c => ⟨(h c).1.trans (leaves m c), (h c).2⟩) (Cert.KernelXFfnOutIdeal.Value.run_blocks m g),
    (θ_run _ _ _).mono (fun r h c => ⟨(h c).1.trans ?_, (h c).2⟩) (Cert.ReferenceXFfnOutIdeal.Value.run (F := Ideal) m' g')⟩
  obtain ⟨a0, a1⟩ := ha c
  rw [a0, a1]
  funext i
  unfold rowRow
  pointwise

end Cert.KernelXFfnOutIdeal.Own

end
-- ==== Proof.Products.WOut.lean ====
/- The gradient of the matrix of the merged mixers, over the extended reals. -/
module

public import proofs.«01_k».proof.Defs
public import proofs.«01_k».proof.Proof.Gen.KernelWOut
public import proofs.«01_k».proof.Proof.Gen.KernelWOut.Skeleton
public import proofs.«01_k».proof.Proof.Gen.KernelWOut.Launch
public import proofs.«01_k».proof.Proof.Gen.KernelWOut.Frame
public import proofs.«01_k».proof.Proof.Gen.KernelWOutIdeal
public import proofs.«01_k».proof.Proof.Gen.KernelWOutIdeal.Skeleton
public import proofs.«01_k».proof.Proof.Gen.KernelWOutIdeal.Launch
public import proofs.«01_k».proof.Proof.Gen.KernelWOutIdeal.Frame
public import proofs.«01_k».proof.Proof.Gen.KernelWOutIdeal.Value
public import proofs.«01_k».proof.Proof.Gen.ReferenceWOutIdeal
public import proofs.«01_k».proof.Proof.Gen.ReferenceWOutIdeal.Run
public import proofs.«01_k».proof.Proof.Products.Sums
public import Idealize.ShloMosaic.Lib.Pipeline.ValueKit
public import Idealize.ShloMosaic.Lib.Pointwise
public import Idealize.ShloMosaic.Lib.Quiescent

@[expose] public section

set_option maxRecDepth 16384

noncomputable section

namespace Cert.KernelWOutIdeal.Own

open Idealize.ShloMosaic Idealize.ShloMosaic.TcCoe Idealize.SL.Sem Cert.Products
open Cert.KernelWOutIdeal Cert.KernelWOutIdeal.Gen
open scoped BigOperators

variable (m : (ℓ : Loc nD τ sig) → Buf (Elt Ideal) ℓ) (ρ : Dev nD → PrngReg)

theorem at_0 : ∀ t : Fin grid0.N, win0_0.index t = ![t.val % 6, 0] := by decide +kernel
theorem at_1 : ∀ t : Fin grid0.N, win0_1.index t = ![t.val % 6, 0] := by decide +kernel
theorem at_2 : ∀ t : Fin grid0.N, win0_2.index t = ![0, 0] := by decide +kernel

/-- What a point adds. -/
def part (c : Dev nD) (t : Fin cfg0.N) (y : S1024x1024.Idx) : EReal :=
  colCol (a := 1024) (n := 1408) (b := 1024) (iblk m c 0 t) (iblk m c 1 t) y

/-- The first point of a run leaves what it adds. -/
theorem first (c : Dev nD) (t : Fin cfg0.N) (h : t.val % 6 = 0) (y : S1024x1024.Idx) :
    ((outsAt0 m c t.val t.isLt).2 y : EReal) = (0 : EReal) + part m c t y := by
  have hN : t.val < 6 := lt_of_lt_of_eq t.isLt (show cfg0.N = 6 from N_0)
  rw [outsAt0_A m c t h (by omega) (by omega)]
  frame_out
  unfold part colCol
  pointwise [k0_pay1, k0_pay2]

/-- A later point adds to what the point before left. -/
theorem later (c : Dev nD) (t : Fin cfg0.N) (h : ¬t.val % 6 = 0) (y : S1024x1024.Idx) :
    ((outsAt0 m c t.val t.isLt).2 y : EReal) = (outsAt0 m c (t.val - 1) (Nat.lt_of_le_of_lt (Nat.sub_le _ _) t.isLt)).2 y + part m c t y := by
  have hN : t.val < 6 := lt_of_lt_of_eq t.isLt (show cfg0.N = 6 from N_0)
  by_cases h' : t.val % 6 = 5
  · rw [outsAt0_C m c t h (by omega) h']
    frame_out
    unfold part colCol
    pointwise [k0_pay1, k0_pay3]
    refine congrArg (fun x : EReal => x + _) ?_
    exact congrFun ((Memref.isWhole_whole cc0_scratch0).read_unread (Val := Elt Ideal) (outsAt0 m c (t.val - 1) (Nat.lt_of_le_of_lt (Nat.sub_le _ _) t.isLt)).2) y
  · rw [outsAt0_B m c t h (by omega) h']
    frame_out
    unfold part colCol
    pointwise [k0_pay1, k0_pay3]
    refine congrArg (fun x : EReal => x + _) ?_
    exact congrFun ((Memref.isWhole_whole cc0_scratch0).read_unread (Val := Elt Ideal) (outsAt0 m c (t.val - 1) (Nat.lt_of_le_of_lt (Nat.sub_le _ _) t.isLt)).2) y

/-- The last point of a run hands its sum over. -/
theorem last (c : Dev nD) (t : Fin cfg0.N) (h : t.val % 6 = 5) (y : S1024x1024.Idx) :
    ((outsAt0 m c t.val t.isLt).1 y : EReal) = (outsAt0 m c t.val t.isLt).2 y := by
  have hN : t.val < 6 := lt_of_lt_of_eq t.isLt (show cfg0.N = 6 from N_0)
  rw [outsAt0_C m c t (by omega) (by omega) h]
  frame_out
  rfl

/-- The call leaves the product in its result. -/
theorem leaves (c : Dev nD) : (dats m 0 c).arrAt 2 cfg0.N
    = colCol (a := 1024) (n := 8448) (b := 1024) (m ((c : Thread nD τ).loc main_arg0)) (m ((c : Thread nD τ).loc main_arg1)) := by
  refine (dats m 0 c).arrAt_eq_of_covers 2 _ (by decide +kernel) fun t hf y => ?_
  have hr : t.val % 6 = 5 := (flush0_2 t).mp hf
  blk_simp
  rw [after0_2]
  refine (last m c t hr y).trans ((Pipeline.eq_sum_fin_of_reset_step_apply_of_flush (M := EReal) (fun n h y => (outsAt0 m c n h).2 y) 6 (fun _ => 0) (part m c)
    (first m c) (later m c) t hr y).trans ((zero_add _).trans ?_))
  unfold part colCol
  refine Fin.sum_mul_add_congr fun s k hl => congrArg₂ (fun x y : EReal => x * y) ?_ ?_
  · blk_ext [iblk, V, at_0 _, at_2 t]
  · blk_ext [iblk, V, at_1 _, at_2 t]

/-- The reference leaves its arguments and has no semaphores to leave. -/
theorem frame_reference : Cert.quiescent_ReferenceWOutIdeal := fun m g _ =>
  (θ_run _ _ _).mono (fun r h => ⟨fun c => (h c).2, sem_eq_zero_of_no_sems (by decide) r.2⟩) (Cert.ReferenceWOutIdeal.Value.run (F := Ideal) m g)

/-- The call and the reference leave the same product. -/
theorem same : Cert.algebraic_KernelWOutIdeal_ReferenceWOutIdeal := by
  intro m g m' g' _ ha
  refine ⟨fun c => colCol (a := 1024) (n := 8448) (b := 1024) (m ((c : Thread nD τ).loc main_arg0)) (m ((c : Thread nD τ).loc main_arg1)),
    (θ_run _ _ _).mono (fun r h c => ⟨(h c).1.trans (leaves m c), (h c).2⟩) (Cert.KernelWOutIdeal.Value.run_blocks m g),
    (θ_run _ _ _).mono (fun r h c => ⟨(h c).1.trans ?_, (h c).2⟩) (Cert.ReferenceWOutIdeal.Value.run (F := Ideal) m' g')⟩
  obtain ⟨a0, a1⟩ := ha c
  rw [a0, a1]
  funext i
  unfold colCol
  pointwise
  exact Fin.sum_fin_congr fun k => mul_comm (G := EReal) _ _

end Cert.KernelWOutIdeal.Own

end
-- ==== Proof.Products.XOut.lean ====
/- The gradient of what the matrix of the merged mixers multiplies, over the extended reals. -/
module

public import proofs.«01_k».proof.Defs
public import proofs.«01_k».proof.Proof.Gen.KernelXOut
public import proofs.«01_k».proof.Proof.Gen.KernelXOut.Skeleton
public import proofs.«01_k».proof.Proof.Gen.KernelXOut.Launch
public import proofs.«01_k».proof.Proof.Gen.KernelXOut.Frame
public import proofs.«01_k».proof.Proof.Gen.KernelXOutIdeal
public import proofs.«01_k».proof.Proof.Gen.KernelXOutIdeal.Skeleton
public import proofs.«01_k».proof.Proof.Gen.KernelXOutIdeal.Launch
public import proofs.«01_k».proof.Proof.Gen.KernelXOutIdeal.Frame
public import proofs.«01_k».proof.Proof.Gen.KernelXOutIdeal.Value
public import proofs.«01_k».proof.Proof.Gen.ReferenceXOutIdeal
public import proofs.«01_k».proof.Proof.Gen.ReferenceXOutIdeal.Run
public import proofs.«01_k».proof.Proof.Products.Sums
public import Idealize.ShloMosaic.Lib.Pipeline.ValueKit
public import Idealize.ShloMosaic.Lib.Pointwise
public import Idealize.ShloMosaic.Lib.Quiescent

@[expose] public section

set_option maxRecDepth 16384

noncomputable section

namespace Cert.KernelXOutIdeal.Own

open Idealize.ShloMosaic Idealize.ShloMosaic.TcCoe Idealize.SL.Sem Cert.Products
open Cert.KernelXOutIdeal Cert.KernelXOutIdeal.Gen
open scoped BigOperators

variable (m : (ℓ : Loc nD τ sig) → Buf (Elt Ideal) ℓ) (ρ : Dev nD → PrngReg)

theorem at_0 : ∀ t : Fin grid0.N, win0_0.index t = ![t.val, 0] := by decide +kernel
theorem at_1 : ∀ t : Fin grid0.N, win0_1.index t = ![0, 0] := by decide +kernel
theorem at_2 : ∀ t : Fin grid0.N, win0_2.index t = ![t.val, 0] := by decide +kernel

/-- The call leaves the product in its result. -/
theorem leaves (c : Dev nD) : (dats m 0 c).arrAt 2 cfg0.N
    = rowRow (a := 8448) (n := 1024) (b := 1024) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold rowRow
  pointwise [k0_pay1]
  refine Fin.sum_fin_congr fun k => congrArg₂ (fun x y : EReal => x * y) ?_ ?_
  · blk_ext [iblk, V, at_0 t, at_2 t]
  · blk_ext [iblk, V, at_1 t, at_2 t]

/-- The reference leaves its arguments and has no semaphores to leave. -/
theorem frame_reference : Cert.quiescent_ReferenceXOutIdeal := fun m g _ =>
  (θ_run _ _ _).mono (fun r h => ⟨fun c => (h c).2, sem_eq_zero_of_no_sems (by decide) r.2⟩) (Cert.ReferenceXOutIdeal.Value.run (F := Ideal) m g)

/-- The call and the reference leave the same product. -/
theorem same : Cert.algebraic_KernelXOutIdeal_ReferenceXOutIdeal := by
  intro m g m' g' _ ha
  refine ⟨fun c => rowRow (a := 8448) (n := 1024) (b := 1024) (m ((c : Thread nD τ).loc main_arg0)) (m ((c : Thread nD τ).loc main_arg1)),
    (θ_run _ _ _).mono (fun r h c => ⟨(h c).1.trans (leaves m c), (h c).2⟩) (Cert.KernelXOutIdeal.Value.run_blocks m g),
    (θ_run _ _ _).mono (fun r h c => ⟨(h c).1.trans ?_, (h c).2⟩) (Cert.ReferenceXOutIdeal.Value.run (F := Ideal) m' g')⟩
  obtain ⟨a0, a1⟩ := ha c
  rw [a0, a1]
  funext i
  unfold rowRow
  pointwise

end Cert.KernelXOutIdeal.Own

end
-- ==== Proof.Products.XProj.lean ====
/- The gradient of what a mixer's projection multiplies, over the extended reals. -/
module

public import proofs.«01_k».proof.Defs
public import proofs.«01_k».proof.Proof.Gen.KernelXProj
public import proofs.«01_k».proof.Proof.Gen.KernelXProj.Skeleton
public import proofs.«01_k».proof.Proof.Gen.KernelXProj.Launch
public import proofs.«01_k».proof.Proof.Gen.KernelXProj.Frame
public import proofs.«01_k».proof.Proof.Gen.KernelXProjIdeal
public import proofs.«01_k».proof.Proof.Gen.KernelXProjIdeal.Skeleton
public import proofs.«01_k».proof.Proof.Gen.KernelXProjIdeal.Launch
public import proofs.«01_k».proof.Proof.Gen.KernelXProjIdeal.Frame
public import proofs.«01_k».proof.Proof.Gen.KernelXProjIdeal.Value
public import proofs.«01_k».proof.Proof.Gen.ReferenceXProjIdeal
public import proofs.«01_k».proof.Proof.Gen.ReferenceXProjIdeal.Run
public import proofs.«01_k».proof.Proof.Products.Sums
public import Idealize.ShloMosaic.Lib.Pipeline.ValueKit
public import Idealize.ShloMosaic.Lib.Pointwise
public import Idealize.ShloMosaic.Lib.Quiescent

@[expose] public section

set_option maxRecDepth 16384

noncomputable section

namespace Cert.KernelXProjIdeal.Own

open Idealize.ShloMosaic Idealize.ShloMosaic.TcCoe Idealize.SL.Sem Cert.Products
open Cert.KernelXProjIdeal Cert.KernelXProjIdeal.Gen
open scoped BigOperators

variable (m : (ℓ : Loc nD τ sig) → Buf (Elt Ideal) ℓ) (ρ : Dev nD → PrngReg)

theorem at_0 : ∀ t : Fin grid0.N, win0_0.index t = ![t.val, 0] := by decide +kernel
theorem at_1 : ∀ t : Fin grid0.N, win0_1.index t = ![0, 0] := by decide +kernel
theorem at_2 : ∀ t : Fin grid0.N, win0_2.index t = ![t.val, 0] := by decide +kernel

/-- The call leaves the product in its result. -/
theorem leaves (c : Dev nD) : (dats m 0 c).arrAt 2 cfg0.N
    = rowRow (a := 8448) (n := 1024) (b := 1024) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold rowRow
  pointwise [k0_pay1]
  refine Fin.sum_fin_congr fun k => congrArg₂ (fun x y : EReal => x * y) ?_ ?_
  · blk_ext [iblk, V, at_0 t, at_2 t]
  · blk_ext [iblk, V, at_1 t, at_2 t]

/-- The reference leaves its arguments and has no semaphores to leave. -/
theorem frame_reference : Cert.quiescent_ReferenceXProjIdeal := fun m g _ =>
  (θ_run _ _ _).mono (fun r h => ⟨fun c => (h c).2, sem_eq_zero_of_no_sems (by decide) r.2⟩) (Cert.ReferenceXProjIdeal.Value.run (F := Ideal) m g)

/-- The call and the reference leave the same product. -/
theorem same : Cert.algebraic_KernelXProjIdeal_ReferenceXProjIdeal := by
  intro m g m' g' _ ha
  refine ⟨fun c => rowRow (a := 8448) (n := 1024) (b := 1024) (m ((c : Thread nD τ).loc main_arg0)) (m ((c : Thread nD τ).loc main_arg1)),
    (θ_run _ _ _).mono (fun r h c => ⟨(h c).1.trans (leaves m c), (h c).2⟩) (Cert.KernelXProjIdeal.Value.run_blocks m g),
    (θ_run _ _ _).mono (fun r h c => ⟨(h c).1.trans ?_, (h c).2⟩) (Cert.ReferenceXProjIdeal.Value.run (F := Ideal) m' g')⟩
  obtain ⟨a0, a1⟩ := ha c
  rw [a0, a1]
  funext i
  unfold rowRow
  pointwise

end Cert.KernelXProjIdeal.Own

end
-- ==== Proof.Products.WUq.lean ====
/- The gradient of the matrix of the latent queries, over the extended reals. -/
module

public import proofs.«01_k».proof.Defs
public import proofs.«01_k».proof.Proof.Gen.KernelWUq
public import proofs.«01_k».proof.Proof.Gen.KernelWUq.Skeleton
public import proofs.«01_k».proof.Proof.Gen.KernelWUq.Launch
public import proofs.«01_k».proof.Proof.Gen.KernelWUq.Frame
public import proofs.«01_k».proof.Proof.Gen.KernelWUqIdeal
public import proofs.«01_k».proof.Proof.Gen.KernelWUqIdeal.Skeleton
public import proofs.«01_k».proof.Proof.Gen.KernelWUqIdeal.Launch
public import proofs.«01_k».proof.Proof.Gen.KernelWUqIdeal.Frame
public import proofs.«01_k».proof.Proof.Gen.KernelWUqIdeal.Value
public import proofs.«01_k».proof.Proof.Gen.ReferenceWUqIdeal
public import proofs.«01_k».proof.Proof.Gen.ReferenceWUqIdeal.Run
public import proofs.«01_k».proof.Proof.Products.Sums
public import Idealize.ShloMosaic.Lib.Pipeline.ValueKit
public import Idealize.ShloMosaic.Lib.Pointwise
public import Idealize.ShloMosaic.Lib.Quiescent

@[expose] public section

set_option maxRecDepth 16384

noncomputable section

namespace Cert.KernelWUqIdeal.Own

open Idealize.ShloMosaic Idealize.ShloMosaic.TcCoe Idealize.SL.Sem Cert.Products
open Cert.KernelWUqIdeal Cert.KernelWUqIdeal.Gen
open scoped BigOperators

variable (m : (ℓ : Loc nD τ sig) → Buf (Elt Ideal) ℓ) (ρ : Dev nD → PrngReg)

theorem at_0 : ∀ t : Fin grid0.N, win0_0.index t = ![t.val % 6, 0] := by decide +kernel
theorem at_1 : ∀ t : Fin grid0.N, win0_1.index t = ![t.val % 6, t.val / 6] := by decide +kernel
theorem at_2 : ∀ t : Fin grid0.N, win0_2.index t = ![0, t.val / 6] := by decide +kernel

/-- What a point adds. -/
def part (c : Dev nD) (t : Fin cfg0.N) (y : S384x1024.Idx) : EReal :=
  colCol (a := 384) (n := 1408) (b := 1024) (iblk m c 0 t) (iblk m c 1 t) y

/-- The first point of a run leaves what it adds. -/
theorem first (c : Dev nD) (t : Fin cfg0.N) (h : t.val % 6 = 0) (y : S384x1024.Idx) :
    ((outsAt0 m c t.val t.isLt).2 y : EReal) = (0 : EReal) + part m c t y := by
  rw [outsAt0_A m c t h (by omega) (by omega)]
  frame_out
  unfold part colCol
  pointwise [k0_pay1, k0_pay2]

/-- A later point adds to what the point before left. -/
theorem later (c : Dev nD) (t : Fin cfg0.N) (h : ¬t.val % 6 = 0) (y : S384x1024.Idx) :
    ((outsAt0 m c t.val t.isLt).2 y : EReal) = (outsAt0 m c (t.val - 1) (Nat.lt_of_le_of_lt (Nat.sub_le _ _) t.isLt)).2 y + part m c t y := by
  by_cases h' : t.val % 6 = 5
  · rw [outsAt0_C m c t h (by omega) h']
    frame_out
    unfold part colCol
    pointwise [k0_pay1, k0_pay3]
    refine congrArg (fun x : EReal => x + _) ?_
    exact congrFun ((Memref.isWhole_whole cc0_scratch0).read_unread (Val := Elt Ideal) (outsAt0 m c (t.val - 1) (Nat.lt_of_le_of_lt (Nat.sub_le _ _) t.isLt)).2) y
  · rw [outsAt0_B m c t h (by omega) h']
    frame_out
    unfold part colCol
    pointwise [k0_pay1, k0_pay3]
    refine congrArg (fun x : EReal => x + _) ?_
    exact congrFun ((Memref.isWhole_whole cc0_scratch0).read_unread (Val := Elt Ideal) (outsAt0 m c (t.val - 1) (Nat.lt_of_le_of_lt (Nat.sub_le _ _) t.isLt)).2) y

/-- The last point of a run hands its sum over. -/
theorem last (c : Dev nD) (t : Fin cfg0.N) (h : t.val % 6 = 5) (y : S384x1024.Idx) :
    ((outsAt0 m c t.val t.isLt).1 y : EReal) = (outsAt0 m c t.val t.isLt).2 y := by
  rw [outsAt0_C m c t (by omega) (by omega) h]
  frame_out
  rfl

/-- The call leaves the product in its result. -/
theorem leaves (c : Dev nD) : (dats m 0 c).arrAt 2 cfg0.N
    = colCol (a := 384) (n := 8448) (b := 2048) (m ((c : Thread nD τ).loc main_arg0)) (m ((c : Thread nD τ).loc main_arg1)) := by
  refine (dats m 0 c).arrAt_eq_of_covers 2 _ (by decide +kernel) fun t hf y => ?_
  have hr : t.val % 6 = 5 := (flush0_2 t).mp hf
  blk_simp
  rw [after0_2]
  refine (last m c t hr y).trans ((Pipeline.eq_sum_fin_of_reset_step_apply_of_flush (M := EReal) (fun n h y => (outsAt0 m c n h).2 y) 6 (fun _ => 0) (part m c)
    (first m c) (later m c) t hr y).trans ((zero_add _).trans ?_))
  unfold part colCol
  refine Fin.sum_mul_add_congr fun s k hl => congrArg₂ (fun x y : EReal => x * y) ?_ ?_
  · blk_ext [iblk, V, at_0 _, at_2 t]
  · blk_ext [iblk, V, at_1 _, at_2 t]

/-- The reference leaves its arguments and has no semaphores to leave. -/
theorem frame_reference : Cert.quiescent_ReferenceWUqIdeal := fun m g _ =>
  (θ_run _ _ _).mono (fun r h => ⟨fun c => (h c).2, sem_eq_zero_of_no_sems (by decide) r.2⟩) (Cert.ReferenceWUqIdeal.Value.run (F := Ideal) m g)

/-- The call and the reference leave the same product. -/
theorem same : Cert.algebraic_KernelWUqIdeal_ReferenceWUqIdeal := by
  intro m g m' g' _ ha
  refine ⟨fun c => colCol (a := 384) (n := 8448) (b := 2048) (m ((c : Thread nD τ).loc main_arg0)) (m ((c : Thread nD τ).loc main_arg1)),
    (θ_run _ _ _).mono (fun r h c => ⟨(h c).1.trans (leaves m c), (h c).2⟩) (Cert.KernelWUqIdeal.Value.run_blocks m g),
    (θ_run _ _ _).mono (fun r h c => ⟨(h c).1.trans ?_, (h c).2⟩) (Cert.ReferenceWUqIdeal.Value.run (F := Ideal) m' g')⟩
  obtain ⟨a0, a1⟩ := ha c
  rw [a0, a1]
  funext i
  unfold colCol
  pointwise
  exact Fin.sum_fin_congr fun k => mul_comm (G := EReal) _ _

end Cert.KernelWUqIdeal.Own

end
-- ==== Proof.Products.XUq.lean ====
/- The gradient of what the matrix of the latent queries multiplies, over the extended reals. -/
module

public import proofs.«01_k».proof.Defs
public import proofs.«01_k».proof.Proof.Gen.KernelXUq
public import proofs.«01_k».proof.Proof.Gen.KernelXUq.Skeleton
public import proofs.«01_k».proof.Proof.Gen.KernelXUq.Launch
public import proofs.«01_k».proof.Proof.Gen.KernelXUq.Frame
public import proofs.«01_k».proof.Proof.Gen.KernelXUqIdeal
public import proofs.«01_k».proof.Proof.Gen.KernelXUqIdeal.Skeleton
public import proofs.«01_k».proof.Proof.Gen.KernelXUqIdeal.Launch
public import proofs.«01_k».proof.Proof.Gen.KernelXUqIdeal.Frame
public import proofs.«01_k».proof.Proof.Gen.KernelXUqIdeal.Value
public import proofs.«01_k».proof.Proof.Gen.ReferenceXUqIdeal
public import proofs.«01_k».proof.Proof.Gen.ReferenceXUqIdeal.Run
public import proofs.«01_k».proof.Proof.Products.Sums
public import Idealize.ShloMosaic.Lib.Pipeline.ValueKit
public import Idealize.ShloMosaic.Lib.Pointwise
public import Idealize.ShloMosaic.Lib.Quiescent

@[expose] public section

set_option maxRecDepth 16384

noncomputable section

namespace Cert.KernelXUqIdeal.Own

open Idealize.ShloMosaic Idealize.ShloMosaic.TcCoe Idealize.SL.Sem Cert.Products
open Cert.KernelXUqIdeal Cert.KernelXUqIdeal.Gen
open scoped BigOperators

variable (m : (ℓ : Loc nD τ sig) → Buf (Elt Ideal) ℓ) (ρ : Dev nD → PrngReg)

theorem at_0 : ∀ t : Fin grid0.N, win0_0.index t = ![t.val, 0] := by decide +kernel
theorem at_1 : ∀ t : Fin grid0.N, win0_1.index t = ![0, 0] := by decide +kernel
theorem at_2 : ∀ t : Fin grid0.N, win0_2.index t = ![t.val, 0] := by decide +kernel

/-- The call leaves the product in its result. -/
theorem leaves (c : Dev nD) : (dats m 0 c).arrAt 2 cfg0.N
    = rowRow (a := 8448) (n := 2048) (b := 384) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold rowRow
  pointwise [k0_pay1]
  refine Fin.sum_fin_congr fun k => congrArg₂ (fun x y : EReal => x * y) ?_ ?_
  · blk_ext [iblk, V, at_0 t, at_2 t]
  · blk_ext [iblk, V, at_1 t, at_2 t]

/-- The reference leaves its arguments and has no semaphores to leave. -/
theorem frame_reference : Cert.quiescent_ReferenceXUqIdeal := fun m g _ =>
  (θ_run _ _ _).mono (fun r h => ⟨fun c => (h c).2, sem_eq_zero_of_no_sems (by decide) r.2⟩) (Cert.ReferenceXUqIdeal.Value.run (F := Ideal) m g)

/-- The call and the reference leave the same product. -/
theorem same : Cert.algebraic_KernelXUqIdeal_ReferenceXUqIdeal := by
  intro m g m' g' _ ha
  refine ⟨fun c => rowRow (a := 8448) (n := 2048) (b := 384) (m ((c : Thread nD τ).loc main_arg0)) (m ((c : Thread nD τ).loc main_arg1)),
    (θ_run _ _ _).mono (fun r h c => ⟨(h c).1.trans (leaves m c), (h c).2⟩) (Cert.KernelXUqIdeal.Value.run_blocks m g),
    (θ_run _ _ _).mono (fun r h c => ⟨(h c).1.trans ?_, (h c).2⟩) (Cert.ReferenceXUqIdeal.Value.run (F := Ideal) m' g')⟩
  obtain ⟨a0, a1⟩ := ha c
  rw [a0, a1]
  funext i
  unfold rowRow
  pointwise

end Cert.KernelXUqIdeal.Own

end
-- ==== Proof.Products.WUkv.lean ====
/- The gradient of the matrix of the latent keys and values, over the extended reals. -/
module

public import proofs.«01_k».proof.Defs
public import proofs.«01_k».proof.Proof.Gen.KernelWUkv
public import proofs.«01_k».proof.Proof.Gen.KernelWUkv.Skeleton
public import proofs.«01_k».proof.Proof.Gen.KernelWUkv.Launch
public import proofs.«01_k».proof.Proof.Gen.KernelWUkv.Frame
public import proofs.«01_k».proof.Proof.Gen.KernelWUkvIdeal
public import proofs.«01_k».proof.Proof.Gen.KernelWUkvIdeal.Skeleton
public import proofs.«01_k».proof.Proof.Gen.KernelWUkvIdeal.Launch
public import proofs.«01_k».proof.Proof.Gen.KernelWUkvIdeal.Frame
public import proofs.«01_k».proof.Proof.Gen.KernelWUkvIdeal.Value
public import proofs.«01_k».proof.Proof.Gen.ReferenceWUkvIdeal
public import proofs.«01_k».proof.Proof.Gen.ReferenceWUkvIdeal.Run
public import proofs.«01_k».proof.Proof.Products.Sums
public import Idealize.ShloMosaic.Lib.Pipeline.ValueKit
public import Idealize.ShloMosaic.Lib.Pointwise
public import Idealize.ShloMosaic.Lib.Quiescent

@[expose] public section

set_option maxRecDepth 16384

noncomputable section

namespace Cert.KernelWUkvIdeal.Own

open Idealize.ShloMosaic Idealize.ShloMosaic.TcCoe Idealize.SL.Sem Cert.Products
open Cert.KernelWUkvIdeal Cert.KernelWUkvIdeal.Gen
open scoped BigOperators

variable (m : (ℓ : Loc nD τ sig) → Buf (Elt Ideal) ℓ) (ρ : Dev nD → PrngReg)

theorem at_0 : ∀ t : Fin grid0.N, win0_0.index t = ![t.val % 6, 0] := by decide +kernel
theorem at_1 : ∀ t : Fin grid0.N, win0_1.index t = ![t.val % 6, t.val / 6] := by decide +kernel
theorem at_2 : ∀ t : Fin grid0.N, win0_2.index t = ![0, t.val / 6] := by decide +kernel

/-- What a point adds. -/
def part (c : Dev nD) (t : Fin cfg0.N) (y : S256x1024.Idx) : EReal :=
  colCol (a := 256) (n := 1408) (b := 1024) (iblk m c 0 t) (iblk m c 1 t) y

/-- The first point of a run leaves what it adds. -/
theorem first (c : Dev nD) (t : Fin cfg0.N) (h : t.val % 6 = 0) (y : S256x1024.Idx) :
    ((outsAt0 m c t.val t.isLt).2 y : EReal) = (0 : EReal) + part m c t y := by
  rw [outsAt0_A m c t h (by omega) (by omega)]
  frame_out
  unfold part colCol
  pointwise [k0_pay1, k0_pay2]

/-- A later point adds to what the point before left. -/
theorem later (c : Dev nD) (t : Fin cfg0.N) (h : ¬t.val % 6 = 0) (y : S256x1024.Idx) :
    ((outsAt0 m c t.val t.isLt).2 y : EReal) = (outsAt0 m c (t.val - 1) (Nat.lt_of_le_of_lt (Nat.sub_le _ _) t.isLt)).2 y + part m c t y := by
  by_cases h' : t.val % 6 = 5
  · rw [outsAt0_C m c t h (by omega) h']
    frame_out
    unfold part colCol
    pointwise [k0_pay1, k0_pay3]
    refine congrArg (fun x : EReal => x + _) ?_
    exact congrFun ((Memref.isWhole_whole cc0_scratch0).read_unread (Val := Elt Ideal) (outsAt0 m c (t.val - 1) (Nat.lt_of_le_of_lt (Nat.sub_le _ _) t.isLt)).2) y
  · rw [outsAt0_B m c t h (by omega) h']
    frame_out
    unfold part colCol
    pointwise [k0_pay1, k0_pay3]
    refine congrArg (fun x : EReal => x + _) ?_
    exact congrFun ((Memref.isWhole_whole cc0_scratch0).read_unread (Val := Elt Ideal) (outsAt0 m c (t.val - 1) (Nat.lt_of_le_of_lt (Nat.sub_le _ _) t.isLt)).2) y

/-- The last point of a run hands its sum over. -/
theorem last (c : Dev nD) (t : Fin cfg0.N) (h : t.val % 6 = 5) (y : S256x1024.Idx) :
    ((outsAt0 m c t.val t.isLt).1 y : EReal) = (outsAt0 m c t.val t.isLt).2 y := by
  rw [outsAt0_C m c t (by omega) (by omega) h]
  frame_out
  rfl

/-- The call leaves the product in its result. -/
theorem leaves (c : Dev nD) : (dats m 0 c).arrAt 2 cfg0.N
    = colCol (a := 256) (n := 8448) (b := 2048) (m ((c : Thread nD τ).loc main_arg0)) (m ((c : Thread nD τ).loc main_arg1)) := by
  refine (dats m 0 c).arrAt_eq_of_covers 2 _ (by decide +kernel) fun t hf y => ?_
  have hr : t.val % 6 = 5 := (flush0_2 t).mp hf
  blk_simp
  rw [after0_2]
  refine (last m c t hr y).trans ((Pipeline.eq_sum_fin_of_reset_step_apply_of_flush (M := EReal) (fun n h y => (outsAt0 m c n h).2 y) 6 (fun _ => 0) (part m c)
    (first m c) (later m c) t hr y).trans ((zero_add _).trans ?_))
  unfold part colCol
  refine Fin.sum_mul_add_congr fun s k hl => congrArg₂ (fun x y : EReal => x * y) ?_ ?_
  · blk_ext [iblk, V, at_0 _, at_2 t]
  · blk_ext [iblk, V, at_1 _, at_2 t]

/-- The reference leaves its arguments and has no semaphores to leave. -/
theorem frame_reference : Cert.quiescent_ReferenceWUkvIdeal := fun m g _ =>
  (θ_run _ _ _).mono (fun r h => ⟨fun c => (h c).2, sem_eq_zero_of_no_sems (by decide) r.2⟩) (Cert.ReferenceWUkvIdeal.Value.run (F := Ideal) m g)

/-- The call and the reference leave the same product. -/
theorem same : Cert.algebraic_KernelWUkvIdeal_ReferenceWUkvIdeal := by
  intro m g m' g' _ ha
  refine ⟨fun c => colCol (a := 256) (n := 8448) (b := 2048) (m ((c : Thread nD τ).loc main_arg0)) (m ((c : Thread nD τ).loc main_arg1)),
    (θ_run _ _ _).mono (fun r h c => ⟨(h c).1.trans (leaves m c), (h c).2⟩) (Cert.KernelWUkvIdeal.Value.run_blocks m g),
    (θ_run _ _ _).mono (fun r h c => ⟨(h c).1.trans ?_, (h c).2⟩) (Cert.ReferenceWUkvIdeal.Value.run (F := Ideal) m' g')⟩
  obtain ⟨a0, a1⟩ := ha c
  rw [a0, a1]
  funext i
  unfold colCol
  pointwise
  exact Fin.sum_fin_congr fun k => mul_comm (G := EReal) _ _

end Cert.KernelWUkvIdeal.Own

end
-- ==== Proof.Products.XUkv.lean ====
/- The gradient of what the matrix of the latent keys and values multiplies, over the extended reals. -/
module

public import proofs.«01_k».proof.Defs
public import proofs.«01_k».proof.Proof.Gen.KernelXUkv
public import proofs.«01_k».proof.Proof.Gen.KernelXUkv.Skeleton
public import proofs.«01_k».proof.Proof.Gen.KernelXUkv.Launch
public import proofs.«01_k».proof.Proof.Gen.KernelXUkv.Frame
public import proofs.«01_k».proof.Proof.Gen.KernelXUkvIdeal
public import proofs.«01_k».proof.Proof.Gen.KernelXUkvIdeal.Skeleton
public import proofs.«01_k».proof.Proof.Gen.KernelXUkvIdeal.Launch
public import proofs.«01_k».proof.Proof.Gen.KernelXUkvIdeal.Frame
public import proofs.«01_k».proof.Proof.Gen.KernelXUkvIdeal.Value
public import proofs.«01_k».proof.Proof.Gen.ReferenceXUkvIdeal
public import proofs.«01_k».proof.Proof.Gen.ReferenceXUkvIdeal.Run
public import proofs.«01_k».proof.Proof.Products.Sums
public import Idealize.ShloMosaic.Lib.Pipeline.ValueKit
public import Idealize.ShloMosaic.Lib.Pointwise
public import Idealize.ShloMosaic.Lib.Quiescent

@[expose] public section

set_option maxRecDepth 16384

noncomputable section

namespace Cert.KernelXUkvIdeal.Own

open Idealize.ShloMosaic Idealize.ShloMosaic.TcCoe Idealize.SL.Sem Cert.Products
open Cert.KernelXUkvIdeal Cert.KernelXUkvIdeal.Gen
open scoped BigOperators

variable (m : (ℓ : Loc nD τ sig) → Buf (Elt Ideal) ℓ) (ρ : Dev nD → PrngReg)

theorem at_0 : ∀ t : Fin grid0.N, win0_0.index t = ![t.val, 0] := by decide +kernel
theorem at_1 : ∀ t : Fin grid0.N, win0_1.index t = ![0, 0] := by decide +kernel
theorem at_2 : ∀ t : Fin grid0.N, win0_2.index t = ![t.val, 0] := by decide +kernel

/-- The call leaves the product in its result. -/
theorem leaves (c : Dev nD) : (dats m 0 c).arrAt 2 cfg0.N
    = rowRow (a := 8448) (n := 2048) (b := 256) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold rowRow
  pointwise [k0_pay1]
  refine Fin.sum_fin_congr fun k => congrArg₂ (fun x y : EReal => x * y) ?_ ?_
  · blk_ext [iblk, V, at_0 t, at_2 t]
  · blk_ext [iblk, V, at_1 t, at_2 t]

/-- The reference leaves its arguments and has no semaphores to leave. -/
theorem frame_reference : Cert.quiescent_ReferenceXUkvIdeal := fun m g _ =>
  (θ_run _ _ _).mono (fun r h => ⟨fun c => (h c).2, sem_eq_zero_of_no_sems (by decide) r.2⟩) (Cert.ReferenceXUkvIdeal.Value.run (F := Ideal) m g)

/-- The call and the reference leave the same product. -/
theorem same : Cert.algebraic_KernelXUkvIdeal_ReferenceXUkvIdeal := by
  intro m g m' g' _ ha
  refine ⟨fun c => rowRow (a := 8448) (n := 2048) (b := 256) (m ((c : Thread nD τ).loc main_arg0)) (m ((c : Thread nD τ).loc main_arg1)),
    (θ_run _ _ _).mono (fun r h c => ⟨(h c).1.trans (leaves m c), (h c).2⟩) (Cert.KernelXUkvIdeal.Value.run_blocks m g),
    (θ_run _ _ _).mono (fun r h c => ⟨(h c).1.trans ?_, (h c).2⟩) (Cert.ReferenceXUkvIdeal.Value.run (F := Ideal) m' g')⟩
  obtain ⟨a0, a1⟩ := ha c
  rw [a0, a1]
  funext i
  unfold rowRow
  pointwise

end Cert.KernelXUkvIdeal.Own

end
-- ==== Proof.Products.FInProj.lean ====
/- The product with the mixers' first matrix, over the extended reals. -/
module

public import proofs.«01_k».proof.Defs
public import proofs.«01_k».proof.Proof.Gen.KernelFInProj
public import proofs.«01_k».proof.Proof.Gen.KernelFInProj.Skeleton
public import proofs.«01_k».proof.Proof.Gen.KernelFInProj.Launch
public import proofs.«01_k».proof.Proof.Gen.KernelFInProj.Frame
public import proofs.«01_k».proof.Proof.Gen.KernelFInProjIdeal
public import proofs.«01_k».proof.Proof.Gen.KernelFInProjIdeal.Skeleton
public import proofs.«01_k».proof.Proof.Gen.KernelFInProjIdeal.Launch
public import proofs.«01_k».proof.Proof.Gen.KernelFInProjIdeal.Frame
public import proofs.«01_k».proof.Proof.Gen.KernelFInProjIdeal.Value
public import proofs.«01_k».proof.Proof.Gen.ReferenceFInProjIdeal
public import proofs.«01_k».proof.Proof.Gen.ReferenceFInProjIdeal.Run
public import proofs.«01_k».proof.Proof.Products.Sums
public import Idealize.ShloMosaic.Lib.Pipeline.ValueKit
public import Idealize.ShloMosaic.Lib.Pointwise
public import Idealize.ShloMosaic.Lib.Quiescent

@[expose] public section

set_option maxRecDepth 16384

noncomputable section

namespace Cert.KernelFInProjIdeal.Own

open Idealize.ShloMosaic Idealize.ShloMosaic.TcCoe Idealize.SL.Sem Cert.Products
open Cert.KernelFInProjIdeal Cert.KernelFInProjIdeal.Gen
open scoped BigOperators

variable (m : (ℓ : Loc nD τ sig) → Buf (Elt Ideal) ℓ) (ρ : Dev nD → PrngReg)

theorem at_0 : ∀ t : Fin grid0.N, win0_0.index t = ![t.val / 7, 0] := by decide +kernel
theorem at_1 : ∀ t : Fin grid0.N, win0_1.index t = ![0, t.val % 7] := by decide +kernel
theorem at_2 : ∀ t : Fin grid0.N, win0_2.index t = ![t.val / 7, t.val % 7] := by decide +kernel

/-- The call leaves the product in its result. -/
theorem leaves (c : Dev nD) : (dats m 0 c).arrAt 2 cfg0.N
    = rowCol (a := 8448) (n := 1024) (b := 8064) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold rowCol
  pointwise [k0_pay1]
  refine Fin.sum_fin_congr fun k => congrArg₂ (fun x y : EReal => x * y) ?_ ?_
  · blk_ext [iblk, V, at_0 t, at_2 t]
  · blk_ext [iblk, V, at_1 t, at_2 t]

/-- The reference leaves its arguments and has no semaphores to leave. -/
theorem frame_reference : Cert.quiescent_ReferenceFInProjIdeal := fun m g _ =>
  (θ_run _ _ _).mono (fun r h => ⟨fun c => (h c).2, sem_eq_zero_of_no_sems (by decide) r.2⟩) (Cert.ReferenceFInProjIdeal.Value.run (F := Ideal) m g)

/-- The call and the reference leave the same product. -/
theorem same : Cert.algebraic_KernelFInProjIdeal_ReferenceFInProjIdeal := by
  intro m g m' g' _ ha
  refine ⟨fun c => rowCol (a := 8448) (n := 1024) (b := 8064) (m ((c : Thread nD τ).loc main_arg0)) (m ((c : Thread nD τ).loc main_arg1)),
    (θ_run _ _ _).mono (fun r h c => ⟨(h c).1.trans (leaves m c), (h c).2⟩) (Cert.KernelFInProjIdeal.Value.run_blocks m g),
    (θ_run _ _ _).mono (fun r h c => ⟨(h c).1.trans ?_, (h c).2⟩) (Cert.ReferenceFInProjIdeal.Value.run (F := Ideal) m' g')⟩
  obtain ⟨a0, a1⟩ := ha c
  rw [a0, a1]
  funext i
  unfold rowCol
  pointwise

end Cert.KernelFInProjIdeal.Own

end
-- ==== Proof.Products.FFfnIn.lean ====
/- The product with the feed-forward's first matrix, over the extended reals. -/
module

public import proofs.«01_k».proof.Defs
public import proofs.«01_k».proof.Proof.Gen.KernelFFfnIn
public import proofs.«01_k».proof.Proof.Gen.KernelFFfnIn.Skeleton
public import proofs.«01_k».proof.Proof.Gen.KernelFFfnIn.Launch
public import proofs.«01_k».proof.Proof.Gen.KernelFFfnIn.Frame
public import proofs.«01_k».proof.Proof.Gen.KernelFFfnInIdeal
public import proofs.«01_k».proof.Proof.Gen.KernelFFfnInIdeal.Skeleton
public import proofs.«01_k».proof.Proof.Gen.KernelFFfnInIdeal.Launch
public import proofs.«01_k».proof.Proof.Gen.KernelFFfnInIdeal.Frame
public import proofs.«01_k».proof.Proof.Gen.KernelFFfnInIdeal.Value
public import proofs.«01_k».proof.Proof.Gen.ReferenceFFfnInIdeal
public import proofs.«01_k».proof.Proof.Gen.ReferenceFFfnInIdeal.Run
public import proofs.«01_k».proof.Proof.Products.Sums
public import Idealize.ShloMosaic.Lib.Pipeline.ValueKit
public import Idealize.ShloMosaic.Lib.Pointwise
public import Idealize.ShloMosaic.Lib.Quiescent

@[expose] public section

set_option maxRecDepth 16384

noncomputable section

namespace Cert.KernelFFfnInIdeal.Own

open Idealize.ShloMosaic Idealize.ShloMosaic.TcCoe Idealize.SL.Sem Cert.Products
open Cert.KernelFFfnInIdeal Cert.KernelFFfnInIdeal.Gen
open scoped BigOperators

variable (m : (ℓ : Loc nD τ sig) → Buf (Elt Ideal) ℓ) (ρ : Dev nD → PrngReg)

theorem at_0 : ∀ t : Fin grid0.N, win0_0.index t = ![t.val / 4, 0] := by decide +kernel
theorem at_1 : ∀ t : Fin grid0.N, win0_1.index t = ![0, t.val % 4] := by decide +kernel
theorem at_2 : ∀ t : Fin grid0.N, win0_2.index t = ![t.val / 4, t.val % 4] := by decide +kernel

/-- The call leaves the product in its result. -/
theorem leaves (c : Dev nD) : (dats m 0 c).arrAt 2 cfg0.N
    = rowCol (a := 8448) (n := 1024) (b := 5632) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold rowCol
  pointwise [k0_pay1]
  refine Fin.sum_fin_congr fun k => congrArg₂ (fun x y : EReal => x * y) ?_ ?_
  · blk_ext [iblk, V, at_0 t, at_2 t]
  · blk_ext [iblk, V, at_1 t, at_2 t]

/-- The reference leaves its arguments and has no semaphores to leave. -/
theorem frame_reference : Cert.quiescent_ReferenceFFfnInIdeal := fun m g _ =>
  (θ_run _ _ _).mono (fun r h => ⟨fun c => (h c).2, sem_eq_zero_of_no_sems (by decide) r.2⟩) (Cert.ReferenceFFfnInIdeal.Value.run (F := Ideal) m g)

/-- The call and the reference leave the same product. -/
theorem same : Cert.algebraic_KernelFFfnInIdeal_ReferenceFFfnInIdeal := by
  intro m g m' g' _ ha
  refine ⟨fun c => rowCol (a := 8448) (n := 1024) (b := 5632) (m ((c : Thread nD τ).loc main_arg0)) (m ((c : Thread nD τ).loc main_arg1)),
    (θ_run _ _ _).mono (fun r h c => ⟨(h c).1.trans (leaves m c), (h c).2⟩) (Cert.KernelFFfnInIdeal.Value.run_blocks m g),
    (θ_run _ _ _).mono (fun r h c => ⟨(h c).1.trans ?_, (h c).2⟩) (Cert.ReferenceFFfnInIdeal.Value.run (F := Ideal) m' g')⟩
  obtain ⟨a0, a1⟩ := ha c
  rw [a0, a1]
  funext i
  unfold rowCol
  pointwise

end Cert.KernelFFfnInIdeal.Own

end
-- ==== Proof.Products.FFfnOut.lean ====
/- The product with the feed-forward's second matrix, over the extended reals. -/
module

public import proofs.«01_k».proof.Defs
public import proofs.«01_k».proof.Proof.Gen.KernelFFfnOut
public import proofs.«01_k».proof.Proof.Gen.KernelFFfnOut.Skeleton
public import proofs.«01_k».proof.Proof.Gen.KernelFFfnOut.Launch
public import proofs.«01_k».proof.Proof.Gen.KernelFFfnOut.Frame
public import proofs.«01_k».proof.Proof.Gen.KernelFFfnOutIdeal
public import proofs.«01_k».proof.Proof.Gen.KernelFFfnOutIdeal.Skeleton
public import proofs.«01_k».proof.Proof.Gen.KernelFFfnOutIdeal.Launch
public import proofs.«01_k».proof.Proof.Gen.KernelFFfnOutIdeal.Frame
public import proofs.«01_k».proof.Proof.Gen.KernelFFfnOutIdeal.Value
public import proofs.«01_k».proof.Proof.Gen.ReferenceFFfnOutIdeal
public import proofs.«01_k».proof.Proof.Gen.ReferenceFFfnOutIdeal.Run
public import proofs.«01_k».proof.Proof.Products.Sums
public import Idealize.ShloMosaic.Lib.Pipeline.ValueKit
public import Idealize.ShloMosaic.Lib.Pointwise
public import Idealize.ShloMosaic.Lib.Quiescent

@[expose] public section

set_option maxRecDepth 16384

noncomputable section

namespace Cert.KernelFFfnOutIdeal.Own

open Idealize.ShloMosaic Idealize.ShloMosaic.TcCoe Idealize.SL.Sem Cert.Products
open Cert.KernelFFfnOutIdeal Cert.KernelFFfnOutIdeal.Gen
open scoped BigOperators

variable (m : (ℓ : Loc nD τ sig) → Buf (Elt Ideal) ℓ) (ρ : Dev nD → PrngReg)

theorem at_0 : ∀ t : Fin grid0.N, win0_0.index t = ![t.val / 2, t.val % 2] := by decide +kernel
theorem at_1 : ∀ t : Fin grid0.N, win0_1.index t = ![t.val % 2, 0] := by decide +kernel
theorem at_2 : ∀ t : Fin grid0.N, win0_2.index t = ![t.val / 2, 0] := by decide +kernel

/-- What a point adds. -/
def part (c : Dev nD) (t : Fin cfg0.N) (y : S1408x1024.Idx) : EReal :=
  rowCol (a := 1408) (n := 1408) (b := 1024) (iblk m c 0 t) (iblk m c 1 t) y

/-- The first point of a run leaves what it adds. -/
theorem first (c : Dev nD) (t : Fin cfg0.N) (h : t.val % 2 = 0) (y : S1408x1024.Idx) :
    ((outsAt0 m c t.val t.isLt).2 y : EReal) = (0 : EReal) + part m c t y := by
  rw [outsAt0_A m c t h (by omega) (by omega)]
  frame_out
  unfold part rowCol
  pointwise [k0_pay1, k0_pay2]

/-- A later point adds to what the point before left. -/
theorem later (c : Dev nD) (t : Fin cfg0.N) (h : ¬t.val % 2 = 0) (y : S1408x1024.Idx) :
    ((outsAt0 m c t.val t.isLt).2 y : EReal) = (outsAt0 m c (t.val - 1) (Nat.lt_of_le_of_lt (Nat.sub_le _ _) t.isLt)).2 y + part m c t y := by
  rw [outsAt0_B m c t h (by omega) (by omega)]
  frame_out
  unfold part rowCol
  pointwise [k0_pay1, k0_pay3]
  refine congrArg (fun x : EReal => x + _) ?_
  exact congrFun ((Memref.isWhole_whole cc0_scratch0).read_unread (Val := Elt Ideal) (outsAt0 m c (t.val - 1) (Nat.lt_of_le_of_lt (Nat.sub_le _ _) t.isLt)).2) y

/-- The last point of a run hands its sum over. -/
theorem last (c : Dev nD) (t : Fin cfg0.N) (h : t.val % 2 = 1) (y : S1408x1024.Idx) :
    ((outsAt0 m c t.val t.isLt).1 y : EReal) = (outsAt0 m c t.val t.isLt).2 y := by
  rw [outsAt0_B m c t (by omega) (by omega) h]
  frame_out

/-- The call leaves the product in its result. -/
theorem leaves (c : Dev nD) : (dats m 0 c).arrAt 2 cfg0.N
    = rowCol (a := 8448) (n := 2816) (b := 1024) (m ((c : Thread nD τ).loc main_arg0)) (m ((c : Thread nD τ).loc main_arg1)) := by
  refine (dats m 0 c).arrAt_eq_of_covers 2 _ (by decide +kernel) fun t hf y => ?_
  have hr : t.val % 2 = 1 := (flush0_2 t).mp hf
  blk_simp
  rw [after0_2]
  refine (last m c t hr y).trans ((Pipeline.eq_sum_fin_of_reset_step_apply_of_flush (M := EReal) (fun n h y => (outsAt0 m c n h).2 y) 2 (fun _ => 0) (part m c)
    (first m c) (later m c) t hr y).trans ((zero_add _).trans ?_))
  unfold part rowCol
  refine Fin.sum_mul_add_congr fun s k hl => congrArg₂ (fun x y : EReal => x * y) ?_ ?_
  · blk_ext [iblk, V, at_0 _, at_2 t]
  · blk_ext [iblk, V, at_1 _, at_2 t]

/-- The reference leaves its arguments and has no semaphores to leave. -/
theorem frame_reference : Cert.quiescent_ReferenceFFfnOutIdeal := fun m g _ =>
  (θ_run _ _ _).mono (fun r h => ⟨fun c => (h c).2, sem_eq_zero_of_no_sems (by decide) r.2⟩) (Cert.ReferenceFFfnOutIdeal.Value.run (F := Ideal) m g)

/-- The call and the reference leave the same product. -/
theorem same : Cert.algebraic_KernelFFfnOutIdeal_ReferenceFFfnOutIdeal := by
  intro m g m' g' _ ha
  refine ⟨fun c => rowCol (a := 8448) (n := 2816) (b := 1024) (m ((c : Thread nD τ).loc main_arg0)) (m ((c : Thread nD τ).loc main_arg1)),
    (θ_run _ _ _).mono (fun r h c => ⟨(h c).1.trans (leaves m c), (h c).2⟩) (Cert.KernelFFfnOutIdeal.Value.run_blocks m g),
    (θ_run _ _ _).mono (fun r h c => ⟨(h c).1.trans ?_, (h c).2⟩) (Cert.ReferenceFFfnOutIdeal.Value.run (F := Ideal) m' g')⟩
  obtain ⟨a0, a1⟩ := ha c
  rw [a0, a1]
  funext i
  unfold rowCol
  pointwise

end Cert.KernelFFfnOutIdeal.Own

end
-- ==== Proof.Products.FProj.lean ====
/- The product with a mixer's projection, over the extended reals. -/
module

public import proofs.«01_k».proof.Defs
public import proofs.«01_k».proof.Proof.Gen.KernelFProj
public import proofs.«01_k».proof.Proof.Gen.KernelFProj.Skeleton
public import proofs.«01_k».proof.Proof.Gen.KernelFProj.Launch
public import proofs.«01_k».proof.Proof.Gen.KernelFProj.Frame
public import proofs.«01_k».proof.Proof.Gen.KernelFProjIdeal
public import proofs.«01_k».proof.Proof.Gen.KernelFProjIdeal.Skeleton
public import proofs.«01_k».proof.Proof.Gen.KernelFProjIdeal.Launch
public import proofs.«01_k».proof.Proof.Gen.KernelFProjIdeal.Frame
public import proofs.«01_k».proof.Proof.Gen.KernelFProjIdeal.Value
public import proofs.«01_k».proof.Proof.Gen.ReferenceFProjIdeal
public import proofs.«01_k».proof.Proof.Gen.ReferenceFProjIdeal.Run
public import proofs.«01_k».proof.Proof.Products.Sums
public import Idealize.ShloMosaic.Lib.Pipeline.ValueKit
public import Idealize.ShloMosaic.Lib.Pointwise
public import Idealize.ShloMosaic.Lib.Quiescent

@[expose] public section

set_option maxRecDepth 16384

noncomputable section

namespace Cert.KernelFProjIdeal.Own

open Idealize.ShloMosaic Idealize.ShloMosaic.TcCoe Idealize.SL.Sem Cert.Products
open Cert.KernelFProjIdeal Cert.KernelFProjIdeal.Gen
open scoped BigOperators

variable (m : (ℓ : Loc nD τ sig) → Buf (Elt Ideal) ℓ) (ρ : Dev nD → PrngReg)

theorem at_0 : ∀ t : Fin grid0.N, win0_0.index t = ![t.val, 0] := by decide +kernel
theorem at_1 : ∀ t : Fin grid0.N, win0_1.index t = ![0, 0] := by decide +kernel
theorem at_2 : ∀ t : Fin grid0.N, win0_2.index t = ![t.val, 0] := by decide +kernel

/-- The call leaves the product in its result. -/
theorem leaves (c : Dev nD) : (dats m 0 c).arrAt 2 cfg0.N
    = rowCol (a := 8448) (n := 1024) (b := 1024) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold rowCol
  pointwise [k0_pay1]
  refine Fin.sum_fin_congr fun k => congrArg₂ (fun x y : EReal => x * y) ?_ ?_
  · blk_ext [iblk, V, at_0 t, at_2 t]
  · blk_ext [iblk, V, at_1 t, at_2 t]

/-- The reference leaves its arguments and has no semaphores to leave. -/
theorem frame_reference : Cert.quiescent_ReferenceFProjIdeal := fun m g _ =>
  (θ_run _ _ _).mono (fun r h => ⟨fun c => (h c).2, sem_eq_zero_of_no_sems (by decide) r.2⟩) (Cert.ReferenceFProjIdeal.Value.run (F := Ideal) m g)

/-- The call and the reference leave the same product. -/
theorem same : Cert.algebraic_KernelFProjIdeal_ReferenceFProjIdeal := by
  intro m g m' g' _ ha
  refine ⟨fun c => rowCol (a := 8448) (n := 1024) (b := 1024) (m ((c : Thread nD τ).loc main_arg0)) (m ((c : Thread nD τ).loc main_arg1)),
    (θ_run _ _ _).mono (fun r h c => ⟨(h c).1.trans (leaves m c), (h c).2⟩) (Cert.KernelFProjIdeal.Value.run_blocks m g),
    (θ_run _ _ _).mono (fun r h c => ⟨(h c).1.trans ?_, (h c).2⟩) (Cert.ReferenceFProjIdeal.Value.run (F := Ideal) m' g')⟩
  obtain ⟨a0, a1⟩ := ha c
  rw [a0, a1]
  funext i
  unfold rowCol
  pointwise

end Cert.KernelFProjIdeal.Own

end
-- ==== Proof.Products.FOut.lean ====
/- The product with the matrix of the merged mixers, over the extended reals. -/
module

public import proofs.«01_k».proof.Defs
public import proofs.«01_k».proof.Proof.Gen.KernelFOut
public import proofs.«01_k».proof.Proof.Gen.KernelFOut.Skeleton
public import proofs.«01_k».proof.Proof.Gen.KernelFOut.Launch
public import proofs.«01_k».proof.Proof.Gen.KernelFOut.Frame
public import proofs.«01_k».proof.Proof.Gen.KernelFOutIdeal
public import proofs.«01_k».proof.Proof.Gen.KernelFOutIdeal.Skeleton
public import proofs.«01_k».proof.Proof.Gen.KernelFOutIdeal.Launch
public import proofs.«01_k».proof.Proof.Gen.KernelFOutIdeal.Frame
public import proofs.«01_k».proof.Proof.Gen.KernelFOutIdeal.Value
public import proofs.«01_k».proof.Proof.Gen.ReferenceFOutIdeal
public import proofs.«01_k».proof.Proof.Gen.ReferenceFOutIdeal.Run
public import proofs.«01_k».proof.Proof.Products.Sums
public import Idealize.ShloMosaic.Lib.Pipeline.ValueKit
public import Idealize.ShloMosaic.Lib.Pointwise
public import Idealize.ShloMosaic.Lib.Quiescent

@[expose] public section

set_option maxRecDepth 16384

noncomputable section

namespace Cert.KernelFOutIdeal.Own

open Idealize.ShloMosaic Idealize.ShloMosaic.TcCoe Idealize.SL.Sem Cert.Products
open Cert.KernelFOutIdeal Cert.KernelFOutIdeal.Gen
open scoped BigOperators

variable (m : (ℓ : Loc nD τ sig) → Buf (Elt Ideal) ℓ) (ρ : Dev nD → PrngReg)

theorem at_0 : ∀ t : Fin grid0.N, win0_0.index t = ![t.val, 0] := by decide +kernel
theorem at_1 : ∀ t : Fin grid0.N, win0_1.index t = ![0, 0] := by decide +kernel
theorem at_2 : ∀ t : Fin grid0.N, win0_2.index t = ![t.val, 0] := by decide +kernel

/-- The call leaves the product in its result. -/
theorem leaves (c : Dev nD) : (dats m 0 c).arrAt 2 cfg0.N
    = rowCol (a := 8448) (n := 1024) (b := 1024) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold rowCol
  pointwise [k0_pay1]
  refine Fin.sum_fin_congr fun k => congrArg₂ (fun x y : EReal => x * y) ?_ ?_
  · blk_ext [iblk, V, at_0 t, at_2 t]
  · blk_ext [iblk, V, at_1 t, at_2 t]

/-- The reference leaves its arguments and has no semaphores to leave. -/
theorem frame_reference : Cert.quiescent_ReferenceFOutIdeal := fun m g _ =>
  (θ_run _ _ _).mono (fun r h => ⟨fun c => (h c).2, sem_eq_zero_of_no_sems (by decide) r.2⟩) (Cert.ReferenceFOutIdeal.Value.run (F := Ideal) m g)

/-- The call and the reference leave the same product. -/
theorem same : Cert.algebraic_KernelFOutIdeal_ReferenceFOutIdeal := by
  intro m g m' g' _ ha
  refine ⟨fun c => rowCol (a := 8448) (n := 1024) (b := 1024) (m ((c : Thread nD τ).loc main_arg0)) (m ((c : Thread nD τ).loc main_arg1)),
    (θ_run _ _ _).mono (fun r h c => ⟨(h c).1.trans (leaves m c), (h c).2⟩) (Cert.KernelFOutIdeal.Value.run_blocks m g),
    (θ_run _ _ _).mono (fun r h c => ⟨(h c).1.trans ?_, (h c).2⟩) (Cert.ReferenceFOutIdeal.Value.run (F := Ideal) m' g')⟩
  obtain ⟨a0, a1⟩ := ha c
  rw [a0, a1]
  funext i
  unfold rowCol
  pointwise

end Cert.KernelFOutIdeal.Own

end
-- ==== Proof.Products.FUq.lean ====
/- The product with the matrix of the latent queries, over the extended reals. -/
module

public import proofs.«01_k».proof.Defs
public import proofs.«01_k».proof.Proof.Gen.KernelFUq
public import proofs.«01_k».proof.Proof.Gen.KernelFUq.Skeleton
public import proofs.«01_k».proof.Proof.Gen.KernelFUq.Launch
public import proofs.«01_k».proof.Proof.Gen.KernelFUq.Frame
public import proofs.«01_k».proof.Proof.Gen.KernelFUqIdeal
public import proofs.«01_k».proof.Proof.Gen.KernelFUqIdeal.Skeleton
public import proofs.«01_k».proof.Proof.Gen.KernelFUqIdeal.Launch
public import proofs.«01_k».proof.Proof.Gen.KernelFUqIdeal.Frame
public import proofs.«01_k».proof.Proof.Gen.KernelFUqIdeal.Value
public import proofs.«01_k».proof.Proof.Gen.ReferenceFUqIdeal
public import proofs.«01_k».proof.Proof.Gen.ReferenceFUqIdeal.Run
public import proofs.«01_k».proof.Proof.Products.Sums
public import Idealize.ShloMosaic.Lib.Pipeline.ValueKit
public import Idealize.ShloMosaic.Lib.Pointwise
public import Idealize.ShloMosaic.Lib.Quiescent

@[expose] public section

set_option maxRecDepth 16384

noncomputable section

namespace Cert.KernelFUqIdeal.Own

open Idealize.ShloMosaic Idealize.ShloMosaic.TcCoe Idealize.SL.Sem Cert.Products
open Cert.KernelFUqIdeal Cert.KernelFUqIdeal.Gen
open scoped BigOperators

variable (m : (ℓ : Loc nD τ sig) → Buf (Elt Ideal) ℓ) (ρ : Dev nD → PrngReg)

theorem at_0 : ∀ t : Fin grid0.N, win0_0.index t = ![t.val / 2, 0] := by decide +kernel
theorem at_1 : ∀ t : Fin grid0.N, win0_1.index t = ![0, t.val % 2] := by decide +kernel
theorem at_2 : ∀ t : Fin grid0.N, win0_2.index t = ![t.val / 2, t.val % 2] := by decide +kernel

/-- The call leaves the product in its result. -/
theorem leaves (c : Dev nD) : (dats m 0 c).arrAt 2 cfg0.N
    = rowCol (a := 8448) (n := 384) (b := 2048) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold rowCol
  pointwise [k0_pay1]
  refine Fin.sum_fin_congr fun k => congrArg₂ (fun x y : EReal => x * y) ?_ ?_
  · blk_ext [iblk, V, at_0 t, at_2 t]
  · blk_ext [iblk, V, at_1 t, at_2 t]

/-- The reference leaves its arguments and has no semaphores to leave. -/
theorem frame_reference : Cert.quiescent_ReferenceFUqIdeal := fun m g _ =>
  (θ_run _ _ _).mono (fun r h => ⟨fun c => (h c).2, sem_eq_zero_of_no_sems (by decide) r.2⟩) (Cert.ReferenceFUqIdeal.Value.run (F := Ideal) m g)

/-- The call and the reference leave the same product. -/
theorem same : Cert.algebraic_KernelFUqIdeal_ReferenceFUqIdeal := by
  intro m g m' g' _ ha
  refine ⟨fun c => rowCol (a := 8448) (n := 384) (b := 2048) (m ((c : Thread nD τ).loc main_arg0)) (m ((c : Thread nD τ).loc main_arg1)),
    (θ_run _ _ _).mono (fun r h c => ⟨(h c).1.trans (leaves m c), (h c).2⟩) (Cert.KernelFUqIdeal.Value.run_blocks m g),
    (θ_run _ _ _).mono (fun r h c => ⟨(h c).1.trans ?_, (h c).2⟩) (Cert.ReferenceFUqIdeal.Value.run (F := Ideal) m' g')⟩
  obtain ⟨a0, a1⟩ := ha c
  rw [a0, a1]
  funext i
  unfold rowCol
  pointwise

end Cert.KernelFUqIdeal.Own

end
-- ==== Proof.Products.FUkv.lean ====
/- The product with the matrix of the latent keys and values, over the extended reals. -/
module

public import proofs.«01_k».proof.Defs
public import proofs.«01_k».proof.Proof.Gen.KernelFUkv
public import proofs.«01_k».proof.Proof.Gen.KernelFUkv.Skeleton
public import proofs.«01_k».proof.Proof.Gen.KernelFUkv.Launch
public import proofs.«01_k».proof.Proof.Gen.KernelFUkv.Frame
public import proofs.«01_k».proof.Proof.Gen.KernelFUkvIdeal
public import proofs.«01_k».proof.Proof.Gen.KernelFUkvIdeal.Skeleton
public import proofs.«01_k».proof.Proof.Gen.KernelFUkvIdeal.Launch
public import proofs.«01_k».proof.Proof.Gen.KernelFUkvIdeal.Frame
public import proofs.«01_k».proof.Proof.Gen.KernelFUkvIdeal.Value
public import proofs.«01_k».proof.Proof.Gen.ReferenceFUkvIdeal
public import proofs.«01_k».proof.Proof.Gen.ReferenceFUkvIdeal.Run
public import proofs.«01_k».proof.Proof.Products.Sums
public import Idealize.ShloMosaic.Lib.Pipeline.ValueKit
public import Idealize.ShloMosaic.Lib.Pointwise
public import Idealize.ShloMosaic.Lib.Quiescent

@[expose] public section

set_option maxRecDepth 16384

noncomputable section

namespace Cert.KernelFUkvIdeal.Own

open Idealize.ShloMosaic Idealize.ShloMosaic.TcCoe Idealize.SL.Sem Cert.Products
open Cert.KernelFUkvIdeal Cert.KernelFUkvIdeal.Gen
open scoped BigOperators

variable (m : (ℓ : Loc nD τ sig) → Buf (Elt Ideal) ℓ) (ρ : Dev nD → PrngReg)

theorem at_0 : ∀ t : Fin grid0.N, win0_0.index t = ![t.val / 2, 0] := by decide +kernel
theorem at_1 : ∀ t : Fin grid0.N, win0_1.index t = ![0, t.val % 2] := by decide +kernel
theorem at_2 : ∀ t : Fin grid0.N, win0_2.index t = ![t.val / 2, t.val % 2] := by decide +kernel

/-- The call leaves the product in its result. -/
theorem leaves (c : Dev nD) : (dats m 0 c).arrAt 2 cfg0.N
    = rowCol (a := 8448) (n := 256) (b := 2048) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold rowCol
  pointwise [k0_pay1]
  refine Fin.sum_fin_congr fun k => congrArg₂ (fun x y : EReal => x * y) ?_ ?_
  · blk_ext [iblk, V, at_0 t, at_2 t]
  · blk_ext [iblk, V, at_1 t, at_2 t]

/-- The reference leaves its arguments and has no semaphores to leave. -/
theorem frame_reference : Cert.quiescent_ReferenceFUkvIdeal := fun m g _ =>
  (θ_run _ _ _).mono (fun r h => ⟨fun c => (h c).2, sem_eq_zero_of_no_sems (by decide) r.2⟩) (Cert.ReferenceFUkvIdeal.Value.run (F := Ideal) m g)

/-- The call and the reference leave the same product. -/
theorem same : Cert.algebraic_KernelFUkvIdeal_ReferenceFUkvIdeal := by
  intro m g m' g' _ ha
  refine ⟨fun c => rowCol (a := 8448) (n := 256) (b := 2048) (m ((c : Thread nD τ).loc main_arg0)) (m ((c : Thread nD τ).loc main_arg1)),
    (θ_run _ _ _).mono (fun r h c => ⟨(h c).1.trans (leaves m c), (h c).2⟩) (Cert.KernelFUkvIdeal.Value.run_blocks m g),
    (θ_run _ _ _).mono (fun r h c => ⟨(h c).1.trans ?_, (h c).2⟩) (Cert.ReferenceFUkvIdeal.Value.run (F := Ideal) m' g')⟩
  obtain ⟨a0, a1⟩ := ha c
  rw [a0, a1]
  funext i
  unfold rowCol
  pointwise

end Cert.KernelFUkvIdeal.Own

end
-- ==== Proof.Gates.SwigluB.lean ====
/- The gradient of the feed-forward's gate, over the extended reals. -/
module

public import proofs.«01_k».proof.Defs
public import proofs.«01_k».proof.Proof.Gen.KernelSwigluB
public import proofs.«01_k».proof.Proof.Gen.KernelSwigluB.Skeleton
public import proofs.«01_k».proof.Proof.Gen.KernelSwigluB.Launch
public import proofs.«01_k».proof.Proof.Gen.KernelSwigluB.Frame
public import proofs.«01_k».proof.Proof.Gen.KernelSwigluBIdeal
public import proofs.«01_k».proof.Proof.Gen.KernelSwigluBIdeal.Skeleton
public import proofs.«01_k».proof.Proof.Gen.KernelSwigluBIdeal.Launch
public import proofs.«01_k».proof.Proof.Gen.KernelSwigluBIdeal.Frame
public import proofs.«01_k».proof.Proof.Gen.KernelSwigluBIdeal.Value
public import proofs.«01_k».proof.Proof.Gen.ReferenceSwigluBIdeal
public import proofs.«01_k».proof.Proof.Gen.ReferenceSwigluBIdeal.Run
public import Idealize.ShloMosaic.Lib.Pipeline.ValueKit
public import Idealize.ShloMosaic.Lib.Pointwise
public import Idealize.ShloMosaic.Lib.Quiescent
public import proofs.«01_k».proof.Proof.Products.Sums

@[expose] public section

set_option maxRecDepth 16384

noncomputable section

namespace Cert.KernelSwigluBIdeal.Own

open Idealize.ShloMosaic Idealize.ShloMosaic.TcCoe Idealize.SL.Sem Cert.Products
open Cert.KernelSwigluBIdeal Cert.KernelSwigluBIdeal.Gen

variable (m : (ℓ : Loc nD τ sig) → Buf (Elt Ideal) ℓ) (ρ : Dev nD → PrngReg)

theorem at_0 : ∀ t : Fin grid0.N, win0_0.index t = ![t.val, 0] := by decide +kernel
theorem at_1 : ∀ t : Fin grid0.N, win0_1.index t = ![t.val, 1] := by decide +kernel
theorem at_2 : ∀ t : Fin grid0.N, win0_2.index t = ![t.val, 0] := by decide +kernel
theorem at_3 : ∀ t : Fin grid0.N, win0_3.index t = ![t.val, 0] := by decide +kernel

/-- The gradient of the gated half, `g` and `u` being a row's two halves and `d` the gradient that comes in. -/
def left (g u d : EReal) : EReal :=
  d * u * Ideal.logistic g + g * (d * u) * (Ideal.logistic g * (1 - Ideal.logistic g))

/-- The gradient of the other half. -/
def right (g d : EReal) : EReal := g * Ideal.logistic g * d

/-- The gradients of both halves side by side. -/
def grad (gu : Mat 8448 5632) (d : Mat 8448 2816) : Mat 8448 5632 := fun i =>
  if h : (i 1).val < 2816 then left (gu i) (gu (ix2 (i 0) ⟨2816 + (i 1).val, Nat.add_lt_add_left h 2816⟩)) (d (ix2 (i 0) ⟨(i 1).val, h⟩))
  else right (gu (ix2 (i 0) ⟨(i 1).val - 2816, Nat.lt_of_le_of_lt (Nat.sub_le _ _) (i 1).isLt⟩))
    (d (ix2 (i 0) ⟨(i 1).val - 2816, Nat.sub_lt_left_of_lt_add (Nat.le_of_not_lt h) (i 1).isLt⟩))

/-- The call leaves the gradients in its result. -/
theorem leaves (c : Dev nD) : (dats m 0 c).arrAt 3 cfg0.N
    = grad (m ((c : Thread nD τ).loc main_arg0)) (m ((c : Thread nD τ).loc main_arg1)) := by
  refine (dats m 0 c).arrAt_eq_of_covers 3 _ (by decide +kernel) fun t hf y => ?_
  blk_simp
  rw [after0_3]
  frame_out
  have e : ((((View.whole main_v0).slice (win0_3.rect t)).emb y) 1).val = (y 1).val := by
    blk_simp [at_3 t]
  canon_tiles x h
  · unfold grad right
    rw [dif_neg (by omega)]
    pointwise [k0_pay1, k0_pay2, k0_pay4]
    refine congrArg₂ (fun x y : EReal => x * Ideal.logistic x * y) ?_ ?_
    · blk_ext [iblk, V, at_0 t, at_3 t]
    · blk_ext [iblk, V, at_2 t, at_3 t]
  · unfold grad left
    rw [dif_pos (by omega)]
    pointwise [k0_pay1, k0_pay2, k0_pay3]
    have a : (iblk m c 0 t x : EReal) = m ((c : Thread nD τ).loc main_arg0) (((View.whole main_v0).slice (win0_3.rect t)).emb y) := by
      blk_ext [iblk, V, at_0 t, at_3 t]
    rw [a]
    refine congrArg₂ (fun x y : EReal => y * x * _ + _ * (y * x) * _) ?_ ?_
    · blk_ext [iblk, V, at_1 t, at_3 t]
    · blk_ext [iblk, V, at_2 t, at_3 t]

/-- The reference leaves its arguments and has no semaphores to leave. -/
theorem frame_reference : Cert.quiescent_ReferenceSwigluBIdeal := fun m g _ =>
  (θ_run _ _ _).mono (fun r h => ⟨fun c => (h c).2, sem_eq_zero_of_no_sems (by decide) r.2⟩) (Cert.ReferenceSwigluBIdeal.Value.run (F := Ideal) m g)

/-- The call and the reference leave the same. -/
theorem same : Cert.algebraic_KernelSwigluBIdeal_ReferenceSwigluBIdeal := by
  intro m g m' g' _ ha
  refine ⟨fun c => grad (m ((c : Thread nD τ).loc main_arg0)) (m ((c : Thread nD τ).loc main_arg1)),
    (θ_run _ _ _).mono (fun r h c => ⟨(h c).1.trans (leaves m c), (h c).2⟩) (Cert.KernelSwigluBIdeal.Value.run_blocks m g),
    (θ_run _ _ _).mono (fun r h c => ⟨(h c).1.trans ?_, (h c).2⟩) (Cert.ReferenceSwigluBIdeal.Value.run (F := Ideal) m' g')⟩
  obtain ⟨a0, a1⟩ := ha c
  rw [a0, a1]
  funext i
  unfold grad left right
  pointwise
  rfl

end Cert.KernelSwigluBIdeal.Own

end
-- ==== Proof.Gates.SwigluF.lean ====
/- The feed-forward's gate, over the extended reals. -/
module

public import proofs.«01_k».proof.Defs
public import proofs.«01_k».proof.Proof.Gen.KernelSwigluF
public import proofs.«01_k».proof.Proof.Gen.KernelSwigluF.Skeleton
public import proofs.«01_k».proof.Proof.Gen.KernelSwigluF.Launch
public import proofs.«01_k».proof.Proof.Gen.KernelSwigluF.Frame
public import proofs.«01_k».proof.Proof.Gen.KernelSwigluFIdeal
public import proofs.«01_k».proof.Proof.Gen.KernelSwigluFIdeal.Skeleton
public import proofs.«01_k».proof.Proof.Gen.KernelSwigluFIdeal.Launch
public import proofs.«01_k».proof.Proof.Gen.KernelSwigluFIdeal.Frame
public import proofs.«01_k».proof.Proof.Gen.KernelSwigluFIdeal.Value
public import proofs.«01_k».proof.Proof.Gen.ReferenceSwigluFIdeal
public import proofs.«01_k».proof.Proof.Gen.ReferenceSwigluFIdeal.Run
public import Idealize.ShloMosaic.Lib.Pipeline.ValueKit
public import Idealize.ShloMosaic.Lib.Pointwise
public import Idealize.ShloMosaic.Lib.Quiescent
public import proofs.«01_k».proof.Proof.Products.Sums

@[expose] public section

set_option maxRecDepth 16384

noncomputable section

namespace Cert.KernelSwigluFIdeal.Own

open Idealize.ShloMosaic Idealize.ShloMosaic.TcCoe Idealize.SL.Sem Cert.Products
open Cert.KernelSwigluFIdeal Cert.KernelSwigluFIdeal.Gen

variable (m : (ℓ : Loc nD τ sig) → Buf (Elt Ideal) ℓ) (ρ : Dev nD → PrngReg)

theorem at_0 : ∀ t : Fin grid0.N, win0_0.index t = ![t.val, 0] := by decide +kernel
theorem at_1 : ∀ t : Fin grid0.N, win0_1.index t = ![t.val, 1] := by decide +kernel
theorem at_2 : ∀ t : Fin grid0.N, win0_2.index t = ![t.val, 0] := by decide +kernel

/-- The first half of a row, through x · σ(x), times the second. -/
def gate (gu : Mat 8448 5632) : Mat 8448 2816 := fun i =>
  gu (ix2 (i 0) ⟨(i 1).val, Nat.lt_of_lt_of_le (i 1).isLt (by decide)⟩) * Ideal.logistic (gu (ix2 (i 0) ⟨(i 1).val, Nat.lt_of_lt_of_le (i 1).isLt (by decide)⟩))
    * gu (ix2 (i 0) ⟨2816 + (i 1).val, Nat.add_lt_add_left (i 1).isLt 2816⟩)

/-- The call leaves the gated product in its result. -/
theorem leaves (c : Dev nD) : (dats m 0 c).arrAt 2 cfg0.N = gate (m ((c : Thread nD τ).loc main_arg0)) := by
  refine (dats m 0 c).arrAt_eq_of_covers 2 _ (by decide +kernel) fun t hf y => ?_
  blk_simp
  rw [after0_2]
  frame_out
  unfold gate
  pointwise [k0_pay1]
  refine congrArg₂ (fun x y : EReal => x * Ideal.logistic x * y) ?_ ?_
  · blk_ext [iblk, V, at_0 t, at_2 t]
  · blk_ext [iblk, V, at_1 t, at_2 t]

/-- The reference leaves its arguments and has no semaphores to leave. -/
theorem frame_reference : Cert.quiescent_ReferenceSwigluFIdeal := fun m g _ =>
  (θ_run _ _ _).mono (fun r h => ⟨fun c => (h c).2, sem_eq_zero_of_no_sems (by decide) r.2⟩) (Cert.ReferenceSwigluFIdeal.Value.run (F := Ideal) m g)

/-- The call and the reference leave the same. -/
theorem same : Cert.algebraic_KernelSwigluFIdeal_ReferenceSwigluFIdeal := by
  intro m g m' g' _ ha
  refine ⟨fun c => gate (m ((c : Thread nD τ).loc main_arg0)),
    (θ_run _ _ _).mono (fun r h c => ⟨(h c).1.trans (leaves m c), (h c).2⟩) (Cert.KernelSwigluFIdeal.Value.run_blocks m g),
    (θ_run _ _ _).mono (fun r h c => ⟨(h c).1.trans ?_, (h c).2⟩) (Cert.ReferenceSwigluFIdeal.Value.run (F := Ideal) m' g')⟩
  rw [ha c]
  funext i
  unfold gate
  pointwise
  rfl

end Cert.KernelSwigluFIdeal.Own

end
-- ==== Proof.Gates.MergeB.lean ====
/- The gradients of the branches and of their gates, over the extended reals. -/
module

public import proofs.«01_k».proof.Defs
public import proofs.«01_k».proof.Proof.Gen.KernelMergeB
public import proofs.«01_k».proof.Proof.Gen.KernelMergeB.Skeleton
public import proofs.«01_k».proof.Proof.Gen.KernelMergeB.Launch
public import proofs.«01_k».proof.Proof.Gen.KernelMergeB.Frame
public import proofs.«01_k».proof.Proof.Gen.KernelMergeBIdeal
public import proofs.«01_k».proof.Proof.Gen.KernelMergeBIdeal.Skeleton
public import proofs.«01_k».proof.Proof.Gen.KernelMergeBIdeal.Launch
public import proofs.«01_k».proof.Proof.Gen.KernelMergeBIdeal.Frame
public import proofs.«01_k».proof.Proof.Gen.KernelMergeBIdeal.Value
public import proofs.«01_k».proof.Proof.Gen.ReferenceMergeBIdeal
public import proofs.«01_k».proof.Proof.Gen.ReferenceMergeBIdeal.Run
public import Idealize.ShloMosaic.Lib.Pipeline.ValueKit
public import Idealize.ShloMosaic.Lib.Pointwise
public import Idealize.ShloMosaic.Lib.Quiescent
public import proofs.«01_k».proof.Proof.Products.Sums

@[expose] public section

set_option maxRecDepth 16384

noncomputable section

namespace Cert.KernelMergeBIdeal.Own

open Idealize.ShloMosaic Idealize.ShloMosaic.TcCoe Idealize.SL.Sem Cert.Products
open Cert.KernelMergeBIdeal Cert.KernelMergeBIdeal.Gen

variable (m : (ℓ : Loc nD τ sig) → Buf (Elt Ideal) ℓ) (ρ : Dev nD → PrngReg)

theorem at_0 : ∀ t : Fin grid0.N, win0_0.index t = ![t.val, 0] := by decide +kernel
theorem at_1 : ∀ t : Fin grid0.N, win0_1.index t = ![t.val, 1] := by decide +kernel
theorem at_2 : ∀ t : Fin grid0.N, win0_2.index t = ![t.val, 2] := by decide +kernel
theorem at_3 : ∀ t : Fin grid0.N, win0_3.index t = ![t.val, 0] := by decide +kernel
theorem at_4 : ∀ t : Fin grid0.N, win0_4.index t = ![t.val, 0] := by decide +kernel
theorem at_5 : ∀ t : Fin grid0.N, win0_5.index t = ![t.val, 0] := by decide +kernel
theorem at_6 : ∀ t : Fin grid0.N, win0_6.index t = ![t.val, 0] := by decide +kernel
theorem at_7 : ∀ t : Fin grid0.N, win0_7.index t = ![t.val, 0] := by decide +kernel
theorem at_8 : ∀ t : Fin grid0.N, win0_8.index t = ![t.val, 0] := by decide +kernel
theorem at_9 : ∀ t : Fin grid0.N, win0_9.index t = ![t.val, 0] := by decide +kernel
theorem at_10 : ∀ t : Fin grid0.N, win0_10.index t = ![t.val, 0] := by decide +kernel

/-- The columns that the gates of the three branches are taken of. -/
def col0 (j : Fin 1024) : Fin 8064 := ⟨j.val, Nat.lt_of_lt_of_le j.isLt (by decide)⟩
def col1 (j : Fin 1024) : Fin 8064 := ⟨1024 + j.val, Nat.lt_of_lt_of_le (Nat.add_lt_add_left j.isLt 1024) (by decide)⟩
def col2 (j : Fin 1024) : Fin 8064 := ⟨2048 + j.val, Nat.lt_of_lt_of_le (Nat.add_lt_add_left j.isLt 2048) (by decide)⟩

/-- The gate of a branch: σ of its columns. -/
def gate (col : Fin 1024 → Fin 8064) (u : Mat 8448 8064) : Mat 8448 1024 := fun i => Ideal.logistic (u (ix2 (i 0) (col (i 1))))

/-- The gradient of a branch. -/
def branch (col : Fin 1024 → Fin 8064) (u : Mat 8448 8064) (d : Mat 8448 1024) : Mat 8448 1024 := fun i => gate col u i * d i

theorem idx_lt1 (i : (⟨2, ![8448, 3072]⟩ : Shape).Idx) : (i 1).val < 3072 := (i 1).isLt

/-- What reaches the gates: the gradient that comes in, times the branch. -/
def reach (p q r d : Mat 8448 1024) : Mat 8448 3072 := fun i =>
  if h : (i 1).val < 1024 then d (ix2 (i 0) ⟨(i 1).val, h⟩) * p (ix2 (i 0) ⟨(i 1).val, h⟩)
  else if h' : (i 1).val - 1024 < 1024 then
    d (ix2 (i 0) ⟨(i 1).val - 1024, h'⟩) * q (ix2 (i 0) ⟨(i 1).val - 1024, h'⟩)
  else d (ix2 (i 0) ⟨(i 1).val - 1024 - 1024, by have := idx_lt1 i; omega⟩) * r (ix2 (i 0) ⟨(i 1).val - 1024 - 1024, by have := idx_lt1 i; omega⟩)

/-- The gradient of what the gates are taken of. -/
def gates (u : Mat 8448 8064) (p q r d : Mat 8448 1024) : Mat 8448 3072 := fun i =>
  reach p q r d i * (Ideal.logistic (u (ix2 (i 0) ⟨(i 1).val, Nat.lt_of_lt_of_le (i 1).isLt (by decide)⟩))
    * (1 - Ideal.logistic (u (ix2 (i 0) ⟨(i 1).val, Nat.lt_of_lt_of_le (i 1).isLt (by decide)⟩))))

/-- The call leaves the gradient of the first branch. -/
theorem leaves_7 (c : Dev nD) : (dats m 0 c).arrAt 7 cfg0.N = branch col0 (m ((c : Thread nD τ).loc main_arg0)) (m ((c : Thread nD τ).loc main_arg4)) := by
  refine (dats m 0 c).arrAt_eq_of_covers 7 _ (by decide +kernel) fun t hf y => ?_
  blk_simp
  rw [after0_7]
  unfold outsAt0
  frame_out
  unfold branch gate col0
  pointwise [k0_pay1, k0_pay2, k0_pay3, k0_pay4, k0_pay5, k0_pay6, k0_pay7, k0_pay8, k0_pay9, k0_pay10, k0_pay11, k0_pay12, k0_pay13, k0_pay14, k0_pay15]
  refine congrArg₂ (fun x y : EReal => Ideal.logistic x * y) ?_ ?_
  · unfold X0_0 Pipeline.Window.fill
    rw [dif_pos (moved0_0 t _)]
    blk_ext [iblk, V, at_0 t, at_7 t]
  · blk_ext [iblk, V, at_6 t, at_7 t]

/-- The call leaves the gradient of the second branch. -/
theorem leaves_8 (c : Dev nD) : (dats m 0 c).arrAt 8 cfg0.N = branch col1 (m ((c : Thread nD τ).loc main_arg0)) (m ((c : Thread nD τ).loc main_arg4)) := by
  refine (dats m 0 c).arrAt_eq_of_covers 8 _ (by decide +kernel) fun t hf y => ?_
  blk_simp
  rw [after0_8]
  frame_out
  unfold branch gate col1
  pointwise [k0_pay1, k0_pay2, k0_pay3, k0_pay4, k0_pay5, k0_pay6, k0_pay7, k0_pay8, k0_pay9, k0_pay10, k0_pay11, k0_pay12, k0_pay13, k0_pay14, k0_pay15]
  refine congrArg₂ (fun x y : EReal => Ideal.logistic x * y) ?_ ?_
  · unfold X0_1 Pipeline.Window.fill
    rw [dif_pos (moved0_1 t _)]
    blk_ext [iblk, V, at_1 t, at_8 t]
  · blk_ext [iblk, V, at_6 t, at_8 t]

/-- The call leaves the gradient of the third branch. -/
theorem leaves_9 (c : Dev nD) : (dats m 0 c).arrAt 9 cfg0.N = branch col2 (m ((c : Thread nD τ).loc main_arg0)) (m ((c : Thread nD τ).loc main_arg4)) := by
  refine (dats m 0 c).arrAt_eq_of_covers 9 _ (by decide +kernel) fun t hf y => ?_
  blk_simp
  rw [after0_9]
  frame_out
  unfold branch gate col2
  pointwise [k0_pay1, k0_pay2, k0_pay3, k0_pay4, k0_pay5, k0_pay6, k0_pay7, k0_pay8, k0_pay9, k0_pay10, k0_pay11, k0_pay12, k0_pay13, k0_pay14, k0_pay15]
  refine congrArg₂ (fun x y : EReal => Ideal.logistic x * y) ?_ ?_
  · unfold X0_2 Pipeline.Window.fill
    rw [dif_pos (moved0_2 t _)]
    blk_ext [iblk, V, at_2 t, at_9 t]
  · blk_ext [iblk, V, at_6 t, at_9 t]

/-- One entry of it, its three ingredients read in two ways. -/
theorem cell {d d' p p' g g' : EReal} (hd : d = d') (hp : p = p') (hg : g = g') :
    d * p * (Ideal.logistic g * (1 - Ideal.logistic g)) = d' * p' * (Ideal.logistic g' * (1 - Ideal.logistic g')) := by
  rw [hd, hp, hg]

set_option maxHeartbeats 1000000 in
/-- The call leaves the gradient of what the gates are taken of. -/
theorem leaves_10 (c : Dev nD) : (dats m 0 c).arrAt 10 cfg0.N
    = gates (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  blk_simp
  rw [after0_10]
  frame_out
  have e : ((((View.whole main_v0_3).slice (win0_10.rect t)).emb y) 1).val = (y 1).val := by
    blk_simp [at_10 t]
  canon_tiles x h
  · unfold gates reach
    rw [dif_neg (by omega), dif_neg (by omega)]
    pointwise [k0_pay1, k0_pay2, k0_pay3, k0_pay4, k0_pay5, k0_pay6, k0_pay7, k0_pay8, k0_pay9, k0_pay10, k0_pay11, k0_pay12, k0_pay13, k0_pay14, k0_pay15]
    refine cell ?_ ?_ ?_
    · blk_ext [iblk, V, at_6 t, at_10 t]
    · blk_ext [iblk, V, at_5 t, at_10 t]
    · unfold X0_2 Pipeline.Window.fill
      rw [dif_pos (moved0_2 t _)]
      blk_ext [iblk, V, at_2 t, at_10 t]
  · unfold gates reach
    rw [dif_neg (by omega), dif_pos (by omega)]
    pointwise [k0_pay1, k0_pay2, k0_pay3, k0_pay4, k0_pay5, k0_pay6, k0_pay7, k0_pay8, k0_pay9, k0_pay10, k0_pay11, k0_pay12, k0_pay13, k0_pay14, k0_pay15]
    refine cell ?_ ?_ ?_
    · blk_ext [iblk, V, at_6 t, at_10 t]
    · blk_ext [iblk, V, at_4 t, at_10 t]
    · unfold X0_1 Pipeline.Window.fill
      rw [dif_pos (moved0_1 t _)]
      blk_ext [iblk, V, at_1 t, at_10 t]
  · unfold gates reach
    rw [dif_pos (by omega)]
    pointwise [k0_pay1, k0_pay2, k0_pay3, k0_pay4, k0_pay5, k0_pay6, k0_pay7, k0_pay8, k0_pay9, k0_pay10, k0_pay11, k0_pay12, k0_pay13, k0_pay14, k0_pay15]
    refine cell ?_ ?_ ?_
    · blk_ext [iblk, V, at_6 t, at_10 t]
    · blk_ext [iblk, V, at_3 t, at_10 t]
    · unfold X0_0 Pipeline.Window.fill
      rw [dif_pos (moved0_0 t _)]
      blk_ext [iblk, V, at_0 t, at_10 t]

/-- The reference leaves its arguments and has no semaphores to leave. -/
theorem frame_reference : Cert.quiescent_ReferenceMergeBIdeal := fun m g _ =>
  (θ_run _ _ _).mono (fun r h => ⟨fun c => (h c).2.2.2.2, sem_eq_zero_of_no_sems (by decide) r.2⟩) (Cert.ReferenceMergeBIdeal.Value.run (F := Ideal) m g)

/-- The call and the reference leave the same. -/
theorem same : Cert.algebraic_KernelMergeBIdeal_ReferenceMergeBIdeal := by
  intro m g m' g' _ ha
  refine ⟨fun c => branch col0 (m ((c : Thread nD τ).loc main_arg0)) (m ((c : Thread nD τ).loc main_arg4)), fun c => branch col1 (m ((c : Thread nD τ).loc main_arg0)) (m ((c : Thread nD τ).loc main_arg4)),
    fun c => branch col2 (m ((c : Thread nD τ).loc main_arg0)) (m ((c : Thread nD τ).loc main_arg4)), fun c => gates (m ((c : Thread nD τ).loc main_arg0)) (m ((c : Thread nD τ).loc main_arg1)) (m ((c : Thread nD τ).loc main_arg2)) (m ((c : Thread nD τ).loc main_arg3)) (m ((c : Thread nD τ).loc main_arg4)),
    (θ_run _ _ _).mono (fun r h c => ⟨(h c).1.trans (leaves_7 m c), (h c).2.1.trans (leaves_8 m c), (h c).2.2.1.trans (leaves_9 m c),
      (h c).2.2.2.1.trans (leaves_10 m c), (h c).2.2.2.2⟩) (Cert.KernelMergeBIdeal.Value.run_blocks m g),
    (θ_run _ _ _).mono (fun r h c => ⟨(h c).1.trans ?_, (h c).2.1.trans ?_, (h c).2.2.1.trans ?_, (h c).2.2.2.1.trans ?_,
      (h c).2.2.2.2⟩) (Cert.ReferenceMergeBIdeal.Value.run (F := Ideal) m' g')⟩
  all_goals
    obtain ⟨a0, a1, a2, a3, a4⟩ := ha c
    clear h
    funext i
    rw [a0]
    rw [a4]
  · unfold branch gate col0
    pointwise
    rfl
  · unfold branch gate col1
    pointwise
    rfl
  · unfold branch gate col2
    pointwise
    rfl
  · rw [a1, a2, a3]
    unfold gates reach
    pointwise
    rfl

end Cert.KernelMergeBIdeal.Own

end
-- ==== Proof.Gates.MergeF.lean ====
/- The branches through their gates, summed, over the extended reals. -/
module

public import proofs.«01_k».proof.Defs
public import proofs.«01_k».proof.Proof.Gen.KernelMergeF
public import proofs.«01_k».proof.Proof.Gen.KernelMergeF.Skeleton
public import proofs.«01_k».proof.Proof.Gen.KernelMergeF.Launch
public import proofs.«01_k».proof.Proof.Gen.KernelMergeF.Frame
public import proofs.«01_k».proof.Proof.Gen.KernelMergeFIdeal
public import proofs.«01_k».proof.Proof.Gen.KernelMergeFIdeal.Skeleton
public import proofs.«01_k».proof.Proof.Gen.KernelMergeFIdeal.Launch
public import proofs.«01_k».proof.Proof.Gen.KernelMergeFIdeal.Frame
public import proofs.«01_k».proof.Proof.Gen.KernelMergeFIdeal.Value
public import proofs.«01_k».proof.Proof.Gen.ReferenceMergeFIdeal
public import proofs.«01_k».proof.Proof.Gen.ReferenceMergeFIdeal.Run
public import Idealize.ShloMosaic.Lib.Pipeline.ValueKit
public import Idealize.ShloMosaic.Lib.Pointwise
public import Idealize.ShloMosaic.Lib.Quiescent
public import proofs.«01_k».proof.Proof.Products.Sums

@[expose] public section

set_option maxRecDepth 16384

noncomputable section

namespace Cert.KernelMergeFIdeal.Own

open Idealize.ShloMosaic Idealize.ShloMosaic.TcCoe Idealize.SL.Sem Cert.Products
open Cert.KernelMergeFIdeal Cert.KernelMergeFIdeal.Gen

variable (m : (ℓ : Loc nD τ sig) → Buf (Elt Ideal) ℓ) (ρ : Dev nD → PrngReg)

theorem at_0 : ∀ t : Fin grid0.N, win0_0.index t = ![t.val, 0] := by decide +kernel
theorem at_1 : ∀ t : Fin grid0.N, win0_1.index t = ![t.val, 1] := by decide +kernel
theorem at_2 : ∀ t : Fin grid0.N, win0_2.index t = ![t.val, 2] := by decide +kernel
theorem at_3 : ∀ t : Fin grid0.N, win0_3.index t = ![t.val, 0] := by decide +kernel
theorem at_4 : ∀ t : Fin grid0.N, win0_4.index t = ![t.val, 0] := by decide +kernel
theorem at_5 : ∀ t : Fin grid0.N, win0_5.index t = ![t.val, 0] := by decide +kernel
theorem at_6 : ∀ t : Fin grid0.N, win0_6.index t = ![t.val, 0] := by decide +kernel

/-- The columns that the gates of the three branches are taken of. -/
def col0 (j : Fin 1024) : Fin 8064 := ⟨j.val, Nat.lt_of_lt_of_le j.isLt (by decide)⟩
def col1 (j : Fin 1024) : Fin 8064 := ⟨1024 + j.val, Nat.lt_of_lt_of_le (Nat.add_lt_add_left j.isLt 1024) (by decide)⟩
def col2 (j : Fin 1024) : Fin 8064 := ⟨2048 + j.val, Nat.lt_of_lt_of_le (Nat.add_lt_add_left j.isLt 2048) (by decide)⟩

/-- The gate of a branch: σ of its columns. -/
def gate (col : Fin 1024 → Fin 8064) (u : Mat 8448 8064) : Mat 8448 1024 := fun i => Ideal.logistic (u (ix2 (i 0) (col (i 1))))

/-- The three branches, each times its gate, summed. -/
def merged (u : Mat 8448 8064) (p q r : Mat 8448 1024) : Mat 8448 1024 := fun i =>
  gate col0 u i * p i + gate col1 u i * q i + gate col2 u i * r i

/-- The call leaves the sum in its result. -/
theorem leaves (c : Dev nD) : (dats m 0 c).arrAt 6 cfg0.N
    = merged (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  unfold outsAt0
  frame_out
  unfold merged gate col0 col1 col2
  pointwise [k0_pay1]
  refine congrArg₂ (fun x y : EReal => x + y) (congrArg₂ (fun x y : EReal => x + y)
    (congrArg₂ (fun x y : EReal => Ideal.logistic x * y) ?_ ?_) (congrArg₂ (fun x y : EReal => Ideal.logistic x * y) ?_ ?_))
    (congrArg₂ (fun x y : EReal => Ideal.logistic x * y) ?_ ?_)
  · unfold X0_0 Pipeline.Window.fill
    rw [dif_pos (moved0_0 t _)]
    blk_ext [iblk, V, at_0 t, at_6 t]
  · blk_ext [iblk, V, at_3 t, at_6 t]
  · unfold X0_1 Pipeline.Window.fill
    rw [dif_pos (moved0_1 t _)]
    blk_ext [iblk, V, at_1 t, at_6 t]
  · blk_ext [iblk, V, at_4 t, at_6 t]
  · unfold X0_2 Pipeline.Window.fill
    rw [dif_pos (moved0_2 t _)]
    blk_ext [iblk, V, at_2 t, at_6 t]
  · blk_ext [iblk, V, at_5 t, at_6 t]

/-- The reference leaves its arguments and has no semaphores to leave. -/
theorem frame_reference : Cert.quiescent_ReferenceMergeFIdeal := fun m g _ =>
  (θ_run _ _ _).mono (fun r h => ⟨fun c => (h c).2, sem_eq_zero_of_no_sems (by decide) r.2⟩) (Cert.ReferenceMergeFIdeal.Value.run (F := Ideal) m g)

/-- The call and the reference leave the same. -/
theorem same : Cert.algebraic_KernelMergeFIdeal_ReferenceMergeFIdeal := by
  intro m g m' g' _ ha
  refine ⟨fun c => merged (m ((c : Thread nD τ).loc main_arg0)) (m ((c : Thread nD τ).loc main_arg1)) (m ((c : Thread nD τ).loc main_arg2)) (m ((c : Thread nD τ).loc main_arg3)),
    (θ_run _ _ _).mono (fun r h c => ⟨(h c).1.trans (leaves m c), (h c).2⟩) (Cert.KernelMergeFIdeal.Value.run_blocks m g),
    (θ_run _ _ _).mono (fun r h c => ⟨(h c).1.trans ?_, (h c).2⟩) (Cert.ReferenceMergeFIdeal.Value.run (F := Ideal) m' g')⟩
  obtain ⟨a0, a1, a2, a3⟩ := ha c
  rw [a0, a1, a2, a3]
  funext i
  unfold merged gate col0 col1 col2
  pointwise
  rfl

end Cert.KernelMergeFIdeal.Own

end
-- ==== Proof.Gates.LatNormF.lean ====
/- The norms of the two latents, over the extended reals. -/
module

public import proofs.«01_k».proof.Defs
public import proofs.«01_k».proof.Proof.Gen.KernelLatNormF
public import proofs.«01_k».proof.Proof.Gen.KernelLatNormF.Skeleton
public import proofs.«01_k».proof.Proof.Gen.KernelLatNormF.Launch
public import proofs.«01_k».proof.Proof.Gen.KernelLatNormF.Frame
public import proofs.«01_k».proof.Proof.Gen.KernelLatNormFIdeal
public import proofs.«01_k».proof.Proof.Gen.KernelLatNormFIdeal.Skeleton
public import proofs.«01_k».proof.Proof.Gen.KernelLatNormFIdeal.Launch
public import proofs.«01_k».proof.Proof.Gen.KernelLatNormFIdeal.Frame
public import proofs.«01_k».proof.Proof.Gen.KernelLatNormFIdeal.Value
public import proofs.«01_k».proof.Proof.Gen.ReferenceLatNormFIdeal
public import proofs.«01_k».proof.Proof.Gen.ReferenceLatNormFIdeal.Run
public import Idealize.ShloMosaic.Lib.Pipeline.ValueKit
public import Idealize.ShloMosaic.Lib.Pointwise
public import Idealize.ShloMosaic.Lib.Quiescent
public import proofs.«01_k».proof.Proof.Products.Sums

@[expose] public section

set_option maxRecDepth 16384

noncomputable section

namespace Cert.KernelLatNormFIdeal.Own

open Idealize.ShloMosaic Idealize.ShloMosaic.TcCoe Idealize.SL.Sem Cert.Products
open Cert.KernelLatNormFIdeal Cert.KernelLatNormFIdeal.Gen

variable (m : (ℓ : Loc nD τ sig) → Buf (Elt Ideal) ℓ) (ρ : Dev nD → PrngReg)

theorem at_0 : ∀ t : Fin grid0.N, win0_0.index t = ![t.val, 28] := by decide +kernel
theorem at_1 : ∀ t : Fin grid0.N, win0_1.index t = ![t.val, 20] := by decide +kernel
theorem at_2 : ∀ t : Fin grid0.N, win0_2.index t = ![0, 0] := by decide +kernel
theorem at_3 : ∀ t : Fin grid0.N, win0_3.index t = ![0, 0] := by decide +kernel
theorem at_4 : ∀ t : Fin grid0.N, win0_4.index t = ![t.val, 0] := by decide +kernel
theorem at_5 : ∀ t : Fin grid0.N, win0_5.index t = ![t.val, 0] := by decide +kernel

/-- The columns of the two latents. -/
def colKv (j : Fin 256) : Fin 8064 := ⟨7168 + j.val, Nat.lt_of_lt_of_le (Nat.add_lt_add_left j.isLt 7168) (by decide)⟩
def colQ (j : Fin 384) : Fin 8064 := ⟨7680 + j.val, Nat.lt_of_lt_of_le (Nat.add_lt_add_left j.isLt 7680) (by decide)⟩

theorem lit_256 : Ideal.ofBits .f32 0x43800000#32 = ((256 : ℝ) : EReal) := by
  simp [Ideal.ofBits, Ideal.ieee]
  norm_cast
  norm_num

theorem lit_inv256 : Ideal.ofBits .f32 0x3B800000#32 = ((1 / 256 : ℝ) : EReal) := by
  simp [Ideal.ofBits, Ideal.ieee]
  norm_cast
  norm_num

theorem lit_384 : Ideal.ofBits .f32 0x43C00000#32 = ((384 : ℝ) : EReal) := by
  simp [Ideal.ofBits, Ideal.ieee]
  norm_cast
  norm_num

/-- A mean over 256 columns: by division, and by multiplication with the inverse. -/
theorem mean_256 (x : EReal) : Ideal.div x (Ideal.ofBits .f32 0x43800000#32) = x * Ideal.ofBits .f32 0x3B800000#32 := by
  rw [lit_256, lit_inv256, Ideal.div_coe (by norm_num)]

/-- A mean over 384 columns. -/
theorem mean_384 (x : EReal) : Ideal.div x (Ideal.ofBits .f32 0x43C00000#32) = x * (Named.named (F := Ideal) κ "inv384" (φ := .f32) 0x3B2AAAAB#32 : EReal) := by
  rw [lit_384, Ideal.div_coe (by norm_num), one_div]
  rfl

/-- A row over the root of its mean square, times the gain. -/
def normed {n : ℕ} (N : EReal) (col : Fin n → Fin 8064) (u : Mat 8448 8064) (g : Mat 1 n) : Mat 8448 n := fun i =>
  u (ix2 (i 0) (col (i 1)))
    * Ideal.rsqrt (Ideal.div (∑ x, u (ix2 (i 0) (col x)) * u (ix2 (i 0) (col x))) N + Ideal.ofBits .f32 0x358637BD#32)
    * g (ix2 0 (i 1))

/-- The first result is the norm of the latent of the keys and values. -/
theorem leaves_4 (c : Dev nD) : (dats m 0 c).arrAt 4 cfg0.N
    = normed (Ideal.ofBits .f32 0x43800000#32) colKv (m ((c : Thread nD τ).loc main_arg0)) (m ((c : Thread nD τ).loc main_arg1)) := by
  refine (dats m 0 c).arrAt_eq_of_covers 4 _ (by decide +kernel) fun t hf y => ?_
  blk_simp
  rw [after0_4]
  unfold outsAt0
  frame_out
  unfold normed colKv
  pointwise [k0_pay1]
  rw [mean_256]
  refine congrArg₂ (fun x y : EReal => x * y) (congrArg₂ (fun x y : EReal =>
    x * Ideal.rsqrt (y * Ideal.ofBits .f32 0x3B800000#32 + Ideal.ofBits .f32 0x358637BD#32)) ?_ (Finset.sum_congr rfl fun x _ =>
      congrArg₂ (fun x y : EReal => x * y) ?_ ?_)) ?_
  · unfold X0_0 Pipeline.Window.fill
    rw [dif_pos (moved0_0 t _)]
    blk_ext [iblk, V, at_0 t, at_4 t]
  · unfold X0_0 Pipeline.Window.fill
    rw [dif_pos (moved0_0 t _)]
    blk_ext [iblk, V, at_0 t, at_4 t]
  · unfold X0_0 Pipeline.Window.fill
    rw [dif_pos (moved0_0 t _)]
    blk_ext [iblk, V, at_0 t, at_4 t]
  · blk_ext [iblk, V, at_2 t, at_4 t]

/-- The second result is the norm of the latent of the queries. -/
theorem leaves_5 (c : Dev nD) : (dats m 0 c).arrAt 5 cfg0.N
    = normed (Ideal.ofBits .f32 0x43C00000#32) colQ (m ((c : Thread nD τ).loc main_arg0)) (m ((c : Thread nD τ).loc main_arg2)) := by
  refine (dats m 0 c).arrAt_eq_of_covers 5 _ (by decide +kernel) fun t hf y => ?_
  blk_simp
  rw [after0_5]
  unfold outsAt0
  frame_out
  unfold normed colQ
  pointwise [k0_pay2]
  rw [mean_384]
  refine congrArg₂ (fun x y : EReal => x * y) (congrArg₂ (fun x y : EReal =>
    x * Ideal.rsqrt (y * (Named.named (F := Ideal) κ "inv384" (φ := .f32) 0x3B2AAAAB#32 : EReal) + Ideal.ofBits .f32 0x358637BD#32)) ?_ (Finset.sum_congr rfl fun x _ =>
      congrArg₂ (fun x y : EReal => x * y) ?_ ?_)) ?_
  · blk_ext [iblk, V, at_1 t, at_5 t]
  · blk_ext [iblk, V, at_1 t, at_5 t]
  · blk_ext [iblk, V, at_1 t, at_5 t]
  · blk_ext [iblk, V, at_3 t, at_5 t]

/-- The reference leaves its arguments and has no semaphores to leave. -/
theorem frame_reference : Cert.quiescent_ReferenceLatNormFIdeal := fun m g _ =>
  (θ_run _ _ _).mono (fun r h => ⟨fun c => (h c).2.2, sem_eq_zero_of_no_sems (by decide) r.2⟩) (Cert.ReferenceLatNormFIdeal.Value.run (F := Ideal) m g)

/-- The call and the reference leave the same. -/
theorem same : Cert.algebraic_KernelLatNormFIdeal_ReferenceLatNormFIdeal := by
  intro m g m' g' _ ha
  refine ⟨fun c => normed (Ideal.ofBits .f32 0x43800000#32) colKv (m ((c : Thread nD τ).loc main_arg0)) (m ((c : Thread nD τ).loc main_arg1)),
    fun c => normed (Ideal.ofBits .f32 0x43C00000#32) colQ (m ((c : Thread nD τ).loc main_arg0)) (m ((c : Thread nD τ).loc main_arg2)),
    (θ_run _ _ _).mono (fun r h c => ⟨(h c).1.trans (leaves_4 m c), (h c).2.1.trans (leaves_5 m c), (h c).2.2⟩) (Cert.KernelLatNormFIdeal.Value.run_blocks m g),
    (θ_run _ _ _).mono (fun r h c => ⟨(h c).1.trans ?_, (h c).2.1.trans ?_, (h c).2.2⟩) (Cert.ReferenceLatNormFIdeal.Value.run (F := Ideal) m' g')⟩
  all_goals
    clear h
    obtain ⟨a0, a1, a2⟩ := ha c
    rw [a0]
    first | rw [a1] | rw [a2]
    funext i
    unfold normed
    first | unfold colKv | unfold colQ
    pointwise

end Cert.KernelLatNormFIdeal.Own

end
-- ==== Proof.Gates.LatNormB.lean ====
/- The gradients of the norms of the two latents, over the extended reals. -/
module

public import proofs.«01_k».proof.Defs
public import proofs.«01_k».proof.Proof.Gen.KernelLatNormB
public import proofs.«01_k».proof.Proof.Gen.KernelLatNormB.Skeleton
public import proofs.«01_k».proof.Proof.Gen.KernelLatNormB.Launch
public import proofs.«01_k».proof.Proof.Gen.KernelLatNormB.Frame
public import proofs.«01_k».proof.Proof.Gen.KernelLatNormBIdeal
public import proofs.«01_k».proof.Proof.Gen.KernelLatNormBIdeal.Skeleton
public import proofs.«01_k».proof.Proof.Gen.KernelLatNormBIdeal.Launch
public import proofs.«01_k».proof.Proof.Gen.KernelLatNormBIdeal.Frame
public import proofs.«01_k».proof.Proof.Gen.KernelLatNormBIdeal.Value
public import proofs.«01_k».proof.Proof.Gen.ReferenceLatNormBIdeal
public import proofs.«01_k».proof.Proof.Gen.ReferenceLatNormBIdeal.Run
public import Idealize.ShloMosaic.Lib.Pipeline.ValueKit
public import Idealize.ShloMosaic.Lib.Pointwise
public import Idealize.ShloMosaic.Lib.Quiescent
public import proofs.«01_k».proof.Proof.Products.Sums

@[expose] public section

set_option maxRecDepth 16384

noncomputable section

namespace Cert.KernelLatNormBIdeal.Own

open Idealize.ShloMosaic Idealize.ShloMosaic.TcCoe Idealize.SL.Sem Cert.Products
open Cert.KernelLatNormBIdeal Cert.KernelLatNormBIdeal.Gen
open scoped BigOperators

variable (m : (ℓ : Loc nD τ sig) → Buf (Elt Ideal) ℓ) (ρ : Dev nD → PrngReg)

theorem at_0 : ∀ t : Fin grid0.N, win0_0.index t = ![t.val, 28] := by decide +kernel
theorem at_1 : ∀ t : Fin grid0.N, win0_1.index t = ![t.val, 20] := by decide +kernel
theorem at_2 : ∀ t : Fin grid0.N, win0_2.index t = ![0, 0] := by decide +kernel
theorem at_3 : ∀ t : Fin grid0.N, win0_3.index t = ![0, 0] := by decide +kernel
theorem at_4 : ∀ t : Fin grid0.N, win0_4.index t = ![t.val, 0] := by decide +kernel
theorem at_5 : ∀ t : Fin grid0.N, win0_5.index t = ![t.val, 0] := by decide +kernel
theorem at_6 : ∀ t : Fin grid0.N, win0_6.index t = ![t.val, 0] := by decide +kernel
theorem at_7 : ∀ t : Fin grid0.N, win0_7.index t = ![t.val, 0] := by decide +kernel
theorem at_8 : ∀ t : Fin grid0.N, win0_8.index t = ![0, 0] := by decide +kernel
theorem at_9 : ∀ t : Fin grid0.N, win0_9.index t = ![0, 0] := by decide +kernel

/-- The columns of the two latents. -/
def colKv (j : Fin 256) : Fin 8064 := ⟨7168 + j.val, Nat.lt_of_lt_of_le (Nat.add_lt_add_left j.isLt 7168) (by decide)⟩
def colQ (j : Fin 384) : Fin 8064 := ⟨7680 + j.val, Nat.lt_of_lt_of_le (Nat.add_lt_add_left j.isLt 7680) (by decide)⟩

theorem lit_256 : Ideal.ofBits .f32 0x43800000#32 = ((256 : ℝ) : EReal) := by
  simp [Ideal.ofBits, Ideal.ieee]
  norm_cast
  norm_num

theorem lit_inv256 : Ideal.ofBits .f32 0x3B800000#32 = ((1 / 256 : ℝ) : EReal) := by
  simp [Ideal.ofBits, Ideal.ieee]
  norm_cast
  norm_num

theorem lit_384 : Ideal.ofBits .f32 0x43C00000#32 = ((384 : ℝ) : EReal) := by
  simp [Ideal.ofBits, Ideal.ieee]
  norm_cast
  norm_num

/-- A mean over 256 columns: by division, and by multiplication with the inverse. -/
theorem mean_256 (x : EReal) : Ideal.div x (Ideal.ofBits .f32 0x43800000#32) = x * Ideal.ofBits .f32 0x3B800000#32 := by
  rw [lit_256, lit_inv256, Ideal.div_coe (by norm_num)]

/-- A mean over 384 columns. -/
theorem mean_384 (x : EReal) : Ideal.div x (Ideal.ofBits .f32 0x43C00000#32) = x * (Named.named (F := Ideal) κ "inv384" (φ := .f32) 0x3B2AAAAB#32 : EReal) := by
  rw [lit_384, Ideal.div_coe (by norm_num), one_div]
  rfl

/-- One over the root of a row's mean square. -/
def root {n : ℕ} (N : EReal) (x : Fin n → EReal) : EReal :=
  Ideal.rsqrt (Ideal.div (∑ k, x k * x k) N + Ideal.ofBits .f32 0x358637BD#32)

/-- The derivative by a row's mean square, of the row `x` with the incoming gradient `w`. -/
def slope {n : ℕ} (N : EReal) (x w : Fin n → EReal) : EReal :=
  Ideal.div ((∑ k, x k * w k) * (Ideal.ofBits .f32 0xBF000000#32
    * Ideal.div (root N x) (Ideal.div (∑ k, x k * x k) N + Ideal.ofBits .f32 0x358637BD#32))) N

/-- The gradient of one entry `a` of a row `x`; `b` is the incoming gradient there. -/
def grad {n : ℕ} (N : EReal) (a b : EReal) (x w : Fin n → EReal) : EReal :=
  b * root N x + a * (∑ _k : Fin 1, slope N x w) + (∑ _k : Fin 1, slope N x w) * a

/-- An incoming gradient times the gain. -/
def times {a n : ℕ} (d : Mat a n) (g : Mat 1 n) : Mat a n := fun i => d i * g (ix2 0 (i 1))

/-- The sum over the rows of `x` times the root, times the incoming gradient. -/
def gainOf {a n : ℕ} (N : EReal) (x d : Mat a n) (j : Fin n) : EReal := ∑ r : Fin a, x (ix2 r j) * root N (fun k => x (ix2 r k)) * d (ix2 r j)

/-- The gradient of a latent: of the norm's incoming gradient `d` and its gain `g`. -/
def dLatent {n : ℕ} (N : EReal) (col : Fin n → Fin 8064) (u : Mat 8448 8064) (g : Mat 1 n) (d : Mat 8448 n) : Mat 8448 n := fun i =>
  grad N (u (ix2 (i 0) (col (i 1)))) (times d g i) (fun k => u (ix2 (i 0) (col k))) (fun k => times d g (ix2 (i 0) k))

/-- The gradient of a gain. -/
def dGain {n : ℕ} (N : EReal) (col : Fin n → Fin 8064) (u : Mat 8448 8064) (d : Mat 8448 n) : Mat 1 n := fun i =>
  ∑ r : Fin 8448, u (ix2 r (col (i 1))) * root N (fun k => u (ix2 r (col k))) * d (ix2 r (i 1))

theorem grad_congr {n : ℕ} (N : EReal) {a a' b b' : EReal} {x x' w w' : Fin n → EReal} (ha : a = a') (hb : b = b') (hx : ∀ k, x k = x' k)
    (hw : ∀ k, w k = w' k) : grad N a b x w = grad N a' b' x' w' := by
  rw [ha, hb, funext hx, funext hw]

set_option maxHeartbeats 1000000 in
/-- The gradient of the latent of the keys and values. -/
theorem leaves_6 (c : Dev nD) : (dats m 0 c).arrAt 6 cfg0.N
    = dLatent (Ideal.ofBits .f32 0x43800000#32) colKv (m ((c : Thread nD τ).loc main_arg0)) (m ((c : Thread nD τ).loc main_arg1)) (m ((c : Thread nD τ).loc main_arg3)) := by
  refine (dats m 0 c).arrAt_eq_of_covers 6 _ (by decide +kernel) fun t hf y => ?_
  have hN : t.val < 33 := t.isLt
  blk_simp
  rw [after0_6]
  by_cases h : t.val % 33 = 0
  · rw [outsAt0_A m c t h (by omega) h (by omega)]
    frame_out
    unfold dLatent colKv
    pointwise [k0_pay2, k0_pay3, k0_pay5]
    refine Eq.trans (b := grad (Ideal.ofBits .f32 0x43800000#32) (X0_0 m c t y) (times (a := 256) (n := 256) (iblk m c 4 t) (iblk m c 2 t) y)
      (fun k : Fin 256 => X0_0 m c t (ix2 (y 0) k)) (fun k => times (a := 256) (n := 256) (iblk m c 4 t) (iblk m c 2 t) (ix2 (y 0) k))) ?_
      (grad_congr _ ?_ (congrArg₂ (fun x y : EReal => x * y) ?_ ?_) (fun k => ?_) (fun k => congrArg₂ (fun x y : EReal => x * y) ?_ ?_))
    · unfold grad slope root times
      simp only [mean_256]
      rfl
    · unfold X0_0 Pipeline.Window.fill
      rw [dif_pos (moved0_0 t _)]
      blk_ext [iblk, V, at_0 t, at_6 t]
    · blk_ext [iblk, V, at_4 t, at_6 t]
    · blk_ext [iblk, V, at_2 t, at_6 t]
    · unfold X0_0 Pipeline.Window.fill
      rw [dif_pos (moved0_0 t _)]
      blk_ext [iblk, V, at_0 t, at_6 t]
    · blk_ext [iblk, V, at_4 t, at_6 t]
    · blk_ext [iblk, V, at_2 t, at_6 t]
  · rw [outsAt0_B m c t h (by omega) h (by omega)]
    frame_out
    unfold dLatent colKv
    pointwise [k0_pay2, k0_pay3, k0_pay5]
    refine Eq.trans (b := grad (Ideal.ofBits .f32 0x43800000#32) (X0_0 m c t y) (times (a := 256) (n := 256) (iblk m c 4 t) (iblk m c 2 t) y)
      (fun k : Fin 256 => X0_0 m c t (ix2 (y 0) k)) (fun k => times (a := 256) (n := 256) (iblk m c 4 t) (iblk m c 2 t) (ix2 (y 0) k))) ?_
      (grad_congr _ ?_ (congrArg₂ (fun x y : EReal => x * y) ?_ ?_) (fun k => ?_) (fun k => congrArg₂ (fun x y : EReal => x * y) ?_ ?_))
    · unfold grad slope root times
      simp only [mean_256]
      rfl
    · unfold X0_0 Pipeline.Window.fill
      rw [dif_pos (moved0_0 t _)]
      blk_ext [iblk, V, at_0 t, at_6 t]
    · blk_ext [iblk, V, at_4 t, at_6 t]
    · blk_ext [iblk, V, at_2 t, at_6 t]
    · unfold X0_0 Pipeline.Window.fill
      rw [dif_pos (moved0_0 t _)]
      blk_ext [iblk, V, at_0 t, at_6 t]
    · blk_ext [iblk, V, at_4 t, at_6 t]
    · blk_ext [iblk, V, at_2 t, at_6 t]

set_option maxHeartbeats 1000000 in
/-- The gradient of the latent of the queries. -/
theorem leaves_7 (c : Dev nD) : (dats m 0 c).arrAt 7 cfg0.N
    = dLatent (Ideal.ofBits .f32 0x43C00000#32) colQ (m ((c : Thread nD τ).loc main_arg0)) (m ((c : Thread nD τ).loc main_arg2)) (m ((c : Thread nD τ).loc main_arg4)) := by
  refine (dats m 0 c).arrAt_eq_of_covers 7 _ (by decide +kernel) fun t hf y => ?_
  have hN : t.val < 33 := t.isLt
  blk_simp
  rw [after0_7]
  by_cases h : t.val % 33 = 0
  · rw [outsAt0_A m c t h (by omega) h (by omega)]
    frame_out
    unfold dLatent colQ
    pointwise [k0_pay7, k0_pay8, k0_pay10]
    refine Eq.trans (b := grad (Ideal.ofBits .f32 0x43C00000#32) (iblk m c 1 t y) (times (a := 256) (n := 384) (iblk m c 5 t) (iblk m c 3 t) y)
      (fun k : Fin 384 => iblk m c 1 t (ix2 (y 0) k)) (fun k => times (a := 256) (n := 384) (iblk m c 5 t) (iblk m c 3 t) (ix2 (y 0) k))) ?_
      (grad_congr _ ?_ (congrArg₂ (fun x y : EReal => x * y) ?_ ?_) (fun k => ?_) (fun k => congrArg₂ (fun x y : EReal => x * y) ?_ ?_))
    · unfold grad slope root times
      simp only [mean_384]
      rfl
    · blk_ext [iblk, V, at_1 t, at_7 t]
    · blk_ext [iblk, V, at_5 t, at_7 t]
    · blk_ext [iblk, V, at_3 t, at_7 t]
    · blk_ext [iblk, V, at_1 t, at_7 t]
    · blk_ext [iblk, V, at_5 t, at_7 t]
    · blk_ext [iblk, V, at_3 t, at_7 t]
  · rw [outsAt0_B m c t h (by omega) h (by omega)]
    frame_out
    unfold dLatent colQ
    pointwise [k0_pay7, k0_pay8, k0_pay10]
    refine Eq.trans (b := grad (Ideal.ofBits .f32 0x43C00000#32) (iblk m c 1 t y) (times (a := 256) (n := 384) (iblk m c 5 t) (iblk m c 3 t) y)
      (fun k : Fin 384 => iblk m c 1 t (ix2 (y 0) k)) (fun k => times (a := 256) (n := 384) (iblk m c 5 t) (iblk m c 3 t) (ix2 (y 0) k))) ?_
      (grad_congr _ ?_ (congrArg₂ (fun x y : EReal => x * y) ?_ ?_) (fun k => ?_) (fun k => congrArg₂ (fun x y : EReal => x * y) ?_ ?_))
    · unfold grad slope root times
      simp only [mean_384]
      rfl
    · blk_ext [iblk, V, at_1 t, at_7 t]
    · blk_ext [iblk, V, at_5 t, at_7 t]
    · blk_ext [iblk, V, at_3 t, at_7 t]
    · blk_ext [iblk, V, at_1 t, at_7 t]
    · blk_ext [iblk, V, at_5 t, at_7 t]
    · blk_ext [iblk, V, at_3 t, at_7 t]

/-- What a point adds to the gradient of the gain of the latent of the keys and values. -/
def part_8 (c : Dev nD) (t : Fin cfg0.N) (y : S1x256.Idx) : EReal :=
  gainOf (a := 256) (n := 256) (Ideal.ofBits .f32 0x43800000#32) (X0_0 m c t) (iblk m c 4 t) (y 1)

/-- The first point leaves what it adds. -/
theorem first_8 (c : Dev nD) (t : Fin cfg0.N) (h : t.val % 33 = 0) (y : S1x256.Idx) :
    ((outsAt0 m c t.val t.isLt).2.2.1 y : EReal) = (0 : EReal) + part_8 m c t y := by
  have hN : t.val < 33 := t.isLt
  rw [outsAt0_A m c t h (by omega) h (by omega), zero_add]
  frame_out
  unfold part_8 gainOf root
  simp only [mean_256]
  pointwise [k0_pay2, k0_pay3, k0_pay4]

/-- A later point adds to what the point before left. -/
theorem later_8 (c : Dev nD) (t : Fin cfg0.N) (h : ¬t.val % 33 = 0) (y : S1x256.Idx) :
    ((outsAt0 m c t.val t.isLt).2.2.1 y : EReal) = (outsAt0 m c (t.val - 1) (Nat.lt_of_le_of_lt (Nat.sub_le _ _) t.isLt)).2.2.1 y + part_8 m c t y := by
  rw [outsAt0_B m c t h (by omega) h (by omega)]
  frame_out
  unfold part_8 gainOf root
  simp only [mean_256]
  pointwise [k0_pay2, k0_pay3, k0_pay4, k0_pay6]

/-- The gradient of the gain of the latent of the keys and values. -/
theorem leaves_8 (c : Dev nD) : (dats m 0 c).arrAt 8 cfg0.N
    = dGain (Ideal.ofBits .f32 0x43800000#32) colKv (m ((c : Thread nD τ).loc main_arg0)) (m ((c : Thread nD τ).loc main_arg3)) := by
  refine (dats m 0 c).arrAt_eq_of_covers 8 _ (by decide +kernel) fun t hf y => ?_
  have hr : t.val % 33 = 32 := (flush0_8 t).mp hf
  blk_simp
  rw [after0_8]
  refine (Pipeline.eq_sum_fin_of_reset_step_apply_of_flush (M := EReal) (fun n h y => (outsAt0 m c n h).2.2.1 y) 33 (fun _ => 0) (part_8 m c)
    (first_8 m c) (later_8 m c) t hr y).trans ((zero_add _).trans ?_)
  unfold part_8 gainOf dGain root colKv
  dsimp only
  refine Fin.sum_mul_add_congr fun s k hl => congrArg₂ (fun x y : EReal => x * y) (congrArg₂ (fun x y : EReal => x * Ideal.rsqrt (Ideal.div y (Ideal.ofBits .f32 0x43800000#32)
    + Ideal.ofBits .f32 0x358637BD#32)) ?_ (Finset.sum_congr rfl fun x _ => congrArg₂ (fun x y : EReal => x * y) ?_ ?_)) ?_
  · unfold X0_0 Pipeline.Window.fill
    rw [dif_pos (moved0_0 _ _)]
    blk_ext [iblk, V, at_0 _, at_8 t]
  · unfold X0_0 Pipeline.Window.fill
    rw [dif_pos (moved0_0 _ _)]
    blk_ext [iblk, V, at_0 _, at_8 t]
  · unfold X0_0 Pipeline.Window.fill
    rw [dif_pos (moved0_0 _ _)]
    blk_ext [iblk, V, at_0 _, at_8 t]
  · blk_ext [iblk, V, at_4 _, at_8 t]

/-- What a point adds to the gradient of the gain of the latent of the queries. -/
def part_9 (c : Dev nD) (t : Fin cfg0.N) (y : S1x384.Idx) : EReal :=
  gainOf (a := 256) (n := 384) (Ideal.ofBits .f32 0x43C00000#32) (iblk m c 1 t) (iblk m c 5 t) (y 1)

/-- The first point leaves what it adds. -/
theorem first_9 (c : Dev nD) (t : Fin cfg0.N) (h : t.val % 33 = 0) (y : S1x384.Idx) :
    ((outsAt0 m c t.val t.isLt).2.2.2 y : EReal) = (0 : EReal) + part_9 m c t y := by
  have hN : t.val < 33 := t.isLt
  rw [outsAt0_A m c t h (by omega) h (by omega), zero_add]
  frame_out
  unfold part_9 gainOf root
  simp only [mean_384]
  pointwise [k0_pay7, k0_pay8, k0_pay9]

/-- A later point adds to what the point before left. -/
theorem later_9 (c : Dev nD) (t : Fin cfg0.N) (h : ¬t.val % 33 = 0) (y : S1x384.Idx) :
    ((outsAt0 m c t.val t.isLt).2.2.2 y : EReal) = (outsAt0 m c (t.val - 1) (Nat.lt_of_le_of_lt (Nat.sub_le _ _) t.isLt)).2.2.2 y + part_9 m c t y := by
  rw [outsAt0_B m c t h (by omega) h (by omega)]
  frame_out
  unfold part_9 gainOf root
  simp only [mean_384]
  pointwise [k0_pay7, k0_pay8, k0_pay9, k0_pay1]

/-- The gradient of the gain of the latent of the queries. -/
theorem leaves_9 (c : Dev nD) : (dats m 0 c).arrAt 9 cfg0.N
    = dGain (Ideal.ofBits .f32 0x43C00000#32) colQ (m ((c : Thread nD τ).loc main_arg0)) (m ((c : Thread nD τ).loc main_arg4)) := by
  refine (dats m 0 c).arrAt_eq_of_covers 9 _ (by decide +kernel) fun t hf y => ?_
  have hr : t.val % 33 = 32 := (flush0_9 t).mp hf
  blk_simp
  rw [after0_9]
  refine (Pipeline.eq_sum_fin_of_reset_step_apply_of_flush (M := EReal) (fun n h y => (outsAt0 m c n h).2.2.2 y) 33 (fun _ => 0) (part_9 m c)
    (first_9 m c) (later_9 m c) t hr y).trans ((zero_add _).trans ?_)
  unfold part_9 gainOf dGain root colQ
  dsimp only
  refine Fin.sum_mul_add_congr fun s k hl => congrArg₂ (fun x y : EReal => x * y) (congrArg₂ (fun x y : EReal => x * Ideal.rsqrt (Ideal.div y (Ideal.ofBits .f32 0x43C00000#32)
    + Ideal.ofBits .f32 0x358637BD#32)) ?_ (Finset.sum_congr rfl fun x _ => congrArg₂ (fun x y : EReal => x * y) ?_ ?_)) ?_
  · blk_ext [iblk, V, at_1 _, at_9 t]
  · blk_ext [iblk, V, at_1 _, at_9 t]
  · blk_ext [iblk, V, at_1 _, at_9 t]
  · blk_ext [iblk, V, at_5 _, at_9 t]

/-- The reference leaves its arguments and has no semaphores to leave. -/
theorem frame_reference : Cert.quiescent_ReferenceLatNormBIdeal := fun m g _ =>
  (θ_run _ _ _).mono (fun r h => ⟨fun c => (h c).2.2.2.2, sem_eq_zero_of_no_sems (by decide) r.2⟩) (Cert.ReferenceLatNormBIdeal.Value.run (F := Ideal) m g)

/-- The call and the reference leave the same. -/
theorem same : Cert.algebraic_KernelLatNormBIdeal_ReferenceLatNormBIdeal := by
  intro m g m' g' _ ha
  refine ⟨fun c => dLatent (Ideal.ofBits .f32 0x43800000#32) colKv (m ((c : Thread nD τ).loc main_arg0)) (m ((c : Thread nD τ).loc main_arg1)) (m ((c : Thread nD τ).loc main_arg3)),
    fun c => dLatent (Ideal.ofBits .f32 0x43C00000#32) colQ (m ((c : Thread nD τ).loc main_arg0)) (m ((c : Thread nD τ).loc main_arg2)) (m ((c : Thread nD τ).loc main_arg4)),
    fun c => dGain (Ideal.ofBits .f32 0x43800000#32) colKv (m ((c : Thread nD τ).loc main_arg0)) (m ((c : Thread nD τ).loc main_arg3)),
    fun c => dGain (Ideal.ofBits .f32 0x43C00000#32) colQ (m ((c : Thread nD τ).loc main_arg0)) (m ((c : Thread nD τ).loc main_arg4)),
    (θ_run _ _ _).mono (fun r h c => ⟨(h c).1.trans (leaves_6 m c), (h c).2.1.trans (leaves_7 m c), (h c).2.2.1.trans (leaves_8 m c), (h c).2.2.2.1.trans (leaves_9 m c), (h c).2.2.2.2⟩) (Cert.KernelLatNormBIdeal.Value.run_blocks m g),
    (θ_run _ _ _).mono (fun r h c => ⟨(h c).1.trans ?_, (h c).2.1.trans ?_, (h c).2.2.1.trans ?_, (h c).2.2.2.1.trans ?_, (h c).2.2.2.2⟩) (Cert.ReferenceLatNormBIdeal.Value.run (F := Ideal) m' g')⟩
  all_goals
    clear h
    obtain ⟨a0, a1, a2, a3, a4⟩ := ha c
  · unfold Cert.ReferenceLatNormBIdeal.Value.res_main_v70
    rw [a0, a1, a3]
    funext i
    unfold dLatent grad slope root times colKv
    pointwise
  · unfold Cert.ReferenceLatNormBIdeal.Value.res_main_v71
    rw [a0, a2, a4]
    funext i
    unfold dLatent grad slope root times colQ
    pointwise
  · rw [a0, a3]
    funext i
    unfold dGain root colKv
    pointwise
  · rw [a0, a4]
    funext i
    unfold dGain root colQ
    pointwise

end Cert.KernelLatNormBIdeal.Own

end
-- ==== Proof.Gates.Optimiser.lean ====
/- One step of the optimiser on a number, over the extended reals. -/
module

public import proofs.«01_k».proof.Defs

@[expose] public section

noncomputable section

namespace Cert.Optimiser

open Idealize.ShloMosaic

/-- The first moment: 0.9 of the one before and 0.1 of the gradient, as float32 has these two numbers. -/
def first (g a : EReal) : EReal := Ideal.ofBits .f32 0x3F666666#32 * a + Ideal.ofBits .f32 0x3DCCCCCD#32 * g

/-- The second moment: 0.999 of the one before and 0.001 of the gradient's square. -/
def second (g b : EReal) : EReal := Ideal.ofBits .f32 0x3F7FBE77#32 * b + Ideal.ofBits .f32 0x3A83126F#32 * (g * g)

/-- The change of a weight: minus 0.001 times the sum of the first moment over the root of the second, both
    corrected for their start (1 - 0.9^10 and 1 - 0.999^10), 1e-8 being added to the root, and of 0.01 of the weight. -/
def change (w g a b : EReal) : EReal :=
  Ideal.ofBits .f32 0xBA83126F#32 * (Ideal.div (Ideal.div (first g a) (Ideal.ofBits .f32 0x3F26BD02#32))
    (Ideal.sqrt (Ideal.div (second g b) (Ideal.ofBits .f32 0x3C231ACC#32)) + Ideal.ofBits .f32 0x322BCC77#32) + Ideal.ofBits .f32 0x3C23D70A#32 * w)

/-- The change of equal arguments is equal. -/
theorem change_congr {w w' g g' a a' b b' : EReal} (hw : w = w') (hg : g = g') (ha : a = a') (hb : b = b') :
    change w g a b = change w' g' a' b' := by
  rw [hw, hg, ha, hb]

end Cert.Optimiser

end
-- ==== Proof.Gates.AdamMod.lean ====
/- One step of the optimiser on an array of weights, over the extended reals. -/
module

public import proofs.«01_k».proof.Defs
public import proofs.«01_k».proof.Proof.Gen.KernelAdamMod
public import proofs.«01_k».proof.Proof.Gen.KernelAdamMod.Skeleton
public import proofs.«01_k».proof.Proof.Gen.KernelAdamMod.Launch
public import proofs.«01_k».proof.Proof.Gen.KernelAdamMod.Frame
public import proofs.«01_k».proof.Proof.Gen.KernelAdamModIdeal
public import proofs.«01_k».proof.Proof.Gen.KernelAdamModIdeal.Skeleton
public import proofs.«01_k».proof.Proof.Gen.KernelAdamModIdeal.Launch
public import proofs.«01_k».proof.Proof.Gen.KernelAdamModIdeal.Frame
public import proofs.«01_k».proof.Proof.Gen.KernelAdamModIdeal.Value
public import proofs.«01_k».proof.Proof.Gen.ReferenceAdamModIdeal
public import proofs.«01_k».proof.Proof.Gen.ReferenceAdamModIdeal.Run
public import Idealize.ShloMosaic.Lib.Pipeline.ValueKit
public import Idealize.ShloMosaic.Lib.Pointwise
public import Idealize.ShloMosaic.Lib.Quiescent
public import proofs.«01_k».proof.Proof.Products.Sums
public import proofs.«01_k».proof.Proof.Gates.Optimiser

@[expose] public section

set_option maxRecDepth 16384

noncomputable section

namespace Cert.KernelAdamModIdeal.Own

open Idealize.ShloMosaic Idealize.ShloMosaic.TcCoe Idealize.SL.Sem Cert.Products
open Cert.KernelAdamModIdeal Cert.KernelAdamModIdeal.Gen

variable (m : (ℓ : Loc nD τ sig) → Buf (Elt Ideal) ℓ) (ρ : Dev nD → PrngReg)

theorem at_0 : ∀ t : Fin grid0.N, win0_0.index t = ![t.val, 0] := by decide +kernel
theorem at_1 : ∀ t : Fin grid0.N, win0_1.index t = ![t.val, 0] := by decide +kernel
theorem at_2 : ∀ t : Fin grid0.N, win0_2.index t = ![t.val, 0] := by decide +kernel
theorem at_3 : ∀ t : Fin grid0.N, win0_3.index t = ![t.val, 0] := by decide +kernel
theorem at_4 : ∀ t : Fin grid0.N, win0_4.index t = ![t.val, 0] := by decide +kernel
theorem at_5 : ∀ t : Fin grid0.N, win0_5.index t = ![t.val, 0] := by decide +kernel
theorem at_6 : ∀ t : Fin grid0.N, win0_6.index t = ![t.val, 0] := by decide +kernel

/-- The first moment, entry by entry: `g` is the gradient, `a` the moment before. -/
def first (g a : Mat 2048 1536) : Mat 2048 1536 := fun i => Cert.Optimiser.first (g i) (a i)

/-- The second moment, entry by entry: `g` is the gradient, `b` the moment before. -/
def second (g b : Mat 2048 1536) : Mat 2048 1536 := fun i => Cert.Optimiser.second (g i) (b i)

/-- The change of the weights, entry by entry. -/
def change (w g a b : Mat 2048 1536) : Mat 2048 1536 := fun i => Cert.Optimiser.change (w i) (g i) (a i) (b i)

/-- The call leaves the change of the weights in its first result. -/
theorem leaves_4 (c : Dev nD) : (dats m 0 c).arrAt 4 cfg0.N
    = change (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  unfold change
  pointwise [k0_pay1, k0_pay2, k0_pay3]
  refine Cert.Optimiser.change_congr ?_ ?_ ?_ ?_
  · blk_ext [iblk, V, at_0 t, at_4 t]
  · blk_ext [iblk, V, at_1 t, at_4 t]
  · blk_ext [iblk, V, at_2 t, at_4 t]
  · blk_ext [iblk, V, at_3 t, at_4 t]

/-- The call leaves the first moment in its second result. -/
theorem leaves_5 (c : Dev nD) : (dats m 0 c).arrAt 5 cfg0.N
    = first (m ((c : Thread nD τ).loc main_arg1)) (m ((c : Thread nD τ).loc main_arg2)) := by
  refine (dats m 0 c).arrAt_eq_of_covers 5 _ (by decide +kernel) fun t hf y => ?_
  blk_simp
  rw [after0_5]
  frame_out
  unfold first
  pointwise [k0_pay1]
  refine congrArg₂ Cert.Optimiser.first ?_ ?_
  · blk_ext [iblk, V, at_1 t, at_5 t]
  · blk_ext [iblk, V, at_2 t, at_5 t]

/-- The call leaves the second moment in its third result. -/
theorem leaves_6 (c : Dev nD) : (dats m 0 c).arrAt 6 cfg0.N
    = second (m ((c : Thread nD τ).loc main_arg1)) (m ((c : Thread nD τ).loc main_arg3)) := by
  refine (dats m 0 c).arrAt_eq_of_covers 6 _ (by decide +kernel) fun t hf y => ?_
  blk_simp
  rw [after0_6]
  frame_out
  unfold second
  pointwise [k0_pay2]
  refine congrArg₂ Cert.Optimiser.second ?_ ?_
  · blk_ext [iblk, V, at_1 t, at_6 t]
  · blk_ext [iblk, V, at_3 t, at_6 t]

/-- The reference leaves its arguments and has no semaphores to leave. -/
theorem frame_reference : Cert.quiescent_ReferenceAdamModIdeal := fun m g _ =>
  (θ_run _ _ _).mono (fun r h => ⟨fun c => (h c).2.2.2, sem_eq_zero_of_no_sems (by decide) r.2⟩) (Cert.ReferenceAdamModIdeal.Value.run (F := Ideal) m g)

/-- The call and the reference leave the same. -/
theorem same : Cert.algebraic_KernelAdamModIdeal_ReferenceAdamModIdeal := by
  intro m g m' g' _ ha
  refine ⟨fun c => change (m ((c : Thread nD τ).loc main_arg0)) (m ((c : Thread nD τ).loc main_arg1)) (m ((c : Thread nD τ).loc main_arg2)) (m ((c : Thread nD τ).loc main_arg3)),
    fun c => first (m ((c : Thread nD τ).loc main_arg1)) (m ((c : Thread nD τ).loc main_arg2)),
    fun c => second (m ((c : Thread nD τ).loc main_arg1)) (m ((c : Thread nD τ).loc main_arg3)),
    (θ_run _ _ _).mono (fun r h c => ⟨(h c).1.trans (leaves_4 m c), (h c).2.1.trans (leaves_5 m c), (h c).2.2.1.trans (leaves_6 m c),
      (h c).2.2.2⟩) (Cert.KernelAdamModIdeal.Value.run_blocks m g),
    (θ_run _ _ _).mono (fun r h c => ⟨(h c).1.trans ?_, (h c).2.1.trans ?_, (h c).2.2.1.trans ?_,
      (h c).2.2.2⟩) (Cert.ReferenceAdamModIdeal.Value.run (F := Ideal) m' g')⟩
  all_goals
    obtain ⟨a0, a1, a2, a3⟩ := ha c
    clear h
    funext i
  · rw [a0, a1, a2, a3]
    unfold change
    pointwise
    rfl
  · rw [a1, a2]
    unfold first
    pointwise
    rfl
  · rw [a1, a3]
    unfold second
    pointwise
    rfl

end Cert.KernelAdamModIdeal.Own

end
-- ==== Proof.Gates.AdamIn.lean ====
/- One step of the optimiser on an array of weights, over the extended reals. -/
module

public import proofs.«01_k».proof.Defs
public import proofs.«01_k».proof.Proof.Gen.KernelAdamIn
public import proofs.«01_k».proof.Proof.Gen.KernelAdamIn.Skeleton
public import proofs.«01_k».proof.Proof.Gen.KernelAdamIn.Launch
public import proofs.«01_k».proof.Proof.Gen.KernelAdamIn.Frame
public import proofs.«01_k».proof.Proof.Gen.KernelAdamInIdeal
public import proofs.«01_k».proof.Proof.Gen.KernelAdamInIdeal.Skeleton
public import proofs.«01_k».proof.Proof.Gen.KernelAdamInIdeal.Launch
public import proofs.«01_k».proof.Proof.Gen.KernelAdamInIdeal.Frame
public import proofs.«01_k».proof.Proof.Gen.KernelAdamInIdeal.Value
public import proofs.«01_k».proof.Proof.Gen.ReferenceAdamInIdeal
public import proofs.«01_k».proof.Proof.Gen.ReferenceAdamInIdeal.Run
public import Idealize.ShloMosaic.Lib.Pipeline.ValueKit
public import Idealize.ShloMosaic.Lib.Pointwise
public import Idealize.ShloMosaic.Lib.Quiescent
public import proofs.«01_k».proof.Proof.Products.Sums
public import proofs.«01_k».proof.Proof.Gates.Optimiser

@[expose] public section

set_option maxRecDepth 16384

noncomputable section

namespace Cert.KernelAdamInIdeal.Own

open Idealize.ShloMosaic Idealize.ShloMosaic.TcCoe Idealize.SL.Sem Cert.Products
open Cert.KernelAdamInIdeal Cert.KernelAdamInIdeal.Gen

variable (m : (ℓ : Loc nD τ sig) → Buf (Elt Ideal) ℓ) (ρ : Dev nD → PrngReg)

theorem at_0 : ∀ t : Fin grid0.N, win0_0.index t = ![t.val, 0] := by decide +kernel
theorem at_1 : ∀ t : Fin grid0.N, win0_1.index t = ![t.val, 0] := by decide +kernel
theorem at_2 : ∀ t : Fin grid0.N, win0_2.index t = ![t.val, 0] := by decide +kernel
theorem at_3 : ∀ t : Fin grid0.N, win0_3.index t = ![t.val, 0] := by decide +kernel
theorem at_4 : ∀ t : Fin grid0.N, win0_4.index t = ![t.val, 0] := by decide +kernel
theorem at_5 : ∀ t : Fin grid0.N, win0_5.index t = ![t.val, 0] := by decide +kernel
theorem at_6 : ∀ t : Fin grid0.N, win0_6.index t = ![t.val, 0] := by decide +kernel

/-- The first moment, entry by entry: `g` is the gradient, `a` the moment before. -/
def first (g a : Mat 2048 1976) : Mat 2048 1976 := fun i => Cert.Optimiser.first (g i) (a i)

/-- The second moment, entry by entry: `g` is the gradient, `b` the moment before. -/
def second (g b : Mat 2048 1976) : Mat 2048 1976 := fun i => Cert.Optimiser.second (g i) (b i)

/-- The change of the weights, entry by entry. -/
def change (w g a b : Mat 2048 1976) : Mat 2048 1976 := fun i => Cert.Optimiser.change (w i) (g i) (a i) (b i)

/-- The call leaves the change of the weights in its first result. -/
theorem leaves_4 (c : Dev nD) : (dats m 0 c).arrAt 4 cfg0.N
    = change (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  unfold change
  pointwise [k0_pay1, k0_pay2, k0_pay3]
  refine Cert.Optimiser.change_congr ?_ ?_ ?_ ?_
  · blk_ext [iblk, V, at_0 t, at_4 t]
  · blk_ext [iblk, V, at_1 t, at_4 t]
  · blk_ext [iblk, V, at_2 t, at_4 t]
  · blk_ext [iblk, V, at_3 t, at_4 t]

/-- The call leaves the first moment in its second result. -/
theorem leaves_5 (c : Dev nD) : (dats m 0 c).arrAt 5 cfg0.N
    = first (m ((c : Thread nD τ).loc main_arg1)) (m ((c : Thread nD τ).loc main_arg2)) := by
  refine (dats m 0 c).arrAt_eq_of_covers 5 _ (by decide +kernel) fun t hf y => ?_
  blk_simp
  rw [after0_5]
  frame_out
  unfold first
  pointwise [k0_pay1]
  refine congrArg₂ Cert.Optimiser.first ?_ ?_
  · blk_ext [iblk, V, at_1 t, at_5 t]
  · blk_ext [iblk, V, at_2 t, at_5 t]

/-- The call leaves the second moment in its third result. -/
theorem leaves_6 (c : Dev nD) : (dats m 0 c).arrAt 6 cfg0.N
    = second (m ((c : Thread nD τ).loc main_arg1)) (m ((c : Thread nD τ).loc main_arg3)) := by
  refine (dats m 0 c).arrAt_eq_of_covers 6 _ (by decide +kernel) fun t hf y => ?_
  blk_simp
  rw [after0_6]
  frame_out
  unfold second
  pointwise [k0_pay2]
  refine congrArg₂ Cert.Optimiser.second ?_ ?_
  · blk_ext [iblk, V, at_1 t, at_6 t]
  · blk_ext [iblk, V, at_3 t, at_6 t]

/-- The reference leaves its arguments and has no semaphores to leave. -/
theorem frame_reference : Cert.quiescent_ReferenceAdamInIdeal := fun m g _ =>
  (θ_run _ _ _).mono (fun r h => ⟨fun c => (h c).2.2.2, sem_eq_zero_of_no_sems (by decide) r.2⟩) (Cert.ReferenceAdamInIdeal.Value.run (F := Ideal) m g)

/-- The call and the reference leave the same. -/
theorem same : Cert.algebraic_KernelAdamInIdeal_ReferenceAdamInIdeal := by
  intro m g m' g' _ ha
  refine ⟨fun c => change (m ((c : Thread nD τ).loc main_arg0)) (m ((c : Thread nD τ).loc main_arg1)) (m ((c : Thread nD τ).loc main_arg2)) (m ((c : Thread nD τ).loc main_arg3)),
    fun c => first (m ((c : Thread nD τ).loc main_arg1)) (m ((c : Thread nD τ).loc main_arg2)),
    fun c => second (m ((c : Thread nD τ).loc main_arg1)) (m ((c : Thread nD τ).loc main_arg3)),
    (θ_run _ _ _).mono (fun r h c => ⟨(h c).1.trans (leaves_4 m c), (h c).2.1.trans (leaves_5 m c), (h c).2.2.1.trans (leaves_6 m c),
      (h c).2.2.2⟩) (Cert.KernelAdamInIdeal.Value.run_blocks m g),
    (θ_run _ _ _).mono (fun r h c => ⟨(h c).1.trans ?_, (h c).2.1.trans ?_, (h c).2.2.1.trans ?_,
      (h c).2.2.2⟩) (Cert.ReferenceAdamInIdeal.Value.run (F := Ideal) m' g')⟩
  all_goals
    obtain ⟨a0, a1, a2, a3⟩ := ha c
    clear h
    funext i
  · rw [a0, a1, a2, a3]
    unfold change
    pointwise
    rfl
  · rw [a1, a2]
    unfold first
    pointwise
    rfl
  · rw [a1, a3]
    unfold second
    pointwise
    rfl

end Cert.KernelAdamInIdeal.Own

end
-- ==== Proof.Gates.AdamUq.lean ====
/- One step of the optimiser on an array of weights, over the extended reals. -/
module

public import proofs.«01_k».proof.Defs
public import proofs.«01_k».proof.Proof.Gen.KernelAdamUq
public import proofs.«01_k».proof.Proof.Gen.KernelAdamUq.Skeleton
public import proofs.«01_k».proof.Proof.Gen.KernelAdamUq.Launch
public import proofs.«01_k».proof.Proof.Gen.KernelAdamUq.Frame
public import proofs.«01_k».proof.Proof.Gen.KernelAdamUqIdeal
public import proofs.«01_k».proof.Proof.Gen.KernelAdamUqIdeal.Skeleton
public import proofs.«01_k».proof.Proof.Gen.KernelAdamUqIdeal.Launch
public import proofs.«01_k».proof.Proof.Gen.KernelAdamUqIdeal.Frame
public import proofs.«01_k».proof.Proof.Gen.KernelAdamUqIdeal.Value
public import proofs.«01_k».proof.Proof.Gen.ReferenceAdamUqIdeal
public import proofs.«01_k».proof.Proof.Gen.ReferenceAdamUqIdeal.Run
public import Idealize.ShloMosaic.Lib.Pipeline.ValueKit
public import Idealize.ShloMosaic.Lib.Pointwise
public import Idealize.ShloMosaic.Lib.Quiescent
public import proofs.«01_k».proof.Proof.Products.Sums
public import proofs.«01_k».proof.Proof.Gates.Optimiser

@[expose] public section

set_option maxRecDepth 16384

noncomputable section

namespace Cert.KernelAdamUqIdeal.Own

open Idealize.ShloMosaic Idealize.ShloMosaic.TcCoe Idealize.SL.Sem Cert.Products
open Cert.KernelAdamUqIdeal Cert.KernelAdamUqIdeal.Gen

variable (m : (ℓ : Loc nD τ sig) → Buf (Elt Ideal) ℓ) (ρ : Dev nD → PrngReg)

theorem at_0 : ∀ t : Fin grid0.N, win0_0.index t = ![t.val, 0] := by decide +kernel
theorem at_1 : ∀ t : Fin grid0.N, win0_1.index t = ![t.val, 0] := by decide +kernel
theorem at_2 : ∀ t : Fin grid0.N, win0_2.index t = ![t.val, 0] := by decide +kernel
theorem at_3 : ∀ t : Fin grid0.N, win0_3.index t = ![t.val, 0] := by decide +kernel
theorem at_4 : ∀ t : Fin grid0.N, win0_4.index t = ![t.val, 0] := by decide +kernel
theorem at_5 : ∀ t : Fin grid0.N, win0_5.index t = ![t.val, 0] := by decide +kernel
theorem at_6 : ∀ t : Fin grid0.N, win0_6.index t = ![t.val, 0] := by decide +kernel

/-- The first moment, entry by entry: `g` is the gradient, `a` the moment before. -/
def first (g a : Mat 768 384) : Mat 768 384 := fun i => Cert.Optimiser.first (g i) (a i)

/-- The second moment, entry by entry: `g` is the gradient, `b` the moment before. -/
def second (g b : Mat 768 384) : Mat 768 384 := fun i => Cert.Optimiser.second (g i) (b i)

/-- The change of the weights, entry by entry. -/
def change (w g a b : Mat 768 384) : Mat 768 384 := fun i => Cert.Optimiser.change (w i) (g i) (a i) (b i)

/-- The call leaves the change of the weights in its first result. -/
theorem leaves_4 (c : Dev nD) : (dats m 0 c).arrAt 4 cfg0.N
    = change (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  unfold change
  pointwise [k0_pay1, k0_pay2, k0_pay3]
  refine Cert.Optimiser.change_congr ?_ ?_ ?_ ?_
  · blk_ext [iblk, V, at_0 t, at_4 t]
  · blk_ext [iblk, V, at_1 t, at_4 t]
  · blk_ext [iblk, V, at_2 t, at_4 t]
  · blk_ext [iblk, V, at_3 t, at_4 t]

/-- The call leaves the first moment in its second result. -/
theorem leaves_5 (c : Dev nD) : (dats m 0 c).arrAt 5 cfg0.N
    = first (m ((c : Thread nD τ).loc main_arg1)) (m ((c : Thread nD τ).loc main_arg2)) := by
  refine (dats m 0 c).arrAt_eq_of_covers 5 _ (by decide +kernel) fun t hf y => ?_
  blk_simp
  rw [after0_5]
  frame_out
  unfold first
  pointwise [k0_pay1]
  refine congrArg₂ Cert.Optimiser.first ?_ ?_
  · blk_ext [iblk, V, at_1 t, at_5 t]
  · blk_ext [iblk, V, at_2 t, at_5 t]

/-- The call leaves the second moment in its third result. -/
theorem leaves_6 (c : Dev nD) : (dats m 0 c).arrAt 6 cfg0.N
    = second (m ((c : Thread nD τ).loc main_arg1)) (m ((c : Thread nD τ).loc main_arg3)) := by
  refine (dats m 0 c).arrAt_eq_of_covers 6 _ (by decide +kernel) fun t hf y => ?_
  blk_simp
  rw [after0_6]
  frame_out
  unfold second
  pointwise [k0_pay2]
  refine congrArg₂ Cert.Optimiser.second ?_ ?_
  · blk_ext [iblk, V, at_1 t, at_6 t]
  · blk_ext [iblk, V, at_3 t, at_6 t]

/-- The reference leaves its arguments and has no semaphores to leave. -/
theorem frame_reference : Cert.quiescent_ReferenceAdamUqIdeal := fun m g _ =>
  (θ_run _ _ _).mono (fun r h => ⟨fun c => (h c).2.2.2, sem_eq_zero_of_no_sems (by decide) r.2⟩) (Cert.ReferenceAdamUqIdeal.Value.run (F := Ideal) m g)

/-- The call and the reference leave the same. -/
theorem same : Cert.algebraic_KernelAdamUqIdeal_ReferenceAdamUqIdeal := by
  intro m g m' g' _ ha
  refine ⟨fun c => change (m ((c : Thread nD τ).loc main_arg0)) (m ((c : Thread nD τ).loc main_arg1)) (m ((c : Thread nD τ).loc main_arg2)) (m ((c : Thread nD τ).loc main_arg3)),
    fun c => first (m ((c : Thread nD τ).loc main_arg1)) (m ((c : Thread nD τ).loc main_arg2)),
    fun c => second (m ((c : Thread nD τ).loc main_arg1)) (m ((c : Thread nD τ).loc main_arg3)),
    (θ_run _ _ _).mono (fun r h c => ⟨(h c).1.trans (leaves_4 m c), (h c).2.1.trans (leaves_5 m c), (h c).2.2.1.trans (leaves_6 m c),
      (h c).2.2.2⟩) (Cert.KernelAdamUqIdeal.Value.run_blocks m g),
    (θ_run _ _ _).mono (fun r h c => ⟨(h c).1.trans ?_, (h c).2.1.trans ?_, (h c).2.2.1.trans ?_,
      (h c).2.2.2⟩) (Cert.ReferenceAdamUqIdeal.Value.run (F := Ideal) m' g')⟩
  all_goals
    obtain ⟨a0, a1, a2, a3⟩ := ha c
    clear h
    funext i
  · rw [a0, a1, a2, a3]
    unfold change
    pointwise
    rfl
  · rw [a1, a2]
    unfold first
    pointwise
    rfl
  · rw [a1, a3]
    unfold second
    pointwise
    rfl

end Cert.KernelAdamUqIdeal.Own

end
-- ==== Proof.Gates.AdamUkv.lean ====
/- One step of the optimiser on an array of weights, over the extended reals. -/
module

public import proofs.«01_k».proof.Defs
public import proofs.«01_k».proof.Proof.Gen.KernelAdamUkv
public import proofs.«01_k».proof.Proof.Gen.KernelAdamUkv.Skeleton
public import proofs.«01_k».proof.Proof.Gen.KernelAdamUkv.Launch
public import proofs.«01_k».proof.Proof.Gen.KernelAdamUkv.Frame
public import proofs.«01_k».proof.Proof.Gen.KernelAdamUkvIdeal
public import proofs.«01_k».proof.Proof.Gen.KernelAdamUkvIdeal.Skeleton
public import proofs.«01_k».proof.Proof.Gen.KernelAdamUkvIdeal.Launch
public import proofs.«01_k».proof.Proof.Gen.KernelAdamUkvIdeal.Frame
public import proofs.«01_k».proof.Proof.Gen.KernelAdamUkvIdeal.Value
public import proofs.«01_k».proof.Proof.Gen.ReferenceAdamUkvIdeal
public import proofs.«01_k».proof.Proof.Gen.ReferenceAdamUkvIdeal.Run
public import Idealize.ShloMosaic.Lib.Pipeline.ValueKit
public import Idealize.ShloMosaic.Lib.Pointwise
public import Idealize.ShloMosaic.Lib.Quiescent
public import proofs.«01_k».proof.Proof.Products.Sums
public import proofs.«01_k».proof.Proof.Gates.Optimiser

@[expose] public section

set_option maxRecDepth 16384

noncomputable section

namespace Cert.KernelAdamUkvIdeal.Own

open Idealize.ShloMosaic Idealize.ShloMosaic.TcCoe Idealize.SL.Sem Cert.Products
open Cert.KernelAdamUkvIdeal Cert.KernelAdamUkvIdeal.Gen

variable (m : (ℓ : Loc nD τ sig) → Buf (Elt Ideal) ℓ) (ρ : Dev nD → PrngReg)

theorem at_0 : ∀ t : Fin grid0.N, win0_0.index t = ![t.val, 0] := by decide +kernel
theorem at_1 : ∀ t : Fin grid0.N, win0_1.index t = ![t.val, 0] := by decide +kernel
theorem at_2 : ∀ t : Fin grid0.N, win0_2.index t = ![t.val, 0] := by decide +kernel
theorem at_3 : ∀ t : Fin grid0.N, win0_3.index t = ![t.val, 0] := by decide +kernel
theorem at_4 : ∀ t : Fin grid0.N, win0_4.index t = ![t.val, 0] := by decide +kernel
theorem at_5 : ∀ t : Fin grid0.N, win0_5.index t = ![t.val, 0] := by decide +kernel
theorem at_6 : ∀ t : Fin grid0.N, win0_6.index t = ![t.val, 0] := by decide +kernel

/-- The first moment, entry by entry: `g` is the gradient, `a` the moment before. -/
def first (g a : Mat 512 512) : Mat 512 512 := fun i => Cert.Optimiser.first (g i) (a i)

/-- The second moment, entry by entry: `g` is the gradient, `b` the moment before. -/
def second (g b : Mat 512 512) : Mat 512 512 := fun i => Cert.Optimiser.second (g i) (b i)

/-- The change of the weights, entry by entry. -/
def change (w g a b : Mat 512 512) : Mat 512 512 := fun i => Cert.Optimiser.change (w i) (g i) (a i) (b i)

/-- The call leaves the change of the weights in its first result. -/
theorem leaves_4 (c : Dev nD) : (dats m 0 c).arrAt 4 cfg0.N
    = change (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  unfold change
  pointwise [k0_pay1, k0_pay2, k0_pay3]
  refine Cert.Optimiser.change_congr ?_ ?_ ?_ ?_
  · blk_ext [iblk, V, at_0 t, at_4 t]
  · blk_ext [iblk, V, at_1 t, at_4 t]
  · blk_ext [iblk, V, at_2 t, at_4 t]
  · blk_ext [iblk, V, at_3 t, at_4 t]

/-- The call leaves the first moment in its second result. -/
theorem leaves_5 (c : Dev nD) : (dats m 0 c).arrAt 5 cfg0.N
    = first (m ((c : Thread nD τ).loc main_arg1)) (m ((c : Thread nD τ).loc main_arg2)) := by
  refine (dats m 0 c).arrAt_eq_of_covers 5 _ (by decide +kernel) fun t hf y => ?_
  blk_simp
  rw [after0_5]
  frame_out
  unfold first
  pointwise [k0_pay1]
  refine congrArg₂ Cert.Optimiser.first ?_ ?_
  · blk_ext [iblk, V, at_1 t, at_5 t]
  · blk_ext [iblk, V, at_2 t, at_5 t]

/-- The call leaves the second moment in its third result. -/
theorem leaves_6 (c : Dev nD) : (dats m 0 c).arrAt 6 cfg0.N
    = second (m ((c : Thread nD τ).loc main_arg1)) (m ((c : Thread nD τ).loc main_arg3)) := by
  refine (dats m 0 c).arrAt_eq_of_covers 6 _ (by decide +kernel) fun t hf y => ?_
  blk_simp
  rw [after0_6]
  frame_out
  unfold second
  pointwise [k0_pay2]
  refine congrArg₂ Cert.Optimiser.second ?_ ?_
  · blk_ext [iblk, V, at_1 t, at_6 t]
  · blk_ext [iblk, V, at_3 t, at_6 t]

/-- The reference leaves its arguments and has no semaphores to leave. -/
theorem frame_reference : Cert.quiescent_ReferenceAdamUkvIdeal := fun m g _ =>
  (θ_run _ _ _).mono (fun r h => ⟨fun c => (h c).2.2.2, sem_eq_zero_of_no_sems (by decide) r.2⟩) (Cert.ReferenceAdamUkvIdeal.Value.run (F := Ideal) m g)

/-- The call and the reference leave the same. -/
theorem same : Cert.algebraic_KernelAdamUkvIdeal_ReferenceAdamUkvIdeal := by
  intro m g m' g' _ ha
  refine ⟨fun c => change (m ((c : Thread nD τ).loc main_arg0)) (m ((c : Thread nD τ).loc main_arg1)) (m ((c : Thread nD τ).loc main_arg2)) (m ((c : Thread nD τ).loc main_arg3)),
    fun c => first (m ((c : Thread nD τ).loc main_arg1)) (m ((c : Thread nD τ).loc main_arg2)),
    fun c => second (m ((c : Thread nD τ).loc main_arg1)) (m ((c : Thread nD τ).loc main_arg3)),
    (θ_run _ _ _).mono (fun r h c => ⟨(h c).1.trans (leaves_4 m c), (h c).2.1.trans (leaves_5 m c), (h c).2.2.1.trans (leaves_6 m c),
      (h c).2.2.2⟩) (Cert.KernelAdamUkvIdeal.Value.run_blocks m g),
    (θ_run _ _ _).mono (fun r h c => ⟨(h c).1.trans ?_, (h c).2.1.trans ?_, (h c).2.2.1.trans ?_,
      (h c).2.2.2⟩) (Cert.ReferenceAdamUkvIdeal.Value.run (F := Ideal) m' g')⟩
  all_goals
    obtain ⟨a0, a1, a2, a3⟩ := ha c
    clear h
    funext i
  · rw [a0, a1, a2, a3]
    unfold change
    pointwise
    rfl
  · rw [a1, a2]
    unfold first
    pointwise
    rfl
  · rw [a1, a3]
    unfold second
    pointwise
    rfl

end Cert.KernelAdamUkvIdeal.Own

end
-- ==== Proof.Gates.AdamOut.lean ====
/- One step of the optimiser on an array of weights, over the extended reals. -/
module

public import proofs.«01_k».proof.Defs
public import proofs.«01_k».proof.Proof.Gen.KernelAdamOut
public import proofs.«01_k».proof.Proof.Gen.KernelAdamOut.Skeleton
public import proofs.«01_k».proof.Proof.Gen.KernelAdamOut.Launch
public import proofs.«01_k».proof.Proof.Gen.KernelAdamOut.Frame
public import proofs.«01_k».proof.Proof.Gen.KernelAdamOutIdeal
public import proofs.«01_k».proof.Proof.Gen.KernelAdamOutIdeal.Skeleton
public import proofs.«01_k».proof.Proof.Gen.KernelAdamOutIdeal.Launch
public import proofs.«01_k».proof.Proof.Gen.KernelAdamOutIdeal.Frame
public import proofs.«01_k».proof.Proof.Gen.KernelAdamOutIdeal.Value
public import proofs.«01_k».proof.Proof.Gen.ReferenceAdamOutIdeal
public import proofs.«01_k».proof.Proof.Gen.ReferenceAdamOutIdeal.Run
public import Idealize.ShloMosaic.Lib.Pipeline.ValueKit
public import Idealize.ShloMosaic.Lib.Pointwise
public import Idealize.ShloMosaic.Lib.Quiescent
public import proofs.«01_k».proof.Proof.Products.Sums
public import proofs.«01_k».proof.Proof.Gates.Optimiser

@[expose] public section

set_option maxRecDepth 16384

noncomputable section

namespace Cert.KernelAdamOutIdeal.Own

open Idealize.ShloMosaic Idealize.ShloMosaic.TcCoe Idealize.SL.Sem Cert.Products
open Cert.KernelAdamOutIdeal Cert.KernelAdamOutIdeal.Gen

variable (m : (ℓ : Loc nD τ sig) → Buf (Elt Ideal) ℓ) (ρ : Dev nD → PrngReg)

theorem at_0 : ∀ t : Fin grid0.N, win0_0.index t = ![t.val, 0] := by decide +kernel
theorem at_1 : ∀ t : Fin grid0.N, win0_1.index t = ![t.val, 0] := by decide +kernel
theorem at_2 : ∀ t : Fin grid0.N, win0_2.index t = ![t.val, 0] := by decide +kernel
theorem at_3 : ∀ t : Fin grid0.N, win0_3.index t = ![t.val, 0] := by decide +kernel
theorem at_4 : ∀ t : Fin grid0.N, win0_4.index t = ![t.val, 0] := by decide +kernel
theorem at_5 : ∀ t : Fin grid0.N, win0_5.index t = ![t.val, 0] := by decide +kernel
theorem at_6 : ∀ t : Fin grid0.N, win0_6.index t = ![t.val, 0] := by decide +kernel

/-- The first moment, entry by entry: `g` is the gradient, `a` the moment before. -/
def first (g a : Mat 512 1024) : Mat 512 1024 := fun i => Cert.Optimiser.first (g i) (a i)

/-- The second moment, entry by entry: `g` is the gradient, `b` the moment before. -/
def second (g b : Mat 512 1024) : Mat 512 1024 := fun i => Cert.Optimiser.second (g i) (b i)

/-- The change of the weights, entry by entry. -/
def change (w g a b : Mat 512 1024) : Mat 512 1024 := fun i => Cert.Optimiser.change (w i) (g i) (a i) (b i)

/-- The call leaves the change of the weights in its first result. -/
theorem leaves_4 (c : Dev nD) : (dats m 0 c).arrAt 4 cfg0.N
    = change (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  unfold change
  pointwise [k0_pay1, k0_pay2, k0_pay3]
  refine Cert.Optimiser.change_congr ?_ ?_ ?_ ?_
  · blk_ext [iblk, V, at_0 t, at_4 t]
  · blk_ext [iblk, V, at_1 t, at_4 t]
  · blk_ext [iblk, V, at_2 t, at_4 t]
  · blk_ext [iblk, V, at_3 t, at_4 t]

/-- The call leaves the first moment in its second result. -/
theorem leaves_5 (c : Dev nD) : (dats m 0 c).arrAt 5 cfg0.N
    = first (m ((c : Thread nD τ).loc main_arg1)) (m ((c : Thread nD τ).loc main_arg2)) := by
  refine (dats m 0 c).arrAt_eq_of_covers 5 _ (by decide +kernel) fun t hf y => ?_
  blk_simp
  rw [after0_5]
  frame_out
  unfold first
  pointwise [k0_pay1]
  refine congrArg₂ Cert.Optimiser.first ?_ ?_
  · blk_ext [iblk, V, at_1 t, at_5 t]
  · blk_ext [iblk, V, at_2 t, at_5 t]

/-- The call leaves the second moment in its third result. -/
theorem leaves_6 (c : Dev nD) : (dats m 0 c).arrAt 6 cfg0.N
    = second (m ((c : Thread nD τ).loc main_arg1)) (m ((c : Thread nD τ).loc main_arg3)) := by
  refine (dats m 0 c).arrAt_eq_of_covers 6 _ (by decide +kernel) fun t hf y => ?_
  blk_simp
  rw [after0_6]
  frame_out
  unfold second
  pointwise [k0_pay2]
  refine congrArg₂ Cert.Optimiser.second ?_ ?_
  · blk_ext [iblk, V, at_1 t, at_6 t]
  · blk_ext [iblk, V, at_3 t, at_6 t]

/-- The reference leaves its arguments and has no semaphores to leave. -/
theorem frame_reference : Cert.quiescent_ReferenceAdamOutIdeal := fun m g _ =>
  (θ_run _ _ _).mono (fun r h => ⟨fun c => (h c).2.2.2, sem_eq_zero_of_no_sems (by decide) r.2⟩) (Cert.ReferenceAdamOutIdeal.Value.run (F := Ideal) m g)

/-- The call and the reference leave the same. -/
theorem same : Cert.algebraic_KernelAdamOutIdeal_ReferenceAdamOutIdeal := by
  intro m g m' g' _ ha
  refine ⟨fun c => change (m ((c : Thread nD τ).loc main_arg0)) (m ((c : Thread nD τ).loc main_arg1)) (m ((c : Thread nD τ).loc main_arg2)) (m ((c : Thread nD τ).loc main_arg3)),
    fun c => first (m ((c : Thread nD τ).loc main_arg1)) (m ((c : Thread nD τ).loc main_arg2)),
    fun c => second (m ((c : Thread nD τ).loc main_arg1)) (m ((c : Thread nD τ).loc main_arg3)),
    (θ_run _ _ _).mono (fun r h c => ⟨(h c).1.trans (leaves_4 m c), (h c).2.1.trans (leaves_5 m c), (h c).2.2.1.trans (leaves_6 m c),
      (h c).2.2.2⟩) (Cert.KernelAdamOutIdeal.Value.run_blocks m g),
    (θ_run _ _ _).mono (fun r h c => ⟨(h c).1.trans ?_, (h c).2.1.trans ?_, (h c).2.2.1.trans ?_,
      (h c).2.2.2⟩) (Cert.ReferenceAdamOutIdeal.Value.run (F := Ideal) m' g')⟩
  all_goals
    obtain ⟨a0, a1, a2, a3⟩ := ha c
    clear h
    funext i
  · rw [a0, a1, a2, a3]
    unfold change
    pointwise
    rfl
  · rw [a1, a2]
    unfold first
    pointwise
    rfl
  · rw [a1, a3]
    unfold second
    pointwise
    rfl

end Cert.KernelAdamOutIdeal.Own

end
-- ==== Proof.Gates.AdamFfnIn.lean ====
/- One step of the optimiser on an array of weights, over the extended reals. -/
module

public import proofs.«01_k».proof.Defs
public import proofs.«01_k».proof.Proof.Gen.KernelAdamFfnIn
public import proofs.«01_k».proof.Proof.Gen.KernelAdamFfnIn.Skeleton
public import proofs.«01_k».proof.Proof.Gen.KernelAdamFfnIn.Launch
public import proofs.«01_k».proof.Proof.Gen.KernelAdamFfnIn.Frame
public import proofs.«01_k».proof.Proof.Gen.KernelAdamFfnInIdeal
public import proofs.«01_k».proof.Proof.Gen.KernelAdamFfnInIdeal.Skeleton
public import proofs.«01_k».proof.Proof.Gen.KernelAdamFfnInIdeal.Launch
public import proofs.«01_k».proof.Proof.Gen.KernelAdamFfnInIdeal.Frame
public import proofs.«01_k».proof.Proof.Gen.KernelAdamFfnInIdeal.Value
public import proofs.«01_k».proof.Proof.Gen.ReferenceAdamFfnInIdeal
public import proofs.«01_k».proof.Proof.Gen.ReferenceAdamFfnInIdeal.Run
public import Idealize.ShloMosaic.Lib.Pipeline.ValueKit
public import Idealize.ShloMosaic.Lib.Pointwise
public import Idealize.ShloMosaic.Lib.Quiescent
public import proofs.«01_k».proof.Proof.Products.Sums
public import proofs.«01_k».proof.Proof.Gates.Optimiser

@[expose] public section

set_option maxRecDepth 16384

noncomputable section

namespace Cert.KernelAdamFfnInIdeal.Own

open Idealize.ShloMosaic Idealize.ShloMosaic.TcCoe Idealize.SL.Sem Cert.Products
open Cert.KernelAdamFfnInIdeal Cert.KernelAdamFfnInIdeal.Gen

variable (m : (ℓ : Loc nD τ sig) → Buf (Elt Ideal) ℓ) (ρ : Dev nD → PrngReg)

theorem at_0 : ∀ t : Fin grid0.N, win0_0.index t = ![t.val, 0] := by decide +kernel
theorem at_1 : ∀ t : Fin grid0.N, win0_1.index t = ![t.val, 0] := by decide +kernel
theorem at_2 : ∀ t : Fin grid0.N, win0_2.index t = ![t.val, 0] := by decide +kernel
theorem at_3 : ∀ t : Fin grid0.N, win0_3.index t = ![t.val, 0] := by decide +kernel
theorem at_4 : ∀ t : Fin grid0.N, win0_4.index t = ![t.val, 0] := by decide +kernel
theorem at_5 : ∀ t : Fin grid0.N, win0_5.index t = ![t.val, 0] := by decide +kernel
theorem at_6 : ∀ t : Fin grid0.N, win0_6.index t = ![t.val, 0] := by decide +kernel

/-- The first moment, entry by entry: `g` is the gradient, `a` the moment before. -/
def first (g a : Mat 2048 1408) : Mat 2048 1408 := fun i => Cert.Optimiser.first (g i) (a i)

/-- The second moment, entry by entry: `g` is the gradient, `b` the moment before. -/
def second (g b : Mat 2048 1408) : Mat 2048 1408 := fun i => Cert.Optimiser.second (g i) (b i)

/-- The change of the weights, entry by entry. -/
def change (w g a b : Mat 2048 1408) : Mat 2048 1408 := fun i => Cert.Optimiser.change (w i) (g i) (a i) (b i)

/-- The call leaves the change of the weights in its first result. -/
theorem leaves_4 (c : Dev nD) : (dats m 0 c).arrAt 4 cfg0.N
    = change (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  unfold change
  pointwise [k0_pay1, k0_pay2, k0_pay3]
  refine Cert.Optimiser.change_congr ?_ ?_ ?_ ?_
  · blk_ext [iblk, V, at_0 t, at_4 t]
  · blk_ext [iblk, V, at_1 t, at_4 t]
  · blk_ext [iblk, V, at_2 t, at_4 t]
  · blk_ext [iblk, V, at_3 t, at_4 t]

/-- The call leaves the first moment in its second result. -/
theorem leaves_5 (c : Dev nD) : (dats m 0 c).arrAt 5 cfg0.N
    = first (m ((c : Thread nD τ).loc main_arg1)) (m ((c : Thread nD τ).loc main_arg2)) := by
  refine (dats m 0 c).arrAt_eq_of_covers 5 _ (by decide +kernel) fun t hf y => ?_
  blk_simp
  rw [after0_5]
  frame_out
  unfold first
  pointwise [k0_pay1]
  refine congrArg₂ Cert.Optimiser.first ?_ ?_
  · blk_ext [iblk, V, at_1 t, at_5 t]
  · blk_ext [iblk, V, at_2 t, at_5 t]

/-- The call leaves the second moment in its third result. -/
theorem leaves_6 (c : Dev nD) : (dats m 0 c).arrAt 6 cfg0.N
    = second (m ((c : Thread nD τ).loc main_arg1)) (m ((c : Thread nD τ).loc main_arg3)) := by
  refine (dats m 0 c).arrAt_eq_of_covers 6 _ (by decide +kernel) fun t hf y => ?_
  blk_simp
  rw [after0_6]
  frame_out
  unfold second
  pointwise [k0_pay2]
  refine congrArg₂ Cert.Optimiser.second ?_ ?_
  · blk_ext [iblk, V, at_1 t, at_6 t]
  · blk_ext [iblk, V, at_3 t, at_6 t]

/-- The reference leaves its arguments and has no semaphores to leave. -/
theorem frame_reference : Cert.quiescent_ReferenceAdamFfnInIdeal := fun m g _ =>
  (θ_run _ _ _).mono (fun r h => ⟨fun c => (h c).2.2.2, sem_eq_zero_of_no_sems (by decide) r.2⟩) (Cert.ReferenceAdamFfnInIdeal.Value.run (F := Ideal) m g)

/-- The call and the reference leave the same. -/
theorem same : Cert.algebraic_KernelAdamFfnInIdeal_ReferenceAdamFfnInIdeal := by
  intro m g m' g' _ ha
  refine ⟨fun c => change (m ((c : Thread nD τ).loc main_arg0)) (m ((c : Thread nD τ).loc main_arg1)) (m ((c : Thread nD τ).loc main_arg2)) (m ((c : Thread nD τ).loc main_arg3)),
    fun c => first (m ((c : Thread nD τ).loc main_arg1)) (m ((c : Thread nD τ).loc main_arg2)),
    fun c => second (m ((c : Thread nD τ).loc main_arg1)) (m ((c : Thread nD τ).loc main_arg3)),
    (θ_run _ _ _).mono (fun r h c => ⟨(h c).1.trans (leaves_4 m c), (h c).2.1.trans (leaves_5 m c), (h c).2.2.1.trans (leaves_6 m c),
      (h c).2.2.2⟩) (Cert.KernelAdamFfnInIdeal.Value.run_blocks m g),
    (θ_run _ _ _).mono (fun r h c => ⟨(h c).1.trans ?_, (h c).2.1.trans ?_, (h c).2.2.1.trans ?_,
      (h c).2.2.2⟩) (Cert.ReferenceAdamFfnInIdeal.Value.run (F := Ideal) m' g')⟩
  all_goals
    obtain ⟨a0, a1, a2, a3⟩ := ha c
    clear h
    funext i
  · rw [a0, a1, a2, a3]
    unfold change
    pointwise
    rfl
  · rw [a1, a2]
    unfold first
    pointwise
    rfl
  · rw [a1, a3]
    unfold second
    pointwise
    rfl

end Cert.KernelAdamFfnInIdeal.Own

end
-- ==== Proof.Gates.AdamFfnOut.lean ====
/- One step of the optimiser on an array of weights, over the extended reals. -/
module

public import proofs.«01_k».proof.Defs
public import proofs.«01_k».proof.Proof.Gen.KernelAdamFfnOut
public import proofs.«01_k».proof.Proof.Gen.KernelAdamFfnOut.Skeleton
public import proofs.«01_k».proof.Proof.Gen.KernelAdamFfnOut.Launch
public import proofs.«01_k».proof.Proof.Gen.KernelAdamFfnOut.Frame
public import proofs.«01_k».proof.Proof.Gen.KernelAdamFfnOutIdeal
public import proofs.«01_k».proof.Proof.Gen.KernelAdamFfnOutIdeal.Skeleton
public import proofs.«01_k».proof.Proof.Gen.KernelAdamFfnOutIdeal.Launch
public import proofs.«01_k».proof.Proof.Gen.KernelAdamFfnOutIdeal.Frame
public import proofs.«01_k».proof.Proof.Gen.KernelAdamFfnOutIdeal.Value
public import proofs.«01_k».proof.Proof.Gen.ReferenceAdamFfnOutIdeal
public import proofs.«01_k».proof.Proof.Gen.ReferenceAdamFfnOutIdeal.Run
public import Idealize.ShloMosaic.Lib.Pipeline.ValueKit
public import Idealize.ShloMosaic.Lib.Pointwise
public import Idealize.ShloMosaic.Lib.Quiescent
public import proofs.«01_k».proof.Proof.Products.Sums
public import proofs.«01_k».proof.Proof.Gates.Optimiser

@[expose] public section

set_option maxRecDepth 16384

noncomputable section

namespace Cert.KernelAdamFfnOutIdeal.Own

open Idealize.ShloMosaic Idealize.ShloMosaic.TcCoe Idealize.SL.Sem Cert.Products
open Cert.KernelAdamFfnOutIdeal Cert.KernelAdamFfnOutIdeal.Gen

variable (m : (ℓ : Loc nD τ sig) → Buf (Elt Ideal) ℓ) (ρ : Dev nD → PrngReg)

theorem at_0 : ∀ t : Fin grid0.N, win0_0.index t = ![t.val, 0] := by decide +kernel
theorem at_1 : ∀ t : Fin grid0.N, win0_1.index t = ![t.val, 0] := by decide +kernel
theorem at_2 : ∀ t : Fin grid0.N, win0_2.index t = ![t.val, 0] := by decide +kernel
theorem at_3 : ∀ t : Fin grid0.N, win0_3.index t = ![t.val, 0] := by decide +kernel
theorem at_4 : ∀ t : Fin grid0.N, win0_4.index t = ![t.val, 0] := by decide +kernel
theorem at_5 : ∀ t : Fin grid0.N, win0_5.index t = ![t.val, 0] := by decide +kernel
theorem at_6 : ∀ t : Fin grid0.N, win0_6.index t = ![t.val, 0] := by decide +kernel

/-- The first moment, entry by entry: `g` is the gradient, `a` the moment before. -/
def first (g a : Mat 1408 1024) : Mat 1408 1024 := fun i => Cert.Optimiser.first (g i) (a i)

/-- The second moment, entry by entry: `g` is the gradient, `b` the moment before. -/
def second (g b : Mat 1408 1024) : Mat 1408 1024 := fun i => Cert.Optimiser.second (g i) (b i)

/-- The change of the weights, entry by entry. -/
def change (w g a b : Mat 1408 1024) : Mat 1408 1024 := fun i => Cert.Optimiser.change (w i) (g i) (a i) (b i)

/-- The call leaves the change of the weights in its first result. -/
theorem leaves_4 (c : Dev nD) : (dats m 0 c).arrAt 4 cfg0.N
    = change (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  unfold change
  pointwise [k0_pay1, k0_pay2, k0_pay3]
  refine Cert.Optimiser.change_congr ?_ ?_ ?_ ?_
  · blk_ext [iblk, V, at_0 t, at_4 t]
  · blk_ext [iblk, V, at_1 t, at_4 t]
  · blk_ext [iblk, V, at_2 t, at_4 t]
  · blk_ext [iblk, V, at_3 t, at_4 t]

/-- The call leaves the first moment in its second result. -/
theorem leaves_5 (c : Dev nD) : (dats m 0 c).arrAt 5 cfg0.N
    = first (m ((c : Thread nD τ).loc main_arg1)) (m ((c : Thread nD τ).loc main_arg2)) := by
  refine (dats m 0 c).arrAt_eq_of_covers 5 _ (by decide +kernel) fun t hf y => ?_
  blk_simp
  rw [after0_5]
  frame_out
  unfold first
  pointwise [k0_pay1]
  refine congrArg₂ Cert.Optimiser.first ?_ ?_
  · blk_ext [iblk, V, at_1 t, at_5 t]
  · blk_ext [iblk, V, at_2 t, at_5 t]

/-- The call leaves the second moment in its third result. -/
theorem leaves_6 (c : Dev nD) : (dats m 0 c).arrAt 6 cfg0.N
    = second (m ((c : Thread nD τ).loc main_arg1)) (m ((c : Thread nD τ).loc main_arg3)) := by
  refine (dats m 0 c).arrAt_eq_of_covers 6 _ (by decide +kernel) fun t hf y => ?_
  blk_simp
  rw [after0_6]
  frame_out
  unfold second
  pointwise [k0_pay2]
  refine congrArg₂ Cert.Optimiser.second ?_ ?_
  · blk_ext [iblk, V, at_1 t, at_6 t]
  · blk_ext [iblk, V, at_3 t, at_6 t]

/-- The reference leaves its arguments and has no semaphores to leave. -/
theorem frame_reference : Cert.quiescent_ReferenceAdamFfnOutIdeal := fun m g _ =>
  (θ_run _ _ _).mono (fun r h => ⟨fun c => (h c).2.2.2, sem_eq_zero_of_no_sems (by decide) r.2⟩) (Cert.ReferenceAdamFfnOutIdeal.Value.run (F := Ideal) m g)

/-- The call and the reference leave the same. -/
theorem same : Cert.algebraic_KernelAdamFfnOutIdeal_ReferenceAdamFfnOutIdeal := by
  intro m g m' g' _ ha
  refine ⟨fun c => change (m ((c : Thread nD τ).loc main_arg0)) (m ((c : Thread nD τ).loc main_arg1)) (m ((c : Thread nD τ).loc main_arg2)) (m ((c : Thread nD τ).loc main_arg3)),
    fun c => first (m ((c : Thread nD τ).loc main_arg1)) (m ((c : Thread nD τ).loc main_arg2)),
    fun c => second (m ((c : Thread nD τ).loc main_arg1)) (m ((c : Thread nD τ).loc main_arg3)),
    (θ_run _ _ _).mono (fun r h c => ⟨(h c).1.trans (leaves_4 m c), (h c).2.1.trans (leaves_5 m c), (h c).2.2.1.trans (leaves_6 m c),
      (h c).2.2.2⟩) (Cert.KernelAdamFfnOutIdeal.Value.run_blocks m g),
    (θ_run _ _ _).mono (fun r h c => ⟨(h c).1.trans ?_, (h c).2.1.trans ?_, (h c).2.2.1.trans ?_,
      (h c).2.2.2⟩) (Cert.ReferenceAdamFfnOutIdeal.Value.run (F := Ideal) m' g')⟩
  all_goals
    obtain ⟨a0, a1, a2, a3⟩ := ha c
    clear h
    funext i
  · rw [a0, a1, a2, a3]
    unfold change
    pointwise
    rfl
  · rw [a1, a2]
    unfold first
    pointwise
    rfl
  · rw [a1, a3]
    unfold second
    pointwise
    rfl

end Cert.KernelAdamFfnOutIdeal.Own

end
-- ==== Proof.Gates.AdamSmall.lean ====
/- One step of the optimiser on an array of weights, over the extended reals. -/
module

public import proofs.«01_k».proof.Defs
public import proofs.«01_k».proof.Proof.Gen.KernelAdamSmall
public import proofs.«01_k».proof.Proof.Gen.KernelAdamSmall.Skeleton
public import proofs.«01_k».proof.Proof.Gen.KernelAdamSmall.Launch
public import proofs.«01_k».proof.Proof.Gen.KernelAdamSmall.Frame
public import proofs.«01_k».proof.Proof.Gen.KernelAdamSmallIdeal
public import proofs.«01_k».proof.Proof.Gen.KernelAdamSmallIdeal.Skeleton
public import proofs.«01_k».proof.Proof.Gen.KernelAdamSmallIdeal.Launch
public import proofs.«01_k».proof.Proof.Gen.KernelAdamSmallIdeal.Frame
public import proofs.«01_k».proof.Proof.Gen.KernelAdamSmallIdeal.Value
public import proofs.«01_k».proof.Proof.Gen.ReferenceAdamSmallIdeal
public import proofs.«01_k».proof.Proof.Gen.ReferenceAdamSmallIdeal.Run
public import Idealize.ShloMosaic.Lib.Pipeline.ValueKit
public import Idealize.ShloMosaic.Lib.Pointwise
public import Idealize.ShloMosaic.Lib.Quiescent
public import proofs.«01_k».proof.Proof.Products.Sums
public import proofs.«01_k».proof.Proof.Gates.Optimiser

@[expose] public section

set_option maxRecDepth 16384

noncomputable section

namespace Cert.KernelAdamSmallIdeal.Own

open Idealize.ShloMosaic Idealize.ShloMosaic.TcCoe Idealize.SL.Sem Cert.Products
open Cert.KernelAdamSmallIdeal Cert.KernelAdamSmallIdeal.Gen

variable (m : (ℓ : Loc nD τ sig) → Buf (Elt Ideal) ℓ) (ρ : Dev nD → PrngReg)

theorem at_0 : ∀ t : Fin grid0.N, win0_0.index t = ![t.val, 0] := by decide +kernel
theorem at_1 : ∀ t : Fin grid0.N, win0_1.index t = ![t.val, 0] := by decide +kernel
theorem at_2 : ∀ t : Fin grid0.N, win0_2.index t = ![t.val, 0] := by decide +kernel
theorem at_3 : ∀ t : Fin grid0.N, win0_3.index t = ![t.val, 0] := by decide +kernel
theorem at_4 : ∀ t : Fin grid0.N, win0_4.index t = ![t.val, 0] := by decide +kernel
theorem at_5 : ∀ t : Fin grid0.N, win0_5.index t = ![t.val, 0] := by decide +kernel
theorem at_6 : ∀ t : Fin grid0.N, win0_6.index t = ![t.val, 0] := by decide +kernel

/-- The first moment, entry by entry: `g` is the gradient, `a` the moment before. -/
def first (g a : Mat 288 128) : Mat 288 128 := fun i => Cert.Optimiser.first (g i) (a i)

/-- The second moment, entry by entry: `g` is the gradient, `b` the moment before. -/
def second (g b : Mat 288 128) : Mat 288 128 := fun i => Cert.Optimiser.second (g i) (b i)

/-- The change of the weights, entry by entry. -/
def change (w g a b : Mat 288 128) : Mat 288 128 := fun i => Cert.Optimiser.change (w i) (g i) (a i) (b i)

/-- The call leaves the change of the weights in its first result. -/
theorem leaves_4 (c : Dev nD) : (dats m 0 c).arrAt 4 cfg0.N
    = change (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  unfold change
  pointwise [k0_pay1, k0_pay2, k0_pay3]
  refine Cert.Optimiser.change_congr ?_ ?_ ?_ ?_
  · blk_ext [iblk, V, at_0 t, at_4 t]
  · blk_ext [iblk, V, at_1 t, at_4 t]
  · blk_ext [iblk, V, at_2 t, at_4 t]
  · blk_ext [iblk, V, at_3 t, at_4 t]

/-- The call leaves the first moment in its second result. -/
theorem leaves_5 (c : Dev nD) : (dats m 0 c).arrAt 5 cfg0.N
    = first (m ((c : Thread nD τ).loc main_arg1)) (m ((c : Thread nD τ).loc main_arg2)) := by
  refine (dats m 0 c).arrAt_eq_of_covers 5 _ (by decide +kernel) fun t hf y => ?_
  blk_simp
  rw [after0_5]
  frame_out
  unfold first
  pointwise [k0_pay1]
  refine congrArg₂ Cert.Optimiser.first ?_ ?_
  · blk_ext [iblk, V, at_1 t, at_5 t]
  · blk_ext [iblk, V, at_2 t, at_5 t]

/-- The call leaves the second moment in its third result. -/
theorem leaves_6 (c : Dev nD) : (dats m 0 c).arrAt 6 cfg0.N
    = second (m ((c : Thread nD τ).loc main_arg1)) (m ((c : Thread nD τ).loc main_arg3)) := by
  refine (dats m 0 c).arrAt_eq_of_covers 6 _ (by decide +kernel) fun t hf y => ?_
  blk_simp
  rw [after0_6]
  frame_out
  unfold second
  pointwise [k0_pay2]
  refine congrArg₂ Cert.Optimiser.second ?_ ?_
  · blk_ext [iblk, V, at_1 t, at_6 t]
  · blk_ext [iblk, V, at_3 t, at_6 t]

/-- The reference leaves its arguments and has no semaphores to leave. -/
theorem frame_reference : Cert.quiescent_ReferenceAdamSmallIdeal := fun m g _ =>
  (θ_run _ _ _).mono (fun r h => ⟨fun c => (h c).2.2.2, sem_eq_zero_of_no_sems (by decide) r.2⟩) (Cert.ReferenceAdamSmallIdeal.Value.run (F := Ideal) m g)

/-- The call and the reference leave the same. -/
theorem same : Cert.algebraic_KernelAdamSmallIdeal_ReferenceAdamSmallIdeal := by
  intro m g m' g' _ ha
  refine ⟨fun c => change (m ((c : Thread nD τ).loc main_arg0)) (m ((c : Thread nD τ).loc main_arg1)) (m ((c : Thread nD τ).loc main_arg2)) (m ((c : Thread nD τ).loc main_arg3)),
    fun c => first (m ((c : Thread nD τ).loc main_arg1)) (m ((c : Thread nD τ).loc main_arg2)),
    fun c => second (m ((c : Thread nD τ).loc main_arg1)) (m ((c : Thread nD τ).loc main_arg3)),
    (θ_run _ _ _).mono (fun r h c => ⟨(h c).1.trans (leaves_4 m c), (h c).2.1.trans (leaves_5 m c), (h c).2.2.1.trans (leaves_6 m c),
      (h c).2.2.2⟩) (Cert.KernelAdamSmallIdeal.Value.run_blocks m g),
    (θ_run _ _ _).mono (fun r h c => ⟨(h c).1.trans ?_, (h c).2.1.trans ?_, (h c).2.2.1.trans ?_,
      (h c).2.2.2⟩) (Cert.ReferenceAdamSmallIdeal.Value.run (F := Ideal) m' g')⟩
  all_goals
    obtain ⟨a0, a1, a2, a3⟩ := ha c
    clear h
    funext i
  · rw [a0, a1, a2, a3]
    unfold change
    pointwise
    rfl
  · rw [a1, a2]
    unfold first
    pointwise
    rfl
  · rw [a1, a3]
    unfold second
    pointwise
    rfl

end Cert.KernelAdamSmallIdeal.Own

end
-- ==== Proof.Gates.Rows.lean ====
/- The parts of the modulated norms that their modules share. -/
module

public import proofs.«01_k».proof.Defs
public import proofs.«01_k».proof.Proof.Products.Sums

@[expose] public section

noncomputable section

namespace Cert.Rows

open Idealize.ShloMosaic Cert.Products

/-- The literal 1024. -/
theorem lit_1024 : Ideal.ofBits .f32 0x44800000#32 = ((1024 : ℝ) : EReal) := by
  simp [Ideal.ofBits, Ideal.ieee]
  norm_cast
  norm_num

/-- The literal 1/1024, which is not rounded. -/
theorem lit_inv1024 : Ideal.ofBits .f32 0x3A800000#32 = ((1 / 1024 : ℝ) : EReal) := by
  simp [Ideal.ofBits, Ideal.ieee]
  norm_cast
  norm_num

/-- A mean over 1024 columns: by division, and by multiplication with the inverse. -/
theorem mean_1024 (x : EReal) : Ideal.div x (Ideal.ofBits .f32 0x44800000#32) = x * Ideal.ofBits .f32 0x3A800000#32 := by
  rw [lit_1024, lit_inv1024, Ideal.div_coe (by norm_num)]

/-- The modulation's vectors: one for the latent tokens and one for the context tokens. -/
abbrev Vectors := (⟨3, ![2, 1, 6144]⟩ : Shape).Idx → EReal

/-- Which of the two a row takes: the first 8192 rows are the latent tokens. -/
def kind (r : Fin 8448) : Fin 2 := ⟨r.val / 8192, Nat.div_lt_of_lt_mul (Nat.lt_of_lt_of_le r.isLt (by decide))⟩

/-- A column of a vector's part, which starts at column `p`. -/
def col (p : ℕ) (h : p ≤ 5120) (j : Fin 1024) : Fin 6144 := ⟨p + j.val, Nat.add_lt_add_of_le_of_lt h j.isLt⟩

/-- An entry with its residual: the gate times what is added. -/
def plus (x z o : EReal) : EReal := x + z * o

/-- The residual of equal entries is equal. -/
theorem plus_congr {x x' z z' o o' : EReal} (hx : x = x') (hz : z = z') (ho : o = o') : plus x z o = plus x' z' o' := by
  rw [hx, hz, ho]

end Cert.Rows

end
-- ==== Proof.Gates.SsdOutF.lean ====
/- The norm of the state-space mixer's gated output, over the extended reals. -/
module

public import proofs.«01_k».proof.Defs
public import proofs.«01_k».proof.Proof.Gen.KernelSsdOutF
public import proofs.«01_k».proof.Proof.Gen.KernelSsdOutF.Skeleton
public import proofs.«01_k».proof.Proof.Gen.KernelSsdOutF.Launch
public import proofs.«01_k».proof.Proof.Gen.KernelSsdOutF.Frame
public import proofs.«01_k».proof.Proof.Gen.KernelSsdOutFIdeal
public import proofs.«01_k».proof.Proof.Gen.KernelSsdOutFIdeal.Skeleton
public import proofs.«01_k».proof.Proof.Gen.KernelSsdOutFIdeal.Launch
public import proofs.«01_k».proof.Proof.Gen.KernelSsdOutFIdeal.Frame
public import proofs.«01_k».proof.Proof.Gen.KernelSsdOutFIdeal.Value
public import proofs.«01_k».proof.Proof.Gen.ReferenceSsdOutFIdeal
public import proofs.«01_k».proof.Proof.Gen.ReferenceSsdOutFIdeal.Run
public import Idealize.ShloMosaic.Lib.Pipeline.ValueKit
public import Idealize.ShloMosaic.Lib.Pointwise
public import Idealize.ShloMosaic.Lib.Quiescent
public import proofs.«01_k».proof.Proof.Products.Sums
public import proofs.«01_k».proof.Proof.Gates.Rows

@[expose] public section

set_option maxRecDepth 16384

noncomputable section

namespace Cert.KernelSsdOutFIdeal.Own

open Idealize.ShloMosaic Idealize.ShloMosaic.TcCoe Idealize.SL.Sem Cert.Products Cert.Rows
open Cert.KernelSsdOutFIdeal Cert.KernelSsdOutFIdeal.Gen

variable (m : (ℓ : Loc nD τ sig) → Buf (Elt Ideal) ℓ) (ρ : Dev nD → PrngReg)

theorem at_0 : ∀ t : Fin grid0.N, win0_0.index t = ![t.val, 0] := by decide +kernel
theorem at_1 : ∀ t : Fin grid0.N, win0_1.index t = ![t.val, 0] := by decide +kernel
theorem at_2 : ∀ t : Fin grid0.N, win0_2.index t = ![t.val, 0] := by decide +kernel
theorem at_3 : ∀ t : Fin grid0.N, win0_3.index t = ![t.val, 3] := by decide +kernel
theorem at_4 : ∀ t : Fin grid0.N, win0_4.index t = ![0, 0] := by decide +kernel
theorem at_5 : ∀ t : Fin grid0.N, win0_5.index t = ![0, 0] := by decide +kernel
theorem at_6 : ∀ t : Fin grid0.N, win0_6.index t = ![t.val, 0] := by decide +kernel

/-- The columns of the mixer's input, of the convolution's result, and of its gate, of the input projection's. -/
def colX (j : Fin 1024) : Fin 1536 := ⟨j.val, Nat.lt_of_lt_of_le j.isLt (by decide)⟩
def colZ (j : Fin 1024) : Fin 8064 := ⟨3072 + j.val, Nat.lt_of_lt_of_le (Nat.add_lt_add_left j.isLt 3072) (by decide)⟩

/-- An entry through its gate: both directions of the recurrence and the skipped input, times z · σ(z). -/
def through (f b d x z : EReal) : EReal := (f + b + d * x) * (z * Ideal.logistic z)

theorem through_congr {f f' b b' d d' x x' z z' : EReal} (hf : f = f') (hb : b = b') (hd : d = d') (hx : x = x') (hz : z = z') :
    through f b d x z = through f' b' d' x' z' := by
  rw [hf, hb, hd, hx, hz]

/-- The gated output. -/
def gated (yf yb : Mat 8448 1024) (xbc : Mat 8448 1536) (u : Mat 8448 8064) (d : Mat 1 1024) : Mat 8448 1024 := fun i =>
  through (yf i) (yb i) (d (ix2 0 (i 1))) (xbc (ix2 (i 0) (colX (i 1)))) (u (ix2 (i 0) (colZ (i 1))))

/-- A row over the root of its mean square, times the gain. -/
def normed (y : Mat 8448 1024) (g : Mat 1 1024) : Mat 8448 1024 := fun i =>
  y i * Ideal.rsqrt (Ideal.div (∑ x, y (ix2 (i 0) x) * y (ix2 (i 0) x)) (Ideal.ofBits .f32 0x44800000#32) + Ideal.ofBits .f32 0x358637BD#32)
    * g (ix2 0 (i 1))

set_option maxHeartbeats 2000000 in
/-- The call leaves the norm of the gated output in its result. -/
theorem leaves (c : Dev nD) : (dats m 0 c).arrAt 6 cfg0.N
    = normed (gated (m ((c : Thread nD τ).loc main_arg0)) (m ((c : Thread nD τ).loc main_arg1)) (m ((c : Thread nD τ).loc main_arg2))
        (m ((c : Thread nD τ).loc main_arg3)) (m ((c : Thread nD τ).loc main_arg5))) (m ((c : Thread nD τ).loc main_arg4)) := by
  refine (dats m 0 c).arrAt_eq_of_covers 6 _ (by decide +kernel) fun t hf y => ?_
  blk_simp
  rw [after0_6]
  unfold outsAt0
  frame_out
  unfold normed gated
  pointwise [k0_pay1]
  rw [mean_1024]
  refine congrArg₂ (fun x y : EReal => x * y) (congrArg₂ (fun x y : EReal =>
    x * Ideal.rsqrt (y * Ideal.ofBits .f32 0x3A800000#32 + Ideal.ofBits .f32 0x358637BD#32)) ?_ (Finset.sum_congr rfl fun x _ =>
      congrArg₂ (fun x y : EReal => x * y) ?_ ?_)) ?_
  rotate_left 3
  · blk_ext [iblk, V, at_4 t, at_6 t]
  all_goals
    refine through_congr ?_ ?_ ?_ ?_ ?_
    · blk_ext [iblk, V, at_0 t, at_6 t]
    · blk_ext [iblk, V, at_1 t, at_6 t]
    · blk_ext [iblk, V, at_5 t, at_6 t]
    · unfold colX X0_2 Pipeline.Window.fill
      rw [dif_pos (moved0_2 t _)]
      blk_ext [iblk, V, at_2 t, at_6 t]
    · unfold colZ X0_3 Pipeline.Window.fill
      rw [dif_pos (moved0_3 t _)]
      blk_ext [iblk, V, at_3 t, at_6 t]

/-- The reference leaves its arguments and has no semaphores to leave. -/
theorem frame_reference : Cert.quiescent_ReferenceSsdOutFIdeal := fun m g _ =>
  (θ_run _ _ _).mono (fun r h => ⟨fun c => (h c).2, sem_eq_zero_of_no_sems (by decide) r.2⟩) (Cert.ReferenceSsdOutFIdeal.Value.run (F := Ideal) m g)

/-- The call and the reference leave the same. -/
theorem same : Cert.algebraic_KernelSsdOutFIdeal_ReferenceSsdOutFIdeal := by
  intro m g m' g' _ ha
  refine ⟨fun c => normed (gated (m ((c : Thread nD τ).loc main_arg0)) (m ((c : Thread nD τ).loc main_arg1)) (m ((c : Thread nD τ).loc main_arg2))
        (m ((c : Thread nD τ).loc main_arg3)) (m ((c : Thread nD τ).loc main_arg5))) (m ((c : Thread nD τ).loc main_arg4)),
    (θ_run _ _ _).mono (fun r h c => ⟨(h c).1.trans (leaves m c), (h c).2⟩) (Cert.KernelSsdOutFIdeal.Value.run_blocks m g),
    (θ_run _ _ _).mono (fun r h c => ⟨(h c).1.trans ?_, (h c).2⟩) (Cert.ReferenceSsdOutFIdeal.Value.run (F := Ideal) m' g')⟩
  obtain ⟨a0, a1, a2, a3, a4, a5⟩ := ha c
  rw [a0, a1, a2, a3, a4, a5]
  clear h
  funext i
  unfold normed gated through colX colZ
  pointwise
  rfl

end Cert.KernelSsdOutFIdeal.Own

end
-- ==== Proof.Gates.NormF.lean ====
/- The modulated norm of the tokens, over the extended reals. -/
module

public import proofs.«01_k».proof.Defs
public import proofs.«01_k».proof.Proof.Gen.KernelNormF
public import proofs.«01_k».proof.Proof.Gen.KernelNormF.Skeleton
public import proofs.«01_k».proof.Proof.Gen.KernelNormF.Launch
public import proofs.«01_k».proof.Proof.Gen.KernelNormF.Frame
public import proofs.«01_k».proof.Proof.Gen.KernelNormFIdeal
public import proofs.«01_k».proof.Proof.Gen.KernelNormFIdeal.Skeleton
public import proofs.«01_k».proof.Proof.Gen.KernelNormFIdeal.Launch
public import proofs.«01_k».proof.Proof.Gen.KernelNormFIdeal.Frame
public import proofs.«01_k».proof.Proof.Gen.KernelNormFIdeal.Value
public import proofs.«01_k».proof.Proof.Gen.ReferenceNormFIdeal
public import proofs.«01_k».proof.Proof.Gen.ReferenceNormFIdeal.Run
public import Idealize.ShloMosaic.Lib.Pipeline.ValueKit
public import Idealize.ShloMosaic.Lib.Pointwise
public import Idealize.ShloMosaic.Lib.Quiescent
public import proofs.«01_k».proof.Proof.Products.Sums
public import proofs.«01_k».proof.Proof.Gates.Rows

@[expose] public section

set_option maxRecDepth 16384

noncomputable section

namespace Cert.KernelNormFIdeal.Own

open Idealize.ShloMosaic Idealize.ShloMosaic.TcCoe Idealize.SL.Sem Cert.Products Cert.Rows
open Cert.KernelNormFIdeal Cert.KernelNormFIdeal.Gen

variable (m : (ℓ : Loc nD τ sig) → Buf (Elt Ideal) ℓ) (ρ : Dev nD → PrngReg)

theorem at_0 : ∀ t : Fin grid0.N, win0_0.index t = ![t.val, 0] := by decide +kernel
theorem at_1 : ∀ t : Fin grid0.N, win0_1.index t = ![t.val / 32, 0, 0] := by decide +kernel
theorem at_2 : ∀ t : Fin grid0.N, win0_2.index t = ![t.val / 32, 0, 1] := by decide +kernel
theorem at_3 : ∀ t : Fin grid0.N, win0_3.index t = ![0, 0] := by decide +kernel
theorem at_4 : ∀ t : Fin grid0.N, win0_4.index t = ![t.val, 0] := by decide +kernel

/-- A row over the root of its mean square, times the gain, scaled and shifted. -/
def modulated (y : Mat 8448 1024) (g : Mat 1 1024) (v : Vectors) : Mat 8448 1024 := fun i =>
  y i * Ideal.rsqrt (Ideal.div (∑ x, y (ix2 (i 0) x) * y (ix2 (i 0) x)) (Ideal.ofBits .f32 0x44800000#32) + Ideal.ofBits .f32 0x358637BD#32)
    * g (ix2 0 (i 1)) * (1 + v (ix3 (kind (i 0)) 0 (col 1024 (by decide) (i 1))))
    + v (ix3 (kind (i 0)) 0 (col 0 (by decide) (i 1)))

set_option maxHeartbeats 4000000 in
/-- The call leaves the modulated norm in its result. -/
theorem leaves_4 (c : Dev nD) : (dats m 0 c).arrAt 4 cfg0.N
    = modulated (m ((c : Thread nD τ).loc main_arg0)) (m ((c : Thread nD τ).loc main_arg2)) (m ((c : Thread nD τ).loc main_arg1)) := by
  refine (dats m 0 c).arrAt_eq_of_covers 4 _ (by decide +kernel) fun t hf y => ?_
  blk_simp
  rw [after0_4]
  frame_out
  unfold modulated
  pointwise [k0_pay1]
  rw [mean_1024]
  refine congrArg₂ (fun x y : EReal => x + y) (congrArg₂ (fun x y : EReal => x * ((1 : EReal) + y)) (congrArg₂ (fun x y : EReal => x * y)
    (congrArg₂ (fun x y : EReal =>
    x * Ideal.rsqrt (y * Ideal.ofBits .f32 0x3A800000#32 + Ideal.ofBits .f32 0x358637BD#32)) ?_ (Finset.sum_congr rfl fun x _ =>
      congrArg₂ (fun x y : EReal => x * y) ?_ ?_)) ?_) ?_) ?_
  rotate_left 3
  · blk_ext [iblk, V, at_3 t, at_4 t]
  · unfold kind col
    blk_ext [iblk, V, at_2 t, at_4 t]
  · unfold kind col
    blk_ext [iblk, V, at_1 t, at_4 t]
  all_goals
    blk_ext [iblk, V, at_0 t, at_4 t]

/-- The reference leaves its arguments and has no semaphores to leave. -/
theorem frame_reference : Cert.quiescent_ReferenceNormFIdeal := fun m g _ =>
  (θ_run _ _ _).mono (fun r h => ⟨fun c => (h c).2, sem_eq_zero_of_no_sems (by decide) r.2⟩) (Cert.ReferenceNormFIdeal.Value.run (F := Ideal) m g)

set_option maxHeartbeats 2000000 in
/-- The call and the reference leave the same. -/
theorem same : Cert.algebraic_KernelNormFIdeal_ReferenceNormFIdeal := by
  intro m g m' g' _ ha
  refine ⟨fun c => modulated (m ((c : Thread nD τ).loc main_arg0)) (m ((c : Thread nD τ).loc main_arg2)) (m ((c : Thread nD τ).loc main_arg1)),
    (θ_run _ _ _).mono (fun r h c => ⟨(h c).1.trans (leaves_4 m c), (h c).2⟩) (Cert.KernelNormFIdeal.Value.run_blocks m g),
    (θ_run _ _ _).mono (fun r h c => ⟨(h c).1.trans ?_, (h c).2⟩) (Cert.ReferenceNormFIdeal.Value.run (F := Ideal) m' g')⟩
  all_goals
    clear h
    obtain ⟨a0, a1, a2⟩ := ha c
  · rw [a0, a1, a2]
    funext i
    unfold modulated col
    obtain ⟨r, l, rfl⟩ : ∃ (r : Fin 8448) (l : Fin 1024), i = ix2 r l := ⟨i 0, i 1, eq_ix2 i⟩
    by_cases e : r.val < 8192
    · have k : kind r = 0 := Fin.ext (Nat.div_eq_of_lt e)
      pointwise [e]
      simp only [k]
      all_goals rfl
    · have k : kind r = 1 := Fin.ext (by show r.val / 8192 = 1; have := r.isLt; omega)
      have z : 8192 + (r.val - 8192) = r.val := Nat.add_sub_cancel' (Nat.le_of_not_lt e)
      pointwise [e]
      simp only [k, z]
      all_goals rfl

end Cert.KernelNormFIdeal.Own

end
-- ==== Proof.Gates.Res1F.lean ====
/- The gated residual after the mixers and the modulated norm of it, over the extended reals. -/
module

public import proofs.«01_k».proof.Defs
public import proofs.«01_k».proof.Proof.Gen.KernelRes1F
public import proofs.«01_k».proof.Proof.Gen.KernelRes1F.Skeleton
public import proofs.«01_k».proof.Proof.Gen.KernelRes1F.Launch
public import proofs.«01_k».proof.Proof.Gen.KernelRes1F.Frame
public import proofs.«01_k».proof.Proof.Gen.KernelRes1FIdeal
public import proofs.«01_k».proof.Proof.Gen.KernelRes1FIdeal.Skeleton
public import proofs.«01_k».proof.Proof.Gen.KernelRes1FIdeal.Launch
public import proofs.«01_k».proof.Proof.Gen.KernelRes1FIdeal.Frame
public import proofs.«01_k».proof.Proof.Gen.KernelRes1FIdeal.Value
public import proofs.«01_k».proof.Proof.Gen.ReferenceRes1FIdeal
public import proofs.«01_k».proof.Proof.Gen.ReferenceRes1FIdeal.Run
public import Idealize.ShloMosaic.Lib.Pipeline.ValueKit
public import Idealize.ShloMosaic.Lib.Pointwise
public import Idealize.ShloMosaic.Lib.Quiescent
public import proofs.«01_k».proof.Proof.Products.Sums
public import proofs.«01_k».proof.Proof.Gates.Rows

@[expose] public section

set_option maxRecDepth 16384

noncomputable section

namespace Cert.KernelRes1FIdeal.Own

open Idealize.ShloMosaic Idealize.ShloMosaic.TcCoe Idealize.SL.Sem Cert.Products Cert.Rows
open Cert.KernelRes1FIdeal Cert.KernelRes1FIdeal.Gen

variable (m : (ℓ : Loc nD τ sig) → Buf (Elt Ideal) ℓ) (ρ : Dev nD → PrngReg)

theorem at_0 : ∀ t : Fin grid0.N, win0_0.index t = ![t.val, 0] := by decide +kernel
theorem at_1 : ∀ t : Fin grid0.N, win0_1.index t = ![t.val, 0] := by decide +kernel
theorem at_2 : ∀ t : Fin grid0.N, win0_2.index t = ![t.val / 32, 0, 2] := by decide +kernel
theorem at_3 : ∀ t : Fin grid0.N, win0_3.index t = ![t.val / 32, 0, 3] := by decide +kernel
theorem at_4 : ∀ t : Fin grid0.N, win0_4.index t = ![t.val / 32, 0, 4] := by decide +kernel
theorem at_5 : ∀ t : Fin grid0.N, win0_5.index t = ![0, 0] := by decide +kernel
theorem at_6 : ∀ t : Fin grid0.N, win0_6.index t = ![t.val, 0] := by decide +kernel
theorem at_7 : ∀ t : Fin grid0.N, win0_7.index t = ![t.val, 0] := by decide +kernel

/-- The residual. -/
def added (x o : Mat 8448 1024) (v : Vectors) : Mat 8448 1024 := fun i =>
  plus (x i) (v (ix3 (kind (i 0)) 0 (col 2048 (by decide) (i 1)))) (o i)

/-- A row over the root of its mean square, times the gain, scaled and shifted. -/
def modulated (y : Mat 8448 1024) (g : Mat 1 1024) (v : Vectors) : Mat 8448 1024 := fun i =>
  y i * Ideal.rsqrt (Ideal.div (∑ x, y (ix2 (i 0) x) * y (ix2 (i 0) x)) (Ideal.ofBits .f32 0x44800000#32) + Ideal.ofBits .f32 0x358637BD#32)
    * g (ix2 0 (i 1)) * (1 + v (ix3 (kind (i 0)) 0 (col 4096 (by decide) (i 1))))
    + v (ix3 (kind (i 0)) 0 (col 3072 (by decide) (i 1)))

set_option maxHeartbeats 2000000 in
/-- The call leaves the residual in its first result. -/
theorem leaves_6 (c : Dev nD) : (dats m 0 c).arrAt 6 cfg0.N
    = added (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  frame_out
  unfold added
  pointwise [k0_pay1]
  · refine plus_congr ?_ ?_ ?_
    · blk_ext [iblk, V, at_0 t, at_6 t]
    · unfold kind col
      blk_ext [iblk, V, at_2 t, at_6 t]
    · blk_ext [iblk, V, at_1 t, at_6 t]

set_option maxHeartbeats 4000000 in
/-- The call leaves the modulated norm in its second result. -/
theorem leaves_7 (c : Dev nD) : (dats m 0 c).arrAt 7 cfg0.N
    = modulated (added (m ((c : Thread nD τ).loc main_arg0)) (m ((c : Thread nD τ).loc main_arg1)) (m ((c : Thread nD τ).loc main_arg2))) (m ((c : Thread nD τ).loc main_arg3)) (m ((c : Thread nD τ).loc main_arg2)) := by
  refine (dats m 0 c).arrAt_eq_of_covers 7 _ (by decide +kernel) fun t hf y => ?_
  blk_simp
  rw [after0_7]
  frame_out
  unfold modulated added
  pointwise [k0_pay1, k0_pay2]
  rw [mean_1024]
  refine congrArg₂ (fun x y : EReal => x + y) (congrArg₂ (fun x y : EReal => x * ((1 : EReal) + y)) (congrArg₂ (fun x y : EReal => x * y)
    (congrArg₂ (fun x y : EReal =>
    x * Ideal.rsqrt (y * Ideal.ofBits .f32 0x3A800000#32 + Ideal.ofBits .f32 0x358637BD#32)) ?_ (Finset.sum_congr rfl fun x _ =>
      congrArg₂ (fun x y : EReal => x * y) ?_ ?_)) ?_) ?_) ?_
  rotate_left 3
  · blk_ext [iblk, V, at_5 t, at_7 t]
  · unfold kind col
    blk_ext [iblk, V, at_4 t, at_7 t]
  · unfold kind col
    blk_ext [iblk, V, at_3 t, at_7 t]
  all_goals
    refine plus_congr ?_ ?_ ?_
    · blk_ext [iblk, V, at_0 t, at_7 t]
    · unfold kind col
      blk_ext [iblk, V, at_2 t, at_7 t]
    · blk_ext [iblk, V, at_1 t, at_7 t]

/-- The reference leaves its arguments and has no semaphores to leave. -/
theorem frame_reference : Cert.quiescent_ReferenceRes1FIdeal := fun m g _ =>
  (θ_run _ _ _).mono (fun r h => ⟨fun c => (h c).2.2, sem_eq_zero_of_no_sems (by decide) r.2⟩) (Cert.ReferenceRes1FIdeal.Value.run (F := Ideal) m g)

set_option maxHeartbeats 2000000 in
/-- The call and the reference leave the same. -/
theorem same : Cert.algebraic_KernelRes1FIdeal_ReferenceRes1FIdeal := by
  intro m g m' g' _ ha
  refine ⟨fun c => added (m ((c : Thread nD τ).loc main_arg0)) (m ((c : Thread nD τ).loc main_arg1)) (m ((c : Thread nD τ).loc main_arg2)),
    fun c => modulated (added (m ((c : Thread nD τ).loc main_arg0)) (m ((c : Thread nD τ).loc main_arg1)) (m ((c : Thread nD τ).loc main_arg2))) (m ((c : Thread nD τ).loc main_arg3)) (m ((c : Thread nD τ).loc main_arg2)),
    (θ_run _ _ _).mono (fun r h c => ⟨(h c).1.trans (leaves_6 m c), (h c).2.1.trans (leaves_7 m c), (h c).2.2⟩) (Cert.KernelRes1FIdeal.Value.run_blocks m g),
    (θ_run _ _ _).mono (fun r h c => ⟨(h c).1.trans ?_, (h c).2.1.trans ?_, (h c).2.2⟩) (Cert.ReferenceRes1FIdeal.Value.run (F := Ideal) m' g')⟩
  all_goals
    clear h
    obtain ⟨a0, a1, a2, a3⟩ := ha c
  · rw [a0, a1, a2]
    funext i
    unfold added plus col
    obtain ⟨r, l, rfl⟩ : ∃ (r : Fin 8448) (l : Fin 1024), i = ix2 r l := ⟨i 0, i 1, eq_ix2 i⟩
    by_cases e : r.val < 8192
    · have k : kind r = 0 := Fin.ext (Nat.div_eq_of_lt e)
      pointwise [e]
      simp only [k]
      all_goals rfl
    · have k : kind r = 1 := Fin.ext (by show r.val / 8192 = 1; have := r.isLt; omega)
      have z : 8192 + (r.val - 8192) = r.val := Nat.add_sub_cancel' (Nat.le_of_not_lt e)
      pointwise [e]
      simp only [k, z]
      all_goals rfl
  · unfold Cert.ReferenceRes1FIdeal.Value.res_main_v65
    rw [a0, a1, a2, a3]
    funext i
    unfold modulated added plus col
    obtain ⟨r, l, rfl⟩ : ∃ (r : Fin 8448) (l : Fin 1024), i = ix2 r l := ⟨i 0, i 1, eq_ix2 i⟩
    by_cases e : r.val < 8192
    · have k : kind r = 0 := Fin.ext (Nat.div_eq_of_lt e)
      pointwise [e]
      simp only [k]
      all_goals rfl
    · have k : kind r = 1 := Fin.ext (by show r.val / 8192 = 1; have := r.isLt; omega)
      have z : 8192 + (r.val - 8192) = r.val := Nat.add_sub_cancel' (Nat.le_of_not_lt e)
      pointwise [e]
      simp only [k, z]
      all_goals rfl

end Cert.KernelRes1FIdeal.Own

end
-- ==== Proof.Gates.Res2F.lean ====
/- The gated residual after the feed-forward and the next layer's modulated norm of it, over the extended reals. -/
module

public import proofs.«01_k».proof.Defs
public import proofs.«01_k».proof.Proof.Gen.KernelRes2F
public import proofs.«01_k».proof.Proof.Gen.KernelRes2F.Skeleton
public import proofs.«01_k».proof.Proof.Gen.KernelRes2F.Launch
public import proofs.«01_k».proof.Proof.Gen.KernelRes2F.Frame
public import proofs.«01_k».proof.Proof.Gen.KernelRes2FIdeal
public import proofs.«01_k».proof.Proof.Gen.KernelRes2FIdeal.Skeleton
public import proofs.«01_k».proof.Proof.Gen.KernelRes2FIdeal.Launch
public import proofs.«01_k».proof.Proof.Gen.KernelRes2FIdeal.Frame
public import proofs.«01_k».proof.Proof.Gen.KernelRes2FIdeal.Value
public import proofs.«01_k».proof.Proof.Gen.ReferenceRes2FIdeal
public import proofs.«01_k».proof.Proof.Gen.ReferenceRes2FIdeal.Run
public import Idealize.ShloMosaic.Lib.Pipeline.ValueKit
public import Idealize.ShloMosaic.Lib.Pointwise
public import Idealize.ShloMosaic.Lib.Quiescent
public import proofs.«01_k».proof.Proof.Products.Sums
public import proofs.«01_k».proof.Proof.Gates.Rows

@[expose] public section

set_option maxRecDepth 16384

noncomputable section

namespace Cert.KernelRes2FIdeal.Own

open Idealize.ShloMosaic Idealize.ShloMosaic.TcCoe Idealize.SL.Sem Cert.Products Cert.Rows
open Cert.KernelRes2FIdeal Cert.KernelRes2FIdeal.Gen

variable (m : (ℓ : Loc nD τ sig) → Buf (Elt Ideal) ℓ) (ρ : Dev nD → PrngReg)

theorem at_0 : ∀ t : Fin grid0.N, win0_0.index t = ![t.val, 0] := by decide +kernel
theorem at_1 : ∀ t : Fin grid0.N, win0_1.index t = ![t.val, 0] := by decide +kernel
theorem at_2 : ∀ t : Fin grid0.N, win0_2.index t = ![t.val / 32, 0, 5] := by decide +kernel
theorem at_3 : ∀ t : Fin grid0.N, win0_3.index t = ![t.val / 32, 0, 0] := by decide +kernel
theorem at_4 : ∀ t : Fin grid0.N, win0_4.index t = ![t.val / 32, 0, 1] := by decide +kernel
theorem at_5 : ∀ t : Fin grid0.N, win0_5.index t = ![0, 0] := by decide +kernel
theorem at_6 : ∀ t : Fin grid0.N, win0_6.index t = ![t.val, 0] := by decide +kernel
theorem at_7 : ∀ t : Fin grid0.N, win0_7.index t = ![t.val, 0] := by decide +kernel

/-- The residual. -/
def added (x o : Mat 8448 1024) (v : Vectors) : Mat 8448 1024 := fun i =>
  plus (x i) (v (ix3 (kind (i 0)) 0 (col 5120 (by decide) (i 1)))) (o i)

/-- A row over the root of its mean square, times the gain, scaled and shifted. -/
def modulated (y : Mat 8448 1024) (g : Mat 1 1024) (v : Vectors) : Mat 8448 1024 := fun i =>
  y i * Ideal.rsqrt (Ideal.div (∑ x, y (ix2 (i 0) x) * y (ix2 (i 0) x)) (Ideal.ofBits .f32 0x44800000#32) + Ideal.ofBits .f32 0x358637BD#32)
    * g (ix2 0 (i 1)) * (1 + v (ix3 (kind (i 0)) 0 (col 1024 (by decide) (i 1))))
    + v (ix3 (kind (i 0)) 0 (col 0 (by decide) (i 1)))

set_option maxHeartbeats 2000000 in
/-- The call leaves the residual in its first result. -/
theorem leaves_6 (c : Dev nD) : (dats m 0 c).arrAt 6 cfg0.N
    = added (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  frame_out
  unfold added
  pointwise [k0_pay1]
  · refine plus_congr ?_ ?_ ?_
    · blk_ext [iblk, V, at_0 t, at_6 t]
    · unfold kind col
      blk_ext [iblk, V, at_2 t, at_6 t]
    · blk_ext [iblk, V, at_1 t, at_6 t]

set_option maxHeartbeats 4000000 in
/-- The call leaves the modulated norm in its second result. -/
theorem leaves_7 (c : Dev nD) : (dats m 0 c).arrAt 7 cfg0.N
    = modulated (added (m ((c : Thread nD τ).loc main_arg0)) (m ((c : Thread nD τ).loc main_arg1)) (m ((c : Thread nD τ).loc main_arg2))) (m ((c : Thread nD τ).loc main_arg4)) (m ((c : Thread nD τ).loc main_arg3)) := by
  refine (dats m 0 c).arrAt_eq_of_covers 7 _ (by decide +kernel) fun t hf y => ?_
  blk_simp
  rw [after0_7]
  frame_out
  unfold modulated added
  pointwise [k0_pay1, k0_pay2]
  rw [mean_1024]
  refine congrArg₂ (fun x y : EReal => x + y) (congrArg₂ (fun x y : EReal => x * ((1 : EReal) + y)) (congrArg₂ (fun x y : EReal => x * y)
    (congrArg₂ (fun x y : EReal =>
    x * Ideal.rsqrt (y * Ideal.ofBits .f32 0x3A800000#32 + Ideal.ofBits .f32 0x358637BD#32)) ?_ (Finset.sum_congr rfl fun x _ =>
      congrArg₂ (fun x y : EReal => x * y) ?_ ?_)) ?_) ?_) ?_
  rotate_left 3
  · blk_ext [iblk, V, at_5 t, at_7 t]
  · unfold kind col
    blk_ext [iblk, V, at_4 t, at_7 t]
  · unfold kind col
    blk_ext [iblk, V, at_3 t, at_7 t]
  all_goals
    refine plus_congr ?_ ?_ ?_
    · blk_ext [iblk, V, at_0 t, at_7 t]
    · unfold kind col
      blk_ext [iblk, V, at_2 t, at_7 t]
    · blk_ext [iblk, V, at_1 t, at_7 t]

/-- The reference leaves its arguments and has no semaphores to leave. -/
theorem frame_reference : Cert.quiescent_ReferenceRes2FIdeal := fun m g _ =>
  (θ_run _ _ _).mono (fun r h => ⟨fun c => (h c).2.2, sem_eq_zero_of_no_sems (by decide) r.2⟩) (Cert.ReferenceRes2FIdeal.Value.run (F := Ideal) m g)

set_option maxHeartbeats 2000000 in
/-- The call and the reference leave the same. -/
theorem same : Cert.algebraic_KernelRes2FIdeal_ReferenceRes2FIdeal := by
  intro m g m' g' _ ha
  refine ⟨fun c => added (m ((c : Thread nD τ).loc main_arg0)) (m ((c : Thread nD τ).loc main_arg1)) (m ((c : Thread nD τ).loc main_arg2)),
    fun c => modulated (added (m ((c : Thread nD τ).loc main_arg0)) (m ((c : Thread nD τ).loc main_arg1)) (m ((c : Thread nD τ).loc main_arg2))) (m ((c : Thread nD τ).loc main_arg4)) (m ((c : Thread nD τ).loc main_arg3)),
    (θ_run _ _ _).mono (fun r h c => ⟨(h c).1.trans (leaves_6 m c), (h c).2.1.trans (leaves_7 m c), (h c).2.2⟩) (Cert.KernelRes2FIdeal.Value.run_blocks m g),
    (θ_run _ _ _).mono (fun r h c => ⟨(h c).1.trans ?_, (h c).2.1.trans ?_, (h c).2.2⟩) (Cert.ReferenceRes2FIdeal.Value.run (F := Ideal) m' g')⟩
  all_goals
    clear h
    obtain ⟨a0, a1, a2, a3, a4⟩ := ha c
  · rw [a0, a1, a2]
    funext i
    unfold added plus col
    obtain ⟨r, l, rfl⟩ : ∃ (r : Fin 8448) (l : Fin 1024), i = ix2 r l := ⟨i 0, i 1, eq_ix2 i⟩
    by_cases e : r.val < 8192
    · have k : kind r = 0 := Fin.ext (Nat.div_eq_of_lt e)
      pointwise [e]
      simp only [k]
      all_goals rfl
    · have k : kind r = 1 := Fin.ext (by show r.val / 8192 = 1; have := r.isLt; omega)
      have z : 8192 + (r.val - 8192) = r.val := Nat.add_sub_cancel' (Nat.le_of_not_lt e)
      pointwise [e]
      simp only [k, z]
      all_goals rfl
  · unfold Cert.ReferenceRes2FIdeal.Value.res_main_v81
    rw [a0, a1, a2, a3, a4]
    funext i
    unfold modulated added plus col
    obtain ⟨r, l, rfl⟩ : ∃ (r : Fin 8448) (l : Fin 1024), i = ix2 r l := ⟨i 0, i 1, eq_ix2 i⟩
    by_cases e : r.val < 8192
    · have k : kind r = 0 := Fin.ext (Nat.div_eq_of_lt e)
      pointwise [e]
      simp only [k]
      all_goals rfl
    · have k : kind r = 1 := Fin.ext (by show r.val / 8192 = 1; have := r.isLt; omega)
      have z : 8192 + (r.val - 8192) = r.val := Nat.add_sub_cancel' (Nat.le_of_not_lt e)
      pointwise [e]
      simp only [k, z]
      all_goals rfl

end Cert.KernelRes2FIdeal.Own

end
-- ==== Proof.lean ====
/- Proof of the certificate's claim; the parts are in the modules of this directory. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Run
public import proofs.«01_k».proof.Proof.KernelIdeal.Run
public import proofs.«01_k».proof.Proof.Value.Same
public import proofs.«01_k».proof.Proof.Products.WInProj
public import proofs.«01_k».proof.Proof.Products.XInProj
public import proofs.«01_k».proof.Proof.Products.WFfnIn
public import proofs.«01_k».proof.Proof.Products.XFfnIn
public import proofs.«01_k».proof.Proof.Products.WFfnOut
public import proofs.«01_k».proof.Proof.Products.XFfnOut
public import proofs.«01_k».proof.Proof.Products.WOut
public import proofs.«01_k».proof.Proof.Products.XOut
public import proofs.«01_k».proof.Proof.Products.XProj
public import proofs.«01_k».proof.Proof.Products.WUq
public import proofs.«01_k».proof.Proof.Products.XUq
public import proofs.«01_k».proof.Proof.Products.WUkv
public import proofs.«01_k».proof.Proof.Products.XUkv
public import proofs.«01_k».proof.Proof.Products.FInProj
public import proofs.«01_k».proof.Proof.Products.FFfnIn
public import proofs.«01_k».proof.Proof.Products.FFfnOut
public import proofs.«01_k».proof.Proof.Products.FProj
public import proofs.«01_k».proof.Proof.Products.FOut
public import proofs.«01_k».proof.Proof.Products.FUq
public import proofs.«01_k».proof.Proof.Products.FUkv
public import proofs.«01_k».proof.Proof.Gates.SwigluB
public import proofs.«01_k».proof.Proof.Gates.SwigluF
public import proofs.«01_k».proof.Proof.Gates.MergeB
public import proofs.«01_k».proof.Proof.Gates.MergeF
public import proofs.«01_k».proof.Proof.Gates.LatNormF
public import proofs.«01_k».proof.Proof.Gates.LatNormB
public import proofs.«01_k».proof.Proof.Gates.AdamMod
public import proofs.«01_k».proof.Proof.Gates.AdamIn
public import proofs.«01_k».proof.Proof.Gates.AdamUq
public import proofs.«01_k».proof.Proof.Gates.AdamUkv
public import proofs.«01_k».proof.Proof.Gates.AdamOut
public import proofs.«01_k».proof.Proof.Gates.AdamFfnIn
public import proofs.«01_k».proof.Proof.Gates.AdamFfnOut
public import proofs.«01_k».proof.Proof.Gates.AdamSmall
public import proofs.«01_k».proof.Proof.Gates.SsdOutF
public import proofs.«01_k».proof.Proof.Gates.NormF
public import proofs.«01_k».proof.Proof.Gates.Res1F
public import proofs.«01_k».proof.Proof.Gates.Res2F
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves its arguments and has no semaphores to leave. -/
theorem frame_reference [∀ e, Nonempty (Elt Ideal e)] (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => ⟨(h c).2.2.2.2.1, (h c).2.2.2.2.2.1, (h c).2.2.2.2.2.2.1, (h c).2.2.2.2.2.2.2⟩,
    sem_eq_zero_of_no_sems (by decide) r.2⟩) (Cert.ReferenceIdeal.Value.run (F := Ideal) m g)

/-- The side conditions the precondition's function states. -/
theorem facts_finite : Cert.Pre_finite.Facts where
  bitsLt_bf16_f32 := by decide
  bcast_S_S8448x2048 := by decide
  bcast_S_S8448x1024 := by decide
  concatenates_S8448x1024_S8448x1024_S8448x2048_d1 := by decide

/-- The certificate's claim. -/
theorem claim : Cert.Claim := ⟨Cert.Kernel.Gen.facts, Cert.KernelIdeal.Gen.facts, Cert.ReferenceIdeal.Gen.facts, Cert.KernelWInProj.Gen.facts, Cert.KernelWInProjIdeal.Gen.facts, Cert.ReferenceWInProjIdeal.Gen.facts, Cert.KernelXInProj.Gen.facts, Cert.KernelXInProjIdeal.Gen.facts, Cert.ReferenceXInProjIdeal.Gen.facts, Cert.KernelWFfnIn.Gen.facts, Cert.KernelWFfnInIdeal.Gen.facts, Cert.ReferenceWFfnInIdeal.Gen.facts, Cert.KernelXFfnIn.Gen.facts, Cert.KernelXFfnInIdeal.Gen.facts, Cert.ReferenceXFfnInIdeal.Gen.facts, Cert.KernelWFfnOut.Gen.facts, Cert.KernelWFfnOutIdeal.Gen.facts, Cert.ReferenceWFfnOutIdeal.Gen.facts, Cert.KernelXFfnOut.Gen.facts, Cert.KernelXFfnOutIdeal.Gen.facts, Cert.ReferenceXFfnOutIdeal.Gen.facts, Cert.KernelWOut.Gen.facts, Cert.KernelWOutIdeal.Gen.facts, Cert.ReferenceWOutIdeal.Gen.facts, Cert.KernelXOut.Gen.facts, Cert.KernelXOutIdeal.Gen.facts, Cert.ReferenceXOutIdeal.Gen.facts, Cert.KernelXProj.Gen.facts, Cert.KernelXProjIdeal.Gen.facts, Cert.ReferenceXProjIdeal.Gen.facts, Cert.KernelWUq.Gen.facts, Cert.KernelWUqIdeal.Gen.facts, Cert.ReferenceWUqIdeal.Gen.facts, Cert.KernelXUq.Gen.facts, Cert.KernelXUqIdeal.Gen.facts, Cert.ReferenceXUqIdeal.Gen.facts, Cert.KernelWUkv.Gen.facts, Cert.KernelWUkvIdeal.Gen.facts, Cert.ReferenceWUkvIdeal.Gen.facts, Cert.KernelXUkv.Gen.facts, Cert.KernelXUkvIdeal.Gen.facts, Cert.ReferenceXUkvIdeal.Gen.facts, Cert.KernelFInProj.Gen.facts, Cert.KernelFInProjIdeal.Gen.facts, Cert.ReferenceFInProjIdeal.Gen.facts, Cert.KernelFFfnIn.Gen.facts, Cert.KernelFFfnInIdeal.Gen.facts, Cert.ReferenceFFfnInIdeal.Gen.facts, Cert.KernelFFfnOut.Gen.facts, Cert.KernelFFfnOutIdeal.Gen.facts, Cert.ReferenceFFfnOutIdeal.Gen.facts, Cert.KernelFProj.Gen.facts, Cert.KernelFProjIdeal.Gen.facts, Cert.ReferenceFProjIdeal.Gen.facts, Cert.KernelFOut.Gen.facts, Cert.KernelFOutIdeal.Gen.facts, Cert.ReferenceFOutIdeal.Gen.facts, Cert.KernelFUq.Gen.facts, Cert.KernelFUqIdeal.Gen.facts, Cert.ReferenceFUqIdeal.Gen.facts, Cert.KernelFUkv.Gen.facts, Cert.KernelFUkvIdeal.Gen.facts, Cert.ReferenceFUkvIdeal.Gen.facts, Cert.KernelSwigluB.Gen.facts, Cert.KernelSwigluBIdeal.Gen.facts, Cert.ReferenceSwigluBIdeal.Gen.facts, Cert.KernelSwigluF.Gen.facts, Cert.KernelSwigluFIdeal.Gen.facts, Cert.ReferenceSwigluFIdeal.Gen.facts, Cert.KernelMergeB.Gen.facts, Cert.KernelMergeBIdeal.Gen.facts, Cert.ReferenceMergeBIdeal.Gen.facts, Cert.KernelMergeF.Gen.facts, Cert.KernelMergeFIdeal.Gen.facts, Cert.ReferenceMergeFIdeal.Gen.facts, Cert.KernelLatNormB.Gen.facts, Cert.KernelLatNormBIdeal.Gen.facts, Cert.ReferenceLatNormBIdeal.Gen.facts, Cert.KernelLatNormF.Gen.facts, Cert.KernelLatNormFIdeal.Gen.facts, Cert.ReferenceLatNormFIdeal.Gen.facts, Cert.KernelAdamMod.Gen.facts, Cert.KernelAdamModIdeal.Gen.facts, Cert.ReferenceAdamModIdeal.Gen.facts, Cert.KernelAdamIn.Gen.facts, Cert.KernelAdamInIdeal.Gen.facts, Cert.ReferenceAdamInIdeal.Gen.facts, Cert.KernelAdamUq.Gen.facts, Cert.KernelAdamUqIdeal.Gen.facts, Cert.ReferenceAdamUqIdeal.Gen.facts, Cert.KernelAdamUkv.Gen.facts, Cert.KernelAdamUkvIdeal.Gen.facts, Cert.ReferenceAdamUkvIdeal.Gen.facts, Cert.KernelAdamOut.Gen.facts, Cert.KernelAdamOutIdeal.Gen.facts, Cert.ReferenceAdamOutIdeal.Gen.facts, Cert.KernelAdamFfnIn.Gen.facts, Cert.KernelAdamFfnInIdeal.Gen.facts, Cert.ReferenceAdamFfnInIdeal.Gen.facts, Cert.KernelAdamFfnOut.Gen.facts, Cert.KernelAdamFfnOutIdeal.Gen.facts, Cert.ReferenceAdamFfnOutIdeal.Gen.facts, Cert.KernelAdamSmall.Gen.facts, Cert.KernelAdamSmallIdeal.Gen.facts, Cert.ReferenceAdamSmallIdeal.Gen.facts, Cert.KernelSsdOutF.Gen.facts, Cert.KernelSsdOutFIdeal.Gen.facts, Cert.ReferenceSsdOutFIdeal.Gen.facts, Cert.KernelNormF.Gen.facts, Cert.KernelNormFIdeal.Gen.facts, Cert.ReferenceNormFIdeal.Gen.facts, Cert.KernelRes1F.Gen.facts, Cert.KernelRes1FIdeal.Gen.facts, Cert.ReferenceRes1FIdeal.Gen.facts, Cert.KernelRes2F.Gen.facts, Cert.KernelRes2FIdeal.Gen.facts, Cert.ReferenceRes2FIdeal.Gen.facts, facts_finite,
  fun m g _ => Cert.Kernel.Own.frame_main m g,
  fun m g _ => Cert.KernelIdeal.Own.frame_main m g,
  fun m g _ => Cert.KernelIdeal.Own.frame_main m g,
  fun m g _ => frame_reference m g,
  fun m g _ => frame_reference m g,
  fun m g _ => Cert.KernelWInProj.Gen.frame m g,
  fun m g _ => Cert.KernelWInProjIdeal.Gen.frame m g,
  Cert.KernelWInProjIdeal.Own.frame_reference,
  fun m g _ => Cert.KernelXInProj.Gen.frame m g,
  fun m g _ => Cert.KernelXInProjIdeal.Gen.frame m g,
  Cert.KernelXInProjIdeal.Own.frame_reference,
  fun m g _ => Cert.KernelWFfnIn.Gen.frame m g,
  fun m g _ => Cert.KernelWFfnInIdeal.Gen.frame m g,
  Cert.KernelWFfnInIdeal.Own.frame_reference,
  fun m g _ => Cert.KernelXFfnIn.Gen.frame m g,
  fun m g _ => Cert.KernelXFfnInIdeal.Gen.frame m g,
  Cert.KernelXFfnInIdeal.Own.frame_reference,
  fun m g _ => Cert.KernelWFfnOut.Gen.frame m g,
  fun m g _ => Cert.KernelWFfnOutIdeal.Gen.frame m g,
  Cert.KernelWFfnOutIdeal.Own.frame_reference,
  fun m g _ => Cert.KernelXFfnOut.Gen.frame m g,
  fun m g _ => Cert.KernelXFfnOutIdeal.Gen.frame m g,
  Cert.KernelXFfnOutIdeal.Own.frame_reference,
  fun m g _ => Cert.KernelWOut.Gen.frame m g,
  fun m g _ => Cert.KernelWOutIdeal.Gen.frame m g,
  Cert.KernelWOutIdeal.Own.frame_reference,
  fun m g _ => Cert.KernelXOut.Gen.frame m g,
  fun m g _ => Cert.KernelXOutIdeal.Gen.frame m g,
  Cert.KernelXOutIdeal.Own.frame_reference,
  fun m g _ => Cert.KernelXProj.Gen.frame m g,
  fun m g _ => Cert.KernelXProjIdeal.Gen.frame m g,
  Cert.KernelXProjIdeal.Own.frame_reference,
  fun m g _ => Cert.KernelWUq.Gen.frame m g,
  fun m g _ => Cert.KernelWUqIdeal.Gen.frame m g,
  Cert.KernelWUqIdeal.Own.frame_reference,
  fun m g _ => Cert.KernelXUq.Gen.frame m g,
  fun m g _ => Cert.KernelXUqIdeal.Gen.frame m g,
  Cert.KernelXUqIdeal.Own.frame_reference,
  fun m g _ => Cert.KernelWUkv.Gen.frame m g,
  fun m g _ => Cert.KernelWUkvIdeal.Gen.frame m g,
  Cert.KernelWUkvIdeal.Own.frame_reference,
  fun m g _ => Cert.KernelXUkv.Gen.frame m g,
  fun m g _ => Cert.KernelXUkvIdeal.Gen.frame m g,
  Cert.KernelXUkvIdeal.Own.frame_reference,
  fun m g _ => Cert.KernelFInProj.Gen.frame m g,
  fun m g _ => Cert.KernelFInProjIdeal.Gen.frame m g,
  Cert.KernelFInProjIdeal.Own.frame_reference,
  fun m g _ => Cert.KernelFFfnIn.Gen.frame m g,
  fun m g _ => Cert.KernelFFfnInIdeal.Gen.frame m g,
  Cert.KernelFFfnInIdeal.Own.frame_reference,
  fun m g _ => Cert.KernelFFfnOut.Gen.frame m g,
  fun m g _ => Cert.KernelFFfnOutIdeal.Gen.frame m g,
  Cert.KernelFFfnOutIdeal.Own.frame_reference,
  fun m g _ => Cert.KernelFProj.Gen.frame m g,
  fun m g _ => Cert.KernelFProjIdeal.Gen.frame m g,
  Cert.KernelFProjIdeal.Own.frame_reference,
  fun m g _ => Cert.KernelFOut.Gen.frame m g,
  fun m g _ => Cert.KernelFOutIdeal.Gen.frame m g,
  Cert.KernelFOutIdeal.Own.frame_reference,
  fun m g _ => Cert.KernelFUq.Gen.frame m g,
  fun m g _ => Cert.KernelFUqIdeal.Gen.frame m g,
  Cert.KernelFUqIdeal.Own.frame_reference,
  fun m g _ => Cert.KernelFUkv.Gen.frame m g,
  fun m g _ => Cert.KernelFUkvIdeal.Gen.frame m g,
  Cert.KernelFUkvIdeal.Own.frame_reference,
  fun m g _ => Cert.KernelSwigluB.Gen.frame m g,
  fun m g _ => Cert.KernelSwigluBIdeal.Gen.frame m g,
  Cert.KernelSwigluBIdeal.Own.frame_reference,
  fun m g _ => Cert.KernelSwigluF.Gen.frame m g,
  fun m g _ => Cert.KernelSwigluFIdeal.Gen.frame m g,
  Cert.KernelSwigluFIdeal.Own.frame_reference,
  fun m g _ => Cert.KernelMergeB.Gen.frame m g,
  fun m g _ => Cert.KernelMergeBIdeal.Gen.frame m g,
  Cert.KernelMergeBIdeal.Own.frame_reference,
  fun m g _ => Cert.KernelMergeF.Gen.frame m g,
  fun m g _ => Cert.KernelMergeFIdeal.Gen.frame m g,
  Cert.KernelMergeFIdeal.Own.frame_reference,
  fun m g _ => Cert.KernelLatNormB.Gen.frame m g,
  fun m g _ => Cert.KernelLatNormBIdeal.Gen.frame m g,
  Cert.KernelLatNormBIdeal.Own.frame_reference,
  fun m g _ => Cert.KernelLatNormF.Gen.frame m g,
  fun m g _ => Cert.KernelLatNormFIdeal.Gen.frame m g,
  Cert.KernelLatNormFIdeal.Own.frame_reference,
  fun m g _ => Cert.KernelAdamMod.Gen.frame m g,
  fun m g _ => Cert.KernelAdamModIdeal.Gen.frame m g,
  Cert.KernelAdamModIdeal.Own.frame_reference,
  fun m g _ => Cert.KernelAdamIn.Gen.frame m g,
  fun m g _ => Cert.KernelAdamInIdeal.Gen.frame m g,
  Cert.KernelAdamInIdeal.Own.frame_reference,
  fun m g _ => Cert.KernelAdamUq.Gen.frame m g,
  fun m g _ => Cert.KernelAdamUqIdeal.Gen.frame m g,
  Cert.KernelAdamUqIdeal.Own.frame_reference,
  fun m g _ => Cert.KernelAdamUkv.Gen.frame m g,
  fun m g _ => Cert.KernelAdamUkvIdeal.Gen.frame m g,
  Cert.KernelAdamUkvIdeal.Own.frame_reference,
  fun m g _ => Cert.KernelAdamOut.Gen.frame m g,
  fun m g _ => Cert.KernelAdamOutIdeal.Gen.frame m g,
  Cert.KernelAdamOutIdeal.Own.frame_reference,
  fun m g _ => Cert.KernelAdamFfnIn.Gen.frame m g,
  fun m g _ => Cert.KernelAdamFfnInIdeal.Gen.frame m g,
  Cert.KernelAdamFfnInIdeal.Own.frame_reference,
  fun m g _ => Cert.KernelAdamFfnOut.Gen.frame m g,
  fun m g _ => Cert.KernelAdamFfnOutIdeal.Gen.frame m g,
  Cert.KernelAdamFfnOutIdeal.Own.frame_reference,
  fun m g _ => Cert.KernelAdamSmall.Gen.frame m g,
  fun m g _ => Cert.KernelAdamSmallIdeal.Gen.frame m g,
  Cert.KernelAdamSmallIdeal.Own.frame_reference,
  fun m g _ => Cert.KernelSsdOutF.Gen.frame m g,
  fun m g _ => Cert.KernelSsdOutFIdeal.Gen.frame m g,
  Cert.KernelSsdOutFIdeal.Own.frame_reference,
  fun m g _ => Cert.KernelNormF.Gen.frame m g,
  fun m g _ => Cert.KernelNormFIdeal.Gen.frame m g,
  Cert.KernelNormFIdeal.Own.frame_reference,
  fun m g _ => Cert.KernelRes1F.Gen.frame m g,
  fun m g _ => Cert.KernelRes1FIdeal.Gen.frame m g,
  Cert.KernelRes1FIdeal.Own.frame_reference,
  fun m g _ => Cert.KernelRes2F.Gen.frame m g,
  fun m g _ => Cert.KernelRes2FIdeal.Gen.frame m g,
  Cert.KernelRes2FIdeal.Own.frame_reference,
  ⟨IdealRules.named_const.statement Cert.KernelIdeal.κ "scale_log2e" .f32 0x3DD53B95#32 _ rfl,
   IdealRules.named_const.statement Cert.KernelIdeal.κ "log2e" .f32 0x3FB8AA3B#32 _ rfl,
   IdealRules.named_const.statement Cert.KernelIdeal.κ "scale" .f32 0x3D93CD3A#32 _ rfl⟩,
  @Cert.Value.same facts_finite,
  trivial,
  Cert.KernelWInProjIdeal.Own.same,
  trivial,
  Cert.KernelXInProjIdeal.Own.same,
  trivial,
  Cert.KernelWFfnInIdeal.Own.same,
  trivial,
  Cert.KernelXFfnInIdeal.Own.same,
  trivial,
  Cert.KernelWFfnOutIdeal.Own.same,
  trivial,
  Cert.KernelXFfnOutIdeal.Own.same,
  trivial,
  Cert.KernelWOutIdeal.Own.same,
  trivial,
  Cert.KernelXOutIdeal.Own.same,
  trivial,
  Cert.KernelXProjIdeal.Own.same,
  trivial,
  Cert.KernelWUqIdeal.Own.same,
  trivial,
  Cert.KernelXUqIdeal.Own.same,
  trivial,
  Cert.KernelWUkvIdeal.Own.same,
  trivial,
  Cert.KernelXUkvIdeal.Own.same,
  trivial,
  Cert.KernelFInProjIdeal.Own.same,
  trivial,
  Cert.KernelFFfnInIdeal.Own.same,
  trivial,
  Cert.KernelFFfnOutIdeal.Own.same,
  trivial,
  Cert.KernelFProjIdeal.Own.same,
  trivial,
  Cert.KernelFOutIdeal.Own.same,
  trivial,
  Cert.KernelFUqIdeal.Own.same,
  trivial,
  Cert.KernelFUkvIdeal.Own.same,
  trivial,
  Cert.KernelSwigluBIdeal.Own.same,
  trivial,
  Cert.KernelSwigluFIdeal.Own.same,
  trivial,
  Cert.KernelMergeBIdeal.Own.same,
  trivial,
  Cert.KernelMergeFIdeal.Own.same,
  IdealRules.named_const.statement Cert.KernelLatNormBIdeal.κ "inv384" .f32 0x3B2AAAAB#32 _ rfl,
  Cert.KernelLatNormBIdeal.Own.same,
  IdealRules.named_const.statement Cert.KernelLatNormFIdeal.κ "inv384" .f32 0x3B2AAAAB#32 _ rfl,
  Cert.KernelLatNormFIdeal.Own.same,
  trivial,
  Cert.KernelAdamModIdeal.Own.same,
  trivial,
  Cert.KernelAdamInIdeal.Own.same,
  trivial,
  Cert.KernelAdamUqIdeal.Own.same,
  trivial,
  Cert.KernelAdamUkvIdeal.Own.same,
  trivial,
  Cert.KernelAdamOutIdeal.Own.same,
  trivial,
  Cert.KernelAdamFfnInIdeal.Own.same,
  trivial,
  Cert.KernelAdamFfnOutIdeal.Own.same,
  trivial,
  Cert.KernelAdamSmallIdeal.Own.same,
  trivial,
  Cert.KernelSsdOutFIdeal.Own.same,
  trivial,
  Cert.KernelNormFIdeal.Own.same,
  trivial,
  Cert.KernelRes1FIdeal.Own.same,
  trivial,
  Cert.KernelRes2FIdeal.Own.same⟩

end Cert.Proof

end
